-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_tiles_routed : Cert.Pre_tiles_routed.Facts] (m : (ℓ : Loc Cert.Kernel2.nD Cert.Kernel2.τ Cert.Kernel2.sig) → Buf (Elt Bits) ℓ) : Prop :=
  ∀ c : Dev Cert.Kernel2.nD,
    (Cert.Pre_tiles_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_tiles_routed : Cert.Pre_tiles_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tiles_routed [hPre_tiles_routed : Cert.Pre_tiles_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_tiles_routed : Cert.Pre_tiles_routed.Facts] (m : (ℓ : Loc Cert.Kernel6.nD Cert.Kernel6.τ Cert.Kernel6.sig) → Buf (Elt Bits) ℓ) : Prop :=
  ∀ c : Dev Cert.Kernel6.nD,
    (Cert.Pre_tiles_routed.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4))) = (fun _ => 1#1)

def Pre_Kernel6Ideal [hPre_tiles_routed : Cert.Pre_tiles_routed.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_tiles_routed.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_tiles_routed [hPre_tiles_routed : Cert.Pre_tiles_routed.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_tiles_routed.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_tiles_routed : Cert.Pre_tiles_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_tiles_routed : Cert.Pre_tiles_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_tiles_routed [hReference2Ideal : Cert.Reference2Ideal.Facts] [hPre_tiles_routed : Cert.Pre_tiles_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tiles_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] [hPre_tiles_routed : Cert.Pre_tiles_routed.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] [hPre_tiles_routed : Cert.Pre_tiles_routed.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_tiles_routed [hReference6Ideal : Cert.Reference6Ideal.Facts] [hPre_tiles_routed : Cert.Pre_tiles_routed.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_tiles_routed m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_tiles_routed : Cert.Pre_tiles_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v50_0)) (v1 : (c : Dev Cert.Kernel3Ideal.nD) → Buf (Elt Ideal) ((c.tc : Thread Cert.Kernel3Ideal.nD Cert.Kernel3Ideal.τ).loc Cert.Kernel3Ideal.main_v50_2)) (v2 : (c : Dev Cert.Kernel3Ideal.nD) → Buf (Elt Ideal) ((c.tc : Thread Cert.Kernel3Ideal.nD Cert.Kernel3Ideal.τ).loc Cert.Kernel3Ideal.main_v50_4)) (v3 : (c : Dev Cert.Kernel3Ideal.nD) → Buf (Elt Ideal) ((c.tc : Thread Cert.Kernel3Ideal.nD Cert.Kernel3Ideal.τ).loc Cert.Kernel3Ideal.main_v58)) (v4 : (c : Dev Cert.Kernel3Ideal.nD) → Buf (Elt Ideal) ((c.tc : Thread Cert.Kernel3Ideal.nD Cert.Kernel3Ideal.τ).loc Cert.Kernel3Ideal.main_v62)) (v5 : (c : Dev Cert.Kernel3Ideal.nD) → Buf (Elt Ideal) ((c.tc : Thread Cert.Kernel3Ideal.nD Cert.Kernel3Ideal.τ).loc Cert.Kernel3Ideal.main_v67)) (v6 : (c : Dev Cert.Kernel3Ideal.nD) → Buf (Elt Ideal) ((c.tc : Thread Cert.Kernel3Ideal.nD Cert.Kernel3Ideal.τ).loc Cert.Kernel3Ideal.main_v72)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v50_0) = v0 c
          ∧ r.2.mem ((c.tc : Thread Cert.Kernel3Ideal.nD Cert.Kernel3Ideal.τ).loc Cert.Kernel3Ideal.main_v50_2) = v1 c
          ∧ r.2.mem ((c.tc : Thread Cert.Kernel3Ideal.nD Cert.Kernel3Ideal.τ).loc Cert.Kernel3Ideal.main_v50_4) = v2 c
          ∧ r.2.mem ((c.tc : Thread Cert.Kernel3Ideal.nD Cert.Kernel3Ideal.τ).loc Cert.Kernel3Ideal.main_v58) = v3 c
          ∧ r.2.mem ((c.tc : Thread Cert.Kernel3Ideal.nD Cert.Kernel3Ideal.τ).loc Cert.Kernel3Ideal.main_v62) = v4 c
          ∧ r.2.mem ((c.tc : Thread Cert.Kernel3Ideal.nD Cert.Kernel3Ideal.τ).loc Cert.Kernel3Ideal.main_v67) = v5 c
          ∧ r.2.mem ((c.tc : Thread Cert.Kernel3Ideal.nD Cert.Kernel3Ideal.τ).loc Cert.Kernel3Ideal.main_v72) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v181) = v0 c
          ∧ r.2.mem ((c.tc : Thread Cert.Reference3Ideal.nD Cert.Reference3Ideal.τ).loc Cert.Reference3Ideal.main_v182) = v1 c
          ∧ r.2.mem ((c.tc : Thread Cert.Reference3Ideal.nD Cert.Reference3Ideal.τ).loc Cert.Reference3Ideal.main_v183) = v2 c
          ∧ r.2.mem ((c.tc : Thread Cert.Reference3Ideal.nD Cert.Reference3Ideal.τ).loc Cert.Reference3Ideal.main_v170) = v3 c
          ∧ r.2.mem ((c.tc : Thread Cert.Reference3Ideal.nD Cert.Reference3Ideal.τ).loc Cert.Reference3Ideal.main_v172) = v4 c
          ∧ r.2.mem ((c.tc : Thread Cert.Reference3Ideal.nD Cert.Reference3Ideal.τ).loc Cert.Reference3Ideal.main_v176) = v5 c
          ∧ r.2.mem ((c.tc : Thread Cert.Reference3Ideal.nD Cert.Reference3Ideal.τ).loc Cert.Reference3Ideal.main_v180) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v36_0)) (v1 : (c : Dev Cert.Kernel4Ideal.nD) → Buf (Elt Ideal) ((c.tc : Thread Cert.Kernel4Ideal.nD Cert.Kernel4Ideal.τ).loc Cert.Kernel4Ideal.main_v36_2)) (v2 : (c : Dev Cert.Kernel4Ideal.nD) → Buf (Elt Ideal) ((c.tc : Thread Cert.Kernel4Ideal.nD Cert.Kernel4Ideal.τ).loc Cert.Kernel4Ideal.main_v36_7)) (v3 : (c : Dev Cert.Kernel4Ideal.nD) → Buf (Elt Ideal) ((c.tc : Thread Cert.Kernel4Ideal.nD Cert.Kernel4Ideal.τ).loc Cert.Kernel4Ideal.main_v36_4)) (v4 : (c : Dev Cert.Kernel4Ideal.nD) → Buf (Elt Ideal) ((c.tc : Thread Cert.Kernel4Ideal.nD Cert.Kernel4Ideal.τ).loc Cert.Kernel4Ideal.main_v39)) (v5 : (c : Dev Cert.Kernel4Ideal.nD) → Buf (Elt Ideal) ((c.tc : Thread Cert.Kernel4Ideal.nD Cert.Kernel4Ideal.τ).loc Cert.Kernel4Ideal.main_v42)) (v6 : (c : Dev Cert.Kernel4Ideal.nD) → Buf (Elt Ideal) ((c.tc : Thread Cert.Kernel4Ideal.nD Cert.Kernel4Ideal.τ).loc Cert.Kernel4Ideal.main_v45)) (v7 : (c : Dev Cert.Kernel4Ideal.nD) → Buf (Elt Ideal) ((c.tc : Thread Cert.Kernel4Ideal.nD Cert.Kernel4Ideal.τ).loc Cert.Kernel4Ideal.main_v48)) (v8 : (c : Dev Cert.Kernel4Ideal.nD) → Buf (Elt Ideal) ((c.tc : Thread Cert.Kernel4Ideal.nD Cert.Kernel4Ideal.τ).loc Cert.Kernel4Ideal.main_v51)) (v9 : (c : Dev Cert.Kernel4Ideal.nD) → Buf (Elt Ideal) ((c.tc : Thread Cert.Kernel4Ideal.nD Cert.Kernel4Ideal.τ).loc Cert.Kernel4Ideal.main_v54)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v36_0) = v0 c
          ∧ r.2.mem ((c.tc : Thread Cert.Kernel4Ideal.nD Cert.Kernel4Ideal.τ).loc Cert.Kernel4Ideal.main_v36_2) = v1 c
          ∧ r.2.mem ((c.tc : Thread Cert.Kernel4Ideal.nD Cert.Kernel4Ideal.τ).loc Cert.Kernel4Ideal.main_v36_7) = v2 c
          ∧ r.2.mem ((c.tc : Thread Cert.Kernel4Ideal.nD Cert.Kernel4Ideal.τ).loc Cert.Kernel4Ideal.main_v36_4) = v3 c
          ∧ r.2.mem ((c.tc : Thread Cert.Kernel4Ideal.nD Cert.Kernel4Ideal.τ).loc Cert.Kernel4Ideal.main_v39) = v4 c
          ∧ r.2.mem ((c.tc : Thread Cert.Kernel4Ideal.nD Cert.Kernel4Ideal.τ).loc Cert.Kernel4Ideal.main_v42) = v5 c
          ∧ r.2.mem ((c.tc : Thread Cert.Kernel4Ideal.nD Cert.Kernel4Ideal.τ).loc Cert.Kernel4Ideal.main_v45) = v6 c
          ∧ r.2.mem ((c.tc : Thread Cert.Kernel4Ideal.nD Cert.Kernel4Ideal.τ).loc Cert.Kernel4Ideal.main_v48) = v7 c
          ∧ r.2.mem ((c.tc : Thread Cert.Kernel4Ideal.nD Cert.Kernel4Ideal.τ).loc Cert.Kernel4Ideal.main_v51) = v8 c
          ∧ r.2.mem ((c.tc : Thread Cert.Kernel4Ideal.nD Cert.Kernel4Ideal.τ).loc Cert.Kernel4Ideal.main_v54) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v306) = v0 c
          ∧ r.2.mem ((c.tc : Thread Cert.Reference4Ideal.nD Cert.Reference4Ideal.τ).loc Cert.Reference4Ideal.main_v307) = v1 c
          ∧ r.2.mem ((c.tc : Thread Cert.Reference4Ideal.nD Cert.Reference4Ideal.τ).loc Cert.Reference4Ideal.main_v308) = v2 c
          ∧ r.2.mem ((c.tc : Thread Cert.Reference4Ideal.nD Cert.Reference4Ideal.τ).loc Cert.Reference4Ideal.main_v309) = v3 c
          ∧ r.2.mem ((c.tc : Thread Cert.Reference4Ideal.nD Cert.Reference4Ideal.τ).loc Cert.Reference4Ideal.main_v310) = v4 c
          ∧ r.2.mem ((c.tc : Thread Cert.Reference4Ideal.nD Cert.Reference4Ideal.τ).loc Cert.Reference4Ideal.main_v311) = v5 c
          ∧ r.2.mem ((c.tc : Thread Cert.Reference4Ideal.nD Cert.Reference4Ideal.τ).loc Cert.Reference4Ideal.main_v312) = v6 c
          ∧ r.2.mem ((c.tc : Thread Cert.Reference4Ideal.nD Cert.Reference4Ideal.τ).loc Cert.Reference4Ideal.main_v313) = v7 c
          ∧ r.2.mem ((c.tc : Thread Cert.Reference4Ideal.nD Cert.Reference4Ideal.τ).loc Cert.Reference4Ideal.main_v314) = v8 c
          ∧ r.2.mem ((c.tc : Thread Cert.Reference4Ideal.nD Cert.Reference4Ideal.τ).loc Cert.Reference4Ideal.main_v315) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v43_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v43_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v76) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] [hPre_tiles_routed : Cert.Pre_tiles_routed.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_scores_finite : Cert.Pre_scores_finite.Facts) (hPre_tiles_routed : Cert.Pre_tiles_routed.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2) (hPre_tiles_routed := hPre_tiles_routed)
    ∧ quiescent_Kernel2Ideal (hKernel2Ideal := hKernel2Ideal) (hPre_tiles_routed := hPre_tiles_routed)
    ∧ quiescent_Reference2Ideal (hReference2Ideal := hReference2Ideal)
    ∧ quiescent_Reference2Ideal_pre_tiles_routed (hReference2Ideal := hReference2Ideal) (hPre_tiles_routed := hPre_tiles_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_tiles_routed := hPre_tiles_routed)
    ∧ quiescent_Kernel6Ideal (hKernel6Ideal := hKernel6Ideal) (hPre_tiles_routed := hPre_tiles_routed)
    ∧ quiescent_Reference6Ideal (hReference6Ideal := hReference6Ideal)
    ∧ quiescent_Reference6Ideal_pre_tiles_routed (hReference6Ideal := hReference6Ideal) (hPre_tiles_routed := hPre_tiles_routed)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal) (hPre_tiles_routed := hPre_tiles_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_tiles_routed := hPre_tiles_routed)
-- ==== Pre_scores_finite.lean ====
abbrev S8x2048x16x64 : Shape := ⟨4, ![8, 2048, 16, 64]⟩
abbrev S8x2048x2x64 : Shape := ⟨4, ![8, 2048, 2, 64]⟩
abbrev S1x16 : Shape := ⟨2, ![1, 16]⟩
abbrev S_ : Shape := ⟨0, ![]⟩

class Facts : Prop where
  bcast_S_S8x2048x16x64 : S_.BroadcastsInDim S8x2048x16x64 (![] : Fin 0 → Fin S8x2048x16x64.rank)
  reducesTo_S8x2048x16x64_S_d0_1_2_3 : S8x2048x16x64.ReducesTo [0, 1, 2, 3] S_
  h_S_ : 0 < S_.numel
  bcast_S_S8x2048x2x64 : S_.BroadcastsInDim S8x2048x2x64 (![] : Fin 0 → Fin S8x2048x2x64.rank)
  reducesTo_S8x2048x2x64_S_d0_1_2_3 : S8x2048x2x64.ReducesTo [0, 1, 2, 3] S_
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S8x2048x16x64 .f32) (main_arg1 : FVec F S8x2048x2x64 .f32) (main_arg2 : FVec F S8x2048x2x64 .f32) (main_arg3 : FVec F S1x16 .f32) : IVec S_ 1 :=
  let main_v0 : FVec F S8x2048x16x64 .f32 := Host.absf main_arg0
  let main_cst : FVec F S_ .f32 := constant S_ .f32 0x7F800000#32
  let main_v1 : FVec F S8x2048x16x64 .f32 := broadcastInDim S8x2048x16x64 ![] bcast_S_S8x2048x16x64 main_cst
  let main_v2 : IVec S8x2048x16x64 1 := cmpf .olt main_v0 main_v1
  let main_c : IVec S_ 1 := constantI S_ 1 1#1
  let main_v3 : IVec S_ 1 := (fun x v => Host.reduce IntOp.andi x v reducesTo_S8x2048x16x64_S_d0_1_2_3 h_S_) main_v2 main_c
  let main_v4 : FVec F S8x2048x2x64 .f32 := Host.absf main_arg1
  let main_cst_0 : FVec F S_ .f32 := constant S_ .f32 0x7F800000#32
  let main_v5 : FVec F S8x2048x2x64 .f32 := broadcastInDim S8x2048x2x64 ![] bcast_S_S8x2048x2x64 main_cst_0
  let main_v6 : IVec S8x2048x2x64 1 := cmpf .olt main_v4 main_v5
  let main_c_1 : IVec S_ 1 := constantI S_ 1 1#1
  let main_v7 : IVec S_ 1 := (fun x v => Host.reduce IntOp.andi x v reducesTo_S8x2048x2x64_S_d0_1_2_3 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  main_v13
-- ==== Pre_tiles_routed.lean ====
abbrev S98 : Shape := ⟨1, ![98]⟩
abbrev S1 : Shape := ⟨1, ![1]⟩
abbrev S50176x1024 : Shape := ⟨2, ![50176, 1024]⟩
abbrev S2x32x1024x512 : Shape := ⟨4, ![2, 32, 1024, 512]⟩
abbrev S2x32x256x1024 : Shape := ⟨4, ![2, 32, 256, 1024]⟩
abbrev S_ : Shape := ⟨0, ![]⟩

class Facts : Prop where
  bcast_S_S98 : S_.BroadcastsInDim S98 (![] : Fin 0 → Fin S98.rank)
  reducesTo_S98_S_d0 : S98.ReducesTo [0] S_
  h_S_ : 0 < S_.numel
  shapeCasts_S1_S_ : S1.ShapeCasts S_

variable [Facts]

def fn {F : FTy → Type} [FloatOps F] (main_arg0 : IVec S98 32) (main_arg1 : IVec S1 32) (main_arg2 : FVec F S50176x1024 .f32) (main_arg3 : FVec F S2x32x1024x512 .f32) (main_arg4 : FVec F S2x32x256x1024 .f32) : IVec S_ 1 :=
  let main_c : IVec S_ 32 := constantI S_ 32 0#32
  let main_v0 : IVec S98 32 := broadcastInDim S98 ![] bcast_S_S98 main_c
  let main_v1 : IVec S98 1 := cmpi .sge main_arg0 main_v0
  let main_c_0 : IVec S_ 32 := constantI S_ 32 32#32
  let main_v2 : IVec S98 32 := broadcastInDim S98 ![] bcast_S_S98 main_c_0
  let main_v3 : IVec S98 1 := cmpi .slt main_arg0 main_v2
  let main_v4 : IVec S98 1 := andi main_v1 main_v3
  let main_c_1 : IVec S_ 1 := constantI S_ 1 1#1
  let main_v5 : IVec S_ 1 := (fun x v => Host.reduce IntOp.andi x v reducesTo_S98_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S8x2048x16x64 : Shape := ⟨4, ![8, 2048, 16, 64]⟩
abbrev S8x2048x2x64 : Shape := ⟨4, ![8, 2048, 2, 64]⟩
abbrev S1x16 : Shape := ⟨2, ![1, 16]⟩
abbrev S_ : Shape := ⟨0, ![]⟩
abbrev S16384x2x8x64 : Shape := ⟨4, ![16384, 2, 8, 64]⟩
abbrev S16384x8x2x64 : Shape := ⟨4, ![16384, 8, 2, 64]⟩
abbrev S16384x1024 : Shape := ⟨2, ![16384, 1024]⟩
abbrev S16384x128 : Shape := ⟨2, ![16384, 128]⟩
abbrev S2x8 : Shape := ⟨2, ![2, 8]⟩
abbrev S8x2 : Shape := ⟨2, ![8, 2]⟩
abbrev S16 : Shape := ⟨1, ![16]⟩
abbrev S128x1024 : Shape := ⟨2, ![128, 1024]⟩
abbrev S128x128 : Shape := ⟨2, ![128, 128]⟩
abbrev S256x128 : Shape := ⟨2, ![256, 128]⟩
abbrev S128x256 : Shape := ⟨2, ![128, 256]⟩
abbrev S1 : Shape := ⟨1, ![1]⟩
abbrev S128 : Shape := ⟨1, ![128]⟩
abbrev S128x1 : Shape := ⟨2, ![128, 1]⟩

abbrev nBuf : Space → Nat
  | .hbm => 19
  | .vmem => 12
  | .smem => 1
  | _ => 0

abbrev bufTy : (tb : Table) → Fin (tcTables nBuf tb) → BufTy
  | .hbm, ⟨0, _⟩ => ⟨S8x2048x16x64, .f32⟩
  | .hbm, ⟨1, _⟩ => ⟨S8x2048x2x64, .f32⟩
  | .hbm, ⟨2, _⟩ => ⟨S8x2048x2x64, .f32⟩
  | .hbm, ⟨3, _⟩ => ⟨S1x16, .f32⟩
  | .hbm, ⟨4, _⟩ => ⟨S_, .f32⟩
  | .hbm, ⟨5, _⟩ => ⟨S8x2048x16x64, .f32⟩
  | .hbm, ⟨6, _⟩ => ⟨S8x2048x16x64, .f32⟩
  | .hbm, ⟨7, _⟩ => ⟨S16384x2x8x64, .f32⟩
  | .hbm, ⟨8, _⟩ => ⟨S16384x8x2x64, .f32⟩
  | .hbm, ⟨9, _⟩ => ⟨S16384x1024, .f32⟩
  | .hbm, ⟨10, _⟩ => ⟨S16384x1024, .bf16⟩
  | .hbm, ⟨11, _⟩ => ⟨S16384x128, .f32⟩
  | .hbm, ⟨12, _⟩ => ⟨S16384x128, .bf16⟩
  | .hbm, ⟨13, _⟩ => ⟨S16384x128, .f32⟩
  | .hbm, ⟨14, _⟩ => ⟨S16384x128, .bf16⟩
  | .hbm, ⟨15, _⟩ => ⟨S2x8, .f32⟩
  | .hbm, ⟨16, _⟩ => ⟨S8x2, .f32⟩
  | .hbm, ⟨17, _⟩ => ⟨S16, .f32⟩
  | .hbm, ⟨18, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x1024, .bf16⟩
  | .local _ .vmem, ⟨11, _⟩ => ⟨S128x1024, .bf16⟩
  | .local _ .smem, ⟨0, _⟩ => ⟨S16, .f32⟩
  | _, _ => ⟨S8x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x2048x16x64 : Shape := ⟨4, ![8, 2048, 16, 64]⟩
abbrev S8x2048x2x64 : Shape := ⟨4, ![8, 2048, 2, 64]⟩
abbrev S1x16 : Shape := ⟨2, ![1, 16]⟩
abbrev S8x16x128x2x8x64 : Shape := ⟨6, ![8, 16, 128, 2, 8, 64]⟩
abbrev S8x16x128x2x64 : Shape := ⟨5, ![8, 16, 128, 2, 64]⟩
abbrev S8x1x128x2x64 : Shape := ⟨5, ![8, 1, 128, 2, 64]⟩
abbrev S_ : Shape := ⟨0, ![]⟩
abbrev S8x15x128x2x64 : Shape := ⟨5, ![8, 15, 128, 2, 64]⟩
abbrev S8x16x256x2x64 : Shape := ⟨5, ![8, 16, 256, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S8x16x2x256x128x8 : Shape := ⟨6, ![8, 16, 2, 256, 128, 8]⟩
abbrev S8x16x2x8x128x256 : Shape := ⟨6, ![8, 16, 2, 8, 128, 256]⟩
abbrev S2x8x1x1 : Shape := ⟨4, ![2, 8, 1, 1]⟩
abbrev S8x16x2x8x128 : Shape := ⟨5, ![8, 16, 2, 8, 128]⟩
abbrev S8x16x2x8x128x1 : Shape := ⟨6, ![8, 16, 2, 8, 128, 1]⟩
abbrev S1x1x2x8x1x1 : Shape := ⟨6, ![1, 1, 2, 8, 1, 1]⟩
abbrev S8x16x2x64x8x128 : Shape := ⟨6, ![8, 16, 2, 64, 8, 128]⟩
abbrev S8x16x128x8x2x64 : Shape := ⟨6, ![8, 16, 128, 8, 2, 64]⟩
abbrev S16384x1024 : Shape := ⟨2, ![16384, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8x2048x16x64, .f32⟩
  | .hbm, ⟨1, _⟩ => ⟨S8x2048x2x64, .f32⟩
  | .hbm, ⟨2, _⟩ => ⟨S8x2048x2x64, .f32⟩
  | .hbm, ⟨3, _⟩ => ⟨S1x16, .f32⟩
  | .hbm, ⟨4, _⟩ => ⟨S8x16x128x2x8x64, .f32⟩
  | .hbm, ⟨5, _⟩ => ⟨S8x16x128x2x64, .f32⟩
  | .hbm, ⟨6, _⟩ => ⟨S8x16x128x2x64, .f32⟩
  | .hbm, ⟨7, _⟩ => ⟨S8x1x128x2x64, .f32⟩
  | .hbm, ⟨8, _⟩ => ⟨S_, .f32⟩
  | .hbm, ⟨9, _⟩ => ⟨S8x1x128x2x64, .f32⟩
  | .hbm, ⟨10, _⟩ => ⟨S8x15x128x2x64, .f32⟩
  | .hbm, ⟨11, _⟩ => ⟨S8x16x128x2x64, .f32⟩
  | .hbm, ⟨12, _⟩ => ⟨S8x16x256x2x64, .f32⟩
  | .hbm, ⟨13, _⟩ => ⟨S8x1x128x2x64, .f32⟩
  | .hbm, ⟨14, _⟩ => ⟨S_, .f32⟩
  | .hbm, ⟨15, _⟩ => ⟨S8x1x128x2x64, .f32⟩
  | .hbm, ⟨16, _⟩ => ⟨S8x15x128x2x64, .f32⟩
  | .hbm, ⟨17, _⟩ => ⟨S8x16x128x2x64, .f32⟩
  | .hbm, ⟨18, _⟩ => ⟨S8x16x256x2x64, .f32⟩
  | .hbm, ⟨19, _⟩ => ⟨S128, .i32⟩
  | .hbm, ⟨20, _⟩ => ⟨S128x1, .i32⟩
  | .hbm, ⟨21, _⟩ => ⟨S256, .i32⟩
  | .hbm, ⟨22, _⟩ => ⟨S1x256, .i32⟩
  | .hbm, ⟨23, _⟩ => ⟨S128x256, .i32⟩
  | .hbm, ⟨24, _⟩ => ⟨S128x256, .i32⟩
  | .hbm, ⟨25, _⟩ => ⟨S128x256, .i32⟩
  | .hbm, ⟨26, _⟩ => ⟨S_, .i32⟩
  | .hbm, ⟨27, _⟩ => ⟨S128x256, .i32⟩
  | .hbm, ⟨28, _⟩ => ⟨S128x256, .i32⟩
  | .hbm, ⟨29, _⟩ => ⟨S_, .i32⟩
  | .hbm, ⟨30, _⟩ => ⟨S128x256, .i32⟩
  | .hbm, ⟨31, _⟩ => ⟨S128x256, .i1⟩
  | .hbm, ⟨32, _⟩ => ⟨S_, .i32⟩
  | .hbm, ⟨33, _⟩ => ⟨S128x256, .i32⟩
  | .hbm, ⟨34, _⟩ => ⟨S128x256, .i1⟩
  | .hbm, ⟨35, _⟩ => ⟨S128x256, .i1⟩
  | .hbm, ⟨36, _⟩ => ⟨S16, .i32⟩
  | .hbm, ⟨37, _⟩ => ⟨S16x1x1, .i32⟩
  | .hbm, ⟨38, _⟩ => ⟨S_, .i32⟩
  | .hbm, ⟨39, _⟩ => ⟨S16x1x1, .i32⟩
  | .hbm, ⟨40, _⟩ => ⟨S16x1x1, .i1⟩
  | .hbm, ⟨41, _⟩ => ⟨S1x1x256, .i32⟩
  | .hbm, ⟨42, _⟩ => ⟨S_, .i32⟩
  | .hbm, ⟨43, _⟩ => ⟨S1x1x256, .i32⟩
  | .hbm, ⟨44, _⟩ => ⟨S1x1x256, .i1⟩
  | .hbm, ⟨45, _⟩ => ⟨S16x1x256, .i1⟩
  | .hbm, ⟨46, _⟩ => ⟨S16x1x256, .i1⟩
  | .hbm, ⟨47, _⟩ => ⟨S16x1x256, .i1⟩
  | .hbm, ⟨48, _⟩ => ⟨S1x128x256, .i1⟩
  | .hbm, ⟨49, _⟩ => ⟨S16x128x256, .i1⟩
  | .hbm, ⟨50, _⟩ => ⟨S16x128x256, .i1⟩
  | .hbm, ⟨51, _⟩ => ⟨S16x128x256, .i1⟩
  | .hbm, ⟨52, _⟩ => ⟨S1x16x1x1x128x256, .i1⟩
  | .hbm, ⟨53, _⟩ => ⟨S8x16x2x256x128x8, .f32⟩
  | .hbm, ⟨54, _⟩ => ⟨S8x16x2x8x128x256, .f32⟩
  | .hbm, ⟨55, _⟩ => ⟨S_, .f32⟩
  | .hbm, ⟨56, _⟩ => ⟨S8x16x2x8x128x256, .f32⟩
  | .hbm, ⟨57, _⟩ => ⟨S8x16x2x8x128x256, .f32⟩
  | .hbm, ⟨58, _⟩ => ⟨S_, .f32⟩
  | .hbm, ⟨59, _⟩ => ⟨S_, .f32⟩
  | .hbm, ⟨60, _⟩ => ⟨S8x16x2x8x128x256, .i1⟩
  | .hbm, ⟨61, _⟩ => ⟨S8x16x2x8x128x256, .f32⟩
  | .hbm, ⟨62, _⟩ => ⟨S8x16x2x8x128x256, .f32⟩
  | .hbm, ⟨63, _⟩ => ⟨S2x8x1x1, .f32⟩
  | .hbm, ⟨64, _⟩ => ⟨S_, .f32⟩
  | .hbm, ⟨65, _⟩ => ⟨S8x16x2x8x128, .f32⟩
  | .hbm, ⟨66, _⟩ => ⟨S8x16x2x8x128x1, .f32⟩
  | .hbm, ⟨67, _⟩ => ⟨S1x1x2x8x1x1, .f32⟩
  | .hbm, ⟨68, _⟩ => ⟨S8x16x2x8x128x1, .f32⟩
  | .hbm, ⟨69, _⟩ => ⟨S8x16x2x8x128x1, .f32⟩
  | .hbm, ⟨70, _⟩ => ⟨S8x16x2x8x128x256, .f32⟩
  | .hbm, ⟨71, _⟩ => ⟨S8x16x2x8x128x256, .f32⟩
  | .hbm, ⟨72, _⟩ => ⟨S8x16x2x8x128x256, .f32⟩
  | .hbm, ⟨73, _⟩ => ⟨S_, .f32⟩
  | .hbm, ⟨74, _⟩ => ⟨S8x16x2x8x128, .f32⟩
  | .hbm, ⟨75, _⟩ => ⟨S8x16x2x8x128x1, .f32⟩
  | .hbm, ⟨76, _⟩ => ⟨S1x1x2x8x1x1, .f32⟩
  | .hbm, ⟨77, _⟩ => ⟨S8x16x2x8x128x1, .f32⟩
  | .hbm, ⟨78, _⟩ => ⟨S8x16x2x8x128x1, .f32⟩
  | .hbm, ⟨79, _⟩ => ⟨S8x16x2x8x128x1, .f32⟩
  | .hbm, ⟨80, _⟩ => ⟨S8x16x2x8x128x1, .f32⟩
  | .hbm, ⟨81, _⟩ => ⟨S8x16x2x8x128x256, .f32⟩
  | .hbm, ⟨82, _⟩ => ⟨S8x16x2x8x128x256, .f32⟩
  | .hbm, ⟨83, _⟩ => ⟨S8x16x2x64x8x128, .f32⟩
  | .hbm, ⟨84, _⟩ => ⟨S8x16x128x8x2x64, .f32⟩
  | .hbm, ⟨85, _⟩ => ⟨S16384x1024, .f32⟩
  | .hbm, ⟨86, _⟩ => ⟨S16384x1024, .bf16⟩
  | _, _ => ⟨S8x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel2.lean ====
abbrev S98 : Shape := ⟨1, ![98]⟩
abbrev S1 : Shape := ⟨1, ![1]⟩
abbrev S50176x1024 : Shape := ⟨2, ![50176, 1024]⟩
abbrev S2x32x1024x512 : Shape := ⟨4, ![2, 32, 1024, 512]⟩
abbrev S2x32x256x1024 : Shape := ⟨4, ![2, 32, 256, 1024]⟩
abbrev S_ : Shape := ⟨0, ![]⟩
abbrev S98x1 : Shape := ⟨2, ![98, 1]⟩
abbrev S512x1024 : Shape := ⟨2, ![512, 1024]⟩
abbrev S1x1x1024x512 : Shape := ⟨4, ![1, 1, 1024, 512]⟩
abbrev S1x1x256x1024 : Shape := ⟨4, ![1, 1, 256, 1024]⟩
abbrev S1024x512 : Shape := ⟨2, ![1024, 512]⟩
abbrev S512x512 : Shape := ⟨2, ![512, 512]⟩
abbrev S512x256 : Shape := ⟨2, ![512, 256]⟩
abbrev S256x1024 : Shape := ⟨2, ![256, 1024]⟩

abbrev nBuf : Space → Nat
  | .hbm => 12
  | .vmem => 8
  | .smem => 2
  | _ => 0

abbrev bufTy : (tb : Table) → Fin (tcTables nBuf tb) → BufTy
  | .hbm, ⟨0, _⟩ => ⟨S98, .i32⟩
  | .hbm, ⟨1, _⟩ => ⟨S50176x1024, .f32⟩
  | .hbm, ⟨2, _⟩ => ⟨S2x32x1024x512, .f32⟩
  | .hbm, ⟨3, _⟩ => ⟨S2x32x256x1024, .f32⟩
  | .hbm, ⟨4, _⟩ => ⟨S98, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S98, .i32⟩
  | .hbm, ⟨9, _⟩ => ⟨S98, .i32⟩
  | .hbm, ⟨10, _⟩ => ⟨S98x1, .i32⟩
  | .hbm, ⟨11, _⟩ => ⟨S50176x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x256x1024, .f32⟩
  | .local _ .vmem, ⟨5, _⟩ => ⟨S1x1x256x1024, .f32⟩
  | .local _ .vmem, ⟨6, _⟩ => ⟨S512x1024, .f32⟩
  | .local _ .vmem, ⟨7, _⟩ => ⟨S512x1024, .f32⟩
  | .local _ .smem, ⟨0, _⟩ => ⟨S98, .i32⟩
  | .local _ .smem, ⟨1, _⟩ => ⟨S1, .i32⟩
  | _, _ => ⟨S98, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v7 : Ref sig .tc := ⟨.hbm, 11, rfl⟩
abbrev main_v6 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![98], ![false]⟩

abbrev pre0 : Pipeline.Prefetch sig := ⟨2, ![main_v6.idx, main_arg1.idx], fun | 0 => main_v6.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S98.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S98) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S98.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S98) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S98 : Shape := ⟨1, ![98]⟩
abbrev S1 : Shape := ⟨1, ![1]⟩
abbrev S50176x1024 : Shape := ⟨2, ![50176, 1024]⟩
abbrev S2x32x1024x512 : Shape := ⟨4, ![2, 32, 1024, 512]⟩
abbrev S2x32x256x1024 : Shape := ⟨4, ![2, 32, 256, 1024]⟩
abbrev S98x512 : Shape := ⟨2, ![98, 512]⟩
abbrev S50176 : Shape := ⟨1, ![50176]⟩
abbrev S50176x1 : Shape := ⟨2, ![50176, 1]⟩
abbrev S32 : Shape := ⟨1, ![32]⟩
abbrev S1x32 : Shape := ⟨2, ![1, 32]⟩
abbrev S50176x32 : Shape := ⟨2, ![50176, 32]⟩
abbrev S_ : Shape := ⟨0, ![]⟩
abbrev S1x32x1024x512 : Shape := ⟨4, ![1, 32, 1024, 512]⟩
abbrev S32x1024x512 : Shape := ⟨3, ![32, 1024, 512]⟩
abbrev S50176x32x512 : Shape := ⟨3, ![50176, 32, 512]⟩
abbrev S50176x32x256 : Shape := ⟨3, ![50176, 32, 256]⟩
abbrev S50176x32x1 : Shape := ⟨3, ![50176, 32, 1]⟩
abbrev S50176x8192 : Shape := ⟨2, ![50176, 8192]⟩
abbrev S1x32x256x1024 : Shape := ⟨4, ![1, 32, 256, 1024]⟩
abbrev S32x256x1024 : Shape := ⟨3, ![32, 256, 1024]⟩
abbrev S8192x1024 : Shape := ⟨2, ![8192, 1024]⟩

abbrev nBuf : Space → Nat
  | .hbm => 46
  | .vmem => 0
  | .smem => 0
  | _ => 0

abbrev bufTy : (tb : Table) → Fin (tcTables nBuf tb) → BufTy
  | .hbm, ⟨0, _⟩ => ⟨S98, .i32⟩
  | .hbm, ⟨1, _⟩ => ⟨S1, .i32⟩
  | .hbm, ⟨2, _⟩ => ⟨S50176x1024, .f32⟩
  | .hbm, ⟨3, _⟩ => ⟨S2x32x1024x512, .f32⟩
  | .hbm, ⟨4, _⟩ => ⟨S2x32x256x1024, .f32⟩
  | .hbm, ⟨5, _⟩ => ⟨S98, .i32⟩
  | .hbm, ⟨6, _⟩ => ⟨S98x512, .i32⟩
  | .hbm, ⟨7, _⟩ => ⟨S50176, .i32⟩
  | .hbm, ⟨8, _⟩ => ⟨S98x512, .i32⟩
  | .hbm, ⟨9, _⟩ => ⟨S50176, .i32⟩
  | .hbm, ⟨10, _⟩ => ⟨S50176x1, .i32⟩
  | .hbm, ⟨11, _⟩ => ⟨S32, .i32⟩
  | .hbm, ⟨12, _⟩ => ⟨S1x32, .i32⟩
  | .hbm, ⟨13, _⟩ => ⟨S50176x32, .i32⟩
  | .hbm, ⟨14, _⟩ => ⟨S50176x32, .i32⟩
  | .hbm, ⟨15, _⟩ => ⟨S50176x32, .i1⟩
  | .hbm, ⟨16, _⟩ => ⟨S_, .i32⟩
  | .hbm, ⟨17, _⟩ => ⟨S50176, .i32⟩
  | .hbm, ⟨18, _⟩ => ⟨S50176, .i1⟩
  | .hbm, ⟨19, _⟩ => ⟨S50176x1, .i1⟩
  | .hbm, ⟨20, _⟩ => ⟨S50176x32, .i1⟩
  | .hbm, ⟨21, _⟩ => ⟨S50176x32, .i1⟩
  | .hbm, ⟨22, _⟩ => ⟨S50176x32, .f32⟩
  | .hbm, ⟨23, _⟩ => ⟨S1x32x1024x512, .f32⟩
  | .hbm, ⟨24, _⟩ => ⟨S32x1024x512, .f32⟩
  | .hbm, ⟨25, _⟩ => ⟨S50176x32x512, .f32⟩
  | .hbm, ⟨26, _⟩ => ⟨S50176x32x256, .f32⟩
  | .hbm, ⟨27, _⟩ => ⟨S50176x32x256, .f32⟩
  | .hbm, ⟨28, _⟩ => ⟨S50176x32x256, .f32⟩
  | .hbm, ⟨29, _⟩ => ⟨S50176x32x256, .f32⟩
  | .hbm, ⟨30, _⟩ => ⟨S_, .f32⟩
  | .hbm, ⟨31, _⟩ => ⟨S50176x32x256, .f32⟩
  | .hbm, ⟨32, _⟩ => ⟨S50176x32x256, .f32⟩
  | .hbm, ⟨33, _⟩ => ⟨S_, .f32⟩
  | .hbm, ⟨34, _⟩ => ⟨S50176x32x256, .f32⟩
  | .hbm, ⟨35, _⟩ => ⟨S50176x32x256, .f32⟩
  | .hbm, ⟨36, _⟩ => ⟨S50176x32x256, .f32⟩
  | .hbm, ⟨37, _⟩ => ⟨S50176x32x256, .f32⟩
  | .hbm, ⟨38, _⟩ => ⟨S50176x32x1, .f32⟩
  | .hbm, ⟨39, _⟩ => ⟨S50176x32x256, .f32⟩
  | .hbm, ⟨40, _⟩ => ⟨S50176x32x256, .f32⟩
  | .hbm, ⟨41, _⟩ => ⟨S50176x8192, .f32⟩
  | .hbm, ⟨42, _⟩ => ⟨S1x32x256x1024, .f32⟩
  | .hbm, ⟨43, _⟩ => ⟨S32x256x1024, .f32⟩
  | .hbm, ⟨44, _⟩ => ⟨S8192x1024, .f32⟩
  | .hbm, ⟨45, _⟩ => ⟨S50176x1024, .f32⟩
  | _, _ => ⟨S98, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel3.lean ====
abbrev S8x2048x1024 : Shape := ⟨3, ![8, 2048, 1024]⟩
abbrev S128x4x1024 : Shape := ⟨3, ![128, 4, 1024]⟩
abbrev S1x128x128x2x64 : Shape := ⟨5, ![1, 128, 128, 2, 64]⟩
abbrev S1x1024x1280 : Shape := ⟨3, ![1, 1024, 1280]⟩
abbrev S1x1280 : Shape := ⟨2, ![1, 1280]⟩
abbrev S1024 : Shape := ⟨1, ![1024]⟩
abbrev S16384x1024 : Shape := ⟨2, ![16384, 1024]⟩
abbrev S512x1024 : Shape := ⟨2, ![512, 1024]⟩
abbrev S2048 : Shape := ⟨1, ![2048]⟩
abbrev S512 : Shape := ⟨1, ![512]⟩
abbrev S_ : Shape := ⟨0, ![]⟩
abbrev S2560 : Shape := ⟨1, ![2560]⟩
abbrev S32 : Shape := ⟨1, ![32]⟩
abbrev S2560x1 : Shape := ⟨2, ![2560, 1]⟩
abbrev S1x32 : Shape := ⟨2, ![1, 32]⟩
abbrev S2560x32 : Shape := ⟨2, ![2560, 32]⟩
abbrev S2560x128 : Shape := ⟨2, ![2560, 128]⟩
abbrev S1024x1280 : Shape := ⟨2, ![1024, 1280]⟩
abbrev S1024x1024 : Shape := ⟨2, ![1024, 1024]⟩
abbrev S1024x128 : Shape := ⟨2, ![1024, 128]⟩
abbrev S1280 : Shape := ⟨1, ![1280]⟩
abbrev S128 : Shape := ⟨1, ![128]⟩
abbrev S1024x1 : Shape := ⟨2, ![1024, 1]⟩
abbrev S16896x1024 : Shape := ⟨2, ![16896, 1024]⟩
abbrev S16896x128 : Shape := ⟨2, ![16896, 128]⟩
abbrev S512x128 : Shape := ⟨2, ![512, 128]⟩
abbrev S1x1024 : Shape := ⟨2, ![1, 1024]⟩
abbrev S1x128 : Shape := ⟨2, ![1, 128]⟩
abbrev S128x4x128 : Shape := ⟨3, ![128, 4, 128]⟩
abbrev S16384x128 : Shape := ⟨2, ![16384, 128]⟩
abbrev S8x2048x2x64 : Shape := ⟨4, ![8, 2048, 2, 64]⟩
abbrev S8x128x2x64 : Shape := ⟨4, ![8, 128, 2, 64]⟩
abbrev S1x8x128x2x64 : Shape := ⟨5, ![1, 8, 128, 2, 64]⟩
abbrev S128x128x2x64 : Shape := ⟨4, ![128, 128, 2, 64]⟩
abbrev S128x4x2x64 : Shape := ⟨4, ![128, 4, 2, 64]⟩
abbrev S128x132x2x64 : Shape := ⟨4, ![128, 132, 2, 64]⟩

abbrev nBuf : Space → Nat
  | .hbm => 111
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S128x4x1024, .f32⟩
  | .hbm, ⟨2, _⟩ => ⟨S1x128x128x2x64, .f32⟩
  | .hbm, ⟨3, _⟩ => ⟨S1x128x128x2x64, .f32⟩
  | .hbm, ⟨4, _⟩ => ⟨S1x1024x1280, .f32⟩
  | .hbm, ⟨5, _⟩ => ⟨S1x1280, .f32⟩
  | .hbm, ⟨6, _⟩ => ⟨S1024, .i32⟩
  | .hbm, ⟨7, _⟩ => ⟨S1024, .i1⟩
  | .hbm, ⟨8, _⟩ => ⟨S1024, .i1⟩
  | .hbm, ⟨9, _⟩ => ⟨S16384x1024, .f32⟩
  | .hbm, ⟨10, _⟩ => ⟨S512x1024, .f32⟩
  | .hbm, ⟨11, _⟩ => ⟨S2048, .i32⟩
  | .hbm, ⟨12, _⟩ => ⟨S512, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S_, .i1⟩
  | .hbm, ⟨29, _⟩ => ⟨S512, .i1⟩
  | .hbm, ⟨30, _⟩ => ⟨S512, .i1⟩
  | .hbm, ⟨31, _⟩ => ⟨S512, .i1⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S2560, .i32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S32, .f32⟩
  | .hbm, ⟨44, _⟩ => ⟨S2560, .f32⟩
  | .hbm, ⟨45, _⟩ => ⟨S2560x1, .f32⟩
  | .hbm, ⟨46, _⟩ => ⟨S1x32, .f32⟩
  | .hbm, ⟨47, _⟩ => ⟨S2560x32, .f32⟩
  | .hbm, ⟨48, _⟩ => ⟨S2560x32, .f32⟩
  | .hbm, ⟨49, _⟩ => ⟨S2560x32, .f32⟩
  | .hbm, ⟨50, _⟩ => ⟨S2560x32, .f32⟩
  | .hbm, ⟨51, _⟩ => ⟨S2560x32, .f32⟩
  | .hbm, ⟨52, _⟩ => ⟨S2560x128, .f32⟩
  | .hbm, ⟨53, _⟩ => ⟨S2560x32, .f32⟩
  | .hbm, ⟨54, _⟩ => ⟨S2560x32, .f32⟩
  | .hbm, ⟨55, _⟩ => ⟨S2560x128, .f32⟩
  | .hbm, ⟨56, _⟩ => ⟨S1024x1280, .f32⟩
  | .hbm, ⟨57, _⟩ => ⟨S1024x1024, .f32⟩
  | .hbm, ⟨58, _⟩ => ⟨S1024x1280, .f32⟩
  | .hbm, ⟨59, _⟩ => ⟨S1024x128, .f32⟩
  | .hbm, ⟨60, _⟩ => ⟨S1024x1280, .f32⟩
  | .hbm, ⟨61, _⟩ => ⟨S1024x128, .f32⟩
  | .hbm, ⟨62, _⟩ => ⟨S1280, .f32⟩
  | .hbm, ⟨63, _⟩ => ⟨S1024, .f32⟩
  | .hbm, ⟨64, _⟩ => ⟨S1280, .f32⟩
  | .hbm, ⟨65, _⟩ => ⟨S128, .f32⟩
  | .hbm, ⟨66, _⟩ => ⟨S1280, .f32⟩
  | .hbm, ⟨67, _⟩ => ⟨S128, .f32⟩
  | .hbm, ⟨68, _⟩ => ⟨S_, .i32⟩
  | .hbm, ⟨69, _⟩ => ⟨S1024, .i32⟩
  | .hbm, ⟨70, _⟩ => ⟨S1024, .i32⟩
  | .hbm, ⟨71, _⟩ => ⟨S1024, .i32⟩
  | .hbm, ⟨72, _⟩ => ⟨S1024x1, .i32⟩
  | .hbm, ⟨73, _⟩ => ⟨S1024x1024, .f32⟩
  | .hbm, ⟨74, _⟩ => ⟨S1024x1280, .f32⟩
  | .hbm, ⟨75, _⟩ => ⟨S1024x1280, .bf16⟩
  | .hbm, ⟨76, _⟩ => ⟨S_, .i32⟩
  | .hbm, ⟨77, _⟩ => ⟨S1024, .i32⟩
  | .hbm, ⟨78, _⟩ => ⟨S1024, .i32⟩
  | .hbm, ⟨79, _⟩ => ⟨S1024, .i32⟩
  | .hbm, ⟨80, _⟩ => ⟨S1024x1, .i32⟩
  | .hbm, ⟨81, _⟩ => ⟨S1024, .f32⟩
  | .hbm, ⟨82, _⟩ => ⟨S1280, .f32⟩
  | .hbm, ⟨83, _⟩ => ⟨S1x1280, .f32⟩
  | .hbm, ⟨84, _⟩ => ⟨S16896x1024, .bf16⟩
  | .hbm, ⟨85, _⟩ => ⟨S16896x128, .f32⟩
  | .hbm, ⟨86, _⟩ => ⟨S16896x128, .bf16⟩
  | .hbm, ⟨87, _⟩ => ⟨S16896x128, .f32⟩
  | .hbm, ⟨88, _⟩ => ⟨S16896x128, .bf16⟩
  | .hbm, ⟨89, _⟩ => ⟨S512x128, .f32⟩
  | .hbm, ⟨90, _⟩ => ⟨S128x4x128, .f32⟩
  | .hbm, ⟨91, _⟩ => ⟨S512x128, .f32⟩
  | .hbm, ⟨92, _⟩ => ⟨S128x4x128, .f32⟩
  | .hbm, ⟨93, _⟩ => ⟨S16384x128, .f32⟩
  | .hbm, ⟨94, _⟩ => ⟨S8x2048x2x64, .f32⟩
  | .hbm, ⟨95, _⟩ => ⟨S8x128x2x64, .f32⟩
  | .hbm, ⟨96, _⟩ => ⟨S1x8x128x2x64, .f32⟩
  | .hbm, ⟨97, _⟩ => ⟨S16384x128, .f32⟩
  | .hbm, ⟨98, _⟩ => ⟨S8x2048x2x64, .f32⟩
  | .hbm, ⟨99, _⟩ => ⟨S8x128x2x64, .f32⟩
  | .hbm, ⟨100, _⟩ => ⟨S1x8x128x2x64, .f32⟩
  | .hbm, ⟨101, _⟩ => ⟨S128x128x2x64, .f32⟩
  | .hbm, ⟨102, _⟩ => ⟨S128x4x2x64, .f32⟩
  | .hbm, ⟨103, _⟩ => ⟨S128x132x2x64, .f32⟩
  | .hbm, ⟨104, _⟩ => ⟨S128x128x2x64, .f32⟩
  | .hbm, ⟨105, _⟩ => ⟨S1x128x128x2x64, .f32⟩
  | .hbm, ⟨106, _⟩ => ⟨S128x128x2x64, .f32⟩
  | .hbm, ⟨107, _⟩ => ⟨S128x4x2x64, .f32⟩
  | .hbm, ⟨108, _⟩ => ⟨S128x132x2x64, .f32⟩
  | .hbm, ⟨109, _⟩ => ⟨S128x128x2x64, .f32⟩
  | .hbm, ⟨110, _⟩ => ⟨S1x128x128x2x64, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1280, .bf16⟩
  | .local _ .vmem, ⟨5, _⟩ => ⟨S1x1280, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x128, .f32⟩
  | .local _ .vmem, ⟨13, _⟩ => ⟨S512x128, .f32⟩
  | .local _ .vmem, ⟨14, _⟩ => ⟨S512x128, .bf16⟩
  | .local _ .vmem, ⟨15, _⟩ => ⟨S512x128, .bf16⟩
  | .local _ .vmem, ⟨16, _⟩ => ⟨S512x128, .f32⟩
  | .local _ .vmem, ⟨17, _⟩ => ⟨S512x128, .f32⟩
  | .local _ .vmem, ⟨18, _⟩ => ⟨S512x128, .bf16⟩
  | .local _ .vmem, ⟨19, _⟩ => ⟨S512x128, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_2 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v4 : Ref sig .tc := ⟨.hbm, 34, rfl⟩
abbrev main_c_3 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_4 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_5 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50_0 : Ref sig .tc := ⟨.hbm, 84, rfl⟩
abbrev main_v50_1 : Ref sig .tc := ⟨.hbm, 85, rfl⟩
abbrev main_v50_2 : Ref sig .tc := ⟨.hbm, 86, rfl⟩
abbrev main_v50_3 : Ref sig .tc := ⟨.hbm, 87, rfl⟩
abbrev main_v50_4 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8x2048x1024 : Shape := ⟨3, ![8, 2048, 1024]⟩
abbrev S128x4x1024 : Shape := ⟨3, ![128, 4, 1024]⟩
abbrev S1x128x128x2x64 : Shape := ⟨5, ![1, 128, 128, 2, 64]⟩
abbrev S1x1024x1280 : Shape := ⟨3, ![1, 1024, 1280]⟩
abbrev S1x1280 : Shape := ⟨2, ![1, 1280]⟩
abbrev S1024x1280 : Shape := ⟨2, ![1024, 1280]⟩
abbrev S1280 : Shape := ⟨1, ![1280]⟩
abbrev S2048 : Shape := ⟨1, ![2048]⟩
abbrev S8x2048x1280 : Shape := ⟨3, ![8, 2048, 1280]⟩
abbrev S1x1x1280 : Shape := ⟨3, ![1, 1, 1280]⟩
abbrev S8x2048x128 : Shape := ⟨3, ![8, 2048, 128]⟩
abbrev S8x2048x16x64 : Shape := ⟨4, ![8, 2048, 16, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S8x2048x16x32 : Shape := ⟨4, ![8, 2048, 16, 32]⟩
abbrev S1x2048x1x32 : Shape := ⟨4, ![1, 2048, 1, 32]⟩
abbrev S8x2048x2x64 : Shape := ⟨4, ![8, 2048, 2, 64]⟩
abbrev S8x2048x2x32 : Shape := ⟨4, ![8, 2048, 2, 32]⟩
abbrev S4 : Shape := ⟨1, ![4]⟩
abbrev S128x4x1280 : Shape := ⟨3, ![128, 4, 1280]⟩
abbrev S128x4x128 : Shape := ⟨3, ![128, 4, 128]⟩
abbrev S128x4x16x64 : Shape := ⟨4, ![128, 4, 16, 64]⟩
abbrev S4x1 : Shape := ⟨2, ![4, 1]⟩
abbrev S4x32 : Shape := ⟨2, ![4, 32]⟩
abbrev S4x1x32 : Shape := ⟨3, ![4, 1, 32]⟩
abbrev S128x4x16x32 : Shape := ⟨4, ![128, 4, 16, 32]⟩
abbrev S1x4x1x32 : Shape := ⟨4, ![1, 4, 1, 32]⟩
abbrev S128x4x2x64 : Shape := ⟨4, ![128, 4, 2, 64]⟩
abbrev S128x4x2x32 : Shape := ⟨4, ![128, 4, 2, 32]⟩
abbrev S16384x2x8x64 : Shape := ⟨4, ![16384, 2, 8, 64]⟩
abbrev S16384x8x2x64 : Shape := ⟨4, ![16384, 8, 2, 64]⟩
abbrev S16384x1024 : Shape := ⟨2, ![16384, 1024]⟩
abbrev S512x2x8x64 : Shape := ⟨4, ![512, 2, 8, 64]⟩
abbrev S512x8x2x64 : Shape := ⟨4, ![512, 8, 2, 64]⟩
abbrev S512x1024 : Shape := ⟨2, ![512, 1024]⟩
abbrev S16896x1024 : Shape := ⟨2, ![16896, 1024]⟩
abbrev S16384x128 : Shape := ⟨2, ![16384, 128]⟩
abbrev S512x128 : Shape := ⟨2, ![512, 128]⟩
abbrev S16896x128 : Shape := ⟨2, ![16896, 128]⟩
abbrev S8x128x2x64 : Shape := ⟨4, ![8, 128, 2, 64]⟩
abbrev S1x8x128x2x64 : Shape := ⟨5, ![1, 8, 128, 2, 64]⟩
abbrev S128x128x2x64 : Shape := ⟨4, ![128, 128, 2, 64]⟩
abbrev S128x132x2x64 : Shape := ⟨4, ![128, 132, 2, 64]⟩

abbrev nBuf : Space → Nat
  | .hbm => 197
  | .vmem => 0
  | .smem => 0
  | _ => 0

abbrev hbmTy0_0 (i : Nat) : BufTy := match i % 128 with
  | 0 => ⟨S8x2048x1024, .f32⟩
  | 1 => ⟨S128x4x1024, .f32⟩
  | 2 => ⟨S1x128x128x2x64, .f32⟩
  | 3 => ⟨S1x128x128x2x64, .f32⟩
  | 4 => ⟨S1x1024x1280, .f32⟩
  | 5 => ⟨S1x1280, .f32⟩
  | 6 => ⟨S1024x1280, .f32⟩
  | 7 => ⟨S1280, .f32⟩
  | 8 => ⟨S2048, .i32⟩
  | 9 => ⟨S8x2048x1280, .f32⟩
  | 10 => ⟨S1x1x1280, .f32⟩
  | 11 => ⟨S8x2048x1280, .f32⟩
  | 12 => ⟨S8x2048x1280, .f32⟩
  | 13 => ⟨S8x2048x1024, .f32⟩
  | 14 => ⟨S8x2048x128, .f32⟩
  | 15 => ⟨S8x2048x128, .f32⟩
  | 16 => ⟨S8x2048x16x64, .f32⟩
  | 17 => ⟨S32, .f32⟩
  | 18 => ⟨S_, .f32⟩
  | 19 => ⟨S32, .f32⟩
  | 20 => ⟨S32, .f32⟩
  | 21 => ⟨S32, .f32⟩
  | 22 => ⟨S2048, .f32⟩
  | 23 => ⟨S2048x1, .f32⟩
  | 24 => ⟨S1x32, .f32⟩
  | 25 => ⟨S2048x32, .f32⟩
  | 26 => ⟨S2048x32, .f32⟩
  | 27 => ⟨S2048x32, .f32⟩
  | 28 => ⟨S2048x32, .f32⟩
  | 29 => ⟨S2048x1x32, .f32⟩
  | 30 => ⟨S2048x32, .f32⟩
  | 31 => ⟨S2048x1x32, .f32⟩
  | 32 => ⟨S8x2048x16x32, .f32⟩
  | 33 => ⟨S8x2048x16x32, .f32⟩
  | 34 => ⟨S1x2048x1x32, .f32⟩
  | 35 => ⟨S8x2048x16x32, .f32⟩
  | 36 => ⟨S8x2048x16x32, .f32⟩
  | 37 => ⟨S1x2048x1x32, .f32⟩
  | 38 => ⟨S8x2048x16x32, .f32⟩
  | 39 => ⟨S8x2048x16x32, .f32⟩
  | 40 => ⟨S8x2048x16x32, .f32⟩
  | 41 => ⟨S1x2048x1x32, .f32⟩
  | 42 => ⟨S8x2048x16x32, .f32⟩
  | 43 => ⟨S8x2048x16x32, .f32⟩
  | 44 => ⟨S1x2048x1x32, .f32⟩
  | 45 => ⟨S8x2048x16x32, .f32⟩
  | 46 => ⟨S8x2048x16x32, .f32⟩
  | 47 => ⟨S8x2048x16x32, .f32⟩
  | 48 => ⟨S8x2048x16x64, .f32⟩
  | 49 => ⟨S8x2048x2x64, .f32⟩
  | 50 => ⟨S32, .f32⟩
  | 51 => ⟨S_, .f32⟩
  | 52 => ⟨S32, .f32⟩
  | 53 => ⟨S32, .f32⟩
  | 54 => ⟨S32, .f32⟩
  | 55 => ⟨S2048, .f32⟩
  | 56 => ⟨S2048x1, .f32⟩
  | 57 => ⟨S1x32, .f32⟩
  | 58 => ⟨S2048x32, .f32⟩
  | 59 => ⟨S2048x32, .f32⟩
  | 60 => ⟨S2048x32, .f32⟩
  | 61 => ⟨S2048x32, .f32⟩
  | 62 => ⟨S2048x1x32, .f32⟩
  | 63 => ⟨S2048x32, .f32⟩
  | 64 => ⟨S2048x1x32, .f32⟩
  | 65 => ⟨S8x2048x2x32, .f32⟩
  | 66 => ⟨S8x2048x2x32, .f32⟩
  | 67 => ⟨S1x2048x1x32, .f32⟩
  | 68 => ⟨S8x2048x2x32, .f32⟩
  | 69 => ⟨S8x2048x2x32, .f32⟩
  | 70 => ⟨S1x2048x1x32, .f32⟩
  | 71 => ⟨S8x2048x2x32, .f32⟩
  | 72 => ⟨S8x2048x2x32, .f32⟩
  | 73 => ⟨S8x2048x2x32, .f32⟩
  | 74 => ⟨S1x2048x1x32, .f32⟩
  | 75 => ⟨S8x2048x2x32, .f32⟩
  | 76 => ⟨S8x2048x2x32, .f32⟩
  | 77 => ⟨S1x2048x1x32, .f32⟩
  | 78 => ⟨S8x2048x2x32, .f32⟩
  | 79 => ⟨S8x2048x2x32, .f32⟩
  | 80 => ⟨S8x2048x2x32, .f32⟩
  | 81 => ⟨S8x2048x2x64, .f32⟩
  | 82 => ⟨S8x2048x2x64, .f32⟩
  | 83 => ⟨S1024x1280, .f32⟩
  | 84 => ⟨S1280, .f32⟩
  | 85 => ⟨S4, .i32⟩
  | 86 => ⟨S_, .i32⟩
  | 87 => ⟨S4, .i32⟩
  | 88 => ⟨S4, .i32⟩
  | 89 => ⟨S128x4x1280, .f32⟩
  | 90 => ⟨S1x1x1280, .f32⟩
  | 91 => ⟨S128x4x1280, .f32⟩
  | 92 => ⟨S128x4x1280, .f32⟩
  | 93 => ⟨S128x4x1024, .f32⟩
  | 94 => ⟨S128x4x128, .f32⟩
  | 95 => ⟨S128x4x128, .f32⟩
  | 96 => ⟨S128x4x16x64, .f32⟩
  | 97 => ⟨S32, .f32⟩
  | 98 => ⟨S_, .f32⟩
  | 99 => ⟨S32, .f32⟩
  | 100 => ⟨S32, .f32⟩
  | 101 => ⟨S32, .f32⟩
  | 102 => ⟨S4, .f32⟩
  | 103 => ⟨S4x1, .f32⟩
  | 104 => ⟨S1x32, .f32⟩
  | 105 => ⟨S4x32, .f32⟩
  | 106 => ⟨S4x32, .f32⟩
  | 107 => ⟨S4x32, .f32⟩
  | 108 => ⟨S4x32, .f32⟩
  | 109 => ⟨S4x1x32, .f32⟩
  | 110 => ⟨S4x32, .f32⟩
  | 111 => ⟨S4x1x32, .f32⟩
  | 112 => ⟨S128x4x16x32, .f32⟩
  | 113 => ⟨S128x4x16x32, .f32⟩
  | 114 => ⟨S1x4x1x32, .f32⟩
  | 115 => ⟨S128x4x16x32, .f32⟩
  | 116 => ⟨S128x4x16x32, .f32⟩
  | 117 => ⟨S1x4x1x32, .f32⟩
  | 118 => ⟨S128x4x16x32, .f32⟩
  | 119 => ⟨S128x4x16x32, .f32⟩
  | 120 => ⟨S128x4x16x32, .f32⟩
  | 121 => ⟨S1x4x1x32, .f32⟩
  | 122 => ⟨S128x4x16x32, .f32⟩
  | 123 => ⟨S128x4x16x32, .f32⟩
  | 124 => ⟨S1x4x1x32, .f32⟩
  | 125 => ⟨S128x4x16x32, .f32⟩
  | 126 => ⟨S128x4x16x32, .f32⟩
  | 127 => ⟨S128x4x16x32, .f32⟩
  | _ => ⟨S8x2048x1024, .f32⟩

abbrev hbmTy0_1 (i : Nat) : BufTy := match i % 128 with
  | 0 => ⟨S128x4x16x64, .f32⟩
  | 1 => ⟨S128x4x2x64, .f32⟩
  | 2 => ⟨S32, .f32⟩
  | 3 => ⟨S_, .f32⟩
  | 4 => ⟨S32, .f32⟩
  | 5 => ⟨S32, .f32⟩
  | 6 => ⟨S32, .f32⟩
  | 7 => ⟨S4, .f32⟩
  | 8 => ⟨S4x1, .f32⟩
  | 9 => ⟨S1x32, .f32⟩
  | 10 => ⟨S4x32, .f32⟩
  | 11 => ⟨S4x32, .f32⟩
  | 12 => ⟨S4x32, .f32⟩
  | 13 => ⟨S4x32, .f32⟩
  | 14 => ⟨S4x1x32, .f32⟩
  | 15 => ⟨S4x32, .f32⟩
  | 16 => ⟨S4x1x32, .f32⟩
  | 17 => ⟨S128x4x2x32, .f32⟩
  | 18 => ⟨S128x4x2x32, .f32⟩
  | 19 => ⟨S1x4x1x32, .f32⟩
  | 20 => ⟨S128x4x2x32, .f32⟩
  | 21 => ⟨S128x4x2x32, .f32⟩
  | 22 => ⟨S1x4x1x32, .f32⟩
  | 23 => ⟨S128x4x2x32, .f32⟩
  | 24 => ⟨S128x4x2x32, .f32⟩
  | 25 => ⟨S128x4x2x32, .f32⟩
  | 26 => ⟨S1x4x1x32, .f32⟩
  | 27 => ⟨S128x4x2x32, .f32⟩
  | 28 => ⟨S128x4x2x32, .f32⟩
  | 29 => ⟨S1x4x1x32, .f32⟩
  | 30 => ⟨S128x4x2x32, .f32⟩
  | 31 => ⟨S128x4x2x32, .f32⟩
  | 32 => ⟨S128x4x2x32, .f32⟩
  | 33 => ⟨S128x4x2x64, .f32⟩
  | 34 => ⟨S128x4x2x64, .f32⟩
  | 35 => ⟨S_, .f32⟩
  | 36 => ⟨S8x2048x16x64, .f32⟩
  | 37 => ⟨S8x2048x16x64, .f32⟩
  | 38 => ⟨S16384x2x8x64, .f32⟩
  | 39 => ⟨S16384x8x2x64, .f32⟩
  | 40 => ⟨S16384x1024, .f32⟩
  | 41 => ⟨S_, .f32⟩
  | 42 => ⟨S128x4x16x64, .f32⟩
  | 43 => ⟨S128x4x16x64, .f32⟩
  | 44 => ⟨S512x2x8x64, .f32⟩
  | 45 => ⟨S512x8x2x64, .f32⟩
  | 46 => ⟨S512x1024, .f32⟩
  | 47 => ⟨S16896x1024, .f32⟩
  | 48 => ⟨S16384x128, .f32⟩
  | 49 => ⟨S512x128, .f32⟩
  | 50 => ⟨S16896x128, .f32⟩
  | 51 => ⟨S16384x128, .f32⟩
  | 52 => ⟨S512x128, .f32⟩
  | 53 => ⟨S16896x128, .f32⟩
  | 54 => ⟨S8x128x2x64, .f32⟩
  | 55 => ⟨S1x8x128x2x64, .f32⟩
  | 56 => ⟨S8x128x2x64, .f32⟩
  | 57 => ⟨S1x8x128x2x64, .f32⟩
  | 58 => ⟨S128x128x2x64, .f32⟩
  | 59 => ⟨S128x132x2x64, .f32⟩
  | 60 => ⟨S128x128x2x64, .f32⟩
  | 61 => ⟨S1x128x128x2x64, .f32⟩
  | 62 => ⟨S128x128x2x64, .f32⟩
  | 63 => ⟨S128x132x2x64, .f32⟩
  | 64 => ⟨S128x128x2x64, .f32⟩
  | 65 => ⟨S1x128x128x2x64, .f32⟩
  | 66 => ⟨S16896x1024, .bf16⟩
  | 67 => ⟨S16896x128, .bf16⟩
  | 68 => ⟨S16896x128, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_0 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_c : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_cst_1 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_cst_2 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_cst_3 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_cst_4 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩

abbrev nD : Nat := 1
abbrev τ : Topo := Topo.v7x

variable {F : FTy → Type} [FloatOps F]
-- ==== Kernel4.lean ====
abbrev S16896x1024 : Shape := ⟨2, ![16896, 1024]⟩
abbrev S1x1024x2120 : Shape := ⟨3, ![1, 1024, 2120]⟩
abbrev S1024 : Shape := ⟨1, ![1024]⟩
abbrev S2048 : Shape := ⟨1, ![2048]⟩
abbrev S512 : Shape := ⟨1, ![512]⟩
abbrev S_ : Shape := ⟨0, ![]⟩
abbrev S2560 : Shape := ⟨1, ![2560]⟩
abbrev S32 : Shape := ⟨1, ![32]⟩
abbrev S2560x1 : Shape := ⟨2, ![2560, 1]⟩
abbrev S1x32 : Shape := ⟨2, ![1, 32]⟩
abbrev S2560x32 : Shape := ⟨2, ![2560, 32]⟩
abbrev S2560x128 : Shape := ⟨2, ![2560, 128]⟩
abbrev S1024x2120 : Shape := ⟨2, ![1024, 2120]⟩
abbrev S1024x1024 : Shape := ⟨2, ![1024, 1024]⟩
abbrev S1024x256 : Shape := ⟨2, ![1024, 256]⟩
abbrev S1024x512 : Shape := ⟨2, ![1024, 512]⟩
abbrev S1024x64 : Shape := ⟨2, ![1024, 64]⟩
abbrev S1024x1 : Shape := ⟨2, ![1024, 1]⟩
abbrev S1024x2176 : Shape := ⟨2, ![1024, 2176]⟩
abbrev S1x2176 : Shape := ⟨2, ![1, 2176]⟩
abbrev S16896x256 : Shape := ⟨2, ![16896, 256]⟩
abbrev S16896x512 : Shape := ⟨2, ![16896, 512]⟩
abbrev S16896x128 : Shape := ⟨2, ![16896, 128]⟩
abbrev S512x1024 : Shape := ⟨2, ![512, 1024]⟩
abbrev S512x128 : Shape := ⟨2, ![512, 128]⟩
abbrev S512x256 : Shape := ⟨2, ![512, 256]⟩
abbrev S512x512 : Shape := ⟨2, ![512, 512]⟩
abbrev S1x1024 : Shape := ⟨2, ![1, 1024]⟩
abbrev S1x256 : Shape := ⟨2, ![1, 256]⟩
abbrev S1x512 : Shape := ⟨2, ![1, 512]⟩
abbrev S1024x128 : Shape := ⟨2, ![1024, 128]⟩
abbrev S1x128 : Shape := ⟨2, ![1, 128]⟩
abbrev S16384x256 : Shape := ⟨2, ![16384, 256]⟩
abbrev S8x2048x4x64 : Shape := ⟨4, ![8, 2048, 4, 64]⟩
abbrev S1x8x2048x4x64 : Shape := ⟨5, ![1, 8, 2048, 4, 64]⟩
abbrev S16384x64 : Shape := ⟨2, ![16384, 64]⟩
abbrev S8x2048x64 : Shape := ⟨3, ![8, 2048, 64]⟩
abbrev S1x8x2048x64 : Shape := ⟨4, ![1, 8, 2048, 64]⟩
abbrev S128x4x4x64 : Shape := ⟨4, ![128, 4, 4, 64]⟩
abbrev S1x128x4x4x64 : Shape := ⟨5, ![1, 128, 4, 4, 64]⟩
abbrev S512x64 : Shape := ⟨2, ![512, 64]⟩
abbrev S128x4x64 : Shape := ⟨3, ![128, 4, 64]⟩
abbrev S1x128x4x64 : Shape := ⟨4, ![1, 128, 4, 64]⟩

abbrev nBuf : Space → Nat
  | .hbm => 91
  | .vmem => 26
  | .smem => 0
  | _ => 0

abbrev bufTy : (tb : Table) → Fin (tcTables nBuf tb) → BufTy
  | .hbm, ⟨0, _⟩ => ⟨S16896x1024, .f32⟩
  | .hbm, ⟨1, _⟩ => ⟨S1x1024x2120, .f32⟩
  | .hbm, ⟨2, _⟩ => ⟨S1024, .i32⟩
  | .hbm, ⟨3, _⟩ => ⟨S1024, .i1⟩
  | .hbm, ⟨4, _⟩ => ⟨S2048, .i32⟩
  | .hbm, ⟨5, _⟩ => ⟨S512, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S_, .i1⟩
  | .hbm, ⟨22, _⟩ => ⟨S512, .i1⟩
  | .hbm, ⟨23, _⟩ => ⟨S512, .i1⟩
  | .hbm, ⟨24, _⟩ => ⟨S512, .i1⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S2560, .i32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S2560, .f32⟩
  | .hbm, ⟨38, _⟩ => ⟨S2560x1, .f32⟩
  | .hbm, ⟨39, _⟩ => ⟨S1x32, .f32⟩
  | .hbm, ⟨40, _⟩ => ⟨S2560x32, .f32⟩
  | .hbm, ⟨41, _⟩ => ⟨S2560x32, .f32⟩
  | .hbm, ⟨42, _⟩ => ⟨S2560x32, .f32⟩
  | .hbm, ⟨43, _⟩ => ⟨S2560x32, .f32⟩
  | .hbm, ⟨44, _⟩ => ⟨S2560x32, .f32⟩
  | .hbm, ⟨45, _⟩ => ⟨S2560x128, .f32⟩
  | .hbm, ⟨46, _⟩ => ⟨S2560x32, .f32⟩
  | .hbm, ⟨47, _⟩ => ⟨S2560x32, .f32⟩
  | .hbm, ⟨48, _⟩ => ⟨S2560x128, .f32⟩
  | .hbm, ⟨49, _⟩ => ⟨S1024x2120, .f32⟩
  | .hbm, ⟨50, _⟩ => ⟨S1024x1024, .f32⟩
  | .hbm, ⟨51, _⟩ => ⟨S1024x256, .f32⟩
  | .hbm, ⟨52, _⟩ => ⟨S1024x256, .f32⟩
  | .hbm, ⟨53, _⟩ => ⟨S1024x512, .f32⟩
  | .hbm, ⟨54, _⟩ => ⟨S1024x64, .f32⟩
  | .hbm, ⟨55, _⟩ => ⟨S_, .i32⟩
  | .hbm, ⟨56, _⟩ => ⟨S1024, .i32⟩
  | .hbm, ⟨57, _⟩ => ⟨S1024, .i32⟩
  | .hbm, ⟨58, _⟩ => ⟨S1024, .i32⟩
  | .hbm, ⟨59, _⟩ => ⟨S1024x1, .i32⟩
  | .hbm, ⟨60, _⟩ => ⟨S1024x1024, .f32⟩
  | .hbm, ⟨61, _⟩ => ⟨S1024x2176, .f32⟩
  | .hbm, ⟨62, _⟩ => ⟨S1024x2176, .bf16⟩
  | .hbm, ⟨63, _⟩ => ⟨S_, .f32⟩
  | .hbm, ⟨64, _⟩ => ⟨S1x2176, .f32⟩
  | .hbm, ⟨65, _⟩ => ⟨S16896x1024, .bf16⟩
  | .hbm, ⟨66, _⟩ => ⟨S16896x256, .f32⟩
  | .hbm, ⟨67, _⟩ => ⟨S16896x256, .bf16⟩
  | .hbm, ⟨68, _⟩ => ⟨S16896x256, .f32⟩
  | .hbm, ⟨69, _⟩ => ⟨S16896x512, .bf16⟩
  | .hbm, ⟨70, _⟩ => ⟨S16896x128, .f32⟩
  | .hbm, ⟨71, _⟩ => ⟨S16896x128, .bf16⟩
  | .hbm, ⟨72, _⟩ => ⟨S16896x256, .bf16⟩
  | .hbm, ⟨73, _⟩ => ⟨S16384x256, .f32⟩
  | .hbm, ⟨74, _⟩ => ⟨S8x2048x4x64, .f32⟩
  | .hbm, ⟨75, _⟩ => ⟨S1x8x2048x4x64, .f32⟩
  | .hbm, ⟨76, _⟩ => ⟨S16384x256, .f32⟩
  | .hbm, ⟨77, _⟩ => ⟨S8x2048x4x64, .f32⟩
  | .hbm, ⟨78, _⟩ => ⟨S1x8x2048x4x64, .f32⟩
  | .hbm, ⟨79, _⟩ => ⟨S16384x64, .f32⟩
  | .hbm, ⟨80, _⟩ => ⟨S8x2048x64, .f32⟩
  | .hbm, ⟨81, _⟩ => ⟨S1x8x2048x64, .f32⟩
  | .hbm, ⟨82, _⟩ => ⟨S512x256, .f32⟩
  | .hbm, ⟨83, _⟩ => ⟨S128x4x4x64, .f32⟩
  | .hbm, ⟨84, _⟩ => ⟨S1x128x4x4x64, .f32⟩
  | .hbm, ⟨85, _⟩ => ⟨S512x256, .f32⟩
  | .hbm, ⟨86, _⟩ => ⟨S128x4x4x64, .f32⟩
  | .hbm, ⟨87, _⟩ => ⟨S1x128x4x4x64, .f32⟩
  | .hbm, ⟨88, _⟩ => ⟨S512x64, .f32⟩
  | .hbm, ⟨89, _⟩ => ⟨S128x4x64, .f32⟩
  | .hbm, ⟨90, _⟩ => ⟨S1x128x4x64, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x2176, .bf16⟩
  | .local _ .vmem, ⟨5, _⟩ => ⟨S1x2176, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x256, .f32⟩
  | .local _ .vmem, ⟨13, _⟩ => ⟨S512x256, .f32⟩
  | .local _ .vmem, ⟨14, _⟩ => ⟨S512x256, .bf16⟩
  | .local _ .vmem, ⟨15, _⟩ => ⟨S512x256, .bf16⟩
  | .local _ .vmem, ⟨16, _⟩ => ⟨S512x256, .f32⟩
  | .local _ .vmem, ⟨17, _⟩ => ⟨S512x256, .f32⟩
  | .local _ .vmem, ⟨18, _⟩ => ⟨S512x512, .bf16⟩
  | .local _ .vmem, ⟨19, _⟩ => ⟨S512x512, .bf16⟩
  | .local _ .vmem, ⟨20, _⟩ => ⟨S512x128, .f32⟩
  | .local _ .vmem, ⟨21, _⟩ => ⟨S512x128, .f32⟩
  | .local _ .vmem, ⟨22, _⟩ => ⟨S512x128, .bf16⟩
  | .local _ .vmem, ⟨23, _⟩ => ⟨S512x128, .bf16⟩
  | .local _ .vmem, ⟨24, _⟩ => ⟨S512x256, .bf16⟩
  | .local _ .vmem, ⟨25, _⟩ => ⟨S512x256, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v2 : Ref sig .tc := ⟨.hbm, 27, rfl⟩
abbrev main_c_2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_3 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_4 : Ref sig .tc := ⟨.hbm, 63, rfl⟩
abbrev main_v35 : Ref sig .tc := ⟨.hbm, 64, rfl⟩
abbrev main_v36_0 : Ref sig .tc := ⟨.hbm, 65, rfl⟩
abbrev main_v36_1 : Ref sig .tc := ⟨.hbm, 66, rfl⟩
abbrev main_v36_2 : Ref sig .tc := ⟨.hbm, 67, rfl⟩
abbrev main_v36_3 : Ref sig .tc := ⟨.hbm, 68, rfl⟩
abbrev main_v36_4 : Ref sig .tc := ⟨.hbm, 69, rfl⟩
abbrev main_v36_5 : Ref sig .tc := ⟨.hbm, 70, rfl⟩
abbrev main_v36_6 : Ref sig .tc := ⟨.hbm, 71, rfl⟩
abbrev main_v36_7 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c33_i32 : BitVec 32 := 33#32
  let v0 : BitVec 32 := Scalar.subi arg0 c33_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S16896x1024 : Shape := ⟨2, ![16896, 1024]⟩
abbrev S1x1024x2120 : Shape := ⟨3, ![1, 1024, 2120]⟩
abbrev S16384x1024 : Shape := ⟨2, ![16384, 1024]⟩
abbrev S8x2048x1024 : Shape := ⟨3, ![8, 2048, 1024]⟩
abbrev S1024x2120 : Shape := ⟨2, ![1024, 2120]⟩
abbrev S2048 : Shape := ⟨1, ![2048]⟩
abbrev S8x2048x2120 : Shape := ⟨3, ![8, 2048, 2120]⟩
abbrev S8x2048x256 : Shape := ⟨3, ![8, 2048, 256]⟩
abbrev S8x2048x512 : Shape := ⟨3, ![8, 2048, 512]⟩
abbrev S8x2048x64 : Shape := ⟨3, ![8, 2048, 64]⟩
abbrev S8x2048x16x64 : Shape := ⟨4, ![8, 2048, 16, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S8x2048x16x32 : Shape := ⟨4, ![8, 2048, 16, 32]⟩
abbrev S1x2048x1x32 : Shape := ⟨4, ![1, 2048, 1, 32]⟩
abbrev S8x2048x4x64 : Shape := ⟨4, ![8, 2048, 4, 64]⟩
abbrev S8x2048x4x32 : Shape := ⟨4, ![8, 2048, 4, 32]⟩
abbrev S8x2048x8x64 : Shape := ⟨4, ![8, 2048, 8, 64]⟩
abbrev S8x2048x8x32 : Shape := ⟨4, ![8, 2048, 8, 32]⟩
abbrev S8x2048x1x64 : Shape := ⟨4, ![8, 2048, 1, 64]⟩
abbrev S8x2048x1x32 : Shape := ⟨4, ![8, 2048, 1, 32]⟩
abbrev S512x1024 : Shape := ⟨2, ![512, 1024]⟩
abbrev S128x4x1024 : Shape := ⟨3, ![128, 4, 1024]⟩
abbrev S4 : Shape := ⟨1, ![4]⟩
abbrev S128x4x2120 : Shape := ⟨3, ![128, 4, 2120]⟩
abbrev S128x4x256 : Shape := ⟨3, ![128, 4, 256]⟩
abbrev S128x4x512 : Shape := ⟨3, ![128, 4, 512]⟩
abbrev S128x4x64 : Shape := ⟨3, ![128, 4, 64]⟩
abbrev S128x4x16x64 : Shape := ⟨4, ![128, 4, 16, 64]⟩
abbrev S4x1 : Shape := ⟨2, ![4, 1]⟩
abbrev S4x32 : Shape := ⟨2, ![4, 32]⟩
abbrev S4x1x32 : Shape := ⟨3, ![4, 1, 32]⟩
abbrev S128x4x16x32 : Shape := ⟨4, ![128, 4, 16, 32]⟩
abbrev S1x4x1x32 : Shape := ⟨4, ![1, 4, 1, 32]⟩
abbrev S128x4x4x64 : Shape := ⟨4, ![128, 4, 4, 64]⟩
abbrev S128x4x4x32 : Shape := ⟨4, ![128, 4, 4, 32]⟩
abbrev S128x4x8x64 : Shape := ⟨4, ![128, 4, 8, 64]⟩
abbrev S128x4x8x32 : Shape := ⟨4, ![128, 4, 8, 32]⟩
abbrev S128x4x1x64 : Shape := ⟨4, ![128, 4, 1, 64]⟩
abbrev S128x4x1x32 : Shape := ⟨4, ![128, 4, 1, 32]⟩
abbrev S16384x2x2x4x64 : Shape := ⟨5, ![16384, 2, 2, 4, 64]⟩
abbrev S16384x2x4x2x64 : Shape := ⟨5, ![16384, 2, 4, 2, 64]⟩
abbrev S512x2x2x4x64 : Shape := ⟨5, ![512, 2, 2, 4, 64]⟩
abbrev S512x2x4x2x64 : Shape := ⟨5, ![512, 2, 4, 2, 64]⟩
abbrev S16384x256 : Shape := ⟨2, ![16384, 256]⟩
abbrev S512x256 : Shape := ⟨2, ![512, 256]⟩
abbrev S16896x256 : Shape := ⟨2, ![16896, 256]⟩
abbrev S16384x512 : Shape := ⟨2, ![16384, 512]⟩
abbrev S512x512 : Shape := ⟨2, ![512, 512]⟩
abbrev S16896x512 : Shape := ⟨2, ![16896, 512]⟩
abbrev S1x8x2048x4x64 : Shape := ⟨5, ![1, 8, 2048, 4, 64]⟩
abbrev S1x8x2048x64 : Shape := ⟨4, ![1, 8, 2048, 64]⟩
abbrev S1x128x4x4x64 : Shape := ⟨5, ![1, 128, 4, 4, 64]⟩
abbrev S1x128x4x64 : Shape := ⟨4, ![1, 128, 4, 64]⟩

abbrev nBuf : Space → Nat
  | .hbm => 331
  | .vmem => 0
  | .smem => 0
  | _ => 0

abbrev hbmTy0_0 (i : Nat) : BufTy := match i % 128 with
  | 0 => ⟨S16896x1024, .f32⟩
  | 1 => ⟨S1x1024x2120, .f32⟩
  | 2 => ⟨S16384x1024, .f32⟩
  | 3 => ⟨S8x2048x1024, .f32⟩
  | 4 => ⟨S1024x2120, .f32⟩
  | 5 => ⟨S2048, .i32⟩
  | 6 => ⟨S8x2048x2120, .f32⟩
  | 7 => ⟨S8x2048x1024, .f32⟩
  | 8 => ⟨S8x2048x256, .f32⟩
  | 9 => ⟨S8x2048x256, .f32⟩
  | 10 => ⟨S8x2048x512, .f32⟩
  | 11 => ⟨S8x2048x64, .f32⟩
  | 12 => ⟨S8x2048x16x64, .f32⟩
  | 13 => ⟨S32, .f32⟩
  | 14 => ⟨S_, .f32⟩
  | 15 => ⟨S32, .f32⟩
  | 16 => ⟨S32, .f32⟩
  | 17 => ⟨S32, .f32⟩
  | 18 => ⟨S2048, .f32⟩
  | 19 => ⟨S2048x1, .f32⟩
  | 20 => ⟨S1x32, .f32⟩
  | 21 => ⟨S2048x32, .f32⟩
  | 22 => ⟨S2048x32, .f32⟩
  | 23 => ⟨S2048x32, .f32⟩
  | 24 => ⟨S2048x32, .f32⟩
  | 25 => ⟨S2048x1x32, .f32⟩
  | 26 => ⟨S2048x32, .f32⟩
  | 27 => ⟨S2048x1x32, .f32⟩
  | 28 => ⟨S8x2048x16x32, .f32⟩
  | 29 => ⟨S8x2048x16x32, .f32⟩
  | 30 => ⟨S1x2048x1x32, .f32⟩
  | 31 => ⟨S8x2048x16x32, .f32⟩
  | 32 => ⟨S8x2048x16x32, .f32⟩
  | 33 => ⟨S1x2048x1x32, .f32⟩
  | 34 => ⟨S8x2048x16x32, .f32⟩
  | 35 => ⟨S8x2048x16x32, .f32⟩
  | 36 => ⟨S8x2048x16x32, .f32⟩
  | 37 => ⟨S1x2048x1x32, .f32⟩
  | 38 => ⟨S8x2048x16x32, .f32⟩
  | 39 => ⟨S8x2048x16x32, .f32⟩
  | 40 => ⟨S1x2048x1x32, .f32⟩
  | 41 => ⟨S8x2048x16x32, .f32⟩
  | 42 => ⟨S8x2048x16x32, .f32⟩
  | 43 => ⟨S8x2048x16x32, .f32⟩
  | 44 => ⟨S8x2048x16x64, .f32⟩
  | 45 => ⟨S8x2048x4x64, .f32⟩
  | 46 => ⟨S32, .f32⟩
  | 47 => ⟨S_, .f32⟩
  | 48 => ⟨S32, .f32⟩
  | 49 => ⟨S32, .f32⟩
  | 50 => ⟨S32, .f32⟩
  | 51 => ⟨S2048, .f32⟩
  | 52 => ⟨S2048x1, .f32⟩
  | 53 => ⟨S1x32, .f32⟩
  | 54 => ⟨S2048x32, .f32⟩
  | 55 => ⟨S2048x32, .f32⟩
  | 56 => ⟨S2048x32, .f32⟩
  | 57 => ⟨S2048x32, .f32⟩
  | 58 => ⟨S2048x1x32, .f32⟩
  | 59 => ⟨S2048x32, .f32⟩
  | 60 => ⟨S2048x1x32, .f32⟩
  | 61 => ⟨S8x2048x4x32, .f32⟩
  | 62 => ⟨S8x2048x4x32, .f32⟩
  | 63 => ⟨S1x2048x1x32, .f32⟩
  | 64 => ⟨S8x2048x4x32, .f32⟩
  | 65 => ⟨S8x2048x4x32, .f32⟩
  | 66 => ⟨S1x2048x1x32, .f32⟩
  | 67 => ⟨S8x2048x4x32, .f32⟩
  | 68 => ⟨S8x2048x4x32, .f32⟩
  | 69 => ⟨S8x2048x4x32, .f32⟩
  | 70 => ⟨S1x2048x1x32, .f32⟩
  | 71 => ⟨S8x2048x4x32, .f32⟩
  | 72 => ⟨S8x2048x4x32, .f32⟩
  | 73 => ⟨S1x2048x1x32, .f32⟩
  | 74 => ⟨S8x2048x4x32, .f32⟩
  | 75 => ⟨S8x2048x4x32, .f32⟩
  | 76 => ⟨S8x2048x4x32, .f32⟩
  | 77 => ⟨S8x2048x4x64, .f32⟩
  | 78 => ⟨S8x2048x4x64, .f32⟩
  | 79 => ⟨S8x2048x8x64, .f32⟩
  | 80 => ⟨S32, .f32⟩
  | 81 => ⟨S_, .f32⟩
  | 82 => ⟨S32, .f32⟩
  | 83 => ⟨S32, .f32⟩
  | 84 => ⟨S32, .f32⟩
  | 85 => ⟨S2048, .f32⟩
  | 86 => ⟨S2048x1, .f32⟩
  | 87 => ⟨S1x32, .f32⟩
  | 88 => ⟨S2048x32, .f32⟩
  | 89 => ⟨S2048x32, .f32⟩
  | 90 => ⟨S2048x32, .f32⟩
  | 91 => ⟨S2048x32, .f32⟩
  | 92 => ⟨S2048x1x32, .f32⟩
  | 93 => ⟨S2048x32, .f32⟩
  | 94 => ⟨S2048x1x32, .f32⟩
  | 95 => ⟨S8x2048x8x32, .f32⟩
  | 96 => ⟨S8x2048x8x32, .f32⟩
  | 97 => ⟨S1x2048x1x32, .f32⟩
  | 98 => ⟨S8x2048x8x32, .f32⟩
  | 99 => ⟨S8x2048x8x32, .f32⟩
  | 100 => ⟨S1x2048x1x32, .f32⟩
  | 101 => ⟨S8x2048x8x32, .f32⟩
  | 102 => ⟨S8x2048x8x32, .f32⟩
  | 103 => ⟨S8x2048x8x32, .f32⟩
  | 104 => ⟨S1x2048x1x32, .f32⟩
  | 105 => ⟨S8x2048x8x32, .f32⟩
  | 106 => ⟨S8x2048x8x32, .f32⟩
  | 107 => ⟨S1x2048x1x32, .f32⟩
  | 108 => ⟨S8x2048x8x32, .f32⟩
  | 109 => ⟨S8x2048x8x32, .f32⟩
  | 110 => ⟨S8x2048x8x32, .f32⟩
  | 111 => ⟨S8x2048x8x64, .f32⟩
  | 112 => ⟨S8x2048x1x64, .f32⟩
  | 113 => ⟨S32, .f32⟩
  | 114 => ⟨S_, .f32⟩
  | 115 => ⟨S32, .f32⟩
  | 116 => ⟨S32, .f32⟩
  | 117 => ⟨S32, .f32⟩
  | 118 => ⟨S2048, .f32⟩
  | 119 => ⟨S2048x1, .f32⟩
  | 120 => ⟨S1x32, .f32⟩
  | 121 => ⟨S2048x32, .f32⟩
  | 122 => ⟨S2048x32, .f32⟩
  | 123 => ⟨S2048x32, .f32⟩
  | 124 => ⟨S2048x32, .f32⟩
  | 125 => ⟨S2048x1x32, .f32⟩
  | 126 => ⟨S2048x32, .f32⟩
  | 127 => ⟨S2048x1x32, .f32⟩
  | _ => ⟨S16896x1024, .f32⟩

abbrev hbmTy0_1 (i : Nat) : BufTy := match i % 128 with
  | 0 => ⟨S8x2048x1x32, .f32⟩
  | 1 => ⟨S8x2048x1x32, .f32⟩
  | 2 => ⟨S1x2048x1x32, .f32⟩
  | 3 => ⟨S8x2048x1x32, .f32⟩
  | 4 => ⟨S8x2048x1x32, .f32⟩
  | 5 => ⟨S1x2048x1x32, .f32⟩
  | 6 => ⟨S8x2048x1x32, .f32⟩
  | 7 => ⟨S8x2048x1x32, .f32⟩
  | 8 => ⟨S8x2048x1x32, .f32⟩
  | 9 => ⟨S1x2048x1x32, .f32⟩
  | 10 => ⟨S8x2048x1x32, .f32⟩
  | 11 => ⟨S8x2048x1x32, .f32⟩
  | 12 => ⟨S1x2048x1x32, .f32⟩
  | 13 => ⟨S8x2048x1x32, .f32⟩
  | 14 => ⟨S8x2048x1x32, .f32⟩
  | 15 => ⟨S8x2048x1x32, .f32⟩
  | 16 => ⟨S8x2048x1x64, .f32⟩
  | 17 => ⟨S8x2048x64, .f32⟩
  | 18 => ⟨S512x1024, .f32⟩
  | 19 => ⟨S128x4x1024, .f32⟩
  | 20 => ⟨S1024x2120, .f32⟩
  | 21 => ⟨S4, .i32⟩
  | 22 => ⟨S_, .i32⟩
  | 23 => ⟨S4, .i32⟩
  | 24 => ⟨S4, .i32⟩
  | 25 => ⟨S128x4x2120, .f32⟩
  | 26 => ⟨S128x4x1024, .f32⟩
  | 27 => ⟨S128x4x256, .f32⟩
  | 28 => ⟨S128x4x256, .f32⟩
  | 29 => ⟨S128x4x512, .f32⟩
  | 30 => ⟨S128x4x64, .f32⟩
  | 31 => ⟨S128x4x16x64, .f32⟩
  | 32 => ⟨S32, .f32⟩
  | 33 => ⟨S_, .f32⟩
  | 34 => ⟨S32, .f32⟩
  | 35 => ⟨S32, .f32⟩
  | 36 => ⟨S32, .f32⟩
  | 37 => ⟨S4, .f32⟩
  | 38 => ⟨S4x1, .f32⟩
  | 39 => ⟨S1x32, .f32⟩
  | 40 => ⟨S4x32, .f32⟩
  | 41 => ⟨S4x32, .f32⟩
  | 42 => ⟨S4x32, .f32⟩
  | 43 => ⟨S4x32, .f32⟩
  | 44 => ⟨S4x1x32, .f32⟩
  | 45 => ⟨S4x32, .f32⟩
  | 46 => ⟨S4x1x32, .f32⟩
  | 47 => ⟨S128x4x16x32, .f32⟩
  | 48 => ⟨S128x4x16x32, .f32⟩
  | 49 => ⟨S1x4x1x32, .f32⟩
  | 50 => ⟨S128x4x16x32, .f32⟩
  | 51 => ⟨S128x4x16x32, .f32⟩
  | 52 => ⟨S1x4x1x32, .f32⟩
  | 53 => ⟨S128x4x16x32, .f32⟩
  | 54 => ⟨S128x4x16x32, .f32⟩
  | 55 => ⟨S128x4x16x32, .f32⟩
  | 56 => ⟨S1x4x1x32, .f32⟩
  | 57 => ⟨S128x4x16x32, .f32⟩
  | 58 => ⟨S128x4x16x32, .f32⟩
  | 59 => ⟨S1x4x1x32, .f32⟩
  | 60 => ⟨S128x4x16x32, .f32⟩
  | 61 => ⟨S128x4x16x32, .f32⟩
  | 62 => ⟨S128x4x16x32, .f32⟩
  | 63 => ⟨S128x4x16x64, .f32⟩
  | 64 => ⟨S128x4x4x64, .f32⟩
  | 65 => ⟨S32, .f32⟩
  | 66 => ⟨S_, .f32⟩
  | 67 => ⟨S32, .f32⟩
  | 68 => ⟨S32, .f32⟩
  | 69 => ⟨S32, .f32⟩
  | 70 => ⟨S4, .f32⟩
  | 71 => ⟨S4x1, .f32⟩
  | 72 => ⟨S1x32, .f32⟩
  | 73 => ⟨S4x32, .f32⟩
  | 74 => ⟨S4x32, .f32⟩
  | 75 => ⟨S4x32, .f32⟩
  | 76 => ⟨S4x32, .f32⟩
  | 77 => ⟨S4x1x32, .f32⟩
  | 78 => ⟨S4x32, .f32⟩
  | 79 => ⟨S4x1x32, .f32⟩
  | 80 => ⟨S128x4x4x32, .f32⟩
  | 81 => ⟨S128x4x4x32, .f32⟩
  | 82 => ⟨S1x4x1x32, .f32⟩
  | 83 => ⟨S128x4x4x32, .f32⟩
  | 84 => ⟨S128x4x4x32, .f32⟩
  | 85 => ⟨S1x4x1x32, .f32⟩
  | 86 => ⟨S128x4x4x32, .f32⟩
  | 87 => ⟨S128x4x4x32, .f32⟩
  | 88 => ⟨S128x4x4x32, .f32⟩
  | 89 => ⟨S1x4x1x32, .f32⟩
  | 90 => ⟨S128x4x4x32, .f32⟩
  | 91 => ⟨S128x4x4x32, .f32⟩
  | 92 => ⟨S1x4x1x32, .f32⟩
  | 93 => ⟨S128x4x4x32, .f32⟩
  | 94 => ⟨S128x4x4x32, .f32⟩
  | 95 => ⟨S128x4x4x32, .f32⟩
  | 96 => ⟨S128x4x4x64, .f32⟩
  | 97 => ⟨S128x4x4x64, .f32⟩
  | 98 => ⟨S128x4x8x64, .f32⟩
  | 99 => ⟨S32, .f32⟩
  | 100 => ⟨S_, .f32⟩
  | 101 => ⟨S32, .f32⟩
  | 102 => ⟨S32, .f32⟩
  | 103 => ⟨S32, .f32⟩
  | 104 => ⟨S4, .f32⟩
  | 105 => ⟨S4x1, .f32⟩
  | 106 => ⟨S1x32, .f32⟩
  | 107 => ⟨S4x32, .f32⟩
  | 108 => ⟨S4x32, .f32⟩
  | 109 => ⟨S4x32, .f32⟩
  | 110 => ⟨S4x32, .f32⟩
  | 111 => ⟨S4x1x32, .f32⟩
  | 112 => ⟨S4x32, .f32⟩
  | 113 => ⟨S4x1x32, .f32⟩
  | 114 => ⟨S128x4x8x32, .f32⟩
  | 115 => ⟨S128x4x8x32, .f32⟩
  | 116 => ⟨S1x4x1x32, .f32⟩
  | 117 => ⟨S128x4x8x32, .f32⟩
  | 118 => ⟨S128x4x8x32, .f32⟩
  | 119 => ⟨S1x4x1x32, .f32⟩
  | 120 => ⟨S128x4x8x32, .f32⟩
  | 121 => ⟨S128x4x8x32, .f32⟩
  | 122 => ⟨S128x4x8x32, .f32⟩
  | 123 => ⟨S1x4x1x32, .f32⟩
  | 124 => ⟨S128x4x8x32, .f32⟩
  | 125 => ⟨S128x4x8x32, .f32⟩
  | 126 => ⟨S1x4x1x32, .f32⟩
  | 127 => ⟨S128x4x8x32, .f32⟩
  | _ => ⟨S16896x1024, .f32⟩

abbrev hbmTy0_2 (i : Nat) : BufTy := match i % 128 with
  | 0 => ⟨S128x4x8x32, .f32⟩
  | 1 => ⟨S128x4x8x32, .f32⟩
  | 2 => ⟨S128x4x8x64, .f32⟩
  | 3 => ⟨S128x4x1x64, .f32⟩
  | 4 => ⟨S32, .f32⟩
  | 5 => ⟨S_, .f32⟩
  | 6 => ⟨S32, .f32⟩
  | 7 => ⟨S32, .f32⟩
  | 8 => ⟨S32, .f32⟩
  | 9 => ⟨S4, .f32⟩
  | 10 => ⟨S4x1, .f32⟩
  | 11 => ⟨S1x32, .f32⟩
  | 12 => ⟨S4x32, .f32⟩
  | 13 => ⟨S4x32, .f32⟩
  | 14 => ⟨S4x32, .f32⟩
  | 15 => ⟨S4x32, .f32⟩
  | 16 => ⟨S4x1x32, .f32⟩
  | 17 => ⟨S4x32, .f32⟩
  | 18 => ⟨S4x1x32, .f32⟩
  | 19 => ⟨S128x4x1x32, .f32⟩
  | 20 => ⟨S128x4x1x32, .f32⟩
  | 21 => ⟨S1x4x1x32, .f32⟩
  | 22 => ⟨S128x4x1x32, .f32⟩
  | 23 => ⟨S128x4x1x32, .f32⟩
  | 24 => ⟨S1x4x1x32, .f32⟩
  | 25 => ⟨S128x4x1x32, .f32⟩
  | 26 => ⟨S128x4x1x32, .f32⟩
  | 27 => ⟨S128x4x1x32, .f32⟩
  | 28 => ⟨S1x4x1x32, .f32⟩
  | 29 => ⟨S128x4x1x32, .f32⟩
  | 30 => ⟨S128x4x1x32, .f32⟩
  | 31 => ⟨S1x4x1x32, .f32⟩
  | 32 => ⟨S128x4x1x32, .f32⟩
  | 33 => ⟨S128x4x1x32, .f32⟩
  | 34 => ⟨S128x4x1x32, .f32⟩
  | 35 => ⟨S128x4x1x64, .f32⟩
  | 36 => ⟨S128x4x64, .f32⟩
  | 37 => ⟨S_, .f32⟩
  | 38 => ⟨S8x2048x16x64, .f32⟩
  | 39 => ⟨S8x2048x16x64, .f32⟩
  | 40 => ⟨S16384x2x2x4x64, .f32⟩
  | 41 => ⟨S16384x2x4x2x64, .f32⟩
  | 42 => ⟨S16384x1024, .f32⟩
  | 43 => ⟨S_, .f32⟩
  | 44 => ⟨S128x4x16x64, .f32⟩
  | 45 => ⟨S128x4x16x64, .f32⟩
  | 46 => ⟨S512x2x2x4x64, .f32⟩
  | 47 => ⟨S512x2x4x2x64, .f32⟩
  | 48 => ⟨S512x1024, .f32⟩
  | 49 => ⟨S16896x1024, .f32⟩
  | 50 => ⟨S16384x256, .f32⟩
  | 51 => ⟨S512x256, .f32⟩
  | 52 => ⟨S16896x256, .f32⟩
  | 53 => ⟨S16384x256, .f32⟩
  | 54 => ⟨S512x256, .f32⟩
  | 55 => ⟨S16896x256, .f32⟩
  | 56 => ⟨S_, .f32⟩
  | 57 => ⟨S8x2048x8x64, .f32⟩
  | 58 => ⟨S8x2048x8x64, .f32⟩
  | 59 => ⟨S16384x512, .f32⟩
  | 60 => ⟨S_, .f32⟩
  | 61 => ⟨S128x4x8x64, .f32⟩
  | 62 => ⟨S128x4x8x64, .f32⟩
  | 63 => ⟨S512x512, .f32⟩
  | 64 => ⟨S16896x512, .f32⟩
  | 65 => ⟨S16896x1024, .bf16⟩
  | 66 => ⟨S16896x256, .bf16⟩
  | 67 => ⟨S16896x256, .bf16⟩
  | 68 => ⟨S16896x512, .bf16⟩
  | 69 => ⟨S1x8x2048x4x64, .f32⟩
  | 70 => ⟨S1x8x2048x4x64, .f32⟩
  | 71 => ⟨S1x8x2048x64, .f32⟩
  | 72 => ⟨S1x128x4x4x64, .f32⟩
  | 73 => ⟨S1x128x4x4x64, .f32⟩
  | 74 => ⟨S1x128x4x64, .f32⟩
  | _ => ⟨S16896x1024, .f32⟩

abbrev hbmTy (i : Nat) : BufTy := match i / 128 with
  | 0 => hbmTy0_0 i
  | 1 => hbmTy0_1 i
  | 2 => hbmTy0_2 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_cst_0 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_cst_1 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_cst_2 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_c : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_cst_3 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_cst_4 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_cst_5 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_v243 : Ref sig .tc := ⟨.hbm, 253, rfl⟩
abbrev main_v244 : Ref sig .tc := ⟨.hbm, 254, rfl⟩
abbrev main_v245 : Ref sig .tc := ⟨.hbm, 255, rfl⟩
abbrev main_v246 : Ref sig .tc := ⟨.hbm, 256, rfl⟩
abbrev main_v247 : Ref sig .tc := ⟨.hbm, 257, rfl⟩
abbrev main_v248 : Ref sig .tc := ⟨.hbm, 258, rfl⟩
abbrev main_v249 : Ref sig .tc := ⟨.hbm, 259, rfl⟩
abbrev main_v250 : Ref sig .tc := ⟨.hbm, 260, rfl⟩
abbrev main_cst_6 : Ref sig .tc := ⟨.hbm, 261, rfl⟩
abbrev main_v251 : Ref sig .tc := ⟨.hbm, 262, rfl⟩
abbrev main_v252 : Ref sig .tc := ⟨.hbm, 263, rfl⟩
abbrev main_v253 : Ref sig .tc := ⟨.hbm, 264, rfl⟩
abbrev main_v254 : Ref sig .tc := ⟨.hbm, 265, rfl⟩
abbrev main_v255 : Ref sig .tc := ⟨.hbm, 266, rfl⟩
abbrev main_v256 : Ref sig .tc := ⟨.hbm, 267, rfl⟩
abbrev main_v257 : Ref sig .tc := ⟨.hbm, 268, rfl⟩
abbrev main_v258 : Ref sig .tc := ⟨.hbm, 269, rfl⟩
abbrev main_v259 : Ref sig .tc := ⟨.hbm, 270, rfl⟩
abbrev main_v260 : Ref sig .tc := ⟨.hbm, 271, rfl⟩
abbrev main_v261 : Ref sig .tc := ⟨.hbm, 272, rfl⟩
abbrev main_v262 : Ref sig .tc := ⟨.hbm, 273, rfl⟩
abbrev main_v263 : Ref sig .tc := ⟨.hbm, 274, rfl⟩
abbrev main_v264 : Ref sig .tc := ⟨.hbm, 275, rfl⟩
abbrev main_v265 : Ref sig .tc := ⟨.hbm, 276, rfl⟩
abbrev main_v266 : Ref sig .tc := ⟨.hbm, 277, rfl⟩
abbrev main_v267 : Ref sig .tc := ⟨.hbm, 278, rfl⟩
abbrev main_v268 : Ref sig .tc := ⟨.hbm, 279, rfl⟩
abbrev main_v269 : Ref sig .tc := ⟨.hbm, 280, rfl⟩
abbrev main_v270 : Ref sig .tc := ⟨.hbm, 281, rfl⟩
abbrev main_v271 : Ref sig .tc := ⟨.hbm, 282, rfl⟩
abbrev main_v272 : Ref sig .tc := ⟨.hbm, 283, rfl⟩
abbrev main_v273 : Ref sig .tc := ⟨.hbm, 284, rfl⟩
abbrev main_v274 : Ref sig .tc := ⟨.hbm, 285, rfl⟩
abbrev main_v275 : Ref sig .tc := ⟨.hbm, 286, rfl⟩
abbrev main_v276 : Ref sig .tc := ⟨.hbm, 287, rfl⟩
abbrev main_v277 : Ref sig .tc := ⟨.hbm, 288, rfl⟩
abbrev main_v278 : Ref sig .tc := ⟨.hbm, 289, rfl⟩
abbrev main_v279 : Ref sig .tc := ⟨.hbm, 290, rfl⟩
abbrev main_v280 : Ref sig .tc := ⟨.hbm, 291, rfl⟩
abbrev main_v281 : Ref sig .tc := ⟨.hbm, 292, rfl⟩
abbrev main_cst_7 : Ref sig .tc := ⟨.hbm, 293, rfl⟩
abbrev main_v282 : Ref sig .tc := ⟨.hbm, 294, rfl⟩
abbrev main_v283 : Ref sig .tc := ⟨.hbm, 295, rfl⟩
abbrev main_v284 : Ref sig .tc := ⟨.hbm, 296, rfl⟩
abbrev main_v285 : Ref sig .tc := ⟨.hbm, 297, rfl⟩
abbrev main_v286 : Ref sig .tc := ⟨.hbm, 298, rfl⟩
abbrev main_cst_8 : Ref sig .tc := ⟨.hbm, 299, rfl⟩
abbrev main_v287 : Ref sig .tc := ⟨.hbm, 300, rfl⟩
abbrev main_v288 : Ref sig .tc := ⟨.hbm, 301, rfl⟩
abbrev main_v289 : Ref sig .tc := ⟨.hbm, 302, rfl⟩
abbrev main_v290 : Ref sig .tc := ⟨.hbm, 303, rfl⟩
abbrev main_v291 : Ref sig .tc := ⟨.hbm, 304, rfl⟩
abbrev main_v292 : Ref sig .tc := ⟨.hbm, 305, rfl⟩
abbrev main_v293 : Ref sig .tc := ⟨.hbm, 306, rfl⟩
abbrev main_v294 : Ref sig .tc := ⟨.hbm, 307, rfl⟩
abbrev main_v295 : Ref sig .tc := ⟨.hbm, 308, rfl⟩
abbrev main_v296 : Ref sig .tc := ⟨.hbm, 309, rfl⟩
abbrev main_v297 : Ref sig .tc := ⟨.hbm, 310, rfl⟩
abbrev main_v298 : Ref sig .tc := ⟨.hbm, 311, rfl⟩
abbrev main_cst_9 : Ref sig .tc := ⟨.hbm, 312, rfl⟩
abbrev main_v299 : Ref sig .tc := ⟨.hbm, 313, rfl⟩
abbrev main_v300 : Ref sig .tc := ⟨.hbm, 314, rfl⟩
abbrev main_v301 : Ref sig .tc := ⟨.hbm, 315, rfl⟩
abbrev main_cst_10 : Ref sig .tc := ⟨.hbm, 316, rfl⟩
abbrev main_v302 : Ref sig .tc := ⟨.hbm, 317, rfl⟩
abbrev main_v303 : Ref sig .tc := ⟨.hbm, 318, rfl⟩
abbrev main_v304 : Ref sig .tc := ⟨.hbm, 319, rfl⟩
abbrev main_v305 : Ref sig .tc := ⟨.hbm, 320, rfl⟩
abbrev main_v306 : Ref sig .tc := ⟨.hbm, 321, rfl⟩
abbrev main_v307 : Ref sig .tc := ⟨.hbm, 322, rfl⟩
abbrev main_v308 : Ref sig .tc := ⟨.hbm, 323, rfl⟩
abbrev main_v309 : Ref sig .tc := ⟨.hbm, 324, rfl⟩
abbrev main_v310 : Ref sig .tc := ⟨.hbm, 325, rfl⟩
abbrev main_v311 : Ref sig .tc := ⟨.hbm, 326, rfl⟩
abbrev main_v312 : Ref sig .tc := ⟨.hbm, 327, rfl⟩
abbrev main_v313 : Ref sig .tc := ⟨.hbm, 328, rfl⟩
abbrev main_v314 : Ref sig .tc := ⟨.hbm, 329, rfl⟩
abbrev main_v315 : Ref sig .tc := ⟨.hbm, 330, rfl⟩

abbrev nD : Nat := 1
abbrev τ : Topo := Topo.v7x

variable {F : FTy → Type} [FloatOps F]
-- ==== Kernel5.lean ====
abbrev S16384x1024 : Shape := ⟨2, ![16384, 1024]⟩
abbrev S512x1024 : Shape := ⟨2, ![512, 1024]⟩
abbrev S8x2048x1024 : Shape := ⟨3, ![8, 2048, 1024]⟩
abbrev S128x4x1024 : Shape := ⟨3, ![128, 4, 1024]⟩
abbrev S1x1024x1024 : Shape := ⟨3, ![1, 1024, 1024]⟩
abbrev S2x1024 : Shape := ⟨2, ![2, 1024]⟩
abbrev S2x1024x4 : Shape := ⟨3, ![2, 1024, 4]⟩
abbrev S2x4 : Shape := ⟨2, ![2, 4]⟩
abbrev S2x1024x32 : Shape := ⟨3, ![2, 1024, 32]⟩
abbrev S2x32 : Shape := ⟨2, ![2, 32]⟩
abbrev S1024 : Shape := ⟨1, ![1024]⟩
abbrev S1024x1024 : Shape := ⟨2, ![1024, 1024]⟩
abbrev S_ : Shape := ⟨0, ![]⟩
abbrev S1024x1 : Shape := ⟨2, ![1024, 1]⟩
abbrev S1024x128 : Shape := ⟨2, ![1024, 128]⟩
abbrev S1x1024x32 : Shape := ⟨3, ![1, 1024, 32]⟩
abbrev S1024x32 : Shape := ⟨2, ![1024, 32]⟩
abbrev S1 : Shape := ⟨1, ![1]⟩
abbrev S1x1024x4 : Shape := ⟨3, ![1, 1024, 4]⟩
abbrev S1024x4 : Shape := ⟨2, ![1024, 4]⟩
abbrev S1x128 : Shape := ⟨2, ![1, 128]⟩
abbrev S1x32 : Shape := ⟨2, ![1, 32]⟩
abbrev S32 : Shape := ⟨1, ![32]⟩
abbrev S2 : Shape := ⟨1, ![2]⟩
abbrev S1x4 : Shape := ⟨2, ![1, 4]⟩
abbrev S4 : Shape := ⟨1, ![4]⟩
abbrev S1x1024 : Shape := ⟨2, ![1, 1024]⟩
abbrev S512x512 : Shape := ⟨2, ![512, 512]⟩
abbrev S16896x1024 : Shape := ⟨2, ![16896, 1024]⟩
abbrev S16896x128 : Shape := ⟨2, ![16896, 128]⟩
abbrev S8x16896 : Shape := ⟨2, ![8, 16896]⟩
abbrev S512x128 : Shape := ⟨2, ![512, 128]⟩
abbrev S8x512 : Shape := ⟨2, ![8, 512]⟩
abbrev S512 : Shape := ⟨1, ![512]⟩
abbrev S512x1 : Shape := ⟨2, ![512, 1]⟩
abbrev S128 : Shape := ⟨1, ![128]⟩
abbrev S128x512 : Shape := ⟨2, ![128, 512]⟩

abbrev nBuf : Space → Nat
  | .hbm => 78
  | .vmem => 23
  | .smem => 0
  | _ => 0

abbrev bufTy : (tb : Table) → Fin (tcTables nBuf tb) → BufTy
  | .hbm, ⟨0, _⟩ => ⟨S16384x1024, .bf16⟩
  | .hbm, ⟨1, _⟩ => ⟨S512x1024, .bf16⟩
  | .hbm, ⟨2, _⟩ => ⟨S8x2048x1024, .f32⟩
  | .hbm, ⟨3, _⟩ => ⟨S128x4x1024, .f32⟩
  | .hbm, ⟨4, _⟩ => ⟨S1x1024x1024, .f32⟩
  | .hbm, ⟨5, _⟩ => ⟨S2x1024, .f32⟩
  | .hbm, ⟨6, _⟩ => ⟨S2x1024, .f32⟩
  | .hbm, ⟨7, _⟩ => ⟨S2x1024x4, .f32⟩
  | .hbm, ⟨8, _⟩ => ⟨S2x4, .f32⟩
  | .hbm, ⟨9, _⟩ => ⟨S2x1024x32, .f32⟩
  | .hbm, ⟨10, _⟩ => ⟨S2x32, .f32⟩
  | .hbm, ⟨11, _⟩ => ⟨S1024, .i32⟩
  | .hbm, ⟨12, _⟩ => ⟨S1024, .i1⟩
  | .hbm, ⟨13, _⟩ => ⟨S16384x1024, .f32⟩
  | .hbm, ⟨14, _⟩ => ⟨S512x1024, .f32⟩
  | .hbm, ⟨15, _⟩ => ⟨S1024x1024, .f32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S1024x1, .i32⟩
  | .hbm, ⟨21, _⟩ => ⟨S1024x1024, .f32⟩
  | .hbm, ⟨22, _⟩ => ⟨S_, .f32⟩
  | .hbm, ⟨23, _⟩ => ⟨S1024x128, .f32⟩
  | .hbm, ⟨24, _⟩ => ⟨S1x1024x32, .f32⟩
  | .hbm, ⟨25, _⟩ => ⟨S1024x32, .f32⟩
  | .hbm, ⟨26, _⟩ => ⟨S_, .i32⟩
  | .hbm, ⟨27, _⟩ => ⟨S1, .i32⟩
  | .hbm, ⟨28, _⟩ => ⟨S1024x128, .f32⟩
  | .hbm, ⟨29, _⟩ => ⟨S1x1024x4, .f32⟩
  | .hbm, ⟨30, _⟩ => ⟨S1024x4, .f32⟩
  | .hbm, ⟨31, _⟩ => ⟨S_, .i32⟩
  | .hbm, ⟨32, _⟩ => ⟨S1, .i32⟩
  | .hbm, ⟨33, _⟩ => ⟨S1024x128, .f32⟩
  | .hbm, ⟨34, _⟩ => ⟨S_, .f32⟩
  | .hbm, ⟨35, _⟩ => ⟨S1x128, .f32⟩
  | .hbm, ⟨36, _⟩ => ⟨S1x32, .f32⟩
  | .hbm, ⟨37, _⟩ => ⟨S32, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S1x128, .f32⟩
  | .hbm, ⟨44, _⟩ => ⟨S1x4, .f32⟩
  | .hbm, ⟨45, _⟩ => ⟨S4, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S1x128, .f32⟩
  | .hbm, ⟨52, _⟩ => ⟨S1024x128, .bf16⟩
  | .hbm, ⟨53, _⟩ => ⟨S1024x128, .f32⟩
  | .hbm, ⟨54, _⟩ => ⟨S1024x128, .f32⟩
  | .hbm, ⟨55, _⟩ => ⟨S1024x128, .bf16⟩
  | .hbm, ⟨56, _⟩ => ⟨S1024x1024, .bf16⟩
  | .hbm, ⟨57, _⟩ => ⟨S1x1024, .f32⟩
  | .hbm, ⟨58, _⟩ => ⟨S1024, .f32⟩
  | .hbm, ⟨59, _⟩ => ⟨S1x1024, .f32⟩
  | .hbm, ⟨60, _⟩ => ⟨S1x1024, .f32⟩
  | .hbm, ⟨61, _⟩ => ⟨S1024, .f32⟩
  | .hbm, ⟨62, _⟩ => ⟨S1x1024, .f32⟩
  | .hbm, ⟨63, _⟩ => ⟨S_, .bf16⟩
  | .hbm, ⟨64, _⟩ => ⟨S512x512, .bf16⟩
  | .hbm, ⟨65, _⟩ => ⟨S512x512, .i32⟩
  | .hbm, ⟨66, _⟩ => ⟨S_, .i32⟩
  | .hbm, ⟨67, _⟩ => ⟨S512x512, .i32⟩
  | .hbm, ⟨68, _⟩ => ⟨S512x512, .i32⟩
  | .hbm, ⟨69, _⟩ => ⟨S512x512, .i32⟩
  | .hbm, ⟨70, _⟩ => ⟨S512x512, .i1⟩
  | .hbm, ⟨71, _⟩ => ⟨S_, .bf16⟩
  | .hbm, ⟨72, _⟩ => ⟨S512x512, .bf16⟩
  | .hbm, ⟨73, _⟩ => ⟨S512x512, .bf16⟩
  | .hbm, ⟨74, _⟩ => ⟨S16896x1024, .f32⟩
  | .hbm, ⟨75, _⟩ => ⟨S16896x128, .f32⟩
  | .hbm, ⟨76, _⟩ => ⟨S8x16896, .f32⟩
  | .hbm, ⟨77, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x128, .bf16⟩
  | .local _ .vmem, ⟨12, _⟩ => ⟨S1024x128, .bf16⟩
  | .local _ .vmem, ⟨13, _⟩ => ⟨S1x128, .f32⟩
  | .local _ .vmem, ⟨14, _⟩ => ⟨S512x512, .bf16⟩
  | .local _ .vmem, ⟨15, _⟩ => ⟨S512x1024, .f32⟩
  | .local _ .vmem, ⟨16, _⟩ => ⟨S512x1024, .f32⟩
  | .local _ .vmem, ⟨17, _⟩ => ⟨S512x128, .f32⟩
  | .local _ .vmem, ⟨18, _⟩ => ⟨S512x128, .f32⟩
  | .local _ .vmem, ⟨19, _⟩ => ⟨S8x512, .f32⟩
  | .local _ .vmem, ⟨20, _⟩ => ⟨S8x512, .f32⟩
  | .local _ .vmem, ⟨21, _⟩ => ⟨S1x128, .f32⟩
  | .local _ .vmem, ⟨22, _⟩ => ⟨S1x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_c_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_call0_v0 : Ref sig .tc := ⟨.hbm, 65, rfl⟩
abbrev main_call0_c : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_cst : Ref sig .tc := ⟨.hbm, 71, rfl⟩
abbrev main_call0_v5 : Ref sig .tc := ⟨.hbm, 72, rfl⟩
abbrev main_v42 : Ref sig .tc := ⟨.hbm, 73, rfl⟩
abbrev main_v43_0 : Ref sig .tc := ⟨.hbm, 74, rfl⟩
abbrev main_v43_1 : Ref sig .tc := ⟨.hbm, 75, rfl⟩
abbrev main_v43_2 : Ref sig .tc := ⟨.hbm, 76, rfl⟩
abbrev main_v43_3 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference5Ideal.lean ====
abbrev S16384x1024 : Shape := ⟨2, ![16384, 1024]⟩
abbrev S512x1024 : Shape := ⟨2, ![512, 1024]⟩
abbrev S8x2048x1024 : Shape := ⟨3, ![8, 2048, 1024]⟩
abbrev S128x4x1024 : Shape := ⟨3, ![128, 4, 1024]⟩
abbrev S1x1024x1024 : Shape := ⟨3, ![1, 1024, 1024]⟩
abbrev S2x1024 : Shape := ⟨2, ![2, 1024]⟩
abbrev S2x1024x4 : Shape := ⟨3, ![2, 1024, 4]⟩
abbrev S2x4 : Shape := ⟨2, ![2, 4]⟩
abbrev S2x1024x32 : Shape := ⟨3, ![2, 1024, 32]⟩
abbrev S2x32 : Shape := ⟨2, ![2, 32]⟩
abbrev S8x2048x8x2x64 : Shape := ⟨5, ![8, 2048, 8, 2, 64]⟩
abbrev S8x2048x2x8x64 : Shape := ⟨5, ![8, 2048, 2, 8, 64]⟩
abbrev S_ : Shape := ⟨0, ![]⟩
abbrev S1024x1024 : Shape := ⟨2, ![1024, 1024]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S128x4x8x2x64 : Shape := ⟨5, ![128, 4, 8, 2, 64]⟩
abbrev S128x4x2x8x64 : Shape := ⟨5, ![128, 4, 2, 8, 64]⟩
abbrev S128x4 : Shape := ⟨2, ![128, 4]⟩
abbrev S128x4x1 : Shape := ⟨3, ![128, 4, 1]⟩
abbrev S16896x1024 : Shape := ⟨2, ![16896, 1024]⟩

abbrev nBuf : Space → Nat
  | .hbm => 100
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S512x1024, .bf16⟩
  | .hbm, ⟨2, _⟩ => ⟨S8x2048x1024, .f32⟩
  | .hbm, ⟨3, _⟩ => ⟨S128x4x1024, .f32⟩
  | .hbm, ⟨4, _⟩ => ⟨S1x1024x1024, .f32⟩
  | .hbm, ⟨5, _⟩ => ⟨S2x1024, .f32⟩
  | .hbm, ⟨6, _⟩ => ⟨S2x1024, .f32⟩
  | .hbm, ⟨7, _⟩ => ⟨S2x1024x4, .f32⟩
  | .hbm, ⟨8, _⟩ => ⟨S2x4, .f32⟩
  | .hbm, ⟨9, _⟩ => ⟨S2x1024x32, .f32⟩
  | .hbm, ⟨10, _⟩ => ⟨S2x32, .f32⟩
  | .hbm, ⟨11, _⟩ => ⟨S16384x1024, .f32⟩
  | .hbm, ⟨12, _⟩ => ⟨S8x2048x8x2x64, .f32⟩
  | .hbm, ⟨13, _⟩ => ⟨S8x2048x2x8x64, .f32⟩
  | .hbm, ⟨14, _⟩ => ⟨S8x2048x1024, .f32⟩
  | .hbm, ⟨15, _⟩ => ⟨S_, .f32⟩
  | .hbm, ⟨16, _⟩ => ⟨S8x2048x1024, .f32⟩
  | .hbm, ⟨17, _⟩ => ⟨S8x2048x1024, .f32⟩
  | .hbm, ⟨18, _⟩ => ⟨S1024x1024, .f32⟩
  | .hbm, ⟨19, _⟩ => ⟨S8x2048x1024, .f32⟩
  | .hbm, ⟨20, _⟩ => ⟨S8x2048x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | .hbm, ⟨51, _⟩ => ⟨S1x1x1024, .f32⟩
  | .hbm, ⟨52, _⟩ => ⟨S8x2048x1024, .f32⟩
  | .hbm, ⟨53, _⟩ => ⟨S8x2048x1024, .f32⟩
  | .hbm, ⟨54, _⟩ => ⟨S16384x1024, .f32⟩
  | .hbm, ⟨55, _⟩ => ⟨S512x1024, .f32⟩
  | .hbm, ⟨56, _⟩ => ⟨S128x4x8x2x64, .f32⟩
  | .hbm, ⟨57, _⟩ => ⟨S128x4x2x8x64, .f32⟩
  | .hbm, ⟨58, _⟩ => ⟨S128x4x1024, .f32⟩
  | .hbm, ⟨59, _⟩ => ⟨S_, .f32⟩
  | .hbm, ⟨60, _⟩ => ⟨S128x4x1024, .f32⟩
  | .hbm, ⟨61, _⟩ => ⟨S128x4x1024, .f32⟩
  | .hbm, ⟨62, _⟩ => ⟨S1024x1024, .f32⟩
  | .hbm, ⟨63, _⟩ => ⟨S128x4x1024, .f32⟩
  | .hbm, ⟨64, _⟩ => ⟨S128x4x1024, .f32⟩
  | .hbm, ⟨65, _⟩ => ⟨S1x1024, .f32⟩
  | .hbm, ⟨66, _⟩ => ⟨S1024, .f32⟩
  | .hbm, ⟨67, _⟩ => ⟨S1x1024, .f32⟩
  | .hbm, ⟨68, _⟩ => ⟨S1024, .f32⟩
  | .hbm, ⟨69, _⟩ => ⟨S_, .f32⟩
  | .hbm, ⟨70, _⟩ => ⟨S128x4, .f32⟩
  | .hbm, ⟨71, _⟩ => ⟨S128x4x1, .f32⟩
  | .hbm, ⟨72, _⟩ => ⟨S_, .f32⟩
  | .hbm, ⟨73, _⟩ => ⟨S128x4x1, .f32⟩
  | .hbm, ⟨74, _⟩ => ⟨S128x4x1, .f32⟩
  | .hbm, ⟨75, _⟩ => ⟨S128x4x1024, .f32⟩
  | .hbm, ⟨76, _⟩ => ⟨S128x4x1024, .f32⟩
  | .hbm, ⟨77, _⟩ => ⟨S128x4x1024, .f32⟩
  | .hbm, ⟨78, _⟩ => ⟨S_, .f32⟩
  | .hbm, ⟨79, _⟩ => ⟨S128x4, .f32⟩
  | .hbm, ⟨80, _⟩ => ⟨S128x4x1, .f32⟩
  | .hbm, ⟨81, _⟩ => ⟨S_, .f32⟩
  | .hbm, ⟨82, _⟩ => ⟨S128x4x1, .f32⟩
  | .hbm, ⟨83, _⟩ => ⟨S128x4x1, .f32⟩
  | .hbm, ⟨84, _⟩ => ⟨S128x4x1024, .f32⟩
  | .hbm, ⟨85, _⟩ => ⟨S128x4x1024, .f32⟩
  | .hbm, ⟨86, _⟩ => ⟨S_, .f32⟩
  | .hbm, ⟨87, _⟩ => ⟨S128x4x1, .f32⟩
  | .hbm, ⟨88, _⟩ => ⟨S128x4x1, .f32⟩
  | .hbm, ⟨89, _⟩ => ⟨S128x4x1, .f32⟩
  | .hbm, ⟨90, _⟩ => ⟨S128x4x1024, .f32⟩
  | .hbm, ⟨91, _⟩ => ⟨S128x4x1024, .f32⟩
  | .hbm, ⟨92, _⟩ => ⟨S1x1x1024, .f32⟩
  | .hbm, ⟨93, _⟩ => ⟨S128x4x1024, .f32⟩
  | .hbm, ⟨94, _⟩ => ⟨S128x4x1024, .f32⟩
  | .hbm, ⟨95, _⟩ => ⟨S1x1x1024, .f32⟩
  | .hbm, ⟨96, _⟩ => ⟨S128x4x1024, .f32⟩
  | .hbm, ⟨97, _⟩ => ⟨S128x4x1024, .f32⟩
  | .hbm, ⟨98, _⟩ => ⟨S512x1024, .f32⟩
  | .hbm, ⟨99, _⟩ => ⟨S16896x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_10 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩

abbrev nD : Nat := 1
abbrev τ : Topo := Topo.v7x

variable {F : FTy → Type} [FloatOps F]
-- ==== Kernel6.lean ====
abbrev S98 : Shape := ⟨1, ![98]⟩
abbrev S1 : Shape := ⟨1, ![1]⟩
abbrev S50176x1024 : Shape := ⟨2, ![50176, 1024]⟩
abbrev S2x32x1024x512 : Shape := ⟨4, ![2, 32, 1024, 512]⟩
abbrev S2x32x256x1024 : Shape := ⟨4, ![2, 32, 256, 1024]⟩
abbrev S_ : Shape := ⟨0, ![]⟩
abbrev S98x1 : Shape := ⟨2, ![98, 1]⟩
abbrev S512x1024 : Shape := ⟨2, ![512, 1024]⟩
abbrev S1x1x1024x512 : Shape := ⟨4, ![1, 1, 1024, 512]⟩
abbrev S1x1x256x1024 : Shape := ⟨4, ![1, 1, 256, 1024]⟩
abbrev S1024x512 : Shape := ⟨2, ![1024, 512]⟩
abbrev S512x512 : Shape := ⟨2, ![512, 512]⟩
abbrev S512x256 : Shape := ⟨2, ![512, 256]⟩
abbrev S256x1024 : Shape := ⟨2, ![256, 1024]⟩

abbrev nBuf : Space → Nat
  | .hbm => 12
  | .vmem => 8
  | .smem => 2
  | _ => 0

abbrev bufTy : (tb : Table) → Fin (tcTables nBuf tb) → BufTy
  | .hbm, ⟨0, _⟩ => ⟨S98, .i32⟩
  | .hbm, ⟨1, _⟩ => ⟨S50176x1024, .f32⟩
  | .hbm, ⟨2, _⟩ => ⟨S2x32x1024x512, .f32⟩
  | .hbm, ⟨3, _⟩ => ⟨S2x32x256x1024, .f32⟩
  | .hbm, ⟨4, _⟩ => ⟨S98, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S98, .i32⟩
  | .hbm, ⟨9, _⟩ => ⟨S98, .i32⟩
  | .hbm, ⟨10, _⟩ => ⟨S98x1, .i32⟩
  | .hbm, ⟨11, _⟩ => ⟨S50176x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x256x1024, .f32⟩
  | .local _ .vmem, ⟨5, _⟩ => ⟨S1x1x256x1024, .f32⟩
  | .local _ .vmem, ⟨6, _⟩ => ⟨S512x1024, .f32⟩
  | .local _ .vmem, ⟨7, _⟩ => ⟨S512x1024, .f32⟩
  | .local _ .smem, ⟨0, _⟩ => ⟨S98, .i32⟩
  | .local _ .smem, ⟨1, _⟩ => ⟨S1, .i32⟩
  | _, _ => ⟨S98, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v7 : Ref sig .tc := ⟨.hbm, 11, rfl⟩
abbrev main_v6 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![98], ![false]⟩

abbrev pre0 : Pipeline.Prefetch sig := ⟨2, ![main_v6.idx, main_arg1.idx], fun | 0 => main_v6.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S98.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S98) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S98.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S98) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S98 : Shape := ⟨1, ![98]⟩
abbrev S1 : Shape := ⟨1, ![1]⟩
abbrev S50176x1024 : Shape := ⟨2, ![50176, 1024]⟩
abbrev S2x32x1024x512 : Shape := ⟨4, ![2, 32, 1024, 512]⟩
abbrev S2x32x256x1024 : Shape := ⟨4, ![2, 32, 256, 1024]⟩
abbrev S98x512 : Shape := ⟨2, ![98, 512]⟩
abbrev S50176 : Shape := ⟨1, ![50176]⟩
abbrev S50176x1 : Shape := ⟨2, ![50176, 1]⟩
abbrev S32 : Shape := ⟨1, ![32]⟩
abbrev S1x32 : Shape := ⟨2, ![1, 32]⟩
abbrev S50176x32 : Shape := ⟨2, ![50176, 32]⟩
abbrev S_ : Shape := ⟨0, ![]⟩
abbrev S1x32x1024x512 : Shape := ⟨4, ![1, 32, 1024, 512]⟩
abbrev S32x1024x512 : Shape := ⟨3, ![32, 1024, 512]⟩
abbrev S50176x32x512 : Shape := ⟨3, ![50176, 32, 512]⟩
abbrev S50176x32x256 : Shape := ⟨3, ![50176, 32, 256]⟩
abbrev S50176x32x1 : Shape := ⟨3, ![50176, 32, 1]⟩
abbrev S50176x8192 : Shape := ⟨2, ![50176, 8192]⟩
abbrev S1x32x256x1024 : Shape := ⟨4, ![1, 32, 256, 1024]⟩
abbrev S32x256x1024 : Shape := ⟨3, ![32, 256, 1024]⟩
abbrev S8192x1024 : Shape := ⟨2, ![8192, 1024]⟩

abbrev nBuf : Space → Nat
  | .hbm => 46
  | .vmem => 0
  | .smem => 0
  | _ => 0

abbrev bufTy : (tb : Table) → Fin (tcTables nBuf tb) → BufTy
  | .hbm, ⟨0, _⟩ => ⟨S98, .i32⟩
  | .hbm, ⟨1, _⟩ => ⟨S1, .i32⟩
  | .hbm, ⟨2, _⟩ => ⟨S50176x1024, .f32⟩
  | .hbm, ⟨3, _⟩ => ⟨S2x32x1024x512, .f32⟩
  | .hbm, ⟨4, _⟩ => ⟨S2x32x256x1024, .f32⟩
  | .hbm, ⟨5, _⟩ => ⟨S98, .i32⟩
  | .hbm, ⟨6, _⟩ => ⟨S98x512, .i32⟩
  | .hbm, ⟨7, _⟩ => ⟨S50176, .i32⟩
  | .hbm, ⟨8, _⟩ => ⟨S98x512, .i32⟩
  | .hbm, ⟨9, _⟩ => ⟨S50176, .i32⟩
  | .hbm, ⟨10, _⟩ => ⟨S50176x1, .i32⟩
  | .hbm, ⟨11, _⟩ => ⟨S32, .i32⟩
  | .hbm, ⟨12, _⟩ => ⟨S1x32, .i32⟩
  | .hbm, ⟨13, _⟩ => ⟨S50176x32, .i32⟩
  | .hbm, ⟨14, _⟩ => ⟨S50176x32, .i32⟩
  | .hbm, ⟨15, _⟩ => ⟨S50176x32, .i1⟩
  | .hbm, ⟨16, _⟩ => ⟨S_, .i32⟩
  | .hbm, ⟨17, _⟩ => ⟨S50176, .i32⟩
  | .hbm, ⟨18, _⟩ => ⟨S50176, .i1⟩
  | .hbm, ⟨19, _⟩ => ⟨S50176x1, .i1⟩
  | .hbm, ⟨20, _⟩ => ⟨S50176x32, .i1⟩
  | .hbm, ⟨21, _⟩ => ⟨S50176x32, .i1⟩
  | .hbm, ⟨22, _⟩ => ⟨S50176x32, .f32⟩
  | .hbm, ⟨23, _⟩ => ⟨S1x32x1024x512, .f32⟩
  | .hbm, ⟨24, _⟩ => ⟨S32x1024x512, .f32⟩
  | .hbm, ⟨25, _⟩ => ⟨S50176x32x512, .f32⟩
  | .hbm, ⟨26, _⟩ => ⟨S50176x32x256, .f32⟩
  | .hbm, ⟨27, _⟩ => ⟨S50176x32x256, .f32⟩
  | .hbm, ⟨28, _⟩ => ⟨S50176x32x256, .f32⟩
  | .hbm, ⟨29, _⟩ => ⟨S50176x32x256, .f32⟩
  | .hbm, ⟨30, _⟩ => ⟨S_, .f32⟩
  | .hbm, ⟨31, _⟩ => ⟨S50176x32x256, .f32⟩
  | .hbm, ⟨32, _⟩ => ⟨S50176x32x256, .f32⟩
  | .hbm, ⟨33, _⟩ => ⟨S_, .f32⟩
  | .hbm, ⟨34, _⟩ => ⟨S50176x32x256, .f32⟩
  | .hbm, ⟨35, _⟩ => ⟨S50176x32x256, .f32⟩
  | .hbm, ⟨36, _⟩ => ⟨S50176x32x256, .f32⟩
  | .hbm, ⟨37, _⟩ => ⟨S50176x32x256, .f32⟩
  | .hbm, ⟨38, _⟩ => ⟨S50176x32x1, .f32⟩
  | .hbm, ⟨39, _⟩ => ⟨S50176x32x256, .f32⟩
  | .hbm, ⟨40, _⟩ => ⟨S50176x32x256, .f32⟩
  | .hbm, ⟨41, _⟩ => ⟨S50176x8192, .f32⟩
  | .hbm, ⟨42, _⟩ => ⟨S1x32x256x1024, .f32⟩
  | .hbm, ⟨43, _⟩ => ⟨S32x256x1024, .f32⟩
  | .hbm, ⟨44, _⟩ => ⟨S8192x1024, .f32⟩
  | .hbm, ⟨45, _⟩ => ⟨S50176x1024, .f32⟩
  | _, _ => ⟨S98, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.Block.lean ====
/- What one grid point of the sliding-window kernel stores: per pair of heads, the two heads' attention outputs, one per half of
   the lanes. -/
module

public import proofs.«01_k».proof.Proof.Gen.KernelIdeal.Value
public import Idealize.ShloMosaic.Lib.Pipeline.ValueKit

@[expose] public section

noncomputable section

namespace Cert.Swa

open Cert.KernelIdeal Cert.KernelIdeal.Gen
open Idealize.ShloMosaic hiding ix2
open Idealize.ShloMosaic.TcCoe Idealize.SL.Sem Idealize.ShloMosaic.ValueIdx

variable {F : FTy → Type} [FloatOps F]

/-- The masked scores of one head: its queries against the band of keys. -/
def scores (kb : FVec F S256x128 .bf16) (valid : IVec S128x256 1) (qe : FVec F S128x128 .bf16) : FVec F S128x256 .f32 :=
  select valid
    (matmul dot_S128x128_S256x128_S128x256_1_1_0_0_n_n none qe kb (constant S128x256 .f32 0x00000000#32))
    (broadcast S128x256 (Scalar.ofBits .f32 0xFF800000#32))

/-- The row maxima, the sink included. -/
def rowMax (s : FVec F S128x256 .f32) (sink : Elt F .f32) : FVec F S128x1 .f32 :=
  maximumf (shapeCast S128x1 (multiReduction .maximumf [1] S128 s 0xFF800000#32 reduces_S128x256_S128 (.inl rfl) rfl) shapeCasts_S128_S128x1)
    (broadcast S128x1 sink)

/-- The weights before normalization. -/
def weights (s : FVec F S128x256 .f32) (mx : FVec F S128x1 .f32) : FVec F S128x256 .f32 :=
  exp (subf s (broadcastTo S128x256 mx broadcasts_S128x1_S128x256))

/-- The normalizer. -/
def normalizer (p : FVec F S128x256 .f32) (mx : FVec F S128x1 .f32) (sink : Elt F .f32) : FVec F S128x1 .f32 :=
  addf (shapeCast S128x1 (multiReduction .add [1] S128 p 0x00000000#32 reduces_S128x256_S128 (.inl rfl) rfl) shapeCasts_S128_S128x1)
    (exp (subf (broadcast S128x1 sink) mx))

/-- One head's output from its scores. -/
def headOut (vb : FVec F S256x128 .bf16) (s : FVec F S128x256 .f32) (sink : Elt F .f32) : FVec F S128x128 .f32 :=
  divf
    (matmul dot_S128x256_S256x128_S128x128_1_0_0_1_n_n none (truncf .bf16 (weights s (rowMax s sink)) bitsLt_bf16_f32) vb
      (constant S128x128 .f32 0x00000000#32))
    (broadcastTo S128x128 (normalizer (weights s (rowMax s sink)) (rowMax s sink) sink) broadcasts_S128x1_S128x128)

/-- The low lanes of a slab of queries, the others zero. -/
def lowHalf (low : IVec S128x128 1) (slab : FVec F S128x128 .bf16) : FVec F S128x128 .bf16 :=
  select low slab (broadcast S128x128 (Scalar.ofBits .bf16 0x0000#16))

/-- The high lanes of a slab of queries, the others zero. -/
def highHalf (low : IVec S128x128 1) (slab : FVec F S128x128 .bf16) : FVec F S128x128 .bf16 :=
  select (xori low (constantI S128x128 1 1#1)) slab (broadcast S128x128 (Scalar.ofBits .bf16 0x0000#16))

/-- The stored piece of a pair of heads. -/
def pairOut (kb vb : FVec F S256x128 .bf16) (valid : IVec S128x256 1) (low : IVec S128x128 1) (slab : FVec F S128x128 .bf16)
    (s0 s1 : Elt F .f32) : FVec F S128x128 .bf16 :=
  truncf .bf16 (select low (headOut vb (scores kb valid (lowHalf low slab)) s0)
    (headOut vb (scores kb valid (highHalf low slab)) s1)) bitsLt_bf16_f32

/-- The slab of queries of pair `j`: lanes `128 j …` of the block. -/
def slabOf (x1 : Vec F S128x1024 .bf16) (j : Fin 8) : Vec F S128x128 .bf16 :=
  fun z => x1 (ix2 (n0 := 128) (n1 := 1024) (z 0) ⟨128 * j.val + (z 1).val, by have := j.isLt; have := idx2_lt1 z; omega⟩)

/-- The stored piece of pair `j`, over the blocks read. -/
def pairAt (i : grid0.Coords) (x0 : Vec F S16 .f32) (x1 : Vec F S128x1024 .bf16) (x2 x3 x4 x5 : Vec F S128x128 .bf16) (j : Fin 8) :
    FVec F S128x128 .bf16 :=
  pairOut (k0_pay2 x2 x3) (k0_pay3 x4 x5) (k0_pay4 i) k0_pay5 (slabOf x1 j)
    (x0 (ix1 (n0 := 16) ⟨2 * j.val, by have := j.isLt; omega⟩)) (x0 (ix1 (n0 := 16) ⟨2 * j.val + 1, by have := j.isLt; omega⟩))

/-- The block stored at a point: lane `128 j + l` holds lane `l` of pair `j`'s piece. -/
def blockOut (i : grid0.Coords) (x0 : Vec F S16 .f32) (x1 : Vec F S128x1024 .bf16) (x2 x3 x4 x5 : Vec F S128x128 .bf16) :
    Vec F S128x1024 .bf16 :=
  fun y => pairAt i x0 x1 x2 x3 x4 x5 ⟨(y 1).val / 128, by have := idx2_lt1 y; omega⟩
    (ix2 (n0 := 128) (n1 := 128) (y 0) ⟨(y 1).val % 128, by omega⟩)

theorem pairOut_congr (kb vb : FVec F S256x128 .bf16) (valid : IVec S128x256 1) (low : IVec S128x128 1) {slab slab' : FVec F S128x128 .bf16}
    {s0 s1 s0' s1' : Elt F .f32} (h : slab = slab') (h0 : s0 = s0') (h1 : s1 = s1') :
    pairOut kb vb valid low slab s0 s1 = pairOut kb vb valid low slab' s0' s1' := by subst h h0 h1; rfl

/-- Piece `j` of the stores is the block's lanes `128 j …`. -/
theorem piece_eq (i : grid0.Coords) (x0 : Vec F S16 .f32) (x1 : Vec F S128x1024 .bf16) (x2 x3 x4 x5 : Vec F S128x128 .bf16)
    (j : Fin 8) (o p q : Nat) (ho : o = 128 * j.val) (hp : p = 2 * j.val) (hq : q = 2 * j.val + 1)
    (h1 : ∀ a, (![0, o] : Fin 2 → Nat) a + (![128, 128] : Fin 2 → Nat) a ≤ S128x1024.size a)
    (h2 : ∀ a, (![p] : Fin 1 → Nat) a + (![1] : Fin 1 → Nat) a ≤ S16.size a)
    (h3 : ∀ a, (![q] : Fin 1 → Nat) a + (![1] : Fin 1 → Nat) a ≤ S16.size a)
    (n1 n2 : 0 < (⟨1, ![1]⟩ : Shape).numel) (x : S128x128.Idx) :
    pairOut (k0_pay2 x2 x3) (k0_pay3 x4 x5) (k0_pay4 i) k0_pay5
      (shapeCast S128x128 (View.ld x1 (Rect.unit (s := S128x1024) ![0, o] ![128, 128] h1)) shapeCasts_S128x128_S128x128)
      (View.ld x0 (Rect.unit (s := S16) ![p] ![1] h2) (Shape.Idx.first n1)) (View.ld x0 (Rect.unit (s := S16) ![q] ![1] h3) (Shape.Idx.first n2)) x
    = blockOut i x0 x1 x2 x3 x4 x5 ((Rect.unit (s := S128x1024) ![0, o] ![128, 128] h1).emb x) := by
  subst ho hp hq
  have hx1 := idx2_lt1 (n0 := 128) (n1 := 128) x
  have e1 : (((Rect.unit (s := S128x1024) ![0, 128 * j.val] ![128, 128] h1).emb x 1 : Fin _) : Nat) = 128 * j.val + (x 1).val := by
    show 128 * j.val + 1 * (x 1).val = _; omega
  have e0 : (((Rect.unit (s := S128x1024) ![0, 128 * j.val] ![128, 128] h1).emb x 0 : Fin _) : Nat) = (x 0).val := by
    show 0 + 1 * (x 0).val = _; omega
  unfold blockOut pairAt
  have ej : (⟨((Rect.unit (s := S128x1024) ![0, 128 * j.val] ![128, 128] h1).emb x 1).val / 128, by rw [e1]; have := j.isLt; omega⟩ : Fin 8) = j :=
    Fin.ext (by show _ / 128 = _; rw [e1]; omega)
  rw [ej]
  have ex : (ix2 (n0 := 128) (n1 := 128) ((Rect.unit (s := S128x1024) ![0, 128 * j.val] ![128, 128] h1).emb x 0)
      ⟨((Rect.unit (s := S128x1024) ![0, 128 * j.val] ![128, 128] h1).emb x 1).val % 128, by omega⟩) = x := by
    funext a
    match a with
    | ⟨0, _⟩ => exact Fin.ext e0
    | ⟨1, _⟩ => exact Fin.ext (by show _ % 128 = (x 1).val; rw [e1]; omega)
  rw [ex]
  refine congrFun (pairOut_congr _ _ _ _ ?_ ?_ ?_) x
  · refine (shapeCast_self (s := S128x128) _ _).trans ?_
    funext z
    unfold View.ld slabOf
    congr 1
    funext a
    match a with
    | ⟨0, _⟩ => exact Fin.ext (by show 0 + 1 * (z 0).val = (z 0).val; omega)
    | ⟨1, _⟩ => exact Fin.ext (by show 128 * j.val + 1 * (z 1).val = 128 * j.val + (z 1).val; omega)
  · unfold View.ld
    congr 1
    funext a
    match a with
    | ⟨0, _⟩ => exact Fin.ext (by
        show 2 * j.val + 1 * (Shape.Idx.first n1 0).val = 2 * j.val
        have : (Shape.Idx.first n1 0).val < 1 := (Shape.Idx.first n1 0).isLt
        omega)
  · unfold View.ld
    congr 1
    funext a
    match a with
    | ⟨0, _⟩ => exact Fin.ext (by
        show 2 * j.val + 1 + 1 * (Shape.Idx.first n2 0).val = 2 * j.val + 1
        have : (Shape.Idx.first n2 0).val < 1 := (Shape.Idx.first n2 0).isLt
        omega)

/-- What the body leaves in the output's block. -/
theorem out_eq  (c : Dev nD) (i : grid0.Coords) (arg2 : Memref sig .tc .smem S16 .f32) (harg2 : arg2.IsWhole) (arg3 : Memref sig .tc .vmem S128x1024 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x1024 .bf16) (harg8 : arg8.IsWhole)
    (x0 : Vec F S16 .f32) (x1 : Vec F S128x1024 .bf16) (x2 : Vec F S128x128 .bf16) (x3 : Vec F S128x128 .bf16) (x4 : Vec F S128x128 .bf16) (x5 : Vec F S128x128 .bf16) :
    out0_A_6 c i arg2 harg2 arg3 harg3 arg4 harg4 arg5 harg5 arg6 harg6 arg7 harg7 arg8 harg8 x0 x1 x2 x3 x4 x5 = blockOut i x0 x1 x2 x3 x4 x5 := by
  funext y
  have hc := cover0_A_6 c i arg2 harg2 arg3 harg3 arg4 harg4 arg5 harg5 arg6 harg6 arg7 harg7 arg8 harg8 x0 x1 x2 x3 x4 x5 y
  unfold out0_A_6
  rw [View.read_writes_eq_canon _ _ _ (cover0_A_6 c i arg2 harg2 arg3 harg3 arg4 harg4 arg5 harg5 arg6 harg6 arg7 harg7 arg8 harg8 x0 x1 x2 x3 x4 x5)]
  refine View.canon_apply_of_pieces (blockOut i x0 x1 x2 x3 x4 x5) _ ?_ y hc
  frame_out
  intro p hp
  simp only [List.mem_cons, List.not_mem_nil, or_false] at hp
  rcases hp with rfl | rfl | rfl | rfl | rfl | rfl | rfl | rfl <;> intro x
  · exact piece_eq i x0 x1 x2 x3 x4 x5 7 896 14 15 rfl rfl rfl _ _ _ _ _ x
  · exact piece_eq i x0 x1 x2 x3 x4 x5 6 768 12 13 rfl rfl rfl _ _ _ _ _ x
  · exact piece_eq i x0 x1 x2 x3 x4 x5 5 640 10 11 rfl rfl rfl _ _ _ _ _ x
  · exact piece_eq i x0 x1 x2 x3 x4 x5 4 512 8 9 rfl rfl rfl _ _ _ _ _ x
  · exact piece_eq i x0 x1 x2 x3 x4 x5 3 384 6 7 rfl rfl rfl _ _ _ _ _ x
  · exact piece_eq i x0 x1 x2 x3 x4 x5 2 256 4 5 rfl rfl rfl _ _ _ _ _ x
  · exact piece_eq i x0 x1 x2 x3 x4 x5 1 128 2 3 rfl rfl rfl _ _ _ _ _ x
  · exact piece_eq i x0 x1 x2 x3 x4 x5 0 0 0 1 rfl rfl rfl _ _ _ _ _ x

end Cert.Swa

end
-- ==== Proof.Math.lean ====
/- Softmax attention with a sink over the extended reals: dividing once after the weighted sum, or every weight before it. -/
module

public import Idealize.ShloMosaic.PureOps.Ideal

@[expose] public section

noncomputable section

namespace Cert.Swa

open Idealize.ShloMosaic

/-- The largest of a row of scores and its sink. -/
def rowTop (S : Fin 256 → EReal) (a : EReal) : EReal := max (Finset.univ.fold max ⊥ S) a

/-- The weight of a position before normalization. -/
def wt (S : Fin 256 → EReal) (a : EReal) (s : Fin 256) : EReal := Ideal.exp (S s - rowTop S a)

/-- The normalizer: the weights' sum and the sink's weight. -/
def den (S : Fin 256 → EReal) (a : EReal) : EReal := (∑ s, wt S a s) + Ideal.exp (a - rowTop S a)

/-- The row's output: the weighted sum over the normalizer. -/
def att (S : Fin 256 → EReal) (a : EReal) (V : Fin 256 → EReal) : EReal := Ideal.div (∑ s, wt S a s * V s) (den S a)

theorem sum_mul_real {ι : Type*} (t : Finset ι) (f : ι → EReal) (c : ℝ) (hc : 0 ≤ c) :
    (∑ s ∈ t, f s) * (c : EReal) = ∑ s ∈ t, f s * (c : EReal) := by
  classical
  induction t using Finset.induction_on with
  | empty => simp
  | insert i t hi ih =>
    rw [Finset.sum_insert hi, Finset.sum_insert hi,
      EReal.right_distrib_of_nonneg_of_ne_top (by exact_mod_cast hc) (EReal.coe_ne_top c), ih]

theorem fold_max_ne_top (S : Fin 256 → EReal) (t : Finset (Fin 256)) (hS : ∀ s, S s ≠ ⊤) : t.fold max ⊥ S ≠ ⊤ := by
  classical
  induction t using Finset.induction_on with
  | empty => simp
  | insert i t hi ih =>
    rw [Finset.fold_insert hi]
    rcases max_choice (S i) (t.fold max ⊥ S) with h | h <;> rw [h]
    exacts [hS i, ih]

theorem rowTop_real (S : Fin 256 → EReal) (a : EReal) (hS : ∀ s, S s ≠ ⊤) (ha : a ≠ ⊤) (hb : a ≠ ⊥) : ∃ x : ℝ, rowTop S a = x := by
  have h1 : rowTop S a ≠ ⊤ := by
    unfold rowTop
    rcases max_choice (Finset.univ.fold max ⊥ S) a with h | h <;> rw [h]
    exacts [fold_max_ne_top S _ hS, ha]
  have h2 : rowTop S a ≠ ⊥ := fun h => hb (le_bot_iff.mp (h ▸ le_max_right _ _))
  exact ⟨(rowTop S a).toReal, (EReal.coe_toReal h1 h2).symm⟩

theorem wt_real (S : Fin 256 → EReal) (a : EReal) (hS : ∀ s, S s ≠ ⊤) (ha : a ≠ ⊤) (hb : a ≠ ⊥) (s : Fin 256) :
    ∃ w : ℝ, 0 ≤ w ∧ wt S a s = w := by
  obtain ⟨x, hx⟩ := rowTop_real S a hS ha hb
  unfold wt
  rw [hx]
  have := hS s
  induction h : S s using EReal.rec with
  | bot => exact ⟨0, le_rfl, by simp⟩
  | coe y => exact ⟨Real.exp (y - x), (Real.exp_pos _).le, by rw [← EReal.coe_sub, Ideal.exp_coe]⟩
  | top => exact absurd h this

/-- A masked position has no weight. -/
theorem wt_bot (S : Fin 256 → EReal) (a : EReal) (s : Fin 256) (h : S s = ⊥) : wt S a s = 0 := by
  unfold wt; rw [h]; simp

theorem den_real (S : Fin 256 → EReal) (a : EReal) (hS : ∀ s, S s ≠ ⊤) (ha : a ≠ ⊤) (hb : a ≠ ⊥) :
    ∃ x : ℝ, 0 < x ∧ den S a = x := by
  obtain ⟨x, hx⟩ := rowTop_real S a hS ha hb
  choose w hw he using wt_real S a hS ha hb
  obtain ⟨y, rfl⟩ : ∃ y : ℝ, a = y := ⟨a.toReal, (EReal.coe_toReal ha hb).symm⟩
  refine ⟨(∑ s, w s) + Real.exp (y - x), add_pos_of_nonneg_of_pos (Finset.sum_nonneg fun s _ => hw s) (Real.exp_pos _), ?_⟩
  unfold den
  rw [hx, ← EReal.coe_sub, Ideal.exp_coe, EReal.coe_add]
  congr 1
  rw [Finset.sum_congr rfl fun s _ => he s]
  exact (map_sum (⟨⟨Real.toEReal, rfl⟩, EReal.coe_add⟩ : ℝ →+ EReal) w Finset.univ).symm

/-- Normalizing every weight first gives the same row, whatever stands at the masked positions. -/
theorem sum_div_eq_att (S : Fin 256 → EReal) (a : EReal) (V U : Fin 256 → EReal) (hS : ∀ s, S s ≠ ⊤) (ha : a ≠ ⊤) (hb : a ≠ ⊥)
    (hU : ∀ s, S s ≠ ⊥ → U s = V s) : ∑ s, U s * Ideal.div (wt S a s) (den S a) = att S a V := by
  obtain ⟨x, hx, he⟩ := den_real S a hS ha hb
  unfold att
  rw [he, Ideal.div_coe hx.ne', sum_mul_real _ _ _ (by positivity)]
  refine Finset.sum_congr rfl fun s _ => ?_
  rw [Ideal.div_coe hx.ne']
  by_cases h : S s = ⊥
  · rw [wt_bot S a s h]; simp
  · rw [hU s h, mul_comm (V s), mul_right_comm]

theorem sum_ne_top {ι : Type*} (t : Finset ι) (f : ι → EReal) (h : ∀ i, ∃ x : ℝ, f i = x) : ∃ x : ℝ, ∑ i ∈ t, f i = x := by
  choose g hg using h
  exact ⟨∑ i ∈ t, g i, by
    rw [Finset.sum_congr rfl fun s _ => hg s]
    exact (map_sum (⟨⟨Real.toEReal, rfl⟩, EReal.coe_add⟩ : ℝ →+ EReal) g t).symm⟩

/-- A sum over 128 lanes, half by half. -/
theorem sum_lanes (f : Fin 128 → EReal) :
    ∑ l, f l = (∑ d : Fin 64, f ⟨d.val, by omega⟩) + ∑ d : Fin 64, f ⟨64 + d.val, by omega⟩ :=
  Fin.sum_univ_add (a := 64) (b := 64) f

end Cert.Swa

end
-- ==== Proof.BlockRead.lean ====
/- The stored block at a lane, over the extended reals: a row of masked softmax attention with its sink. -/
module

public import proofs.«01_k».proof.Proof.Block
public import proofs.«01_k».proof.Proof.Math
public import Idealize.ShloMosaic.Lib.MatmulPlain
public import Idealize.ShloMosaic.Lib.ValueLayoutCasts
public import Idealize.ShloMosaic.PureOps.Ideal.Laws

@[expose] public section

noncomputable section

namespace Cert.Swa

open Cert.KernelIdeal Cert.KernelIdeal.Gen
open Idealize.ShloMosaic hiding ix2
open Idealize.ShloMosaic.TcCoe Idealize.SL.Sem Idealize.ShloMosaic.ValueIdx

/-- Whether query `r` of block `n` sees position `s` of its band. -/
def seen (n r s : Nat) : BitVec 1 :=
  IntOp.andi
    (IntOp.andi (IntOp.cmpi .sge (IntOp.addi (IntOp.subi (BitVec.ofNat 32 r) (BitVec.ofNat 32 s)) 128#32) 0#32)
      (IntOp.cmpi .slt (IntOp.addi (IntOp.subi (BitVec.ofNat 32 r) (BitVec.ofNat 32 s)) 128#32) 128#32))
    (IntOp.ori (IntOp.cmpi .sgt (BitVec.ofNat 32 n) 0#32) (IntOp.cmpi .sge (BitVec.ofNat 32 s) 128#32))

/-- The first block sees no position before it. -/
theorem seen_first (r : Nat) (s : Nat) (h : s < 128) : seen 0 r s = 0#1 := by
  have h1 : IntOp.cmpi .sge (BitVec.ofNat 32 s) 128#32 = 0#1 :=
    (by decide +kernel : ∀ s : Fin 128, IntOp.cmpi .sge (BitVec.ofNat 32 s.val) 128#32 = 0#1) ⟨s, h⟩
  unfold seen
  rw [h1, show IntOp.ori (IntOp.cmpi .sgt (BitVec.ofNat 32 0) 0#32) 0#1 = 0#1 by decide]
  exact BitVec.and_zero

theorem pay4_apply (i : grid0.Coords) (r : Fin 128) (s : Fin 256) : k0_pay4 i (ix2 r s) = seen (i 1).val r.val s.val := by
  unfold k0_pay4
  show IntOp.andi (IntOp.andi (IntOp.cmpi .sge (IntOp.addi (IntOp.subi (iota .tc S128x256 32 [0] iota_S128x256_d0_w32 (ix2 r s)) (iota .tc S128x256 32 [1] iota_S128x256_d1_w32 (ix2 r s))) 128#32) 0#32)
      (IntOp.cmpi .slt (IntOp.addi (IntOp.subi (iota .tc S128x256 32 [0] iota_S128x256_d0_w32 (ix2 r s)) (iota .tc S128x256 32 [1] iota_S128x256_d1_w32 (ix2 r s))) 128#32) 128#32))
    (IntOp.ori (IntOp.cmpi .sgt (BitVec.ofNat 32 (i 1).val) 0#32) (IntOp.cmpi .sge (iota .tc S128x256 32 [1] iota_S128x256_d1_w32 (ix2 r s)) 128#32)) = _
  rw [iota_single_apply .tc S128x256 32 0, iota_single_apply .tc S128x256 32 1]
  rfl

theorem pay5_apply (r : Fin 128) (l : Fin 128) : k0_pay5 (ix2 r l) = if l.val < 64 then 1#1 else 0#1 := by
  unfold k0_pay5
  show IntOp.cmpi .slt (iota .tc S128x128 32 [1] iota_S128x128_d1_w32 (ix2 r l)) 64#32 = _
  rw [iota_single_apply .tc S128x128 32 1]
  exact (by decide +kernel : ∀ l : Fin 128, IntOp.cmpi .slt (BitVec.ofNat 32 l.val) 64#32 = if l.val < 64 then 1#1 else 0#1) l

theorem ofBits_neg_inf : (FloatOps.ofBits (F := Ideal) .f32 0xFF800000#32 : EReal) = ⊥ := by
  show Ideal.ofBits .f32 _ = _
  simp [Ideal.ofBits, Ideal.ieee]

theorem dot_scores : dot_S128x128_S256x128_S128x256_1_1_0_0_n_n = DotDims.transposedRhs 128 128 256 := rfl
theorem dot_out : dot_S128x256_S256x128_S128x128_1_0_0_1_n_n = DotDims.plain 128 256 128 := rfl

theorem scores_apply (kb : FVec Ideal S256x128 .bf16) (valid : IVec S128x256 1) (qe : FVec Ideal S128x128 .bf16) (r : Fin 128) (s : Fin 256) :
    scores kb valid qe (ix2 r s)
      = Scalar.select (valid (ix2 r s)) ((∑ l : Fin 128, (qe (ix2 r l) : EReal) * kb (ix2 s l)) : EReal) (⊥ : EReal) := by
  unfold scores
  rw [select_apply]
  congr 1
  · rw [dot_scores]
    refine (Ideal.matmul_transposedRhs_apply none qe kb _ r s).trans ?_
    show Ideal.ofBits .f32 0#32 + _ = _
    rw [Ideal.ofBits_zero_f32, zero_add]

theorem lift_eq (r : Fin 128) (k : Fin 256) : (reduces_S128x256_S128).lift (ix1 (n0 := 128) r) k = ix2 (n0 := 128) (n1 := 256) r k := by
  funext a
  match a with
  | ⟨0, _⟩ => rfl
  | ⟨1, _⟩ => rfl

theorem rowMax_apply (s : FVec Ideal S128x256 .f32) (a : Elt Ideal .f32) (r : Fin 128) (u : Fin 1) :
    rowMax s a (ix2 r u) = rowTop (fun k => s (ix2 r k)) a := by
  unfold rowMax rowTop
  refine congrArg₂ max ?_ rfl
  refine (shapeCast_a_a1_apply _ _ r u).trans ((Ideal.multiReduction_maximumf_single s _ _ _ _ _).trans ?_)
  rw [ofBits_neg_inf]
  exact Finset.fold_congr fun k _ => congrArg s (lift_eq r k)

theorem bcast_apply {n : Nat} (x : FVec Ideal S128x1 .f32) (h : S128x1.Broadcasts ⟨2, ![128, n]⟩) (r : Fin 128) (l : Fin n) :
    broadcastTo ⟨2, ![128, n]⟩ x h (ix2 r l) = x (ix2 r 0) :=
  broadcastTo_apply x h _ _ (fun a => match a with
    | ⟨0, _⟩ => by show r.val = if (128 : Nat) = 1 then 0 else r.val; rw [if_neg (by decide)]
    | ⟨1, _⟩ => by show 0 = if (1 : Nat) = 1 then 0 else _; rw [if_pos rfl])

theorem weights_apply (s : FVec Ideal S128x256 .f32) (a : Elt Ideal .f32) (r : Fin 128) (k : Fin 256) :
    weights s (rowMax s a) (ix2 r k) = wt (fun k => s (ix2 r k)) a k := by
  unfold weights wt
  show Ideal.exp (s (ix2 r k) - broadcastTo S128x256 (rowMax s a) _ (ix2 r k)) = _
  rw [bcast_apply (n := 256), rowMax_apply]

theorem normalizer_apply (s : FVec Ideal S128x256 .f32) (a : Elt Ideal .f32) (r : Fin 128) (u : Fin 1) :
    normalizer (weights s (rowMax s a)) (rowMax s a) a (ix2 r u) = den (fun k => s (ix2 r k)) a := by
  unfold normalizer den
  refine congrArg₂ (· + ·) ((shapeCast_a_a1_apply _ _ r u).trans ((Ideal.multiReduction_add_single _ _ _ _ _ _).trans ?_))
    (congrArg Ideal.exp (congrArg (a - ·) (rowMax_apply s a r u)))
  exact Finset.sum_congr rfl fun k _ => (congrArg (weights s (rowMax s a)) (lift_eq r k)).trans (weights_apply s a r k)

theorem headOut_apply (vb : FVec Ideal S256x128 .bf16) (s : FVec Ideal S128x256 .f32) (a : Elt Ideal .f32) (r l : Fin 128) :
    headOut vb s a (ix2 r l) = att (fun k => s (ix2 r k)) a (fun k => vb (ix2 k l)) := by
  unfold headOut att
  refine congrArg₂ Ideal.div ?_ ((bcast_apply (n := 128) _ _ r l).trans (normalizer_apply s a r 0))
  rw [dot_out]
  refine (Ideal.matmul_plain_apply none _ vb _ r l).trans ?_
  show Ideal.ofBits .f32 0#32 + _ = _
  rw [Ideal.ofBits_zero_f32, zero_add]
  refine Finset.sum_congr rfl fun k _ => ?_
  rw [← weights_apply]
  rfl

/-- The score of a query row of pair slab `slab`, in the lanes of one half, against a band position. -/
def laneScore (n : Nat) (slab : Fin 128 → EReal) (kb : Fin 256 → Fin 128 → EReal) (half : Fin 2) (r : Fin 128) (s : Fin 256) : EReal :=
  if seen n r.val s.val = 1#1 then
    ∑ d : Fin 64, slab ⟨64 * half.val + d.val, by omega⟩ * kb s ⟨64 * half.val + d.val, by omega⟩ else ⊥

theorem select_if {α : Type} (b : BitVec 1) (x y : α) : Scalar.select b x y = if b = 1#1 then x else y := by
  rcases BitVec.eq_zero_or_eq_one b with h | h <;> subst h <;> rfl

theorem zero_bf16 : (Scalar.ofBits (F := Ideal) .bf16 0x0000#16 : EReal) = 0 := Ideal.ofBits_zero_bf16

theorem lowHalf_apply (slab : FVec Ideal S128x128 .bf16) (r l : Fin 128) :
    lowHalf k0_pay5 slab (ix2 r l) = if l.val < 64 then slab (ix2 r l) else (0 : EReal) := by
  unfold lowHalf
  rw [select_apply, pay5_apply]
  show Scalar.select _ _ (Scalar.ofBits (F := Ideal) .bf16 0x0000#16 : EReal) = _
  rw [zero_bf16]
  split <;> rfl

theorem highHalf_apply (slab : FVec Ideal S128x128 .bf16) (r l : Fin 128) :
    highHalf k0_pay5 slab (ix2 r l) = if l.val < 64 then (0 : EReal) else slab (ix2 r l) := by
  unfold highHalf
  rw [select_apply]
  show Scalar.select (IntOp.xori (k0_pay5 (ix2 r l)) 1#1) _ (Scalar.ofBits (F := Ideal) .bf16 0x0000#16 : EReal) = _
  rw [zero_bf16, pay5_apply]
  split <;> rfl

theorem low_scores (kb : FVec Ideal S256x128 .bf16) (i : grid0.Coords) (slab : FVec Ideal S128x128 .bf16) (r : Fin 128) (s : Fin 256) :
    scores kb (k0_pay4 i) (lowHalf k0_pay5 slab) (ix2 r s)
      = laneScore (i 1).val (fun l => slab (ix2 r l)) (fun s l => kb (ix2 s l)) 0 r s := by
  rw [scores_apply, pay4_apply, select_if]
  unfold laneScore
  refine if_congr Iff.rfl ?_ rfl
  rw [sum_lanes]
  have h2 : ∑ d : Fin 64, (lowHalf k0_pay5 slab (ix2 r ⟨64 + d.val, by omega⟩) : EReal) * kb (ix2 s ⟨64 + d.val, by omega⟩) = 0 :=
    Finset.sum_eq_zero fun d _ => by
      rw [lowHalf_apply, if_neg (by show ¬ 64 + d.val < 64; omega)]; exact zero_mul _
  rw [h2, add_zero]
  refine Finset.sum_congr rfl fun d _ => ?_
  rw [lowHalf_apply, if_pos (by show d.val < 64; omega)]
  have e : (⟨64 * (0 : Fin 2).val + d.val, by omega⟩ : Fin 128) = ⟨d.val, by omega⟩ := Fin.ext (by show 64 * 0 + d.val = d.val; omega)
  rw [e]

theorem high_scores (kb : FVec Ideal S256x128 .bf16) (i : grid0.Coords) (slab : FVec Ideal S128x128 .bf16) (r : Fin 128) (s : Fin 256) :
    scores kb (k0_pay4 i) (highHalf k0_pay5 slab) (ix2 r s)
      = laneScore (i 1).val (fun l => slab (ix2 r l)) (fun s l => kb (ix2 s l)) 1 r s := by
  rw [scores_apply, pay4_apply, select_if]
  unfold laneScore
  refine if_congr Iff.rfl ?_ rfl
  rw [sum_lanes]
  have h2 : ∑ d : Fin 64, (highHalf k0_pay5 slab (ix2 r ⟨d.val, by omega⟩) : EReal) * kb (ix2 s ⟨d.val, by omega⟩) = 0 :=
    Finset.sum_eq_zero fun d _ => by
      rw [highHalf_apply, if_pos (by show d.val < 64; omega)]; exact zero_mul _
  rw [h2, zero_add]
  refine Finset.sum_congr rfl fun d _ => ?_
  rw [highHalf_apply, if_neg (by show ¬ 64 + d.val < 64; omega)]
  have e : (⟨64 * (1 : Fin 2).val + d.val, by omega⟩ : Fin 128) = ⟨64 + d.val, by omega⟩ := Fin.ext (by show 64 * 1 + d.val = 64 + d.val; omega)
  rw [e]

/-- The stored piece of a pair at a lane: the attention row of the head whose half holds the lane. -/
theorem pairOut_apply (kb vb : FVec Ideal S256x128 .bf16) (i : grid0.Coords) (slab : FVec Ideal S128x128 .bf16) (s0 s1 : Elt Ideal .f32)
    (r l : Fin 128) (half : Fin 2) (hh : half.val = l.val / 64) :
    pairOut kb vb (k0_pay4 i) k0_pay5 slab s0 s1 (ix2 r l)
      = att (laneScore (i 1).val (fun l => slab (ix2 r l)) (fun s l => kb (ix2 s l)) half r) (if half = 0 then s0 else s1)
          (fun k => vb (ix2 k l)) := by
  unfold pairOut
  show Scalar.select (k0_pay5 (ix2 r l)) (headOut vb _ s0 (ix2 r l)) (headOut vb _ s1 (ix2 r l)) = _
  rw [pay5_apply, headOut_apply, headOut_apply]
  simp only [low_scores, high_scores]
  by_cases h : l.val < 64
  · obtain rfl : half = 0 := Fin.ext (by show half.val = 0; omega)
    rw [if_pos h, if_pos rfl]; rfl
  · obtain rfl : half = 1 := Fin.ext (by show half.val = 1; omega)
    rw [if_neg h, if_neg (by decide)]; rfl

/-- The band of keys (or values) the two blocks make. -/
theorem pay2_apply (x y : Vec Ideal S128x128 .bf16) (s : Fin 256) (l : Fin 128) :
    k0_pay2 x y (ix2 s l) = if h : s.val < 128 then x (ix2 ⟨s.val, h⟩ l) else y (ix2 ⟨s.val - 128, by omega⟩ l) := by
  unfold k0_pay2
  show concatenate S256x128 0 [⟨S128x128, shapeCast S128x128 x _⟩, ⟨S128x128, shapeCast S128x128 y _⟩] _ _ = _
  rw [shapeCast_self (s := S128x128), shapeCast_self (s := S128x128)]
  by_cases h : s.val < 128
  · rw [dif_pos h]
    exact concatenate_pair_apply_left (t := S256x128) (s₁ := S128x128) (s₂ := S128x128) 0 x y _ (ix2 s l) rfl (ix2 ⟨s.val, h⟩ l)
      (fun b => match b with | ⟨0, _⟩ => rfl | ⟨1, _⟩ => rfl)
  · rw [dif_neg h]
    exact concatenate_pair_apply_right (t := S256x128) (s₁ := S128x128) (s₂ := S128x128) 0 x y _ (ix2 s l) rfl rfl (ix2 ⟨s.val - 128, by omega⟩ l)
      (fun b hb => match b, hb with | ⟨0, _⟩, hb => absurd rfl hb | ⟨1, _⟩, _ => rfl) (by show s.val - 128 + 128 = s.val; omega)

theorem pay3_eq (x y : Vec Ideal S128x128 .bf16) : k0_pay3 x y = k0_pay2 x y := rfl

end Cert.Swa

end
-- ==== Proof.Spec.lean ====
/- The attention both programs compute, as a function of the four argument arrays at an index. -/
module

public import proofs.«01_k».proof.Proof.BlockRead

@[expose] public section

noncomputable section

namespace Cert.Swa

open Cert.KernelIdeal Cert.KernelIdeal.Gen
open Idealize.ShloMosaic hiding ix2 ix4
open Idealize.ShloMosaic.TcCoe Idealize.SL.Sem Idealize.ShloMosaic.ValueIdx

/-- The scale of the scores. -/
def sc : EReal := (FloatOps.ofBits (F := Ideal) .f32 0x3E000000#32 : EReal)

theorem sc_eq : sc = ((1 / 8 : ℝ) : EReal) := by
  show Ideal.ofBits .f32 0x3E000000#32 = _
  simp [Ideal.ofBits, Ideal.ieee, -EReal.coe_mul]
  norm_num

/-- The position in the sequence of place `s` of block `n`'s band; before the first block the clamp gives block 0's own positions. -/
def bandPos (n : Fin 16) (s : Fin 256) : Fin 2048 :=
  if s.val < 128 then ⟨128 * (n.val - 1) + s.val % 128, by omega⟩ else ⟨128 * n.val + (s.val - 128), by omega⟩

/-- The masked, scaled scores of one query row. -/
def specScore (q : FVec Ideal S8x2048x16x64 .f32) (k : FVec Ideal S8x2048x2x64 .f32) (b : Fin 8) (n : Fin 16) (r : Fin 128)
    (j : Fin 8) (half : Fin 2) (s : Fin 256) : EReal :=
  if seen n.val r.val s.val = 1#1 then
    (∑ d : Fin 64, (k (ix4 b (bandPos n s) half d) : EReal)
      * q (ix4 b (⟨128 * n.val + r.val, by omega⟩ : Fin 2048) (⟨8 * half.val + j.val, by omega⟩ : Fin 16) d)) * sc
  else ⊥

/-- One output. -/
def specAt (q : FVec Ideal S8x2048x16x64 .f32) (k v : FVec Ideal S8x2048x2x64 .f32) (a : FVec Ideal S1x16 .f32)
    (b : Fin 8) (n : Fin 16) (r : Fin 128) (j : Fin 8) (half : Fin 2) (d : Fin 64) : EReal :=
  att (specScore q k b n r j half) (a (ix2 (0 : Fin 1) (⟨8 * half.val + j.val, by omega⟩ : Fin 16)))
    (fun s => v (ix4 b (bandPos n s) half d))

/-- The whole output: row `2048 b + 128 n + r`, column `128 j + 64 half + d`. -/
def spec (q : FVec Ideal S8x2048x16x64 .f32) (k v : FVec Ideal S8x2048x2x64 .f32) (a : FVec Ideal S1x16 .f32) : FVec Ideal S16384x1024 .bf16 :=
  fun y => specAt q k v a ⟨(y 0).val / 2048, by have := idx2_lt0 y; omega⟩ ⟨(y 0).val % 2048 / 128, by omega⟩ ⟨(y 0).val % 128, by omega⟩
    ⟨(y 1).val / 128, by have := idx2_lt1 y; omega⟩ ⟨(y 1).val / 64 % 2, by omega⟩ ⟨(y 1).val % 64, by omega⟩

end Cert.Swa

end
-- ==== Proof.Final.lean ====
/- The kernel's final array is the attention of its arguments. -/
module

public import proofs.«01_k».proof.Proof.Spec
public import Idealize.ShloMosaic.Lib.StableHlo.Run
public import Idealize.ShloMosaic.Lib.Tactic

@[expose] public section

noncomputable section

namespace Cert.Swa

open Cert.KernelIdeal Cert.KernelIdeal.Gen Cert.KernelIdeal.Value
open Idealize.ShloMosaic hiding ix1 ix2 ix4 eq_ix2
open Idealize.ShloMosaic.TcCoe Idealize.SL.Sem Idealize.ShloMosaic.ValueIdx

section Entry
variable {F : FTy → Type} [FloatOps F]
variable (m : (ℓ : Loc nD τ sig) → Buf (Elt F) ℓ)

theorem v5_term (c : Dev nD) : (V m c main_v5 : FVec F S16384x1024 .bf16)
    = truncf .bf16 (shapeCast S16384x1024 (transpose S16384x8x2x64 [0, 2, 1, 3] (shapeCast S16384x2x8x64
        (mulf (m ((c : Thread nD τ).loc main_arg0) : FVec F S8x2048x16x64 .f32)
          (broadcastInDim S8x2048x16x64 ![] bcast_S_S8x2048x16x64 (constant S_ .f32 0x3E000000#32)))
        shapeCasts_S8x2048x16x64_S16384x2x8x64) transposes_S16384x2x8x64_S16384x8x2x64_0_2_1_3)
        shapeCasts_S16384x8x2x64_S16384x1024) bitsLt_bf16_f32 := by
  show StableHlo.after hostOps0 _ (Proc.devRef .tc main_v5) = _
  after_results
  rfl

theorem v7_term (c : Dev nD) : (V m c main_v7 : FVec F S16384x128 .bf16)
    = truncf .bf16 (shapeCast S16384x128 (m ((c : Thread nD τ).loc main_arg1) : FVec F S8x2048x2x64 .f32) shapeCasts_S8x2048x2x64_S16384x128) bitsLt_bf16_f32 := by
  show StableHlo.after hostOps0 _ (Proc.devRef .tc main_v7) = _
  after_results
  rfl

theorem v9_term (c : Dev nD) : (V m c main_v9 : FVec F S16384x128 .bf16)
    = truncf .bf16 (shapeCast S16384x128 (m ((c : Thread nD τ).loc main_arg2) : FVec F S8x2048x2x64 .f32) shapeCasts_S8x2048x2x64_S16384x128) bitsLt_bf16_f32 := by
  show StableHlo.after hostOps0 _ (Proc.devRef .tc main_v9) = _
  after_results
  rfl

theorem v12_term (c : Dev nD) : (V m c main_v12 : FVec F S16 .f32)
    = shapeCast S16 (transpose S8x2 [1, 0] (shapeCast S2x8 (m ((c : Thread nD τ).loc main_arg3) : FVec F S1x16 .f32) shapeCasts_S1x16_S2x8)
        transposes_S2x8_S8x2_1_0) shapeCasts_S8x2_S16 := by
  show StableHlo.after hostOps0 _ (Proc.devRef .tc main_v12) = _
  after_results
  rfl

end Entry

section Read
variable (m : (ℓ : Loc nD τ sig) → Buf (Elt Ideal) ℓ)

/-- The queries as the region finds them. -/
theorem q_apply (x : FVec Ideal S8x2048x16x64 .f32) (R : Fin 16384) (C : Fin 1024) :
    (shapeCast S16384x1024 (transpose S16384x8x2x64 [0, 2, 1, 3] (shapeCast S16384x2x8x64
        (mulf x (broadcastInDim S8x2048x16x64 ![] bcast_S_S8x2048x16x64 (constant S_ .f32 0x3E000000#32)))
        shapeCasts_S8x2048x16x64_S16384x2x8x64) transposes_S16384x2x8x64_S16384x8x2x64_0_2_1_3)
        shapeCasts_S16384x8x2x64_S16384x1024 : FVec Ideal S16384x1024 .f32) (ix2 R C)
      = (x (ix4 (⟨R.val / 2048, by omega⟩ : Fin 8) (⟨R.val % 2048, by omega⟩ : Fin 2048) (⟨8 * (C.val / 64 % 2) + C.val / 128, by omega⟩ : Fin 16)
            (⟨C.val % 64, by omega⟩ : Fin 64)) : EReal) * sc := by
  refine (shapeCast_apply _ _ _ (ix4 R (⟨C.val / 128, by omega⟩ : Fin 8) (⟨C.val / 64 % 2, by omega⟩ : Fin 2) (⟨C.val % 64, by omega⟩ : Fin 64)) ?_).trans ?_
  · rw [Shape.rowMajor_val_two, Shape.rowMajor_val_four]
    show ((R.val * 8 + C.val / 128) * 2 + C.val / 64 % 2) * 64 + C.val % 64 = R.val * 1024 + C.val
    omega
  refine (transpose_apply [0, 2, 1, 3] _ _ (ix4 R (⟨C.val / 128, by omega⟩ : Fin 8) (⟨C.val / 64 % 2, by omega⟩ : Fin 2) (⟨C.val % 64, by omega⟩ : Fin 64)) (ix4 R (⟨C.val / 64 % 2, by omega⟩ : Fin 2) (⟨C.val / 128, by omega⟩ : Fin 8) (⟨C.val % 64, by omega⟩ : Fin 64))
    (fun b => match b with | ⟨0, _⟩ => rfl | ⟨1, _⟩ => rfl | ⟨2, _⟩ => rfl | ⟨3, _⟩ => rfl)).trans ?_
  refine (shapeCast_apply _ _ _ (ix4 (⟨R.val / 2048, by omega⟩ : Fin 8) (⟨R.val % 2048, by omega⟩ : Fin 2048) (⟨8 * (C.val / 64 % 2) + C.val / 128, by omega⟩ : Fin 16)
            (⟨C.val % 64, by omega⟩ : Fin 64)) ?_).trans ?_
  · rw [Shape.rowMajor_val_four, Shape.rowMajor_val_four]
    show ((R.val / 2048 * 2048 + R.val % 2048) * 16 + (8 * (C.val / 64 % 2) + C.val / 128)) * 64 + C.val % 64
      = ((R.val * 2 + C.val / 64 % 2) * 8 + C.val / 128) * 64 + C.val % 64
    omega
  · rfl

/-- Keys and values as the region finds them. -/
theorem kv_apply (x : FVec Ideal S8x2048x2x64 .f32) (R : Fin 16384) (l : Fin 128) :
    (truncf .bf16 (shapeCast S16384x128 x shapeCasts_S8x2048x2x64_S16384x128) bitsLt_bf16_f32 : FVec Ideal S16384x128 .bf16) (ix2 R l)
      = x (ix4 (⟨R.val / 2048, by omega⟩ : Fin 8) (⟨R.val % 2048, by omega⟩ : Fin 2048) (⟨l.val / 64, by omega⟩ : Fin 2) (⟨l.val % 64, by omega⟩ : Fin 64)) := by
  show shapeCast S16384x128 _ _ (ix2 R l) = _
  refine shapeCast_apply _ _ _ _ ?_
  rw [Shape.rowMajor_val_two, Shape.rowMajor_val_four]
  show ((R.val / 2048 * 2048 + R.val % 2048) * 2 + l.val / 64) * 64 + l.val % 64 = R.val * 128 + l.val
  omega

theorem a_apply (x : FVec Ideal S1x16 .f32) (p : Fin 16) :
    (shapeCast S16 (transpose S8x2 [1, 0] (shapeCast S2x8 x shapeCasts_S1x16_S2x8) transposes_S2x8_S8x2_1_0) shapeCasts_S8x2_S16 : FVec Ideal S16 .f32) (ix1 p)
    = x (ix2 (0 : Fin 1) (⟨8 * (p.val % 2) + p.val / 2, by omega⟩ : Fin 16)) := by
  refine (shapeCast_apply _ _ _ (ix2 (⟨p.val / 2, by omega⟩ : Fin 8) (⟨p.val % 2, by omega⟩ : Fin 2)) ?_).trans ?_
  · rw [Shape.rowMajor_val_two, Shape.rowMajor_val_one]
    show p.val / 2 * 2 + p.val % 2 = p.val
    omega
  refine (transpose_apply [1, 0] _ _ _ (ix2 (⟨p.val % 2, by omega⟩ : Fin 2) (⟨p.val / 2, by omega⟩ : Fin 8))
    (fun b => match b with | ⟨0, _⟩ => rfl | ⟨1, _⟩ => rfl)).trans ?_
  refine shapeCast_apply _ _ _ _ ?_
  rw [Shape.rowMajor_val_two, Shape.rowMajor_val_two]
  show 0 * 16 + (8 * (p.val % 2) + p.val / 2) = p.val % 2 * 8 + p.val / 2
  omega

theorem idx_facts : ∀ t : Fin cfg0.N,
    (win0_0.index t 0 = 0 ∧ win0_1.index t 0 = t.val ∧ win0_1.index t 1 = 0 ∧ win0_3.index t 0 = t.val ∧ win0_3.index t 1 = 0
      ∧ win0_5.index t 0 = t.val ∧ win0_5.index t 1 = 0 ∧ win0_6.index t 0 = t.val ∧ win0_6.index t 1 = 0)
    ∧ (win0_2.index t 0 = 16 * (t.val / 16) + (t.val % 16 - 1) ∧ win0_2.index t 1 = 0
      ∧ win0_4.index t 0 = 16 * (t.val / 16) + (t.val % 16 - 1) ∧ win0_4.index t 1 = 0)
    ∧ (grid0.coords t 1).val = t.val % 16 :=
  (by decide +kernel : ∀ t : Fin grid0.N, _)

theorem lt_N (t : Fin cfg0.N) : t.val < 128 := t.isLt

theorem iblk0_apply (c : Dev nD) (t : Fin cfg0.N) (p : Fin 16) :
    (iblk m c 0 t : Vec Ideal S16 .f32) (ix1 p) = (V m c main_v12 : FVec Ideal S16 .f32) (ix1 p) := by
  have hi := (idx_facts t).1.1
  unfold iblk
  rw [View.read_apply]
  show V m c main_v12 _ = V m c main_v12 _
  congr 1
  funext a
  apply Fin.ext
  match a with
  | ⟨0, _⟩ => show win0_0.index t 0 * 16 + 1 * p.val = p.val; rw [hi]; omega

theorem iblk1_apply (c : Dev nD) (t : Fin cfg0.N) (r : Fin 128) (C : Fin 1024) :
    (iblk m c 1 t : Vec Ideal S128x1024 .bf16) (ix2 r C)
      = (V m c main_v5 : FVec Ideal S16384x1024 .bf16) (ix2 (⟨128 * t.val + r.val, by have := lt_N t; omega⟩ : Fin 16384) C) := by
  have hi := (idx_facts t).1
  unfold iblk
  rw [View.read_apply]
  show V m c main_v5 _ = V m c main_v5 _
  congr 1
  funext a
  apply Fin.ext
  match a with
  | ⟨0, _⟩ => show win0_1.index t 0 * 128 + 1 * r.val = 128 * t.val + r.val; rw [hi.2.1]; omega
  | ⟨1, _⟩ => show win0_1.index t 1 * 1024 + 1 * C.val = C.val; rw [hi.2.2.1]; omega

theorem iblk2_apply (c : Dev nD) (t : Fin cfg0.N) (r l : Fin 128) :
    (iblk m c 2 t : Vec Ideal S128x128 .bf16) (ix2 r l)
      = (V m c main_v7 : FVec Ideal S16384x128 .bf16)
          (ix2 (⟨128 * (16 * (t.val / 16) + (t.val % 16 - 1)) + r.val, by have := lt_N t; omega⟩ : Fin 16384) l) := by
  have hi := (idx_facts t).2.1
  unfold iblk
  rw [View.read_apply]
  show V m c main_v7 _ = V m c main_v7 _
  congr 1
  funext a
  apply Fin.ext
  match a with
  | ⟨0, _⟩ => show win0_2.index t 0 * 128 + 1 * r.val = 128 * (16 * (t.val / 16) + (t.val % 16 - 1)) + r.val; rw [hi.1]; omega
  | ⟨1, _⟩ => show win0_2.index t 1 * 128 + 1 * l.val = l.val; rw [hi.2.1]; omega

theorem iblk3_apply (c : Dev nD) (t : Fin cfg0.N) (r l : Fin 128) :
    (iblk m c 3 t : Vec Ideal S128x128 .bf16) (ix2 r l)
      = (V m c main_v7 : FVec Ideal S16384x128 .bf16) (ix2 (⟨128 * t.val + r.val, by have := lt_N t; omega⟩ : Fin 16384) l) := by
  have hi := (idx_facts t).1
  unfold iblk
  rw [View.read_apply]
  show V m c main_v7 _ = V m c main_v7 _
  congr 1
  funext a
  apply Fin.ext
  match a with
  | ⟨0, _⟩ => show win0_3.index t 0 * 128 + 1 * r.val = 128 * t.val + r.val; rw [hi.2.2.2.1]; omega
  | ⟨1, _⟩ => show win0_3.index t 1 * 128 + 1 * l.val = l.val; rw [hi.2.2.2.2.1]; omega

theorem iblk4_apply (c : Dev nD) (t : Fin cfg0.N) (r l : Fin 128) :
    (iblk m c 4 t : Vec Ideal S128x128 .bf16) (ix2 r l)
      = (V m c main_v9 : FVec Ideal S16384x128 .bf16)
          (ix2 (⟨128 * (16 * (t.val / 16) + (t.val % 16 - 1)) + r.val, by have := lt_N t; omega⟩ : Fin 16384) l) := by
  have hi := (idx_facts t).2.1
  unfold iblk
  rw [View.read_apply]
  show V m c main_v9 _ = V m c main_v9 _
  congr 1
  funext a
  apply Fin.ext
  match a with
  | ⟨0, _⟩ => show win0_4.index t 0 * 128 + 1 * r.val = 128 * (16 * (t.val / 16) + (t.val % 16 - 1)) + r.val; rw [hi.2.2.1]; omega
  | ⟨1, _⟩ => show win0_4.index t 1 * 128 + 1 * l.val = l.val; rw [hi.2.2.2]; omega

theorem iblk5_apply (c : Dev nD) (t : Fin cfg0.N) (r l : Fin 128) :
    (iblk m c 5 t : Vec Ideal S128x128 .bf16) (ix2 r l)
      = (V m c main_v9 : FVec Ideal S16384x128 .bf16) (ix2 (⟨128 * t.val + r.val, by have := lt_N t; omega⟩ : Fin 16384) l) := by
  have hi := (idx_facts t).1
  unfold iblk
  rw [View.read_apply]
  show V m c main_v9 _ = V m c main_v9 _
  congr 1
  funext a
  apply Fin.ext
  match a with
  | ⟨0, _⟩ => show win0_5.index t 0 * 128 + 1 * r.val = 128 * t.val + r.val; rw [hi.2.2.2.2.2.1]; omega
  | ⟨1, _⟩ => show win0_5.index t 1 * 128 + 1 * l.val = l.val; rw [hi.2.2.2.2.2.2.1]; omega

/-- Two blocks of a flat array of keys (or values) read as the band of a point, in the array's own indices. -/
theorem band_apply (x : FVec Ideal S8x2048x2x64 .f32) (y : FVec Ideal S16384x128 .bf16)
    (hy : ∀ (R : Fin 16384) (l : Fin 128), y (ix2 R l)
      = x (ix4 (⟨R.val / 2048, by omega⟩ : Fin 8) (⟨R.val % 2048, by omega⟩ : Fin 2048) (⟨l.val / 64, by omega⟩ : Fin 2) (⟨l.val % 64, by omega⟩ : Fin 64)))
    (t : Nat) (ht : t < 128) (b : Fin 8) (n : Fin 16) (hb : b.val = t / 16) (hn : n.val = t % 16) (p u : Vec Ideal S128x128 .bf16)
    (hp : ∀ r l : Fin 128, p (ix2 r l) = y (ix2 (⟨128 * (16 * (t / 16) + (t % 16 - 1)) + r.val, by omega⟩ : Fin 16384) l))
    (hu : ∀ r l : Fin 128, u (ix2 r l) = y (ix2 (⟨128 * t + r.val, by omega⟩ : Fin 16384) l))
    (s : Fin 256) (half : Fin 2) (d : Fin 64) (l : Fin 128) (hl : l.val = 64 * half.val + d.val) :
    k0_pay2 p u (ix2 s l) = x (ix4 b (bandPos n s) half d) := by
  rw [pay2_apply]
  unfold bandPos
  have e3 : (⟨l.val / 64, by omega⟩ : Fin 2) = half := Fin.ext (by show l.val / 64 = _; omega)
  have e4 : (⟨l.val % 64, by omega⟩ : Fin 64) = d := Fin.ext (by show l.val % 64 = _; omega)
  by_cases h : s.val < 128
  · rw [dif_pos h, if_pos h, hp, hy, e3, e4]
    congr 2
    · exact Fin.ext (by show (128 * (16 * (t / 16) + (t % 16 - 1)) + s.val) / 2048 = b.val; omega)
    · exact Fin.ext (by show (128 * (16 * (t / 16) + (t % 16 - 1)) + s.val) % 2048 = 128 * (n.val - 1) + s.val % 128; omega)
  · rw [dif_neg h, if_neg h, hu, hy, e3, e4]
    congr 2
    · exact Fin.ext (by show (128 * t + (s.val - 128)) / 2048 = b.val; omega)
    · exact Fin.ext (by show (128 * t + (s.val - 128)) % 2048 = 128 * n.val + (s.val - 128); omega)

/-- A point's block at row `r`, column `C`, from what its input blocks hold. -/
theorem block_read (q : FVec Ideal S8x2048x16x64 .f32) (k v : FVec Ideal S8x2048x2x64 .f32) (a : FVec Ideal S1x16 .f32)
    (t : Nat) (ht : t < 128) (i : grid0.Coords) (hn : (i 1).val = t % 16)
    (x0 : Vec Ideal S16 .f32) (x1 : Vec Ideal S128x1024 .bf16) (x2 x3 x4 x5 : Vec Ideal S128x128 .bf16)
    (h0 : ∀ p : Fin 16, x0 (ix1 p) = a (ix2 (0 : Fin 1) (⟨8 * (p.val % 2) + p.val / 2, by omega⟩ : Fin 16)))
    (h1 : ∀ (r : Fin 128) (C : Fin 1024), x1 (ix2 r C) = (q (ix4 (⟨(128 * t + r.val) / 2048, by omega⟩ : Fin 8) (⟨(128 * t + r.val) % 2048, by omega⟩ : Fin 2048)
      (⟨8 * (C.val / 64 % 2) + C.val / 128, by omega⟩ : Fin 16) (⟨C.val % 64, by omega⟩ : Fin 64)) : EReal) * sc)
    (hk : ∀ (s : Fin 256) (half : Fin 2) (d : Fin 64) (l : Fin 128), l.val = 64 * half.val + d.val →
      k0_pay2 x2 x3 (ix2 s l) = k (ix4 (⟨t / 16, by omega⟩ : Fin 8) (bandPos ⟨t % 16, by omega⟩ s) half d))
    (hv : ∀ (s : Fin 256) (half : Fin 2) (d : Fin 64) (l : Fin 128), l.val = 64 * half.val + d.val →
      k0_pay2 x4 x5 (ix2 s l) = v (ix4 (⟨t / 16, by omega⟩ : Fin 8) (bandPos ⟨t % 16, by omega⟩ s) half d))
    (r : Fin 128) (C : Fin 1024) :
    blockOut i x0 x1 x2 x3 x4 x5 (ix2 r C) = spec q k v a (ix2 (⟨128 * t + r.val, by omega⟩ : Fin 16384) C) := by
  unfold blockOut pairAt
  refine (pairOut_apply _ _ _ _ _ _ r (⟨C.val % 128, by omega⟩ : Fin 128) (⟨C.val / 64 % 2, by omega⟩ : Fin 2) (by show C.val / 64 % 2 = C.val % 128 / 64; omega)).trans ?_
  have eb : (⟨(128 * t + r.val) / 2048, by omega⟩ : Fin 8) = ⟨t / 16, by omega⟩ := Fin.ext (by show (128 * t + r.val) / 2048 = t / 16; omega)
  have en : (⟨(128 * t + r.val) % 2048 / 128, by omega⟩ : Fin 16) = ⟨t % 16, by omega⟩ :=
    Fin.ext (by show (128 * t + r.val) % 2048 / 128 = t % 16; omega)
  have er : (⟨(128 * t + r.val) % 128, by omega⟩ : Fin 128) = r := Fin.ext (by show (128 * t + r.val) % 128 = r.val; omega)
  show _ = specAt q k v a (⟨(128 * t + r.val) / 2048, by omega⟩ : Fin 8) (⟨(128 * t + r.val) % 2048 / 128, by omega⟩ : Fin 16)
    (⟨(128 * t + r.val) % 128, by omega⟩ : Fin 128) (⟨C.val / 128, by omega⟩ : Fin 8) (⟨C.val / 64 % 2, by omega⟩ : Fin 2) (⟨C.val % 64, by omega⟩ : Fin 64)
  rw [eb, en, er]
  unfold specAt
  congr 1
  · funext s
    unfold laneScore specScore
    rw [hn]
    refine if_congr Iff.rfl ?_ rfl
    rw [sc_eq, sum_mul_real _ _ _ (by norm_num)]
    refine Finset.sum_congr rfl fun d _ => ?_
    have hslab : slabOf x1 (⟨C.val / 128, by omega⟩ : Fin 8) (ix2 r (⟨64 * (C.val / 64 % 2) + d.val, by omega⟩ : Fin 128))
        = (q (ix4 (⟨t / 16, by omega⟩ : Fin 8) (⟨128 * (t % 16) + r.val, by omega⟩ : Fin 2048) (⟨8 * (C.val / 64 % 2) + C.val / 128, by omega⟩ : Fin 16) d) : EReal) * sc := by
      unfold slabOf
      refine (h1 r (⟨128 * (C.val / 128) + (64 * (C.val / 64 % 2) + d.val), by omega⟩ : Fin 1024)).trans ?_
      congr 2
      congr 1
      · exact Fin.ext (by show (128 * t + r.val) % 2048 = 128 * (t % 16) + r.val; omega)
      · exact Fin.ext (by show 8 * ((128 * (C.val / 128) + (64 * (C.val / 64 % 2) + d.val)) / 64 % 2) + (128 * (C.val / 128) + (64 * (C.val / 64 % 2) + d.val)) / 128 = 8 * (C.val / 64 % 2) + C.val / 128; omega)
      · exact Fin.ext (by show (128 * (C.val / 128) + (64 * (C.val / 64 % 2) + d.val)) % 64 = d.val; omega)
    refine (congrArg₂ (· * ·) hslab (hk s (⟨C.val / 64 % 2, by omega⟩ : Fin 2) d _ rfl)).trans ?_
    rw [sc_eq]
    exact (mul_comm _ _).trans (mul_assoc _ _ _).symm
  · split
    · rename_i h
      have h0' : C.val / 64 % 2 = 0 := congrArg Fin.val h
      refine (h0 _).trans ?_
      congr 2
      exact Fin.ext (by show 8 * (2 * (C.val / 128) % 2) + 2 * (C.val / 128) / 2 = 8 * (C.val / 64 % 2) + C.val / 128; omega)
    · rename_i h
      have h1' : C.val / 64 % 2 = 1 := by
        have : C.val / 64 % 2 ≠ 0 := fun e => h (Fin.ext e)
        omega
      refine (h0 _).trans ?_
      congr 2
      exact Fin.ext (by show 8 * ((2 * (C.val / 128) + 1) % 2) + (2 * (C.val / 128) + 1) / 2 = 8 * (C.val / 64 % 2) + C.val / 128; omega)
  · funext s
    rw [pay3_eq]
    exact hv s (⟨C.val / 64 % 2, by omega⟩ : Fin 2) (⟨C.val % 64, by omega⟩ : Fin 64) _ (by show C.val % 128 = 64 * (C.val / 64 % 2) + C.val % 64; omega)

/-- What a point stores at row `r`, column `C` of its block. -/
theorem block_apply (c : Dev nD) (t : Fin cfg0.N) (r : Fin 128) (C : Fin 1024) :
    blockOut (grid0.coords t) (iblk m c 0 t) (iblk m c 1 t) (iblk m c 2 t) (iblk m c 3 t) (iblk m c 4 t) (iblk m c 5 t) (ix2 r C)
      = spec (m ((c : Thread nD τ).loc main_arg0)) (m ((c : Thread nD τ).loc main_arg1)) (m ((c : Thread nD τ).loc main_arg2))
          (m ((c : Thread nD τ).loc main_arg3)) (ix2 (⟨128 * t.val + r.val, by have := lt_N t; omega⟩ : Fin 16384) C) :=
  block_read _ _ _ _ t.val (lt_N t) (grid0.coords t) (idx_facts t).2.2 _ _ _ _ _ _
    (fun p => (iblk0_apply m c t p).trans ((congrFun (v12_term m c) _).trans (a_apply _ p)))
    (fun r C => (iblk1_apply m c t r C).trans ((congrFun (v5_term m c) _).trans (q_apply _ _ C)))
    (fun s half d l hl => band_apply _ _ (fun R l => (congrFun (v7_term m c) _).trans (kv_apply _ R l)) t.val (lt_N t) _ _ rfl rfl _ _
      (iblk2_apply m c t) (iblk3_apply m c t) s half d l hl)
    (fun s half d l hl => band_apply _ _ (fun R l => (congrFun (v9_term m c) _).trans (kv_apply _ R l)) t.val (lt_N t) _ _ rfl rfl _ _
      (iblk4_apply m c t) (iblk5_apply m c t) s half d l hl)
    r C

/-- The final array, as contents of the result buffer. -/
abbrev result (c : Dev nD) : Buf (Elt Ideal) ((c : Thread nD τ).loc main_v13) :=
  spec (m ((c : Thread nD τ).loc main_arg0)) (m ((c : Thread nD τ).loc main_arg1)) (m ((c : Thread nD τ).loc main_arg2))
    (m ((c : Thread nD τ).loc main_arg3))

theorem flushed_eq (c : Dev nD) (t : Fin cfg0.N) (hf : (cfg0.win 6).flush t = true) :
    (dats m 0 c).flushed 6 t = ((cfg0.win 6).blk t).view.read (Elt Ideal) (result m c) := by
  rw [flushed6_A, out_eq]
  have hi := (idx_facts t).1
  have ht := lt_N t
  funext y
  rw [View.read_apply]
  refine Eq.trans (congrArg _ (eq_ix2 (n0 := 128) (n1 := 1024) y)) ((block_apply m c t (y 0) (y 1)).trans ?_)
  show spec _ _ _ _ _ = spec _ _ _ _ _
  congr 1
  funext a
  apply Fin.ext
  match a with
  | ⟨0, _⟩ => show 128 * t.val + (y 0).val = win0_6.index t 0 * 128 + 1 * (y 0).val; rw [hi.2.2.2.2.2.2.2.1]; omega
  | ⟨1, _⟩ => show (y 1).val = win0_6.index t 1 * 1024 + 1 * (y 1).val; rw [hi.2.2.2.2.2.2.2.2]; omega

theorem flush_all : ∀ t : Fin cfg0.N, (cfg0.win 6).flush t = true :=
  (by decide +kernel : ∀ t : Fin grid0.N, win0_6.flush t = true)

theorem xsize_facts : ∀ t : Fin cfg0.N, win0_6.xsize (grid0.coords t) 0 = 128 ∧ win0_6.xsize (grid0.coords t) 1 = 1024 :=
  (by decide +kernel : ∀ t : Fin grid0.N, _)

theorem covers (t : Fin cfg0.N) (i : S16384x1024.Idx) (h : (i 0).val / 128 = t.val) : i ∈ ((cfg0.win 6).blk t).view.set := by
  have h0 := idx2_lt0 (n0 := 16384) (n1 := 1024) i
  have h1 := idx2_lt1 (n0 := 16384) (n1 := 1024) i
  show i ∈ ((View.whole main_v13).slice (win0_6.rect t)).set
  rw [View.set_slice_whole, Rect.mem_set_unit]
  have hi := (idx_facts t).1
  have hx := xsize_facts t
  intro a
  match a with
  | ⟨0, _⟩ =>
    show win0_6.index t 0 * 128 ≤ (i 0 : Nat) ∧ (i 0 : Nat) < win0_6.index t 0 * 128 + win0_6.xsize (grid0.coords t) 0
    rw [hi.2.2.2.2.2.2.2.1, hx.1]
    omega
  | ⟨1, _⟩ =>
    show win0_6.index t 1 * 1024 ≤ (i 1 : Nat) ∧ (i 1 : Nat) < win0_6.index t 1 * 1024 + win0_6.xsize (grid0.coords t) 1
    rw [hi.2.2.2.2.2.2.2.2, hx.2]
    omega

theorem final (c : Dev nD) : (dats m 0 c).arrAt 6 cfg0.N = result m c :=
  (dats m 0 c).arrAt_eq_of_cover 6 (result m c) (flushed_eq m c) fun i =>
    have h0 : (i 0 : Nat) < 16384 := (i 0).isLt
    have ht : (i 0 : Nat) / 128 < cfg0.N := by show _ < 128; omega
    ⟨⟨(i 0 : Nat) / 128, ht⟩, flush_all _, covers _ i rfl⟩

end Read

end Cert.Swa

end
-- ==== Proof.RefRead.lean ====
/- The reference's result is the attention of its arguments where the queries, keys and sinks are finite. -/
module

public import proofs.«01_k».proof.Proof.Spec
public import proofs.«01_k».proof.Proof.Gen.ReferenceIdeal.Read
public import Idealize.ShloMosaic.Lib.ValueIdxRank6

@[expose] public section

noncomputable section

namespace Cert.Swa

open Cert.ReferenceIdeal Cert.ReferenceIdeal.Gen Cert.ReferenceIdeal.Read
open Idealize.ShloMosaic hiding ix1 ix2 ix3 ix4 ix5 ix6 eq_ix2
open Idealize.ShloMosaic.TcCoe Idealize.SL.Sem Idealize.ShloMosaic.ValueIdx

variable (q : FVec Ideal S8x2048x16x64 .f32) (k v : FVec Ideal S8x2048x2x64 .f32) (a : FVec Ideal S1x16 .f32)

/-- The reference's mask. -/
theorem mask_apply (b : Fin 8) (n : Fin 16) (half : Fin 2) (j : Fin 8) (r : Fin 128) (s : Fin 256) :
    val_main_call0_v1 (F := Ideal) (ix6 b n half j r s) = seen n.val r.val s.val := by
  rw [val_main_call0_v1_apply, val_main_v41_apply, val_main_v40_apply, val_main_v38_apply, val_main_v37_apply, val_main_v26_apply,
    val_main_v23_apply, val_main_v25_apply, val_main_v21_apply, val_main_v19_apply, val_main_v17_apply, val_main_v14_apply, val_main_v13_apply,
    val_main_v18_apply, val_main_v16_apply, val_main_v15_apply, val_main_v20_apply, val_main_v22_apply, val_main_v24_apply,
    val_main_v39_apply, val_main_v36_apply, val_main_v34_apply, val_main_v30_apply, val_main_v28_apply, val_main_v27_apply, val_main_v29_apply,
    val_main_v35_apply, val_main_v33_apply, val_main_v31_apply, val_main_v16_apply, val_main_v15_apply, val_main_v32_apply]
  rfl

/-- A padded, shifted band of keys (or values) at a place some query sees. -/
theorem band_read (x : FVec Ideal S8x2048x2x64 .f32) (b : Fin 8) (n : Fin 16) (s : Fin 256) (half : Fin 2) (d : Fin 64)
    (h : ¬(n.val = 0 ∧ s.val < 128)) :
    val_main_v7 (F := Ideal) x (ix5 b n s half d) = x (ix4 b (bandPos n s) half d) := by
  have base : ∀ (n : Fin 16) (s : Fin 128), val_main_v1 (F := Ideal) x (ix5 b n s half d)
      = x (ix4 b (⟨128 * n.val + s.val, by omega⟩ : Fin 2048) half d) := by
    intro n s
    unfold val_main_v1
    refine shapeCast_apply _ _ _ _ ?_
    rw [Shape.rowMajor_val_four, Shape.rowMajor_val_five]
    show ((b.val * 2048 + (128 * n.val + s.val)) * 2 + half.val) * 64 + d.val = (((b.val * 16 + n.val) * 128 + s.val) * 2 + half.val) * 64 + d.val
    omega
  unfold val_main_v7 bandPos
  by_cases hs : s.val < 128
  · have hn : n.val ≠ 0 := fun e => h ⟨e, hs⟩
    rw [if_pos hs]
    refine (concatenate_pair_apply_left (t := S8x16x256x2x64) (s₁ := S8x16x128x2x64) (s₂ := S8x16x128x2x64) 2 _ _ _ (ix5 b n s half d) rfl
      (ix5 b n (⟨s.val, hs⟩ : Fin 128) half d)
      (fun c => match c with | ⟨0, _⟩ => rfl | ⟨1, _⟩ => rfl | ⟨2, _⟩ => rfl | ⟨3, _⟩ => rfl | ⟨4, _⟩ => rfl)).trans ?_
    unfold val_main_v6
    refine (concatenate_pair_apply_right (t := S8x16x128x2x64) (s₁ := S8x1x128x2x64) (s₂ := S8x15x128x2x64) 1 _ _ _ (ix5 b n (⟨s.val, hs⟩ : Fin 128) half d) rfl rfl
      (ix5 b (⟨n.val - 1, by omega⟩ : Fin 15) (⟨s.val, hs⟩ : Fin 128) half d)
      (fun c hc => match c, hc with | ⟨0, _⟩, _ => rfl | ⟨1, _⟩, hc => absurd rfl hc | ⟨2, _⟩, _ => rfl | ⟨3, _⟩, _ => rfl | ⟨4, _⟩, _ => rfl)
      (by show n.val - 1 + 1 = n.val; omega)).trans ?_
    rw [val_main_v5_apply]
    refine (congrArg (val_main_v1 (F := Ideal) x) (a₂ := ix5 b (⟨n.val - 1, by omega⟩ : Fin 16) (⟨s.val, hs⟩ : Fin 128) half d)
      (funext fun c => match c with | ⟨0, _⟩ => rfl | ⟨1, _⟩ => rfl | ⟨2, _⟩ => rfl | ⟨3, _⟩ => rfl | ⟨4, _⟩ => rfl)).trans ((base _ _).trans ?_)
    congr 2
    exact Fin.ext (by show 128 * (n.val - 1) + s.val = 128 * (n.val - 1) + s.val % 128; omega)
  · rw [if_neg hs]
    refine (concatenate_pair_apply_right (t := S8x16x256x2x64) (s₁ := S8x16x128x2x64) (s₂ := S8x16x128x2x64) 2 _ _ _ (ix5 b n s half d) rfl rfl
      (ix5 b n (⟨s.val - 128, by omega⟩ : Fin 128) half d)
      (fun c hc => match c, hc with | ⟨0, _⟩, _ => rfl | ⟨1, _⟩, _ => rfl | ⟨2, _⟩, hc => absurd rfl hc | ⟨3, _⟩, _ => rfl | ⟨4, _⟩, _ => rfl)
      (by show s.val - 128 + 128 = s.val; omega)).trans ?_
    exact base n ⟨s.val - 128, by omega⟩

theorem v12_eq (x : FVec Ideal S8x2048x2x64 .f32) : val_main_v12 (F := Ideal) x = val_main_v7 (F := Ideal) x := rfl

theorem q_read (b : Fin 8) (n : Fin 16) (r : Fin 128) (half : Fin 2) (j : Fin 8) (d : Fin 64) :
    val_main_v0 (F := Ideal) q (ix6 b n r half j d)
      = q (ix4 b (⟨128 * n.val + r.val, by omega⟩ : Fin 2048) (⟨8 * half.val + j.val, by omega⟩ : Fin 16) d) := by
  unfold val_main_v0
  refine shapeCast_apply _ _ _ _ ?_
  rw [Shape.rowMajor_val_four, Shape.rowMajor_val_six]
  show ((b.val * 2048 + (128 * n.val + r.val)) * 16 + (8 * half.val + j.val)) * 64 + d.val
    = ((((b.val * 16 + n.val) * 128 + r.val) * 2 + half.val) * 8 + j.val) * 64 + d.val
  omega

theorem e42l (b : Fin 8) (n : Fin 16) (half : Fin 2) (j : Fin 8) (r : Fin 128) (s : Fin 256) (d : Fin 64) :
    lidx_main_v42 (idx_main_v43 (ix6 b n half j r s)) d = ix5 b n s half d :=
  funext fun c => match c with | ⟨0, _⟩ => rfl | ⟨1, _⟩ => rfl | ⟨2, _⟩ => rfl | ⟨3, _⟩ => rfl | ⟨4, _⟩ => rfl

theorem e42r (b : Fin 8) (n : Fin 16) (half : Fin 2) (j : Fin 8) (r : Fin 128) (s : Fin 256) (d : Fin 64) :
    ridx_main_v42 (idx_main_v43 (ix6 b n half j r s)) d = ix6 b n r half j d :=
  funext fun c => match c with | ⟨0, _⟩ => rfl | ⟨1, _⟩ => rfl | ⟨2, _⟩ => rfl | ⟨3, _⟩ => rfl | ⟨4, _⟩ => rfl | ⟨5, _⟩ => rfl

theorem e53 (b : Fin 8) (n : Fin 16) (half : Fin 2) (j : Fin 8) (r : Fin 128) (s : Fin 256) :
    idx_main_v53 (ix6 b n half j r s) = ix6 b n half j r (0 : Fin 1) :=
  funext fun c => match c with | ⟨0, _⟩ => rfl | ⟨1, _⟩ => rfl | ⟨2, _⟩ => rfl | ⟨3, _⟩ => rfl | ⟨4, _⟩ => rfl | ⟨5, _⟩ => rfl

theorem e63 (b : Fin 8) (n : Fin 16) (half : Fin 2) (j : Fin 8) (r : Fin 128) (s : Fin 256) :
    idx_main_v63 (ix6 b n half j r s) = ix6 b n half j r (0 : Fin 1) :=
  funext fun c => match c with | ⟨0, _⟩ => rfl | ⟨1, _⟩ => rfl | ⟨2, _⟩ => rfl | ⟨3, _⟩ => rfl | ⟨4, _⟩ => rfl | ⟨5, _⟩ => rfl

theorem e56 (b : Fin 8) (n : Fin 16) (half : Fin 2) (j : Fin 8) (r : Fin 128) (s : Fin 256) :
    idx_main_v56 (idx_main_v57 (ix6 b n half j r (0 : Fin 1))) s = ix6 b n half j r s :=
  funext fun c => match c with | ⟨0, _⟩ => rfl | ⟨1, _⟩ => rfl | ⟨2, _⟩ => rfl | ⟨3, _⟩ => rfl | ⟨4, _⟩ => rfl | ⟨5, _⟩ => rfl

theorem e65l (b : Fin 8) (n : Fin 16) (half : Fin 2) (j : Fin 8) (r : Fin 128) (s : Fin 256) (d : Fin 64) :
    lidx_main_v65 (idx_main_v66 (ix6 b n r j half d)) s = ix5 b n s half d :=
  funext fun c => match c with | ⟨0, _⟩ => rfl | ⟨1, _⟩ => rfl | ⟨2, _⟩ => rfl | ⟨3, _⟩ => rfl | ⟨4, _⟩ => rfl

theorem e65r (b : Fin 8) (n : Fin 16) (half : Fin 2) (j : Fin 8) (r : Fin 128) (s : Fin 256) (d : Fin 64) :
    ridx_main_v65 (idx_main_v66 (ix6 b n r j half d)) s = ix6 b n half j r s :=
  funext fun c => match c with | ⟨0, _⟩ => rfl | ⟨1, _⟩ => rfl | ⟨2, _⟩ => rfl | ⟨3, _⟩ => rfl | ⟨4, _⟩ => rfl | ⟨5, _⟩ => rfl

theorem not_first (n r s : Nat) (h : seen n r s = 1#1) : ¬(n = 0 ∧ s < 128) := by
  rintro ⟨rfl, hs⟩
  rw [seen_first r s hs] at h
  exact absurd h (by decide)

/-- The reference's masked, scaled scores. -/
theorem score_read (b : Fin 8) (n : Fin 16) (half : Fin 2) (j : Fin 8) (r : Fin 128) (s : Fin 256) :
    val_main_v46 (F := Ideal) q k (ix6 b n half j r s) = specScore q k b n r j half s := by
  rw [val_main_v46_apply, mask_apply, select_if, val_main_call0_v2_apply, val_main_call0_v0_apply, val_main_cst_6_apply]
  unfold specScore
  by_cases h : seen n.val r.val s.val = 1#1
  · rw [if_pos h, if_pos h, val_main_v45_apply, val_main_v43_apply, val_main_v42_apply, val_main_v44_apply]
    refine congrArg₂ (· * ·) (Finset.sum_congr rfl fun d _ => ?_) rfl
    rw [e42l, e42r, band_read k b n s half d (not_first _ _ _ h), q_read]
  · rw [if_neg h, if_neg h]
    exact ofBits_neg_inf

theorem sink_read (half : Fin 2) (j : Fin 8) :
    val_main_v47 (F := Ideal) a (ix4 half j (0 : Fin 1) (0 : Fin 1)) = a (ix2 (0 : Fin 1) (⟨8 * half.val + j.val, by omega⟩ : Fin 16)) := by
  unfold val_main_v47
  refine shapeCast_apply _ _ _ _ ?_
  rw [Shape.rowMajor_val_two, Shape.rowMajor_val_four]
  show 0 * 16 + (8 * half.val + j.val) = ((half.val * 8 + j.val) * 1 + 0) * 1 + 0
  omega

theorem e50 (b : Fin 8) (n : Fin 16) (half : Fin 2) (j : Fin 8) (r : Fin 128) :
    idx_main_v50 (idx_main_v51 (ix6 b n half j r (0 : Fin 1))) = ix4 half j (0 : Fin 1) (0 : Fin 1) :=
  funext fun c => match c with | ⟨0, _⟩ => rfl | ⟨1, _⟩ => rfl | ⟨2, _⟩ => rfl | ⟨3, _⟩ => rfl

theorem e58 (b : Fin 8) (n : Fin 16) (half : Fin 2) (j : Fin 8) (r : Fin 128) :
    idx_main_v58 (idx_main_v59 (ix6 b n half j r (0 : Fin 1))) = ix4 half j (0 : Fin 1) (0 : Fin 1) :=
  funext fun c => match c with | ⟨0, _⟩ => rfl | ⟨1, _⟩ => rfl | ⟨2, _⟩ => rfl | ⟨3, _⟩ => rfl

theorem reduces_band : S8x16x2x8x128x256.Reduces [5] S8x16x2x8x128 := by decide

theorem e48 (b : Fin 8) (n : Fin 16) (half : Fin 2) (j : Fin 8) (r : Fin 128) (s : Fin 256) :
    reduces_band.lift (idx_main_v49 (ix6 b n half j r (0 : Fin 1))) s = ix6 b n half j r s :=
  funext fun c => match c with | ⟨0, _⟩ => rfl | ⟨1, _⟩ => rfl | ⟨2, _⟩ => rfl | ⟨3, _⟩ => rfl | ⟨4, _⟩ => rfl | ⟨5, _⟩ => rfl

/-- The reference's row maximum over the band. -/
theorem max_read (b : Fin 8) (n : Fin 16) (half : Fin 2) (j : Fin 8) (r : Fin 128) :
    val_main_v49 (F := Ideal) q k (ix6 b n half j r (0 : Fin 1))
      = (Finset.univ : Finset (Fin 256)).fold max ⊥ (specScore q k b n r j half) := by
  rw [val_main_v49_apply]
  unfold val_main_v48
  refine (Host.reduce_eq_fold_single FloatOps.maximumf _ _ _ reduces_band _ _).trans ?_
  rw [val_main_cst_7_apply, ofBits_neg_inf]
  refine Finset.fold_congr (f := val_main_v46 (F := Ideal) q k ∘ reduces_band.lift _) (g := specScore q k b n r j half) fun s _ => ?_
  exact (congrArg (val_main_v46 (F := Ideal) q k) (e48 b n half j r s)).trans (score_read q k b n half j r s)

/-- The reference's row maximum, the sink included. -/
theorem top_read (b : Fin 8) (n : Fin 16) (half : Fin 2) (j : Fin 8) (r : Fin 128) :
    val_main_v52 (F := Ideal) q k a (ix6 b n half j r (0 : Fin 1))
      = rowTop (specScore q k b n r j half) (a (ix2 (0 : Fin 1) (⟨8 * half.val + j.val, by omega⟩ : Fin 16))) := by
  rw [val_main_v52_apply, max_read, val_main_v51_apply, val_main_v50_apply, e50, sink_read]
  rfl

theorem wt_read (b : Fin 8) (n : Fin 16) (half : Fin 2) (j : Fin 8) (r : Fin 128) (s : Fin 256) :
    val_main_v55 (F := Ideal) q k a (ix6 b n half j r s)
      = wt (specScore q k b n r j half) (a (ix2 (0 : Fin 1) (⟨8 * half.val + j.val, by omega⟩ : Fin 16))) s := by
  rw [val_main_v55_apply, val_main_v54_apply, val_main_v53_apply, e53, top_read, score_read]
  rfl

theorem sum_read (b : Fin 8) (n : Fin 16) (half : Fin 2) (j : Fin 8) (r : Fin 128) :
    val_main_v57 (F := Ideal) q k a (ix6 b n half j r (0 : Fin 1))
      = ∑ s, wt (specScore q k b n r j half) (a (ix2 (0 : Fin 1) (⟨8 * half.val + j.val, by omega⟩ : Fin 16))) s := by
  rw [val_main_v57_apply, val_main_v56_apply, val_main_cst_8_apply]
  refine (congrArg₂ (· + ·) Ideal.ofBits_zero_f32 (Finset.sum_congr rfl fun s _ => ?_)).trans (zero_add _)
  rw [e56, wt_read]

theorem den_read (b : Fin 8) (n : Fin 16) (half : Fin 2) (j : Fin 8) (r : Fin 128) (s : Fin 256) :
    val_main_v63 (F := Ideal) q k a (ix6 b n half j r s)
      = den (specScore q k b n r j half) (a (ix2 (0 : Fin 1) (⟨8 * half.val + j.val, by omega⟩ : Fin 16))) := by
  rw [val_main_v63_apply, e63, val_main_v62_apply, sum_read, val_main_v61_apply, val_main_v60_apply, top_read, val_main_v59_apply, val_main_v58_apply, e58, sink_read]
  rfl

/-- Finite queries and keys make finite (or masked) scores. -/
theorem specScore_ne_top (hq : ∀ i, ∃ x : ℝ, q i = (x : EReal)) (hk : ∀ i, ∃ x : ℝ, k i = (x : EReal)) (b : Fin 8) (n : Fin 16) (r : Fin 128)
    (j : Fin 8) (half : Fin 2) (s : Fin 256) : specScore q k b n r j half s ≠ ⊤ := by
  unfold specScore
  split
  · obtain ⟨x, hx⟩ := sum_ne_top (Finset.univ : Finset (Fin 64)) (fun d => (k (ix4 b (bandPos n s) half d) : EReal)
      * q (ix4 b (⟨128 * n.val + r.val, by omega⟩ : Fin 2048) (⟨8 * half.val + j.val, by omega⟩ : Fin 16) d)) (fun d => by
        obtain ⟨x, hx⟩ := hk (ix4 b (bandPos n s) half d)
        obtain ⟨y, hy⟩ := hq (ix4 b (⟨128 * n.val + r.val, by omega⟩ : Fin 2048) (⟨8 * half.val + j.val, by omega⟩ : Fin 16) d)
        exact ⟨x * y, by rw [hx, hy, EReal.coe_mul]⟩)
    rw [hx, sc_eq, ← EReal.coe_mul]
    exact EReal.coe_ne_top _
  · exact bot_ne_top

/-- The reference's result. -/
theorem ref_read (hq : ∀ i, ∃ x : ℝ, q i = (x : EReal)) (hk : ∀ i, ∃ x : ℝ, k i = (x : EReal)) (ha : ∀ i, ∃ x : ℝ, a i = (x : EReal)) :
    val_main_v68 (F := Ideal) q k v a = spec q k v a := by
  funext y
  obtain ⟨R, C, rfl⟩ : ∃ (R : Fin 16384) (C : Fin 1024), y = ix2 R C := ⟨y 0, y 1, eq_ix2 (n0 := 16384) (n1 := 1024) y⟩
  show val_main_v67 (F := Ideal) q k v a (ix2 R C) = specAt q k v a ⟨R.val / 2048, by omega⟩ ⟨R.val % 2048 / 128, by omega⟩ ⟨R.val % 128, by omega⟩
    ⟨C.val / 128, by omega⟩ ⟨C.val / 64 % 2, by omega⟩ ⟨C.val % 64, by omega⟩
  generalize hb : (⟨R.val / 2048, by omega⟩ : Fin 8) = b
  generalize hn : (⟨R.val % 2048 / 128, by omega⟩ : Fin 16) = n
  generalize hr : (⟨R.val % 128, by omega⟩ : Fin 128) = r
  generalize hj : (⟨C.val / 128, by omega⟩ : Fin 8) = j
  generalize hh : (⟨C.val / 64 % 2, by omega⟩ : Fin 2) = half
  generalize hd : (⟨C.val % 64, by omega⟩ : Fin 64) = d
  unfold val_main_v67
  refine (shapeCast_apply _ _ _ (ix6 b n r j half d) ?_).trans ?_
  · subst hb hn hr hj hh hd
    rw [Shape.rowMajor_val_two, Shape.rowMajor_val_six]
    show ((((R.val / 2048 * 16 + R.val % 2048 / 128) * 128 + R.val % 128) * 8 + C.val / 128) * 2 + C.val / 64 % 2) * 64 + C.val % 64 = R.val * 1024 + C.val
    omega
  rw [val_main_v66_apply, val_main_v65_apply]
  unfold specAt
  obtain ⟨y, hy⟩ := ha (ix2 (0 : Fin 1) (⟨8 * half.val + j.val, by omega⟩ : Fin 16))
  refine Eq.trans (Finset.sum_congr rfl fun s _ => ?_) (sum_div_eq_att (specScore q k b n r j half) (a (ix2 (0 : Fin 1) (⟨8 * half.val + j.val, by omega⟩ : Fin 16)))
    (fun s => v (ix4 b (bandPos n s) half d)) (fun s => val_main_v12 (F := Ideal) v (ix5 b n s half d))
    (specScore_ne_top q k hq hk b n r j half) (by rw [hy]; exact EReal.coe_ne_top _) (by rw [hy]; exact EReal.coe_ne_bot _) (fun s hs => ?_))
  · rw [e65l, e65r, val_main_v64_apply, wt_read, den_read]
    rfl
  · rw [v12_eq]
    refine band_read v b n s half d (not_first _ r.val _ ?_)
    by_contra h
    exact hs (by unfold specScore; rw [if_neg h])

end Cert.Swa

end
-- ==== Proof.Finite.lean ====
/- What the precondition says: the queries, the keys and the sinks are real numbers. -/
module

public import proofs.«01_k».proof.Pre_scores_finite
public import Idealize.ShloMosaic.Lib.ReduceAll
public import Idealize.ShloMosaic.PureOps.Ideal

@[expose] public section

noncomputable section

namespace Cert.Swa

open Idealize.ShloMosaic Cert.Pre_scores_finite

instance preFacts : Cert.Pre_scores_finite.Facts where
  bcast_S_S8x2048x16x64 := by decide
  reducesTo_S8x2048x16x64_S_d0_1_2_3 := by decide
  h_S_ := by decide
  bcast_S_S8x2048x2x64 := by decide
  reducesTo_S8x2048x2x64_S_d0_1_2_3 := by decide
  bcast_S_S1x16 := by decide
  reducesTo_S1x16_S_d0_1 := by decide

theorem ofBits_inf : (Ideal.ofBits .f32 0x7F800000#32 : EReal) = ⊤ := by
  simp [Ideal.ofBits, Ideal.ieee]

/-- A value whose absolute value is below infinity is a real number. -/
theorem real_of_olt (x : EReal) (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | coe r => exact ⟨r, rfl⟩
  | top => exact absurd h (by simp [Ideal.cmp])

theorem and_one (x y : BitVec 1) (h : IntOp.andi x y = 1#1) : x = 1#1 ∧ y = 1#1 := by
  revert x y; decide

instance : Subsingleton S_.Idx := ⟨fun a b => funext fun c => c.elim0⟩

theorem finite_of_pre (q : FVec Ideal S8x2048x16x64 .f32) (k v : FVec Ideal S8x2048x2x64 .f32) (a : FVec Ideal S1x16 .f32)
    (h : Cert.Pre_scores_finite.fn (F := Ideal) q k v a = fun _ => 1#1) :
    (∀ i, ∃ x : ℝ, q i = (x : EReal)) ∧ (∀ i, ∃ x : ℝ, k i = (x : EReal)) ∧ (∀ i, ∃ x : ℝ, a i = (x : EReal)) := by
  have h0 := congrFun h (fun c => c.elim0)
  obtain ⟨h1, ha⟩ := and_one _ _ h0
  obtain ⟨hq, hk⟩ := and_one _ _ h1
  exact ⟨fun i => real_of_olt _ (Host.reduce_andi_all _ _ _ _ _ hq i), fun i => real_of_olt _ (Host.reduce_andi_all _ _ _ _ _ hk i),
    fun i => real_of_olt _ (Host.reduce_andi_all _ _ _ _ _ ha i)⟩

end Cert.Swa

end
-- ==== Proof.SwaClaim.lean ====
/- The claims about the sliding-window attention of the prompt. -/
module

public import proofs.«01_k».proof.Defs
public import proofs.«01_k».proof.Proof.Final
public import proofs.«01_k».proof.Proof.RefRead
public import proofs.«01_k».proof.Proof.Finite
public import proofs.«01_k».proof.Proof.Gen.Kernel.Frame

@[expose] public section

noncomputable section

namespace Cert.Swa

open Idealize.ShloMosaic Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_scores_finite := fun m ρ _ => Cert.KernelIdeal.Gen.frame m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_scores_finite := fun m ρ _ => frame_ri m ρ trivial

theorem algebraic : Cert.algebraic_KernelIdeal_ReferenceIdeal_pre_scores_finite := by
  intro m ρ m' ρ' hpre hagree
  refine ⟨fun c => result m c, (θ_run _ _ _).mono (fun _ h c => ⟨(h c).1.trans (final m c), (h c).2⟩)
    (Cert.KernelIdeal.Value.run_blocks (F := Ideal) m ρ), ?_⟩
  refine (θ_run _ _ _).mono (fun _ h c => ⟨(h c).1.trans ?_, (h c).2⟩) (Cert.ReferenceIdeal.Value.run (F := Ideal) m' ρ')
  obtain ⟨hq, hk, ha⟩ := finite_of_pre _ _ _ _ (hpre c)
  obtain ⟨e0, e1, e2, e3⟩ := hagree c
  rw [Cert.ReferenceIdeal.Read.val_main_v68_eq]
  refine (congr (congr (congr (congrArg (Cert.ReferenceIdeal.Read.val_main_v68 (F := Ideal)) e0) e1) e2) e3).trans ?_
  exact ref_read _ _ _ _ hq hk ha

end Cert.Swa

end
-- ==== Proof.MoeRun.lean ====
/- One grid point of the experts' kernel: from the tile of rows and the expert's weights, the tile the body leaves. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of the experts and the number of tiles in use, as the body is handed them. -/
abbrev teM : Memref sig .tc .smem S98 .i32 := Memref.whole main_v6
abbrev nuM : Memref sig .tc .smem S1 .i32 := Memref.whole main_arg1
abbrev teW : teM.IsWhole := Memref.isWhole_whole _
abbrev nuW : nuM.IsWhole := Memref.isWhole_whole _

/-- Half of a table's buffer: what the body holds of it. -/
abbrev half (c : Dev nD) {S : Shape} {e : EltTy} (M : Memref sig .tc .smem S e) (f : Buf (Elt F) (M.view.loc (c : Thread nD τ))) : sProp 𝕄 :=
  M.view.loc (c : Thread nD τ) ↦{fullShare.right} f

/-- The number of tiles in use, the word the body reads. -/
def used (T : S1.Idx → BitVec 32) : BitVec 32 := T (Shape.Idx.first (s := S1) (by decide))

/-- The tile the body leaves: the expert's output while the point is below the number of tiles in use, else zeros. -/
def tileOut (i : grid0.Coords) (n : BitVec 32) (x : Vec F S512x1024 .f32) (wg : Vec F S1x1x1024x512 .f32) (wd : Vec F S1x1x256x1024 .f32) :
    Vec F S512x1024 .f32 :=
  if k0_cond1 i n = 1#1 then k0_pay1 x wg wd else k0_pay2

/-- The two conditions of the body are each other's negation. -/
theorem cond2_of_not (i : grid0.Coords) (n : BitVec 32) (h : ¬ k0_cond1 i n = 1#1) : k0_cond2 i n = 1#1 := by
  revert h
  unfold k0_cond1 k0_cond2
  simp only [Scalar.cmpi, Scalar.extui, IntOp.cmpi, BitVec.sle_eq_not_slt]
  generalize BitVec.slt (BitVec.ofNat 32 (i 0).val) n = b
  revert b; decide

theorem not_cond2_of (i : grid0.Coords) (n : BitVec 32) (h : k0_cond1 i n = 1#1) : ¬ k0_cond2 i n = 1#1 := by
  revert h
  unfold k0_cond1 k0_cond2
  simp only [Scalar.cmpi, Scalar.extui, IntOp.cmpi, BitVec.sle_eq_not_slt]
  generalize BitVec.slt (BitVec.ofNat 32 (i 0).val) n = b
  revert b; decide

/-- The word the body reads off the table is the number of tiles in use. -/
theorem used_read (T : S1.Idx → Elt F .i32) (inb : ∀ a, (![0] : Fin 1 → Nat) a + S1.size a ≤ S1.size a) (hn : 0 < (Rect.unit (s := S1) ![0] S1.size inb).toLoadRect.shape.numel) :
    View.readAt (Elt F) nuM.view (Rect.unit (s := S1) ![0] S1.size inb).toLoadRect T (Shape.Idx.first hn) = used T := by
  rw [View.readAt_full]
  rfl

section run

variable (c : Dev nD) (i : grid0.Coords) (a3 : Memref sig .tc .vmem S512x1024 .f32) (h3 : a3.IsWhole)
  (a4 : Memref sig .tc .vmem S1x1x1024x512 .f32) (h4 : a4.IsWhole) (a5 : Memref sig .tc .vmem S1x1x256x1024 .f32) (h5 : a5.IsWhole)
  (a6 : Memref sig .tc .vmem S512x1024 .f32) (h6 : a6.IsWhole) (T0 : S98.Idx → Elt F .i32) (T1 : S1.Idx → Elt F .i32)
  (x : Vec F S512x1024 .f32) (wg : Vec F S1x1x1024x512 .f32) (wd : Vec F S1x1x256x1024 .f32)

/-- What the body needs at a point, and what it leaves there. -/
def Before : sProp 𝕄 :=
  iprop(owns (c : Thread nD τ) a3 fullShare x ∗ owns (c : Thread nD τ) a4 fullShare wg ∗ owns (c : Thread nD τ) a5 fullShare wd
    ∗ (∃ d, owns (c : Thread nD τ) a6 fullShare d) ∗ half c teM T0 ∗ half c nuM T1)

def After : sProp 𝕄 :=
  iprop(owns (c : Thread nD τ) a3 fullShare x ∗ owns (c : Thread nD τ) a4 fullShare wg ∗ owns (c : Thread nD τ) a5 fullShare wd
    ∗ owns (c : Thread nD τ) a6 fullShare (tileOut i (used T1) x wg wd) ∗ half c teM T0 ∗ half c nuM T1)

set_option backward.proofsInPublic true in
set_option maxHeartbeats 4000000 in
/-- The body at any point: it runs, its operands kept, and leaves the tile. -/
theorem run_tile (K : PUnit → sProp 𝕄) :
    iprop(Before c a3 a4 a5 a6 T0 T1 x wg wd ∗ (After c i a3 a4 a5 a6 T0 T1 x wg wd -∗ K ⟨⟩))
      ⊢ wp frame (wpE (defs₀ (F := F)) Variants.none c none) Set.univ (cc0_moe_experts i teM teW nuM nuW a3 h3 a4 h4 a5 h5 a6 h6) K := by
  unfold Before After owns
  rw [cc0_moe_experts_eq_skeleton]; unfold cc0_moe_experts_skel
  iintro ⟨⟨⟨%f0, %hf0, H0⟩, ⟨%f1, %hf1, H1⟩, ⟨%f2, %hf2, H2⟩, ⟨%d3, %f3, -, H3⟩, HT0, HT1⟩, Hk⟩
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    unfold tileOut
    have hr : run_tile.sl.r T1 = used T1 := used_read T1 _ _
    rw [hr]
    split
    · rename_i hc2
      have h2 : k0_cond2 i (used T1) = 1#1 := hc2
      rw [View.read_writes_full, if_neg (fun h1 => not_cond2_of i _ h1 h2)]
    · rename_i hc2
      have h2 : ¬ k0_cond2 i (used T1) = 1#1 := hc2
      split
      · rename_i hc1
        have h1 : k0_cond1 i (used T1) = 1#1 := hc1
        rw [View.read_writes_full, View.readAt_full, View.readAt_full, View.readAt_full, hf0, hf1, hf2]
      · rename_i hc1
        exact absurd (cond2_of_not i _ hc1) h2
  isplitl [HT0]; · iexact HT0
  iexact HT1

end run

end Cert.Moe

end
-- ==== Proof.MoeFrame.lean ====
/- The experts' call runs, for every table of experts whose blocks lie inside the weights; what its output holds at the end. -/
module

public import proofs.«01_k».proof.Proof.MoeRun
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.VecWindow
public import Idealize.ShloMosaic.Lib.Claim

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the call begins: as launched, the host's lines run. -/
def at0 (c : Dev nD) (b : Ref sig .tc) : Buf (Elt F) ((c : Thread nD τ).loc b) := StableHlo.after hostOps0 (fun b => m (c, b)) b

/-- The host's lines leave the arguments alone. -/
theorem at0_arg0 (c : Dev nD) : at0 m c main_arg0 = m ((c : Thread nD τ).loc main_arg0) := by show StableHlo.after hostOps0 _ (Proc.devRef .tc _) = _; after_results
theorem at0_arg1 (c : Dev nD) : at0 m c main_arg1 = m ((c : Thread nD τ).loc main_arg1) := by show StableHlo.after hostOps0 _ (Proc.devRef .tc _) = _; after_results
theorem at0_arg2 (c : Dev nD) : at0 m c main_arg2 = m ((c : Thread nD τ).loc main_arg2) := by show StableHlo.after hostOps0 _ (Proc.devRef .tc _) = _; after_results
theorem at0_arg3 (c : Dev nD) : at0 m c main_arg3 = m ((c : Thread nD τ).loc main_arg3) := by show StableHlo.after hostOps0 _ (Proc.devRef .tc _) = _; after_results
theorem at0_arg4 (c : Dev nD) : at0 m c main_arg4 = m ((c : Thread nD τ).loc main_arg4) := by show StableHlo.after hostOps0 _ (Proc.devRef .tc _) = _; after_results

/-- The two tables as the call finds them. -/
def tables : pre0.Contents (Elt F) := fun j => at0 m (0 : Dev nD) (pre0.ref j)

theorem tables_on (c : Dev nD) (j : Fin 2) : at0 m c (pre0.ref j) = tables m j := by
  obtain rfl : c = 0 := Subsingleton.elim _ _; rfl

/-- Every block the tables name lies inside its array. -/
abbrev Inside : Prop := ok0 (F := F) (tables m)

abbrev adm (hO : Inside m) : (pcfg0 (F := F)).Adm := ⟨tables m, hO⟩
abbrev pipe (hO : Inside m) : Pipeline.Cfg sig Λ₀ := cfg0 (adm m hO)

/-- The main function is the host's lines and the one call. -/
theorem main_is_call (𝒱 : Variants) : Pipeline.HMainP (Ix := Unit) (Name := ℕ) (U := UR sig nD τ) (Lvl := ℕ) pcfgs 0 defs₀ 𝒱 m (main (F := F)) (at0 m) :=
  Pipeline.hmainP_prefix pcfgs 0 defs₀ 𝒱 m main hostOps0 hostOps0_sub ⟨rfl, rfl, rfl, rfl, rfl, rfl, rfl, rfl⟩ fun c => (main_chain c).trans rfl

-- from here on a buffer is only named: what the host wrote into it is not looked at
attribute [local irreducible] at0

theorem tables_held (c : Dev nD) : (Pipeline.ΦT pre0 (tables m) c : sProp 𝕄) = iprop(half c teM (tables m 0) ∗ half c nuM (tables m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, of its array as launched. -/
def blockAt (hO : Inside m) (c : Dev nD) (w : Fin (pipe m hO).W) (t : Fin (pipe m hO).N) :
    (((pipe m hO).win w).xblock ((pipe m hO).grid.coords t)).Idx → Elt F ((pipe m hO).win w).elt :=
  (((pipe m hO).win w).blk t).view.read (Elt F) (at0 m c (Pipeline.arrRef spec0 w))

/-- The tile of the output at point `t`. -/
def tileAt (hO : Inside m) (c : Dev nD) (t : Fin (pipe m hO).N) : Vec F S512x1024 .f32 :=
  tileOut (grid0.coords t) (used (tables m 1)) (blockAt m hO c 0 t) (blockAt m hO c 1 t) (blockAt m hO c 2 t)

/-- The account of the pipeline: arrays as launched, each input's buffer at its block and the output's at the tile after
    every point. -/
def acct (hO : Inside m) (_ : Fin 1) (c : Dev nD) : Dat τ (Elt F) Unit ℕ (UR sig nD τ) ℕ (pipe m hO) c where
  A w := at0 m c (Pipeline.arrRef spec0 w)
  after w t := match w with
    | ⟨0, _⟩ => blockAt m hO c 0 t
    | ⟨1, _⟩ => blockAt m hO c 1 t
    | ⟨2, _⟩ => blockAt m hO c 2 t
    | ⟨3, _⟩ => tileAt m hO c t
  Φ _ := iprop(Pipeline.ΦA spec0 c ∗ Pipeline.ΦT pre0 (tables m) c)
  q _ := fullShare
  owed _ := 0

variable (hO : Inside m) (c : Dev nD)

theorem acct_A (w : Fin (pipe m hO).W) : (acct m hO 0 c).A w = at0 m c (Pipeline.arrRef spec0 w) := by dsimp only [acct]
theorem acct_0 (t : Fin (pipe m hO).N) : (acct m hO 0 c).after 0 t = blockAt m hO c 0 t := by dsimp only [acct]; try rfl
theorem acct_1 (t : Fin (pipe m hO).N) : (acct m hO 0 c).after 1 t = blockAt m hO c 1 t := by dsimp only [acct]; try rfl
theorem acct_2 (t : Fin (pipe m hO).N) : (acct m hO 0 c).after 2 t = blockAt m hO c 2 t := by dsimp only [acct]; try rfl
theorem acct_3 (t : Fin (pipe m hO).N) : (acct m hO 0 c).after 3 t = tileAt m hO c t := by dsimp only [acct]; try rfl

/-- Before the body every input's buffer holds its block, fetched at that point or kept from the last. -/
theorem held_0 (t : Fin (pipe m hO).N) (d) : (acct m hO 0 c).before 0 t d = blockAt m hO c 0 t :=
  ((acct m hO 0 c).before_in_eq_fetched 0 rfl (fun _ => rfl) (fun _ _ _ => rfl)
      (fun t => by rw [acct_0]; unfold Dat.blockOf blockAt; rw [acct_A]; try rfl) t d).trans
    (by unfold Dat.fetched Dat.blockOf blockAt; rw [acct_A]; try rfl)
theorem held_1 (t : Fin (pipe m hO).N) (d) : (acct m hO 0 c).before 1 t d = blockAt m hO c 1 t :=
  ((acct m hO 0 c).before_in_eq_fetched 1 rfl (fun _ => rfl) (fun _ _ _ => rfl)
      (fun t => by rw [acct_1]; unfold Dat.blockOf blockAt; rw [acct_A]; try rfl) t d).trans
    (by unfold Dat.fetched Dat.blockOf blockAt; rw [acct_A]; try rfl)
theorem held_2 (t : Fin (pipe m hO).N) (d) : (acct m hO 0 c).before 2 t d = blockAt m hO c 2 t :=
  ((acct m hO 0 c).before_in_eq_fetched 2 rfl (fun _ => rfl) (fun _ _ _ => rfl)
      (fun t => by rw [acct_2]; unfold Dat.blockOf blockAt; rw [acct_A]; try rfl) t d).trans
    (by unfold Dat.fetched Dat.blockOf blockAt; rw [acct_A]; try rfl)

/-- The current buffers at point `t`. -/
abbrev b0 (t : Fin (pipe m hO).N) : Memref sig .tc .vmem S512x1024 .f32 := spec0_0.stage ((pipe m hO).slots t 0)
abbrev w0 (t : Fin (pipe m hO).N) : (b0 m hO t).IsWhole := hstage0_0 (((pipe m hO).slots t 0).cast nbuf0_0)
abbrev b1 (t : Fin (pipe m hO).N) : Memref sig .tc .vmem S1x1x1024x512 .f32 := spec0_1.stage ((pipe m hO).slots t 1)
abbrev w1 (t : Fin (pipe m hO).N) : (b1 m hO t).IsWhole := hstage0_1 (((pipe m hO).slots t 1).cast nbuf0_1)
abbrev b2 (t : Fin (pipe m hO).N) : Memref sig .tc .vmem S1x1x256x1024 .f32 := spec0_2.stage ((pipe m hO).slots t 2)
abbrev w2 (t : Fin (pipe m hO).N) : (b2 m hO t).IsWhole := hstage0_2 (((pipe m hO).slots t 2).cast nbuf0_2)
abbrev b3 (t : Fin (pipe m hO).N) : Memref sig .tc .vmem S512x1024 .f32 := spec0_3.stage ((pipe m hO).slots t 3)
abbrev w3 (t : Fin (pipe m hO).N) : (b3 m hO t).IsWhole := hstage0_3 (((pipe m hO).slots t 3).cast nbuf0_3)

/-- The body as the pipeline calls it at point `t`. -/
abbrev bodyOf (t : Fin (pipe m hO).N) : Prog (TpuEff nD τ sig (Elt F) Λ₀ .tc) PUnit :=
  cc0_moe_experts (grid0.coords t) teM teW nuM nuW (b0 m hO t) (w0 m hO t) (b1 m hO t) (w1 m hO t) (b2 m hO t) (w2 m hO t) (b3 m hO t) (w3 m hO t)

/-- What the body is called with at a point, and what it returns. -/
def given (t : Fin (pipe m hO).N) : sProp 𝕄 :=
  iprop((acct m hO 0 c).Φ t.castSucc ∗ (acct m hO 0 c).owesAt () t.castSucc
    ∗ (∃ d, owns (c : Thread nD τ) (b0 m hO t) fullShare ((acct m hO 0 c).before 0 t d))
    ∗ (∃ d, owns (c : Thread nD τ) (b1 m hO t) fullShare ((acct m hO 0 c).before 1 t d))
    ∗ (∃ d, owns (c : Thread nD τ) (b2 m hO t) fullShare ((acct m hO 0 c).before 2 t d))
    ∗ (∃ d, owns (c : Thread nD τ) (b3 m hO t) fullShare ((acct m hO 0 c).before 3 t d)))

def returned (t : Fin (pipe m hO).N) : sProp 𝕄 :=
  iprop((acct m hO 0 c).Φ t.succ ∗ (acct m hO 0 c).owesAt () t.succ
    ∗ owns (c : Thread nD τ) (b0 m hO t) fullShare ((acct m hO 0 c).after 0 t)
    ∗ owns (c : Thread nD τ) (b1 m hO t) fullShare ((acct m hO 0 c).after 1 t)
    ∗ owns (c : Thread nD τ) (b2 m hO t) fullShare ((acct m hO 0 c).after 2 t)
    ∗ owns (c : Thread nD τ) (b3 m hO t) fullShare ((acct m hO 0 c).after 3 t))

theorem body_at (t : Fin (pipe m hO).N) :
    given m hO c t ⊢ wp frame (wpE (defs₀ (F := F)) Variants.none c none) Set.univ (bodyOf m hO t) (fun _ => returned m hO c t) := by
  unfold given returned
  simp only [held_0, held_1, held_2]
  rw [show (acct m hO 0 c).Φ t.succ = (acct m hO 0 c).Φ t.castSucc from rfl,
    show (acct m hO 0 c).owesAt () t.succ = (acct m hO 0 c).owesAt () t.castSucc from rfl,
    acct_0, acct_1, acct_2, acct_3]
  rw [show (acct m hO 0 c).Φ t.castSucc = iprop(Pipeline.ΦA spec0 c ∗ Pipeline.ΦT pre0 (tables m) c) from rfl, tables_held]
  unfold tileAt
  iintro ⟨⟨HΦ, ⟨HT0, HT1⟩⟩, Ho, ⟨%d0, H0⟩, ⟨%d1, H1⟩, ⟨%d2, H2⟩, ⟨%d3, H3⟩⟩
  iapply (run_tile c (grid0.coords t) (b0 m hO t) (w0 m hO t) (b1 m hO t) (w1 m hO t) (b2 m hO t) (w2 m hO t) (b3 m hO t) (w3 m hO t)
    (tables m 0) (tables m 1) (blockAt m hO c 0 t) (blockAt m hO c 1 t) (blockAt m hO c 2 t) _)
  unfold Before After
  isplitl [H0 H1 H2 H3 HT0 HT1]
  · isplitl [H0]; · iexact H0
    isplitl [H1]; · iexact H1
    isplitl [H2]; · iexact H2
    isplitl [H3]; · iexists _; iexact H3
    isplitl [HT0]; · iexact HT0
    iexact HT1
  iintro ⟨H0, H1, H2, H3, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  iexact H3

theorem body_row (t : Fin (pipe m hO).N) :
    defs₀ (F := F) .tc (pipe m hO).body ((pipe m hO).bodyArgs t ((pipe m hO).slots t)) = bodyOf m hO t := by
  unfold defs₀; rw [Defs.onTc_tc]

/-- The output is written at every point. -/
theorem never_idle (i : grid0.Coords) : (pipe m hO).idle 3 i = false := by
  show (!(k0_cond1 i ((tables m).atD 1 ![0]) == 1#1) && !(k0_cond2 i ((tables m).atD 1 ![0]) == 1#1)) = false
  by_cases h : k0_cond1 i ((tables m).atD 1 ![0]) = 1#1
  · simp [h]
  · simp [cond2_of_not i _ h]

theorem at_live {P Q : sProp 𝕄} : ∀ b : Bool, b = false → (Q ⊢ (match b with | true => P | false => Q))
  | false, _ => .rfl

theorem obligation : BodyObligation (acct (F := F) m hO 0 c) (defs₀ (F := F)) Variants.none () Set.univ := fun t => by
  rw [bigSep_W0, bigSep_W0, body_row m hO]
  have hi := never_idle m hO ((pipe m hO).grid.coords t)
  refine triple_restated (body_at m hO c t) rfl .rfl fun _ => ?_
  unfold returned
  exact sep_mono .rfl (sep_mono .rfl (sep_mono .rfl (sep_mono .rfl (sep_mono .rfl (at_live _ hi)))))

set_option backward.isDefEq.respectTransparency.types false in
/-- The launch: every array at what the account says, everything else as launched, every counter at zero. -/
theorem launched : θ_run defs (onTc (τ := τ) (main (F := F))) (s₀ m ρ)
    (fun r => (Pipeline.FramePost (Pipeline.pin pcfgs fun _ => adm m hO) (acct m hO) 0 (at0 m)) r ∧ r.2.sem = fun _ => 0) :=
  Pipeline.θ_run_frameP (Q' := _) pcfgs (fun _ => adm m hO) (acct m hO) (0 : Fin 1) launch0 defs₀ Variants.none m ρ main
    (hbody := fun c => (obligation m hO c).loose) (hshare := fun c => (acct m hO 0 c).share_full fun _ => rfl)
    (howed := fun _ _ => rfl) (V := at0 m) (hmain := main_is_call m Variants.none) (hA := acct_A m hO) (hpf := tables_on m)
    (hΦ := fun _ _ => rfl)

/-- The output array at the end, as the account has it. -/
def written : Buf (Elt F) ((c : Thread nD τ).loc main_v7) := (acct m hO 0 c).arrAt 3 (pipe m hO).N

theorem ends : θ_run defs (onTc (τ := τ) (main (F := F))) ⟨m, fun _ => 0, ρ⟩ (fun r => (∀ c : Dev nD,
      r.2.mem ((c.tc : Thread nD τ).loc main_v7) = written m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
      ((h.1 c).2 main_arg0 (by decide : main_arg0 ∈ Pipeline.restRefs sig spec0)).trans (at0_arg0 m c),
      ((h.1 c).2 main_arg1 (by decide : main_arg1 ∈ Pipeline.restRefs sig spec0)).trans (at0_arg1 m c),
      ((h.1 c).1 0).trans (((acct m hO 0 c).arrAt_in 0 rfl _).trans ((acct_A m hO c 0).trans (at0_arg2 m c))),
      ((h.1 c).1 1).trans (((acct m hO 0 c).arrAt_in 1 rfl _).trans ((acct_A m hO c 1).trans (at0_arg3 m c))),
      ((h.1 c).1 2).trans (((acct m hO 0 c).arrAt_in 2 rfl _).trans ((acct_A m hO c 2).trans (at0_arg4 m c)))⟩, h.2⟩) (launched m ρ hO)

end Cert.Moe

end
-- ==== Proof.MoePre.lean ====
/- What the precondition of the experts' call says, and what it gives: the table the host hands the call, and that every block named lies inside its array. -/
module

public import proofs.«01_k».proof.Proof.MoeFrame
public import proofs.«01_k».proof.Pre_tiles_routed
public import proofs.«01_k».proof.Proof.Finite
public import Idealize.ShloMosaic.Lib.ReduceAll
public import Idealize.ShloMosaic.Lib.WordArith
public import Idealize.ShloMosaic.Lib.Pipeline.Value
public import Idealize.ShloMosaic.Lib.StableHlo.Predicate

@[expose] public section

noncomputable section

namespace Cert.Moe

open Idealize.ShloMosaic Idealize.ShloMosaic.TcCoe Idealize.SL.Sem

instance preFacts : Cert.Pre_tiles_routed.Facts where
  bcast_S_S98 := by decide
  reducesTo_S98_S_d0 := by decide
  h_S_ := by decide
  shapeCasts_S1_S_ := by decide

theorem sge_of_one (x y : BitVec 32) (h : IntOp.cmpi .sge x y = 1#1) : y.toInt ≤ x.toInt := by
  simp only [IntOp.cmpi, BitVec.sle] at h
  by_contra hc
  rw [show decide (y.toInt ≤ x.toInt) = false from by simpa using hc] at h
  exact absurd h (by decide)

theorem slt_of_one (x y : BitVec 32) (h : IntOp.cmpi .slt x y = 1#1) : x.toInt < y.toInt := by
  simp only [IntOp.cmpi, BitVec.slt] at h
  by_contra hc
  rw [show decide (x.toInt < y.toInt) = false from by simpa using hc] at h
  exact absurd h (by decide)

/-- The precondition in words: every entry of the table is an expert, and a tile is in use. -/
theorem routed_of_pre {F : FTy → Type} [FloatOps F] (te : IVec Cert.Pre_tiles_routed.S98 32) (n : IVec Cert.Pre_tiles_routed.S1 32)
    (xs : FVec F Cert.Pre_tiles_routed.S50176x1024 .f32) (gu : FVec F Cert.Pre_tiles_routed.S2x32x1024x512 .f32)
    (dn : FVec F Cert.Pre_tiles_routed.S2x32x256x1024 .f32) (h : Cert.Pre_tiles_routed.fn te n xs gu dn = fun _ => 1#1) :
    (∀ i, (te i).toNat < 32) ∧ (∀ i, 1 ≤ (n i).toInt) := by
  have h0 := congrFun h (fun c => c.elim0)
  obtain ⟨h1, hn⟩ := Cert.Swa.and_one _ _ h0
  refine ⟨fun i => ?_, fun i => ?_⟩
  · obtain ⟨ha, hb⟩ := Cert.Swa.and_one _ _ (Host.reduce_andi_all _ _ _ _ _ h1 i)
    have ha := sge_of_one _ _ ha
    have hb := slt_of_one _ _ hb
    have e := BitVec.toInt_eq_toNat_cond (te i)
    have ha' : 0 ≤ (te i).toInt := ha
    have hb' : (te i).toInt < 32 := hb
    split at e <;> omega
  · have hn := sge_of_one _ _ hn
    have e : ∀ j : Cert.Pre_tiles_routed.S1.Idx, j = i := fun j => funext fun a => match a with
      | ⟨0, _⟩ => Subsingleton.elim (α := Fin 1) _ _
    have hn' : 1 ≤ (n _).toInt := hn
    exact (congrArg (fun j => 1 ≤ (n j).toInt) (e _)).mp hn'

/-- The tile a point reads: the point itself, or the last tile in use. -/
def tileNo (n : BitVec 32) (p : Nat) : BitVec 32 := IntOp.minsi (BitVec.ofNat 32 p) (n - 1#32)

theorem tileNo_le (n : BitVec 32) (hn : 1 ≤ n.toInt) (p : Nat) (hp : p < 98) : (tileNo n p).toNat ≤ p := by
  have e := BitVec.toInt_eq_toNat_cond n
  have hb := n.isLt
  have h1 : (n - 1#32).toNat = n.toNat - 1 := by
    rw [BitVec.toNat_sub]; split at e <;> simp <;> omega
  have hlt : n.toNat < 2 ^ 31 := by split at e <;> omega
  unfold tileNo
  rw [WordArith.toNat_minsi_of_lt _ _ (by rw [BitVec.toNat_ofNat]; omega) (by omega), BitVec.toNat_ofNat]
  omega

theorem tileNo_used (n : BitVec 32) (p : Nat) (hp : p < 98) (h : (p : Int) < n.toInt) : tileNo n p = BitVec.ofNat 32 p := by
  have e := BitVec.toInt_eq_toNat_cond n
  have hb := n.isLt
  have h1 : (n - 1#32).toNat = n.toNat - 1 := by
    rw [BitVec.toNat_sub]; split at e <;> simp <;> omega
  have hlt : n.toNat < 2 ^ 31 := by split at e <;> omega
  apply BitVec.eq_of_toNat_eq
  unfold tileNo
  rw [WordArith.toNat_minsi_of_lt _ _ (by rw [BitVec.toNat_ofNat]; omega) (by omega), BitVec.toNat_ofNat]
  split at e <;> omega

section tables
open Cert.Kernel2Ideal Cert.Kernel2Ideal.Gen

variable {F : FTy → Type} [FloatOps F] (m : (ℓ : Loc nD τ sig) → Buf (Elt F) ℓ)

/-- The arguments: the table of experts and the number of tiles in use. -/
abbrev argTe : IVec S98 32 := m (((0 : Dev nD) : Thread nD τ).loc main_arg0)
abbrev argN : IVec S1 32 := m (((0 : Dev nD) : Thread nD τ).loc main_arg1)

theorem v6_term : (at0 m 0 main_v6 : IVec S98 32)
    = Host.gather gather_S98_S98x1_S98_n_0_n_n_0_1_1 (argTe m)
        (broadcastInDim S98x1 ![0] bcast_S98_S98x1_0 (minsi (iotaInDim S98 32 0)
          (broadcastInDim S98 ![] bcast_S_S98 (subi (shapeCast S_ (argN m) shapeCasts_S1_S_) (constantI S_ 32 1#32))))) := by
  show StableHlo.after hostOps0 _ (Proc.devRef .tc main_v6) = _
  after_results
  rfl

theorem used_eq : used (tables m 1) = argN m (Shape.Idx.first (s := S1) (by decide)) := by
  unfold used tables
  exact congrFun (at0_arg1 m 0) _

theorem gather_at (x : IVec S98 32) (idx : IVec S98x1 32) (p : Fin 98) :
    Host.gather gather_S98_S98x1_S98_n_0_n_n_0_1_1 x idx (Shape.Idx.ofFin p)
      = x (Shape.Idx.ofFin ⟨min (idx (StableHlo.Predicate.ixP p)).toInt.toNat (98 - 1), by omega⟩) :=
  StableHlo.Predicate.gather_take _ rfl rfl rfl rfl x idx p (by decide)

theorem one_word (n : IVec S1 32) (i : S_.Idx) : shapeCast S_ n shapeCasts_S1_S_ i = n (Shape.Idx.first (s := S1) (by decide)) := by
  unfold shapeCast
  exact congrArg n (funext fun a => match a with | ⟨0, _⟩ => Subsingleton.elim (α := Fin 1) _ _)

theorem minsi_at (x y : IVec S98 32) (i : S98.Idx) : minsi x y i = IntOp.minsi (x i) (y i) := rfl

theorem spread (x : IVec S_ 32) (i : S98.Idx) : broadcastInDim S98 ![] bcast_S_S98 x i = x (fun a => a.elim0) :=
  broadcastInDim_apply _ bcast_S_S98 _ _ _ (fun a => a.elim0)

theorem tile_word (n : IVec S1 32) (p : Fin 98) :
    broadcastInDim S98x1 ![0] bcast_S98_S98x1_0 (minsi (iotaInDim S98 32 0)
          (broadcastInDim S98 ![] bcast_S_S98 (subi (shapeCast S_ n shapeCasts_S1_S_) (constantI S_ 32 1#32)))) (StableHlo.Predicate.ixP p)
      = tileNo (n (Shape.Idx.first (s := S1) (by decide))) p.val := by
  refine (broadcastInDim_apply _ bcast_S98_S98x1_0 _ _ (Shape.Idx.ofFin p) (fun a => ?_)).trans ?_
  · match a with
    | ⟨0, _⟩ => show p.val = if (98 : Nat) = 1 then 0 else p.val; rw [if_neg (by decide)]
  exact (minsi_at _ _ _).trans (congrArg₂ IntOp.minsi rfl ((spread _ _).trans (congrArg (· - 1#32) (one_word n _))))

/-- The entry of the table a point reads, which the host has looked up at the point's tile. -/
theorem table_at (p : Fin 98) : (tables m 0 : IVec S98 32) (Shape.Idx.ofFin p)
    = argTe m (Shape.Idx.ofFin ⟨min (tileNo (used (tables m 1)) p.val).toInt.toNat (98 - 1), by omega⟩) := by
  refine (congrFun (v6_term m) (Shape.Idx.ofFin p)).trans ((gather_at _ _ p).trans (congrArg (argTe m) ?_))
  refine congrArg Shape.Idx.ofFin (Fin.ext ?_)
  show min _ _ = min _ _
  rw [tile_word, used_eq]

theorem table_lt (hte : ∀ i, (argTe m i).toNat < 32) (p : S98.Idx) : ((tables m 0 : IVec S98 32) p).toNat < 32 := by
  have e : p = Shape.Idx.ofFin (⟨(p 0).val, (p 0).isLt⟩ : Fin 98) := funext fun a => match a with | ⟨0, _⟩ => rfl
  rw [e, table_at]
  exact hte _

theorem table_used (p : Fin 98) (h : (p.val : Int) < (used (tables m 1)).toInt) :
    (tables m 0 : IVec S98 32) (Shape.Idx.ofFin p) = argTe m (Shape.Idx.ofFin p) := by
  refine (table_at m p).trans (congrArg (argTe m) (congrArg Shape.Idx.ofFin (Fin.ext ?_)))
  show min _ _ = _
  have hp := p.isLt
  rw [tileNo_used _ _ hp h, StableHlo.Predicate.toInt_ofNat_small _ (by omega)]
  omega

/-- The word an index map reads off the table of experts. -/
theorem expert_word (i : grid0.Coords) : (tables m).at 0 (Rect.unit (s := S98) ![(Scalar.indexCast (BitVec.ofNat 32 (i 0).val) : Index).toNat] S1.size (k0_off1_inb i)) numel1_S1
    = (tables m 0 : IVec S98 32) (Shape.Idx.ofFin (⟨(i 0).val, (i 0).isLt⟩ : Fin 98)) := by
  show tables m 0 _ = _
  congr 1
  funext a
  apply Fin.ext
  match a with
  | ⟨0, _⟩ =>
    show (BitVec.ofNat 32 (i 0).val).toNat + _ = (i 0).val
    have h : (i 0).val < 98 := (i 0).isLt
    rw [BitVec.toNat_ofNat]
    show _ % _ + 1 * 0 = _
    omega

theorem number_word (i : grid0.Coords) : (tables m).at 1 (Rect.unit (s := S1) ![0] S1.size inb_S1_S1_0) numel1_S1 = used (tables m 1) := by
  show tables m 1 _ = tables m 1 _
  congr 1
  funext a
  match a with
  | ⟨0, _⟩ => exact Subsingleton.elim (α := Fin 1) _ _

theorem map_rows (i : grid0.Coords) : cc0_transform_0 inb_S1_S1_0 numel1_S1 (tables m) i = ![(tileNo (used (tables m 1)) (i 0).val).toNat, 0] := by
  rw [← number_word m i]; rfl

theorem map_gate (i : grid0.Coords) : cc0_transform_1 k0_off1_inb numel1_S1 (tables m) i
    = ![0, ((tables m 0 : IVec S98 32) (Shape.Idx.ofFin (⟨(i 0).val, (i 0).isLt⟩ : Fin 98))).toNat, 0, 0] := by
  rw [← expert_word m i]; rfl

theorem map_down (i : grid0.Coords) : cc0_transform_2 k0_off1_inb numel1_S1 (tables m) i
    = ![0, ((tables m 0 : IVec S98 32) (Shape.Idx.ofFin (⟨(i 0).val, (i 0).isLt⟩ : Fin 98))).toNat, 0, 0] := by
  rw [← expert_word m i]; rfl

/-- Every block lies inside its array. -/
theorem inside (hte : ∀ i, (argTe m i).toNat < 32) (hn : ∀ i, 1 ≤ (argN m i).toInt) : Inside m := by
  refine ⟨fun i => ⟨fun a => ?_, .inl rfl⟩, fun i => ⟨fun a => ?_, .inl rfl⟩, fun i => ⟨fun a => ?_, .inl rfl⟩⟩
  · rw [map_rows]
    have h := tileNo_le (used (tables m 1)) (by rw [used_eq]; exact hn _) (i 0).val (i 0).isLt
    have h2 : (i 0).val < 98 := (i 0).isLt
    match a with
    | ⟨0, _⟩ => show ((tileNo _ _).toNat + 1) * 512 ≤ 50176; omega
    | ⟨1, _⟩ => show (0 + 1) * 1024 ≤ 1024; omega
  · rw [map_gate]
    have h := table_lt m hte (Shape.Idx.ofFin (⟨(i 0).val, (i 0).isLt⟩ : Fin 98))
    match a with
    | ⟨0, _⟩ => show (0 + 1) * 1 ≤ 2; omega
    | ⟨1, _⟩ => show (BitVec.toNat _ + 1) * 1 ≤ 32; omega
    | ⟨2, _⟩ => show (0 + 1) * 1024 ≤ 1024; omega
    | ⟨3, _⟩ => show (0 + 1) * 512 ≤ 512; omega
  · rw [map_down]
    have h := table_lt m hte (Shape.Idx.ofFin (⟨(i 0).val, (i 0).isLt⟩ : Fin 98))
    match a with
    | ⟨0, _⟩ => show (0 + 1) * 1 ≤ 2; omega
    | ⟨1, _⟩ => show (BitVec.toNat _ + 1) * 1 ≤ 32; omega
    | ⟨2, _⟩ => show (0 + 1) * 256 ≤ 256; omega
    | ⟨3, _⟩ => show (0 + 1) * 1024 ≤ 1024; omega

end tables

end Cert.Moe

end
-- ==== Proof.MoeSame.lean ====
/- The frames of the experts' call. The program read at the bits and the one read at the extended reals have one text, so one run serves both. -/
module

public import proofs.«01_k».proof.Defs
public import proofs.«01_k».proof.Proof.MoePre
public import proofs.«01_k».proof.Proof.Gen.Kernel2

@[expose] public section

noncomputable section

namespace Cert.Moe

open Idealize.ShloMosaic Idealize.ShloMosaic.TcCoe Idealize.SL.Sem

theorem same_body : @Cert.Kernel2.cc0_moe_experts Bits _ _ = @Cert.Kernel2Ideal.cc0_moe_experts Bits _ _ := rfl
theorem same_defs₀ : @Cert.Kernel2.defs₀ Bits _ _ = @Cert.Kernel2Ideal.defs₀ Bits _ _ := by
  unfold Cert.Kernel2.defs₀ Cert.Kernel2Ideal.defs₀
  exact congrArg (Defs.onTc (nD := Cert.Kernel2Ideal.nD) (τ := Cert.Kernel2Ideal.τ) (sig := Cert.Kernel2Ideal.sig) (Val := Elt Bits) (Λ := Cert.Kernel2Ideal.Λ₀)) (funext fun x => funext fun a => match x, a with
    | 0, (t, s) => rfl
    | ⟨_ + 1, h⟩, _ => absurd h (Nat.not_lt.2 (Nat.le_add_left _ _)))
theorem same_main : @Cert.Kernel2.main Bits _ _ = @Cert.Kernel2Ideal.main Bits _ _ := by
  unfold Cert.Kernel2.main Cert.Kernel2Ideal.main
  rfl
theorem same_defs : @Cert.Kernel2.defs Bits _ _ = @Cert.Kernel2Ideal.defs Bits _ _ := by
  unfold Cert.Kernel2.defs Cert.Kernel2Ideal.defs
  exact congrArg (Pipeline.defs Cert.Kernel2Ideal.pcfgs) same_defs₀

/-- A run of one program is a run of an equal one. -/
theorem carry {nD : Nat} {τ : Topo} {sig : RefSig} {Val : EltTy → Type} {Λ : Labels} {d d' : Defs nD τ sig Val Λ} (hd : d = d')
    {p p' : Dev nD → Prog (TpuEff nD τ sig Val Λ .tc) PUnit} (hp : p = p') {s : MemSt nD τ sig Val} {P Q : PUnit × MemSt nD τ sig Val → Prop}
    (h : θ_run d' (onTc p') s Q) (hQ : ∀ r, Q r → P r) : θ_run d (onTc p) s P := by
  subst hd; subst hp
  exact (θ_run _ _ _).mono hQ h

theorem frame_pi : Cert.quiescent_Kernel2Ideal := fun m ρ h =>
  have hr := routed_of_pre _ _ _ _ _ (h 0)
  (θ_run Cert.Kernel2Ideal.defs _ _).mono (fun r h => ⟨fun c => (h.1 c).2, h.2⟩) (ends m ρ (inside m hr.1 hr.2))

theorem frame_p : Cert.quiescent_Kernel2 := fun m ρ h =>
  have hr := routed_of_pre _ _ _ _ _ (h 0)
  carry same_defs same_main (ends (F := Bits) m ρ (inside (F := Bits) m hr.1 hr.2)) (fun r h => ⟨fun c => (h.1 c).2, h.2⟩)

end Cert.Moe

end
-- ==== Proof.MoeMath.lean ====
/- What the call of the experts returns: a row of a tile in use goes through the gated multilayer perceptron of the tile's expert, a row of any other tile is zero. -/
module

public import Idealize.ShloMosaic.Lib.MatmulPlain
public import Idealize.ShloMosaic.Lib.ValueLayoutCasts
public import Idealize.ShloMosaic.Lib.Pipeline.Value
public import Idealize.ShloMosaic.Lib.IdealHost
public import Idealize.ShloMosaic.Lib.StableHlo.Predicate
public import Idealize.ShloMosaic.PureOps.Ideal.Laws

@[expose] public section

noncomputable section

namespace Cert.Moe

open Idealize.ShloMosaic
open Idealize.ShloMosaic.TcCoe Idealize.SL.Sem Idealize.ShloMosaic.ValueIdx

/-- An array of extended reals, and an array of words. -/
abbrev Reals (s : Shape) := s.Idx → EReal
abbrev Words (s : Shape) := s.Idx → BitVec 32

/-- The sigmoid-weighted unit. -/
def swish (g : EReal) : EReal := Ideal.div g (1 + Ideal.exp (-g))

theorem exp_nonneg (x : EReal) : 0 ≤ Ideal.exp x := by
  induction x with
  | bot => exact le_refl _
  | top => exact le_top
  | coe r =>
    show (0 : EReal) ≤ ((Real.exp r : ℝ) : EReal)
    exact_mod_cast (Real.exp_pos r).le

theorem one_add_exp_ne (x : EReal) : (1 + Ideal.exp x : EReal) ≠ 0 := by
  have h := add_le_add_right (exp_nonneg x) (1 : EReal)
  intro e
  rw [e] at h
  exact absurd h (by norm_num)

theorem swish_eq (g : EReal) : g * Ideal.div 1 (1 + Ideal.exp (-g)) = swish g := by
  unfold swish Ideal.div
  rw [if_neg (one_add_exp_ne _), if_neg (one_add_exp_ne _), one_mul]

variable (xs : Reals ⟨2, ![50176, 1024]⟩) (gu : Reals ⟨4, ![2, 32, 1024, 512]⟩) (dn : Reals ⟨4, ![2, 32, 256, 1024]⟩)

/-- Row `R` times column `j` of the first product of expert `e` in the first layer. -/
def first (R : Fin 50176) (e : Fin 32) (j : Fin 512) : EReal := ∑ d : Fin 1024, xs (ix2 R d) * gu (ix4 (0 : Fin 2) e d j)

/-- The gated hidden vector of row `R` at expert `e`. -/
def hidden (R : Fin 50176) (e : Fin 32) (f : Fin 256) : EReal :=
  swish (first xs gu R e ⟨f.val, by omega⟩) * first xs gu R e ⟨256 + f.val, by omega⟩

/-- Expert `e`'s output for row `R` at column `C`. -/
def expertOut (R : Fin 50176) (e : Fin 32) (C : Fin 1024) : EReal :=
  ∑ f : Fin 256, hidden xs gu R e f * dn (ix4 (0 : Fin 2) e f C)

/-- The array the call returns, from the table of experts, the number of tiles in use, the sorted rows and the weights. -/
def routed (te : Words ⟨1, ![98]⟩) (n : BitVec 32) : Reals ⟨2, ![50176, 1024]⟩ := fun i =>
  if (((i 0).val / 512 : ℕ) : Int) < n.toInt then
    expertOut xs gu dn (i 0) ⟨(te (Shape.Idx.ofFin (⟨(i 0).val / 512, by have h : (i 0).val < 50176 := (i 0).isLt; omega⟩ : Fin 98))).toNat % 32, by omega⟩ (i 1)
  else 0

end Cert.Moe

end
-- ==== Proof.MoeTile.lean ====
/- The tile the experts' kernel leaves at a grid point, read at a row and a column. -/
module

public import proofs.«01_k».proof.Proof.MoeRun
public import proofs.«01_k».proof.Proof.MoeMath

@[expose] public section

noncomputable section

namespace Cert.Moe

open Cert.Kernel2Ideal Cert.Kernel2Ideal.Gen
open Idealize.ShloMosaic
open Idealize.ShloMosaic.TcCoe Idealize.SL.Sem Idealize.ShloMosaic.ValueIdx

theorem dot_first : dot_S512x1024_S1024x512_S512x512_1_0_0_1_n_n = DotDims.plain 512 1024 512 := rfl
theorem dot_second : dot_S512x256_S256x1024_S512x1024_1_0_0_1_n_n = DotDims.plain 512 256 1024 := rfl

/-- The weight blocks without their leading axes of size one. -/
theorem gate_block (w : Reals S1x1x1024x512) (d : Fin 1024) (j : Fin 512) :
    shapeCast S1024x512 w shapeCasts_S1x1x1024x512_S1024x512 (ix2 d j) = w (ix4 (0 : Fin 1) (0 : Fin 1) d j) :=
  shapeCast_apply _ _ _ (ix4 (0 : Fin 1) (0 : Fin 1) d j) (by
    rw [Shape.rowMajor_val_four, Shape.rowMajor_val_two]
    show ((0 * 1 + 0) * 1024 + d.val) * 512 + j.val = d.val * 512 + j.val
    omega)

theorem down_block (w : Reals S1x1x256x1024) (f : Fin 256) (C : Fin 1024) :
    shapeCast S256x1024 w shapeCasts_S1x1x256x1024_S256x1024 (ix2 f C) = w (ix4 (0 : Fin 1) (0 : Fin 1) f C) :=
  shapeCast_apply _ _ _ (ix4 (0 : Fin 1) (0 : Fin 1) f C) (by
    rw [Shape.rowMajor_val_four, Shape.rowMajor_val_two]
    show ((0 * 1 + 0) * 256 + f.val) * 1024 + C.val = f.val * 1024 + C.val
    omega)

/-- The first product over a tile. -/
def tileFirst (x : Reals S512x1024) (wg : Reals S1x1x1024x512) : Reals S512x512 :=
  matmul (F := Ideal) (φ₁ := .bf16) (φ₂ := .bf16) dot_S512x1024_S1024x512_S512x512_1_0_0_1_n_n none x
    (shapeCast S1024x512 wg shapeCasts_S1x1x1024x512_S1024x512) (constant (F := Ideal) S512x512 .f32 0x00000000#32)

theorem tileFirst_apply (x : Reals S512x1024) (wg : Reals S1x1x1024x512) (r : Fin 512) (j : Fin 512) :
    tileFirst x wg (ix2 r j) = ∑ d : Fin 1024, x (ix2 r d) * wg (ix4 (0 : Fin 1) (0 : Fin 1) d j) := by
  unfold tileFirst
  rw [dot_first]
  refine (Ideal.matmul_plain_apply (φ₁ := .bf16) (φ₂ := .bf16) none _ _ _ r j).trans ?_
  show Ideal.ofBits .f32 0#32 + _ = _
  rw [Ideal.ofBits_zero_f32, zero_add]
  exact Finset.sum_congr rfl fun d _ => congrArg (x (ix2 r d) * ·) (gate_block wg d j)

theorem half_low (y : Reals S512x512) (r : Fin 512) (f : Fin 256) :
    extractStridedSlice S512x256 ![0, 0] y slices_S512x512_o0_0_S512x256 (ix2 r f) = y (ix2 r (⟨f.val, by omega⟩ : Fin 512)) :=
  extractStridedSlice_apply _ _ _ _ (ix2 r (⟨f.val, by omega⟩ : Fin 512)) (fun a => match a with
    | ⟨0, _⟩ => (Nat.zero_add _).symm
    | ⟨1, _⟩ => (Nat.zero_add _).symm)

theorem half_high (y : Reals S512x512) (r : Fin 512) (f : Fin 256) :
    extractStridedSlice S512x256 ![0, 256] y slices_S512x512_o0_256_S512x256 (ix2 r f) = y (ix2 r (⟨256 + f.val, by omega⟩ : Fin 512)) :=
  extractStridedSlice_apply _ _ _ _ (ix2 r (⟨256 + f.val, by omega⟩ : Fin 512)) (fun a => match a with
    | ⟨0, _⟩ => (Nat.zero_add _).symm
    | ⟨1, _⟩ => rfl)

/-- The gated hidden vectors of a tile. -/
def tileHidden (y : Reals S512x512) : Reals S512x256 :=
  mulf (F := Ideal) (φ := .f32) (divf (F := Ideal) (φ := .f32) (extractStridedSlice S512x256 ![0, 0] y slices_S512x512_o0_0_S512x256)
      (addf (F := Ideal) (φ := .f32) (broadcast S512x256 (Scalar.ofBits (F := Ideal) .f32 0x3F800000#32))
        (exp (F := Ideal) (φ := .f32) (subf (F := Ideal) (φ := .f32) (broadcast S512x256 (Scalar.ofBits (F := Ideal) .f32 0x00000000#32))
          (extractStridedSlice S512x256 ![0, 0] y slices_S512x512_o0_0_S512x256)))))
    (extractStridedSlice S512x256 ![0, 256] y slices_S512x512_o0_256_S512x256)

theorem tileHidden_apply (y : Reals S512x512) (r : Fin 512) (f : Fin 256) :
    tileHidden y (ix2 r f) = swish (y (ix2 r (⟨f.val, by omega⟩ : Fin 512))) * y (ix2 r (⟨256 + f.val, by omega⟩ : Fin 512)) := by
  unfold tileHidden swish
  rw [← half_low y r f, ← half_high y r f]
  generalize extractStridedSlice S512x256 ![0, 0] y slices_S512x512_o0_0_S512x256 = a
  generalize extractStridedSlice S512x256 ![0, 256] y slices_S512x512_o0_256_S512x256 = b
  show Ideal.div (a (ix2 r f)) (Ideal.ofBits .f32 0x3F800000#32 + Ideal.exp (Ideal.ofBits .f32 0#32 - a (ix2 r f))) * b (ix2 r f) = _
  rw [Ideal.ofBits_one_f32, Ideal.ofBits_zero_f32, zero_sub]

theorem pay1_eq (x : Reals S512x1024) (wg : Reals S1x1x1024x512) (wd : Reals S1x1x256x1024) :
    k0_pay1 (F := Ideal) x wg wd = matmul (F := Ideal) (φ₁ := .bf16) (φ₂ := .bf16) dot_S512x256_S256x1024_S512x1024_1_0_0_1_n_n none
      (tileHidden (tileFirst x wg)) (shapeCast S256x1024 wd shapeCasts_S1x1x256x1024_S256x1024) (constant (F := Ideal) S512x1024 .f32 0x00000000#32) := rfl

/-- The tile of a point in use. -/
theorem pay1_apply (x : Reals S512x1024) (wg : Reals S1x1x1024x512) (wd : Reals S1x1x256x1024) (r : Fin 512) (C : Fin 1024) :
    k0_pay1 (F := Ideal) x wg wd (ix2 r C) = ∑ f : Fin 256,
      (swish (∑ d : Fin 1024, x (ix2 r d) * wg (ix4 (0 : Fin 1) (0 : Fin 1) d (⟨f.val, by omega⟩ : Fin 512)))
        * ∑ d : Fin 1024, x (ix2 r d) * wg (ix4 (0 : Fin 1) (0 : Fin 1) d (⟨256 + f.val, by omega⟩ : Fin 512)))
      * wd (ix4 (0 : Fin 1) (0 : Fin 1) f C) := by
  rw [pay1_eq, dot_second]
  refine (Ideal.matmul_plain_apply (φ₁ := .bf16) (φ₂ := .bf16) none _ _ _ r C).trans ?_
  show Ideal.ofBits .f32 0#32 + _ = _
  rw [Ideal.ofBits_zero_f32, zero_add]
  refine Finset.sum_congr rfl fun f _ => congrArg₂ (· * ·) ?_ (down_block wd f C)
  rw [tileHidden_apply, tileFirst_apply, tileFirst_apply]

/-- The tile of any other point. -/
theorem pay2_apply (i : S512x1024.Idx) : k0_pay2 (F := Ideal) i = (0 : EReal) := Ideal.ofBits_zero_f32

/-- Which points are in use. -/
theorem cond1_iff (i : grid0.Coords) (n : BitVec 32) : k0_cond1 i n = 1#1 ↔ ((i 0).val : Int) < n.toInt := by
  have hi : (i 0).val < 98 := (i 0).isLt
  have e : (BitVec.ofNat 32 (i 0).val).toInt = (i 0).val := by rw [BitVec.toInt_ofNat']; simp [Int.bmod]; omega
  rw [← e, ← BitVec.slt_iff_toInt_lt]
  unfold k0_cond1
  simp only [Scalar.cmpi, Scalar.extui, IntOp.cmpi]
  generalize BitVec.slt (BitVec.ofNat 32 (i 0).val) n = b
  revert b; decide

end Cert.Moe

end
-- ==== Proof.MoeValue.lean ====
/- The array the call of the experts leaves, over the extended reals. -/
module

public import proofs.«01_k».proof.Proof.MoePre
public import proofs.«01_k».proof.Proof.MoeTile

@[expose] public section

set_option maxRecDepth 16384

noncomputable section

namespace Cert.Moe

open Cert.Kernel2Ideal Cert.Kernel2Ideal.Gen
open Idealize.ShloMosaic
open Idealize.ShloMosaic.TcCoe Idealize.SL.Sem Idealize.ShloMosaic.ValueIdx
open Idealize.ShloMosaic.Pipeline (Dat Cfg Window)

attribute [local irreducible] at0

variable (m : (ℓ : Loc nD τ sig) → Buf (Elt Ideal) ℓ) (hO : Inside m) (c : Dev nD)

theorem points (t : Fin grid0.N) : (grid0.coords t 0).val = t.val :=
  (by decide +kernel : ∀ t : Fin grid0.N, (grid0.coords t 0).val = t.val) t

theorem lt_points (t : Fin grid0.N) : t.val < 98 := t.isLt

/-- The number of tiles in use, and the expert of the tile of a point, as the call finds them. -/
abbrev count : BitVec 32 := used (tables m 1)
abbrev expertOf (t : Fin grid0.N) : Nat := ((tables m 0 : IVec S98 32) (Shape.Idx.ofFin (⟨t.val, lt_points t⟩ : Fin 98))).toNat

theorem map_rows_at (t : Fin grid0.N) :
    cc0_transform_0 inb_S1_S1_0 numel1_S1 (tables m) (grid0.coords t) = ![(tileNo (count m) t.val).toNat, 0] := by
  rw [map_rows, points]

theorem point_index (t : Fin grid0.N) : (⟨(grid0.coords t 0).val, (grid0.coords t 0).isLt⟩ : Fin 98) = ⟨t.val, lt_points t⟩ :=
  Fin.ext (points t)

theorem map_gate_at (t : Fin grid0.N) :
    cc0_transform_1 k0_off1_inb numel1_S1 (tables m) (grid0.coords t) = ![0, expertOf m t, 0, 0] := by
  rw [map_gate, point_index]

theorem map_down_at (t : Fin grid0.N) :
    cc0_transform_2 k0_off1_inb numel1_S1 (tables m) (grid0.coords t) = ![0, expertOf m t, 0, 0] := by
  rw [map_down, point_index]

/-- A row of a tile in use. -/
theorem rows_block (t : Fin grid0.N) (h : (t.val : Int) < (count m).toInt) (r : Fin 512) (d : Fin 1024) (R : Fin 50176)
    (hR : R.val = 512 * t.val + r.val) :
    (blockAt m hO c 0 t : Reals S512x1024) (ix2 r d) = (at0 m c main_arg2 : Reals S50176x1024) (ix2 R d) := by
  have ht := lt_points t
  unfold blockAt
  refine (View.read_apply _ _).trans ?_
  show (at0 m c main_arg2 : Reals S50176x1024) _ = _
  congr 1
  funext a
  apply Fin.ext
  have e := map_rows_at m t
  rw [tileNo_used _ _ ht h] at e
  match a with
  | ⟨0, _⟩ =>
    show cc0_transform_0 inb_S1_S1_0 numel1_S1 (tables m) (grid0.coords t) 0 * 512 + 1 * r.val = R.val
    rw [e]
    show (BitVec.ofNat 32 t.val).toNat * 512 + 1 * r.val = R.val
    rw [BitVec.toNat_ofNat]
    omega
  | ⟨1, _⟩ =>
    show cc0_transform_0 inb_S1_S1_0 numel1_S1 (tables m) (grid0.coords t) 1 * 1024 + 1 * d.val = d.val
    rw [e]
    show 0 * 1024 + 1 * d.val = d.val
    omega

/-- The weights of the tile's expert, in the first layer. -/
theorem gate_at (t : Fin grid0.N) (e : Fin 32) (he : e.val = expertOf m t) (d : Fin 1024) (j : Fin 512) :
    (blockAt m hO c 1 t : Reals S1x1x1024x512) (ix4 (0 : Fin 1) (0 : Fin 1) d j)
      = (at0 m c main_arg3 : Reals S2x32x1024x512) (ix4 (0 : Fin 2) e d j) := by
  unfold blockAt
  refine (View.read_apply _ _).trans ?_
  show (at0 m c main_arg3 : Reals S2x32x1024x512) _ = _
  congr 1
  funext a
  apply Fin.ext
  have E := map_gate_at m t
  match a with
  | ⟨0, _⟩ =>
    show cc0_transform_1 k0_off1_inb numel1_S1 (tables m) (grid0.coords t) 0 * 1 + 1 * 0 = 0
    rw [E]; rfl
  | ⟨1, _⟩ =>
    show cc0_transform_1 k0_off1_inb numel1_S1 (tables m) (grid0.coords t) 1 * 1 + 1 * 0 = e.val
    rw [E, he]; show expertOf m t * 1 + 1 * 0 = _; omega
  | ⟨2, _⟩ =>
    show cc0_transform_1 k0_off1_inb numel1_S1 (tables m) (grid0.coords t) 2 * 1024 + 1 * d.val = d.val
    rw [E]; show 0 * 1024 + 1 * d.val = d.val; omega
  | ⟨3, _⟩ =>
    show cc0_transform_1 k0_off1_inb numel1_S1 (tables m) (grid0.coords t) 3 * 512 + 1 * j.val = j.val
    rw [E]; show 0 * 512 + 1 * j.val = j.val; omega

theorem down_at (t : Fin grid0.N) (e : Fin 32) (he : e.val = expertOf m t) (f : Fin 256) (C : Fin 1024) :
    (blockAt m hO c 2 t : Reals S1x1x256x1024) (ix4 (0 : Fin 1) (0 : Fin 1) f C)
      = (at0 m c main_arg4 : Reals S2x32x256x1024) (ix4 (0 : Fin 2) e f C) := by
  unfold blockAt
  refine (View.read_apply _ _).trans ?_
  show (at0 m c main_arg4 : Reals S2x32x256x1024) _ = _
  congr 1
  funext a
  apply Fin.ext
  have E := map_down_at m t
  match a with
  | ⟨0, _⟩ =>
    show cc0_transform_2 k0_off1_inb numel1_S1 (tables m) (grid0.coords t) 0 * 1 + 1 * 0 = 0
    rw [E]; rfl
  | ⟨1, _⟩ =>
    show cc0_transform_2 k0_off1_inb numel1_S1 (tables m) (grid0.coords t) 1 * 1 + 1 * 0 = e.val
    rw [E, he]; show expertOf m t * 1 + 1 * 0 = _; omega
  | ⟨2, _⟩ =>
    show cc0_transform_2 k0_off1_inb numel1_S1 (tables m) (grid0.coords t) 2 * 256 + 1 * f.val = f.val
    rw [E]; show 0 * 256 + 1 * f.val = f.val; omega
  | ⟨3, _⟩ =>
    show cc0_transform_2 k0_off1_inb numel1_S1 (tables m) (grid0.coords t) 3 * 1024 + 1 * C.val = C.val
    rw [E]; show 0 * 1024 + 1 * C.val = C.val; omega

/-- What the call returns, of the buffers as it finds them. -/
abbrev outcome : Reals S50176x1024 :=
  routed (at0 m c main_arg2 : Reals S50176x1024) (at0 m c main_arg3 : Reals S2x32x1024x512) (at0 m c main_arg4 : Reals S2x32x256x1024)
    (argTe m) (count m)

/-- The tile of a point is the tile of the array returned. -/
theorem tile_apply (hte : ∀ i, (argTe m i).toNat < 32) (t : Fin grid0.N) (r : Fin 512) (C : Fin 1024) (R : Fin 50176)
    (hR : R.val = 512 * t.val + r.val) :
    (tileAt m hO c t : Reals S512x1024) (ix2 r C) = outcome m c (ix2 R C) := by
  have ht := lt_points t
  have hdiv : R.val / 512 = t.val := by omega
  unfold tileAt tileOut outcome routed
  by_cases h : (t.val : Int) < (count m).toInt
  · have hp : ((((ix2 R C : S50176x1024.Idx) 0).val / 512 : ℕ) : Int) < (count m).toInt := by
      show ((R.val / 512 : ℕ) : Int) < _
      rw [hdiv]; exact h
    rw [if_pos ((cond1_iff _ _).2 (by rw [points]; exact h)), if_pos hp]
    refine (pay1_apply _ _ _ r C).trans ?_
    have hE : expertOf m t = (argTe m (Shape.Idx.ofFin (⟨t.val, ht⟩ : Fin 98))).toNat := by
      exact congrArg BitVec.toNat (table_used m ⟨t.val, ht⟩ h)
    have key : ∀ (p : Fin 98) (hpt : p = ⟨t.val, ht⟩), ((argTe m (Shape.Idx.ofFin p)).toNat % 32) = expertOf m t := by
      rintro p rfl
      rw [hE, Nat.mod_eq_of_lt (hte _)]
    unfold expertOut hidden first
    have he : (⟨(argTe m (Shape.Idx.ofFin (⟨R.val / 512, by omega⟩ : Fin 98))).toNat % 32, by omega⟩ : Fin 32).val = expertOf m t :=
      key _ (Fin.ext hdiv)
    refine Finset.sum_congr rfl fun f _ => ?_
    refine congrArg₂ (· * ·) (congrArg₂ (· * ·) (congrArg swish ?_) ?_) (down_at m hO c t _ he f C)
    · exact Finset.sum_congr rfl fun d _ => congrArg₂ (· * ·) (rows_block m hO c t h r d R hR) (gate_at m hO c t _ he d _)
    · exact Finset.sum_congr rfl fun d _ => congrArg₂ (· * ·) (rows_block m hO c t h r d R hR) (gate_at m hO c t _ he d _)
  · have hn : ¬ ((((ix2 R C : S50176x1024.Idx) 0).val / 512 : ℕ) : Int) < (count m).toInt := by
      show ¬ ((R.val / 512 : ℕ) : Int) < _
      rw [hdiv]; exact h
    rw [if_neg (fun hc => h (by have := (cond1_iff _ _).1 hc; rw [points] at this; exact this)), if_neg hn]
    exact pay2_apply _

theorem out_index (t : Fin grid0.N) : cc0_transform_3 (grid0.coords t) = ![t.val, 0] := by
  rw [← points t]
  have h : (grid0.coords t 0).val < 98 := (grid0.coords t 0).isLt
  unfold cc0_transform_3
  funext a
  match a with
  | ⟨0, _⟩ => show (BitVec.ofNat 32 (grid0.coords t 0).val).toNat = (grid0.coords t 0).val; rw [BitVec.toNat_ofNat]; omega
  | ⟨1, _⟩ => rfl

end Cert.Moe

end
-- ==== Proof.MoeRef.lean ====
/- The reference's mixture read at a row and a column: the row's own expert is the only one with a weight. -/
module

public import proofs.«01_k».proof.Proof.Gen.Reference2Ideal.Run
public import proofs.«01_k».proof.Proof.Gen.Reference2Ideal.Read
public import proofs.«01_k».proof.Proof.MoeMath

@[expose] public section

set_option maxRecDepth 16384

noncomputable section

namespace Cert.Moe.Ref

open Cert.Reference2Ideal Cert.Reference2Ideal.Read
open Idealize.ShloMosaic
open Idealize.ShloMosaic.TcCoe Idealize.SL.Sem Idealize.ShloMosaic.ValueIdx

variable (te : Words S98) (n : Words S1) (xs : Reals S50176x1024) (gu : Reals S2x32x1024x512) (dn : Reals S2x32x256x1024)

theorem one_word (h : S1.ShapeCasts S_) (i : S_.Idx) : shapeCast S_ n h i = n (Shape.Idx.first (s := S1) (by decide)) := by
  unfold shapeCast
  exact congrArg n (funext fun a => match a with | ⟨0, _⟩ => Subsingleton.elim (α := Fin 1) _ _)

/-- The first product. -/
theorem first_apply (R : Fin 50176) (e : Fin 32) (j : Fin 512) :
    (val_main_v20 (F := Ideal) xs gu : Reals S50176x32x512) (ix3 R e j) = first xs gu R e j := by
  rw [val_main_v20_apply]
  unfold first
  refine Finset.sum_congr rfl fun d _ => congrArg₂ (· * ·) (congrArg xs ?_) ?_
  · exact funext fun a => match a with | ⟨0, _⟩ => rfl | ⟨1, _⟩ => rfl
  · rw [val_main_v19_apply, val_main_v18_apply]
    refine congrArg gu (funext fun a => Fin.ext ?_)
    have he := e.isLt
    have hd := d.isLt
    have hj := j.isLt
    match a with
    | ⟨0, _⟩ => rfl
    | ⟨1, _⟩ => show ((e.val * 1024 + d.val) * 512 + j.val) / 524288 % 32 = e.val; omega
    | ⟨2, _⟩ => show ((e.val * 1024 + d.val) * 512 + j.val) / 512 % 1024 = d.val; omega
    | ⟨3, _⟩ => show ((e.val * 1024 + d.val) * 512 + j.val) % 512 = j.val; omega

/-- The gated hidden vectors, of every expert. -/
theorem hidden_apply (R : Fin 50176) (e : Fin 32) (f : Fin 256) :
    (val_main_v24 (F := Ideal) xs gu : Reals S50176x32x256) (ix3 R e f) = hidden xs gu R e f := by
  have e1 : idx_main_v21 (ix3 R e f) = ix3 R e (⟨f.val, by omega⟩ : Fin 512) :=
    funext fun a => match a with | ⟨0, _⟩ => rfl | ⟨1, _⟩ => rfl | ⟨2, _⟩ => rfl
  have e2 : idx_main_v22 (ix3 R e f) = ix3 R e (⟨256 + f.val, by omega⟩ : Fin 512) :=
    funext fun a => match a with | ⟨0, _⟩ => rfl | ⟨1, _⟩ => rfl | ⟨2, _⟩ => rfl
  have h1 := (val_main_v21_apply (F := Ideal) xs gu (ix3 R e f)).trans ((congrArg _ e1).trans (first_apply xs gu R e _))
  have h2 := (val_main_v22_apply (F := Ideal) xs gu (ix3 R e f)).trans ((congrArg _ e2).trans (first_apply xs gu R e _))
  rw [val_main_v24_apply, val_main_v23_apply, val_main_call0_v5_apply, val_main_call0_v4_apply, val_main_call0_cst_0_apply,
    val_main_call0_v3_apply, val_main_call0_v2_apply, val_main_call0_cst_apply, val_main_call0_v1_apply, val_main_call0_v0_apply, h1, h2]
  unfold hidden
  generalize first xs gu R e ⟨f.val, by omega⟩ = g
  generalize first xs gu R e ⟨256 + f.val, by omega⟩ = u
  rw [← swish_eq g]
  show (g * Ideal.div (Ideal.ofBits .f32 0x3F800000#32) (Ideal.ofBits .f32 0x3F800000#32 + Ideal.exp (-g))) * u = _
  rw [Ideal.ofBits_one_f32]

/-- The combine weight of a row at an expert. -/
theorem weight_apply (R : Fin 50176) (e : Fin 32) :
    (val_main_v17 (F := Ideal) te n : Reals S50176x32) (ix2 R e)
      = if (te (Shape.Idx.ofFin (⟨R.val / 512, by omega⟩ : Fin 98)) = BitVec.ofNat 32 e.val)
          ∧ ((R.val / 512 : ℕ) : Int) < (n (Shape.Idx.first (s := S1) (by decide))).toInt then 1 else 0 := by
  have hR := R.isLt
  have a8 : (val_main_v8 (F := Ideal) te : Words S50176x32) (ix2 R e) = te (Shape.Idx.ofFin (⟨R.val / 512, by omega⟩ : Fin 98)) := by
    rw [val_main_v8_apply, val_main_v5_apply, val_main_v4_apply, val_main_v3_apply]
    exact congrArg te (funext fun a => match a with | ⟨0, _⟩ => rfl)
  have a9 : (val_main_v9 (F := Ideal) : Words S50176x32) (ix2 R e) = BitVec.ofNat 32 e.val := by
    rw [val_main_v9_apply, val_main_v7_apply, val_main_v6_apply]
  have a2 : (val_main_v2 (F := Ideal) : Words S50176) (Shape.Idx.ofFin R) = BitVec.ofNat 32 (R.val / 512) := by
    rw [val_main_v2_apply, val_main_v1_apply, val_main_v0_apply]
    rfl
  have a12 : (val_main_v12 (F := Ideal) n : Words S50176) (Shape.Idx.ofFin R) = n (Shape.Idx.first (s := S1) (by decide)) := by
    rw [val_main_v12_apply]
    exact one_word n _ _
  have a15 : (val_main_v15 (F := Ideal) n : S50176x32.Idx → BitVec 1) (ix2 R e)
      = IntOp.cmpi .slt (BitVec.ofNat 32 (R.val / 512)) (n (Shape.Idx.first (s := S1) (by decide))) := by
    rw [val_main_v15_apply, val_main_v14_apply,
      show idx_main_v14 (idx_main_v15 (ix2 R e)) = Shape.Idx.ofFin R from funext fun a => match a with | ⟨0, _⟩ => rfl,
      val_main_v13_apply, a2, a12]
  rw [val_main_v17_apply, val_main_v16_apply, val_main_v10_apply, a8, a9, a15]
  generalize te (Shape.Idx.ofFin (⟨R.val / 512, by omega⟩ : Fin 98)) = x
  generalize n (Shape.Idx.first (s := S1) (by decide)) = y
  have ey : (BitVec.ofNat 32 (R.val / 512)).toInt = ((R.val / 512 : ℕ) : Int) := StableHlo.Predicate.toInt_ofNat_small _ (by omega)
  have hiff : ((R.val / 512 : ℕ) : Int) < y.toInt ↔ BitVec.slt (BitVec.ofNat 32 (R.val / 512)) y = true := by
    rw [← ey, BitVec.slt_iff_toInt_lt]
  simp only [hiff]
  show (((IntOp.andi (IntOp.cmpi .eq x (BitVec.ofNat 32 e.val)) (IntOp.cmpi .slt (BitVec.ofNat 32 (R.val / 512)) y)).toNat : ℝ) : EReal) = _
  generalize BitVec.ofNat 32 (R.val / 512) = z
  generalize BitVec.ofNat 32 e.val = w
  simp only [IntOp.andi, IntOp.cmpi]
  by_cases h1 : x = w
  · by_cases h2 : BitVec.slt z y = true <;> simp [h1, h2]
  · have h1' : (x == w) = false := beq_eq_false_iff_ne.2 h1
    by_cases h2 : BitVec.slt z y = true <;> simp [h1, h1', h2]

/-- A weighted hidden vector, of every expert. -/
theorem weighted_apply (R : Fin 50176) (e : Fin 32) (f : Fin 256) :
    (val_main_v27 (F := Ideal) te n xs gu : Reals S50176x32x256) (ix3 R e f)
      = hidden xs gu R e f * (val_main_v17 (F := Ideal) te n : Reals S50176x32) (ix2 R e) := by
  rw [val_main_v27_apply, val_main_v26_apply, val_main_v25_apply, hidden_apply]
  exact congrArg (hidden xs gu R e f * ·) (congrArg (val_main_v17 (F := Ideal) te n) (funext fun a => match a with | ⟨0, _⟩ => rfl | ⟨1, _⟩ => rfl))

/-- The output weights, the experts side by side. -/
theorem down_apply (k : Fin 8192) (e : Fin 32) (f : Fin 256) (hk : k.val = f.val + 256 * e.val) (C : Fin 1024) :
    (val_main_v31 (F := Ideal) dn : Reals S8192x1024) (ix2 k C) = dn (ix4 (0 : Fin 2) e f C) := by
  rw [val_main_v31_apply, val_main_v30_apply, val_main_v29_apply]
  refine congrArg dn (funext fun a => Fin.ext ?_)
  have he := e.isLt
  have hf := f.isLt
  have hC := C.isLt
  have q0 : (k.val * 1024 + C.val) / 262144 = e.val := by omega
  have q1 : (k.val * 1024 + C.val) / 1024 % 256 = f.val := by omega
  have q2 : (k.val * 1024 + C.val) % 1024 = C.val := by omega
  match a with
  | ⟨0, _⟩ => rfl
  | ⟨1, _⟩ =>
    show (((k.val * 1024 + C.val) / 262144 * 256 + (k.val * 1024 + C.val) / 1024 % 256) * 1024 + (k.val * 1024 + C.val) % 1024) / 262144 % 32 = e.val
    rw [q0, q1, q2]; omega
  | ⟨2, _⟩ =>
    show (((k.val * 1024 + C.val) / 262144 * 256 + (k.val * 1024 + C.val) / 1024 % 256) * 1024 + (k.val * 1024 + C.val) % 1024) / 1024 % 256 = f.val
    rw [q0, q1, q2]; omega
  | ⟨3, _⟩ =>
    show (((k.val * 1024 + C.val) / 262144 * 256 + (k.val * 1024 + C.val) / 1024 % 256) * 1024 + (k.val * 1024 + C.val) % 1024) % 1024 = C.val
    rw [q0, q1, q2]; omega

/-- The weighted hidden vectors, the experts side by side. -/
theorem side_apply (R : Fin 50176) (k : Fin 8192) (e : Fin 32) (f : Fin 256) (hk : k.val = f.val + 256 * e.val) :
    (val_main_v28 (F := Ideal) te n xs gu : Reals S50176x8192) (ix2 R k)
      = hidden xs gu R e f * (val_main_v17 (F := Ideal) te n : Reals S50176x32) (ix2 R e) := by
  rw [val_main_v28_apply, ← weighted_apply]
  refine congrArg (val_main_v27 (F := Ideal) te n xs gu) (funext fun a => Fin.ext ?_)
  have he := e.isLt
  have hf := f.isLt
  match a with
  | ⟨0, _⟩ => show (R.val * 8192 + k.val) / 8192 = R.val; omega
  | ⟨1, _⟩ => show (R.val * 8192 + k.val) / 256 % 32 = e.val; omega
  | ⟨2, _⟩ => show (R.val * 8192 + k.val) % 256 = f.val; omega

/-- A sum over the experts side by side is a sum over experts of sums. -/
theorem sum_side (g : Fin 8192 → EReal) (h : Fin 32 → Fin 256 → EReal)
    (hg : ∀ (k : Fin 8192) (e : Fin 32) (f : Fin 256), k.val = f.val + 256 * e.val → g k = h e f) :
    ∑ k : Fin 8192, g k = ∑ e : Fin 32, ∑ f : Fin 256, h e f := by
  rw [← Fintype.sum_prod_type', ← Equiv.sum_comp (finProdFinEquiv (m := 32) (n := 256))]
  exact Finset.sum_congr rfl fun p _ => hg _ p.1 p.2 rfl

/-- The reference's result, at a row and a column. -/
theorem ref_apply (hte : ∀ i, (te i).toNat < 32) (R : Fin 50176) (C : Fin 1024) :
    (val_main_v32 (F := Ideal) te n xs gu dn : Reals S50176x1024) (ix2 R C)
      = routed xs gu dn te (n (Shape.Idx.first (s := S1) (by decide))) (ix2 R C) := by
  have hR := R.isLt
  rw [val_main_v32_apply]
  rw [show (∑ k : Fin 8192, (val_main_v28 (F := Ideal) te n xs gu) (lidx_main_v32 (ix2 R C) k) * (val_main_v31 (F := Ideal) dn) (ridx_main_v32 (ix2 R C) k))
      = ∑ k : Fin 8192, (val_main_v28 (F := Ideal) te n xs gu : Reals S50176x8192) (ix2 R k) * (val_main_v31 (F := Ideal) dn : Reals S8192x1024) (ix2 k C) from
    Finset.sum_congr rfl fun k _ => congrArg₂ (· * ·)
      (congrArg (val_main_v28 (F := Ideal) te n xs gu) (funext fun a => match a with | ⟨0, _⟩ => rfl | ⟨1, _⟩ => rfl))
      (congrArg (val_main_v31 (F := Ideal) dn) (funext fun a => match a with | ⟨0, _⟩ => rfl | ⟨1, _⟩ => rfl))]
  rw [sum_side _ (fun e f => (hidden xs gu R e f * (val_main_v17 (F := Ideal) te n : Reals S50176x32) (ix2 R e)) * dn (ix4 (0 : Fin 2) e f C))
    (fun k e f hk => congrArg₂ (· * ·) (side_apply te n xs gu R k e f hk) (down_apply dn k e f hk C))]
  show _ = if ((R.val / 512 : ℕ) : Int) < (n (Shape.Idx.first (s := S1) (by decide))).toInt then
      expertOut xs gu dn R ⟨(te (Shape.Idx.ofFin (⟨R.val / 512, by omega⟩ : Fin 98))).toNat % 32, by omega⟩ C else 0
  have hx := hte (Shape.Idx.ofFin (⟨R.val / 512, by omega⟩ : Fin 98))
  have hw := fun e => weight_apply te n R e
  by_cases h : ((R.val / 512 : ℕ) : Int) < (n (Shape.Idx.first (s := S1) (by decide))).toInt
  · rw [if_pos h, Finset.sum_eq_single (⟨(te (Shape.Idx.ofFin (⟨R.val / 512, by omega⟩ : Fin 98))).toNat % 32, by omega⟩ : Fin 32)]
    · unfold expertOut
      refine Finset.sum_congr rfl fun f _ => ?_
      rw [hw, if_pos ⟨BitVec.eq_of_toNat_eq (by rw [BitVec.toNat_ofNat]; dsimp only; omega), h⟩, mul_one]
    · intro e _ hne
      refine Finset.sum_eq_zero fun f _ => ?_
      rw [hw, if_neg, mul_zero, zero_mul]
      rintro ⟨e1, -⟩
      refine hne (Fin.ext ?_)
      have he := e.isLt
      have e2 := congrArg BitVec.toNat e1
      rw [BitVec.toNat_ofNat] at e2
      dsimp only
      omega
    · exact fun hn => absurd (Finset.mem_univ _) hn
  · rw [if_neg h]
    refine Finset.sum_eq_zero fun e _ => Finset.sum_eq_zero fun f _ => ?_
    rw [hw, if_neg (fun hh => h hh.2), mul_zero, zero_mul]

theorem ref_read (hte : ∀ i, (te i).toNat < 32) :
    (val_main_v32 (F := Ideal) te n xs gu dn : Reals S50176x1024)
      = routed xs gu dn te (n (Shape.Idx.first (s := S1) (by decide))) := by
  funext i
  have e := eq_ix2 (n0 := 50176) (n1 := 1024) i
  exact (congrArg (val_main_v32 (F := Ideal) te n xs gu dn) e).trans ((ref_apply te n xs gu dn hte _ _).trans (congrArg (routed xs gu dn te _) e.symm))

end Cert.Moe.Ref

end
-- ==== Proof.MoeClaim.lean ====
/- The claims about the call of the experts. -/
module

public import proofs.«01_k».proof.Defs
public import proofs.«01_k».proof.Proof.MoeValue
public import proofs.«01_k».proof.Proof.MoeRef

@[expose] public section

set_option maxRecDepth 16384

noncomputable section

namespace Cert.Moe

open Cert.Kernel2Ideal Cert.Kernel2Ideal.Gen
open Idealize.ShloMosaic
open Idealize.ShloMosaic.TcCoe Idealize.SL.Sem Idealize.ShloMosaic.ValueIdx
open Idealize.ShloMosaic.Pipeline (Dat Cfg Window)

attribute [local irreducible] at0

variable (m : (ℓ : Loc nD τ sig) → Buf (Elt Ideal) ℓ) (hO : Inside m) (c : Dev nD)

/-- Every point writes a tile back. -/
theorem writes_back (t : Fin (pipe m hO).N) : ((pipe m hO).win 3).flush t = true := by
  rw [Window.flush_eq_flushOf]
  show Window.flushOf grid0 true cc0_transform_3 t = true
  unfold Window.flushOf
  rw [Bool.true_and, Bool.or_eq_true, decide_eq_true_iff, decide_eq_true_iff]
  by_cases h : t.val + 1 = grid0.N
  · exact .inl h
  · have ht : t.val < grid0.N := t.isLt
    refine .inr ⟨by omega, fun e => ?_⟩
    have e0 := congrFun ((out_index _).symm.trans (e.trans (out_index t))) 0
    have e1 : t.val + 1 = t.val := e0
    omega

/-- What a point writes back is its tile of the array returned. -/
theorem writes_tile (hte : ∀ i, (argTe m i).toNat < 32) (t : Fin (pipe m hO).N) :
    (acct m hO 0 c).flushed 3 t = (((pipe m hO).win 3).blk t).view.read (Elt Ideal) (outcome m c : Buf (Elt Ideal) ((c : Thread nD τ).loc main_v7)) := by
  have ht := lt_points t
  show ((pipe m hO).win 3).cut ((pipe m hO).grid.coords t) ((acct m hO 0 c).after 3 t) = _
  rw [acct_3]
  refine funext fun (y : S512x1024.Idx) => ?_
  refine Eq.trans ?_ (View.read_apply _ _).symm
  have hy0 : (y 0).val < 512 := (y 0).isLt
  refine Eq.trans (congrArg (tileAt m hO c t : Reals S512x1024) (eq_ix2 (n0 := 512) (n1 := 1024) y))
    ((tile_apply m hO c hte t (y 0) (y 1) ⟨512 * t.val + (y 0).val, by omega⟩ rfl).trans ?_)
  show outcome m c _ = outcome m c _
  congr 1
  funext a
  apply Fin.ext
  have e := out_index t
  match a with
  | ⟨0, _⟩ =>
    show 512 * t.val + (y 0).val = cc0_transform_3 (grid0.coords t) 0 * 512 + 1 * (y 0).val
    rw [e]; show _ = t.val * 512 + 1 * (y 0).val; omega
  | ⟨1, _⟩ =>
    show (y 1).val = cc0_transform_3 (grid0.coords t) 1 * 1024 + 1 * (y 1).val
    rw [e]; show _ = 0 * 1024 + 1 * (y 1).val; omega

theorem tile_inside (t : Fin grid0.N) (a : Fin 2) : cc0_transform_3 (grid0.coords t) a * S512x1024.size a + S512x1024.size a ≤ S50176x1024.size a := by
  have ht := lt_points t
  rw [out_index t]
  match a with
  | ⟨0, _⟩ => show t.val * 512 + 512 ≤ 50176; omega
  | ⟨1, _⟩ => show 0 * 1024 + 1024 ≤ 1024; omega

theorem tile_mem (off size : Fin 2 → Nat) (inb : ∀ a, off a + size a ≤ S50176x1024.size a) (i : S50176x1024.Idx)
    (h : ∀ a, off a ≤ (i a : Nat) ∧ (i a : Nat) < off a + size a) :
    i ∈ ((View.whole main_v7).slice (Rect.unit (s := S50176x1024) off size inb)).set := by
  rw [show ((View.whole main_v7).slice (Rect.unit (s := S50176x1024) off size inb)).set = (Rect.unit (s := S50176x1024) off size inb).set from
    View.set_slice_whole main_v7 _]
  exact Rect.mem_set_unit.2 h

/-- Every row lies in the tile some point writes. -/
theorem covered (t : Fin (pipe m hO).N) (i : S50176x1024.Idx) (h : (i 0).val / 512 = t.val) :
    i ∈ (((pipe m hO).win 3).blk t).view.set := by
  have h0 : (i 0).val < 50176 := (i 0).isLt
  have h1 : (i 1).val < 1024 := (i 1).isLt
  refine tile_mem (fun a => cc0_transform_3 (grid0.coords t) a * S512x1024.size a) S512x1024.size (tile_inside t) i ?_
  have e := out_index t
  intro a
  match a with
  | ⟨0, _⟩ =>
    show cc0_transform_3 (grid0.coords t) 0 * 512 ≤ (i 0 : Nat) ∧ (i 0 : Nat) < cc0_transform_3 (grid0.coords t) 0 * 512 + 512
    rw [e]; show t.val * 512 ≤ (i 0 : Nat) ∧ (i 0 : Nat) < t.val * 512 + 512; omega
  | ⟨1, _⟩ =>
    show cc0_transform_3 (grid0.coords t) 1 * 1024 ≤ (i 1 : Nat) ∧ (i 1 : Nat) < cc0_transform_3 (grid0.coords t) 1 * 1024 + 1024
    rw [e]; show 0 * 1024 ≤ (i 1 : Nat) ∧ (i 1 : Nat) < 0 * 1024 + 1024; omega

theorem written_eq (hte : ∀ i, (argTe m i).toNat < 32) : written m hO c = outcome m c := by
  unfold written
  exact (acct m hO 0 c).arrAt_eq_of_cover 3 (outcome m c) (fun t _ => writes_tile m hO c hte t) (fun (i : S50176x1024.Idx) =>
    ⟨⟨(i 0 : Nat) / 512, by have h0 : (i 0).val < 50176 := (i 0).isLt; show _ < 98; omega⟩, writes_back m hO _, covered m hO _ i rfl⟩)

/-- What the call returns, of the arguments. -/
theorem outcome_eq : outcome m 0 = routed (m (((0 : Dev nD) : Thread nD τ).loc main_arg2) : Reals S50176x1024)
    (m (((0 : Dev nD) : Thread nD τ).loc main_arg3) : Reals S2x32x1024x512) (m (((0 : Dev nD) : Thread nD τ).loc main_arg4) : Reals S2x32x256x1024)
    (argTe m) (argN m (Shape.Idx.first (s := S1) (by decide))) :=
  (congr (congr (congr (congr (congrArg routed (at0_arg2 m 0)) (at0_arg3 m 0)) (at0_arg4 m 0)) rfl) (used_eq m) :)

theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_ri_pre : Cert.quiescent_Reference2Ideal_pre_tiles_routed := fun m ρ _ => frame_ri m ρ trivial

theorem algebraic : Cert.algebraic_Kernel2Ideal_Reference2Ideal := by
  intro m ρ m' ρ' hpre hagree
  obtain ⟨hte, hn⟩ := routed_of_pre _ _ _ _ _ (hpre 0)
  have hO : Inside m := inside m hte hn
  refine ⟨fun c => outcome m c, (θ_run _ _ _).mono (fun _ h c => ⟨(h.1 c).1.trans (written_eq m hO c hte), (h.1 c).2⟩) (ends m ρ hO), ?_⟩
  refine (θ_run _ _ _).mono (fun _ h c => ⟨(h c).1.trans ?_, (h c).2⟩) (Cert.Reference2Ideal.Value.run (F := Ideal) m' ρ')
  obtain rfl : c = 0 := Subsingleton.elim _ _
  obtain ⟨e0, e1, e2, e3, e4⟩ := hagree 0
  rw [Cert.Reference2Ideal.Read.val_main_v32_eq]
  refine (congr (congr (congr (congr (congrArg (Cert.Reference2Ideal.Read.val_main_v32 (F := Ideal)) e0) e1) e2) e3) e4).trans ?_
  exact (Ref.ref_read _ _ _ _ _ hte).trans (outcome_eq m).symm

end Cert.Moe

end
-- ==== Proof.ProjSpec.lean ====
/- The rotary projections of the first layer as a function of the input arrays: every row of the prompt and of the sample, projected,
   its heads turned by the row's position, and the window buffers made of them. -/
module

public import Idealize.ShloMosaic.Lib.MatmulPlain
public import Idealize.ShloMosaic.Lib.ValueLayoutCasts
public import Idealize.ShloMosaic.Lib.Pipeline.Value
public import Idealize.ShloMosaic.Lib.IdealHost
public import Idealize.ShloMosaic.PureOps.Ideal.Laws

@[expose] public section

noncomputable section

namespace Cert.Proj

open Idealize.ShloMosaic
open Idealize.ShloMosaic.TcCoe Idealize.SL.Sem Idealize.ShloMosaic.ValueIdx

/-- An array of extended reals. -/
abbrev Arr (s : Shape) := s.Idx → EReal

/-- The scale of the queries. -/
def scale : EReal := FloatOps.ofBits (F := Ideal) .f32 0x3E000000#32

/-- The angle of frequency `f` at position `p`. -/
def angle (p : BitVec 32) (f : Nat) : EReal :=
  FloatOps.mulf (F := Ideal) (φ := .f32) (FloatOps.sitofp (F := Ideal) .f32 p)
    (FloatOps.hostUnary (F := Ideal) (φ := .f32) .exp
      (FloatOps.mulf (F := Ideal) (φ := .f32) (FloatOps.sitofp (F := Ideal) .f32 (BitVec.ofNat 32 f)) (FloatOps.ofBits (F := Ideal) .f32 0xBE935D8E#32)))

def cosOf (p : BitVec 32) (f : Nat) : EReal := FloatOps.hostUnary (F := Ideal) (φ := .f32) .cos (angle p f)
def sinOf (p : BitVec 32) (f : Nat) : EReal := FloatOps.hostUnary (F := Ideal) (φ := .f32) .sin (angle p f)

/-- The position of row `R`: the prompt's sequences first, then the sample's, whose positions start at the end of the past. -/
def pos (R : Nat) : BitVec 32 := if R < 16384 then BitVec.ofNat 32 (R % 2048) else BitVec.ofNat 32 (8192 + (R - 16384) % 4)

section
variable (xp : Arr ⟨3, ![8, 2048, 1024]⟩) (xs : Arr ⟨3, ![128, 4, 1024]⟩) (w : Arr ⟨3, ![1, 1024, 1280]⟩) (b : Arr ⟨2, ![1, 1280]⟩)

/-- Row `R` of the prompt's rows followed by the sample's. -/
def row (R : Nat) (k : Fin 1024) : EReal :=
  if R < 16384 then xp (ix3 (⟨R / 2048 % 8, by omega⟩ : Fin 8) (⟨R % 2048, by omega⟩ : Fin 2048) k)
  else xs (ix3 (⟨(R - 16384) / 4 % 128, by omega⟩ : Fin 128) (⟨(R - 16384) % 4, by omega⟩ : Fin 4) k)

/-- Row `R` projected to column `C`. -/
def lin (R C : Nat) : EReal :=
  (∑ k : Fin 1024, row xp xs R k * w (ix3 (0 : Fin 1) k (⟨C % 1280, by omega⟩ : Fin 1280))) + b (ix2 (0 : Fin 1) (⟨C % 1280, by omega⟩ : Fin 1280))

/-- Column `C` of row `R` after its head is turned: the head's first half against its second. -/
def turned (R C : Nat) : EReal :=
  if C % 64 < 32 then lin xp xs w b R C * cosOf (pos R) (C % 32) - lin xp xs w b R (C + 32) * sinOf (pos R) (C % 32)
  else lin xp xs w b R (C - 32) * sinOf (pos R) (C % 32) + lin xp xs w b R C * cosOf (pos R) (C % 32)

/-- The projection's column that stands in column `C` of the queries: lanes 128 j … hold head j and head 8 + j. -/
def headCol (C : Nat) : Nat := 64 * (8 * (C / 64 % 2) + C / 128) + C % 64

def query (R C : Nat) : EReal := turned xp xs w b R (headCol C) * scale
def key (R C : Nat) : EReal := turned xp xs w b R (1024 + C)
def val (R C : Nat) : EReal := lin xp xs w b R (1152 + C)

end

/-- The arrays of a function of row and column. -/
def slabs (g : Nat → Nat → EReal) : Arr ⟨2, ![16896, 1024]⟩ := fun y => g (y 0).val (y 1).val
def flat (g : Nat → Nat → EReal) : Arr ⟨2, ![16896, 128]⟩ := fun y => g (y 0).val (y 1).val

/-- The prompt's window: the last 128 positions of each sequence. -/
def windowP (g : Nat → Nat → EReal) : Arr ⟨5, ![1, 8, 128, 2, 64]⟩ :=
  fun y => g (2048 * (y 1).val + (1920 + (y 2).val)) (64 * (y 3).val + (y 4).val)

/-- The sample's window: the cache moved on by four positions, the four new ones after it. -/
def windowS (cache : Arr ⟨5, ![1, 128, 128, 2, 64]⟩) (g : Nat → Nat → EReal) : Arr ⟨5, ![1, 128, 128, 2, 64]⟩ :=
  fun y => if h : (y 2).val < 124 then cache (ix5 (y 0) (y 1) (⟨(y 2).val + 4, by omega⟩ : Fin 128) (y 3) (y 4))
    else g (16384 + (4 * (y 1).val + ((y 2).val - 124))) (64 * (y 3).val + (y 4).val)

end Cert.Proj

end
-- ==== Proof.ProjTile.lean ====
/- What the projection's kernel leaves at a grid point, read at a row and a column. -/
module

public import proofs.«01_k».proof.Proof.ProjSpec
public import proofs.«01_k».proof.Proof.Gen.Kernel3Ideal.Frame
public import Idealize.ShloMosaic.Lib.KernelVsHost
public import Idealize.ShloMosaic.Lib.Pipeline.ValueKit
public import Idealize.ShloMosaic.Lib.Tactic

@[expose] public section

noncomputable section

namespace Cert.Proj

open Cert.Kernel3Ideal Cert.Kernel3Ideal.Gen
open Idealize.ShloMosaic hiding ix1 ix2 ix4 eq_ix2
open Idealize.ShloMosaic.TcCoe Idealize.SL.Sem Idealize.ShloMosaic.ValueIdx

/-- Whether a lane is in the first half of its head, as the kernel computes it from the lane's number. -/
def firstHalf (v : BitVec 32) : BitVec 1 :=
  let n : BitVec 32 := Scalar.select (Scalar.cmpi .eq 64#32 0#32) 1#32 64#32
  let r : BitVec 32 := Scalar.remsi v n
  Scalar.cmpi .slt (Scalar.select (Scalar.andi (Scalar.xori (Scalar.cmpi .slt r 0#32) (Scalar.cmpi .slt n 0#32)) (Scalar.cmpi .ne r 0#32)) (Scalar.addi r n) r) 32#32

theorem firstHalf_eq (l : Fin 128) : firstHalf (BitVec.ofNat 32 l.val) = if l.val % 64 < 32 then 1#1 else 0#1 := by
  revert l
  decide +kernel

theorem mask_apply (r : Fin 512) (l : Fin 128) : k0_pay8 (ix2 r l) = if l.val % 64 < 32 then 1#1 else 0#1 := by
  rw [← firstHalf_eq l, ← iota_single_apply .tc S512x128 32 (1 : Fin 2) iota_S512x128_d1_w32 (ix2 r l)]
  rfl

theorem rot_apply (X : Arr S512x128) (n : BitVec 32) (r : Fin 512) (l : Fin 128) :
    dynamicRotate 1 n none X rotates_S512x128_d1 (ix2 r l) = X (ix2 r (⟨(l.val + 128 - n.toNat % 128) % 128, by omega⟩ : Fin 128)) :=
  dynamicRotate_apply 1 n X _ _ _ (fun b => match b with
    | ⟨0, _⟩ => rfl
    | ⟨1, _⟩ => rfl)

/-- The turned slab of a slab of columns. -/
def turnSlab (X c s : Arr S512x128) : Arr S512x128 :=
  addf (F := Ideal) (φ := .f32) (mulf (F := Ideal) (φ := .f32) X c)
    (mulf (F := Ideal) (φ := .f32) (select k0_pay8 (dynamicRotate 1 96#32 none X rotates_S512x128_d1) (dynamicRotate 1 32#32 none X rotates_S512x128_d1)) s)

theorem turnSlab_apply (X c s : Arr S512x128) (g : Nat → EReal) (o : Nat) (r : Fin 512) (hX : ∀ l : Fin 128, X (ix2 r l) = g (o + l.val))
    (ho : o % 64 = 0) (l : Fin 128) :
    turnSlab X c s (ix2 r l)
      = g (o + l.val) * c (ix2 r l) + (if (o + l.val) % 64 < 32 then g (o + l.val + 32) else g (o + l.val - 32)) * s (ix2 r l) := by
  show X (ix2 r l) * c (ix2 r l) + Scalar.select (k0_pay8 (ix2 r l)) (dynamicRotate 1 96#32 none X rotates_S512x128_d1 (ix2 r l))
    (dynamicRotate 1 32#32 none X rotates_S512x128_d1 (ix2 r l)) * s (ix2 r l) = _
  rw [mask_apply, rot_apply, rot_apply, hX, hX, hX]
  have hl := l.isLt
  have e : (o + l.val) % 64 = l.val % 64 := by omega
  rw [e]
  by_cases h : l.val % 64 < 32
  · rw [if_pos h, if_pos h]
    show _ + g (o + (l.val + 128 - 96 % 128) % 128) * _ = _
    rw [show o + (l.val + 128 - 96 % 128) % 128 = o + l.val + 32 by omega]
  · rw [if_neg h, if_neg h]
    show _ + g (o + (l.val + 128 - 32 % 128) % 128) * _ = _
    rw [show o + (l.val + 128 - 32 % 128) % 128 = o + l.val - 32 by omega]

section
variable (i : grid0.Coords) (x0 x1 : Arr S512x1024) (x2 : Arr S1024x1280) (x3 : Arr S1x1280) (x4 x5 : Arr S512x128)

/-- The block of rows of a point: the prompt's at the first 32 points, the sample's at the last. -/
def rows : Arr S512x1024 := if (i 0).val < 32 then x0 else x1

theorem pay3_eq : k0_pay3 (F := Ideal) i x0 x1 = rows i x0 x1 := by
  have h : ∀ n : Fin 33, Scalar.cmpi .slt (BitVec.ofNat 32 n.val) 32#32 = if n.val < 32 then 1#1 else 0#1 := by decide +kernel
  have hi := h ⟨(i 0).val, (i 0).isLt⟩
  unfold k0_pay3 rows
  show Scalar.select (Scalar.cmpi .slt (BitVec.ofNat 32 (i 0).val) 32#32) (shapeCast S512x1024 x0 shapeCasts_S512x1024_S512x1024)
    (shapeCast S512x1024 x1 shapeCasts_S512x1024_S512x1024) = _
  rw [hi, shapeCast_self (s := S512x1024), shapeCast_self (s := S512x1024)]
  show Scalar.select (if (i 0).val < 32 then 1#1 else 0#1) x0 x1 = _
  by_cases hc : (i 0).val < 32
  · rw [if_pos hc, if_pos hc]; rfl
  · rw [if_neg hc, if_neg hc]; rfl

/-- A row of the block projected to column `C` of the prepared weights. -/
def linAt (r : Fin 512) (C : Nat) : EReal :=
  (∑ k : Fin 1024, rows i x0 x1 (ix2 r k) * x2 (ix2 k (⟨C % 1280, by omega⟩ : Fin 1280))) + x3 (ix2 (0 : Fin 1) (⟨C % 1280, by omega⟩ : Fin 1280))

theorem dot_wide : dot_S512x1024_S1024x1024_S512x1024_1_0_0_1_n_n = DotDims.plain 512 1024 1024 := rfl
theorem dot_slab : dot_S512x1024_S1024x128_S512x128_1_0_0_1_n_n = DotDims.plain 512 1024 128 := rfl

theorem pay6_apply (r : Fin 512) (C : Fin 1024) :
    k0_pay6 (F := Ideal) i x0 x1 (View.ld x2 r0_2) (View.ld x3 r0_3) (ix2 r C) = linAt i x0 x1 x2 x3 r C.val := by
  have hC := C.isLt
  unfold k0_pay6 linAt
  rw [pay3_eq, dot_wide]
  refine congrArg₂ (· + ·) ?_ ?_
  · refine (Ideal.matmul_plain_apply (φ₁ := .bf16) (φ₂ := .bf16) none _ _ _ r C).trans ?_
    show Ideal.ofBits .f32 0#32 + _ = _
    rw [Ideal.ofBits_zero_f32, zero_add]
    refine Finset.sum_congr rfl fun k _ => congrArg (rows i x0 x1 (ix2 r k) * ·) ?_
    rw [shapeCast_self (s := S1024x1024)]
    exact View.ld_unit_apply_of _ _ _ _ _ _ (fun a => match a with
      | ⟨0, _⟩ => (Nat.zero_add _).symm
      | ⟨1, _⟩ => by show C.val % 1280 = 0 + C.val; omega)
  · refine (broadcastTo_apply _ _ _ (ix2 (0 : Fin 1) C) (fun a => match a with
      | ⟨0, _⟩ => rfl
      | ⟨1, _⟩ => rfl)).trans ?_
    rw [shapeCast_self (s := S1x1024)]
    exact View.ld_unit_apply_of _ _ _ _ _ _ (fun a => match a with
      | ⟨0, _⟩ => rfl
      | ⟨1, _⟩ => by show C.val % 1280 = 0 + C.val; omega)

theorem slab_lin (o : Nat) (h2 : ∀ a, (![0, o] : Fin 2 → Nat) a + (![1024, 128] : Fin 2 → Nat) a ≤ S1024x1280.size a)
    (h3 : ∀ a, (![0, o] : Fin 2 → Nat) a + (![1, 128] : Fin 2 → Nat) a ≤ S1x1280.size a) (ho : o + 128 ≤ 1280) (r : Fin 512) (l : Fin 128) :
    k0_pay1 (F := Ideal) (rows i x0 x1) (View.ld x2 (Rect.unit (s := S1024x1280) ![0, o] ![1024, 128] h2))
      (View.ld x3 (Rect.unit (s := S1x1280) ![0, o] ![1, 128] h3)) (ix2 r l) = linAt i x0 x1 x2 x3 r (o + l.val) := by
  have hl := l.isLt
  unfold k0_pay1 linAt
  rw [dot_slab]
  refine congrArg₂ (· + ·) ?_ ?_
  · refine (Ideal.matmul_plain_apply (φ₁ := .bf16) (φ₂ := .bf16) none _ _ _ r l).trans ?_
    show Ideal.ofBits .f32 0#32 + _ = _
    rw [Ideal.ofBits_zero_f32, zero_add]
    refine Finset.sum_congr rfl fun k _ => congrArg (rows i x0 x1 (ix2 r k) * ·) ?_
    rw [shapeCast_self (s := S1024x128)]
    exact View.ld_unit_apply_of _ _ _ _ _ _ (fun a => match a with
      | ⟨0, _⟩ => (Nat.zero_add _).symm
      | ⟨1, _⟩ => by show (o + l.val) % 1280 = o + l.val; omega)
  · refine (broadcastTo_apply _ _ _ (ix2 (0 : Fin 1) l) (fun a => match a with
      | ⟨0, _⟩ => rfl
      | ⟨1, _⟩ => rfl)).trans ?_
    rw [shapeCast_self (s := S1x128)]
    exact View.ld_unit_apply_of _ _ _ _ _ _ (fun a => match a with
      | ⟨0, _⟩ => rfl
      | ⟨1, _⟩ => by show (o + l.val) % 1280 = o + l.val; omega)

/-- A column of the block after its head is turned by the tables' rows. -/
def turnedAt (r : Fin 512) (C : Nat) : EReal :=
  linAt i x0 x1 x2 x3 r C * x4 (ix2 r (⟨C % 128, by omega⟩ : Fin 128))
    + (if C % 64 < 32 then linAt i x0 x1 x2 x3 r (C + 32) else linAt i x0 x1 x2 x3 r (C - 32)) * x5 (ix2 r (⟨C % 128, by omega⟩ : Fin 128))

def queryTile : Arr S512x1024 := fun y => turnedAt i x0 x1 x2 x3 x4 x5 (y 0) (y 1).val * scale
def keyTile : Arr S512x128 := fun y => turnedAt i x0 x1 x2 x3 x4 x5 (y 0) (1024 + (y 1).val)
def valTile : Arr S512x128 := fun y => linAt i x0 x1 x2 x3 (y 0) (1152 + (y 1).val)

/-- A slab of turned queries. -/
theorem querySlab (v : Arr S512x1024) (hv : ∀ (r : Fin 512) (C : Fin 1024), v (ix2 r C) = linAt i x0 x1 x2 x3 r C.val)
    (o : Nat) (ho : o + 128 ≤ 1024) (h128 : o % 128 = 0) (h : S512x1024.Slices ![0, o] S512x128)
    (h1 : ∀ a, (![0, o] : Fin 2 → Nat) a + (![512, 128] : Fin 2 → Nat) a ≤ S512x1024.size a) (x : S512x128.Idx) :
    mulf (F := Ideal) (φ := .f32) (turnSlab (extractStridedSlice S512x128 ![0, o] v h) x4 x5)
      (broadcast S512x128 (Scalar.ofBits (F := Ideal) .f32 0x3E000000#32)) x
    = queryTile i x0 x1 x2 x3 x4 x5 ((Rect.unit (s := S512x1024) ![0, o] ![512, 128] h1).emb x) := by
  obtain ⟨r, l, rfl⟩ : ∃ (r : Fin 512) (l : Fin 128), x = ix2 r l := ⟨x 0, x 1, eq_ix2 x⟩
  have hl := l.isLt
  unfold queryTile
  have e0 : (Rect.unit (s := S512x1024) ![0, o] ![512, 128] h1).emb (ix2 r l) 0 = r :=
    Fin.ext (by show 0 + 1 * r.val = r.val; omega)
  have e1 : ((Rect.unit (s := S512x1024) ![0, o] ![512, 128] h1).emb (ix2 r l) 1).val = o + l.val := by
    show o + 1 * l.val = _; omega
  rw [e0, e1]
  refine congrArg (· * scale) ?_
  rw [turnSlab_apply _ _ _ (linAt i x0 x1 x2 x3 r) o r (fun l => ?_) (by omega) l]
  · unfold turnedAt
    have e : (⟨(o + l.val) % 128, by omega⟩ : Fin 128) = l := Fin.ext (by show (o + l.val) % 128 = l.val; omega)
    rw [e]
  · have hl := l.isLt
    refine (extractStridedSlice_apply _ _ _ _ (ix2 r (⟨o + l.val, by omega⟩ : Fin 1024)) (fun a => match a with
      | ⟨0, _⟩ => (Nat.zero_add _).symm
      | ⟨1, _⟩ => rfl)).trans (hv _ _)

theorem ld_whole (X : Arr S512x128) : View.ld (Val := Elt Ideal) (e' := .f32) X r0_1 = X := by
  funext y
  exact View.ld_unit_apply_of (Val := Elt Ideal) (e := .f32) X _ _ _ _ _ (fun a => match a with
    | ⟨0, _⟩ => (Nat.zero_add _).symm
    | ⟨1, _⟩ => (Nat.zero_add _).symm)

theorem ld_rows (X : Arr S512x1024) : View.ld (Val := Elt Ideal) (e' := .f32) X r0_0 = X := by
  funext y
  exact View.ld_unit_apply_of (Val := Elt Ideal) (e := .f32) X _ _ _ _ _ (fun a => match a with
    | ⟨0, _⟩ => (Nat.zero_add _).symm
    | ⟨1, _⟩ => (Nat.zero_add _).symm)

theorem out6_eq : out0_6 (F := Ideal) i x0 x1 x2 x3 x4 x5 = queryTile i x0 x1 x2 x3 x4 x5 := by
  have hv : ∀ (r : Fin 512) (C : Fin 1024),
      k0_pay6 (F := Ideal) i (View.ld (Val := Elt Ideal) (e' := .f32) x0 r0_0) (View.ld (Val := Elt Ideal) (e' := .f32) x1 r0_0)
        (View.ld (Val := Elt Ideal) (e' := .bf16) x2 r0_2) (View.ld (Val := Elt Ideal) (e' := .f32) x3 r0_3) (ix2 r C) = linAt i x0 x1 x2 x3 r C.val := by
    intro r C
    rw [ld_rows, ld_rows]
    exact pay6_apply i x0 x1 x2 x3 r C
  funext y
  unfold_out out0_6
  have hx4 : k0_pay4 (F := Ideal) (View.ld (Val := Elt Ideal) (e' := .f32) x4 r0_1) = x4 := by
    rw [ld_whole]; exact shapeCast_self (s := S512x128) _ _
  have hx5 : k0_pay5 (F := Ideal) (View.ld (Val := Elt Ideal) (e' := .f32) x5 r0_1) = x5 := by
    rw [ld_whole]; exact shapeCast_self (s := S512x128) _ _
  rw [hx4, hx5]
  refine View.canon_apply_of_pieces (Val := Elt Ideal) (queryTile i x0 x1 x2 x3 x4 x5) _ ?_ y (cover0_6 _ _ _ _ _ _ _ _ y)
  intro p hp
  simp only [List.mem_cons, List.not_mem_nil, or_false] at hp
  rcases hp with rfl | rfl | rfl | rfl | rfl | rfl | rfl | rfl <;> intro x
  · exact querySlab i x0 x1 x2 x3 x4 x5 _ hv 896 (by omega) (by omega) slices_S512x1024_o0_896_S512x128 inb_S512x1024_S512x128_0_896 x
  · exact querySlab i x0 x1 x2 x3 x4 x5 _ hv 768 (by omega) (by omega) slices_S512x1024_o0_768_S512x128 inb_S512x1024_S512x128_0_768 x
  · exact querySlab i x0 x1 x2 x3 x4 x5 _ hv 640 (by omega) (by omega) slices_S512x1024_o0_640_S512x128 inb_S512x1024_S512x128_0_640 x
  · exact querySlab i x0 x1 x2 x3 x4 x5 _ hv 512 (by omega) (by omega) slices_S512x1024_o0_512_S512x128 inb_S512x1024_S512x128_0_512 x
  · exact querySlab i x0 x1 x2 x3 x4 x5 _ hv 384 (by omega) (by omega) slices_S512x1024_o0_384_S512x128 inb_S512x1024_S512x128_0_384 x
  · exact querySlab i x0 x1 x2 x3 x4 x5 _ hv 256 (by omega) (by omega) slices_S512x1024_o0_256_S512x128 inb_S512x1024_S512x128_0_256 x
  · exact querySlab i x0 x1 x2 x3 x4 x5 _ hv 128 (by omega) (by omega) slices_S512x1024_o0_128_S512x128 inb_S512x1024_S512x128_0_128 x
  · exact querySlab i x0 x1 x2 x3 x4 x5 _ hv 0 (by omega) (by omega) slices_S512x1024_o0_0_S512x128 inb_S512x1024_S512x128_0_0 x

/-- A buffer with one whole store holds what was stored. -/
theorem canon_whole {e : EltTy} (P : S512x128.Idx → Elt Ideal e) (h : ∀ y : S512x128.Idx,
    ∃ pc ∈ ([⟨r0_1, P⟩] : List (View.Piece (Elt Ideal) S512x128 e)), y ∈ pc.1.set) :
    View.canon ([⟨r0_1, P⟩] : List (View.Piece (Elt Ideal) S512x128 e)) = P := by
  funext y
  refine View.canon_apply_of_pieces (Val := Elt Ideal) P _ ?_ y (h y)
  intro p hp
  simp only [List.mem_cons, List.not_mem_nil, or_false] at hp
  subst hp
  intro x
  refine congrArg P (funext fun a => Fin.ext ?_)
  match a with
  | ⟨0, _⟩ => show (x 0).val = 0 + 1 * (x 0).val; omega
  | ⟨1, _⟩ => show (x 1).val = 0 + 1 * (x 1).val; omega

theorem out7_eq : out0_7 (F := Ideal) i x0 x1 x2 x3 x4 x5 = keyTile i x0 x1 x2 x3 x4 x5 := by
  unfold_out out0_7
  rw [canon_whole _ (fun y => cover0_7 _ y), ld_rows, ld_rows, ld_whole, ld_whole, pay3_eq]
  have hx4 : k0_pay4 (F := Ideal) x4 = x4 := shapeCast_self (s := S512x128) _ _
  have hx5 : k0_pay5 (F := Ideal) x5 = x5 := shapeCast_self (s := S512x128) _ _
  rw [hx4, hx5]
  funext y
  obtain ⟨r, l, rfl⟩ : ∃ (r : Fin 512) (l : Fin 128), y = ix2 r l := ⟨y 0, y 1, eq_ix2 y⟩
  have hl := l.isLt
  refine (turnSlab_apply _ x4 x5 (linAt i x0 x1 x2 x3 r) 1024 r (fun l => slab_lin i x0 x1 x2 x3 1024 inb_S1024x1280_S1024x128_0_1024 inb_S1x1280_S1x128_0_1024 (by omega) r l) (by omega) l).trans ?_
  show _ = turnedAt i x0 x1 x2 x3 x4 x5 r (1024 + l.val)
  unfold turnedAt
  have e : (⟨(1024 + l.val) % 128, by omega⟩ : Fin 128) = l := Fin.ext (by show (1024 + l.val) % 128 = l.val; omega)
  rw [e]

theorem out8_eq : out0_8 (F := Ideal) i x0 x1 x2 x3 x4 x5 = keyTile i x0 x1 x2 x3 x4 x5 := by
  rw [← out7_eq]
  unfold out0_8 out0_7
  rw [canon_whole _ (fun y => cover0_8 _ y), canon_whole _ (fun y => cover0_7 _ y)]
  rfl

theorem out9_eq : out0_9 (F := Ideal) i x0 x1 x2 x3 x4 x5 = valTile i x0 x1 x2 x3 := by
  unfold_out out0_9
  rw [canon_whole _ (fun y => cover0_9 _ y), ld_rows, ld_rows, pay3_eq]
  funext y
  obtain ⟨r, l, rfl⟩ : ∃ (r : Fin 512) (l : Fin 128), y = ix2 r l := ⟨y 0, y 1, eq_ix2 y⟩
  exact slab_lin i x0 x1 x2 x3 1152 inb_S1024x1280_S1024x128_0_1152 inb_S1x1280_S1x128_0_1152 (by omega) r l

theorem out10_eq : out0_10 (F := Ideal) i x0 x1 x2 x3 x4 x5 = valTile i x0 x1 x2 x3 := by
  rw [← out9_eq i x0 x1 x2 x3 x4 x5]
  unfold out0_10 out0_9
  rw [canon_whole _ (fun y => cover0_10 _ y), canon_whole _ (fun y => cover0_9 _ y)]
  rfl

end

end Cert.Proj

end
-- ==== Proof.ProjTerm.lean ====
/- What the host's lines leave in the arrays that the projection's kernel reads. -/
module

public import proofs.«01_k».proof.Proof.ProjTile
public import Idealize.ShloMosaic.Lib.StableHlo.Run
public import Idealize.ShloMosaic.Lib.Claim

@[expose] public section

noncomputable section

namespace Cert.Proj

open Cert.Kernel3Ideal Cert.Kernel3Ideal.Gen
open Idealize.ShloMosaic hiding ix1 ix2 ix4 eq_ix2
open Idealize.ShloMosaic.TcCoe Idealize.SL.Sem Idealize.ShloMosaic.ValueIdx

variable {F : FTy → Type} [FloatOps F]
variable (m : (ℓ : Loc nD τ sig) → Buf (Elt F) ℓ)

/-- The divisor of the sample's position words, as the host picks it. -/
def divisor : IVec S_ 32 := select (cmpi .eq (constantI S_ 32 4#32) (constantI S_ 32 0#32)) (constantI S_ 32 1#32) (constantI S_ 32 4#32)

def remWords : IVec S512 32 := Host.remsi (iotaInDim S512 32 0) (broadcastInDim S512 ![] bcast_S_S512 divisor)

/-- A sample row's number within its sequence, as the host computes it. -/
def modWords : IVec S512 32 :=
  select (andi (cmpi .ne (cmpi .slt remWords (broadcastInDim S512 ![] bcast_S_S512 (constantI S_ 32 0#32)))
      (broadcastInDim S512 ![] bcast_S_S512 (cmpi .slt divisor (constantI S_ 32 0#32))))
      (cmpi .ne remWords (broadcastInDim S512 ![] bcast_S_S512 (constantI S_ 32 0#32))))
    (addi remWords (broadcastInDim S512 ![] bcast_S_S512 divisor)) remWords

/-- The position words of the table's rows. -/
def posWords : IVec S2560 32 :=
  concatenate S2560 0 [⟨S2048, iotaInDim S2048 32 0⟩,
    ⟨S512, addi (broadcastInDim S512 ![] bcast_S_S512 (constantI S_ 32 8192#32)) modWords⟩] concatenates_S2048_S512_S2560_d0

/-- The table of angles. -/
def angles : FVec F S2560x32 .f32 :=
  mulf (broadcastInDim S2560x32 ![0, 1] bcast_S2560x1_S2560x32_0_1 (broadcastInDim S2560x1 ![0] bcast_S2560_S2560x1_0 (sitofp .f32 posWords)))
    (broadcastInDim S2560x32 ![0, 1] bcast_S1x32_S2560x32_0_1 (broadcastInDim S1x32 ![1] bcast_S32_S1x32_1
      (Host.exp (mulf (sitofp .f32 (iotaInDim S32 32 0)) (broadcastInDim S32 ![] bcast_S_S32 (constant S_ .f32 0xBE935D8E#32))))))

/-- The columns the queries are taken from. -/
def cols : IVec S1024x1 32 :=
  broadcastInDim S1024x1 ![0] bcast_S1024_S1024x1_0
    (select (constantI S1024 1 0#1) (addi (fun i => lit0 (S1024.rowMajor i)) (broadcastInDim S1024 ![] bcast_S_S1024 (constantI S_ 32 1024#32)))
      (fun i => lit0 (S1024.rowMajor i)))

theorem v0_term (c : Dev nD) : (V m c main_v0 : FVec F S16384x1024 .f32)
    = shapeCast S16384x1024 (m ((c : Thread nD τ).loc main_arg0) : FVec F S8x2048x1024 .f32) shapeCasts_S8x2048x1024_S16384x1024 := by
  show StableHlo.after (List.flatten [hostOps0, hostOps0_1, hostOps0_2]) _ (Proc.devRef .tc main_v0) = _
  simp only [hostOps0, hostOps0_1, hostOps0_2, List.flatten_cons, List.flatten_nil, List.append_nil, List.cons_append, List.nil_append]
  after_results
  rfl

theorem v1_term (c : Dev nD) : (V m c main_v1 : FVec F S512x1024 .f32)
    = shapeCast S512x1024 (m ((c : Thread nD τ).loc main_arg1) : FVec F S128x4x1024 .f32) shapeCasts_S128x4x1024_S512x1024 := by
  show StableHlo.after (List.flatten [hostOps0, hostOps0_1, hostOps0_2]) _ (Proc.devRef .tc main_v1) = _
  simp only [hostOps0, hostOps0_1, hostOps0_2, List.flatten_cons, List.flatten_nil, List.append_nil, List.cons_append, List.nil_append]
  after_results
  rfl

theorem v20_term (c : Dev nD) : (V m c main_v20 : FVec F S2560x128 .f32)
    = concatenate S2560x128 1 [⟨S2560x32, Host.cos angles⟩, ⟨S2560x32, Host.cos angles⟩, ⟨S2560x32, Host.cos angles⟩, ⟨S2560x32, Host.cos angles⟩]
        concatenates_S2560x32_S2560x32_S2560x32_S2560x32_S2560x128_d1 := by
  show StableHlo.after (List.flatten [hostOps0, hostOps0_1, hostOps0_2]) _ (Proc.devRef .tc main_v20) = _
  simp only [hostOps0, hostOps0_1, hostOps0_2, List.flatten_cons, List.flatten_nil, List.append_nil, List.cons_append, List.nil_append]
  after_results
  dsimp only [Matrix.cons_val]
  after_results_loop
  rfl

theorem v23_term (c : Dev nD) : (V m c main_v23 : FVec F S2560x128 .f32)
    = concatenate S2560x128 1 [⟨S2560x32, Host.negf (Host.sin angles)⟩, ⟨S2560x32, Host.sin angles⟩, ⟨S2560x32, Host.negf (Host.sin angles)⟩,
        ⟨S2560x32, Host.sin angles⟩] concatenates_S2560x32_S2560x32_S2560x32_S2560x32_S2560x128_d1 := by
  show StableHlo.after (List.flatten [hostOps0, hostOps0_1, hostOps0_2]) _ (Proc.devRef .tc main_v23) = _
  simp only [hostOps0, hostOps0_1, hostOps0_2, List.flatten_cons, List.flatten_nil, List.append_nil, List.cons_append, List.nil_append]
  after_results
  dsimp only [Matrix.cons_val]
  after_results_loop
  rfl

theorem v42_term (c : Dev nD) (W : FVec F S1024x1280 .f32)
    (hW : W = shapeCast S1024x1280 (m ((c : Thread nD τ).loc main_arg4) : FVec F S1x1024x1280 .f32) shapeCasts_S1x1024x1280_S1024x1280) :
    (V m c main_v42 : FVec F S1024x1280 .bf16)
    = truncf .bf16 (concatenate S1024x1280 1 [⟨S1024x1024, Host.gather gather_S1024x1024_S1024x1_S1024x1024_0_1_n_n_1_1_10241
          (extractStridedSlice S1024x1024 ![0, 0] W slices_S1024x1280_S1024x1024_0_0) cols⟩,
        ⟨S1024x128, extractStridedSlice S1024x128 ![0, 1024] W slices_S1024x1280_S1024x128_0_1024⟩,
        ⟨S1024x128, extractStridedSlice S1024x128 ![0, 1152] W slices_S1024x1280_S1024x128_0_1152⟩]
        concatenates_S1024x1024_S1024x128_S1024x128_S1024x1280_d1) bitsLt_bf16_f32 := by
  subst hW
  show StableHlo.after (List.flatten [hostOps0, hostOps0_1, hostOps0_2]) _ (Proc.devRef .tc main_v42) = _
  simp only [hostOps0, hostOps0_1, hostOps0_2, List.flatten_cons, List.flatten_nil, List.append_nil, List.cons_append, List.nil_append]
  after_results
  dsimp only [Matrix.cons_val]
  after_results_loop
  rfl

theorem v49_term (c : Dev nD) (B : FVec F S1280 .f32)
    (hB : B = shapeCast S1280 (m ((c : Thread nD τ).loc main_arg5) : FVec F S1x1280 .f32) shapeCasts_S1x1280_S1280) :
    (V m c main_v49 : FVec F S1x1280 .f32)
    = shapeCast S1x1280 (concatenate S1280 0 [⟨S1024, Host.gather gather_S1024_S1024x1_S1024_n_0_n_n_0_1_1
          (extractStridedSlice S1024 ![0] B slices_S1280_S1024_0) cols⟩,
        ⟨S128, extractStridedSlice S128 ![1024] B slices_S1280_S128_1024⟩,
        ⟨S128, extractStridedSlice S128 ![1152] B slices_S1280_S128_1152⟩]
        concatenates_S1024_S128_S128_S1280_d0) shapeCasts_S1280_S1x1280 := by
  subst hB
  show StableHlo.after (List.flatten [hostOps0, hostOps0_1, hostOps0_2]) _ (Proc.devRef .tc main_v49) = _
  simp only [hostOps0, hostOps0_1, hostOps0_2, List.flatten_cons, List.flatten_nil, List.append_nil, List.cons_append, List.nil_append]
  after_results
  dsimp only [Matrix.cons_val]
  after_results_loop
  rfl

end Cert.Proj

end
-- ==== Proof.ProjHost.lean ====
/- The arrays that the projection's kernel reads, entry by entry, in terms of the inputs. -/
module

public import proofs.«01_k».proof.Proof.ProjTerm

@[expose] public section

noncomputable section

namespace Cert.Proj

open Cert.Kernel3Ideal Cert.Kernel3Ideal.Gen
open Idealize.ShloMosaic hiding ix1 ix2 ix3 ix4 eq_ix2
open Idealize.ShloMosaic.TcCoe Idealize.SL.Sem Idealize.ShloMosaic.ValueIdx

/-! ## The position words and the tables -/

theorem modWords_apply (r : Fin 512) : modWords (ix1 r) = BitVec.ofNat 32 (r.val % 4) := by
  revert r
  decide +kernel

/-- The position word of a table row. -/
def wordAt (q : Nat) : BitVec 32 := if q < 2048 then BitVec.ofNat 32 q else BitVec.ofNat 32 (8192 + (q - 2048) % 4)

theorem posWords_apply (q : Fin 2560) : posWords (ix1 q) = wordAt q.val := by
  unfold posWords wordAt
  by_cases h : q.val < 2048
  · rw [if_pos h]
    refine (concatenate_apply_piece (0 : Fin 1) [_, _] _ (ix1 q) 0 (by exact (by decide : 0 < 2)) S2048 _ rfl rfl 0 rfl (ix1 (⟨q.val, h⟩ : Fin 2048))
      (fun b hb => absurd (Subsingleton.elim _ _) hb) (by show 0 + q.val = q.val; omega)).trans ?_
    rfl
  · rw [if_neg h]
    refine (concatenate_apply_piece (0 : Fin 1) [_, _] _ (ix1 q) 1 (by exact (by decide : 1 < 2)) S512 _ rfl rfl 2048 rfl (ix1 (⟨q.val - 2048, by omega⟩ : Fin 512))
      (fun b hb => absurd (Subsingleton.elim _ _) hb) (by show 2048 + (q.val - 2048) = q.val; omega)).trans ?_
    show (8192#32 : BitVec 32) + modWords (ix1 (⟨q.val - 2048, by omega⟩ : Fin 512)) = _
    rw [modWords_apply, BitVec.ofNat_add]

theorem angles_apply (q : Fin 2560) (f : Fin 32) : angles (F := Ideal) (ix2 q f) = angle (wordAt q.val) f.val := by
  unfold angles angle
  rw [← posWords_apply q]
  refine congrArg₂ (FloatOps.mulf (F := Ideal) (φ := .f32)) ?_ ?_
  · refine (broadcastInDim_apply _ _ _ (ix2 q f) (ix2 q (0 : Fin 1)) (fun a => match a with | ⟨0, _⟩ => rfl | ⟨1, _⟩ => rfl)).trans ?_
    exact broadcastInDim_apply _ _ _ (ix2 q (0 : Fin 1)) (ix1 q) (fun a => match a with | ⟨0, _⟩ => rfl)
  · refine (broadcastInDim_apply _ _ _ (ix2 q f) (ix2 (0 : Fin 1) f) (fun a => match a with | ⟨0, _⟩ => rfl | ⟨1, _⟩ => rfl)).trans ?_
    exact broadcastInDim_apply _ _ _ (ix2 (0 : Fin 1) f) (ix1 f) (fun a => match a with | ⟨0, _⟩ => rfl)

/-- Four tables side by side. -/
theorem four_apply (A B C D : FVec Ideal S2560x32 .f32) (q : Fin 2560) (l : Fin 128) :
    concatenate S2560x128 1 [⟨S2560x32, A⟩, ⟨S2560x32, B⟩, ⟨S2560x32, C⟩, ⟨S2560x32, D⟩]
        concatenates_S2560x32_S2560x32_S2560x32_S2560x32_S2560x128_d1 (ix2 q l)
      = (if l.val < 32 then A else if l.val < 64 then B else if l.val < 96 then C else D) (ix2 q (⟨l.val % 32, by omega⟩ : Fin 32)) := by
  have hl := l.isLt
  by_cases h0 : l.val < 32
  · rw [if_pos h0]
    exact concatenate_apply_piece (1 : Fin 2) _ _ (ix2 q l) 0 (by exact (by decide : 0 < 4)) S2560x32 _ rfl rfl 0 rfl _
      (fun b hb => match b with | ⟨0, _⟩ => rfl | ⟨1, _⟩ => absurd rfl hb) (by show 0 + l.val % 32 = l.val; omega)
  by_cases h1 : l.val < 64
  · rw [if_neg h0, if_pos h1]
    exact concatenate_apply_piece (1 : Fin 2) _ _ (ix2 q l) 1 (by exact (by decide : 1 < 4)) S2560x32 _ rfl rfl 32 rfl _
      (fun b hb => match b with | ⟨0, _⟩ => rfl | ⟨1, _⟩ => absurd rfl hb) (by show 32 + l.val % 32 = l.val; omega)
  by_cases h2 : l.val < 96
  · rw [if_neg h0, if_neg h1, if_pos h2]
    exact concatenate_apply_piece (1 : Fin 2) _ _ (ix2 q l) 2 (by exact (by decide : 2 < 4)) S2560x32 _ rfl rfl 64 rfl _
      (fun b hb => match b with | ⟨0, _⟩ => rfl | ⟨1, _⟩ => absurd rfl hb) (by show 64 + l.val % 32 = l.val; omega)
  · rw [if_neg h0, if_neg h1, if_neg h2]
    exact concatenate_apply_piece (1 : Fin 2) _ _ (ix2 q l) 3 (by exact (by decide : 3 < 4)) S2560x32 _ rfl rfl 96 rfl _
      (fun b hb => match b with | ⟨0, _⟩ => rfl | ⟨1, _⟩ => absurd rfl hb) (by show 96 + l.val % 32 = l.val; omega)

/-! ## The columns taken for the queries -/

theorem cols_apply (C : Fin 1024) : cols (ix2 C (0 : Fin 1)) = BitVec.ofNat 32 (headCol C.val) := by
  revert C
  decide +kernel

theorem headCol_lt (C : Nat) (h : C < 1024) : headCol C < 1024 := by
  unfold headCol
  omega

theorem cols_nat (C : Fin 1024) : (cols (ix2 C (0 : Fin 1))).toInt.toNat = headCol C.val := by
  rw [cols_apply]
  have h := headCol_lt C.val C.isLt
  generalize headCol C.val = n at h
  rw [BitVec.toInt_eq_toNat_of_lt (by rw [BitVec.toNat_ofNat]; omega), BitVec.toNat_ofNat]
  omega

theorem gatherW_apply (X : FVec Ideal S1024x1024 .f32) (k C : Fin 1024) :
    Host.gather gather_S1024x1024_S1024x1_S1024x1024_0_1_n_n_1_1_10241 X cols (ix2 k C)
      = X (ix2 k (⟨headCol C.val, headCol_lt _ C.isLt⟩ : Fin 1024)) := by
  unfold Host.gather
  congr 1
  funext a
  refine Fin.ext ?_
  show gather_S1024x1024_S1024x1_S1024x1024_0_1_n_n_1_1_10241.start (ix2 k C) cols a
    + gather_S1024x1024_S1024x1_S1024x1024_0_1_n_n_1_1_10241.batchCoord (ix2 k C) a
    + gather_S1024x1024_S1024x1_S1024x1024_0_1_n_n_1_1_10241.offCoord (ix2 k C) a = _
  rw [GatherDims.batchCoord_eq_zero _ _ _ List.not_mem_nil]
  have h01 : a = (0 : Fin 2) ∨ a = (1 : Fin 2) := match a with
    | ⟨0, _⟩ => Or.inl rfl
    | ⟨1, _⟩ => Or.inr rfl
  rcases h01 with rfl | rfl
  · unfold GatherDims.start
    rw [dif_neg (by decide)]
    show 0 + 0 + k.val = k.val
    omega
  · rw [GatherDims.offCoord_eq_zero _ _ _ (fun h => ((GatherDims.mem_sKept _ _).mp h).1 (List.mem_singleton.mpr rfl))]
    unfold GatherDims.start
    rw [dif_pos (show (1 : Fin 2) ∈ gather_S1024x1024_S1024x1_S1024x1024_0_1_n_n_1_1_10241.startIndexMap from List.mem_singleton.mpr rfl)]
    have hsi : gather_S1024x1024_S1024x1_S1024x1024_0_1_n_n_1_1_10241.siIdx (ix2 k C)
        ⟨List.idxOf (1 : Fin 2) gather_S1024x1024_S1024x1_S1024x1024_0_1_n_n_1_1_10241.startIndexMap,
          List.idxOf_lt_length_iff.2 (List.mem_singleton.mpr rfl)⟩ = ix2 C (0 : Fin 1) := by
      funext b
      refine Fin.ext ?_
      match b with
      | ⟨0, _⟩ => rfl
      | ⟨1, _⟩ => rfl
    show min (cols (gather_S1024x1024_S1024x1_S1024x1024_0_1_n_n_1_1_10241.siIdx (ix2 k C) _)).toInt.toNat 1023 + 0 + 0 = headCol C.val
    rw [hsi, cols_nat]
    have := headCol_lt C.val C.isLt
    omega

theorem gatherB_apply (X : FVec Ideal S1024 .f32) (C : Fin 1024) :
    Host.gather gather_S1024_S1024x1_S1024_n_0_n_n_0_1_1 X cols (ix1 C) = X (ix1 (⟨headCol C.val, headCol_lt _ C.isLt⟩ : Fin 1024)) := by
  unfold Host.gather
  congr 1
  funext a
  refine Fin.ext ?_
  show gather_S1024_S1024x1_S1024_n_0_n_n_0_1_1.start (ix1 C) cols a + gather_S1024_S1024x1_S1024_n_0_n_n_0_1_1.batchCoord (ix1 C) a
    + gather_S1024_S1024x1_S1024_n_0_n_n_0_1_1.offCoord (ix1 C) a = _
  rw [GatherDims.batchCoord_eq_zero _ _ _ List.not_mem_nil]
  have h0 : a = (0 : Fin 1) := match a with
    | ⟨0, _⟩ => rfl
  subst h0
  · rw [GatherDims.offCoord_eq_zero _ _ _ (fun h => ((GatherDims.mem_sKept _ _).mp h).1 (List.mem_singleton.mpr rfl))]
    unfold GatherDims.start
    rw [dif_pos (show (0 : Fin 1) ∈ gather_S1024_S1024x1_S1024_n_0_n_n_0_1_1.startIndexMap from List.mem_singleton.mpr rfl)]
    have hsi : gather_S1024_S1024x1_S1024_n_0_n_n_0_1_1.siIdx (ix1 C)
        ⟨List.idxOf (0 : Fin 1) gather_S1024_S1024x1_S1024_n_0_n_n_0_1_1.startIndexMap,
          List.idxOf_lt_length_iff.2 (List.mem_singleton.mpr rfl)⟩ = ix2 C (0 : Fin 1) := by
      funext b
      refine Fin.ext ?_
      match b with
      | ⟨0, _⟩ => rfl
      | ⟨1, _⟩ => rfl
    show min (cols (gather_S1024_S1024x1_S1024_n_0_n_n_0_1_1.siIdx (ix1 C) _)).toInt.toNat 1023 + 0 + 0 = headCol C.val
    rw [hsi, cols_nat]
    have := headCol_lt C.val C.isLt
    omega

/-- The column of the projection that stands in column `C` of the prepared weights. -/
def srcCol (C : Nat) : Nat := if C < 1024 then headCol C else C

theorem srcCol_lt (C : Nat) (h : C < 1280) : srcCol C < 1280 := by
  unfold srcCol
  split
  · have := headCol_lt C (by assumption); omega
  · exact h

theorem weights_apply (w : FVec Ideal S1x1024x1280 .f32) (W : FVec Ideal S1024x1280 .f32)
    (hW : W = shapeCast S1024x1280 w shapeCasts_S1x1024x1280_S1024x1280) (k : Fin 1024) (C : Fin 1280) :
    concatenate S1024x1280 1 [⟨S1024x1024, Host.gather gather_S1024x1024_S1024x1_S1024x1024_0_1_n_n_1_1_10241
          (extractStridedSlice S1024x1024 ![0, 0] W slices_S1024x1280_S1024x1024_0_0) cols⟩,
        ⟨S1024x128, extractStridedSlice S1024x128 ![0, 1024] W slices_S1024x1280_S1024x128_0_1024⟩,
        ⟨S1024x128, extractStridedSlice S1024x128 ![0, 1152] W slices_S1024x1280_S1024x128_0_1152⟩]
        concatenates_S1024x1024_S1024x128_S1024x128_S1024x1280_d1 (ix2 k C)
      = w (ix3 (0 : Fin 1) k (⟨srcCol C.val, srcCol_lt _ C.isLt⟩ : Fin 1280)) := by
  have hw : ∀ D : Fin 1280, W (ix2 k D) = w (ix3 (0 : Fin 1) k D) := fun D => by
    rw [hW]
    refine shapeCast_apply _ _ _ _ ?_
    rw [Shape.rowMajor_val_three, Shape.rowMajor_val_two]
    show (0 * 1024 + k.val) * 1280 + D.val = k.val * 1280 + D.val
    omega
  have hC := C.isLt
  by_cases h0 : C.val < 1024
  · refine (concatenate_apply_piece (1 : Fin 2) _ _ (ix2 k C) 0 (by exact (by decide : 0 < 3)) S1024x1024 _ rfl rfl 0 rfl (ix2 k (⟨C.val, h0⟩ : Fin 1024))
      (fun b hb => match b with | ⟨0, _⟩ => rfl | ⟨1, _⟩ => absurd rfl hb) (by show 0 + C.val = C.val; omega)).trans ?_
    have hh := headCol_lt C.val h0
    rw [gatherW_apply]
    refine (extractStridedSlice_apply _ _ _ _ (ix2 k (⟨headCol C.val, by omega⟩ : Fin 1280))
      (fun a => match a with | ⟨0, _⟩ => (Nat.zero_add _).symm | ⟨1, _⟩ => (Nat.zero_add _).symm)).trans ((hw _).trans ?_)
    congr 2
    exact Fin.ext (by show headCol C.val = srcCol C.val; unfold srcCol; rw [if_pos h0])
  have hs : srcCol C.val = C.val := by unfold srcCol; rw [if_neg h0]
  have e : (⟨srcCol C.val, srcCol_lt _ C.isLt⟩ : Fin 1280) = C := Fin.ext hs
  rw [e, ← hw]
  by_cases h1 : C.val < 1152
  · refine (concatenate_apply_piece (1 : Fin 2) _ _ (ix2 k C) 1 (by exact (by decide : 1 < 3)) S1024x128 _ rfl rfl 1024 rfl (ix2 k (⟨C.val - 1024, by omega⟩ : Fin 128))
      (fun b hb => match b with | ⟨0, _⟩ => rfl | ⟨1, _⟩ => absurd rfl hb) (by show 1024 + (C.val - 1024) = C.val; omega)).trans ?_
    exact extractStridedSlice_apply _ _ _ _ (ix2 k C)
      (fun a => match a with | ⟨0, _⟩ => (Nat.zero_add _).symm | ⟨1, _⟩ => by show C.val = 1024 + (C.val - 1024); omega)
  · refine (concatenate_apply_piece (1 : Fin 2) _ _ (ix2 k C) 2 (by exact (by decide : 2 < 3)) S1024x128 _ rfl rfl 1152 rfl (ix2 k (⟨C.val - 1152, by omega⟩ : Fin 128))
      (fun b hb => match b with | ⟨0, _⟩ => rfl | ⟨1, _⟩ => absurd rfl hb) (by show 1152 + (C.val - 1152) = C.val; omega)).trans ?_
    exact extractStridedSlice_apply _ _ _ _ (ix2 k C)
      (fun a => match a with | ⟨0, _⟩ => (Nat.zero_add _).symm | ⟨1, _⟩ => by show C.val = 1152 + (C.val - 1152); omega)

theorem bias_apply (b : FVec Ideal S1x1280 .f32) (B : FVec Ideal S1280 .f32) (hB : B = shapeCast S1280 b shapeCasts_S1x1280_S1280) (C : Fin 1280) :
    concatenate S1280 0 [⟨S1024, Host.gather gather_S1024_S1024x1_S1024_n_0_n_n_0_1_1 (extractStridedSlice S1024 ![0] B slices_S1280_S1024_0) cols⟩,
        ⟨S128, extractStridedSlice S128 ![1024] B slices_S1280_S128_1024⟩,
        ⟨S128, extractStridedSlice S128 ![1152] B slices_S1280_S128_1152⟩]
        concatenates_S1024_S128_S128_S1280_d0 (ix1 C)
      = b (ix2 (0 : Fin 1) (⟨srcCol C.val, srcCol_lt _ C.isLt⟩ : Fin 1280)) := by
  have hb' : ∀ D : Fin 1280, B (ix1 D) = b (ix2 (0 : Fin 1) D) := fun D => by
    rw [hB]
    refine shapeCast_apply _ _ _ _ ?_
    rw [Shape.rowMajor_val_two, Shape.rowMajor_val_one]
    show 0 * 1280 + D.val = D.val
    omega
  have hC := C.isLt
  by_cases h0 : C.val < 1024
  · refine (concatenate_apply_piece (0 : Fin 1) [_, _, _] _ (ix1 C) 0 (by exact (by decide : 0 < 3)) S1024 _ rfl rfl 0 rfl (ix1 (⟨C.val, h0⟩ : Fin 1024))
      (fun b hb => absurd (Subsingleton.elim _ _) hb) (by show 0 + C.val = C.val; omega)).trans ?_
    have hh := headCol_lt C.val h0
    rw [gatherB_apply]
    refine (extractStridedSlice_apply _ _ _ _ (ix1 (⟨headCol C.val, by omega⟩ : Fin 1280))
      (fun a => match a with | ⟨0, _⟩ => (Nat.zero_add _).symm)).trans ((hb' _).trans ?_)
    congr 2
    exact Fin.ext (by show headCol C.val = srcCol C.val; unfold srcCol; rw [if_pos h0])
  have hs : srcCol C.val = C.val := by unfold srcCol; rw [if_neg h0]
  have e : (⟨srcCol C.val, srcCol_lt _ C.isLt⟩ : Fin 1280) = C := Fin.ext hs
  rw [e, ← hb']
  by_cases h1 : C.val < 1152
  · refine (concatenate_apply_piece (0 : Fin 1) [_, _, _] _ (ix1 C) 1 (by exact (by decide : 1 < 3)) S128 _ rfl rfl 1024 rfl (ix1 (⟨C.val - 1024, by omega⟩ : Fin 128))
      (fun b hb => absurd (Subsingleton.elim _ _) hb) (by show 1024 + (C.val - 1024) = C.val; omega)).trans ?_
    exact extractStridedSlice_apply _ _ _ _ (ix1 C) (fun a => match a with | ⟨0, _⟩ => by show C.val = 1024 + (C.val - 1024); omega)
  · refine (concatenate_apply_piece (0 : Fin 1) [_, _, _] _ (ix1 C) 2 (by exact (by decide : 2 < 3)) S128 _ rfl rfl 1152 rfl (ix1 (⟨C.val - 1152, by omega⟩ : Fin 128))
      (fun b hb => absurd (Subsingleton.elim _ _) hb) (by show 1152 + (C.val - 1152) = C.val; omega)).trans ?_
    exact extractStridedSlice_apply _ _ _ _ (ix1 C) (fun a => match a with | ⟨0, _⟩ => by show C.val = 1152 + (C.val - 1152); omega)

theorem prompt_rows (x : FVec Ideal S8x2048x1024 .f32) (R : Fin 16384) (k : Fin 1024) :
    shapeCast S16384x1024 x shapeCasts_S8x2048x1024_S16384x1024 (ix2 R k)
      = x (ix3 (⟨R.val / 2048 % 8, by omega⟩ : Fin 8) (⟨R.val % 2048, by omega⟩ : Fin 2048) k) := by
  refine shapeCast_apply _ _ _ _ ?_
  rw [Shape.rowMajor_val_three, Shape.rowMajor_val_two]
  have := R.isLt
  show (R.val / 2048 % 8 * 2048 + R.val % 2048) * 1024 + k.val = R.val * 1024 + k.val
  omega

theorem sample_rows (x : FVec Ideal S128x4x1024 .f32) (r : Fin 512) (k : Fin 1024) :
    shapeCast S512x1024 x shapeCasts_S128x4x1024_S512x1024 (ix2 r k)
      = x (ix3 (⟨(16384 + r.val - 16384) / 4 % 128, by omega⟩ : Fin 128) (⟨(16384 + r.val - 16384) % 4, by omega⟩ : Fin 4) k) := by
  refine shapeCast_apply _ _ _ _ ?_
  rw [Shape.rowMajor_val_three, Shape.rowMajor_val_two]
  have := r.isLt
  show ((16384 + r.val - 16384) / 4 % 128 * 4 + (16384 + r.val - 16384) % 4) * 1024 + k.val = r.val * 1024 + k.val
  omega

/-! ## The arrays the kernel reads -/

variable (m : (ℓ : Loc nD τ sig) → Buf (Elt Ideal) ℓ)

/-- The inputs, as the launch finds them. -/
abbrev xpOf (c : Dev nD) : Arr ⟨3, ![8, 2048, 1024]⟩ := m ((c : Thread nD τ).loc main_arg0)
abbrev xsOf (c : Dev nD) : Arr ⟨3, ![128, 4, 1024]⟩ := m ((c : Thread nD τ).loc main_arg1)
abbrev wOf (c : Dev nD) : Arr ⟨3, ![1, 1024, 1280]⟩ := m ((c : Thread nD τ).loc main_arg4)
abbrev bOf (c : Dev nD) : Arr ⟨2, ![1, 1280]⟩ := m ((c : Thread nD τ).loc main_arg5)

theorem v0_apply (c : Dev nD) (R : Fin 16384) (k : Fin 1024) :
    (V m c main_v0 : FVec Ideal S16384x1024 .f32) (ix2 R k) = row (xpOf m c) (xsOf m c) R.val k := by
  rw [v0_term]
  unfold row
  rw [if_pos R.isLt]
  exact prompt_rows _ R k

theorem v1_apply (c : Dev nD) (r : Fin 512) (k : Fin 1024) :
    (V m c main_v1 : FVec Ideal S512x1024 .f32) (ix2 r k) = row (xpOf m c) (xsOf m c) (16384 + r.val) k := by
  rw [v1_term]
  unfold row
  rw [if_neg (by omega)]
  exact sample_rows _ r k

theorem v42_apply (c : Dev nD) (k : Fin 1024) (C : Fin 1280) :
    (V m c main_v42 : FVec Ideal S1024x1280 .bf16) (ix2 k C) = wOf m c (ix3 (0 : Fin 1) k (⟨srcCol C.val, srcCol_lt _ C.isLt⟩ : Fin 1280)) := by
  rw [v42_term m c _ rfl]
  exact weights_apply _ _ rfl k C

theorem v49_apply (c : Dev nD) (C : Fin 1280) :
    (V m c main_v49 : FVec Ideal S1x1280 .f32) (ix2 (0 : Fin 1) C) = bOf m c (ix2 (0 : Fin 1) (⟨srcCol C.val, srcCol_lt _ C.isLt⟩ : Fin 1280)) := by
  rw [v49_term m c _ rfl]
  refine (shapeCast_apply _ _ _ (ix1 C) ?_).trans (bias_apply _ _ rfl C)
  rw [Shape.rowMajor_val_two, Shape.rowMajor_val_one]
  show C.val = 0 * 1280 + C.val
  omega

theorem v20_apply (c : Dev nD) (q : Fin 2560) (l : Fin 128) :
    (V m c main_v20 : FVec Ideal S2560x128 .f32) (ix2 q l) = cosOf (wordAt q.val) (l.val % 32) := by
  rw [v20_term]
  refine (four_apply _ _ _ _ q l).trans ?_
  rw [ite_self, ite_self, ite_self]
  show FloatOps.hostUnary (F := Ideal) (φ := .f32) .cos (angles (ix2 q _)) = _
  rw [angles_apply]
  rfl

theorem v23_apply (c : Dev nD) (q : Fin 2560) (l : Fin 128) :
    (V m c main_v23 : FVec Ideal S2560x128 .f32) (ix2 q l)
      = if l.val % 64 < 32 then -(sinOf (wordAt q.val) (l.val % 32)) else sinOf (wordAt q.val) (l.val % 32) := by
  rw [v23_term]
  refine (four_apply _ _ _ _ q l).trans ?_
  have hl := l.isLt
  have hs : (Host.sin (F := Ideal) angles : FVec Ideal S2560x32 .f32) (ix2 q (⟨l.val % 32, by omega⟩ : Fin 32)) = sinOf (wordAt q.val) (l.val % 32) := by
    show FloatOps.hostUnary (F := Ideal) (φ := .f32) .sin (angles (ix2 q _)) = _
    rw [angles_apply]
    rfl
  have hn : (Host.negf (F := Ideal) (Host.sin angles) : FVec Ideal S2560x32 .f32) (ix2 q (⟨l.val % 32, by omega⟩ : Fin 32)) = -(sinOf (wordAt q.val) (l.val % 32)) := by
    rw [← hs]
    rfl
  by_cases h0 : l.val < 32
  · rw [if_pos h0, if_pos (by omega)]; exact hn
  by_cases h1 : l.val < 64
  · rw [if_neg h0, if_pos h1, if_neg (by omega)]; exact hs
  by_cases h2 : l.val < 96
  · rw [if_neg h0, if_neg h1, if_pos h2, if_pos (by omega)]; exact hn
  · rw [if_neg h0, if_neg h1, if_neg h2, if_neg (by omega)]; exact hs

end Cert.Proj

end
-- ==== Proof.ProjFinal.lean ====
/- The projection's five flat arrays, as functions of the inputs. -/
module

public import proofs.«01_k».proof.Proof.ProjHost

@[expose] public section

set_option maxRecDepth 16384

noncomputable section

namespace Cert.Proj

open Cert.Kernel3Ideal Cert.Kernel3Ideal.Gen
open Idealize.ShloMosaic hiding ix1 ix2 ix3 ix4 eq_ix2
open Idealize.ShloMosaic.TcCoe Idealize.SL.Sem Idealize.ShloMosaic.ValueIdx
open Idealize.ShloMosaic.Pipeline (Dat Cfg Window)

/-! ## A point's tile in terms of the inputs -/

theorem srcCol_mod (C : Nat) : srcCol C % 64 = C % 64 := by
  unfold srcCol headCol
  split <;> omega

theorem srcCol_up (C : Nat) (h : C < 1280) (hC : C % 64 < 32) : srcCol (C + 32) = srcCol C + 32 := by
  unfold srcCol headCol
  split <;> split <;> omega

theorem srcCol_down (C : Nat) (h : C < 1280) (hC : ¬ C % 64 < 32) : srcCol (C - 32) = srcCol C - 32 := by
  unfold srcCol headCol
  split <;> split <;> omega

/-- The table row that a point's row reads. -/
def tableRow (t r : Nat) : Nat := 512 * (if t < 32 then t % 4 else 4) + r

theorem word_eq (t r : Nat) (ht : t < 33) (hr : r < 512) : wordAt (tableRow t r) = pos (512 * t + r) := by
  unfold wordAt tableRow pos
  by_cases h : t < 32
  · rw [if_pos h, if_pos (by omega), if_pos (by omega)]
    refine congrArg (BitVec.ofNat 32) ?_
    omega
  · rw [if_neg h, if_neg (by omega), if_neg (by omega)]
    refine congrArg (BitVec.ofNat 32) ?_
    omega

section Tile
variable (xp : Arr ⟨3, ![8, 2048, 1024]⟩) (xs : Arr ⟨3, ![128, 4, 1024]⟩) (w : Arr ⟨3, ![1, 1024, 1280]⟩) (b : Arr ⟨2, ![1, 1280]⟩)
variable (t : Nat) (ht : t < 33) (i : grid0.Coords) (hi : (i 0).val = t)
variable (x0 x1 : Arr S512x1024) (x2 : Arr S1024x1280) (x3 : Arr S1x1280) (x4 x5 : Arr S512x128)
variable (h0 : t < 32 → ∀ (r : Fin 512) (k : Fin 1024), x0 (ix2 r k) = row xp xs (512 * t + r.val) k)
variable (h1 : ∀ (r : Fin 512) (k : Fin 1024), x1 (ix2 r k) = row xp xs (16384 + r.val) k)
variable (h2 : ∀ (k : Fin 1024) (C : Fin 1280), x2 (ix2 k C) = w (ix3 (0 : Fin 1) k (⟨srcCol C.val, srcCol_lt _ C.isLt⟩ : Fin 1280)))
variable (h3 : ∀ C : Fin 1280, x3 (ix2 (0 : Fin 1) C) = b (ix2 (0 : Fin 1) (⟨srcCol C.val, srcCol_lt _ C.isLt⟩ : Fin 1280)))
variable (h4 : ∀ (r : Fin 512) (l : Fin 128), x4 (ix2 r l) = cosOf (wordAt (tableRow t r.val)) (l.val % 32))
variable (h5 : ∀ (r : Fin 512) (l : Fin 128), x5 (ix2 r l)
  = if l.val % 64 < 32 then -(sinOf (wordAt (tableRow t r.val)) (l.val % 32)) else sinOf (wordAt (tableRow t r.val)) (l.val % 32))

include ht hi h0 h1 h2 h3 in
theorem linAt_eq (r : Fin 512) (C : Nat) (hC : C < 1280) : linAt i x0 x1 x2 x3 r C = lin xp xs w b (512 * t + r.val) (srcCol C) := by
  have hs := srcCol_lt C hC
  have e : (⟨srcCol (C % 1280), srcCol_lt _ (by omega)⟩ : Fin 1280) = ⟨srcCol C % 1280, by omega⟩ :=
    Fin.ext (by show srcCol (C % 1280) = srcCol C % 1280; rw [Nat.mod_eq_of_lt hC, Nat.mod_eq_of_lt hs])
  have hr : ∀ k : Fin 1024, rows i x0 x1 (ix2 r k) = row xp xs (512 * t + r.val) k := by
    intro k
    unfold rows
    rw [hi]
    by_cases h : t < 32
    · rw [if_pos h]; exact h0 h r k
    · rw [if_neg h, h1]
      congr 1
      omega
  unfold linAt lin
  rw [h3]
  refine congrArg₂ (· + ·) (Finset.sum_congr rfl fun k _ => ?_) (congrArg (fun D => b (ix2 (0 : Fin 1) D)) e)
  rw [h2, hr]
  exact congrArg (fun D => row xp xs (512 * t + r.val) k * w (ix3 (0 : Fin 1) k D)) e

include ht hi h0 h1 h2 h3 h4 h5 in
theorem turnedAt_eq (r : Fin 512) (C : Nat) (hC : C < 1152) :
    turnedAt i x0 x1 x2 x3 x4 x5 r C = turned xp xs w b (512 * t + r.val) (srcCol C) := by
  have L := linAt_eq xp xs w b t ht i hi x0 x1 x2 x3 h0 h1 h2 h3 r
  have hm := srcCol_mod C
  have e1 : C % 128 % 32 = srcCol C % 32 := by omega
  have e2 : C % 128 % 64 = C % 64 := by omega
  unfold turnedAt turned
  rw [h4, h5, L C (by omega), word_eq t r.val ht r.isLt, hm]
  show _ * cosOf _ (C % 128 % 32) + _ * (if C % 128 % 64 < 32 then -(sinOf _ (C % 128 % 32)) else sinOf _ (C % 128 % 32)) = _
  rw [e1, e2]
  by_cases h : C % 64 < 32
  · rw [if_pos h, if_pos h, if_pos h, L (C + 32) (by omega), srcCol_up C (by omega) h, sub_eq_add_neg, mul_neg]
  · rw [if_neg h, if_neg h, if_neg h, L (C - 32) (by omega), srcCol_down C (by omega) h, add_comm]

end Tile

/-! ## The blocks a point reads -/

variable (m : (ℓ : Loc nD τ sig) → Buf (Elt Ideal) ℓ)

theorem idx_facts : ∀ t : Fin cfg0.N,
    (win0_0.index t 0 = min t.val 31 ∧ win0_0.index t 1 = 0 ∧ win0_1.index t 0 = 0 ∧ win0_1.index t 1 = 0
      ∧ win0_2.index t 0 = 0 ∧ win0_2.index t 1 = 0 ∧ win0_3.index t 0 = 0 ∧ win0_3.index t 1 = 0)
    ∧ (win0_4.index t 0 = (if t.val < 32 then t.val % 4 else 4) ∧ win0_4.index t 1 = 0
      ∧ win0_5.index t 0 = (if t.val < 32 then t.val % 4 else 4) ∧ win0_5.index t 1 = 0)
    ∧ (grid0.coords t 0).val = t.val :=
  (by decide +kernel : ∀ t : Fin grid0.N, _)

theorem lt_N (t : Fin cfg0.N) : t.val < 33 := t.isLt

theorem iblk0_apply (c : Dev nD) (t : Fin cfg0.N) (ht : t.val < 32) (r : Fin 512) (k : Fin 1024) :
    (iblk m c 0 t : Vec Ideal S512x1024 .f32) (ix2 r k)
      = (V m c main_v0 : FVec Ideal S16384x1024 .f32) (ix2 (⟨512 * t.val + r.val, by omega⟩ : Fin 16384) k) := by
  have hi := (idx_facts t).1
  unfold iblk
  rw [View.read_apply]
  show V m c main_v0 _ = V m c main_v0 _
  congr 1
  funext a
  apply Fin.ext
  match a with
  | ⟨0, _⟩ => show win0_0.index t 0 * 512 + 1 * r.val = 512 * t.val + r.val; rw [hi.1]; omega
  | ⟨1, _⟩ => show win0_0.index t 1 * 1024 + 1 * k.val = k.val; rw [hi.2.1]; omega

theorem iblk1_apply (c : Dev nD) (t : Fin cfg0.N) (r : Fin 512) (k : Fin 1024) :
    (iblk m c 1 t : Vec Ideal S512x1024 .f32) (ix2 r k) = (V m c main_v1 : FVec Ideal S512x1024 .f32) (ix2 r k) := by
  have hi := (idx_facts t).1
  unfold iblk
  rw [View.read_apply]
  show V m c main_v1 _ = V m c main_v1 _
  congr 1
  funext a
  apply Fin.ext
  match a with
  | ⟨0, _⟩ => show win0_1.index t 0 * 512 + 1 * r.val = r.val; rw [hi.2.2.1]; omega
  | ⟨1, _⟩ => show win0_1.index t 1 * 1024 + 1 * k.val = k.val; rw [hi.2.2.2.1]; omega

theorem iblk2_apply (c : Dev nD) (t : Fin cfg0.N) (k : Fin 1024) (C : Fin 1280) :
    (iblk m c 2 t : Vec Ideal S1024x1280 .bf16) (ix2 k C) = (V m c main_v42 : FVec Ideal S1024x1280 .bf16) (ix2 k C) := by
  have hi := (idx_facts t).1
  unfold iblk
  rw [View.read_apply]
  show V m c main_v42 _ = V m c main_v42 _
  congr 1
  funext a
  apply Fin.ext
  match a with
  | ⟨0, _⟩ => show win0_2.index t 0 * 1024 + 1 * k.val = k.val; rw [hi.2.2.2.2.1]; omega
  | ⟨1, _⟩ => show win0_2.index t 1 * 1280 + 1 * C.val = C.val; rw [hi.2.2.2.2.2.1]; omega

theorem iblk3_apply (c : Dev nD) (t : Fin cfg0.N) (C : Fin 1280) :
    (iblk m c 3 t : Vec Ideal S1x1280 .f32) (ix2 (0 : Fin 1) C) = (V m c main_v49 : FVec Ideal S1x1280 .f32) (ix2 (0 : Fin 1) C) := by
  have hi := (idx_facts t).1
  unfold iblk
  rw [View.read_apply]
  show V m c main_v49 _ = V m c main_v49 _
  congr 1
  funext a
  apply Fin.ext
  match a with
  | ⟨0, _⟩ => show win0_3.index t 0 * 1 + 1 * 0 = 0; rw [hi.2.2.2.2.2.2.1]
  | ⟨1, _⟩ => show win0_3.index t 1 * 1280 + 1 * C.val = C.val; rw [hi.2.2.2.2.2.2.2]; omega

theorem tableRow_lt (t r : Nat) (hr : r < 512) : tableRow t r < 2560 := by
  unfold tableRow
  split <;> omega

theorem iblk4_apply (c : Dev nD) (t : Fin cfg0.N) (r : Fin 512) (l : Fin 128) :
    (iblk m c 4 t : Vec Ideal S512x128 .f32) (ix2 r l)
      = (V m c main_v20 : FVec Ideal S2560x128 .f32) (ix2 (⟨tableRow t.val r.val, tableRow_lt _ _ r.isLt⟩ : Fin 2560) l) := by
  have hi := (idx_facts t).2.1
  unfold iblk
  rw [View.read_apply]
  show V m c main_v20 _ = V m c main_v20 _
  congr 1
  funext a
  apply Fin.ext
  match a with
  | ⟨0, _⟩ => show win0_4.index t 0 * 512 + 1 * r.val = tableRow t.val r.val; rw [hi.1]; unfold tableRow; omega
  | ⟨1, _⟩ => show win0_4.index t 1 * 128 + 1 * l.val = l.val; rw [hi.2.1]; omega

theorem iblk5_apply (c : Dev nD) (t : Fin cfg0.N) (r : Fin 512) (l : Fin 128) :
    (iblk m c 5 t : Vec Ideal S512x128 .f32) (ix2 r l)
      = (V m c main_v23 : FVec Ideal S2560x128 .f32) (ix2 (⟨tableRow t.val r.val, tableRow_lt _ _ r.isLt⟩ : Fin 2560) l) := by
  have hi := (idx_facts t).2.1
  unfold iblk
  rw [View.read_apply]
  show V m c main_v23 _ = V m c main_v23 _
  congr 1
  funext a
  apply Fin.ext
  match a with
  | ⟨0, _⟩ => show win0_5.index t 0 * 512 + 1 * r.val = tableRow t.val r.val; rw [hi.2.2.1]; unfold tableRow; omega
  | ⟨1, _⟩ => show win0_5.index t 1 * 128 + 1 * l.val = l.val; rw [hi.2.2.2]; omega

theorem point_turned (c : Dev nD) (t : Fin cfg0.N) (r : Fin 512) (C : Nat) (hC : C < 1152) :
    turnedAt (grid0.coords t) (iblk m c 0 t) (iblk m c 1 t) (iblk m c 2 t) (iblk m c 3 t) (iblk m c 4 t) (iblk m c 5 t) r C
      = turned (xpOf m c) (xsOf m c) (wOf m c) (bOf m c) (512 * t.val + r.val) (srcCol C) :=
  turnedAt_eq _ _ _ _ t.val (lt_N t) (grid0.coords t) (idx_facts t).2.2 _ _ _ _ _ _
    (fun h r k => (iblk0_apply m c t h r k).trans (v0_apply m c _ k)) (fun r k => (iblk1_apply m c t r k).trans (v1_apply m c r k))
    (fun k C => (iblk2_apply m c t k C).trans (v42_apply m c k C)) (fun C => (iblk3_apply m c t C).trans (v49_apply m c C))
    (fun r l => (iblk4_apply m c t r l).trans (v20_apply m c _ l)) (fun r l => (iblk5_apply m c t r l).trans (v23_apply m c _ l)) r C hC

theorem point_lin (c : Dev nD) (t : Fin cfg0.N) (r : Fin 512) (C : Nat) (hC : C < 1280) :
    linAt (grid0.coords t) (iblk m c 0 t) (iblk m c 1 t) (iblk m c 2 t) (iblk m c 3 t) r C
      = lin (xpOf m c) (xsOf m c) (wOf m c) (bOf m c) (512 * t.val + r.val) (srcCol C) :=
  linAt_eq _ _ _ _ t.val (lt_N t) (grid0.coords t) (idx_facts t).2.2 _ _ _ _
    (fun h r k => (iblk0_apply m c t h r k).trans (v0_apply m c _ k)) (fun r k => (iblk1_apply m c t r k).trans (v1_apply m c r k))
    (fun k C => (iblk2_apply m c t k C).trans (v42_apply m c k C)) (fun C => (iblk3_apply m c t C).trans (v49_apply m c C)) r C hC

/-! ## The arrays after the launch -/

/-- The functions of the launch's inputs that the arrays hold. -/
def queryF (c : Dev nD) : Nat → Nat → EReal := query (xpOf m c) (xsOf m c) (wOf m c) (bOf m c)
def keyF (c : Dev nD) : Nat → Nat → EReal := key (xpOf m c) (xsOf m c) (wOf m c) (bOf m c)
def valF (c : Dev nD) : Nat → Nat → EReal := val (xpOf m c) (xsOf m c) (wOf m c) (bOf m c)

theorem query_point (c : Dev nD) (t : Fin cfg0.N) (r : Fin 512) (C : Nat) (hC : C < 1024) :
    turnedAt (grid0.coords t) (iblk m c 0 t) (iblk m c 1 t) (iblk m c 2 t) (iblk m c 3 t) (iblk m c 4 t) (iblk m c 5 t) r C * scale
      = queryF m c (512 * t.val + r.val) C := by
  rw [point_turned m c t r C (by omega)]
  unfold queryF query srcCol
  rw [if_pos hC]

theorem key_point (c : Dev nD) (t : Fin cfg0.N) (r : Fin 512) (C : Nat) (hC : C < 128) :
    turnedAt (grid0.coords t) (iblk m c 0 t) (iblk m c 1 t) (iblk m c 2 t) (iblk m c 3 t) (iblk m c 4 t) (iblk m c 5 t) r (1024 + C)
      = keyF m c (512 * t.val + r.val) C := by
  rw [point_turned m c t r (1024 + C) (by omega)]
  unfold keyF key srcCol
  rw [if_neg (by omega)]

theorem val_point (c : Dev nD) (t : Fin cfg0.N) (r : Fin 512) (C : Nat) (hC : C < 128) :
    linAt (grid0.coords t) (iblk m c 0 t) (iblk m c 1 t) (iblk m c 2 t) (iblk m c 3 t) r (1152 + C)
      = valF m c (512 * t.val + r.val) C := by
  rw [point_lin m c t r (1152 + C) (by omega)]
  unfold valF val srcCol
  rw [if_neg (by omega)]

theorem out_facts : ∀ t : Fin cfg0.N,
    (win0_6.index t 0 = t.val ∧ win0_6.index t 1 = 0 ∧ win0_7.index t 0 = t.val ∧ win0_7.index t 1 = 0 ∧ win0_8.index t 0 = t.val ∧ win0_8.index t 1 = 0)
    ∧ (win0_9.index t 0 = t.val ∧ win0_9.index t 1 = 0 ∧ win0_10.index t 0 = t.val ∧ win0_10.index t 1 = 0) :=
  (by decide +kernel : ∀ t : Fin grid0.N, _)

theorem flush_all_6 : ∀ t : Fin cfg0.N, (cfg0.win 6).flush t = true :=
  (by decide +kernel : ∀ t : Fin grid0.N, win0_6.flush t = true)

theorem xsize_6 : ∀ t : Fin cfg0.N, win0_6.xsize (grid0.coords t) 0 = 512 ∧ win0_6.xsize (grid0.coords t) 1 = 1024 :=
  (by decide +kernel : ∀ t : Fin grid0.N, _)

theorem flushed_6 (c : Dev nD) (t : Fin cfg0.N) (hf : (cfg0.win 6).flush t = true) :
    (dats m 0 c).flushed 6 t
      = ((cfg0.win 6).blk t).view.read (Elt Ideal) (slabs (queryF m c) : Buf (Elt Ideal) ((c : Thread nD τ).loc main_v50_0)) := by
  have hi := out_facts t
  show (cfg0.win 6).cut (grid0.coords t) ((dats m 0 c).after 6 t) = _
  rw [after0_6, out6_eq]
  refine funext fun (y : S512x1024.Idx) => ?_
  refine Eq.trans ?_ (View.read_apply _ _).symm
  have hy0 : (y 0).val < 512 := (y 0).isLt
  have hy1 : (y 1).val < 1024 := (y 1).isLt
  refine Eq.trans (show _ = (queryTile (grid0.coords t) (iblk m c 0 t) (iblk m c 1 t) (iblk m c 2 t) (iblk m c 3 t) (iblk m c 4 t) (iblk m c 5 t) : Arr S512x1024) y from rfl) ?_
  refine (query_point m c t (⟨(y 0).val, hy0⟩ : Fin 512) (y 1).val hy1).trans ?_
  show queryF m c (512 * t.val + (y 0).val) (y 1).val = queryF m c (win0_6.index t 0 * 512 + 1 * (y 0).val) (win0_6.index t 1 * 1024 + 1 * (y 1).val)
  rw [hi.1.1, hi.1.2.1]
  congr 1 <;> omega

theorem covers_6 (t : Fin cfg0.N) (i : S16896x1024.Idx) (h : (i 0).val / 512 = t.val) : i ∈ ((cfg0.win 6).blk t).view.set := by
  have h0 := idx2_lt0 (n0 := 16896) (n1 := 1024) i
  have h1 := idx2_lt1 (n0 := 16896) (n1 := 1024) i
  show i ∈ ((View.whole main_v50_0).slice (win0_6.rect t)).set
  rw [View.set_slice_whole, Rect.mem_set_unit]
  have hi := out_facts t
  have hx := xsize_6 t
  intro a
  match a with
  | ⟨0, _⟩ =>
    show win0_6.index t 0 * 512 ≤ (i 0 : Nat) ∧ (i 0 : Nat) < win0_6.index t 0 * 512 + win0_6.xsize (grid0.coords t) 0
    rw [hi.1.1, hx.1]
    omega
  | ⟨1, _⟩ =>
    show win0_6.index t 1 * 1024 ≤ (i 1 : Nat) ∧ (i 1 : Nat) < win0_6.index t 1 * 1024 + win0_6.xsize (grid0.coords t) 1
    rw [hi.1.2.1, hx.2]
    omega

theorem final_6 (c : Dev nD) : (dats m 0 c).arrAt 6 cfg0.N = (slabs (queryF m c) : Buf (Elt Ideal) ((c : Thread nD τ).loc main_v50_0)) :=
  (dats m 0 c).arrAt_eq_of_cover 6 _ (flushed_6 m c) fun (i : S16896x1024.Idx) =>
    have h0 : (i 0 : Nat) < 16896 := (i 0).isLt
    have ht : (i 0 : Nat) / 512 < cfg0.N := by show _ < 33; omega
    ⟨⟨(i 0 : Nat) / 512, ht⟩, flush_all_6 _, covers_6 _ i rfl⟩

theorem flush_all_7 : ∀ t : Fin cfg0.N, (cfg0.win 7).flush t = true :=
  (by decide +kernel : ∀ t : Fin grid0.N, win0_7.flush t = true)

theorem xsize_7 : ∀ t : Fin cfg0.N, win0_7.xsize (grid0.coords t) 0 = 512 ∧ win0_7.xsize (grid0.coords t) 1 = 128 :=
  (by decide +kernel : ∀ t : Fin grid0.N, _)

theorem flushed_7 (c : Dev nD) (t : Fin cfg0.N) (hf : (cfg0.win 7).flush t = true) :
    (dats m 0 c).flushed 7 t
      = ((cfg0.win 7).blk t).view.read (Elt Ideal) (flat (keyF m c) : Buf (Elt Ideal) ((c : Thread nD τ).loc main_v50_1)) := by
  have hi := out_facts t
  show (cfg0.win 7).cut (grid0.coords t) ((dats m 0 c).after 7 t) = _
  rw [after0_7, out7_eq]
  refine funext fun (y : S512x128.Idx) => ?_
  refine Eq.trans ?_ (View.read_apply _ _).symm
  have hy0 : (y 0).val < 512 := (y 0).isLt
  have hy1 : (y 1).val < 128 := (y 1).isLt
  refine Eq.trans (show _ = (keyTile (grid0.coords t) (iblk m c 0 t) (iblk m c 1 t) (iblk m c 2 t) (iblk m c 3 t) (iblk m c 4 t) (iblk m c 5 t) : Arr S512x128) y from rfl) ?_
  refine (key_point m c t (⟨(y 0).val, hy0⟩ : Fin 512) (y 1).val hy1).trans ?_
  show keyF m c (512 * t.val + (y 0).val) (y 1).val = keyF m c (win0_7.index t 0 * 512 + 1 * (y 0).val) (win0_7.index t 1 * 128 + 1 * (y 1).val)
  rw [hi.1.2.2.1, hi.1.2.2.2.1]
  congr 1 <;> omega

theorem covers_7 (t : Fin cfg0.N) (i : S16896x128.Idx) (h : (i 0).val / 512 = t.val) : i ∈ ((cfg0.win 7).blk t).view.set := by
  have h0 := idx2_lt0 (n0 := 16896) (n1 := 128) i
  have h1 := idx2_lt1 (n0 := 16896) (n1 := 128) i
  show i ∈ ((View.whole main_v50_1).slice (win0_7.rect t)).set
  rw [View.set_slice_whole, Rect.mem_set_unit]
  have hi := out_facts t
  have hx := xsize_7 t
  intro a
  match a with
  | ⟨0, _⟩ =>
    show win0_7.index t 0 * 512 ≤ (i 0 : Nat) ∧ (i 0 : Nat) < win0_7.index t 0 * 512 + win0_7.xsize (grid0.coords t) 0
    rw [hi.1.2.2.1, hx.1]
    omega
  | ⟨1, _⟩ =>
    show win0_7.index t 1 * 128 ≤ (i 1 : Nat) ∧ (i 1 : Nat) < win0_7.index t 1 * 128 + win0_7.xsize (grid0.coords t) 1
    rw [hi.1.2.2.2.1, hx.2]
    omega

theorem final_7 (c : Dev nD) : (dats m 0 c).arrAt 7 cfg0.N = (flat (keyF m c) : Buf (Elt Ideal) ((c : Thread nD τ).loc main_v50_1)) :=
  (dats m 0 c).arrAt_eq_of_cover 7 _ (flushed_7 m c) fun (i : S16896x128.Idx) =>
    have h0 : (i 0 : Nat) < 16896 := (i 0).isLt
    have ht : (i 0 : Nat) / 512 < cfg0.N := by show _ < 33; omega
    ⟨⟨(i 0 : Nat) / 512, ht⟩, flush_all_7 _, covers_7 _ i rfl⟩

theorem flush_all_8 : ∀ t : Fin cfg0.N, (cfg0.win 8).flush t = true :=
  (by decide +kernel : ∀ t : Fin grid0.N, win0_8.flush t = true)

theorem xsize_8 : ∀ t : Fin cfg0.N, win0_8.xsize (grid0.coords t) 0 = 512 ∧ win0_8.xsize (grid0.coords t) 1 = 128 :=
  (by decide +kernel : ∀ t : Fin grid0.N, _)

theorem flushed_8 (c : Dev nD) (t : Fin cfg0.N) (hf : (cfg0.win 8).flush t = true) :
    (dats m 0 c).flushed 8 t
      = ((cfg0.win 8).blk t).view.read (Elt Ideal) (flat (keyF m c) : Buf (Elt Ideal) ((c : Thread nD τ).loc main_v50_2)) := by
  have hi := out_facts t
  show (cfg0.win 8).cut (grid0.coords t) ((dats m 0 c).after 8 t) = _
  rw [after0_8, out8_eq]
  refine funext fun (y : S512x128.Idx) => ?_
  refine Eq.trans ?_ (View.read_apply _ _).symm
  have hy0 : (y 0).val < 512 := (y 0).isLt
  have hy1 : (y 1).val < 128 := (y 1).isLt
  refine Eq.trans (show _ = (keyTile (grid0.coords t) (iblk m c 0 t) (iblk m c 1 t) (iblk m c 2 t) (iblk m c 3 t) (iblk m c 4 t) (iblk m c 5 t) : Arr S512x128) y from rfl) ?_
  refine (key_point m c t (⟨(y 0).val, hy0⟩ : Fin 512) (y 1).val hy1).trans ?_
  show keyF m c (512 * t.val + (y 0).val) (y 1).val = keyF m c (win0_8.index t 0 * 512 + 1 * (y 0).val) (win0_8.index t 1 * 128 + 1 * (y 1).val)
  rw [hi.1.2.2.2.2.1, hi.1.2.2.2.2.2]
  congr 1 <;> omega

theorem covers_8 (t : Fin cfg0.N) (i : S16896x128.Idx) (h : (i 0).val / 512 = t.val) : i ∈ ((cfg0.win 8).blk t).view.set := by
  have h0 := idx2_lt0 (n0 := 16896) (n1 := 128) i
  have h1 := idx2_lt1 (n0 := 16896) (n1 := 128) i
  show i ∈ ((View.whole main_v50_2).slice (win0_8.rect t)).set
  rw [View.set_slice_whole, Rect.mem_set_unit]
  have hi := out_facts t
  have hx := xsize_8 t
  intro a
  match a with
  | ⟨0, _⟩ =>
    show win0_8.index t 0 * 512 ≤ (i 0 : Nat) ∧ (i 0 : Nat) < win0_8.index t 0 * 512 + win0_8.xsize (grid0.coords t) 0
    rw [hi.1.2.2.2.2.1, hx.1]
    omega
  | ⟨1, _⟩ =>
    show win0_8.index t 1 * 128 ≤ (i 1 : Nat) ∧ (i 1 : Nat) < win0_8.index t 1 * 128 + win0_8.xsize (grid0.coords t) 1
    rw [hi.1.2.2.2.2.2, hx.2]
    omega

theorem final_8 (c : Dev nD) : (dats m 0 c).arrAt 8 cfg0.N = (flat (keyF m c) : Buf (Elt Ideal) ((c : Thread nD τ).loc main_v50_2)) :=
  (dats m 0 c).arrAt_eq_of_cover 8 _ (flushed_8 m c) fun (i : S16896x128.Idx) =>
    have h0 : (i 0 : Nat) < 16896 := (i 0).isLt
    have ht : (i 0 : Nat) / 512 < cfg0.N := by show _ < 33; omega
    ⟨⟨(i 0 : Nat) / 512, ht⟩, flush_all_8 _, covers_8 _ i rfl⟩

theorem flush_all_9 : ∀ t : Fin cfg0.N, (cfg0.win 9).flush t = true :=
  (by decide +kernel : ∀ t : Fin grid0.N, win0_9.flush t = true)

theorem xsize_9 : ∀ t : Fin cfg0.N, win0_9.xsize (grid0.coords t) 0 = 512 ∧ win0_9.xsize (grid0.coords t) 1 = 128 :=
  (by decide +kernel : ∀ t : Fin grid0.N, _)

theorem flushed_9 (c : Dev nD) (t : Fin cfg0.N) (hf : (cfg0.win 9).flush t = true) :
    (dats m 0 c).flushed 9 t
      = ((cfg0.win 9).blk t).view.read (Elt Ideal) (flat (valF m c) : Buf (Elt Ideal) ((c : Thread nD τ).loc main_v50_3)) := by
  have hi := out_facts t
  show (cfg0.win 9).cut (grid0.coords t) ((dats m 0 c).after 9 t) = _
  rw [after0_9, out9_eq]
  refine funext fun (y : S512x128.Idx) => ?_
  refine Eq.trans ?_ (View.read_apply _ _).symm
  have hy0 : (y 0).val < 512 := (y 0).isLt
  have hy1 : (y 1).val < 128 := (y 1).isLt
  refine Eq.trans (show _ = (valTile (grid0.coords t) (iblk m c 0 t) (iblk m c 1 t) (iblk m c 2 t) (iblk m c 3 t) : Arr S512x128) y from rfl) ?_
  refine (val_point m c t (⟨(y 0).val, hy0⟩ : Fin 512) (y 1).val hy1).trans ?_
  show valF m c (512 * t.val + (y 0).val) (y 1).val = valF m c (win0_9.index t 0 * 512 + 1 * (y 0).val) (win0_9.index t 1 * 128 + 1 * (y 1).val)
  rw [hi.2.1, hi.2.2.1]
  congr 1 <;> omega

theorem covers_9 (t : Fin cfg0.N) (i : S16896x128.Idx) (h : (i 0).val / 512 = t.val) : i ∈ ((cfg0.win 9).blk t).view.set := by
  have h0 := idx2_lt0 (n0 := 16896) (n1 := 128) i
  have h1 := idx2_lt1 (n0 := 16896) (n1 := 128) i
  show i ∈ ((View.whole main_v50_3).slice (win0_9.rect t)).set
  rw [View.set_slice_whole, Rect.mem_set_unit]
  have hi := out_facts t
  have hx := xsize_9 t
  intro a
  match a with
  | ⟨0, _⟩ =>
    show win0_9.index t 0 * 512 ≤ (i 0 : Nat) ∧ (i 0 : Nat) < win0_9.index t 0 * 512 + win0_9.xsize (grid0.coords t) 0
    rw [hi.2.1, hx.1]
    omega
  | ⟨1, _⟩ =>
    show win0_9.index t 1 * 128 ≤ (i 1 : Nat) ∧ (i 1 : Nat) < win0_9.index t 1 * 128 + win0_9.xsize (grid0.coords t) 1
    rw [hi.2.2.1, hx.2]
    omega

theorem final_9 (c : Dev nD) : (dats m 0 c).arrAt 9 cfg0.N = (flat (valF m c) : Buf (Elt Ideal) ((c : Thread nD τ).loc main_v50_3)) :=
  (dats m 0 c).arrAt_eq_of_cover 9 _ (flushed_9 m c) fun (i : S16896x128.Idx) =>
    have h0 : (i 0 : Nat) < 16896 := (i 0).isLt
    have ht : (i 0 : Nat) / 512 < cfg0.N := by show _ < 33; omega
    ⟨⟨(i 0 : Nat) / 512, ht⟩, flush_all_9 _, covers_9 _ i rfl⟩

theorem flush_all_10 : ∀ t : Fin cfg0.N, (cfg0.win 10).flush t = true :=
  (by decide +kernel : ∀ t : Fin grid0.N, win0_10.flush t = true)

theorem xsize_10 : ∀ t : Fin cfg0.N, win0_10.xsize (grid0.coords t) 0 = 512 ∧ win0_10.xsize (grid0.coords t) 1 = 128 :=
  (by decide +kernel : ∀ t : Fin grid0.N, _)

theorem flushed_10 (c : Dev nD) (t : Fin cfg0.N) (hf : (cfg0.win 10).flush t = true) :
    (dats m 0 c).flushed 10 t
      = ((cfg0.win 10).blk t).view.read (Elt Ideal) (flat (valF m c) : Buf (Elt Ideal) ((c : Thread nD τ).loc main_v50_4)) := by
  have hi := out_facts t
  show (cfg0.win 10).cut (grid0.coords t) ((dats m 0 c).after 10 t) = _
  rw [after0_10, out10_eq]
  refine funext fun (y : S512x128.Idx) => ?_
  refine Eq.trans ?_ (View.read_apply _ _).symm
  have hy0 : (y 0).val < 512 := (y 0).isLt
  have hy1 : (y 1).val < 128 := (y 1).isLt
  refine Eq.trans (show _ = (valTile (grid0.coords t) (iblk m c 0 t) (iblk m c 1 t) (iblk m c 2 t) (iblk m c 3 t) : Arr S512x128) y from rfl) ?_
  refine (val_point m c t (⟨(y 0).val, hy0⟩ : Fin 512) (y 1).val hy1).trans ?_
  show valF m c (512 * t.val + (y 0).val) (y 1).val = valF m c (win0_10.index t 0 * 512 + 1 * (y 0).val) (win0_10.index t 1 * 128 + 1 * (y 1).val)
  rw [hi.2.2.2.1, hi.2.2.2.2]
  congr 1 <;> omega

theorem covers_10 (t : Fin cfg0.N) (i : S16896x128.Idx) (h : (i 0).val / 512 = t.val) : i ∈ ((cfg0.win 10).blk t).view.set := by
  have h0 := idx2_lt0 (n0 := 16896) (n1 := 128) i
  have h1 := idx2_lt1 (n0 := 16896) (n1 := 128) i
  show i ∈ ((View.whole main_v50_4).slice (win0_10.rect t)).set
  rw [View.set_slice_whole, Rect.mem_set_unit]
  have hi := out_facts t
  have hx := xsize_10 t
  intro a
  match a with
  | ⟨0, _⟩ =>
    show win0_10.index t 0 * 512 ≤ (i 0 : Nat) ∧ (i 0 : Nat) < win0_10.index t 0 * 512 + win0_10.xsize (grid0.coords t) 0
    rw [hi.2.2.2.1, hx.1]
    omega
  | ⟨1, _⟩ =>
    show win0_10.index t 1 * 128 ≤ (i 1 : Nat) ∧ (i 1 : Nat) < win0_10.index t 1 * 128 + win0_10.xsize (grid0.coords t) 1
    rw [hi.2.2.2.2, hx.2]
    omega

theorem final_10 (c : Dev nD) : (dats m 0 c).arrAt 10 cfg0.N = (flat (valF m c) : Buf (Elt Ideal) ((c : Thread nD τ).loc main_v50_4)) :=
  (dats m 0 c).arrAt_eq_of_cover 10 _ (flushed_10 m c) fun (i : S16896x128.Idx) =>
    have h0 : (i 0 : Nat) < 16896 := (i 0).isLt
    have ht : (i 0 : Nat) / 512 < cfg0.N := by show _ < 33; omega
    ⟨⟨(i 0 : Nat) / 512, ht⟩, flush_all_10 _, covers_10 _ i rfl⟩

end Cert.Proj

end
-- ==== Proof.ProjTail.lean ====
/- What the projection returns: its flat arrays, and the window buffers the host makes of them. -/
module

public import proofs.«01_k».proof.Proof.ProjFinal

@[expose] public section

noncomputable section

namespace Cert.Proj

open Cert.Kernel3Ideal Cert.Kernel3Ideal.Gen
open Idealize.ShloMosaic hiding ix1 ix2 ix3 ix4 ix5 eq_ix2
open Idealize.ShloMosaic.TcCoe Idealize.SL.Sem Idealize.ShloMosaic.ValueIdx

/-! ## The windows of a flat array -/

theorem windowP_of (g : Nat → Nat → EReal) :
    broadcastInDim S1x8x128x2x64 ![1, 2, 3, 4] bcast_S8x128x2x64_S1x8x128x2x64_1_2_3_4
      (extractStridedSlice S8x128x2x64 ![0, 1920, 0, 0]
        (shapeCast S8x2048x2x64 (extractStridedSlice S16384x128 ![0, 0] (flat g : FVec Ideal S16896x128 .f32) slices_S16896x128_S16384x128_0_0)
          shapeCasts_S16384x128_S8x2048x2x64) slices_S8x2048x2x64_S8x128x2x64_0_1920_0_0)
      = windowP g := by
  funext y
  have b1 : (y 1).val < 8 := (y 1).isLt
  have b2 : (y 2).val < 128 := (y 2).isLt
  have b3 : (y 3).val < 2 := (y 3).isLt
  have b4 : (y 4).val < 64 := (y 4).isLt
  refine (broadcastInDim_apply _ _ _ y (ix4 (⟨(y 1).val, b1⟩ : Fin 8) (⟨(y 2).val, b2⟩ : Fin 128) (⟨(y 3).val, b3⟩ : Fin 2) (⟨(y 4).val, b4⟩ : Fin 64))
    (fun a => match a with | ⟨0, _⟩ => rfl | ⟨1, _⟩ => rfl | ⟨2, _⟩ => rfl | ⟨3, _⟩ => rfl)).trans ?_
  refine (extractStridedSlice_apply _ _ _ _
    (ix4 (⟨(y 1).val, b1⟩ : Fin 8) (⟨1920 + (y 2).val, by omega⟩ : Fin 2048) (⟨(y 3).val, b3⟩ : Fin 2) (⟨(y 4).val, b4⟩ : Fin 64))
    (fun a => match a with | ⟨0, _⟩ => (Nat.zero_add _).symm | ⟨1, _⟩ => rfl | ⟨2, _⟩ => (Nat.zero_add _).symm | ⟨3, _⟩ => (Nat.zero_add _).symm)).trans ?_
  refine (shapeCast_apply _ _ _
    (ix2 (⟨2048 * (y 1).val + (1920 + (y 2).val), by omega⟩ : Fin 16384) (⟨64 * (y 3).val + (y 4).val, by omega⟩ : Fin 128)) ?_).trans ?_
  · rw [Shape.rowMajor_val_two, Shape.rowMajor_val_four]
    show (2048 * (y 1).val + (1920 + (y 2).val)) * 128 + (64 * (y 3).val + (y 4).val)
      = (((y 1).val * 2048 + (1920 + (y 2).val)) * 2 + (y 3).val) * 64 + (y 4).val
    omega
  exact extractStridedSlice_apply _ _ _ _
    (ix2 (⟨2048 * (y 1).val + (1920 + (y 2).val), by omega⟩ : Fin 16896) (⟨64 * (y 3).val + (y 4).val, by omega⟩ : Fin 128))
    (fun a => match a with | ⟨0, _⟩ => (Nat.zero_add _).symm | ⟨1, _⟩ => (Nat.zero_add _).symm)

theorem cache_rows (cache : FVec Ideal S1x128x128x2x64 .f32) (p : Fin 128) (s : Fin 128) (h : Fin 2) (d : Fin 64) :
    shapeCast S128x128x2x64 cache shapeCasts_S1x128x128x2x64_S128x128x2x64 (ix4 p s h d) = cache (ix5 (0 : Fin 1) p s h d) := by
  refine shapeCast_apply _ _ _ _ ?_
  rw [Shape.rowMajor_val_four, Shape.rowMajor_val_five]
  show (((0 * 128 + p.val) * 128 + s.val) * 2 + h.val) * 64 + d.val = ((p.val * 128 + s.val) * 2 + h.val) * 64 + d.val
  omega

theorem sample_cells (g : Nat → Nat → EReal) (p : Fin 128) (s : Fin 4) (h : Fin 2) (d : Fin 64) :
    shapeCast S128x4x2x64 (shapeCast S128x4x128
        (extractStridedSlice S512x128 ![16384, 0] (flat g : FVec Ideal S16896x128 .f32) slices_S16896x128_S512x128_16384_0)
        shapeCasts_S512x128_S128x4x128) shapeCasts_S128x4x128_S128x4x2x64 (ix4 p s h d)
      = g (16384 + (4 * p.val + s.val)) (64 * h.val + d.val) := by
  refine (shapeCast_apply _ _ _ (ix3 p s (⟨64 * h.val + d.val, by omega⟩ : Fin 128)) ?_).trans ?_
  · rw [Shape.rowMajor_val_three, Shape.rowMajor_val_four]
    show (p.val * 4 + s.val) * 128 + (64 * h.val + d.val) = ((p.val * 4 + s.val) * 2 + h.val) * 64 + d.val
    omega
  refine (shapeCast_apply _ _ _ (ix2 (⟨4 * p.val + s.val, by omega⟩ : Fin 512) (⟨64 * h.val + d.val, by omega⟩ : Fin 128)) ?_).trans ?_
  · rw [Shape.rowMajor_val_three, Shape.rowMajor_val_two]
    show (4 * p.val + s.val) * 128 + (64 * h.val + d.val) = (p.val * 4 + s.val) * 128 + (64 * h.val + d.val)
    omega
  exact extractStridedSlice_apply _ _ _ _
    (ix2 (⟨16384 + (4 * p.val + s.val), by omega⟩ : Fin 16896) (⟨64 * h.val + d.val, by omega⟩ : Fin 128))
    (fun a => match a with | ⟨0, _⟩ => rfl | ⟨1, _⟩ => (Nat.zero_add _).symm)

/-- A cache of 128 positions with four more, moved on by four. -/
theorem windowS_cat (A : FVec Ideal S128x128x2x64 .f32) (B : FVec Ideal S128x4x2x64 .f32) (cache : FVec Ideal S1x128x128x2x64 .f32)
    (g : Nat → Nat → EReal)
    (hA : ∀ (p s : Fin 128) (h : Fin 2) (d : Fin 64), A (ix4 p s h d) = cache (ix5 (0 : Fin 1) p s h d))
    (hB : ∀ (p : Fin 128) (s : Fin 4) (h : Fin 2) (d : Fin 64), B (ix4 p s h d) = g (16384 + (4 * p.val + s.val)) (64 * h.val + d.val)) :
    broadcastInDim S1x128x128x2x64 ![1, 2, 3, 4] bcast_S128x128x2x64_S1x128x128x2x64_1_2_3_4
      (extractStridedSlice S128x128x2x64 ![0, 4, 0, 0]
        (concatenate S128x132x2x64 1 [⟨S128x128x2x64, A⟩, ⟨S128x4x2x64, B⟩] concatenates_S128x128x2x64_S128x4x2x64_S128x132x2x64_d1)
        slices_S128x132x2x64_S128x128x2x64_0_4_0_0)
      = windowS cache g := by
  funext y
  have b0 : (y 0).val < 1 := (y 0).isLt
  have b1 : (y 1).val < 128 := (y 1).isLt
  have b2 : (y 2).val < 128 := (y 2).isLt
  have b3 : (y 3).val < 2 := (y 3).isLt
  have b4 : (y 4).val < 64 := (y 4).isLt
  refine (broadcastInDim_apply _ _ _ y (ix4 (⟨(y 1).val, b1⟩ : Fin 128) (⟨(y 2).val, b2⟩ : Fin 128) (⟨(y 3).val, b3⟩ : Fin 2) (⟨(y 4).val, b4⟩ : Fin 64))
    (fun a => match a with | ⟨0, _⟩ => rfl | ⟨1, _⟩ => rfl | ⟨2, _⟩ => rfl | ⟨3, _⟩ => rfl)).trans ?_
  refine (extractStridedSlice_apply _ _ _ _
    (ix4 (⟨(y 1).val, b1⟩ : Fin 128) (⟨4 + (y 2).val, by omega⟩ : Fin 132) (⟨(y 3).val, b3⟩ : Fin 2) (⟨(y 4).val, b4⟩ : Fin 64))
    (fun a => match a with | ⟨0, _⟩ => (Nat.zero_add _).symm | ⟨1, _⟩ => rfl | ⟨2, _⟩ => (Nat.zero_add _).symm | ⟨3, _⟩ => (Nat.zero_add _).symm)).trans ?_
  unfold windowS
  by_cases h : (y 2).val < 124
  · rw [dif_pos h]
    refine (concatenate_apply_piece (1 : Fin 4) [⟨S128x128x2x64, A⟩, ⟨S128x4x2x64, B⟩] _
      (ix4 (⟨(y 1).val, b1⟩ : Fin 128) (⟨4 + (y 2).val, by omega⟩ : Fin 132) (⟨(y 3).val, b3⟩ : Fin 2) (⟨(y 4).val, b4⟩ : Fin 64)) 0 (by exact (by decide : 0 < 2)) S128x128x2x64 A rfl rfl 0 rfl
      (ix4 (⟨(y 1).val, b1⟩ : Fin 128) (⟨(y 2).val + 4, by omega⟩ : Fin 128) (⟨(y 3).val, b3⟩ : Fin 2) (⟨(y 4).val, b4⟩ : Fin 64))
      (fun b hb => match b with | ⟨0, _⟩ => rfl | ⟨1, _⟩ => absurd rfl hb | ⟨2, _⟩ => rfl | ⟨3, _⟩ => rfl)
      (by show 0 + ((y 2).val + 4) = 4 + (y 2).val; omega)).trans ((hA _ _ _ _).trans ?_)
    congr 1
    funext a
    apply Fin.ext
    match a with
    | ⟨0, _⟩ => show 0 = (y 0).val; omega
    | ⟨1, _⟩ => rfl
    | ⟨2, _⟩ => rfl
    | ⟨3, _⟩ => rfl
    | ⟨4, _⟩ => rfl
  · rw [dif_neg h]
    refine (concatenate_apply_piece (1 : Fin 4) [⟨S128x128x2x64, A⟩, ⟨S128x4x2x64, B⟩] _
      (ix4 (⟨(y 1).val, b1⟩ : Fin 128) (⟨4 + (y 2).val, by omega⟩ : Fin 132) (⟨(y 3).val, b3⟩ : Fin 2) (⟨(y 4).val, b4⟩ : Fin 64)) 1 (by exact (by decide : 1 < 2)) S128x4x2x64 B rfl rfl 128 rfl
      (ix4 (⟨(y 1).val, b1⟩ : Fin 128) (⟨(y 2).val - 124, by omega⟩ : Fin 4) (⟨(y 3).val, b3⟩ : Fin 2) (⟨(y 4).val, b4⟩ : Fin 64))
      (fun b hb => match b with | ⟨0, _⟩ => rfl | ⟨1, _⟩ => absurd rfl hb | ⟨2, _⟩ => rfl | ⟨3, _⟩ => rfl)
      (by show 128 + ((y 2).val - 124) = 4 + (y 2).val; omega)).trans ?_
    exact hB _ _ _ _

/-! ## The tail of the launch -/

variable (m : (ℓ : Loc nD τ sig) → Buf (Elt Ideal) ℓ)

/-- What the region leaves in a window's array. -/
theorem region_arr (c : Dev nD) (w : Fin 11) :
    Pipeline.withArrays (cfgs 0).spec c (V0 m c) (fun w => (dats m 0 c).arrAt w (cfgs 0).N) (Proc.devRef .tc (Pipeline.arrRef spec0 w))
      = (dats m 0 c).arrAt w (cfgs 0).N :=
  Pipeline.withArrays_arr spec0 (by decide) c _ _ w

abbrev wkOf (c : Dev nD) : Arr ⟨5, ![1, 128, 128, 2, 64]⟩ := m ((c : Thread nD τ).loc main_arg2)
abbrev wvOf (c : Dev nD) : Arr ⟨5, ![1, 128, 128, 2, 64]⟩ := m ((c : Thread nD τ).loc main_arg3)

theorem tail_58 (c : Dev nD) : Pipeline.afterTail₀ cfgs (dats m) 0 (V0 m) [hostOps1] c main_v58
    = (windowP (keyF m c) : Buf (Elt Ideal) ((c : Thread nD τ).loc main_v58)) := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v50_1) = _ from (region_arr m c 7).trans (final_7 m c)]
  exact windowP_of (keyF m c)

theorem tail_62 (c : Dev nD) : Pipeline.afterTail₀ cfgs (dats m) 0 (V0 m) [hostOps1] c main_v62
    = (windowP (valF m c) : Buf (Elt Ideal) ((c : Thread nD τ).loc main_v62)) := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v50_3) = _ from (region_arr m c 9).trans (final_9 m c)]
  exact windowP_of (valF m c)

theorem tail_67 (c : Dev nD) : Pipeline.afterTail₀ cfgs (dats m) 0 (V0 m) [hostOps1] c main_v67
    = (windowS (wkOf m c) (keyF m c) : Buf (Elt Ideal) ((c : Thread nD τ).loc main_v67)) := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v50_1) = _ from (region_arr m c 7).trans (final_7 m c),
    Pipeline.withArrays_of_ne _ c (V0 m c) _ main_arg2 (by exact (by decide : ∀ w, Pipeline.arrRef spec0 w ≠ main_arg2)),
    show V0 m c (Proc.devRef .tc main_arg2) = _ from V_main_arg2 m c]
  exact windowS_cat _ _ _ _ (cache_rows _) (sample_cells _)

theorem tail_72 (c : Dev nD) : Pipeline.afterTail₀ cfgs (dats m) 0 (V0 m) [hostOps1] c main_v72
    = (windowS (wvOf m c) (valF m c) : Buf (Elt Ideal) ((c : Thread nD τ).loc main_v72)) := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v50_3) = _ from (region_arr m c 9).trans (final_9 m c),
    Pipeline.withArrays_of_ne _ c (V0 m c) _ main_arg3 (by exact (by decide : ∀ w, Pipeline.arrRef spec0 w ≠ main_arg3)),
    show V0 m c (Proc.devRef .tc main_arg3) = _ from V_main_arg3 m c]
  exact windowS_cat _ _ _ _ (cache_rows _) (sample_cells _)

end Cert.Proj

end
-- ==== Proof.ProjRef.lean ====
/- The reference's projection read at a row and a column: the same functions as the launch leaves. -/
module

public import proofs.«01_k».proof.Proof.Gen.Reference3Ideal.Run
public import proofs.«01_k».proof.Proof.Gen.Reference3Ideal.Read
public import proofs.«01_k».proof.Proof.ProjTail

@[expose] public section

set_option maxRecDepth 16384

noncomputable section

namespace Cert.Proj.Ref

open Cert.Reference3Ideal Cert.Reference3Ideal.Read
open Idealize.ShloMosaic hiding ix1 ix2 ix3 ix4 ix5 eq_ix2
open Idealize.ShloMosaic.TcCoe Idealize.SL.Sem Idealize.ShloMosaic.ValueIdx

variable (x0 : Arr ⟨3, ![8, 2048, 1024]⟩) (x1 : Arr ⟨3, ![128, 4, 1024]⟩) (x2 x3 : Arr ⟨5, ![1, 128, 128, 2, 64]⟩)
  (x4 : Arr ⟨3, ![1, 1024, 1280]⟩) (x5 : Arr ⟨2, ![1, 1280]⟩)

theorem row_prompt (i : S8x2048x1280.Idx) (k : Fin 1024) : x0 (lidx_main_v3 i k) = row x0 x1 (2048 * (i 0).val + (i 1).val) k := by
  have h0 : (i 0).val < 8 := (i 0).isLt
  have h1 : (i 1).val < 2048 := (i 1).isLt
  unfold row
  rw [if_pos (by omega)]
  refine congrArg x0 (funext fun a => Fin.ext ?_)
  match a with
  | ⟨0, _⟩ => show (i 0).val = (2048 * (i 0).val + (i 1).val) / 2048 % 8; omega
  | ⟨1, _⟩ => show (i 1).val = (2048 * (i 0).val + (i 1).val) % 2048; omega
  | ⟨2, _⟩ => rfl

theorem lin_prompt (i : S8x2048x1280.Idx) : val_main_v6 (F := Ideal) x0 x4 x5 i = lin x0 x1 x4 x5 (2048 * (i 0).val + (i 1).val) (i 2).val := by
  have h2 : (i 2).val < 1280 := (i 2).isLt
  rw [val_main_v6_apply, val_main_v3_apply, val_main_v5_apply, val_main_v4_apply, val_main_v1_apply]
  unfold lin
  refine congrArg₂ (fun a b : EReal => a + b) (Finset.sum_congr rfl fun k _ => ?_) ?_
  · rw [row_prompt x0 x1 i k, val_main_v0_apply]
    refine congrArg (fun a : EReal => row x0 x1 (2048 * (i 0).val + (i 1).val) k * a) (congrArg x4 (funext fun a => Fin.ext ?_))
    have hk : k.val < 1024 := k.isLt
    match a with
    | ⟨0, _⟩ => rfl
    | ⟨1, _⟩ => show (k.val * 1280 + (i 2).val) / 1280 % 1024 = k.val; omega
    | ⟨2, _⟩ => show (k.val * 1280 + (i 2).val) % 1280 = (i 2).val % 1280; omega
  · refine congrArg x5 (funext fun a => Fin.ext ?_)
    match a with
    | ⟨0, _⟩ => rfl
    | ⟨1, _⟩ => show (i 2).val % 1280 = (i 2).val % 1280; rfl

theorem q_prompt (i : S8x2048x16x64.Idx) :
    val_main_v10 (F := Ideal) x0 x4 x5 i = lin x0 x1 x4 x5 (2048 * (i 0).val + (i 1).val) (64 * (i 2).val + (i 3).val) := by
  have h0 : (i 0).val < 8 := (i 0).isLt
  have h1 : (i 1).val < 2048 := (i 1).isLt
  have h2 : (i 2).val < 16 := (i 2).isLt
  have h3 : (i 3).val < 64 := (i 3).isLt
  rw [val_main_v10_apply, val_main_v7_apply, lin_prompt x0 x1 x4 x5]
  refine congrArg₂ (lin x0 x1 x4 x5) ?_ ?_
  · show 2048 * (((((i 0).val * 2048 + (i 1).val) * 16 + (i 2).val) * 64 + (i 3).val) / 2097152) + (((((i 0).val * 2048 + (i 1).val) * 16 + (i 2).val) * 64 + (i 3).val) / 1024 % 2048) = 2048 * (i 0).val + (i 1).val
    omega
  · show ((((i 0).val * 2048 + (i 1).val) * 16 + (i 2).val) * 64 + (i 3).val) % 1024 = 64 * (i 2).val + (i 3).val
    omega

theorem k_prompt (i : S8x2048x2x64.Idx) :
    val_main_v42 (F := Ideal) x0 x4 x5 i = lin x0 x1 x4 x5 (2048 * (i 0).val + (i 1).val) (1024 + (64 * (i 2).val + (i 3).val)) := by
  have h0 : (i 0).val < 8 := (i 0).isLt
  have h1 : (i 1).val < 2048 := (i 1).isLt
  have h2 : (i 2).val < 2 := (i 2).isLt
  have h3 : (i 3).val < 64 := (i 3).isLt
  rw [val_main_v42_apply, val_main_v8_apply, lin_prompt x0 x1 x4 x5]
  refine congrArg₂ (lin x0 x1 x4 x5) ?_ ?_
  · show 2048 * (((((i 0).val * 2048 + (i 1).val) * 2 + (i 2).val) * 64 + (i 3).val) / 262144) + (((((i 0).val * 2048 + (i 1).val) * 2 + (i 2).val) * 64 + (i 3).val) / 128 % 2048) = 2048 * (i 0).val + (i 1).val
    omega
  · show 1024 + ((((i 0).val * 2048 + (i 1).val) * 2 + (i 2).val) * 64 + (i 3).val) % 128 = 1024 + (64 * (i 2).val + (i 3).val)
    omega

theorem v_prompt (i : S8x2048x2x64.Idx) :
    val_main_v74 (F := Ideal) x0 x4 x5 i = lin x0 x1 x4 x5 (2048 * (i 0).val + (i 1).val) (1152 + (64 * (i 2).val + (i 3).val)) := by
  have h0 : (i 0).val < 8 := (i 0).isLt
  have h1 : (i 1).val < 2048 := (i 1).isLt
  have h2 : (i 2).val < 2 := (i 2).isLt
  have h3 : (i 3).val < 64 := (i 3).isLt
  rw [val_main_v74_apply, val_main_v9_apply, lin_prompt x0 x1 x4 x5]
  refine congrArg₂ (lin x0 x1 x4 x5) ?_ ?_
  · show 2048 * (((((i 0).val * 2048 + (i 1).val) * 2 + (i 2).val) * 64 + (i 3).val) / 262144) + (((((i 0).val * 2048 + (i 1).val) * 2 + (i 2).val) * 64 + (i 3).val) / 128 % 2048) = 2048 * (i 0).val + (i 1).val
    omega
  · show 1152 + ((((i 0).val * 2048 + (i 1).val) * 2 + (i 2).val) * 64 + (i 3).val) % 128 = 1152 + (64 * (i 2).val + (i 3).val)
    omega

theorem angle_q_prompt (i : S2048x32.Idx) : val_main_v20 (F := Ideal) i = angle (BitVec.ofNat 32 (i 0).val) (i 1).val := by
  rw [val_main_v20_apply, val_main_v18_apply, val_main_v19_apply, val_main_v16_apply, val_main_v17_apply, val_main_v15_apply, val_main_v14_apply, val_main_v13_apply, val_main_v12_apply, val_main_cst_apply, val_main_v2_apply]
  rfl

theorem low_q_prompt (i : S8x2048x16x32.Idx) : val_main_v33 (F := Ideal) x0 x4 x5 i
    = lin x0 x1 x4 x5 (2048 * (i 0).val + (i 1).val) (64 * (i 2).val + (i 3).val) * cosOf (BitVec.ofNat 32 (i 1).val) (i 3).val
      - lin x0 x1 x4 x5 (2048 * (i 0).val + (i 1).val) ((64 * (i 2).val + (i 3).val) + 32) * sinOf (BitVec.ofNat 32 (i 1).val) (i 3).val := by
  rw [val_main_v33_apply, val_main_v29_apply, val_main_v32_apply, val_main_v25_apply, val_main_v26_apply, val_main_v28_apply, val_main_v27_apply, val_main_v22_apply, val_main_v21_apply,
    val_main_v31_apply, val_main_v30_apply, val_main_v24_apply, val_main_v23_apply, angle_q_prompt, q_prompt x0 x1 x4 x5, q_prompt x0 x1 x4 x5]
  refine congrArg₂ (fun a b : EReal => a - b) rfl (congrArg (fun a : EReal => a * _) (congrArg (lin x0 x1 x4 x5 (2048 * (i 0).val + (i 1).val)) ?_))
  show (64 * (i 2).val + (32 + (i 3).val)) = (64 * (i 2).val + (i 3).val) + 32
  omega

theorem high_q_prompt (i : S8x2048x16x32.Idx) : val_main_v40 (F := Ideal) x0 x4 x5 i
    = lin x0 x1 x4 x5 (2048 * (i 0).val + (i 1).val) (64 * (i 2).val + (i 3).val) * sinOf (BitVec.ofNat 32 (i 1).val) (i 3).val
      + lin x0 x1 x4 x5 (2048 * (i 0).val + (i 1).val) ((64 * (i 2).val + (i 3).val) + 32) * cosOf (BitVec.ofNat 32 (i 1).val) (i 3).val := by
  rw [val_main_v40_apply, val_main_v36_apply, val_main_v39_apply, val_main_v25_apply, val_main_v26_apply, val_main_v35_apply, val_main_v34_apply, val_main_v24_apply, val_main_v23_apply,
    val_main_v38_apply, val_main_v37_apply, val_main_v22_apply, val_main_v21_apply, angle_q_prompt, q_prompt x0 x1 x4 x5, q_prompt x0 x1 x4 x5]
  refine congrArg₂ (fun a b : EReal => a + b) rfl (congrArg (fun a : EReal => a * _) (congrArg (lin x0 x1 x4 x5 (2048 * (i 0).val + (i 1).val)) ?_))
  show (64 * (i 2).val + (32 + (i 3).val)) = (64 * (i 2).val + (i 3).val) + 32
  omega

theorem turned_q_prompt (i : S8x2048x16x64.Idx) :
    val_main_v41 (F := Ideal) x0 x4 x5 i = turned x0 x1 x4 x5 (2048 * (i 0).val + (i 1).val) (64 * (i 2).val + (i 3).val) := by
  have h0 : (i 0).val < 8 := (i 0).isLt
  have h1 : (i 1).val < 2048 := (i 1).isLt
  have h2 : (i 2).val < 16 := (i 2).isLt
  have h3 : (i 3).val < 64 := (i 3).isLt
  have hp : pos (2048 * (i 0).val + (i 1).val) = BitVec.ofNat 32 (i 1).val := by
    unfold pos
    rw [if_pos (by omega)]
    refine congrArg (BitVec.ofNat 32) ?_
    omega
  have hc : (64 * (i 2).val + (i 3).val) % 64 = (i 3).val := by omega
  unfold turned
  rw [hp, hc]
  by_cases hd : (i 3).val < 32
  · have hm : (64 * (i 2).val + (i 3).val) % 32 = (i 3).val := by omega
    rw [if_pos hd, hm]
    unfold val_main_v41
    exact (concatenate_apply_piece (3 : Fin 4) [⟨S8x2048x16x32, val_main_v33 (F := Ideal) x0 x4 x5⟩, ⟨S8x2048x16x32, val_main_v40 (F := Ideal) x0 x4 x5⟩] _ i
      0 (by exact (by decide : 0 < 2)) S8x2048x16x32 (val_main_v33 (F := Ideal) x0 x4 x5) rfl rfl 0 rfl
      (ix4 (⟨(i 0).val, h0⟩ : Fin 8) (⟨(i 1).val, h1⟩ : Fin 2048) (⟨(i 2).val, h2⟩ : Fin 16) (⟨(i 3).val, hd⟩ : Fin 32))
      (fun b hb => match b with | ⟨0, _⟩ => rfl | ⟨1, _⟩ => rfl | ⟨2, _⟩ => rfl | ⟨3, _⟩ => absurd rfl hb)
      (by show 0 + (i 3).val = (i 3).val; omega)).trans (low_q_prompt x0 x1 x4 x5 _)
  · have hm : (64 * (i 2).val + (i 3).val) % 32 = (i 3).val - 32 := by omega
    have hl : (64 * (i 2).val + (i 3).val) - 32 = (64 * (i 2).val + ((i 3).val - 32)) := by omega
    have hh : (64 * (i 2).val + ((i 3).val - 32)) + 32 = (64 * (i 2).val + (i 3).val) := by omega
    rw [if_neg hd, hm, hl]
    unfold val_main_v41
    refine (concatenate_apply_piece (3 : Fin 4) [⟨S8x2048x16x32, val_main_v33 (F := Ideal) x0 x4 x5⟩, ⟨S8x2048x16x32, val_main_v40 (F := Ideal) x0 x4 x5⟩] _ i
      1 (by exact (by decide : 1 < 2)) S8x2048x16x32 (val_main_v40 (F := Ideal) x0 x4 x5) rfl rfl 32 rfl
      (ix4 (⟨(i 0).val, h0⟩ : Fin 8) (⟨(i 1).val, h1⟩ : Fin 2048) (⟨(i 2).val, h2⟩ : Fin 16) (⟨(i 3).val - 32, by omega⟩ : Fin 32))
      (fun b hb => match b with | ⟨0, _⟩ => rfl | ⟨1, _⟩ => rfl | ⟨2, _⟩ => rfl | ⟨3, _⟩ => absurd rfl hb)
      (by show 32 + ((i 3).val - 32) = (i 3).val; omega)).trans ((high_q_prompt x0 x1 x4 x5 _).trans ?_)
    show lin x0 x1 x4 x5 (2048 * (i 0).val + (i 1).val) ((64 * (i 2).val + ((i 3).val - 32))) * sinOf (BitVec.ofNat 32 (i 1).val) ((i 3).val - 32)
        + lin x0 x1 x4 x5 (2048 * (i 0).val + (i 1).val) ((64 * (i 2).val + ((i 3).val - 32)) + 32) * cosOf (BitVec.ofNat 32 (i 1).val) ((i 3).val - 32) = _
    rw [hh]

theorem angle_k_prompt (i : S2048x32.Idx) : val_main_v52 (F := Ideal) i = angle (BitVec.ofNat 32 (i 0).val) (i 1).val := by
  rw [val_main_v52_apply, val_main_v50_apply, val_main_v51_apply, val_main_v48_apply, val_main_v49_apply, val_main_v47_apply, val_main_v46_apply, val_main_v45_apply, val_main_v44_apply, val_main_cst_0_apply, val_main_v2_apply]
  rfl

theorem low_k_prompt (i : S8x2048x2x32.Idx) : val_main_v65 (F := Ideal) x0 x4 x5 i
    = lin x0 x1 x4 x5 (2048 * (i 0).val + (i 1).val) (1024 + (64 * (i 2).val + (i 3).val)) * cosOf (BitVec.ofNat 32 (i 1).val) (i 3).val
      - lin x0 x1 x4 x5 (2048 * (i 0).val + (i 1).val) ((1024 + (64 * (i 2).val + (i 3).val)) + 32) * sinOf (BitVec.ofNat 32 (i 1).val) (i 3).val := by
  rw [val_main_v65_apply, val_main_v61_apply, val_main_v64_apply, val_main_v57_apply, val_main_v58_apply, val_main_v60_apply, val_main_v59_apply, val_main_v54_apply, val_main_v53_apply,
    val_main_v63_apply, val_main_v62_apply, val_main_v56_apply, val_main_v55_apply, angle_k_prompt, k_prompt x0 x1 x4 x5, k_prompt x0 x1 x4 x5]
  refine congrArg₂ (fun a b : EReal => a - b) rfl (congrArg (fun a : EReal => a * _) (congrArg (lin x0 x1 x4 x5 (2048 * (i 0).val + (i 1).val)) ?_))
  show 1024 + (64 * (i 2).val + (32 + (i 3).val)) = (1024 + (64 * (i 2).val + (i 3).val)) + 32
  omega

theorem high_k_prompt (i : S8x2048x2x32.Idx) : val_main_v72 (F := Ideal) x0 x4 x5 i
    = lin x0 x1 x4 x5 (2048 * (i 0).val + (i 1).val) (1024 + (64 * (i 2).val + (i 3).val)) * sinOf (BitVec.ofNat 32 (i 1).val) (i 3).val
      + lin x0 x1 x4 x5 (2048 * (i 0).val + (i 1).val) ((1024 + (64 * (i 2).val + (i 3).val)) + 32) * cosOf (BitVec.ofNat 32 (i 1).val) (i 3).val := by
  rw [val_main_v72_apply, val_main_v68_apply, val_main_v71_apply, val_main_v57_apply, val_main_v58_apply, val_main_v67_apply, val_main_v66_apply, val_main_v56_apply, val_main_v55_apply,
    val_main_v70_apply, val_main_v69_apply, val_main_v54_apply, val_main_v53_apply, angle_k_prompt, k_prompt x0 x1 x4 x5, k_prompt x0 x1 x4 x5]
  refine congrArg₂ (fun a b : EReal => a + b) rfl (congrArg (fun a : EReal => a * _) (congrArg (lin x0 x1 x4 x5 (2048 * (i 0).val + (i 1).val)) ?_))
  show 1024 + (64 * (i 2).val + (32 + (i 3).val)) = (1024 + (64 * (i 2).val + (i 3).val)) + 32
  omega

theorem turned_k_prompt (i : S8x2048x2x64.Idx) :
    val_main_v73 (F := Ideal) x0 x4 x5 i = turned x0 x1 x4 x5 (2048 * (i 0).val + (i 1).val) (1024 + (64 * (i 2).val + (i 3).val)) := by
  have h0 : (i 0).val < 8 := (i 0).isLt
  have h1 : (i 1).val < 2048 := (i 1).isLt
  have h2 : (i 2).val < 2 := (i 2).isLt
  have h3 : (i 3).val < 64 := (i 3).isLt
  have hp : pos (2048 * (i 0).val + (i 1).val) = BitVec.ofNat 32 (i 1).val := by
    unfold pos
    rw [if_pos (by omega)]
    refine congrArg (BitVec.ofNat 32) ?_
    omega
  have hc : (1024 + (64 * (i 2).val + (i 3).val)) % 64 = (i 3).val := by omega
  unfold turned
  rw [hp, hc]
  by_cases hd : (i 3).val < 32
  · have hm : (1024 + (64 * (i 2).val + (i 3).val)) % 32 = (i 3).val := by omega
    rw [if_pos hd, hm]
    unfold val_main_v73
    exact (concatenate_apply_piece (3 : Fin 4) [⟨S8x2048x2x32, val_main_v65 (F := Ideal) x0 x4 x5⟩, ⟨S8x2048x2x32, val_main_v72 (F := Ideal) x0 x4 x5⟩] _ i
      0 (by exact (by decide : 0 < 2)) S8x2048x2x32 (val_main_v65 (F := Ideal) x0 x4 x5) rfl rfl 0 rfl
      (ix4 (⟨(i 0).val, h0⟩ : Fin 8) (⟨(i 1).val, h1⟩ : Fin 2048) (⟨(i 2).val, h2⟩ : Fin 2) (⟨(i 3).val, hd⟩ : Fin 32))
      (fun b hb => match b with | ⟨0, _⟩ => rfl | ⟨1, _⟩ => rfl | ⟨2, _⟩ => rfl | ⟨3, _⟩ => absurd rfl hb)
      (by show 0 + (i 3).val = (i 3).val; omega)).trans (low_k_prompt x0 x1 x4 x5 _)
  · have hm : (1024 + (64 * (i 2).val + (i 3).val)) % 32 = (i 3).val - 32 := by omega
    have hl : (1024 + (64 * (i 2).val + (i 3).val)) - 32 = 1024 + (64 * (i 2).val + ((i 3).val - 32)) := by omega
    have hh : 1024 + (64 * (i 2).val + ((i 3).val - 32)) + 32 = (1024 + (64 * (i 2).val + (i 3).val)) := by omega
    rw [if_neg hd, hm, hl]
    unfold val_main_v73
    refine (concatenate_apply_piece (3 : Fin 4) [⟨S8x2048x2x32, val_main_v65 (F := Ideal) x0 x4 x5⟩, ⟨S8x2048x2x32, val_main_v72 (F := Ideal) x0 x4 x5⟩] _ i
      1 (by exact (by decide : 1 < 2)) S8x2048x2x32 (val_main_v72 (F := Ideal) x0 x4 x5) rfl rfl 32 rfl
      (ix4 (⟨(i 0).val, h0⟩ : Fin 8) (⟨(i 1).val, h1⟩ : Fin 2048) (⟨(i 2).val, h2⟩ : Fin 2) (⟨(i 3).val - 32, by omega⟩ : Fin 32))
      (fun b hb => match b with | ⟨0, _⟩ => rfl | ⟨1, _⟩ => rfl | ⟨2, _⟩ => rfl | ⟨3, _⟩ => absurd rfl hb)
      (by show 32 + ((i 3).val - 32) = (i 3).val; omega)).trans ((high_k_prompt x0 x1 x4 x5 _).trans ?_)
    show lin x0 x1 x4 x5 (2048 * (i 0).val + (i 1).val) (1024 + (64 * (i 2).val + ((i 3).val - 32))) * sinOf (BitVec.ofNat 32 (i 1).val) ((i 3).val - 32)
        + lin x0 x1 x4 x5 (2048 * (i 0).val + (i 1).val) (1024 + (64 * (i 2).val + ((i 3).val - 32)) + 32) * cosOf (BitVec.ofNat 32 (i 1).val) ((i 3).val - 32) = _
    rw [hh]

theorem scaled_prompt (i : S16384x2x8x64.Idx) :
    val_main_v154 (F := Ideal) x0 x4 x5 i = turned x0 x1 x4 x5 (i 0).val (64 * (8 * (i 1).val + (i 2).val) + (i 3).val) * scale := by
  have h0 : (i 0).val < 16384 := (i 0).isLt
  have h1 : (i 1).val < 2 := (i 1).isLt
  have h2 : (i 2).val < 8 := (i 2).isLt
  have h3 : (i 3).val < 64 := (i 3).isLt
  rw [val_main_v154_apply, val_main_v153_apply, val_main_v152_apply, val_main_cst_3_apply, turned_q_prompt x0 x1 x4 x5]
  refine congrArg (fun a : EReal => a * scale) (congrArg₂ (turned x0 x1 x4 x5) ?_ ?_)
  · show 2048 * (((((i 0).val * 2 + (i 1).val) * 8 + (i 2).val) * 64 + (i 3).val) / 2097152) + (((((i 0).val * 2 + (i 1).val) * 8 + (i 2).val) * 64 + (i 3).val) / 1024 % 2048) = (i 0).val
    omega
  · show 64 * (((((i 0).val * 2 + (i 1).val) * 8 + (i 2).val) * 64 + (i 3).val) / 64 % 16) + ((((i 0).val * 2 + (i 1).val) * 8 + (i 2).val) * 64 + (i 3).val) % 64 = 64 * (8 * (i 1).val + (i 2).val) + (i 3).val
    omega

theorem queries_prompt (i : S16384x1024.Idx) : val_main_v156 (F := Ideal) x0 x4 x5 i = query x0 x1 x4 x5 (i 0).val (i 1).val := by
  have h0 : (i 0).val < 16384 := (i 0).isLt
  have h1 : (i 1).val < 1024 := (i 1).isLt
  rw [val_main_v156_apply, val_main_v155_apply, scaled_prompt x0 x1 x4 x5]
  unfold query headCol
  refine congrArg (fun a : EReal => a * scale) (congrArg₂ (turned x0 x1 x4 x5) ?_ ?_)
  · show ((i 0).val * 1024 + (i 1).val) / 1024 = (i 0).val
    omega
  · show 64 * (8 * (((i 0).val * 1024 + (i 1).val) / 64 % 2) + ((i 0).val * 1024 + (i 1).val) / 128 % 8) + ((i 0).val * 1024 + (i 1).val) % 64
      = 64 * (8 * ((i 1).val / 64 % 2) + (i 1).val / 128) + (i 1).val % 64
    omega

theorem keys_prompt (i : S16384x128.Idx) : val_main_v163 (F := Ideal) x0 x4 x5 i = key x0 x1 x4 x5 (i 0).val (i 1).val := by
  have h0 : (i 0).val < 16384 := (i 0).isLt
  have h1 : (i 1).val < 128 := (i 1).isLt
  rw [val_main_v163_apply, turned_k_prompt x0 x1 x4 x5]
  unfold key
  refine congrArg₂ (turned x0 x1 x4 x5) ?_ ?_
  · show 2048 * (((i 0).val * 128 + (i 1).val) / 262144) + (((i 0).val * 128 + (i 1).val) / 128 % 2048) = (i 0).val
    omega
  · show 1024 + (64 * (((i 0).val * 128 + (i 1).val) / 64 % 2) + ((i 0).val * 128 + (i 1).val) % 64) = 1024 + (i 1).val
    omega

theorem vals_prompt (i : S16384x128.Idx) : val_main_v166 (F := Ideal) x0 x4 x5 i = val x0 x1 x4 x5 (i 0).val (i 1).val := by
  have h0 : (i 0).val < 16384 := (i 0).isLt
  have h1 : (i 1).val < 128 := (i 1).isLt
  rw [val_main_v166_apply, v_prompt x0 x1 x4 x5]
  unfold val
  refine congrArg₂ (lin x0 x1 x4 x5) ?_ ?_
  · show 2048 * (((i 0).val * 128 + (i 1).val) / 262144) + (((i 0).val * 128 + (i 1).val) / 128 % 2048) = (i 0).val
    omega
  · show 1152 + (64 * (((i 0).val * 128 + (i 1).val) / 64 % 2) + ((i 0).val * 128 + (i 1).val) % 64) = 1152 + (i 1).val
    omega

theorem row_sample (i : S128x4x1280.Idx) (k : Fin 1024) : x1 (lidx_main_v80 i k) = row x0 x1 (16384 + (4 * (i 0).val + (i 1).val)) k := by
  have h0 : (i 0).val < 128 := (i 0).isLt
  have h1 : (i 1).val < 4 := (i 1).isLt
  unfold row
  rw [if_neg (by omega)]
  refine congrArg x1 (funext fun a => Fin.ext ?_)
  match a with
  | ⟨0, _⟩ => show (i 0).val = (16384 + (4 * (i 0).val + (i 1).val) - 16384) / 4 % 128; omega
  | ⟨1, _⟩ => show (i 1).val = (16384 + (4 * (i 0).val + (i 1).val) - 16384) % 4; omega
  | ⟨2, _⟩ => rfl

theorem lin_sample (i : S128x4x1280.Idx) : val_main_v83 (F := Ideal) x1 x4 x5 i = lin x0 x1 x4 x5 (16384 + (4 * (i 0).val + (i 1).val)) (i 2).val := by
  have h2 : (i 2).val < 1280 := (i 2).isLt
  rw [val_main_v83_apply, val_main_v80_apply, val_main_v82_apply, val_main_v81_apply, val_main_v76_apply]
  unfold lin
  refine congrArg₂ (fun a b : EReal => a + b) (Finset.sum_congr rfl fun k _ => ?_) ?_
  · rw [row_sample x0 x1 i k, val_main_v75_apply]
    refine congrArg (fun a : EReal => row x0 x1 (16384 + (4 * (i 0).val + (i 1).val)) k * a) (congrArg x4 (funext fun a => Fin.ext ?_))
    have hk : k.val < 1024 := k.isLt
    match a with
    | ⟨0, _⟩ => rfl
    | ⟨1, _⟩ => show (k.val * 1280 + (i 2).val) / 1280 % 1024 = k.val; omega
    | ⟨2, _⟩ => show (k.val * 1280 + (i 2).val) % 1280 = (i 2).val % 1280; omega
  · refine congrArg x5 (funext fun a => Fin.ext ?_)
    match a with
    | ⟨0, _⟩ => rfl
    | ⟨1, _⟩ => show (i 2).val % 1280 = (i 2).val % 1280; rfl

theorem q_sample (i : S128x4x16x64.Idx) :
    val_main_v87 (F := Ideal) x1 x4 x5 i = lin x0 x1 x4 x5 (16384 + (4 * (i 0).val + (i 1).val)) (64 * (i 2).val + (i 3).val) := by
  have h0 : (i 0).val < 128 := (i 0).isLt
  have h1 : (i 1).val < 4 := (i 1).isLt
  have h2 : (i 2).val < 16 := (i 2).isLt
  have h3 : (i 3).val < 64 := (i 3).isLt
  rw [val_main_v87_apply, val_main_v84_apply, lin_sample x0 x1 x4 x5]
  refine congrArg₂ (lin x0 x1 x4 x5) ?_ ?_
  · show 16384 + (4 * (((((i 0).val * 4 + (i 1).val) * 16 + (i 2).val) * 64 + (i 3).val) / 4096) + (((((i 0).val * 4 + (i 1).val) * 16 + (i 2).val) * 64 + (i 3).val) / 1024 % 4)) = 16384 + (4 * (i 0).val + (i 1).val)
    omega
  · show ((((i 0).val * 4 + (i 1).val) * 16 + (i 2).val) * 64 + (i 3).val) % 1024 = 64 * (i 2).val + (i 3).val
    omega

theorem k_sample (i : S128x4x2x64.Idx) :
    val_main_v119 (F := Ideal) x1 x4 x5 i = lin x0 x1 x4 x5 (16384 + (4 * (i 0).val + (i 1).val)) (1024 + (64 * (i 2).val + (i 3).val)) := by
  have h0 : (i 0).val < 128 := (i 0).isLt
  have h1 : (i 1).val < 4 := (i 1).isLt
  have h2 : (i 2).val < 2 := (i 2).isLt
  have h3 : (i 3).val < 64 := (i 3).isLt
  rw [val_main_v119_apply, val_main_v85_apply, lin_sample x0 x1 x4 x5]
  refine congrArg₂ (lin x0 x1 x4 x5) ?_ ?_
  · show 16384 + (4 * (((((i 0).val * 4 + (i 1).val) * 2 + (i 2).val) * 64 + (i 3).val) / 512) + (((((i 0).val * 4 + (i 1).val) * 2 + (i 2).val) * 64 + (i 3).val) / 128 % 4)) = 16384 + (4 * (i 0).val + (i 1).val)
    omega
  · show 1024 + ((((i 0).val * 4 + (i 1).val) * 2 + (i 2).val) * 64 + (i 3).val) % 128 = 1024 + (64 * (i 2).val + (i 3).val)
    omega

theorem v_sample (i : S128x4x2x64.Idx) :
    val_main_v151 (F := Ideal) x1 x4 x5 i = lin x0 x1 x4 x5 (16384 + (4 * (i 0).val + (i 1).val)) (1152 + (64 * (i 2).val + (i 3).val)) := by
  have h0 : (i 0).val < 128 := (i 0).isLt
  have h1 : (i 1).val < 4 := (i 1).isLt
  have h2 : (i 2).val < 2 := (i 2).isLt
  have h3 : (i 3).val < 64 := (i 3).isLt
  rw [val_main_v151_apply, val_main_v86_apply, lin_sample x0 x1 x4 x5]
  refine congrArg₂ (lin x0 x1 x4 x5) ?_ ?_
  · show 16384 + (4 * (((((i 0).val * 4 + (i 1).val) * 2 + (i 2).val) * 64 + (i 3).val) / 512) + (((((i 0).val * 4 + (i 1).val) * 2 + (i 2).val) * 64 + (i 3).val) / 128 % 4)) = 16384 + (4 * (i 0).val + (i 1).val)
    omega
  · show 1152 + ((((i 0).val * 4 + (i 1).val) * 2 + (i 2).val) * 64 + (i 3).val) % 128 = 1152 + (64 * (i 2).val + (i 3).val)
    omega

theorem angle_q_sample (i : S4x32.Idx) : val_main_v97 (F := Ideal) i = angle (BitVec.ofNat 32 (8192 + (i 0).val)) (i 1).val := by
  rw [val_main_v97_apply, val_main_v95_apply, val_main_v96_apply, val_main_v93_apply, val_main_v94_apply, val_main_v92_apply, val_main_v91_apply, val_main_v90_apply, val_main_v89_apply, val_main_cst_1_apply, val_main_v79_apply, val_main_v78_apply, val_main_v77_apply, val_main_c_apply]
  rw [BitVec.ofNat_add]
  rfl

theorem low_q_sample (i : S128x4x16x32.Idx) : val_main_v110 (F := Ideal) x1 x4 x5 i
    = lin x0 x1 x4 x5 (16384 + (4 * (i 0).val + (i 1).val)) (64 * (i 2).val + (i 3).val) * cosOf (BitVec.ofNat 32 (8192 + (i 1).val)) (i 3).val
      - lin x0 x1 x4 x5 (16384 + (4 * (i 0).val + (i 1).val)) ((64 * (i 2).val + (i 3).val) + 32) * sinOf (BitVec.ofNat 32 (8192 + (i 1).val)) (i 3).val := by
  rw [val_main_v110_apply, val_main_v106_apply, val_main_v109_apply, val_main_v102_apply, val_main_v103_apply, val_main_v105_apply, val_main_v104_apply, val_main_v99_apply, val_main_v98_apply,
    val_main_v108_apply, val_main_v107_apply, val_main_v101_apply, val_main_v100_apply, angle_q_sample, q_sample x0 x1 x4 x5, q_sample x0 x1 x4 x5]
  refine congrArg₂ (fun a b : EReal => a - b) rfl (congrArg (fun a : EReal => a * _) (congrArg (lin x0 x1 x4 x5 (16384 + (4 * (i 0).val + (i 1).val))) ?_))
  show (64 * (i 2).val + (32 + (i 3).val)) = (64 * (i 2).val + (i 3).val) + 32
  omega

theorem high_q_sample (i : S128x4x16x32.Idx) : val_main_v117 (F := Ideal) x1 x4 x5 i
    = lin x0 x1 x4 x5 (16384 + (4 * (i 0).val + (i 1).val)) (64 * (i 2).val + (i 3).val) * sinOf (BitVec.ofNat 32 (8192 + (i 1).val)) (i 3).val
      + lin x0 x1 x4 x5 (16384 + (4 * (i 0).val + (i 1).val)) ((64 * (i 2).val + (i 3).val) + 32) * cosOf (BitVec.ofNat 32 (8192 + (i 1).val)) (i 3).val := by
  rw [val_main_v117_apply, val_main_v113_apply, val_main_v116_apply, val_main_v102_apply, val_main_v103_apply, val_main_v112_apply, val_main_v111_apply, val_main_v101_apply, val_main_v100_apply,
    val_main_v115_apply, val_main_v114_apply, val_main_v99_apply, val_main_v98_apply, angle_q_sample, q_sample x0 x1 x4 x5, q_sample x0 x1 x4 x5]
  refine congrArg₂ (fun a b : EReal => a + b) rfl (congrArg (fun a : EReal => a * _) (congrArg (lin x0 x1 x4 x5 (16384 + (4 * (i 0).val + (i 1).val))) ?_))
  show (64 * (i 2).val + (32 + (i 3).val)) = (64 * (i 2).val + (i 3).val) + 32
  omega

theorem turned_q_sample (i : S128x4x16x64.Idx) :
    val_main_v118 (F := Ideal) x1 x4 x5 i = turned x0 x1 x4 x5 (16384 + (4 * (i 0).val + (i 1).val)) (64 * (i 2).val + (i 3).val) := by
  have h0 : (i 0).val < 128 := (i 0).isLt
  have h1 : (i 1).val < 4 := (i 1).isLt
  have h2 : (i 2).val < 16 := (i 2).isLt
  have h3 : (i 3).val < 64 := (i 3).isLt
  have hp : pos (16384 + (4 * (i 0).val + (i 1).val)) = BitVec.ofNat 32 (8192 + (i 1).val) := by
    unfold pos
    rw [if_neg (by omega)]
    refine congrArg (BitVec.ofNat 32) ?_
    omega
  have hc : (64 * (i 2).val + (i 3).val) % 64 = (i 3).val := by omega
  unfold turned
  rw [hp, hc]
  by_cases hd : (i 3).val < 32
  · have hm : (64 * (i 2).val + (i 3).val) % 32 = (i 3).val := by omega
    rw [if_pos hd, hm]
    unfold val_main_v118
    exact (concatenate_apply_piece (3 : Fin 4) [⟨S128x4x16x32, val_main_v110 (F := Ideal) x1 x4 x5⟩, ⟨S128x4x16x32, val_main_v117 (F := Ideal) x1 x4 x5⟩] _ i
      0 (by exact (by decide : 0 < 2)) S128x4x16x32 (val_main_v110 (F := Ideal) x1 x4 x5) rfl rfl 0 rfl
      (ix4 (⟨(i 0).val, h0⟩ : Fin 128) (⟨(i 1).val, h1⟩ : Fin 4) (⟨(i 2).val, h2⟩ : Fin 16) (⟨(i 3).val, hd⟩ : Fin 32))
      (fun b hb => match b with | ⟨0, _⟩ => rfl | ⟨1, _⟩ => rfl | ⟨2, _⟩ => rfl | ⟨3, _⟩ => absurd rfl hb)
      (by show 0 + (i 3).val = (i 3).val; omega)).trans (low_q_sample x0 x1 x4 x5 _)
  · have hm : (64 * (i 2).val + (i 3).val) % 32 = (i 3).val - 32 := by omega
    have hl : (64 * (i 2).val + (i 3).val) - 32 = (64 * (i 2).val + ((i 3).val - 32)) := by omega
    have hh : (64 * (i 2).val + ((i 3).val - 32)) + 32 = (64 * (i 2).val + (i 3).val) := by omega
    rw [if_neg hd, hm, hl]
    unfold val_main_v118
    refine (concatenate_apply_piece (3 : Fin 4) [⟨S128x4x16x32, val_main_v110 (F := Ideal) x1 x4 x5⟩, ⟨S128x4x16x32, val_main_v117 (F := Ideal) x1 x4 x5⟩] _ i
      1 (by exact (by decide : 1 < 2)) S128x4x16x32 (val_main_v117 (F := Ideal) x1 x4 x5) rfl rfl 32 rfl
      (ix4 (⟨(i 0).val, h0⟩ : Fin 128) (⟨(i 1).val, h1⟩ : Fin 4) (⟨(i 2).val, h2⟩ : Fin 16) (⟨(i 3).val - 32, by omega⟩ : Fin 32))
      (fun b hb => match b with | ⟨0, _⟩ => rfl | ⟨1, _⟩ => rfl | ⟨2, _⟩ => rfl | ⟨3, _⟩ => absurd rfl hb)
      (by show 32 + ((i 3).val - 32) = (i 3).val; omega)).trans ((high_q_sample x0 x1 x4 x5 _).trans ?_)
    show lin x0 x1 x4 x5 (16384 + (4 * (i 0).val + (i 1).val)) ((64 * (i 2).val + ((i 3).val - 32))) * sinOf (BitVec.ofNat 32 (8192 + (i 1).val)) ((i 3).val - 32)
        + lin x0 x1 x4 x5 (16384 + (4 * (i 0).val + (i 1).val)) ((64 * (i 2).val + ((i 3).val - 32)) + 32) * cosOf (BitVec.ofNat 32 (8192 + (i 1).val)) ((i 3).val - 32) = _
    rw [hh]

theorem angle_k_sample (i : S4x32.Idx) : val_main_v129 (F := Ideal) i = angle (BitVec.ofNat 32 (8192 + (i 0).val)) (i 1).val := by
  rw [val_main_v129_apply, val_main_v127_apply, val_main_v128_apply, val_main_v125_apply, val_main_v126_apply, val_main_v124_apply, val_main_v123_apply, val_main_v122_apply, val_main_v121_apply, val_main_cst_2_apply, val_main_v79_apply, val_main_v78_apply, val_main_v77_apply, val_main_c_apply]
  rw [BitVec.ofNat_add]
  rfl

theorem low_k_sample (i : S128x4x2x32.Idx) : val_main_v142 (F := Ideal) x1 x4 x5 i
    = lin x0 x1 x4 x5 (16384 + (4 * (i 0).val + (i 1).val)) (1024 + (64 * (i 2).val + (i 3).val)) * cosOf (BitVec.ofNat 32 (8192 + (i 1).val)) (i 3).val
      - lin x0 x1 x4 x5 (16384 + (4 * (i 0).val + (i 1).val)) ((1024 + (64 * (i 2).val + (i 3).val)) + 32) * sinOf (BitVec.ofNat 32 (8192 + (i 1).val)) (i 3).val := by
  rw [val_main_v142_apply, val_main_v138_apply, val_main_v141_apply, val_main_v134_apply, val_main_v135_apply, val_main_v137_apply, val_main_v136_apply, val_main_v131_apply, val_main_v130_apply,
    val_main_v140_apply, val_main_v139_apply, val_main_v133_apply, val_main_v132_apply, angle_k_sample, k_sample x0 x1 x4 x5, k_sample x0 x1 x4 x5]
  refine congrArg₂ (fun a b : EReal => a - b) rfl (congrArg (fun a : EReal => a * _) (congrArg (lin x0 x1 x4 x5 (16384 + (4 * (i 0).val + (i 1).val))) ?_))
  show 1024 + (64 * (i 2).val + (32 + (i 3).val)) = (1024 + (64 * (i 2).val + (i 3).val)) + 32
  omega

theorem high_k_sample (i : S128x4x2x32.Idx) : val_main_v149 (F := Ideal) x1 x4 x5 i
    = lin x0 x1 x4 x5 (16384 + (4 * (i 0).val + (i 1).val)) (1024 + (64 * (i 2).val + (i 3).val)) * sinOf (BitVec.ofNat 32 (8192 + (i 1).val)) (i 3).val
      + lin x0 x1 x4 x5 (16384 + (4 * (i 0).val + (i 1).val)) ((1024 + (64 * (i 2).val + (i 3).val)) + 32) * cosOf (BitVec.ofNat 32 (8192 + (i 1).val)) (i 3).val := by
  rw [val_main_v149_apply, val_main_v145_apply, val_main_v148_apply, val_main_v134_apply, val_main_v135_apply, val_main_v144_apply, val_main_v143_apply, val_main_v133_apply, val_main_v132_apply,
    val_main_v147_apply, val_main_v146_apply, val_main_v131_apply, val_main_v130_apply, angle_k_sample, k_sample x0 x1 x4 x5, k_sample x0 x1 x4 x5]
  refine congrArg₂ (fun a b : EReal => a + b) rfl (congrArg (fun a : EReal => a * _) (congrArg (lin x0 x1 x4 x5 (16384 + (4 * (i 0).val + (i 1).val))) ?_))
  show 1024 + (64 * (i 2).val + (32 + (i 3).val)) = (1024 + (64 * (i 2).val + (i 3).val)) + 32
  omega

theorem turned_k_sample (i : S128x4x2x64.Idx) :
    val_main_v150 (F := Ideal) x1 x4 x5 i = turned x0 x1 x4 x5 (16384 + (4 * (i 0).val + (i 1).val)) (1024 + (64 * (i 2).val + (i 3).val)) := by
  have h0 : (i 0).val < 128 := (i 0).isLt
  have h1 : (i 1).val < 4 := (i 1).isLt
  have h2 : (i 2).val < 2 := (i 2).isLt
  have h3 : (i 3).val < 64 := (i 3).isLt
  have hp : pos (16384 + (4 * (i 0).val + (i 1).val)) = BitVec.ofNat 32 (8192 + (i 1).val) := by
    unfold pos
    rw [if_neg (by omega)]
    refine congrArg (BitVec.ofNat 32) ?_
    omega
  have hc : (1024 + (64 * (i 2).val + (i 3).val)) % 64 = (i 3).val := by omega
  unfold turned
  rw [hp, hc]
  by_cases hd : (i 3).val < 32
  · have hm : (1024 + (64 * (i 2).val + (i 3).val)) % 32 = (i 3).val := by omega
    rw [if_pos hd, hm]
    unfold val_main_v150
    exact (concatenate_apply_piece (3 : Fin 4) [⟨S128x4x2x32, val_main_v142 (F := Ideal) x1 x4 x5⟩, ⟨S128x4x2x32, val_main_v149 (F := Ideal) x1 x4 x5⟩] _ i
      0 (by exact (by decide : 0 < 2)) S128x4x2x32 (val_main_v142 (F := Ideal) x1 x4 x5) rfl rfl 0 rfl
      (ix4 (⟨(i 0).val, h0⟩ : Fin 128) (⟨(i 1).val, h1⟩ : Fin 4) (⟨(i 2).val, h2⟩ : Fin 2) (⟨(i 3).val, hd⟩ : Fin 32))
      (fun b hb => match b with | ⟨0, _⟩ => rfl | ⟨1, _⟩ => rfl | ⟨2, _⟩ => rfl | ⟨3, _⟩ => absurd rfl hb)
      (by show 0 + (i 3).val = (i 3).val; omega)).trans (low_k_sample x0 x1 x4 x5 _)
  · have hm : (1024 + (64 * (i 2).val + (i 3).val)) % 32 = (i 3).val - 32 := by omega
    have hl : (1024 + (64 * (i 2).val + (i 3).val)) - 32 = 1024 + (64 * (i 2).val + ((i 3).val - 32)) := by omega
    have hh : 1024 + (64 * (i 2).val + ((i 3).val - 32)) + 32 = (1024 + (64 * (i 2).val + (i 3).val)) := by omega
    rw [if_neg hd, hm, hl]
    unfold val_main_v150
    refine (concatenate_apply_piece (3 : Fin 4) [⟨S128x4x2x32, val_main_v142 (F := Ideal) x1 x4 x5⟩, ⟨S128x4x2x32, val_main_v149 (F := Ideal) x1 x4 x5⟩] _ i
      1 (by exact (by decide : 1 < 2)) S128x4x2x32 (val_main_v149 (F := Ideal) x1 x4 x5) rfl rfl 32 rfl
      (ix4 (⟨(i 0).val, h0⟩ : Fin 128) (⟨(i 1).val, h1⟩ : Fin 4) (⟨(i 2).val, h2⟩ : Fin 2) (⟨(i 3).val - 32, by omega⟩ : Fin 32))
      (fun b hb => match b with | ⟨0, _⟩ => rfl | ⟨1, _⟩ => rfl | ⟨2, _⟩ => rfl | ⟨3, _⟩ => absurd rfl hb)
      (by show 32 + ((i 3).val - 32) = (i 3).val; omega)).trans ((high_k_sample x0 x1 x4 x5 _).trans ?_)
    show lin x0 x1 x4 x5 (16384 + (4 * (i 0).val + (i 1).val)) (1024 + (64 * (i 2).val + ((i 3).val - 32))) * sinOf (BitVec.ofNat 32 (8192 + (i 1).val)) ((i 3).val - 32)
        + lin x0 x1 x4 x5 (16384 + (4 * (i 0).val + (i 1).val)) (1024 + (64 * (i 2).val + ((i 3).val - 32)) + 32) * cosOf (BitVec.ofNat 32 (8192 + (i 1).val)) ((i 3).val - 32) = _
    rw [hh]

theorem scaled_sample (i : S512x2x8x64.Idx) :
    val_main_v159 (F := Ideal) x1 x4 x5 i = turned x0 x1 x4 x5 (16384 + (i 0).val) (64 * (8 * (i 1).val + (i 2).val) + (i 3).val) * scale := by
  have h0 : (i 0).val < 512 := (i 0).isLt
  have h1 : (i 1).val < 2 := (i 1).isLt
  have h2 : (i 2).val < 8 := (i 2).isLt
  have h3 : (i 3).val < 64 := (i 3).isLt
  rw [val_main_v159_apply, val_main_v158_apply, val_main_v157_apply, val_main_cst_4_apply, turned_q_sample x0 x1 x4 x5]
  refine congrArg (fun a : EReal => a * scale) (congrArg₂ (turned x0 x1 x4 x5) ?_ ?_)
  · show 16384 + (4 * (((((i 0).val * 2 + (i 1).val) * 8 + (i 2).val) * 64 + (i 3).val) / 4096) + (((((i 0).val * 2 + (i 1).val) * 8 + (i 2).val) * 64 + (i 3).val) / 1024 % 4)) = (16384 + (i 0).val)
    omega
  · show 64 * (((((i 0).val * 2 + (i 1).val) * 8 + (i 2).val) * 64 + (i 3).val) / 64 % 16) + ((((i 0).val * 2 + (i 1).val) * 8 + (i 2).val) * 64 + (i 3).val) % 64 = 64 * (8 * (i 1).val + (i 2).val) + (i 3).val
    omega

theorem queries_sample (i : S512x1024.Idx) : val_main_v161 (F := Ideal) x1 x4 x5 i = query x0 x1 x4 x5 (16384 + (i 0).val) (i 1).val := by
  have h0 : (i 0).val < 512 := (i 0).isLt
  have h1 : (i 1).val < 1024 := (i 1).isLt
  rw [val_main_v161_apply, val_main_v160_apply, scaled_sample x0 x1 x4 x5]
  unfold query headCol
  refine congrArg (fun a : EReal => a * scale) (congrArg₂ (turned x0 x1 x4 x5) ?_ ?_)
  · show 16384 + ((i 0).val * 1024 + (i 1).val) / 1024 = (16384 + (i 0).val)
    omega
  · show 64 * (8 * (((i 0).val * 1024 + (i 1).val) / 64 % 2) + ((i 0).val * 1024 + (i 1).val) / 128 % 8) + ((i 0).val * 1024 + (i 1).val) % 64
      = 64 * (8 * ((i 1).val / 64 % 2) + (i 1).val / 128) + (i 1).val % 64
    omega

theorem keys_sample (i : S512x128.Idx) : val_main_v164 (F := Ideal) x1 x4 x5 i = key x0 x1 x4 x5 (16384 + (i 0).val) (i 1).val := by
  have h0 : (i 0).val < 512 := (i 0).isLt
  have h1 : (i 1).val < 128 := (i 1).isLt
  rw [val_main_v164_apply, turned_k_sample x0 x1 x4 x5]
  unfold key
  refine congrArg₂ (turned x0 x1 x4 x5) ?_ ?_
  · show 16384 + (4 * (((i 0).val * 128 + (i 1).val) / 512) + (((i 0).val * 128 + (i 1).val) / 128 % 4)) = (16384 + (i 0).val)
    omega
  · show 1024 + (64 * (((i 0).val * 128 + (i 1).val) / 64 % 2) + ((i 0).val * 128 + (i 1).val) % 64) = 1024 + (i 1).val
    omega

theorem vals_sample (i : S512x128.Idx) : val_main_v167 (F := Ideal) x1 x4 x5 i = val x0 x1 x4 x5 (16384 + (i 0).val) (i 1).val := by
  have h0 : (i 0).val < 512 := (i 0).isLt
  have h1 : (i 1).val < 128 := (i 1).isLt
  rw [val_main_v167_apply, v_sample x0 x1 x4 x5]
  unfold val
  refine congrArg₂ (lin x0 x1 x4 x5) ?_ ?_
  · show 16384 + (4 * (((i 0).val * 128 + (i 1).val) / 512) + (((i 0).val * 128 + (i 1).val) / 128 % 4)) = (16384 + (i 0).val)
    omega
  · show 1152 + (64 * (((i 0).val * 128 + (i 1).val) / 64 % 2) + ((i 0).val * 128 + (i 1).val) % 64) = 1152 + (i 1).val
    omega

/-! ## The seven results -/

theorem queries_all : val_main_v181 (F := Ideal) x0 x1 x4 x5 = slabs (query x0 x1 x4 x5) := by
  funext i
  have h0 : (i 0).val < 16896 := (i 0).isLt
  have h1 : (i 1).val < 1024 := (i 1).isLt
  show val_main_v162 (F := Ideal) x0 x1 x4 x5 i = query x0 x1 x4 x5 (i 0).val (i 1).val
  unfold val_main_v162
  by_cases h : (i 0).val < 16384
  · exact (concatenate_apply_piece (0 : Fin 2) [⟨S16384x1024, val_main_v156 (F := Ideal) x0 x4 x5⟩, ⟨S512x1024, val_main_v161 (F := Ideal) x1 x4 x5⟩] _ i
      0 (by exact (by decide : 0 < 2)) S16384x1024 (val_main_v156 (F := Ideal) x0 x4 x5) rfl rfl 0 rfl
      (ix2 (⟨(i 0).val, h⟩ : Fin 16384) (⟨(i 1).val, h1⟩ : Fin 1024))
      (fun b hb => match b with | ⟨0, _⟩ => absurd rfl hb | ⟨1, _⟩ => rfl)
      (by show 0 + (i 0).val = (i 0).val; omega)).trans (queries_prompt x0 x1 x4 x5 _)
  · refine (concatenate_apply_piece (0 : Fin 2) [⟨S16384x1024, val_main_v156 (F := Ideal) x0 x4 x5⟩, ⟨S512x1024, val_main_v161 (F := Ideal) x1 x4 x5⟩] _ i
      1 (by exact (by decide : 1 < 2)) S512x1024 (val_main_v161 (F := Ideal) x1 x4 x5) rfl rfl 16384 rfl
      (ix2 (⟨(i 0).val - 16384, by omega⟩ : Fin 512) (⟨(i 1).val, h1⟩ : Fin 1024))
      (fun b hb => match b with | ⟨0, _⟩ => absurd rfl hb | ⟨1, _⟩ => rfl)
      (by show 16384 + ((i 0).val - 16384) = (i 0).val; omega)).trans ((queries_sample x0 x1 x4 x5 _).trans ?_)
    refine congrArg (fun R => query x0 x1 x4 x5 R (i 1).val) ?_
    show 16384 + ((i 0).val - 16384) = (i 0).val
    omega

theorem keys_all : val_main_v182 (F := Ideal) x0 x1 x4 x5 = flat (key x0 x1 x4 x5) := by
  funext i
  have h0 : (i 0).val < 16896 := (i 0).isLt
  have h1 : (i 1).val < 128 := (i 1).isLt
  show val_main_v165 (F := Ideal) x0 x1 x4 x5 i = key x0 x1 x4 x5 (i 0).val (i 1).val
  unfold val_main_v165
  by_cases h : (i 0).val < 16384
  · exact (concatenate_apply_piece (0 : Fin 2) [⟨S16384x128, val_main_v163 (F := Ideal) x0 x4 x5⟩, ⟨S512x128, val_main_v164 (F := Ideal) x1 x4 x5⟩] _ i
      0 (by exact (by decide : 0 < 2)) S16384x128 (val_main_v163 (F := Ideal) x0 x4 x5) rfl rfl 0 rfl
      (ix2 (⟨(i 0).val, h⟩ : Fin 16384) (⟨(i 1).val, h1⟩ : Fin 128))
      (fun b hb => match b with | ⟨0, _⟩ => absurd rfl hb | ⟨1, _⟩ => rfl)
      (by show 0 + (i 0).val = (i 0).val; omega)).trans (keys_prompt x0 x1 x4 x5 _)
  · refine (concatenate_apply_piece (0 : Fin 2) [⟨S16384x128, val_main_v163 (F := Ideal) x0 x4 x5⟩, ⟨S512x128, val_main_v164 (F := Ideal) x1 x4 x5⟩] _ i
      1 (by exact (by decide : 1 < 2)) S512x128 (val_main_v164 (F := Ideal) x1 x4 x5) rfl rfl 16384 rfl
      (ix2 (⟨(i 0).val - 16384, by omega⟩ : Fin 512) (⟨(i 1).val, h1⟩ : Fin 128))
      (fun b hb => match b with | ⟨0, _⟩ => absurd rfl hb | ⟨1, _⟩ => rfl)
      (by show 16384 + ((i 0).val - 16384) = (i 0).val; omega)).trans ((keys_sample x0 x1 x4 x5 _).trans ?_)
    refine congrArg (fun R => key x0 x1 x4 x5 R (i 1).val) ?_
    show 16384 + ((i 0).val - 16384) = (i 0).val
    omega

theorem vals_all : val_main_v183 (F := Ideal) x0 x1 x4 x5 = flat (val x0 x1 x4 x5) := by
  funext i
  have h0 : (i 0).val < 16896 := (i 0).isLt
  have h1 : (i 1).val < 128 := (i 1).isLt
  show val_main_v168 (F := Ideal) x0 x1 x4 x5 i = val x0 x1 x4 x5 (i 0).val (i 1).val
  unfold val_main_v168
  by_cases h : (i 0).val < 16384
  · exact (concatenate_apply_piece (0 : Fin 2) [⟨S16384x128, val_main_v166 (F := Ideal) x0 x4 x5⟩, ⟨S512x128, val_main_v167 (F := Ideal) x1 x4 x5⟩] _ i
      0 (by exact (by decide : 0 < 2)) S16384x128 (val_main_v166 (F := Ideal) x0 x4 x5) rfl rfl 0 rfl
      (ix2 (⟨(i 0).val, h⟩ : Fin 16384) (⟨(i 1).val, h1⟩ : Fin 128))
      (fun b hb => match b with | ⟨0, _⟩ => absurd rfl hb | ⟨1, _⟩ => rfl)
      (by show 0 + (i 0).val = (i 0).val; omega)).trans (vals_prompt x0 x1 x4 x5 _)
  · refine (concatenate_apply_piece (0 : Fin 2) [⟨S16384x128, val_main_v166 (F := Ideal) x0 x4 x5⟩, ⟨S512x128, val_main_v167 (F := Ideal) x1 x4 x5⟩] _ i
      1 (by exact (by decide : 1 < 2)) S512x128 (val_main_v167 (F := Ideal) x1 x4 x5) rfl rfl 16384 rfl
      (ix2 (⟨(i 0).val - 16384, by omega⟩ : Fin 512) (⟨(i 1).val, h1⟩ : Fin 128))
      (fun b hb => match b with | ⟨0, _⟩ => absurd rfl hb | ⟨1, _⟩ => rfl)
      (by show 16384 + ((i 0).val - 16384) = (i 0).val; omega)).trans ((vals_sample x0 x1 x4 x5 _).trans ?_)
    refine congrArg (fun R => val x0 x1 x4 x5 R (i 1).val) ?_
    show 16384 + ((i 0).val - 16384) = (i 0).val
    omega

theorem key_windowP : val_main_v170 (F := Ideal) x0 x4 x5 = windowP (key x0 x1 x4 x5) := by
  funext y
  rw [val_main_v170_apply, val_main_v169_apply, turned_k_prompt x0 x1 x4 x5]
  rfl

theorem val_windowP : val_main_v172 (F := Ideal) x0 x4 x5 = windowP (val x0 x1 x4 x5) := by
  funext y
  rw [val_main_v172_apply, val_main_v171_apply, v_prompt x0 x1 x4 x5]
  rfl

theorem key_windowS : val_main_v176 (F := Ideal) x1 x2 x4 x5 = windowS x2 (key x0 x1 x4 x5) := by
  unfold val_main_v176 val_main_v175 val_main_v174 val_main_v173
  exact windowS_cat _ _ _ _ (cache_rows _) (fun p s h d => (turned_k_sample x0 x1 x4 x5 _).trans rfl)

theorem val_windowS : val_main_v180 (F := Ideal) x1 x3 x4 x5 = windowS x3 (val x0 x1 x4 x5) := by
  unfold val_main_v180 val_main_v179 val_main_v178 val_main_v177
  exact windowS_cat _ _ _ _ (cache_rows _) (fun p s h d => (v_sample x0 x1 x4 x5 _).trans rfl)

end Cert.Proj.Ref

end
-- ==== Proof.ProjClaim.lean ====
/- The projection call and its reference return the same seven arrays. -/
module

public import proofs.«01_k».proof.Defs
public import proofs.«01_k».proof.Proof.Gen.Kernel3.Frame
public import proofs.«01_k».proof.Proof.ProjRef

@[expose] public section

set_option maxRecDepth 16384

noncomputable section

namespace Cert.Proj

open Cert.Kernel3Ideal Cert.Kernel3Ideal.Gen
open Idealize.ShloMosaic hiding ix1 ix2 ix3 ix4 ix5 eq_ix2
open Idealize.ShloMosaic.TcCoe Idealize.SL.Sem Idealize.ShloMosaic.ValueIdx

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

/-- What the launch and its host lines leave, of the arguments. -/
theorem left (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v50_0) = (slabs (queryF m c) : Buf (Elt Ideal) ((c.tc : Thread nD τ).loc main_v50_0))
      ∧ r.2.mem ((c.tc : Thread nD τ).loc main_v50_2) = (flat (keyF m c) : Buf (Elt Ideal) ((c.tc : Thread nD τ).loc main_v50_2))
      ∧ r.2.mem ((c.tc : Thread nD τ).loc main_v50_4) = (flat (valF m c) : Buf (Elt Ideal) ((c.tc : Thread nD τ).loc main_v50_4))
      ∧ r.2.mem ((c.tc : Thread nD τ).loc main_v58) = (windowP (keyF m c) : Buf (Elt Ideal) ((c.tc : Thread nD τ).loc main_v58))
      ∧ r.2.mem ((c.tc : Thread nD τ).loc main_v62) = (windowP (valF m c) : Buf (Elt Ideal) ((c.tc : Thread nD τ).loc main_v62))
      ∧ r.2.mem ((c.tc : Thread nD τ).loc main_v67) = (windowS (wkOf m c) (keyF m c) : Buf (Elt Ideal) ((c.tc : Thread nD τ).loc main_v67))
      ∧ r.2.mem ((c.tc : Thread nD τ).loc main_v72) = (windowS (wvOf m c) (valF m c) : Buf (Elt Ideal) ((c.tc : Thread nD τ).loc main_v72))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨((h c).1 6).trans (final_6 m c),
    ((h c).1 8).trans (final_8 m c),
    ((h c).1 10).trans (final_10 m c),
    ((h c).2 main_v58 (by decide)).trans (tail_58 m c),
    ((h c).2 main_v62 (by decide)).trans (tail_62 m c),
    ((h c).2 main_v67 (by decide)).trans (tail_67 m c),
    ((h c).2 main_v72 (by decide)).trans (tail_72 m c),
    ((h c).2 main_arg0 (by decide)).trans (W_main_arg0 m (dats m) c),
    ((h c).2 main_arg1 (by decide)).trans (W_main_arg1 m (dats m) c),
    ((h c).2 main_arg2 (by decide)).trans (W_main_arg2 m (dats m) c),
    ((h c).2 main_arg3 (by decide)).trans (W_main_arg3 m (dats m) c),
    ((h c).2 main_arg4 (by decide)).trans (W_main_arg4 m (dats m) c),
    ((h c).2 main_arg5 (by decide)).trans (W_main_arg5 m (dats m) c)⟩) (run_main m ρ)

theorem algebraic : Cert.algebraic_Kernel3Ideal_Reference3Ideal := by
  intro m ρ m' ρ' hpre hagree
  refine ⟨fun c => slabs (queryF m c), fun c => flat (keyF m c), fun c => flat (valF m c), fun c => windowP (keyF m c), fun c => windowP (valF m c), fun c => windowS (wkOf m c) (keyF m c), fun c => windowS (wvOf m c) (valF m c), left m ρ, ?_⟩
  refine (θ_run _ _ _).mono (fun _ h c => ?_) (Cert.Reference3Ideal.Value.run (F := Ideal) m' ρ')
  obtain ⟨e0, e1, e2, e3, e4, e5⟩ := hagree c
  obtain ⟨r0, r1, r2, r3, r4, r5, r6, rest⟩ := h c
  rw [Cert.Reference3Ideal.Read.val_main_v181_eq] at r0
  rw [Cert.Reference3Ideal.Read.val_main_v182_eq] at r1
  rw [Cert.Reference3Ideal.Read.val_main_v183_eq] at r2
  rw [Cert.Reference3Ideal.Read.val_main_v170_eq] at r3
  rw [Cert.Reference3Ideal.Read.val_main_v172_eq] at r4
  rw [Cert.Reference3Ideal.Read.val_main_v176_eq] at r5
  rw [Cert.Reference3Ideal.Read.val_main_v180_eq] at r6
  refine ⟨r0.trans ((congr (congr (congr (congrArg (Cert.Reference3Ideal.Read.val_main_v181 (F := Ideal)) e0) e1) e4) e5).trans (Ref.queries_all (xpOf m c) (xsOf m c) (wOf m c) (bOf m c))),
    r1.trans ((congr (congr (congr (congrArg (Cert.Reference3Ideal.Read.val_main_v182 (F := Ideal)) e0) e1) e4) e5).trans (Ref.keys_all (xpOf m c) (xsOf m c) (wOf m c) (bOf m c))),
    r2.trans ((congr (congr (congr (congrArg (Cert.Reference3Ideal.Read.val_main_v183 (F := Ideal)) e0) e1) e4) e5).trans (Ref.vals_all (xpOf m c) (xsOf m c) (wOf m c) (bOf m c))),
    r3.trans ((congr (congr (congrArg (Cert.Reference3Ideal.Read.val_main_v170 (F := Ideal)) e0) e4) e5).trans (Ref.key_windowP (xpOf m c) (xsOf m c) (wOf m c) (bOf m c))),
    r4.trans ((congr (congr (congrArg (Cert.Reference3Ideal.Read.val_main_v172 (F := Ideal)) e0) e4) e5).trans (Ref.val_windowP (xpOf m c) (xsOf m c) (wOf m c) (bOf m c))),
    r5.trans ((congr (congr (congr (congrArg (Cert.Reference3Ideal.Read.val_main_v176 (F := Ideal)) e1) e2) e4) e5).trans (Ref.key_windowS (xpOf m c) (xsOf m c) (wkOf m c) (wOf m c) (bOf m c))),
    r6.trans ((congr (congr (congr (congrArg (Cert.Reference3Ideal.Read.val_main_v180 (F := Ideal)) e1) e3) e4) e5).trans (Ref.val_windowS (xpOf m c) (xsOf m c) (wvOf m c) (wOf m c) (bOf m c))), rest⟩

end Cert.Proj

end
-- ==== Proof.DsaSpec.lean ====
/- The rotary projections of the second layer as a function of its input rows and its weights. -/
module

public import proofs.«01_k».proof.Proof.ProjSpec

@[expose] public section

noncomputable section

namespace Cert.Dsa

open Cert.Proj (Arr cosOf sinOf pos scale)
open Idealize.ShloMosaic
open Idealize.ShloMosaic.TcCoe Idealize.SL.Sem Idealize.ShloMosaic.ValueIdx

/-- The factor of the queries: the attention's scale times the binary logarithm of e. -/
def factor : EReal := FloatOps.ofBits (F := Ideal) .f32 0x3E38AA3B#32

section
variable (x : Arr ⟨2, ![16896, 1024]⟩) (w : Arr ⟨3, ![1, 1024, 2120]⟩)

/-- Row `R` projected to column `C`. -/
def lin (R C : Nat) : EReal :=
  ∑ k : Fin 1024, x (ix2 (⟨R % 16896, by omega⟩ : Fin 16896) k) * w (ix3 (0 : Fin 1) k (⟨C % 2120, by omega⟩ : Fin 2120))

/-- Column `C` of row `R` after its head is turned. -/
def turned (R C : Nat) : EReal :=
  if C % 64 < 32 then lin x w R C * cosOf (pos R) (C % 32) - lin x w R (C + 32) * sinOf (pos R) (C % 32)
  else lin x w R (C - 32) * sinOf (pos R) (C % 32) + lin x w R C * cosOf (pos R) (C % 32)

/-- The column that stands in column `C` of the queries: four heads of two key heads in turn. -/
def headCol (C : Nat) : Nat := 64 * (8 * (C / 512) + 4 * (C / 64 % 2) + C / 128 % 4) + C % 64

def query (R C : Nat) : EReal := turned x w R (headCol C) * factor
def key (R C : Nat) : EReal := turned x w R (1024 + C)
def val (R C : Nat) : EReal := lin x w R (1280 + C)
def idxQuery (R C : Nat) : EReal := turned x w R (1536 + C) * scale
def idxKey (R C : Nat) : EReal := turned x w R (2048 + C % 64)

end

/-- The arrays of a function of row and column. -/
def flat (n : Nat) (g : Nat → Nat → EReal) : Arr ⟨2, ![16896, n]⟩ := fun y => g (y 0).val (y 1).val

/-- The prompt's rows by sequence, position, head and lane. -/
def promptRows (g : Nat → Nat → EReal) : Arr ⟨5, ![1, 8, 2048, 4, 64]⟩ :=
  fun y => g (2048 * (y 1).val + (y 2).val) (64 * (y 3).val + (y 4).val)

/-- The sample's rows. -/
def sampleRows (g : Nat → Nat → EReal) : Arr ⟨5, ![1, 128, 4, 4, 64]⟩ :=
  fun y => g (16384 + (4 * (y 1).val + (y 2).val)) (64 * (y 3).val + (y 4).val)

/-- The same of the indexer's keys, which have one head. -/
def promptIdx (g : Nat → Nat → EReal) : Arr ⟨4, ![1, 8, 2048, 64]⟩ := fun y => g (2048 * (y 1).val + (y 2).val) (y 3).val
def sampleIdx (g : Nat → Nat → EReal) : Arr ⟨4, ![1, 128, 4, 64]⟩ := fun y => g (16384 + (4 * (y 1).val + (y 2).val)) (y 3).val

end Cert.Dsa

end
-- ==== Proof.DsaTile.lean ====
/- What the second layer's projection leaves at a grid point, read at a row and a column. -/
module

public import proofs.«01_k».proof.Proof.DsaSpec
public import proofs.«01_k».proof.Proof.ProjTile
public import proofs.«01_k».proof.Proof.Gen.Kernel4Ideal.Frame

@[expose] public section

noncomputable section

namespace Cert.Dsa

open Cert.Kernel4Ideal Cert.Kernel4Ideal.Gen
open Cert.Proj (Arr cosOf sinOf pos scale turnSlab turnSlab_apply)
open Idealize.ShloMosaic hiding ix1 ix2 ix4 eq_ix2
open Idealize.ShloMosaic.TcCoe Idealize.SL.Sem Idealize.ShloMosaic.ValueIdx

section
variable (i : grid0.Coords) (x0 x1 : Arr S512x1024) (x2 : Arr S1024x2176) (x3 : Arr S1x2176) (x4 x5 : Arr S512x128)

theorem ld_whole (X : Arr S512x128) : View.ld (Val := Elt Ideal) (e' := .f32) X r0_1 = X := by
  funext y
  exact View.ld_unit_apply_of (Val := Elt Ideal) (e := .f32) X _ _ _ _ _ (fun a => match a with
    | ⟨0, _⟩ => (Nat.zero_add _).symm
    | ⟨1, _⟩ => (Nat.zero_add _).symm)

theorem ld_rows (X : Arr S512x1024) : View.ld (Val := Elt Ideal) (e' := .f32) X r0_0 = X := by
  funext y
  exact View.ld_unit_apply_of (Val := Elt Ideal) (e := .f32) X _ _ _ _ _ (fun a => match a with
    | ⟨0, _⟩ => (Nat.zero_add _).symm
    | ⟨1, _⟩ => (Nat.zero_add _).symm)

/-- Every point takes its own block of rows. -/
theorem pay3_eq : k0_pay3 (F := Ideal) i (View.ld (Val := Elt Ideal) (e' := .f32) x0 r0_0) (View.ld (Val := Elt Ideal) (e' := .f32) x1 r0_0) = x0 := by
  have h : ∀ n : Fin 33, Scalar.cmpi .slt (BitVec.ofNat 32 n.val) 33#32 = 1#1 := by decide +kernel
  have hi := h ⟨(i 0).val, (i 0).isLt⟩
  rw [ld_rows, ld_rows]
  unfold k0_pay3
  show Scalar.select (Scalar.cmpi .slt (BitVec.ofNat 32 (i 0).val) 33#32) x0 x1 = _
  rw [hi]
  rfl

/-- A row of the block projected to column `C` of the prepared weights. -/
def linAt (r : Fin 512) (C : Nat) : EReal :=
  (∑ k : Fin 1024, x0 (ix2 r k) * x2 (ix2 k (⟨C % 2176, by omega⟩ : Fin 2176))) + x3 (ix2 (0 : Fin 1) (⟨C % 2176, by omega⟩ : Fin 2176))

theorem dot_1024 : dot_S512x1024_S1024x1024_S512x1024_1_0_0_1_n_n = DotDims.plain 512 1024 1024 := rfl

theorem lin_1024 (o : Nat) (h2 : ∀ a, (![0, o] : Fin 2 → Nat) a + (![1024, 1024] : Fin 2 → Nat) a ≤ S1024x2176.size a)
    (h3 : ∀ a, (![0, o] : Fin 2 → Nat) a + (![1, 1024] : Fin 2 → Nat) a ≤ S1x2176.size a) (ho : o + 1024 ≤ 2176) (r : Fin 512) (l : Fin 1024) :
    k0_pay6 (F := Ideal) i (View.ld (Val := Elt Ideal) (e' := .f32) x0 r0_0) (View.ld (Val := Elt Ideal) (e' := .f32) x1 r0_0) (View.ld (Val := Elt Ideal) (e' := .bf16) x2 (Rect.unit (s := S1024x2176) ![0, o] ![1024, 1024] h2))
      (View.ld (Val := Elt Ideal) (e' := .f32) x3 (Rect.unit (s := S1x2176) ![0, o] ![1, 1024] h3)) (ix2 r l) = linAt x0 x2 x3 r (o + l.val) := by
  have hl := l.isLt
  unfold k0_pay6 linAt
  rw [pay3_eq]
  rw [dot_1024]
  refine congrArg₂ (· + ·) ?_ ?_
  · refine (Ideal.matmul_plain_apply (φ₁ := .bf16) (φ₂ := .bf16) none _ _ _ r l).trans ?_
    show Ideal.ofBits .f32 0#32 + _ = _
    rw [Ideal.ofBits_zero_f32, zero_add]
    refine Finset.sum_congr rfl fun k _ => congrArg (x0 (ix2 r k) * ·) ?_
    rw [shapeCast_self (s := S1024x1024)]
    exact View.ld_unit_apply_of _ _ _ _ _ _ (fun a => match a with
      | ⟨0, _⟩ => (Nat.zero_add _).symm
      | ⟨1, _⟩ => by show (o + l.val) % 2176 = o + l.val; omega)
  · refine (broadcastTo_apply _ _ _ (ix2 (0 : Fin 1) l) (fun a => match a with
      | ⟨0, _⟩ => rfl
      | ⟨1, _⟩ => rfl)).trans ?_
    rw [shapeCast_self (s := S1x1024)]
    exact View.ld_unit_apply_of _ _ _ _ _ _ (fun a => match a with
      | ⟨0, _⟩ => rfl
      | ⟨1, _⟩ => by show (o + l.val) % 2176 = o + l.val; omega)

theorem dot_256 : dot_S512x1024_S1024x256_S512x256_1_0_0_1_n_n = DotDims.plain 512 1024 256 := rfl

theorem lin_256 (o : Nat) (h2 : ∀ a, (![0, o] : Fin 2 → Nat) a + (![1024, 256] : Fin 2 → Nat) a ≤ S1024x2176.size a)
    (h3 : ∀ a, (![0, o] : Fin 2 → Nat) a + (![1, 256] : Fin 2 → Nat) a ≤ S1x2176.size a) (ho : o + 256 ≤ 2176) (r : Fin 512) (l : Fin 256) :
    k0_pay28 (F := Ideal) x0 (View.ld (Val := Elt Ideal) (e' := .bf16) x2 (Rect.unit (s := S1024x2176) ![0, o] ![1024, 256] h2))
      (View.ld (Val := Elt Ideal) (e' := .f32) x3 (Rect.unit (s := S1x2176) ![0, o] ![1, 256] h3)) (ix2 r l) = linAt x0 x2 x3 r (o + l.val) := by
  have hl := l.isLt
  unfold k0_pay28 linAt
  rw [dot_256]
  refine congrArg₂ (· + ·) ?_ ?_
  · refine (Ideal.matmul_plain_apply (φ₁ := .bf16) (φ₂ := .bf16) none _ _ _ r l).trans ?_
    show Ideal.ofBits .f32 0#32 + _ = _
    rw [Ideal.ofBits_zero_f32, zero_add]
    refine Finset.sum_congr rfl fun k _ => congrArg (x0 (ix2 r k) * ·) ?_
    rw [shapeCast_self (s := S1024x256)]
    exact View.ld_unit_apply_of _ _ _ _ _ _ (fun a => match a with
      | ⟨0, _⟩ => (Nat.zero_add _).symm
      | ⟨1, _⟩ => by show (o + l.val) % 2176 = o + l.val; omega)
  · refine (broadcastTo_apply _ _ _ (ix2 (0 : Fin 1) l) (fun a => match a with
      | ⟨0, _⟩ => rfl
      | ⟨1, _⟩ => rfl)).trans ?_
    rw [shapeCast_self (s := S1x256)]
    exact View.ld_unit_apply_of _ _ _ _ _ _ (fun a => match a with
      | ⟨0, _⟩ => rfl
      | ⟨1, _⟩ => by show (o + l.val) % 2176 = o + l.val; omega)

theorem dot_512 : dot_S512x1024_S1024x512_S512x512_1_0_0_1_n_n = DotDims.plain 512 1024 512 := rfl

theorem lin_512 (o : Nat) (h2 : ∀ a, (![0, o] : Fin 2 → Nat) a + (![1024, 512] : Fin 2 → Nat) a ≤ S1024x2176.size a)
    (h3 : ∀ a, (![0, o] : Fin 2 → Nat) a + (![1, 512] : Fin 2 → Nat) a ≤ S1x2176.size a) (ho : o + 512 ≤ 2176) (r : Fin 512) (l : Fin 512) :
    k0_pay38 (F := Ideal) x0 (View.ld (Val := Elt Ideal) (e' := .bf16) x2 (Rect.unit (s := S1024x2176) ![0, o] ![1024, 512] h2))
      (View.ld (Val := Elt Ideal) (e' := .f32) x3 (Rect.unit (s := S1x2176) ![0, o] ![1, 512] h3)) (ix2 r l) = linAt x0 x2 x3 r (o + l.val) := by
  have hl := l.isLt
  unfold k0_pay38 linAt
  rw [dot_512]
  refine congrArg₂ (· + ·) ?_ ?_
  · refine (Ideal.matmul_plain_apply (φ₁ := .bf16) (φ₂ := .bf16) none _ _ _ r l).trans ?_
    show Ideal.ofBits .f32 0#32 + _ = _
    rw [Ideal.ofBits_zero_f32, zero_add]
    refine Finset.sum_congr rfl fun k _ => congrArg (x0 (ix2 r k) * ·) ?_
    rw [shapeCast_self (s := S1024x512)]
    exact View.ld_unit_apply_of _ _ _ _ _ _ (fun a => match a with
      | ⟨0, _⟩ => (Nat.zero_add _).symm
      | ⟨1, _⟩ => by show (o + l.val) % 2176 = o + l.val; omega)
  · refine (broadcastTo_apply _ _ _ (ix2 (0 : Fin 1) l) (fun a => match a with
      | ⟨0, _⟩ => rfl
      | ⟨1, _⟩ => rfl)).trans ?_
    rw [shapeCast_self (s := S1x512)]
    exact View.ld_unit_apply_of _ _ _ _ _ _ (fun a => match a with
      | ⟨0, _⟩ => rfl
      | ⟨1, _⟩ => by show (o + l.val) % 2176 = o + l.val; omega)

theorem dot_128 : dot_S512x1024_S1024x128_S512x128_1_0_0_1_n_n = DotDims.plain 512 1024 128 := rfl

theorem lin_128 (o : Nat) (h2 : ∀ a, (![0, o] : Fin 2 → Nat) a + (![1024, 128] : Fin 2 → Nat) a ≤ S1024x2176.size a)
    (h3 : ∀ a, (![0, o] : Fin 2 → Nat) a + (![1, 128] : Fin 2 → Nat) a ≤ S1x2176.size a) (ho : o + 128 ≤ 2176) (r : Fin 512) (l : Fin 128) :
    k0_pay50 (F := Ideal) x0 (View.ld (Val := Elt Ideal) (e' := .bf16) x2 (Rect.unit (s := S1024x2176) ![0, o] ![1024, 128] h2))
      (View.ld (Val := Elt Ideal) (e' := .f32) x3 (Rect.unit (s := S1x2176) ![0, o] ![1, 128] h3)) (ix2 r l) = linAt x0 x2 x3 r (o + l.val) := by
  have hl := l.isLt
  unfold k0_pay50 linAt
  rw [dot_128]
  refine congrArg₂ (· + ·) ?_ ?_
  · refine (Ideal.matmul_plain_apply (φ₁ := .bf16) (φ₂ := .bf16) none _ _ _ r l).trans ?_
    show Ideal.ofBits .f32 0#32 + _ = _
    rw [Ideal.ofBits_zero_f32, zero_add]
    refine Finset.sum_congr rfl fun k _ => congrArg (x0 (ix2 r k) * ·) ?_
    rw [shapeCast_self (s := S1024x128)]
    exact View.ld_unit_apply_of _ _ _ _ _ _ (fun a => match a with
      | ⟨0, _⟩ => (Nat.zero_add _).symm
      | ⟨1, _⟩ => by show (o + l.val) % 2176 = o + l.val; omega)
  · refine (broadcastTo_apply _ _ _ (ix2 (0 : Fin 1) l) (fun a => match a with
      | ⟨0, _⟩ => rfl
      | ⟨1, _⟩ => rfl)).trans ?_
    rw [shapeCast_self (s := S1x128)]
    exact View.ld_unit_apply_of _ _ _ _ _ _ (fun a => match a with
      | ⟨0, _⟩ => rfl
      | ⟨1, _⟩ => by show (o + l.val) % 2176 = o + l.val; omega)

/-- A column of the block after its head is turned by the tables' rows. -/
def turnedAt (r : Fin 512) (C : Nat) : EReal :=
  linAt x0 x2 x3 r C * x4 (ix2 r (⟨C % 128, by omega⟩ : Fin 128))
    + (if C % 64 < 32 then linAt x0 x2 x3 r (C + 32) else linAt x0 x2 x3 r (C - 32)) * x5 (ix2 r (⟨C % 128, by omega⟩ : Fin 128))

/-- Blocks of `N` columns from column `o`: turned, turned and scaled, as they are. -/
def turnedTile (N o : Nat) : Arr ⟨2, ![512, N]⟩ := fun y => turnedAt x0 x2 x3 x4 x5 (y 0) (o + (y 1).val)
def scaledTile (N o : Nat) (a : EReal) : Arr ⟨2, ![512, N]⟩ := fun y => turnedAt x0 x2 x3 x4 x5 (y 0) (o + (y 1).val) * a
def plainTile (N o : Nat) : Arr ⟨2, ![512, N]⟩ := fun y => linAt x0 x2 x3 (y 0) (o + (y 1).val)

theorem turn_of (X : Arr S512x128) (o : Nat) (ho : o % 128 = 0) (r : Fin 512) (hX : ∀ l : Fin 128, X (ix2 r l) = linAt x0 x2 x3 r (o + l.val))
    (l : Fin 128) : turnSlab X x4 x5 (ix2 r l) = turnedAt x0 x2 x3 x4 x5 r (o + l.val) := by
  have hl := l.isLt
  refine (turnSlab_apply X x4 x5 (linAt x0 x2 x3 r) o r hX (by omega) l).trans ?_
  unfold turnedAt
  have e : (⟨(o + l.val) % 128, by omega⟩ : Fin 128) = l := Fin.ext (by show (o + l.val) % 128 = l.val; omega)
  rw [e]

section
variable (N o p : Nat) (v : Arr ⟨2, ![512, N]⟩) (hv : ∀ (r : Fin 512) (C : Fin N), v (ix2 r C) = linAt x0 x2 x3 r (o + C.val))
  (ho : o % 128 = 0) (hp : p + 128 ≤ N) (h128 : p % 128 = 0) (h : (⟨2, ![512, N]⟩ : Shape).Slices ![0, p] S512x128)
  (h1 : ∀ a, (![0, p] : Fin 2 → Nat) a + (![512, 128] : Fin 2 → Nat) a ≤ (⟨2, ![512, N]⟩ : Shape).size a)

include hv hp in
theorem slice_lin (r : Fin 512) (l : Fin 128) : extractStridedSlice S512x128 ![0, p] v h (ix2 r l) = linAt x0 x2 x3 r (o + p + l.val) := by
  have hl := l.isLt
  refine (extractStridedSlice_apply _ _ _ _ (ix2 r (⟨p + l.val, by omega⟩ : Fin N)) (fun a => match a with
    | ⟨0, _⟩ => (Nat.zero_add _).symm
    | ⟨1, _⟩ => rfl)).trans ((hv _ _).trans ?_)
  show linAt x0 x2 x3 r (o + (p + l.val)) = _
  rw [Nat.add_assoc]

theorem emb_row (r : Fin 512) (l : Fin 128) : (Rect.unit (s := ⟨2, ![512, N]⟩) ![0, p] ![512, 128] h1).emb (ix2 r l) 0 = r :=
  Fin.ext (by show 0 + 1 * r.val = r.val; omega)

theorem emb_col (r : Fin 512) (l : Fin 128) : ((Rect.unit (s := ⟨2, ![512, N]⟩) ![0, p] ![512, 128] h1).emb (ix2 r l) 1).val = p + l.val := by
  show p + 1 * l.val = _
  omega

include hv ho hp h128 in
theorem slabTurn (x : S512x128.Idx) : turnSlab (extractStridedSlice S512x128 ![0, p] v h) x4 x5 x
    = turnedTile x0 x2 x3 x4 x5 N o ((Rect.unit (s := ⟨2, ![512, N]⟩) ![0, p] ![512, 128] h1).emb x) := by
  obtain ⟨r, l, rfl⟩ : ∃ (r : Fin 512) (l : Fin 128), x = ix2 r l := ⟨x 0, x 1, eq_ix2 x⟩
  unfold turnedTile
  rw [emb_row, emb_col, turn_of x0 x2 x3 x4 x5 _ (o + p) (by omega) r (slice_lin x0 x2 x3 N o p v hv hp h r) l, Nat.add_assoc]

include hv ho hp h128 in
theorem slabScaled (b : BitVec 32) (x : S512x128.Idx) :
    mulf (F := Ideal) (φ := .f32) (turnSlab (extractStridedSlice S512x128 ![0, p] v h) x4 x5) (broadcast S512x128 (Scalar.ofBits (F := Ideal) .f32 b)) x
    = scaledTile x0 x2 x3 x4 x5 N o (FloatOps.ofBits (F := Ideal) .f32 b) ((Rect.unit (s := ⟨2, ![512, N]⟩) ![0, p] ![512, 128] h1).emb x) :=
  congrArg (fun a : EReal => a * FloatOps.ofBits (F := Ideal) .f32 b) (slabTurn x0 x2 x3 x4 x5 N o p v hv ho hp h128 h h1 x)

include hv hp in
theorem slabPlain (x : S512x128.Idx) : extractStridedSlice S512x128 ![0, p] v h x
    = plainTile x0 x2 x3 N o ((Rect.unit (s := ⟨2, ![512, N]⟩) ![0, p] ![512, 128] h1).emb x) := by
  obtain ⟨r, l, rfl⟩ : ∃ (r : Fin 512) (l : Fin 128), x = ix2 r l := ⟨x 0, x 1, eq_ix2 x⟩
  unfold plainTile
  rw [emb_row, emb_col, slice_lin x0 x2 x3 N o p v hv hp h r l, Nat.add_assoc]

end

theorem tab4 : k0_pay4 (F := Ideal) (View.ld (Val := Elt Ideal) (e' := .f32) x4 r0_1) = x4 := by
  rw [ld_whole]; exact shapeCast_self (s := S512x128) _ _

theorem tab5 : k0_pay5 (F := Ideal) (View.ld (Val := Elt Ideal) (e' := .f32) x5 r0_1) = x5 := by
  rw [ld_whole]; exact shapeCast_self (s := S512x128) _ _

/-- A buffer with one whole store holds what was stored. -/
theorem canon_whole {e : EltTy} (P : S512x128.Idx → Elt Ideal e) (h : ∀ y : S512x128.Idx,
    ∃ pc ∈ ([⟨r0_1, P⟩] : List (View.Piece (Elt Ideal) S512x128 e)), y ∈ pc.1.set) :
    View.canon ([⟨r0_1, P⟩] : List (View.Piece (Elt Ideal) S512x128 e)) = P := by
  funext y
  refine View.canon_apply_of_pieces (Val := Elt Ideal) P _ ?_ y (h y)
  intro p hp
  simp only [List.mem_cons, List.not_mem_nil, or_false] at hp
  subst hp
  intro x
  refine congrArg P (funext fun a => Fin.ext ?_)
  match a with
  | ⟨0, _⟩ => show (x 0).val = 0 + 1 * (x 0).val; omega
  | ⟨1, _⟩ => show (x 1).val = 0 + 1 * (x 1).val; omega

theorem out6_eq : out0_6 (F := Ideal) i x0 x1 x2 x3 x4 x5 = scaledTile x0 x2 x3 x4 x5 1024 0 (FloatOps.ofBits (F := Ideal) .f32 0x3E38AA3B#32) := by
  have hv : ∀ (r : Fin 512) (C : Fin 1024), k0_pay6 (F := Ideal) i (View.ld (Val := Elt Ideal) (e' := .f32) x0 r0_0) (View.ld (Val := Elt Ideal) (e' := .f32) x1 r0_0)
      (View.ld (Val := Elt Ideal) (e' := .bf16) x2 r0_2) (View.ld (Val := Elt Ideal) (e' := .f32) x3 r0_3) (ix2 r C) = linAt x0 x2 x3 r (0 + C.val) :=
    lin_1024 i x0 x1 x2 x3 0 inb_S1024x2176_S1024x1024_0_0 inb_S1x2176_S1x1024_0_0 (by omega)
  funext y
  unfold_out out0_6
  rw [tab4, tab5]
  refine View.canon_apply_of_pieces (Val := Elt Ideal) (scaledTile x0 x2 x3 x4 x5 1024 0 (FloatOps.ofBits (F := Ideal) .f32 0x3E38AA3B#32)) _ ?_ y (cover0_6 _ _ _ _ _ _ _ _ y)
  intro p hp
  simp only [List.mem_cons, List.not_mem_nil, or_false] at hp
  rcases hp with rfl | rfl | rfl | rfl | rfl | rfl | rfl | rfl <;> intro x
  · exact slabScaled x0 x2 x3 x4 x5 1024 0 896 _ hv (by omega) (by omega) (by omega) slices_S512x1024_o0_896_S512x128 inb_S512x1024_S512x128_0_896 0x3E38AA3B#32 x
  · exact slabScaled x0 x2 x3 x4 x5 1024 0 768 _ hv (by omega) (by omega) (by omega) slices_S512x1024_o0_768_S512x128 inb_S512x1024_S512x128_0_768 0x3E38AA3B#32 x
  · exact slabScaled x0 x2 x3 x4 x5 1024 0 640 _ hv (by omega) (by omega) (by omega) slices_S512x1024_o0_640_S512x128 inb_S512x1024_S512x128_0_640 0x3E38AA3B#32 x
  · exact slabScaled x0 x2 x3 x4 x5 1024 0 512 _ hv (by omega) (by omega) (by omega) slices_S512x1024_o0_512_S512x128 inb_S512x1024_S512x128_0_512 0x3E38AA3B#32 x
  · exact slabScaled x0 x2 x3 x4 x5 1024 0 384 _ hv (by omega) (by omega) (by omega) slices_S512x1024_o0_384_S512x128 inb_S512x1024_S512x128_0_384 0x3E38AA3B#32 x
  · exact slabScaled x0 x2 x3 x4 x5 1024 0 256 _ hv (by omega) (by omega) (by omega) slices_S512x1024_o0_256_S512x128 inb_S512x1024_S512x128_0_256 0x3E38AA3B#32 x
  · exact slabScaled x0 x2 x3 x4 x5 1024 0 128 _ hv (by omega) (by omega) (by omega) slices_S512x1024_o0_128_S512x128 inb_S512x1024_S512x128_0_128 0x3E38AA3B#32 x
  · exact slabScaled x0 x2 x3 x4 x5 1024 0 0 _ hv (by omega) (by omega) (by omega) slices_S512x1024_o0_0_S512x128 inb_S512x1024_S512x128_0_0 0x3E38AA3B#32 x

theorem out7_eq : out0_7 (F := Ideal) i x0 x1 x2 x3 x4 x5 = turnedTile x0 x2 x3 x4 x5 256 1024 := by
  have hv : ∀ (r : Fin 512) (C : Fin 256), k0_pay28 (F := Ideal) x0
      (View.ld (Val := Elt Ideal) (e' := .bf16) x2 r0_12) (View.ld (Val := Elt Ideal) (e' := .f32) x3 r0_13) (ix2 r C) = linAt x0 x2 x3 r (1024 + C.val) :=
    lin_256 x0 x2 x3 1024 inb_S1024x2176_S1024x256_0_1024 inb_S1x2176_S1x256_0_1024 (by omega)
  funext y
  unfold_out out0_7
  rw [tab4, tab5, pay3_eq]
  refine View.canon_apply_of_pieces (Val := Elt Ideal) (turnedTile x0 x2 x3 x4 x5 256 1024) _ ?_ y (cover0_7 _ _ y)
  intro p hp
  simp only [List.mem_cons, List.not_mem_nil, or_false] at hp
  rcases hp with rfl | rfl <;> intro x
  · exact slabTurn x0 x2 x3 x4 x5 256 1024 128 _ hv (by omega) (by omega) (by omega) slices_S512x256_o0_128_S512x128 inb_S512x256_S512x128_0_128 x
  · exact slabTurn x0 x2 x3 x4 x5 256 1024 0 _ hv (by omega) (by omega) (by omega) slices_S512x256_o0_0_S512x128 inb_S512x256_S512x128_0_0 x

theorem out8_eq : out0_8 (F := Ideal) i x0 x1 x2 x3 x4 x5 = turnedTile x0 x2 x3 x4 x5 256 1024 := by
  have hv : ∀ (r : Fin 512) (C : Fin 256), k0_pay28 (F := Ideal) x0
      (View.ld (Val := Elt Ideal) (e' := .bf16) x2 r0_12) (View.ld (Val := Elt Ideal) (e' := .f32) x3 r0_13) (ix2 r C) = linAt x0 x2 x3 r (1024 + C.val) :=
    lin_256 x0 x2 x3 1024 inb_S1024x2176_S1024x256_0_1024 inb_S1x2176_S1x256_0_1024 (by omega)
  funext y
  unfold_out out0_8
  rw [tab4, tab5, pay3_eq]
  refine View.canon_apply_of_pieces (Val := Elt Ideal) (turnedTile x0 x2 x3 x4 x5 256 1024) _ ?_ y (cover0_8 _ _ y)
  intro p hp
  simp only [List.mem_cons, List.not_mem_nil, or_false] at hp
  rcases hp with rfl | rfl <;> intro x
  · exact slabTurn x0 x2 x3 x4 x5 256 1024 128 _ hv (by omega) (by omega) (by omega) slices_S512x256_o0_128_S512x128 inb_S512x256_S512x128_0_128 x
  · exact slabTurn x0 x2 x3 x4 x5 256 1024 0 _ hv (by omega) (by omega) (by omega) slices_S512x256_o0_0_S512x128 inb_S512x256_S512x128_0_0 x

theorem out9_eq : out0_9 (F := Ideal) i x0 x1 x2 x3 x4 x5 = plainTile x0 x2 x3 256 1280 := by
  have hv : ∀ (r : Fin 512) (C : Fin 256), k0_pay28 (F := Ideal) x0
      (View.ld (Val := Elt Ideal) (e' := .bf16) x2 r0_16) (View.ld (Val := Elt Ideal) (e' := .f32) x3 r0_17) (ix2 r C) = linAt x0 x2 x3 r (1280 + C.val) :=
    lin_256 x0 x2 x3 1280 inb_S1024x2176_S1024x256_0_1280 inb_S1x2176_S1x256_0_1280 (by omega)
  funext y
  unfold_out out0_9
  rw [pay3_eq]
  refine View.canon_apply_of_pieces (Val := Elt Ideal) (plainTile x0 x2 x3 256 1280) _ ?_ y (cover0_9 _ _ y)
  intro p hp
  simp only [List.mem_cons, List.not_mem_nil, or_false] at hp
  rcases hp with rfl | rfl <;> intro x
  · exact slabPlain x0 x2 x3 256 1280 128 _ hv (by omega) slices_S512x256_o0_128_S512x128 inb_S512x256_S512x128_0_128 x
  · exact slabPlain x0 x2 x3 256 1280 0 _ hv (by omega) slices_S512x256_o0_0_S512x128 inb_S512x256_S512x128_0_0 x

theorem out13_eq : out0_13 (F := Ideal) i x0 x1 x2 x3 x4 x5 = plainTile x0 x2 x3 256 1280 := by
  have hv : ∀ (r : Fin 512) (C : Fin 256), k0_pay28 (F := Ideal) x0
      (View.ld (Val := Elt Ideal) (e' := .bf16) x2 r0_16) (View.ld (Val := Elt Ideal) (e' := .f32) x3 r0_17) (ix2 r C) = linAt x0 x2 x3 r (1280 + C.val) :=
    lin_256 x0 x2 x3 1280 inb_S1024x2176_S1024x256_0_1280 inb_S1x2176_S1x256_0_1280 (by omega)
  funext y
  unfold_out out0_13
  rw [pay3_eq]
  refine View.canon_apply_of_pieces (Val := Elt Ideal) (plainTile x0 x2 x3 256 1280) _ ?_ y (cover0_13 _ _ y)
  intro p hp
  simp only [List.mem_cons, List.not_mem_nil, or_false] at hp
  rcases hp with rfl | rfl <;> intro x
  · exact slabPlain x0 x2 x3 256 1280 128 _ hv (by omega) slices_S512x256_o0_128_S512x128 inb_S512x256_S512x128_0_128 x
  · exact slabPlain x0 x2 x3 256 1280 0 _ hv (by omega) slices_S512x256_o0_0_S512x128 inb_S512x256_S512x128_0_0 x

theorem out10_eq : out0_10 (F := Ideal) i x0 x1 x2 x3 x4 x5 = scaledTile x0 x2 x3 x4 x5 512 1536 (FloatOps.ofBits (F := Ideal) .f32 0x3E000000#32) := by
  have hv : ∀ (r : Fin 512) (C : Fin 512), k0_pay38 (F := Ideal) x0
      (View.ld (Val := Elt Ideal) (e' := .bf16) x2 r0_18) (View.ld (Val := Elt Ideal) (e' := .f32) x3 r0_19) (ix2 r C) = linAt x0 x2 x3 r (1536 + C.val) :=
    lin_512 x0 x2 x3 1536 inb_S1024x2176_S1024x512_0_1536 inb_S1x2176_S1x512_0_1536 (by omega)
  funext y
  unfold_out out0_10
  rw [tab4, tab5, pay3_eq]
  refine View.canon_apply_of_pieces (Val := Elt Ideal) (scaledTile x0 x2 x3 x4 x5 512 1536 (FloatOps.ofBits (F := Ideal) .f32 0x3E000000#32)) _ ?_ y (cover0_10 _ _ _ _ y)
  intro p hp
  simp only [List.mem_cons, List.not_mem_nil, or_false] at hp
  rcases hp with rfl | rfl | rfl | rfl <;> intro x
  · exact slabScaled x0 x2 x3 x4 x5 512 1536 384 _ hv (by omega) (by omega) (by omega) slices_S512x512_o0_384_S512x128 inb_S512x512_S512x128_0_384 0x3E000000#32 x
  · exact slabScaled x0 x2 x3 x4 x5 512 1536 256 _ hv (by omega) (by omega) (by omega) slices_S512x512_o0_256_S512x128 inb_S512x512_S512x128_0_256 0x3E000000#32 x
  · exact slabScaled x0 x2 x3 x4 x5 512 1536 128 _ hv (by omega) (by omega) (by omega) slices_S512x512_o0_128_S512x128 inb_S512x512_S512x128_0_128 0x3E000000#32 x
  · exact slabScaled x0 x2 x3 x4 x5 512 1536 0 _ hv (by omega) (by omega) (by omega) slices_S512x512_o0_0_S512x128 inb_S512x512_S512x128_0_0 0x3E000000#32 x

theorem out11_eq : out0_11 (F := Ideal) i x0 x1 x2 x3 x4 x5 = turnedTile x0 x2 x3 x4 x5 128 2048 := by
  unfold_out out0_11
  rw [canon_whole _ (fun y => cover0_11 _ y), tab4, tab5, pay3_eq]
  funext y
  obtain ⟨r, l, rfl⟩ : ∃ (r : Fin 512) (l : Fin 128), y = ix2 r l := ⟨y 0, y 1, eq_ix2 y⟩
  exact turn_of x0 x2 x3 x4 x5 _ 2048 (by omega) r
    (lin_128 x0 x2 x3 2048 inb_S1024x2176_S1024x128_0_2048 inb_S1x2176_S1x128_0_2048 (by omega) r) l

end

end Cert.Dsa

end
-- ==== Proof.DsaHost.lean ====
/- The arrays that the second layer's projection reads, entry by entry, in terms of the inputs. -/
module

public import proofs.«01_k».proof.Proof.DsaTile
public import proofs.«01_k».proof.Proof.ProjHost

@[expose] public section

noncomputable section

namespace Cert.Dsa

open Cert.Kernel4Ideal Cert.Kernel4Ideal.Gen
open Cert.Proj (Arr cosOf sinOf pos scale angles angles_apply wordAt four_apply)
open Idealize.ShloMosaic hiding ix1 ix2 ix3 ix4 eq_ix2
open Idealize.ShloMosaic.TcCoe Idealize.SL.Sem Idealize.ShloMosaic.ValueIdx

/-- The columns the queries are taken from. -/
def cols : IVec S1024x1 32 :=
  broadcastInDim S1024x1 ![0] bcast_S1024_S1024x1_0
    (select (constantI S1024 1 0#1) (addi (fun i => lit0 (S1024.rowMajor i)) (broadcastInDim S1024 ![] bcast_S_S1024 (constantI S_ 32 1024#32)))
      (fun i => lit0 (S1024.rowMajor i)))

section
variable {F : FTy → Type} [FloatOps F]
variable (m : (ℓ : Loc nD τ sig) → Buf (Elt F) ℓ)

theorem v18_term (c : Dev nD) : (V m c main_v18 : FVec F S2560x128 .f32)
    = concatenate S2560x128 1 [⟨S2560x32, Host.cos angles⟩, ⟨S2560x32, Host.cos angles⟩, ⟨S2560x32, Host.cos angles⟩, ⟨S2560x32, Host.cos angles⟩]
        concatenates_S2560x32_S2560x32_S2560x32_S2560x32_S2560x128_d1 := by
  show StableHlo.after (List.flatten [hostOps0, hostOps0_1, hostOps0_2]) _ (Proc.devRef .tc main_v18) = _
  simp only [hostOps0, hostOps0_1, hostOps0_2, List.flatten_cons, List.flatten_nil, List.append_nil, List.cons_append, List.nil_append]
  after_results
  dsimp only [Matrix.cons_val]
  after_results_loop
  rfl

theorem v21_term (c : Dev nD) : (V m c main_v21 : FVec F S2560x128 .f32)
    = concatenate S2560x128 1 [⟨S2560x32, Host.negf (Host.sin angles)⟩, ⟨S2560x32, Host.sin angles⟩, ⟨S2560x32, Host.negf (Host.sin angles)⟩,
        ⟨S2560x32, Host.sin angles⟩] concatenates_S2560x32_S2560x32_S2560x32_S2560x32_S2560x128_d1 := by
  show StableHlo.after (List.flatten [hostOps0, hostOps0_1, hostOps0_2]) _ (Proc.devRef .tc main_v21) = _
  simp only [hostOps0, hostOps0_1, hostOps0_2, List.flatten_cons, List.flatten_nil, List.append_nil, List.cons_append, List.nil_append]
  after_results
  dsimp only [Matrix.cons_val]
  after_results_loop
  rfl

theorem v34_term (c : Dev nD) (W : FVec F S1024x2120 .f32)
    (hW : W = shapeCast S1024x2120 (m ((c : Thread nD τ).loc main_arg1) : FVec F S1x1024x2120 .f32) shapeCasts_S1x1024x2120_S1024x2120) :
    (V m c main_v34 : FVec F S1024x2176 .bf16)
    = truncf .bf16 (concatenate S1024x2176 1 [⟨S1024x1024, Host.gather gather_S1024x1024_S1024x1_S1024x1024_0_1_n_n_1_1_10241
          (extractStridedSlice S1024x1024 ![0, 0] W slices_S1024x2120_S1024x1024_0_0) cols⟩,
        ⟨S1024x256, extractStridedSlice S1024x256 ![0, 1024] W slices_S1024x2120_S1024x256_0_1024⟩,
        ⟨S1024x256, extractStridedSlice S1024x256 ![0, 1280] W slices_S1024x2120_S1024x256_0_1280⟩,
        ⟨S1024x512, extractStridedSlice S1024x512 ![0, 1536] W slices_S1024x2120_S1024x512_0_1536⟩,
        ⟨S1024x64, extractStridedSlice S1024x64 ![0, 2048] W slices_S1024x2120_S1024x64_0_2048⟩,
        ⟨S1024x64, extractStridedSlice S1024x64 ![0, 2048] W slices_S1024x2120_S1024x64_0_2048⟩]
        concatenates_S1024x1024_S1024x256_S1024x256_S1024x512_S1024x64_S1024x64_S1024x2176_d1) bitsLt_bf16_f32 := by
  subst hW
  show StableHlo.after (List.flatten [hostOps0, hostOps0_1, hostOps0_2]) _ (Proc.devRef .tc main_v34) = _
  simp only [hostOps0, hostOps0_1, hostOps0_2, List.flatten_cons, List.flatten_nil, List.append_nil, List.cons_append, List.nil_append]
  after_results
  dsimp only [Matrix.cons_val]
  after_results_loop
  rfl

theorem v35_term (c : Dev nD) : (V m c main_v35 : FVec F S1x2176 .f32)
    = broadcastInDim S1x2176 ![] bcast_S_S1x2176 (constant S_ .f32 0x00000000#32) := by
  show StableHlo.after (List.flatten [hostOps0, hostOps0_1, hostOps0_2]) _ (Proc.devRef .tc main_v35) = _
  simp only [hostOps0, hostOps0_1, hostOps0_2, List.flatten_cons, List.flatten_nil, List.append_nil, List.cons_append, List.nil_append]
  after_results

end

/-! ## The columns taken for the queries -/

theorem cols_apply (C : Fin 1024) : cols (ix2 C (0 : Fin 1)) = BitVec.ofNat 32 (headCol C.val) := by
  revert C
  decide +kernel

theorem headCol_lt (C : Nat) (h : C < 1024) : headCol C < 1024 := by
  unfold headCol
  omega

theorem cols_nat (C : Fin 1024) : (cols (ix2 C (0 : Fin 1))).toInt.toNat = headCol C.val := by
  rw [cols_apply]
  have h := headCol_lt C.val C.isLt
  generalize headCol C.val = n at h
  rw [BitVec.toInt_eq_toNat_of_lt (by rw [BitVec.toNat_ofNat]; omega), BitVec.toNat_ofNat]
  omega

theorem gatherW_apply (X : FVec Ideal S1024x1024 .f32) (k C : Fin 1024) :
    Host.gather gather_S1024x1024_S1024x1_S1024x1024_0_1_n_n_1_1_10241 X cols (ix2 k C)
      = X (ix2 k (⟨headCol C.val, headCol_lt _ C.isLt⟩ : Fin 1024)) := by
  unfold Host.gather
  congr 1
  funext a
  refine Fin.ext ?_
  show gather_S1024x1024_S1024x1_S1024x1024_0_1_n_n_1_1_10241.start (ix2 k C) cols a
    + gather_S1024x1024_S1024x1_S1024x1024_0_1_n_n_1_1_10241.batchCoord (ix2 k C) a
    + gather_S1024x1024_S1024x1_S1024x1024_0_1_n_n_1_1_10241.offCoord (ix2 k C) a = _
  rw [GatherDims.batchCoord_eq_zero _ _ _ List.not_mem_nil]
  have h01 : a = (0 : Fin 2) ∨ a = (1 : Fin 2) := match a with
    | ⟨0, _⟩ => Or.inl rfl
    | ⟨1, _⟩ => Or.inr rfl
  rcases h01 with rfl | rfl
  · unfold GatherDims.start
    rw [dif_neg (by decide)]
    show 0 + 0 + k.val = k.val
    omega
  · rw [GatherDims.offCoord_eq_zero _ _ _ (fun h => ((GatherDims.mem_sKept _ _).mp h).1 (List.mem_singleton.mpr rfl))]
    unfold GatherDims.start
    rw [dif_pos (show (1 : Fin 2) ∈ gather_S1024x1024_S1024x1_S1024x1024_0_1_n_n_1_1_10241.startIndexMap from List.mem_singleton.mpr rfl)]
    have hsi : gather_S1024x1024_S1024x1_S1024x1024_0_1_n_n_1_1_10241.siIdx (ix2 k C)
        ⟨List.idxOf (1 : Fin 2) gather_S1024x1024_S1024x1_S1024x1024_0_1_n_n_1_1_10241.startIndexMap,
          List.idxOf_lt_length_iff.2 (List.mem_singleton.mpr rfl)⟩ = ix2 C (0 : Fin 1) := by
      funext b
      refine Fin.ext ?_
      match b with
      | ⟨0, _⟩ => rfl
      | ⟨1, _⟩ => rfl
    show min (cols (gather_S1024x1024_S1024x1_S1024x1024_0_1_n_n_1_1_10241.siIdx (ix2 k C) _)).toInt.toNat 1023 + 0 + 0 = headCol C.val
    rw [hsi, cols_nat]
    have := headCol_lt C.val C.isLt
    omega

/-- The column of the projection that stands in column `C` of the prepared weights: the indexer's key stands twice. -/
def srcCol (C : Nat) : Nat := if C < 1024 then headCol C else if C < 2112 then C else C - 64

theorem srcCol_lt (C : Nat) (h : C < 2176) : srcCol C < 2120 := by
  unfold srcCol
  split
  · have := headCol_lt C (by assumption); omega
  · split <;> omega

theorem weights_apply (w : FVec Ideal S1x1024x2120 .f32) (W : FVec Ideal S1024x2120 .f32)
    (hW : W = shapeCast S1024x2120 w shapeCasts_S1x1024x2120_S1024x2120) (k : Fin 1024) (C : Fin 2176) :
    concatenate S1024x2176 1 [⟨S1024x1024, Host.gather gather_S1024x1024_S1024x1_S1024x1024_0_1_n_n_1_1_10241
          (extractStridedSlice S1024x1024 ![0, 0] W slices_S1024x2120_S1024x1024_0_0) cols⟩,
        ⟨S1024x256, extractStridedSlice S1024x256 ![0, 1024] W slices_S1024x2120_S1024x256_0_1024⟩,
        ⟨S1024x256, extractStridedSlice S1024x256 ![0, 1280] W slices_S1024x2120_S1024x256_0_1280⟩,
        ⟨S1024x512, extractStridedSlice S1024x512 ![0, 1536] W slices_S1024x2120_S1024x512_0_1536⟩,
        ⟨S1024x64, extractStridedSlice S1024x64 ![0, 2048] W slices_S1024x2120_S1024x64_0_2048⟩,
        ⟨S1024x64, extractStridedSlice S1024x64 ![0, 2048] W slices_S1024x2120_S1024x64_0_2048⟩]
        concatenates_S1024x1024_S1024x256_S1024x256_S1024x512_S1024x64_S1024x64_S1024x2176_d1 (ix2 k C)
      = w (ix3 (0 : Fin 1) k (⟨srcCol C.val, srcCol_lt _ C.isLt⟩ : Fin 2120)) := by
  have hw : ∀ D : Fin 2120, W (ix2 k D) = w (ix3 (0 : Fin 1) k D) := fun D => by
    rw [hW]
    refine shapeCast_apply _ _ _ _ ?_
    rw [Shape.rowMajor_val_three, Shape.rowMajor_val_two]
    show (0 * 1024 + k.val) * 2120 + D.val = k.val * 2120 + D.val
    omega
  have hC := C.isLt
  by_cases h0 : C.val < 1024
  · refine (concatenate_apply_piece (1 : Fin 2) _ _ (ix2 k C) 0 (by exact (by decide : 0 < 6)) S1024x1024 _ rfl rfl 0 rfl (ix2 k (⟨C.val, h0⟩ : Fin 1024))
      (fun b hb => match b with | ⟨0, _⟩ => rfl | ⟨1, _⟩ => absurd rfl hb) (by show 0 + C.val = C.val; omega)).trans ?_
    have hh := headCol_lt C.val h0
    rw [gatherW_apply]
    refine (extractStridedSlice_apply _ _ _ _ (ix2 k (⟨headCol C.val, by omega⟩ : Fin 2120))
      (fun a => match a with | ⟨0, _⟩ => (Nat.zero_add _).symm | ⟨1, _⟩ => (Nat.zero_add _).symm)).trans ((hw _).trans ?_)
    congr 2
    exact Fin.ext (by show headCol C.val = srcCol C.val; unfold srcCol; rw [if_pos h0])
  rw [← hw]
  by_cases h1 : C.val < 1280
  · refine (concatenate_apply_piece (1 : Fin 2) _ _ (ix2 k C) 1 (by exact (by decide : 1 < 6)) S1024x256 _ rfl rfl 1024 rfl (ix2 k (⟨C.val - 1024, by omega⟩ : Fin 256))
      (fun b hb => match b with | ⟨0, _⟩ => rfl | ⟨1, _⟩ => absurd rfl hb) (by show 1024 + (C.val - 1024) = C.val; omega)).trans ?_
    exact extractStridedSlice_apply _ _ _ _ (ix2 k (⟨srcCol C.val, srcCol_lt _ C.isLt⟩ : Fin 2120))
      (fun a => match a with | ⟨0, _⟩ => (Nat.zero_add _).symm | ⟨1, _⟩ => by show srcCol C.val = 1024 + (C.val - 1024); unfold srcCol; rw [if_neg h0, if_pos (by omega)]; omega)
  by_cases h2 : C.val < 1536
  · refine (concatenate_apply_piece (1 : Fin 2) _ _ (ix2 k C) 2 (by exact (by decide : 2 < 6)) S1024x256 _ rfl rfl 1280 rfl (ix2 k (⟨C.val - 1280, by omega⟩ : Fin 256))
      (fun b hb => match b with | ⟨0, _⟩ => rfl | ⟨1, _⟩ => absurd rfl hb) (by show 1280 + (C.val - 1280) = C.val; omega)).trans ?_
    exact extractStridedSlice_apply _ _ _ _ (ix2 k (⟨srcCol C.val, srcCol_lt _ C.isLt⟩ : Fin 2120))
      (fun a => match a with | ⟨0, _⟩ => (Nat.zero_add _).symm | ⟨1, _⟩ => by show srcCol C.val = 1280 + (C.val - 1280); unfold srcCol; rw [if_neg h0, if_pos (by omega)]; omega)
  by_cases h3 : C.val < 2048
  · refine (concatenate_apply_piece (1 : Fin 2) _ _ (ix2 k C) 3 (by exact (by decide : 3 < 6)) S1024x512 _ rfl rfl 1536 rfl (ix2 k (⟨C.val - 1536, by omega⟩ : Fin 512))
      (fun b hb => match b with | ⟨0, _⟩ => rfl | ⟨1, _⟩ => absurd rfl hb) (by show 1536 + (C.val - 1536) = C.val; omega)).trans ?_
    exact extractStridedSlice_apply _ _ _ _ (ix2 k (⟨srcCol C.val, srcCol_lt _ C.isLt⟩ : Fin 2120))
      (fun a => match a with | ⟨0, _⟩ => (Nat.zero_add _).symm | ⟨1, _⟩ => by show srcCol C.val = 1536 + (C.val - 1536); unfold srcCol; rw [if_neg h0, if_pos (by omega)]; omega)
  by_cases h4 : C.val < 2112
  · refine (concatenate_apply_piece (1 : Fin 2) _ _ (ix2 k C) 4 (by exact (by decide : 4 < 6)) S1024x64 _ rfl rfl 2048 rfl (ix2 k (⟨C.val - 2048, by omega⟩ : Fin 64))
      (fun b hb => match b with | ⟨0, _⟩ => rfl | ⟨1, _⟩ => absurd rfl hb) (by show 2048 + (C.val - 2048) = C.val; omega)).trans ?_
    exact extractStridedSlice_apply _ _ _ _ (ix2 k (⟨srcCol C.val, srcCol_lt _ C.isLt⟩ : Fin 2120))
      (fun a => match a with | ⟨0, _⟩ => (Nat.zero_add _).symm | ⟨1, _⟩ => by show srcCol C.val = 2048 + (C.val - 2048); unfold srcCol; rw [if_neg h0, if_pos (by omega)]; omega)
  · refine (concatenate_apply_piece (1 : Fin 2) _ _ (ix2 k C) 5 (by exact (by decide : 5 < 6)) S1024x64 _ rfl rfl 2112 rfl (ix2 k (⟨C.val - 2112, by omega⟩ : Fin 64))
      (fun b hb => match b with | ⟨0, _⟩ => rfl | ⟨1, _⟩ => absurd rfl hb) (by show 2112 + (C.val - 2112) = C.val; omega)).trans ?_
    exact extractStridedSlice_apply _ _ _ _ (ix2 k (⟨srcCol C.val, srcCol_lt _ C.isLt⟩ : Fin 2120))
      (fun a => match a with | ⟨0, _⟩ => (Nat.zero_add _).symm | ⟨1, _⟩ => by show srcCol C.val = 2048 + (C.val - 2112); unfold srcCol; rw [if_neg h0, if_neg (by omega)]; omega)

/-! ## The arrays the kernel reads -/

variable (m : (ℓ : Loc nD τ sig) → Buf (Elt Ideal) ℓ)

/-- The inputs, as the launch finds them. -/
abbrev xOf (c : Dev nD) : Arr ⟨2, ![16896, 1024]⟩ := m ((c : Thread nD τ).loc main_arg0)
abbrev wOf (c : Dev nD) : Arr ⟨3, ![1, 1024, 2120]⟩ := m ((c : Thread nD τ).loc main_arg1)

theorem v34_apply (c : Dev nD) (k : Fin 1024) (C : Fin 2176) :
    (V m c main_v34 : FVec Ideal S1024x2176 .bf16) (ix2 k C) = wOf m c (ix3 (0 : Fin 1) k (⟨srcCol C.val, srcCol_lt _ C.isLt⟩ : Fin 2120)) := by
  rw [v34_term m c _ rfl]
  exact weights_apply _ _ rfl k C

theorem v35_apply (c : Dev nD) (C : Fin 2176) : (V m c main_v35 : FVec Ideal S1x2176 .f32) (ix2 (0 : Fin 1) C) = (0 : EReal) := by
  rw [v35_term m c]
  show Ideal.ofBits .f32 0x00000000#32 = 0
  exact Ideal.ofBits_zero_f32

theorem v18_apply (c : Dev nD) (q : Fin 2560) (l : Fin 128) :
    (V m c main_v18 : FVec Ideal S2560x128 .f32) (ix2 q l) = cosOf (wordAt q.val) (l.val % 32) := by
  rw [v18_term]
  refine (four_apply _ _ _ _ q l).trans ?_
  rw [ite_self, ite_self, ite_self]
  show FloatOps.hostUnary (F := Ideal) (φ := .f32) .cos (angles (ix2 q _)) = _
  rw [angles_apply]
  rfl

theorem v21_apply (c : Dev nD) (q : Fin 2560) (l : Fin 128) :
    (V m c main_v21 : FVec Ideal S2560x128 .f32) (ix2 q l)
      = if l.val % 64 < 32 then -(sinOf (wordAt q.val) (l.val % 32)) else sinOf (wordAt q.val) (l.val % 32) := by
  rw [v21_term]
  refine (four_apply _ _ _ _ q l).trans ?_
  have hl := l.isLt
  have hs : (Host.sin (F := Ideal) angles : FVec Ideal S2560x32 .f32) (ix2 q (⟨l.val % 32, by omega⟩ : Fin 32)) = sinOf (wordAt q.val) (l.val % 32) := by
    show FloatOps.hostUnary (F := Ideal) (φ := .f32) .sin (angles (ix2 q _)) = _
    rw [angles_apply]
    rfl
  have hn : (Host.negf (F := Ideal) (Host.sin angles) : FVec Ideal S2560x32 .f32) (ix2 q (⟨l.val % 32, by omega⟩ : Fin 32)) = -(sinOf (wordAt q.val) (l.val % 32)) := by
    rw [← hs]
    rfl
  by_cases h0 : l.val < 32
  · rw [if_pos h0, if_pos (by omega)]; exact hn
  by_cases h1 : l.val < 64
  · rw [if_neg h0, if_pos h1, if_neg (by omega)]; exact hs
  by_cases h2 : l.val < 96
  · rw [if_neg h0, if_neg h1, if_pos h2, if_pos (by omega)]; exact hn
  · rw [if_neg h0, if_neg h1, if_neg h2, if_neg (by omega)]; exact hs

end Cert.Dsa

end
-- ==== Proof.DsaFinal.lean ====
/- The flat arrays of the second layer's projection, as functions of the inputs. -/
module

public import proofs.«01_k».proof.Proof.DsaHost
public import proofs.«01_k».proof.Proof.ProjFinal

@[expose] public section

set_option maxRecDepth 16384

noncomputable section

namespace Cert.Dsa

open Cert.Kernel4Ideal Cert.Kernel4Ideal.Gen
open Cert.Proj (Arr cosOf sinOf pos scale wordAt tableRow tableRow_lt word_eq)
open Idealize.ShloMosaic hiding ix1 ix2 ix3 ix4 eq_ix2
open Idealize.ShloMosaic.TcCoe Idealize.SL.Sem Idealize.ShloMosaic.ValueIdx
open Idealize.ShloMosaic.Pipeline (Dat Cfg Window)

/-! ## A point's tile in terms of the inputs -/

theorem srcCol_mod (C : Nat) : srcCol C % 64 = C % 64 := by
  unfold srcCol headCol
  split
  · omega
  · split <;> omega

theorem srcCol_up (C : Nat) (hC : C % 64 < 32) : srcCol (C + 32) = srcCol C + 32 := by
  unfold srcCol headCol
  by_cases h0 : C < 1024
  · rw [if_pos h0, if_pos (by omega)]; omega
  · rw [if_neg h0, if_neg (by omega)]
    by_cases h1 : C < 2112
    · rw [if_pos h1, if_pos (by omega)]
    · rw [if_neg h1, if_neg (by omega)]; omega

theorem srcCol_down (C : Nat) (hC : ¬ C % 64 < 32) : srcCol (C - 32) = srcCol C - 32 := by
  have h := srcCol_up (C - 32) (by omega)
  rw [Nat.sub_add_cancel (by omega)] at h
  omega

section Tile
variable (x : Arr ⟨2, ![16896, 1024]⟩) (w : Arr ⟨3, ![1, 1024, 2120]⟩) (t : Nat) (ht : t < 33)
variable (x0 : Arr S512x1024) (x2 : Arr S1024x2176) (x3 : Arr S1x2176) (x4 x5 : Arr S512x128)
variable (h0 : ∀ (r : Fin 512) (k : Fin 1024), x0 (ix2 r k) = x (ix2 (⟨(512 * t + r.val) % 16896, by omega⟩ : Fin 16896) k))
variable (h2 : ∀ (k : Fin 1024) (C : Fin 2176), x2 (ix2 k C) = w (ix3 (0 : Fin 1) k (⟨srcCol C.val, srcCol_lt _ C.isLt⟩ : Fin 2120)))
variable (h3 : ∀ C : Fin 2176, x3 (ix2 (0 : Fin 1) C) = (0 : EReal))
variable (h4 : ∀ (r : Fin 512) (l : Fin 128), x4 (ix2 r l) = cosOf (wordAt (tableRow t r.val)) (l.val % 32))
variable (h5 : ∀ (r : Fin 512) (l : Fin 128), x5 (ix2 r l)
  = if l.val % 64 < 32 then -(sinOf (wordAt (tableRow t r.val)) (l.val % 32)) else sinOf (wordAt (tableRow t r.val)) (l.val % 32))

include h0 h2 h3 in
theorem linAt_eq (r : Fin 512) (C : Nat) (hC : C < 2176) : linAt x0 x2 x3 r C = lin x w (512 * t + r.val) (srcCol C) := by
  have hs := srcCol_lt C hC
  have e : (⟨srcCol (C % 2176), srcCol_lt _ (by omega)⟩ : Fin 2120) = ⟨srcCol C % 2120, by omega⟩ :=
    Fin.ext (by show srcCol (C % 2176) = srcCol C % 2120; rw [Nat.mod_eq_of_lt hC, Nat.mod_eq_of_lt hs])
  unfold linAt lin
  rw [h3, add_zero]
  refine Finset.sum_congr rfl fun k _ => ?_
  rw [h2, h0]
  exact congrArg (fun D => x (ix2 (⟨(512 * t + r.val) % 16896, by omega⟩ : Fin 16896) k) * w (ix3 (0 : Fin 1) k D)) e

include ht h0 h2 h3 h4 h5 in
theorem turnedAt_eq (r : Fin 512) (C : Nat) (hC : C < 2176) :
    turnedAt x0 x2 x3 x4 x5 r C = turned x w (512 * t + r.val) (srcCol C) := by
  have L := linAt_eq x w t x0 x2 x3 h0 h2 h3 r
  have hm := srcCol_mod C
  have e1 : C % 128 % 32 = srcCol C % 32 := by omega
  have e2 : C % 128 % 64 = C % 64 := by omega
  unfold turnedAt turned
  rw [h4, h5, L C hC, word_eq t r.val ht r.isLt, hm]
  show _ * cosOf _ (C % 128 % 32) + _ * (if C % 128 % 64 < 32 then -(sinOf _ (C % 128 % 32)) else sinOf _ (C % 128 % 32)) = _
  rw [e1, e2]
  by_cases h : C % 64 < 32
  · rw [if_pos h, if_pos h, if_pos h, L (C + 32) (by omega), srcCol_up C h, sub_eq_add_neg, mul_neg]
  · rw [if_neg h, if_neg h, if_neg h, L (C - 32) (by omega), srcCol_down C h, add_comm]

end Tile

/-! ## The blocks a point reads -/

variable (m : (ℓ : Loc nD τ sig) → Buf (Elt Ideal) ℓ)

theorem idx_facts : ∀ t : Fin cfg0.N,
    (win0_0.index t 0 = t.val ∧ win0_0.index t 1 = 0 ∧ win0_2.index t 0 = 0 ∧ win0_2.index t 1 = 0 ∧ win0_3.index t 0 = 0 ∧ win0_3.index t 1 = 0)
    ∧ (win0_4.index t 0 = (if t.val < 32 then t.val % 4 else 4) ∧ win0_4.index t 1 = 0
      ∧ win0_5.index t 0 = (if t.val < 32 then t.val % 4 else 4) ∧ win0_5.index t 1 = 0) :=
  (by decide +kernel : ∀ t : Fin grid0.N, _)

theorem lt_N (t : Fin cfg0.N) : t.val < 33 := t.isLt

theorem iblk0_apply (c : Dev nD) (t : Fin cfg0.N) (r : Fin 512) (k : Fin 1024) :
    (iblk m c 0 t : Vec Ideal S512x1024 .f32) (ix2 r k) = xOf m c (ix2 (⟨(512 * t.val + r.val) % 16896, by omega⟩ : Fin 16896) k) := by
  have hi := (idx_facts t).1
  have ht := lt_N t
  unfold iblk
  rw [View.read_apply]
  show V m c main_arg0 _ = _
  rw [V_main_arg0]
  show xOf m c _ = xOf m c _
  congr 1
  funext a
  apply Fin.ext
  match a with
  | ⟨0, _⟩ => show win0_0.index t 0 * 512 + 1 * r.val = (512 * t.val + r.val) % 16896; rw [hi.1]; omega
  | ⟨1, _⟩ => show win0_0.index t 1 * 1024 + 1 * k.val = k.val; rw [hi.2.1]; omega

theorem iblk2_apply (c : Dev nD) (t : Fin cfg0.N) (k : Fin 1024) (C : Fin 2176) :
    (iblk m c 2 t : Vec Ideal S1024x2176 .bf16) (ix2 k C) = (V m c main_v34 : FVec Ideal S1024x2176 .bf16) (ix2 k C) := by
  have hi := (idx_facts t).1
  unfold iblk
  rw [View.read_apply]
  show V m c main_v34 _ = V m c main_v34 _
  congr 1
  funext a
  apply Fin.ext
  match a with
  | ⟨0, _⟩ => show win0_2.index t 0 * 1024 + 1 * k.val = k.val; rw [hi.2.2.1]; omega
  | ⟨1, _⟩ => show win0_2.index t 1 * 2176 + 1 * C.val = C.val; rw [hi.2.2.2.1]; omega

theorem iblk3_apply (c : Dev nD) (t : Fin cfg0.N) (C : Fin 2176) :
    (iblk m c 3 t : Vec Ideal S1x2176 .f32) (ix2 (0 : Fin 1) C) = (V m c main_v35 : FVec Ideal S1x2176 .f32) (ix2 (0 : Fin 1) C) := by
  have hi := (idx_facts t).1
  unfold iblk
  rw [View.read_apply]
  show V m c main_v35 _ = V m c main_v35 _
  congr 1
  funext a
  apply Fin.ext
  match a with
  | ⟨0, _⟩ => show win0_3.index t 0 * 1 + 1 * 0 = 0; rw [hi.2.2.2.2.1]
  | ⟨1, _⟩ => show win0_3.index t 1 * 2176 + 1 * C.val = C.val; rw [hi.2.2.2.2.2]; omega

theorem iblk4_apply (c : Dev nD) (t : Fin cfg0.N) (r : Fin 512) (l : Fin 128) :
    (iblk m c 4 t : Vec Ideal S512x128 .f32) (ix2 r l)
      = (V m c main_v18 : FVec Ideal S2560x128 .f32) (ix2 (⟨tableRow t.val r.val, tableRow_lt _ _ r.isLt⟩ : Fin 2560) l) := by
  have hi := (idx_facts t).2
  unfold iblk
  rw [View.read_apply]
  show V m c main_v18 _ = V m c main_v18 _
  congr 1
  funext a
  apply Fin.ext
  match a with
  | ⟨0, _⟩ => show win0_4.index t 0 * 512 + 1 * r.val = tableRow t.val r.val; rw [hi.1]; unfold tableRow; omega
  | ⟨1, _⟩ => show win0_4.index t 1 * 128 + 1 * l.val = l.val; rw [hi.2.1]; omega

theorem iblk5_apply (c : Dev nD) (t : Fin cfg0.N) (r : Fin 512) (l : Fin 128) :
    (iblk m c 5 t : Vec Ideal S512x128 .f32) (ix2 r l)
      = (V m c main_v21 : FVec Ideal S2560x128 .f32) (ix2 (⟨tableRow t.val r.val, tableRow_lt _ _ r.isLt⟩ : Fin 2560) l) := by
  have hi := (idx_facts t).2
  unfold iblk
  rw [View.read_apply]
  show V m c main_v21 _ = V m c main_v21 _
  congr 1
  funext a
  apply Fin.ext
  match a with
  | ⟨0, _⟩ => show win0_5.index t 0 * 512 + 1 * r.val = tableRow t.val r.val; rw [hi.2.2.1]; unfold tableRow; omega
  | ⟨1, _⟩ => show win0_5.index t 1 * 128 + 1 * l.val = l.val; rw [hi.2.2.2]; omega

theorem point_lin (c : Dev nD) (t : Fin cfg0.N) (r : Fin 512) (C : Nat) (hC : C < 2176) :
    linAt (iblk m c 0 t) (iblk m c 2 t) (iblk m c 3 t) r C = lin (xOf m c) (wOf m c) (512 * t.val + r.val) (srcCol C) :=
  linAt_eq _ _ t.val _ _ _ (iblk0_apply m c t) (fun k C => (iblk2_apply m c t k C).trans (v34_apply m c k C))
    (fun C => (iblk3_apply m c t C).trans (v35_apply m c C)) r C hC

theorem point_turned (c : Dev nD) (t : Fin cfg0.N) (r : Fin 512) (C : Nat) (hC : C < 2176) :
    turnedAt (iblk m c 0 t) (iblk m c 2 t) (iblk m c 3 t) (iblk m c 4 t) (iblk m c 5 t) r C
      = turned (xOf m c) (wOf m c) (512 * t.val + r.val) (srcCol C) :=
  turnedAt_eq _ _ t.val (lt_N t) _ _ _ _ _ (iblk0_apply m c t) (fun k C => (iblk2_apply m c t k C).trans (v34_apply m c k C))
    (fun C => (iblk3_apply m c t C).trans (v35_apply m c C))
    (fun r l => (iblk4_apply m c t r l).trans (v18_apply m c _ l)) (fun r l => (iblk5_apply m c t r l).trans (v21_apply m c _ l)) r C hC

/-! ## The arrays after the launch -/

/-- The functions of the launch's inputs that the arrays hold. -/
def queryF (c : Dev nD) : Nat → Nat → EReal := query (xOf m c) (wOf m c)
def keyF (c : Dev nD) : Nat → Nat → EReal := key (xOf m c) (wOf m c)
def valF (c : Dev nD) : Nat → Nat → EReal := val (xOf m c) (wOf m c)
def idxQueryF (c : Dev nD) : Nat → Nat → EReal := idxQuery (xOf m c) (wOf m c)
def idxKeyF (c : Dev nD) : Nat → Nat → EReal := idxKey (xOf m c) (wOf m c)

theorem query_point (c : Dev nD) (t : Fin cfg0.N) (r : Fin 512) (C : Nat) (hC : C < 1024) :
    turnedAt (iblk m c 0 t) (iblk m c 2 t) (iblk m c 3 t) (iblk m c 4 t) (iblk m c 5 t) r (0 + C) * factor = queryF m c (512 * t.val + r.val) C := by
  rw [point_turned m c t r (0 + C) (by omega)]
  unfold queryF query srcCol
  rw [Nat.zero_add, if_pos hC]

theorem key_point (c : Dev nD) (t : Fin cfg0.N) (r : Fin 512) (C : Nat) (hC : C < 256) :
    turnedAt (iblk m c 0 t) (iblk m c 2 t) (iblk m c 3 t) (iblk m c 4 t) (iblk m c 5 t) r (1024 + C) = keyF m c (512 * t.val + r.val) C := by
  rw [point_turned m c t r (1024 + C) (by omega)]
  unfold keyF key srcCol
  rw [if_neg (by omega), if_pos (by omega)]

theorem val_point (c : Dev nD) (t : Fin cfg0.N) (r : Fin 512) (C : Nat) (hC : C < 256) :
    linAt (iblk m c 0 t) (iblk m c 2 t) (iblk m c 3 t) r (1280 + C) = valF m c (512 * t.val + r.val) C := by
  rw [point_lin m c t r (1280 + C) (by omega)]
  unfold valF val srcCol
  rw [if_neg (by omega), if_pos (by omega)]

theorem idxQuery_point (c : Dev nD) (t : Fin cfg0.N) (r : Fin 512) (C : Nat) (hC : C < 512) :
    turnedAt (iblk m c 0 t) (iblk m c 2 t) (iblk m c 3 t) (iblk m c 4 t) (iblk m c 5 t) r (1536 + C) * scale = idxQueryF m c (512 * t.val + r.val) C := by
  rw [point_turned m c t r (1536 + C) (by omega)]
  unfold idxQueryF idxQuery srcCol
  rw [if_neg (by omega), if_pos (by omega)]

theorem idxKey_point (c : Dev nD) (t : Fin cfg0.N) (r : Fin 512) (C : Nat) (hC : C < 128) :
    turnedAt (iblk m c 0 t) (iblk m c 2 t) (iblk m c 3 t) (iblk m c 4 t) (iblk m c 5 t) r (2048 + C) = idxKeyF m c (512 * t.val + r.val) C := by
  rw [point_turned m c t r (2048 + C) (by omega)]
  unfold idxKeyF idxKey srcCol
  rw [if_neg (by omega)]
  refine congrArg (turned (xOf m c) (wOf m c) (512 * t.val + r.val)) ?_
  split <;> omega

theorem out_facts_6 : ∀ t : Fin cfg0.N, (win0_6.index t 0 = t.val ∧ win0_6.index t 1 = 0)
    ∧ (win0_6.xsize (grid0.coords t) 0 = 512 ∧ win0_6.xsize (grid0.coords t) 1 = 1024) ∧ win0_6.flush t = true :=
  (by decide +kernel : ∀ t : Fin grid0.N, _)

theorem flushed_6 (c : Dev nD) (t : Fin cfg0.N) (hf : (cfg0.win 6).flush t = true) :
    (dats m 0 c).flushed 6 t
      = ((cfg0.win 6).blk t).view.read (Elt Ideal) (flat 1024 (queryF m c) : Buf (Elt Ideal) ((c : Thread nD τ).loc main_v36_0)) := by
  have hi := (out_facts_6 t).1
  show (cfg0.win 6).cut (grid0.coords t) ((dats m 0 c).after 6 t) = _
  rw [after0_6, out6_eq]
  refine funext fun (y : S512x1024.Idx) => ?_
  refine Eq.trans ?_ (View.read_apply _ _).symm
  have hy0 : (y 0).val < 512 := (y 0).isLt
  have hy1 : (y 1).val < 1024 := (y 1).isLt
  refine Eq.trans (show _ = (scaledTile (iblk m c 0 t) (iblk m c 2 t) (iblk m c 3 t) (iblk m c 4 t) (iblk m c 5 t) 1024 0 factor : Arr S512x1024) y from rfl) ?_
  refine (query_point m c t (⟨(y 0).val, hy0⟩ : Fin 512) (y 1).val hy1).trans ?_
  show queryF m c (512 * t.val + (y 0).val) (y 1).val = queryF m c (win0_6.index t 0 * 512 + 1 * (y 0).val) (win0_6.index t 1 * 1024 + 1 * (y 1).val)
  rw [hi.1, hi.2]
  congr 1 <;> omega

theorem covers_6 (t : Fin cfg0.N) (i : S16896x1024.Idx) (h : (i 0).val / 512 = t.val) : i ∈ ((cfg0.win 6).blk t).view.set := by
  have h0 := idx2_lt0 (n0 := 16896) (n1 := 1024) i
  have h1 := idx2_lt1 (n0 := 16896) (n1 := 1024) i
  show i ∈ ((View.whole main_v36_0).slice (win0_6.rect t)).set
  rw [View.set_slice_whole, Rect.mem_set_unit]
  have hi := (out_facts_6 t).1
  have hx := (out_facts_6 t).2.1
  intro a
  match a with
  | ⟨0, _⟩ =>
    show win0_6.index t 0 * 512 ≤ (i 0 : Nat) ∧ (i 0 : Nat) < win0_6.index t 0 * 512 + win0_6.xsize (grid0.coords t) 0
    rw [hi.1, hx.1]
    omega
  | ⟨1, _⟩ =>
    show win0_6.index t 1 * 1024 ≤ (i 1 : Nat) ∧ (i 1 : Nat) < win0_6.index t 1 * 1024 + win0_6.xsize (grid0.coords t) 1
    rw [hi.2, hx.2]
    omega

theorem final_6 (c : Dev nD) : (dats m 0 c).arrAt 6 cfg0.N = (flat 1024 (queryF m c) : Buf (Elt Ideal) ((c : Thread nD τ).loc main_v36_0)) :=
  (dats m 0 c).arrAt_eq_of_cover 6 _ (flushed_6 m c) fun (i : S16896x1024.Idx) =>
    have h0 : (i 0 : Nat) < 16896 := (i 0).isLt
    have ht : (i 0 : Nat) / 512 < cfg0.N := by show _ < 33; omega
    ⟨⟨(i 0 : Nat) / 512, ht⟩, (out_facts_6 _).2.2, covers_6 _ i rfl⟩

theorem out_facts_7 : ∀ t : Fin cfg0.N, (win0_7.index t 0 = t.val ∧ win0_7.index t 1 = 0)
    ∧ (win0_7.xsize (grid0.coords t) 0 = 512 ∧ win0_7.xsize (grid0.coords t) 1 = 256) ∧ win0_7.flush t = true :=
  (by decide +kernel : ∀ t : Fin grid0.N, _)

theorem flushed_7 (c : Dev nD) (t : Fin cfg0.N) (hf : (cfg0.win 7).flush t = true) :
    (dats m 0 c).flushed 7 t
      = ((cfg0.win 7).blk t).view.read (Elt Ideal) (flat 256 (keyF m c) : Buf (Elt Ideal) ((c : Thread nD τ).loc main_v36_1)) := by
  have hi := (out_facts_7 t).1
  show (cfg0.win 7).cut (grid0.coords t) ((dats m 0 c).after 7 t) = _
  rw [after0_7, out7_eq]
  refine funext fun (y : S512x256.Idx) => ?_
  refine Eq.trans ?_ (View.read_apply _ _).symm
  have hy0 : (y 0).val < 512 := (y 0).isLt
  have hy1 : (y 1).val < 256 := (y 1).isLt
  refine Eq.trans (show _ = (turnedTile (iblk m c 0 t) (iblk m c 2 t) (iblk m c 3 t) (iblk m c 4 t) (iblk m c 5 t) 256 1024 : Arr S512x256) y from rfl) ?_
  refine (key_point m c t (⟨(y 0).val, hy0⟩ : Fin 512) (y 1).val hy1).trans ?_
  show keyF m c (512 * t.val + (y 0).val) (y 1).val = keyF m c (win0_7.index t 0 * 512 + 1 * (y 0).val) (win0_7.index t 1 * 256 + 1 * (y 1).val)
  rw [hi.1, hi.2]
  congr 1 <;> omega

theorem covers_7 (t : Fin cfg0.N) (i : S16896x256.Idx) (h : (i 0).val / 512 = t.val) : i ∈ ((cfg0.win 7).blk t).view.set := by
  have h0 := idx2_lt0 (n0 := 16896) (n1 := 256) i
  have h1 := idx2_lt1 (n0 := 16896) (n1 := 256) i
  show i ∈ ((View.whole main_v36_1).slice (win0_7.rect t)).set
  rw [View.set_slice_whole, Rect.mem_set_unit]
  have hi := (out_facts_7 t).1
  have hx := (out_facts_7 t).2.1
  intro a
  match a with
  | ⟨0, _⟩ =>
    show win0_7.index t 0 * 512 ≤ (i 0 : Nat) ∧ (i 0 : Nat) < win0_7.index t 0 * 512 + win0_7.xsize (grid0.coords t) 0
    rw [hi.1, hx.1]
    omega
  | ⟨1, _⟩ =>
    show win0_7.index t 1 * 256 ≤ (i 1 : Nat) ∧ (i 1 : Nat) < win0_7.index t 1 * 256 + win0_7.xsize (grid0.coords t) 1
    rw [hi.2, hx.2]
    omega

theorem final_7 (c : Dev nD) : (dats m 0 c).arrAt 7 cfg0.N = (flat 256 (keyF m c) : Buf (Elt Ideal) ((c : Thread nD τ).loc main_v36_1)) :=
  (dats m 0 c).arrAt_eq_of_cover 7 _ (flushed_7 m c) fun (i : S16896x256.Idx) =>
    have h0 : (i 0 : Nat) < 16896 := (i 0).isLt
    have ht : (i 0 : Nat) / 512 < cfg0.N := by show _ < 33; omega
    ⟨⟨(i 0 : Nat) / 512, ht⟩, (out_facts_7 _).2.2, covers_7 _ i rfl⟩

theorem out_facts_8 : ∀ t : Fin cfg0.N, (win0_8.index t 0 = t.val ∧ win0_8.index t 1 = 0)
    ∧ (win0_8.xsize (grid0.coords t) 0 = 512 ∧ win0_8.xsize (grid0.coords t) 1 = 256) ∧ win0_8.flush t = true :=
  (by decide +kernel : ∀ t : Fin grid0.N, _)

theorem flushed_8 (c : Dev nD) (t : Fin cfg0.N) (hf : (cfg0.win 8).flush t = true) :
    (dats m 0 c).flushed 8 t
      = ((cfg0.win 8).blk t).view.read (Elt Ideal) (flat 256 (keyF m c) : Buf (Elt Ideal) ((c : Thread nD τ).loc main_v36_2)) := by
  have hi := (out_facts_8 t).1
  show (cfg0.win 8).cut (grid0.coords t) ((dats m 0 c).after 8 t) = _
  rw [after0_8, out8_eq]
  refine funext fun (y : S512x256.Idx) => ?_
  refine Eq.trans ?_ (View.read_apply _ _).symm
  have hy0 : (y 0).val < 512 := (y 0).isLt
  have hy1 : (y 1).val < 256 := (y 1).isLt
  refine Eq.trans (show _ = (turnedTile (iblk m c 0 t) (iblk m c 2 t) (iblk m c 3 t) (iblk m c 4 t) (iblk m c 5 t) 256 1024 : Arr S512x256) y from rfl) ?_
  refine (key_point m c t (⟨(y 0).val, hy0⟩ : Fin 512) (y 1).val hy1).trans ?_
  show keyF m c (512 * t.val + (y 0).val) (y 1).val = keyF m c (win0_8.index t 0 * 512 + 1 * (y 0).val) (win0_8.index t 1 * 256 + 1 * (y 1).val)
  rw [hi.1, hi.2]
  congr 1 <;> omega

theorem covers_8 (t : Fin cfg0.N) (i : S16896x256.Idx) (h : (i 0).val / 512 = t.val) : i ∈ ((cfg0.win 8).blk t).view.set := by
  have h0 := idx2_lt0 (n0 := 16896) (n1 := 256) i
  have h1 := idx2_lt1 (n0 := 16896) (n1 := 256) i
  show i ∈ ((View.whole main_v36_2).slice (win0_8.rect t)).set
  rw [View.set_slice_whole, Rect.mem_set_unit]
  have hi := (out_facts_8 t).1
  have hx := (out_facts_8 t).2.1
  intro a
  match a with
  | ⟨0, _⟩ =>
    show win0_8.index t 0 * 512 ≤ (i 0 : Nat) ∧ (i 0 : Nat) < win0_8.index t 0 * 512 + win0_8.xsize (grid0.coords t) 0
    rw [hi.1, hx.1]
    omega
  | ⟨1, _⟩ =>
    show win0_8.index t 1 * 256 ≤ (i 1 : Nat) ∧ (i 1 : Nat) < win0_8.index t 1 * 256 + win0_8.xsize (grid0.coords t) 1
    rw [hi.2, hx.2]
    omega

theorem final_8 (c : Dev nD) : (dats m 0 c).arrAt 8 cfg0.N = (flat 256 (keyF m c) : Buf (Elt Ideal) ((c : Thread nD τ).loc main_v36_2)) :=
  (dats m 0 c).arrAt_eq_of_cover 8 _ (flushed_8 m c) fun (i : S16896x256.Idx) =>
    have h0 : (i 0 : Nat) < 16896 := (i 0).isLt
    have ht : (i 0 : Nat) / 512 < cfg0.N := by show _ < 33; omega
    ⟨⟨(i 0 : Nat) / 512, ht⟩, (out_facts_8 _).2.2, covers_8 _ i rfl⟩

theorem out_facts_9 : ∀ t : Fin cfg0.N, (win0_9.index t 0 = t.val ∧ win0_9.index t 1 = 0)
    ∧ (win0_9.xsize (grid0.coords t) 0 = 512 ∧ win0_9.xsize (grid0.coords t) 1 = 256) ∧ win0_9.flush t = true :=
  (by decide +kernel : ∀ t : Fin grid0.N, _)

theorem flushed_9 (c : Dev nD) (t : Fin cfg0.N) (hf : (cfg0.win 9).flush t = true) :
    (dats m 0 c).flushed 9 t
      = ((cfg0.win 9).blk t).view.read (Elt Ideal) (flat 256 (valF m c) : Buf (Elt Ideal) ((c : Thread nD τ).loc main_v36_3)) := by
  have hi := (out_facts_9 t).1
  show (cfg0.win 9).cut (grid0.coords t) ((dats m 0 c).after 9 t) = _
  rw [after0_9, out9_eq]
  refine funext fun (y : S512x256.Idx) => ?_
  refine Eq.trans ?_ (View.read_apply _ _).symm
  have hy0 : (y 0).val < 512 := (y 0).isLt
  have hy1 : (y 1).val < 256 := (y 1).isLt
  refine Eq.trans (show _ = (plainTile (iblk m c 0 t) (iblk m c 2 t) (iblk m c 3 t) 256 1280 : Arr S512x256) y from rfl) ?_
  refine (val_point m c t (⟨(y 0).val, hy0⟩ : Fin 512) (y 1).val hy1).trans ?_
  show valF m c (512 * t.val + (y 0).val) (y 1).val = valF m c (win0_9.index t 0 * 512 + 1 * (y 0).val) (win0_9.index t 1 * 256 + 1 * (y 1).val)
  rw [hi.1, hi.2]
  congr 1 <;> omega

theorem covers_9 (t : Fin cfg0.N) (i : S16896x256.Idx) (h : (i 0).val / 512 = t.val) : i ∈ ((cfg0.win 9).blk t).view.set := by
  have h0 := idx2_lt0 (n0 := 16896) (n1 := 256) i
  have h1 := idx2_lt1 (n0 := 16896) (n1 := 256) i
  show i ∈ ((View.whole main_v36_3).slice (win0_9.rect t)).set
  rw [View.set_slice_whole, Rect.mem_set_unit]
  have hi := (out_facts_9 t).1
  have hx := (out_facts_9 t).2.1
  intro a
  match a with
  | ⟨0, _⟩ =>
    show win0_9.index t 0 * 512 ≤ (i 0 : Nat) ∧ (i 0 : Nat) < win0_9.index t 0 * 512 + win0_9.xsize (grid0.coords t) 0
    rw [hi.1, hx.1]
    omega
  | ⟨1, _⟩ =>
    show win0_9.index t 1 * 256 ≤ (i 1 : Nat) ∧ (i 1 : Nat) < win0_9.index t 1 * 256 + win0_9.xsize (grid0.coords t) 1
    rw [hi.2, hx.2]
    omega

theorem final_9 (c : Dev nD) : (dats m 0 c).arrAt 9 cfg0.N = (flat 256 (valF m c) : Buf (Elt Ideal) ((c : Thread nD τ).loc main_v36_3)) :=
  (dats m 0 c).arrAt_eq_of_cover 9 _ (flushed_9 m c) fun (i : S16896x256.Idx) =>
    have h0 : (i 0 : Nat) < 16896 := (i 0).isLt
    have ht : (i 0 : Nat) / 512 < cfg0.N := by show _ < 33; omega
    ⟨⟨(i 0 : Nat) / 512, ht⟩, (out_facts_9 _).2.2, covers_9 _ i rfl⟩

theorem out_facts_10 : ∀ t : Fin cfg0.N, (win0_10.index t 0 = t.val ∧ win0_10.index t 1 = 0)
    ∧ (win0_10.xsize (grid0.coords t) 0 = 512 ∧ win0_10.xsize (grid0.coords t) 1 = 512) ∧ win0_10.flush t = true :=
  (by decide +kernel : ∀ t : Fin grid0.N, _)

theorem flushed_10 (c : Dev nD) (t : Fin cfg0.N) (hf : (cfg0.win 10).flush t = true) :
    (dats m 0 c).flushed 10 t
      = ((cfg0.win 10).blk t).view.read (Elt Ideal) (flat 512 (idxQueryF m c) : Buf (Elt Ideal) ((c : Thread nD τ).loc main_v36_4)) := by
  have hi := (out_facts_10 t).1
  show (cfg0.win 10).cut (grid0.coords t) ((dats m 0 c).after 10 t) = _
  rw [after0_10, out10_eq]
  refine funext fun (y : S512x512.Idx) => ?_
  refine Eq.trans ?_ (View.read_apply _ _).symm
  have hy0 : (y 0).val < 512 := (y 0).isLt
  have hy1 : (y 1).val < 512 := (y 1).isLt
  refine Eq.trans (show _ = (scaledTile (iblk m c 0 t) (iblk m c 2 t) (iblk m c 3 t) (iblk m c 4 t) (iblk m c 5 t) 512 1536 scale : Arr S512x512) y from rfl) ?_
  refine (idxQuery_point m c t (⟨(y 0).val, hy0⟩ : Fin 512) (y 1).val hy1).trans ?_
  show idxQueryF m c (512 * t.val + (y 0).val) (y 1).val = idxQueryF m c (win0_10.index t 0 * 512 + 1 * (y 0).val) (win0_10.index t 1 * 512 + 1 * (y 1).val)
  rw [hi.1, hi.2]
  congr 1 <;> omega

theorem covers_10 (t : Fin cfg0.N) (i : S16896x512.Idx) (h : (i 0).val / 512 = t.val) : i ∈ ((cfg0.win 10).blk t).view.set := by
  have h0 := idx2_lt0 (n0 := 16896) (n1 := 512) i
  have h1 := idx2_lt1 (n0 := 16896) (n1 := 512) i
  show i ∈ ((View.whole main_v36_4).slice (win0_10.rect t)).set
  rw [View.set_slice_whole, Rect.mem_set_unit]
  have hi := (out_facts_10 t).1
  have hx := (out_facts_10 t).2.1
  intro a
  match a with
  | ⟨0, _⟩ =>
    show win0_10.index t 0 * 512 ≤ (i 0 : Nat) ∧ (i 0 : Nat) < win0_10.index t 0 * 512 + win0_10.xsize (grid0.coords t) 0
    rw [hi.1, hx.1]
    omega
  | ⟨1, _⟩ =>
    show win0_10.index t 1 * 512 ≤ (i 1 : Nat) ∧ (i 1 : Nat) < win0_10.index t 1 * 512 + win0_10.xsize (grid0.coords t) 1
    rw [hi.2, hx.2]
    omega

theorem final_10 (c : Dev nD) : (dats m 0 c).arrAt 10 cfg0.N = (flat 512 (idxQueryF m c) : Buf (Elt Ideal) ((c : Thread nD τ).loc main_v36_4)) :=
  (dats m 0 c).arrAt_eq_of_cover 10 _ (flushed_10 m c) fun (i : S16896x512.Idx) =>
    have h0 : (i 0 : Nat) < 16896 := (i 0).isLt
    have ht : (i 0 : Nat) / 512 < cfg0.N := by show _ < 33; omega
    ⟨⟨(i 0 : Nat) / 512, ht⟩, (out_facts_10 _).2.2, covers_10 _ i rfl⟩

theorem out_facts_11 : ∀ t : Fin cfg0.N, (win0_11.index t 0 = t.val ∧ win0_11.index t 1 = 0)
    ∧ (win0_11.xsize (grid0.coords t) 0 = 512 ∧ win0_11.xsize (grid0.coords t) 1 = 128) ∧ win0_11.flush t = true :=
  (by decide +kernel : ∀ t : Fin grid0.N, _)

theorem flushed_11 (c : Dev nD) (t : Fin cfg0.N) (hf : (cfg0.win 11).flush t = true) :
    (dats m 0 c).flushed 11 t
      = ((cfg0.win 11).blk t).view.read (Elt Ideal) (flat 128 (idxKeyF m c) : Buf (Elt Ideal) ((c : Thread nD τ).loc main_v36_5)) := by
  have hi := (out_facts_11 t).1
  show (cfg0.win 11).cut (grid0.coords t) ((dats m 0 c).after 11 t) = _
  rw [after0_11, out11_eq]
  refine funext fun (y : S512x128.Idx) => ?_
  refine Eq.trans ?_ (View.read_apply _ _).symm
  have hy0 : (y 0).val < 512 := (y 0).isLt
  have hy1 : (y 1).val < 128 := (y 1).isLt
  refine Eq.trans (show _ = (turnedTile (iblk m c 0 t) (iblk m c 2 t) (iblk m c 3 t) (iblk m c 4 t) (iblk m c 5 t) 128 2048 : Arr S512x128) y from rfl) ?_
  refine (idxKey_point m c t (⟨(y 0).val, hy0⟩ : Fin 512) (y 1).val hy1).trans ?_
  show idxKeyF m c (512 * t.val + (y 0).val) (y 1).val = idxKeyF m c (win0_11.index t 0 * 512 + 1 * (y 0).val) (win0_11.index t 1 * 128 + 1 * (y 1).val)
  rw [hi.1, hi.2]
  congr 1 <;> omega

theorem covers_11 (t : Fin cfg0.N) (i : S16896x128.Idx) (h : (i 0).val / 512 = t.val) : i ∈ ((cfg0.win 11).blk t).view.set := by
  have h0 := idx2_lt0 (n0 := 16896) (n1 := 128) i
  have h1 := idx2_lt1 (n0 := 16896) (n1 := 128) i
  show i ∈ ((View.whole main_v36_5).slice (win0_11.rect t)).set
  rw [View.set_slice_whole, Rect.mem_set_unit]
  have hi := (out_facts_11 t).1
  have hx := (out_facts_11 t).2.1
  intro a
  match a with
  | ⟨0, _⟩ =>
    show win0_11.index t 0 * 512 ≤ (i 0 : Nat) ∧ (i 0 : Nat) < win0_11.index t 0 * 512 + win0_11.xsize (grid0.coords t) 0
    rw [hi.1, hx.1]
    omega
  | ⟨1, _⟩ =>
    show win0_11.index t 1 * 128 ≤ (i 1 : Nat) ∧ (i 1 : Nat) < win0_11.index t 1 * 128 + win0_11.xsize (grid0.coords t) 1
    rw [hi.2, hx.2]
    omega

theorem final_11 (c : Dev nD) : (dats m 0 c).arrAt 11 cfg0.N = (flat 128 (idxKeyF m c) : Buf (Elt Ideal) ((c : Thread nD τ).loc main_v36_5)) :=
  (dats m 0 c).arrAt_eq_of_cover 11 _ (flushed_11 m c) fun (i : S16896x128.Idx) =>
    have h0 : (i 0 : Nat) < 16896 := (i 0).isLt
    have ht : (i 0 : Nat) / 512 < cfg0.N := by show _ < 33; omega
    ⟨⟨(i 0 : Nat) / 512, ht⟩, (out_facts_11 _).2.2, covers_11 _ i rfl⟩

theorem out_facts_13 : ∀ t : Fin cfg0.N, (win0_13.index t 0 = t.val ∧ win0_13.index t 1 = 0)
    ∧ (win0_13.xsize (grid0.coords t) 0 = 512 ∧ win0_13.xsize (grid0.coords t) 1 = 256) ∧ win0_13.flush t = true :=
  (by decide +kernel : ∀ t : Fin grid0.N, _)

theorem flushed_13 (c : Dev nD) (t : Fin cfg0.N) (hf : (cfg0.win 13).flush t = true) :
    (dats m 0 c).flushed 13 t
      = ((cfg0.win 13).blk t).view.read (Elt Ideal) (flat 256 (valF m c) : Buf (Elt Ideal) ((c : Thread nD τ).loc main_v36_7)) := by
  have hi := (out_facts_13 t).1
  show (cfg0.win 13).cut (grid0.coords t) ((dats m 0 c).after 13 t) = _
  rw [after0_13, out13_eq]
  refine funext fun (y : S512x256.Idx) => ?_
  refine Eq.trans ?_ (View.read_apply _ _).symm
  have hy0 : (y 0).val < 512 := (y 0).isLt
  have hy1 : (y 1).val < 256 := (y 1).isLt
  refine Eq.trans (show _ = (plainTile (iblk m c 0 t) (iblk m c 2 t) (iblk m c 3 t) 256 1280 : Arr S512x256) y from rfl) ?_
  refine (val_point m c t (⟨(y 0).val, hy0⟩ : Fin 512) (y 1).val hy1).trans ?_
  show valF m c (512 * t.val + (y 0).val) (y 1).val = valF m c (win0_13.index t 0 * 512 + 1 * (y 0).val) (win0_13.index t 1 * 256 + 1 * (y 1).val)
  rw [hi.1, hi.2]
  congr 1 <;> omega

theorem covers_13 (t : Fin cfg0.N) (i : S16896x256.Idx) (h : (i 0).val / 512 = t.val) : i ∈ ((cfg0.win 13).blk t).view.set := by
  have h0 := idx2_lt0 (n0 := 16896) (n1 := 256) i
  have h1 := idx2_lt1 (n0 := 16896) (n1 := 256) i
  show i ∈ ((View.whole main_v36_7).slice (win0_13.rect t)).set
  rw [View.set_slice_whole, Rect.mem_set_unit]
  have hi := (out_facts_13 t).1
  have hx := (out_facts_13 t).2.1
  intro a
  match a with
  | ⟨0, _⟩ =>
    show win0_13.index t 0 * 512 ≤ (i 0 : Nat) ∧ (i 0 : Nat) < win0_13.index t 0 * 512 + win0_13.xsize (grid0.coords t) 0
    rw [hi.1, hx.1]
    omega
  | ⟨1, _⟩ =>
    show win0_13.index t 1 * 256 ≤ (i 1 : Nat) ∧ (i 1 : Nat) < win0_13.index t 1 * 256 + win0_13.xsize (grid0.coords t) 1
    rw [hi.2, hx.2]
    omega

theorem final_13 (c : Dev nD) : (dats m 0 c).arrAt 13 cfg0.N = (flat 256 (valF m c) : Buf (Elt Ideal) ((c : Thread nD τ).loc main_v36_7)) :=
  (dats m 0 c).arrAt_eq_of_cover 13 _ (flushed_13 m c) fun (i : S16896x256.Idx) =>
    have h0 : (i 0 : Nat) < 16896 := (i 0).isLt
    have ht : (i 0 : Nat) / 512 < cfg0.N := by show _ < 33; omega
    ⟨⟨(i 0 : Nat) / 512, ht⟩, (out_facts_13 _).2.2, covers_13 _ i rfl⟩

end Cert.Dsa

end
-- ==== Proof.DsaTail.lean ====
/- What the second layer's projection returns: its flat arrays, and the cache rows the host makes of them. -/
module

public import proofs.«01_k».proof.Proof.DsaFinal

@[expose] public section

noncomputable section

namespace Cert.Dsa

open Cert.Kernel4Ideal Cert.Kernel4Ideal.Gen
open Cert.Proj (Arr)
open Idealize.ShloMosaic hiding ix1 ix2 ix3 ix4 ix5 eq_ix2
open Idealize.ShloMosaic.TcCoe Idealize.SL.Sem Idealize.ShloMosaic.ValueIdx

/-! ## The rows of a flat array -/

theorem promptRows_of (g : Nat → Nat → EReal) :
    broadcastInDim S1x8x2048x4x64 ![1, 2, 3, 4] bcast_S8x2048x4x64_S1x8x2048x4x64_1_2_3_4
      (shapeCast S8x2048x4x64 (extractStridedSlice S16384x256 ![0, 0] (flat 256 g : FVec Ideal S16896x256 .f32) slices_S16896x256_S16384x256_0_0)
        shapeCasts_S16384x256_S8x2048x4x64)
      = promptRows g := by
  funext y
  have b1 : (y 1).val < 8 := (y 1).isLt
  have b2 : (y 2).val < 2048 := (y 2).isLt
  have b3 : (y 3).val < 4 := (y 3).isLt
  have b4 : (y 4).val < 64 := (y 4).isLt
  refine (broadcastInDim_apply _ _ _ y (ix4 (⟨(y 1).val, b1⟩ : Fin 8) (⟨(y 2).val, b2⟩ : Fin 2048) (⟨(y 3).val, b3⟩ : Fin 4) (⟨(y 4).val, b4⟩ : Fin 64))
    (fun a => match a with | ⟨0, _⟩ => rfl | ⟨1, _⟩ => rfl | ⟨2, _⟩ => rfl | ⟨3, _⟩ => rfl)).trans ?_
  refine (shapeCast_apply _ _ _
    (ix2 (⟨2048 * (y 1).val + (y 2).val, by omega⟩ : Fin 16384) (⟨64 * (y 3).val + (y 4).val, by omega⟩ : Fin 256)) ?_).trans ?_
  · rw [Shape.rowMajor_val_two, Shape.rowMajor_val_four]
    show (2048 * (y 1).val + (y 2).val) * 256 + (64 * (y 3).val + (y 4).val)
      = (((y 1).val * 2048 + (y 2).val) * 4 + (y 3).val) * 64 + (y 4).val
    omega
  exact extractStridedSlice_apply _ _ _ _
    (ix2 (⟨2048 * (y 1).val + (y 2).val, by omega⟩ : Fin 16896) (⟨64 * (y 3).val + (y 4).val, by omega⟩ : Fin 256))
    (fun a => match a with | ⟨0, _⟩ => (Nat.zero_add _).symm | ⟨1, _⟩ => (Nat.zero_add _).symm)

theorem promptIdx_of (g : Nat → Nat → EReal) :
    broadcastInDim S1x8x2048x64 ![1, 2, 3] bcast_S8x2048x64_S1x8x2048x64_1_2_3
      (shapeCast S8x2048x64 (extractStridedSlice S16384x64 ![0, 0] (flat 128 g : FVec Ideal S16896x128 .f32) slices_S16896x128_S16384x64_0_0)
        shapeCasts_S16384x64_S8x2048x64)
      = promptIdx g := by
  funext y
  have b1 : (y 1).val < 8 := (y 1).isLt
  have b2 : (y 2).val < 2048 := (y 2).isLt
  have b3 : (y 3).val < 64 := (y 3).isLt
  refine (broadcastInDim_apply _ _ _ y (ix3 (⟨(y 1).val, b1⟩ : Fin 8) (⟨(y 2).val, b2⟩ : Fin 2048) (⟨(y 3).val, b3⟩ : Fin 64))
    (fun a => match a with | ⟨0, _⟩ => rfl | ⟨1, _⟩ => rfl | ⟨2, _⟩ => rfl)).trans ?_
  refine (shapeCast_apply _ _ _ (ix2 (⟨2048 * (y 1).val + (y 2).val, by omega⟩ : Fin 16384) (⟨(y 3).val, b3⟩ : Fin 64)) ?_).trans ?_
  · rw [Shape.rowMajor_val_two, Shape.rowMajor_val_three]
    show (2048 * (y 1).val + (y 2).val) * 64 + (y 3).val = ((y 1).val * 2048 + (y 2).val) * 64 + (y 3).val
    omega
  exact extractStridedSlice_apply _ _ _ _
    (ix2 (⟨2048 * (y 1).val + (y 2).val, by omega⟩ : Fin 16896) (⟨(y 3).val, by omega⟩ : Fin 128))
    (fun a => match a with | ⟨0, _⟩ => (Nat.zero_add _).symm | ⟨1, _⟩ => (Nat.zero_add _).symm)

theorem sampleRows_of (g : Nat → Nat → EReal) :
    broadcastInDim S1x128x4x4x64 ![1, 2, 3, 4] bcast_S128x4x4x64_S1x128x4x4x64_1_2_3_4
      (shapeCast S128x4x4x64 (extractStridedSlice S512x256 ![16384, 0] (flat 256 g : FVec Ideal S16896x256 .f32) slices_S16896x256_S512x256_16384_0)
        shapeCasts_S512x256_S128x4x4x64)
      = sampleRows g := by
  funext y
  have b1 : (y 1).val < 128 := (y 1).isLt
  have b2 : (y 2).val < 4 := (y 2).isLt
  have b3 : (y 3).val < 4 := (y 3).isLt
  have b4 : (y 4).val < 64 := (y 4).isLt
  refine (broadcastInDim_apply _ _ _ y (ix4 (⟨(y 1).val, b1⟩ : Fin 128) (⟨(y 2).val, b2⟩ : Fin 4) (⟨(y 3).val, b3⟩ : Fin 4) (⟨(y 4).val, b4⟩ : Fin 64))
    (fun a => match a with | ⟨0, _⟩ => rfl | ⟨1, _⟩ => rfl | ⟨2, _⟩ => rfl | ⟨3, _⟩ => rfl)).trans ?_
  refine (shapeCast_apply _ _ _
    (ix2 (⟨4 * (y 1).val + (y 2).val, by omega⟩ : Fin 512) (⟨64 * (y 3).val + (y 4).val, by omega⟩ : Fin 256)) ?_).trans ?_
  · rw [Shape.rowMajor_val_two, Shape.rowMajor_val_four]
    show (4 * (y 1).val + (y 2).val) * 256 + (64 * (y 3).val + (y 4).val)
      = (((y 1).val * 4 + (y 2).val) * 4 + (y 3).val) * 64 + (y 4).val
    omega
  exact extractStridedSlice_apply _ _ _ _
    (ix2 (⟨16384 + (4 * (y 1).val + (y 2).val), by omega⟩ : Fin 16896) (⟨64 * (y 3).val + (y 4).val, by omega⟩ : Fin 256))
    (fun a => match a with | ⟨0, _⟩ => rfl | ⟨1, _⟩ => (Nat.zero_add _).symm)

theorem sampleIdx_of (g : Nat → Nat → EReal) :
    broadcastInDim S1x128x4x64 ![1, 2, 3] bcast_S128x4x64_S1x128x4x64_1_2_3
      (shapeCast S128x4x64 (extractStridedSlice S512x64 ![16384, 0] (flat 128 g : FVec Ideal S16896x128 .f32) slices_S16896x128_S512x64_16384_0)
        shapeCasts_S512x64_S128x4x64)
      = sampleIdx g := by
  funext y
  have b1 : (y 1).val < 128 := (y 1).isLt
  have b2 : (y 2).val < 4 := (y 2).isLt
  have b3 : (y 3).val < 64 := (y 3).isLt
  refine (broadcastInDim_apply _ _ _ y (ix3 (⟨(y 1).val, b1⟩ : Fin 128) (⟨(y 2).val, b2⟩ : Fin 4) (⟨(y 3).val, b3⟩ : Fin 64))
    (fun a => match a with | ⟨0, _⟩ => rfl | ⟨1, _⟩ => rfl | ⟨2, _⟩ => rfl)).trans ?_
  refine (shapeCast_apply _ _ _ (ix2 (⟨4 * (y 1).val + (y 2).val, by omega⟩ : Fin 512) (⟨(y 3).val, b3⟩ : Fin 64)) ?_).trans ?_
  · rw [Shape.rowMajor_val_two, Shape.rowMajor_val_three]
    show (4 * (y 1).val + (y 2).val) * 64 + (y 3).val = ((y 1).val * 4 + (y 2).val) * 64 + (y 3).val
    omega
  exact extractStridedSlice_apply _ _ _ _
    (ix2 (⟨16384 + (4 * (y 1).val + (y 2).val), by omega⟩ : Fin 16896) (⟨(y 3).val, by omega⟩ : Fin 128))
    (fun a => match a with | ⟨0, _⟩ => rfl | ⟨1, _⟩ => (Nat.zero_add _).symm)

/-! ## The tail of the launch -/

variable (m : (ℓ : Loc nD τ sig) → Buf (Elt Ideal) ℓ)

/-- What the region leaves in a window's array; the first two windows read the same array. -/
theorem region_arr (c : Dev nD) (w : Fin 14) :
    Pipeline.withArrays (cfgs 0).spec c (V0 m c) (fun w => (dats m 0 c).arrAt w (cfgs 0).N) (Proc.devRef .tc (Pipeline.arrRef spec0 w))
      = (dats m 0 c).arrAt w (cfgs 0).N :=
  Pipeline.withArrays_arr_shared spec0 c _ _
    ((dats m 0 c).arrAt_sharedIn sharedIn0 (V0 m c) (fun w => A_eq m c w) (cfgs 0).N) w

theorem tail_39 (c : Dev nD) : Pipeline.afterTail₀ cfgs (dats m) 0 (V0 m) [hostOps1] c main_v39
    = (promptRows (keyF m c) : Buf (Elt Ideal) ((c : Thread nD τ).loc main_v39)) := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v36_1) = _ from (region_arr m c 7).trans (final_7 m c)]
  exact promptRows_of (keyF m c)

theorem tail_42 (c : Dev nD) : Pipeline.afterTail₀ cfgs (dats m) 0 (V0 m) [hostOps1] c main_v42
    = (promptRows (valF m c) : Buf (Elt Ideal) ((c : Thread nD τ).loc main_v42)) := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v36_3) = _ from (region_arr m c 9).trans (final_9 m c)]
  exact promptRows_of (valF m c)

theorem tail_45 (c : Dev nD) : Pipeline.afterTail₀ cfgs (dats m) 0 (V0 m) [hostOps1] c main_v45
    = (promptIdx (idxKeyF m c) : Buf (Elt Ideal) ((c : Thread nD τ).loc main_v45)) := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v36_5) = _ from (region_arr m c 11).trans (final_11 m c)]
  exact promptIdx_of (idxKeyF m c)

theorem tail_48 (c : Dev nD) : Pipeline.afterTail₀ cfgs (dats m) 0 (V0 m) [hostOps1] c main_v48
    = (sampleRows (keyF m c) : Buf (Elt Ideal) ((c : Thread nD τ).loc main_v48)) := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v36_1) = _ from (region_arr m c 7).trans (final_7 m c)]
  exact sampleRows_of (keyF m c)

theorem tail_51 (c : Dev nD) : Pipeline.afterTail₀ cfgs (dats m) 0 (V0 m) [hostOps1] c main_v51
    = (sampleRows (valF m c) : Buf (Elt Ideal) ((c : Thread nD τ).loc main_v51)) := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v36_3) = _ from (region_arr m c 9).trans (final_9 m c)]
  exact sampleRows_of (valF m c)

theorem tail_54 (c : Dev nD) : Pipeline.afterTail₀ cfgs (dats m) 0 (V0 m) [hostOps1] c main_v54
    = (sampleIdx (idxKeyF m c) : Buf (Elt Ideal) ((c : Thread nD τ).loc main_v54)) := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v36_5) = _ from (region_arr m c 11).trans (final_11 m c)]
  exact sampleIdx_of (idxKeyF m c)

end Cert.Dsa

end
-- ==== Proof.DsaRef.lean ====
/- The reference of the second layer's projection read at a row and a column. -/
module

public import proofs.«01_k».proof.Proof.Gen.Reference4Ideal.Run
public import proofs.«01_k».proof.Proof.Gen.Reference4Ideal.Read
public import proofs.«01_k».proof.Proof.DsaTail

@[expose] public section

set_option maxRecDepth 16384

noncomputable section

namespace Cert.Dsa.Ref

open Cert.Reference4Ideal Cert.Reference4Ideal.Read
open Cert.Proj (Arr angle cosOf sinOf pos scale)
open Idealize.ShloMosaic hiding ix1 ix2 ix3 ix4 ix5 eq_ix2
open Idealize.ShloMosaic.TcCoe Idealize.SL.Sem Idealize.ShloMosaic.ValueIdx

variable (x : Arr ⟨2, ![16896, 1024]⟩) (w : Arr ⟨3, ![1, 1024, 2120]⟩)

theorem lin_prompt (i : S8x2048x2120.Idx) : val_main_v4 (F := Ideal) x w i = lin x w (2048 * (i 0).val + (i 1).val) (i 2).val := by
  have h0 : (i 0).val < 8 := (i 0).isLt
  have h1 : (i 1).val < 2048 := (i 1).isLt
  have h2 : (i 2).val < 2120 := (i 2).isLt
  rw [val_main_v4_apply]
  unfold lin
  refine Finset.sum_congr rfl fun k _ => ?_
  have hk : k.val < 1024 := k.isLt
  rw [val_main_v1_apply, val_main_v0_apply, val_main_v2_apply]
  refine congrArg₂ (fun a b : EReal => a * b) (congrArg x (funext fun a => Fin.ext ?_)) (congrArg w (funext fun a => Fin.ext ?_))
  · match a with
    | ⟨0, _⟩ => show (((i 0).val * 2048 + (i 1).val) * 1024 + k.val) / 1024 = (2048 * (i 0).val + (i 1).val) % 16896; omega
    | ⟨1, _⟩ => show (((i 0).val * 2048 + (i 1).val) * 1024 + k.val) % 1024 = k.val; omega
  · match a with
    | ⟨0, _⟩ => rfl
    | ⟨1, _⟩ => show (k.val * 2120 + (i 2).val) / 2120 % 1024 = k.val; omega
    | ⟨2, _⟩ => show (k.val * 2120 + (i 2).val) % 2120 = (i 2).val % 2120; omega

theorem q_prompt (i : S8x2048x16x64.Idx) :
    val_main_v10 (F := Ideal) x w i = lin x w (2048 * (i 0).val + (i 1).val) (64 * (i 2).val + (i 3).val) := by
  have h0 : (i 0).val < 8 := (i 0).isLt
  have h1 : (i 1).val < 2048 := (i 1).isLt
  have h2 : (i 2).val < 16 := (i 2).isLt
  have h3 : (i 3).val < 64 := (i 3).isLt
  rw [val_main_v10_apply, val_main_v5_apply, lin_prompt x w]
  refine congrArg₂ (lin x w) ?_ ?_
  · show 2048 * (((((i 0).val * 2048 + (i 1).val) * 16 + (i 2).val) * 64 + (i 3).val) / 2097152) + (((((i 0).val * 2048 + (i 1).val) * 16 + (i 2).val) * 64 + (i 3).val) / 1024 % 2048) = 2048 * (i 0).val + (i 1).val
    omega
  · show ((((i 0).val * 2048 + (i 1).val) * 16 + (i 2).val) * 64 + (i 3).val) % 1024 = (64 * (i 2).val + (i 3).val)
    omega

theorem angle_q_prompt (i : S2048x32.Idx) : val_main_v20 (F := Ideal) i = angle (BitVec.ofNat 32 (i 0).val) (i 1).val := by
  rw [val_main_v20_apply, val_main_v18_apply, val_main_v19_apply, val_main_v16_apply, val_main_v17_apply, val_main_v15_apply, val_main_v14_apply, val_main_v13_apply, val_main_v12_apply, val_main_cst_apply, val_main_v3_apply]
  rfl

theorem low_q_prompt (i : S8x2048x16x32.Idx) : val_main_v33 (F := Ideal) x w i
    = lin x w (2048 * (i 0).val + (i 1).val) (64 * (i 2).val + (i 3).val) * cosOf (BitVec.ofNat 32 (i 1).val) (i 3).val
      - lin x w (2048 * (i 0).val + (i 1).val) ((64 * (i 2).val + (i 3).val) + 32) * sinOf (BitVec.ofNat 32 (i 1).val) (i 3).val := by
  rw [val_main_v33_apply, val_main_v29_apply, val_main_v32_apply, val_main_v25_apply, val_main_v26_apply, val_main_v28_apply, val_main_v27_apply, val_main_v22_apply, val_main_v21_apply,
    val_main_v31_apply, val_main_v30_apply, val_main_v24_apply, val_main_v23_apply, angle_q_prompt, q_prompt x w, q_prompt x w]
  refine congrArg₂ (fun a b : EReal => a - b) rfl (congrArg (fun a : EReal => a * _) (congrArg (lin x w (2048 * (i 0).val + (i 1).val)) ?_))
  show (64 * (i 2).val + (32 + (i 3).val)) = (64 * (i 2).val + (i 3).val) + 32
  omega

theorem high_q_prompt (i : S8x2048x16x32.Idx) : val_main_v40 (F := Ideal) x w i
    = lin x w (2048 * (i 0).val + (i 1).val) (64 * (i 2).val + (i 3).val) * sinOf (BitVec.ofNat 32 (i 1).val) (i 3).val
      + lin x w (2048 * (i 0).val + (i 1).val) ((64 * (i 2).val + (i 3).val) + 32) * cosOf (BitVec.ofNat 32 (i 1).val) (i 3).val := by
  rw [val_main_v40_apply, val_main_v36_apply, val_main_v39_apply, val_main_v25_apply, val_main_v26_apply, val_main_v35_apply, val_main_v34_apply, val_main_v24_apply, val_main_v23_apply,
    val_main_v38_apply, val_main_v37_apply, val_main_v22_apply, val_main_v21_apply, angle_q_prompt, q_prompt x w, q_prompt x w]
  refine congrArg₂ (fun a b : EReal => a + b) rfl (congrArg (fun a : EReal => a * _) (congrArg (lin x w (2048 * (i 0).val + (i 1).val)) ?_))
  show (64 * (i 2).val + (32 + (i 3).val)) = (64 * (i 2).val + (i 3).val) + 32
  omega

theorem turned_q_prompt (i : S8x2048x16x64.Idx) :
    val_main_v41 (F := Ideal) x w i = turned x w (2048 * (i 0).val + (i 1).val) (64 * (i 2).val + (i 3).val) := by
  have h0 : (i 0).val < 8 := (i 0).isLt
  have h1 : (i 1).val < 2048 := (i 1).isLt
  have h2 : (i 2).val < 16 := (i 2).isLt
  have h3 : (i 3).val < 64 := (i 3).isLt
  have hp : pos (2048 * (i 0).val + (i 1).val) = BitVec.ofNat 32 (i 1).val := by
    unfold pos
    rw [if_pos (by omega)]
    refine congrArg (BitVec.ofNat 32) ?_
    omega
  have hc : (64 * (i 2).val + (i 3).val) % 64 = (i 3).val := by omega
  unfold turned
  rw [hp, hc]
  by_cases hd : (i 3).val < 32
  · have hm : (64 * (i 2).val + (i 3).val) % 32 = (i 3).val := by omega
    rw [if_pos hd, hm]
    unfold val_main_v41
    exact (concatenate_apply_piece (3 : Fin 4) [⟨S8x2048x16x32, val_main_v33 (F := Ideal) x w⟩, ⟨S8x2048x16x32, val_main_v40 (F := Ideal) x w⟩] _ i
      0 (by exact (by decide : 0 < 2)) S8x2048x16x32 (val_main_v33 (F := Ideal) x w) rfl rfl 0 rfl
      (ix4 (⟨(i 0).val, h0⟩ : Fin 8) (⟨(i 1).val, h1⟩ : Fin 2048) (⟨(i 2).val, h2⟩ : Fin 16) (⟨(i 3).val, hd⟩ : Fin 32))
      (fun b hb => match b with | ⟨0, _⟩ => rfl | ⟨1, _⟩ => rfl | ⟨2, _⟩ => rfl | ⟨3, _⟩ => absurd rfl hb)
      (by show 0 + (i 3).val = (i 3).val; omega)).trans (low_q_prompt x w _)
  · have hm : (64 * (i 2).val + (i 3).val) % 32 = (i 3).val - 32 := by omega
    have hl : (64 * (i 2).val + (i 3).val) - 32 = (64 * (i 2).val + ((i 3).val - 32)) := by omega
    have hh : (64 * (i 2).val + ((i 3).val - 32)) + 32 = (64 * (i 2).val + (i 3).val) := by omega
    rw [if_neg hd, hm, hl]
    unfold val_main_v41
    refine (concatenate_apply_piece (3 : Fin 4) [⟨S8x2048x16x32, val_main_v33 (F := Ideal) x w⟩, ⟨S8x2048x16x32, val_main_v40 (F := Ideal) x w⟩] _ i
      1 (by exact (by decide : 1 < 2)) S8x2048x16x32 (val_main_v40 (F := Ideal) x w) rfl rfl 32 rfl
      (ix4 (⟨(i 0).val, h0⟩ : Fin 8) (⟨(i 1).val, h1⟩ : Fin 2048) (⟨(i 2).val, h2⟩ : Fin 16) (⟨(i 3).val - 32, by omega⟩ : Fin 32))
      (fun b hb => match b with | ⟨0, _⟩ => rfl | ⟨1, _⟩ => rfl | ⟨2, _⟩ => rfl | ⟨3, _⟩ => absurd rfl hb)
      (by show 32 + ((i 3).val - 32) = (i 3).val; omega)).trans ((high_q_prompt x w _).trans ?_)
    show lin x w (2048 * (i 0).val + (i 1).val) ((64 * (i 2).val + ((i 3).val - 32))) * sinOf (BitVec.ofNat 32 (i 1).val) ((i 3).val - 32)
        + lin x w (2048 * (i 0).val + (i 1).val) ((64 * (i 2).val + ((i 3).val - 32)) + 32) * cosOf (BitVec.ofNat 32 (i 1).val) ((i 3).val - 32) = _
    rw [hh]

theorem k_prompt (i : S8x2048x4x64.Idx) :
    val_main_v42 (F := Ideal) x w i = lin x w (2048 * (i 0).val + (i 1).val) (1024 + (64 * (i 2).val + (i 3).val)) := by
  have h0 : (i 0).val < 8 := (i 0).isLt
  have h1 : (i 1).val < 2048 := (i 1).isLt
  have h2 : (i 2).val < 4 := (i 2).isLt
  have h3 : (i 3).val < 64 := (i 3).isLt
  rw [val_main_v42_apply, val_main_v6_apply, lin_prompt x w]
  refine congrArg₂ (lin x w) ?_ ?_
  · show 2048 * (((((i 0).val * 2048 + (i 1).val) * 4 + (i 2).val) * 64 + (i 3).val) / 524288) + (((((i 0).val * 2048 + (i 1).val) * 4 + (i 2).val) * 64 + (i 3).val) / 256 % 2048) = 2048 * (i 0).val + (i 1).val
    omega
  · show 1024 + ((((i 0).val * 2048 + (i 1).val) * 4 + (i 2).val) * 64 + (i 3).val) % 256 = (1024 + (64 * (i 2).val + (i 3).val))
    omega

theorem angle_k_prompt (i : S2048x32.Idx) : val_main_v52 (F := Ideal) i = angle (BitVec.ofNat 32 (i 0).val) (i 1).val := by
  rw [val_main_v52_apply, val_main_v50_apply, val_main_v51_apply, val_main_v48_apply, val_main_v49_apply, val_main_v47_apply, val_main_v46_apply, val_main_v45_apply, val_main_v44_apply, val_main_cst_0_apply, val_main_v3_apply]
  rfl

theorem low_k_prompt (i : S8x2048x4x32.Idx) : val_main_v65 (F := Ideal) x w i
    = lin x w (2048 * (i 0).val + (i 1).val) (1024 + (64 * (i 2).val + (i 3).val)) * cosOf (BitVec.ofNat 32 (i 1).val) (i 3).val
      - lin x w (2048 * (i 0).val + (i 1).val) ((1024 + (64 * (i 2).val + (i 3).val)) + 32) * sinOf (BitVec.ofNat 32 (i 1).val) (i 3).val := by
  rw [val_main_v65_apply, val_main_v61_apply, val_main_v64_apply, val_main_v57_apply, val_main_v58_apply, val_main_v60_apply, val_main_v59_apply, val_main_v54_apply, val_main_v53_apply,
    val_main_v63_apply, val_main_v62_apply, val_main_v56_apply, val_main_v55_apply, angle_k_prompt, k_prompt x w, k_prompt x w]
  refine congrArg₂ (fun a b : EReal => a - b) rfl (congrArg (fun a : EReal => a * _) (congrArg (lin x w (2048 * (i 0).val + (i 1).val)) ?_))
  show 1024 + (64 * (i 2).val + (32 + (i 3).val)) = (1024 + (64 * (i 2).val + (i 3).val)) + 32
  omega

theorem high_k_prompt (i : S8x2048x4x32.Idx) : val_main_v72 (F := Ideal) x w i
    = lin x w (2048 * (i 0).val + (i 1).val) (1024 + (64 * (i 2).val + (i 3).val)) * sinOf (BitVec.ofNat 32 (i 1).val) (i 3).val
      + lin x w (2048 * (i 0).val + (i 1).val) ((1024 + (64 * (i 2).val + (i 3).val)) + 32) * cosOf (BitVec.ofNat 32 (i 1).val) (i 3).val := by
  rw [val_main_v72_apply, val_main_v68_apply, val_main_v71_apply, val_main_v57_apply, val_main_v58_apply, val_main_v67_apply, val_main_v66_apply, val_main_v56_apply, val_main_v55_apply,
    val_main_v70_apply, val_main_v69_apply, val_main_v54_apply, val_main_v53_apply, angle_k_prompt, k_prompt x w, k_prompt x w]
  refine congrArg₂ (fun a b : EReal => a + b) rfl (congrArg (fun a : EReal => a * _) (congrArg (lin x w (2048 * (i 0).val + (i 1).val)) ?_))
  show 1024 + (64 * (i 2).val + (32 + (i 3).val)) = (1024 + (64 * (i 2).val + (i 3).val)) + 32
  omega

theorem turned_k_prompt (i : S8x2048x4x64.Idx) :
    val_main_v73 (F := Ideal) x w i = turned x w (2048 * (i 0).val + (i 1).val) (1024 + (64 * (i 2).val + (i 3).val)) := by
  have h0 : (i 0).val < 8 := (i 0).isLt
  have h1 : (i 1).val < 2048 := (i 1).isLt
  have h2 : (i 2).val < 4 := (i 2).isLt
  have h3 : (i 3).val < 64 := (i 3).isLt
  have hp : pos (2048 * (i 0).val + (i 1).val) = BitVec.ofNat 32 (i 1).val := by
    unfold pos
    rw [if_pos (by omega)]
    refine congrArg (BitVec.ofNat 32) ?_
    omega
  have hc : (1024 + (64 * (i 2).val + (i 3).val)) % 64 = (i 3).val := by omega
  unfold turned
  rw [hp, hc]
  by_cases hd : (i 3).val < 32
  · have hm : (1024 + (64 * (i 2).val + (i 3).val)) % 32 = (i 3).val := by omega
    rw [if_pos hd, hm]
    unfold val_main_v73
    exact (concatenate_apply_piece (3 : Fin 4) [⟨S8x2048x4x32, val_main_v65 (F := Ideal) x w⟩, ⟨S8x2048x4x32, val_main_v72 (F := Ideal) x w⟩] _ i
      0 (by exact (by decide : 0 < 2)) S8x2048x4x32 (val_main_v65 (F := Ideal) x w) rfl rfl 0 rfl
      (ix4 (⟨(i 0).val, h0⟩ : Fin 8) (⟨(i 1).val, h1⟩ : Fin 2048) (⟨(i 2).val, h2⟩ : Fin 4) (⟨(i 3).val, hd⟩ : Fin 32))
      (fun b hb => match b with | ⟨0, _⟩ => rfl | ⟨1, _⟩ => rfl | ⟨2, _⟩ => rfl | ⟨3, _⟩ => absurd rfl hb)
      (by show 0 + (i 3).val = (i 3).val; omega)).trans (low_k_prompt x w _)
  · have hm : (1024 + (64 * (i 2).val + (i 3).val)) % 32 = (i 3).val - 32 := by omega
    have hl : (1024 + (64 * (i 2).val + (i 3).val)) - 32 = 1024 + (64 * (i 2).val + ((i 3).val - 32)) := by omega
    have hh : 1024 + (64 * (i 2).val + ((i 3).val - 32)) + 32 = (1024 + (64 * (i 2).val + (i 3).val)) := by omega
    rw [if_neg hd, hm, hl]
    unfold val_main_v73
    refine (concatenate_apply_piece (3 : Fin 4) [⟨S8x2048x4x32, val_main_v65 (F := Ideal) x w⟩, ⟨S8x2048x4x32, val_main_v72 (F := Ideal) x w⟩] _ i
      1 (by exact (by decide : 1 < 2)) S8x2048x4x32 (val_main_v72 (F := Ideal) x w) rfl rfl 32 rfl
      (ix4 (⟨(i 0).val, h0⟩ : Fin 8) (⟨(i 1).val, h1⟩ : Fin 2048) (⟨(i 2).val, h2⟩ : Fin 4) (⟨(i 3).val - 32, by omega⟩ : Fin 32))
      (fun b hb => match b with | ⟨0, _⟩ => rfl | ⟨1, _⟩ => rfl | ⟨2, _⟩ => rfl | ⟨3, _⟩ => absurd rfl hb)
      (by show 32 + ((i 3).val - 32) = (i 3).val; omega)).trans ((high_k_prompt x w _).trans ?_)
    show lin x w (2048 * (i 0).val + (i 1).val) (1024 + (64 * (i 2).val + ((i 3).val - 32))) * sinOf (BitVec.ofNat 32 (i 1).val) ((i 3).val - 32)
        + lin x w (2048 * (i 0).val + (i 1).val) (1024 + (64 * (i 2).val + ((i 3).val - 32)) + 32) * cosOf (BitVec.ofNat 32 (i 1).val) ((i 3).val - 32) = _
    rw [hh]

theorem v_prompt (i : S8x2048x4x64.Idx) :
    val_main_v74 (F := Ideal) x w i = lin x w (2048 * (i 0).val + (i 1).val) (1280 + (64 * (i 2).val + (i 3).val)) := by
  have h0 : (i 0).val < 8 := (i 0).isLt
  have h1 : (i 1).val < 2048 := (i 1).isLt
  have h2 : (i 2).val < 4 := (i 2).isLt
  have h3 : (i 3).val < 64 := (i 3).isLt
  rw [val_main_v74_apply, val_main_v7_apply, lin_prompt x w]
  refine congrArg₂ (lin x w) ?_ ?_
  · show 2048 * (((((i 0).val * 2048 + (i 1).val) * 4 + (i 2).val) * 64 + (i 3).val) / 524288) + (((((i 0).val * 2048 + (i 1).val) * 4 + (i 2).val) * 64 + (i 3).val) / 256 % 2048) = 2048 * (i 0).val + (i 1).val
    omega
  · show 1280 + ((((i 0).val * 2048 + (i 1).val) * 4 + (i 2).val) * 64 + (i 3).val) % 256 = (1280 + (64 * (i 2).val + (i 3).val))
    omega

theorem qi_prompt (i : S8x2048x8x64.Idx) :
    val_main_v75 (F := Ideal) x w i = lin x w (2048 * (i 0).val + (i 1).val) (1536 + (64 * (i 2).val + (i 3).val)) := by
  have h0 : (i 0).val < 8 := (i 0).isLt
  have h1 : (i 1).val < 2048 := (i 1).isLt
  have h2 : (i 2).val < 8 := (i 2).isLt
  have h3 : (i 3).val < 64 := (i 3).isLt
  rw [val_main_v75_apply, val_main_v8_apply, lin_prompt x w]
  refine congrArg₂ (lin x w) ?_ ?_
  · show 2048 * (((((i 0).val * 2048 + (i 1).val) * 8 + (i 2).val) * 64 + (i 3).val) / 1048576) + (((((i 0).val * 2048 + (i 1).val) * 8 + (i 2).val) * 64 + (i 3).val) / 512 % 2048) = 2048 * (i 0).val + (i 1).val
    omega
  · show 1536 + ((((i 0).val * 2048 + (i 1).val) * 8 + (i 2).val) * 64 + (i 3).val) % 512 = (1536 + (64 * (i 2).val + (i 3).val))
    omega

theorem angle_qi_prompt (i : S2048x32.Idx) : val_main_v85 (F := Ideal) i = angle (BitVec.ofNat 32 (i 0).val) (i 1).val := by
  rw [val_main_v85_apply, val_main_v83_apply, val_main_v84_apply, val_main_v81_apply, val_main_v82_apply, val_main_v80_apply, val_main_v79_apply, val_main_v78_apply, val_main_v77_apply, val_main_cst_1_apply, val_main_v3_apply]
  rfl

theorem low_qi_prompt (i : S8x2048x8x32.Idx) : val_main_v98 (F := Ideal) x w i
    = lin x w (2048 * (i 0).val + (i 1).val) (1536 + (64 * (i 2).val + (i 3).val)) * cosOf (BitVec.ofNat 32 (i 1).val) (i 3).val
      - lin x w (2048 * (i 0).val + (i 1).val) ((1536 + (64 * (i 2).val + (i 3).val)) + 32) * sinOf (BitVec.ofNat 32 (i 1).val) (i 3).val := by
  rw [val_main_v98_apply, val_main_v94_apply, val_main_v97_apply, val_main_v90_apply, val_main_v91_apply, val_main_v93_apply, val_main_v92_apply, val_main_v87_apply, val_main_v86_apply,
    val_main_v96_apply, val_main_v95_apply, val_main_v89_apply, val_main_v88_apply, angle_qi_prompt, qi_prompt x w, qi_prompt x w]
  refine congrArg₂ (fun a b : EReal => a - b) rfl (congrArg (fun a : EReal => a * _) (congrArg (lin x w (2048 * (i 0).val + (i 1).val)) ?_))
  show 1536 + (64 * (i 2).val + (32 + (i 3).val)) = (1536 + (64 * (i 2).val + (i 3).val)) + 32
  omega

theorem high_qi_prompt (i : S8x2048x8x32.Idx) : val_main_v105 (F := Ideal) x w i
    = lin x w (2048 * (i 0).val + (i 1).val) (1536 + (64 * (i 2).val + (i 3).val)) * sinOf (BitVec.ofNat 32 (i 1).val) (i 3).val
      + lin x w (2048 * (i 0).val + (i 1).val) ((1536 + (64 * (i 2).val + (i 3).val)) + 32) * cosOf (BitVec.ofNat 32 (i 1).val) (i 3).val := by
  rw [val_main_v105_apply, val_main_v101_apply, val_main_v104_apply, val_main_v90_apply, val_main_v91_apply, val_main_v100_apply, val_main_v99_apply, val_main_v89_apply, val_main_v88_apply,
    val_main_v103_apply, val_main_v102_apply, val_main_v87_apply, val_main_v86_apply, angle_qi_prompt, qi_prompt x w, qi_prompt x w]
  refine congrArg₂ (fun a b : EReal => a + b) rfl (congrArg (fun a : EReal => a * _) (congrArg (lin x w (2048 * (i 0).val + (i 1).val)) ?_))
  show 1536 + (64 * (i 2).val + (32 + (i 3).val)) = (1536 + (64 * (i 2).val + (i 3).val)) + 32
  omega

theorem turned_qi_prompt (i : S8x2048x8x64.Idx) :
    val_main_v106 (F := Ideal) x w i = turned x w (2048 * (i 0).val + (i 1).val) (1536 + (64 * (i 2).val + (i 3).val)) := by
  have h0 : (i 0).val < 8 := (i 0).isLt
  have h1 : (i 1).val < 2048 := (i 1).isLt
  have h2 : (i 2).val < 8 := (i 2).isLt
  have h3 : (i 3).val < 64 := (i 3).isLt
  have hp : pos (2048 * (i 0).val + (i 1).val) = BitVec.ofNat 32 (i 1).val := by
    unfold pos
    rw [if_pos (by omega)]
    refine congrArg (BitVec.ofNat 32) ?_
    omega
  have hc : (1536 + (64 * (i 2).val + (i 3).val)) % 64 = (i 3).val := by omega
  unfold turned
  rw [hp, hc]
  by_cases hd : (i 3).val < 32
  · have hm : (1536 + (64 * (i 2).val + (i 3).val)) % 32 = (i 3).val := by omega
    rw [if_pos hd, hm]
    unfold val_main_v106
    exact (concatenate_apply_piece (3 : Fin 4) [⟨S8x2048x8x32, val_main_v98 (F := Ideal) x w⟩, ⟨S8x2048x8x32, val_main_v105 (F := Ideal) x w⟩] _ i
      0 (by exact (by decide : 0 < 2)) S8x2048x8x32 (val_main_v98 (F := Ideal) x w) rfl rfl 0 rfl
      (ix4 (⟨(i 0).val, h0⟩ : Fin 8) (⟨(i 1).val, h1⟩ : Fin 2048) (⟨(i 2).val, h2⟩ : Fin 8) (⟨(i 3).val, hd⟩ : Fin 32))
      (fun b hb => match b with | ⟨0, _⟩ => rfl | ⟨1, _⟩ => rfl | ⟨2, _⟩ => rfl | ⟨3, _⟩ => absurd rfl hb)
      (by show 0 + (i 3).val = (i 3).val; omega)).trans (low_qi_prompt x w _)
  · have hm : (1536 + (64 * (i 2).val + (i 3).val)) % 32 = (i 3).val - 32 := by omega
    have hl : (1536 + (64 * (i 2).val + (i 3).val)) - 32 = 1536 + (64 * (i 2).val + ((i 3).val - 32)) := by omega
    have hh : 1536 + (64 * (i 2).val + ((i 3).val - 32)) + 32 = (1536 + (64 * (i 2).val + (i 3).val)) := by omega
    rw [if_neg hd, hm, hl]
    unfold val_main_v106
    refine (concatenate_apply_piece (3 : Fin 4) [⟨S8x2048x8x32, val_main_v98 (F := Ideal) x w⟩, ⟨S8x2048x8x32, val_main_v105 (F := Ideal) x w⟩] _ i
      1 (by exact (by decide : 1 < 2)) S8x2048x8x32 (val_main_v105 (F := Ideal) x w) rfl rfl 32 rfl
      (ix4 (⟨(i 0).val, h0⟩ : Fin 8) (⟨(i 1).val, h1⟩ : Fin 2048) (⟨(i 2).val, h2⟩ : Fin 8) (⟨(i 3).val - 32, by omega⟩ : Fin 32))
      (fun b hb => match b with | ⟨0, _⟩ => rfl | ⟨1, _⟩ => rfl | ⟨2, _⟩ => rfl | ⟨3, _⟩ => absurd rfl hb)
      (by show 32 + ((i 3).val - 32) = (i 3).val; omega)).trans ((high_qi_prompt x w _).trans ?_)
    show lin x w (2048 * (i 0).val + (i 1).val) (1536 + (64 * (i 2).val + ((i 3).val - 32))) * sinOf (BitVec.ofNat 32 (i 1).val) ((i 3).val - 32)
        + lin x w (2048 * (i 0).val + (i 1).val) (1536 + (64 * (i 2).val + ((i 3).val - 32)) + 32) * cosOf (BitVec.ofNat 32 (i 1).val) ((i 3).val - 32) = _
    rw [hh]

theorem ki_prompt (i : S8x2048x1x64.Idx) :
    val_main_v107 (F := Ideal) x w i = lin x w (2048 * (i 0).val + (i 1).val) (2048 + (64 * (i 2).val + (i 3).val)) := by
  have h0 : (i 0).val < 8 := (i 0).isLt
  have h1 : (i 1).val < 2048 := (i 1).isLt
  have h2 : (i 2).val < 1 := (i 2).isLt
  have h3 : (i 3).val < 64 := (i 3).isLt
  rw [val_main_v107_apply, val_main_v9_apply, lin_prompt x w]
  refine congrArg₂ (lin x w) ?_ ?_
  · show 2048 * (((((i 0).val * 2048 + (i 1).val) * 1 + (i 2).val) * 64 + (i 3).val) / 131072) + (((((i 0).val * 2048 + (i 1).val) * 1 + (i 2).val) * 64 + (i 3).val) / 64 % 2048) = 2048 * (i 0).val + (i 1).val
    omega
  · show 2048 + ((((i 0).val * 2048 + (i 1).val) * 1 + (i 2).val) * 64 + (i 3).val) % 64 = (2048 + (64 * (i 2).val + (i 3).val))
    omega

theorem angle_ki_prompt (i : S2048x32.Idx) : val_main_v117 (F := Ideal) i = angle (BitVec.ofNat 32 (i 0).val) (i 1).val := by
  rw [val_main_v117_apply, val_main_v115_apply, val_main_v116_apply, val_main_v113_apply, val_main_v114_apply, val_main_v112_apply, val_main_v111_apply, val_main_v110_apply, val_main_v109_apply, val_main_cst_2_apply, val_main_v3_apply]
  rfl

theorem low_ki_prompt (i : S8x2048x1x32.Idx) : val_main_v130 (F := Ideal) x w i
    = lin x w (2048 * (i 0).val + (i 1).val) (2048 + (64 * (i 2).val + (i 3).val)) * cosOf (BitVec.ofNat 32 (i 1).val) (i 3).val
      - lin x w (2048 * (i 0).val + (i 1).val) ((2048 + (64 * (i 2).val + (i 3).val)) + 32) * sinOf (BitVec.ofNat 32 (i 1).val) (i 3).val := by
  rw [val_main_v130_apply, val_main_v126_apply, val_main_v129_apply, val_main_v122_apply, val_main_v123_apply, val_main_v125_apply, val_main_v124_apply, val_main_v119_apply, val_main_v118_apply,
    val_main_v128_apply, val_main_v127_apply, val_main_v121_apply, val_main_v120_apply, angle_ki_prompt, ki_prompt x w, ki_prompt x w]
  refine congrArg₂ (fun a b : EReal => a - b) rfl (congrArg (fun a : EReal => a * _) (congrArg (lin x w (2048 * (i 0).val + (i 1).val)) ?_))
  show 2048 + (64 * (i 2).val + (32 + (i 3).val)) = (2048 + (64 * (i 2).val + (i 3).val)) + 32
  omega

theorem high_ki_prompt (i : S8x2048x1x32.Idx) : val_main_v137 (F := Ideal) x w i
    = lin x w (2048 * (i 0).val + (i 1).val) (2048 + (64 * (i 2).val + (i 3).val)) * sinOf (BitVec.ofNat 32 (i 1).val) (i 3).val
      + lin x w (2048 * (i 0).val + (i 1).val) ((2048 + (64 * (i 2).val + (i 3).val)) + 32) * cosOf (BitVec.ofNat 32 (i 1).val) (i 3).val := by
  rw [val_main_v137_apply, val_main_v133_apply, val_main_v136_apply, val_main_v122_apply, val_main_v123_apply, val_main_v132_apply, val_main_v131_apply, val_main_v121_apply, val_main_v120_apply,
    val_main_v135_apply, val_main_v134_apply, val_main_v119_apply, val_main_v118_apply, angle_ki_prompt, ki_prompt x w, ki_prompt x w]
  refine congrArg₂ (fun a b : EReal => a + b) rfl (congrArg (fun a : EReal => a * _) (congrArg (lin x w (2048 * (i 0).val + (i 1).val)) ?_))
  show 2048 + (64 * (i 2).val + (32 + (i 3).val)) = (2048 + (64 * (i 2).val + (i 3).val)) + 32
  omega

theorem turned_ki_prompt (i : S8x2048x1x64.Idx) :
    val_main_v138 (F := Ideal) x w i = turned x w (2048 * (i 0).val + (i 1).val) (2048 + (64 * (i 2).val + (i 3).val)) := by
  have h0 : (i 0).val < 8 := (i 0).isLt
  have h1 : (i 1).val < 2048 := (i 1).isLt
  have h2 : (i 2).val < 1 := (i 2).isLt
  have h3 : (i 3).val < 64 := (i 3).isLt
  have hp : pos (2048 * (i 0).val + (i 1).val) = BitVec.ofNat 32 (i 1).val := by
    unfold pos
    rw [if_pos (by omega)]
    refine congrArg (BitVec.ofNat 32) ?_
    omega
  have hc : (2048 + (64 * (i 2).val + (i 3).val)) % 64 = (i 3).val := by omega
  unfold turned
  rw [hp, hc]
  by_cases hd : (i 3).val < 32
  · have hm : (2048 + (64 * (i 2).val + (i 3).val)) % 32 = (i 3).val := by omega
    rw [if_pos hd, hm]
    unfold val_main_v138
    exact (concatenate_apply_piece (3 : Fin 4) [⟨S8x2048x1x32, val_main_v130 (F := Ideal) x w⟩, ⟨S8x2048x1x32, val_main_v137 (F := Ideal) x w⟩] _ i
      0 (by exact (by decide : 0 < 2)) S8x2048x1x32 (val_main_v130 (F := Ideal) x w) rfl rfl 0 rfl
      (ix4 (⟨(i 0).val, h0⟩ : Fin 8) (⟨(i 1).val, h1⟩ : Fin 2048) (⟨(i 2).val, h2⟩ : Fin 1) (⟨(i 3).val, hd⟩ : Fin 32))
      (fun b hb => match b with | ⟨0, _⟩ => rfl | ⟨1, _⟩ => rfl | ⟨2, _⟩ => rfl | ⟨3, _⟩ => absurd rfl hb)
      (by show 0 + (i 3).val = (i 3).val; omega)).trans (low_ki_prompt x w _)
  · have hm : (2048 + (64 * (i 2).val + (i 3).val)) % 32 = (i 3).val - 32 := by omega
    have hl : (2048 + (64 * (i 2).val + (i 3).val)) - 32 = 2048 + (64 * (i 2).val + ((i 3).val - 32)) := by omega
    have hh : 2048 + (64 * (i 2).val + ((i 3).val - 32)) + 32 = (2048 + (64 * (i 2).val + (i 3).val)) := by omega
    rw [if_neg hd, hm, hl]
    unfold val_main_v138
    refine (concatenate_apply_piece (3 : Fin 4) [⟨S8x2048x1x32, val_main_v130 (F := Ideal) x w⟩, ⟨S8x2048x1x32, val_main_v137 (F := Ideal) x w⟩] _ i
      1 (by exact (by decide : 1 < 2)) S8x2048x1x32 (val_main_v137 (F := Ideal) x w) rfl rfl 32 rfl
      (ix4 (⟨(i 0).val, h0⟩ : Fin 8) (⟨(i 1).val, h1⟩ : Fin 2048) (⟨(i 2).val, h2⟩ : Fin 1) (⟨(i 3).val - 32, by omega⟩ : Fin 32))
      (fun b hb => match b with | ⟨0, _⟩ => rfl | ⟨1, _⟩ => rfl | ⟨2, _⟩ => rfl | ⟨3, _⟩ => absurd rfl hb)
      (by show 32 + ((i 3).val - 32) = (i 3).val; omega)).trans ((high_ki_prompt x w _).trans ?_)
    show lin x w (2048 * (i 0).val + (i 1).val) (2048 + (64 * (i 2).val + ((i 3).val - 32))) * sinOf (BitVec.ofNat 32 (i 1).val) ((i 3).val - 32)
        + lin x w (2048 * (i 0).val + (i 1).val) (2048 + (64 * (i 2).val + ((i 3).val - 32)) + 32) * cosOf (BitVec.ofNat 32 (i 1).val) ((i 3).val - 32) = _
    rw [hh]

theorem scaled_prompt (i : S16384x2x2x4x64.Idx) :
    val_main_v284 (F := Ideal) x w i = turned x w (i 0).val (64 * (8 * (i 1).val + 4 * (i 2).val + (i 3).val) + (i 4).val) * factor := by
  have h0 : (i 0).val < 16384 := (i 0).isLt
  have h1 : (i 1).val < 2 := (i 1).isLt
  have h2 : (i 2).val < 2 := (i 2).isLt
  have h3 : (i 3).val < 4 := (i 3).isLt
  have h4 : (i 4).val < 64 := (i 4).isLt
  rw [val_main_v284_apply, val_main_v283_apply, val_main_v282_apply, val_main_cst_7_apply, turned_q_prompt x w]
  refine congrArg (fun a : EReal => a * factor) (congrArg₂ (turned x w) ?_ ?_)
  · show 2048 * ((((((i 0).val * 2 + (i 1).val) * 2 + (i 2).val) * 4 + (i 3).val) * 64 + (i 4).val) / 2097152) + ((((((i 0).val * 2 + (i 1).val) * 2 + (i 2).val) * 4 + (i 3).val) * 64 + (i 4).val) / 1024 % 2048) = (i 0).val
    omega
  · show 64 * ((((((i 0).val * 2 + (i 1).val) * 2 + (i 2).val) * 4 + (i 3).val) * 64 + (i 4).val) / 64 % 16) + (((((i 0).val * 2 + (i 1).val) * 2 + (i 2).val) * 4 + (i 3).val) * 64 + (i 4).val) % 64 = 64 * (8 * (i 1).val + 4 * (i 2).val + (i 3).val) + (i 4).val
    omega

theorem queries_prompt (i : S16384x1024.Idx) : val_main_v286 (F := Ideal) x w i = query x w (i 0).val (i 1).val := by
  have h0 : (i 0).val < 16384 := (i 0).isLt
  have h1 : (i 1).val < 1024 := (i 1).isLt
  rw [val_main_v286_apply, val_main_v285_apply, scaled_prompt x w]
  unfold query headCol
  refine congrArg (fun a : EReal => a * factor) (congrArg₂ (turned x w) ?_ ?_)
  · show ((i 0).val * 1024 + (i 1).val) / 1024 = (i 0).val
    omega
  · show 64 * (8 * (((i 0).val * 1024 + (i 1).val) / 512 % 2) + 4 * (((i 0).val * 1024 + (i 1).val) / 64 % 2) + ((i 0).val * 1024 + (i 1).val) / 128 % 4) + ((i 0).val * 1024 + (i 1).val) % 64
      = 64 * (8 * ((i 1).val / 512) + 4 * ((i 1).val / 64 % 2) + (i 1).val / 128 % 4) + (i 1).val % 64
    omega

theorem keys_prompt (i : S16384x256.Idx) : val_main_v293 (F := Ideal) x w i = key x w (i 0).val (i 1).val := by
  have h0 : (i 0).val < 16384 := (i 0).isLt
  have h1 : (i 1).val < 256 := (i 1).isLt
  rw [val_main_v293_apply, turned_k_prompt x w]
  unfold key
  refine congrArg₂ (turned x w) ?_ ?_
  · show 2048 * (((i 0).val * 256 + (i 1).val) / 524288) + (((i 0).val * 256 + (i 1).val) / 256 % 2048) = (i 0).val
    omega
  · show 1024 + (64 * (((i 0).val * 256 + (i 1).val) / 64 % 4) + ((i 0).val * 256 + (i 1).val) % 64) = 1024 + (i 1).val
    omega

theorem vals_prompt (i : S16384x256.Idx) : val_main_v296 (F := Ideal) x w i = val x w (i 0).val (i 1).val := by
  have h0 : (i 0).val < 16384 := (i 0).isLt
  have h1 : (i 1).val < 256 := (i 1).isLt
  rw [val_main_v296_apply, v_prompt x w]
  unfold val
  refine congrArg₂ (lin x w) ?_ ?_
  · show 2048 * (((i 0).val * 256 + (i 1).val) / 524288) + (((i 0).val * 256 + (i 1).val) / 256 % 2048) = (i 0).val
    omega
  · show 1280 + (64 * (((i 0).val * 256 + (i 1).val) / 64 % 4) + ((i 0).val * 256 + (i 1).val) % 64) = 1280 + (i 1).val
    omega

theorem idxQueries_prompt (i : S16384x512.Idx) : val_main_v301 (F := Ideal) x w i = idxQuery x w (i 0).val (i 1).val := by
  have h0 : (i 0).val < 16384 := (i 0).isLt
  have h1 : (i 1).val < 512 := (i 1).isLt
  rw [val_main_v301_apply, val_main_v300_apply, val_main_v299_apply, val_main_cst_9_apply, turned_qi_prompt x w]
  unfold idxQuery
  refine congrArg (fun a : EReal => a * scale) (congrArg₂ (turned x w) ?_ ?_)
  · show 2048 * (((i 0).val * 512 + (i 1).val) / 1048576) + (((i 0).val * 512 + (i 1).val) / 512 % 2048) = (i 0).val
    omega
  · show 1536 + (64 * (((i 0).val * 512 + (i 1).val) / 64 % 8) + ((i 0).val * 512 + (i 1).val) % 64) = 1536 + (i 1).val
    omega

theorem idxKeys_prompt (i : S8x2048x64.Idx) : val_main_v139 (F := Ideal) x w i = idxKey x w (2048 * (i 0).val + (i 1).val) (i 2).val := by
  have h0 : (i 0).val < 8 := (i 0).isLt
  have h1 : (i 1).val < 2048 := (i 1).isLt
  have h2 : (i 2).val < 64 := (i 2).isLt
  rw [val_main_v139_apply, turned_ki_prompt x w]
  unfold idxKey
  refine congrArg₂ (turned x w) ?_ ?_
  · show 2048 * ((((i 0).val * 2048 + (i 1).val) * 64 + (i 2).val) / 131072) + ((((i 0).val * 2048 + (i 1).val) * 64 + (i 2).val) / 64 % 2048) = 2048 * (i 0).val + (i 1).val
    omega
  · show 2048 + (64 * 0 + (((i 0).val * 2048 + (i 1).val) * 64 + (i 2).val) % 64) = 2048 + (i 2).val % 64
    omega

theorem lin_sample (i : S128x4x2120.Idx) : val_main_v146 (F := Ideal) x w i = lin x w (16384 + (4 * (i 0).val + (i 1).val)) (i 2).val := by
  have h0 : (i 0).val < 128 := (i 0).isLt
  have h1 : (i 1).val < 4 := (i 1).isLt
  have h2 : (i 2).val < 2120 := (i 2).isLt
  rw [val_main_v146_apply]
  unfold lin
  refine Finset.sum_congr rfl fun k _ => ?_
  have hk : k.val < 1024 := k.isLt
  rw [val_main_v141_apply, val_main_v140_apply, val_main_v142_apply]
  refine congrArg₂ (fun a b : EReal => a * b) (congrArg x (funext fun a => Fin.ext ?_)) (congrArg w (funext fun a => Fin.ext ?_))
  · match a with
    | ⟨0, _⟩ => show 16384 + (((i 0).val * 4 + (i 1).val) * 1024 + k.val) / 1024 = (16384 + (4 * (i 0).val + (i 1).val)) % 16896; omega
    | ⟨1, _⟩ => show (((i 0).val * 4 + (i 1).val) * 1024 + k.val) % 1024 = k.val; omega
  · match a with
    | ⟨0, _⟩ => rfl
    | ⟨1, _⟩ => show (k.val * 2120 + (i 2).val) / 2120 % 1024 = k.val; omega
    | ⟨2, _⟩ => show (k.val * 2120 + (i 2).val) % 2120 = (i 2).val % 2120; omega

theorem q_sample (i : S128x4x16x64.Idx) :
    val_main_v152 (F := Ideal) x w i = lin x w (16384 + (4 * (i 0).val + (i 1).val)) (64 * (i 2).val + (i 3).val) := by
  have h0 : (i 0).val < 128 := (i 0).isLt
  have h1 : (i 1).val < 4 := (i 1).isLt
  have h2 : (i 2).val < 16 := (i 2).isLt
  have h3 : (i 3).val < 64 := (i 3).isLt
  rw [val_main_v152_apply, val_main_v147_apply, lin_sample x w]
  refine congrArg₂ (lin x w) ?_ ?_
  · show 16384 + (4 * (((((i 0).val * 4 + (i 1).val) * 16 + (i 2).val) * 64 + (i 3).val) / 4096) + (((((i 0).val * 4 + (i 1).val) * 16 + (i 2).val) * 64 + (i 3).val) / 1024 % 4)) = 16384 + (4 * (i 0).val + (i 1).val)
    omega
  · show ((((i 0).val * 4 + (i 1).val) * 16 + (i 2).val) * 64 + (i 3).val) % 1024 = (64 * (i 2).val + (i 3).val)
    omega

theorem angle_q_sample (i : S4x32.Idx) : val_main_v162 (F := Ideal) i = angle (BitVec.ofNat 32 (8192 + (i 0).val)) (i 1).val := by
  rw [val_main_v162_apply, val_main_v160_apply, val_main_v161_apply, val_main_v158_apply, val_main_v159_apply, val_main_v157_apply, val_main_v156_apply, val_main_v155_apply, val_main_v154_apply, val_main_cst_3_apply, val_main_v145_apply, val_main_v144_apply, val_main_v143_apply, val_main_c_apply]
  rw [BitVec.ofNat_add]
  rfl

theorem low_q_sample (i : S128x4x16x32.Idx) : val_main_v175 (F := Ideal) x w i
    = lin x w (16384 + (4 * (i 0).val + (i 1).val)) (64 * (i 2).val + (i 3).val) * cosOf (BitVec.ofNat 32 (8192 + (i 1).val)) (i 3).val
      - lin x w (16384 + (4 * (i 0).val + (i 1).val)) ((64 * (i 2).val + (i 3).val) + 32) * sinOf (BitVec.ofNat 32 (8192 + (i 1).val)) (i 3).val := by
  rw [val_main_v175_apply, val_main_v171_apply, val_main_v174_apply, val_main_v167_apply, val_main_v168_apply, val_main_v170_apply, val_main_v169_apply, val_main_v164_apply, val_main_v163_apply,
    val_main_v173_apply, val_main_v172_apply, val_main_v166_apply, val_main_v165_apply, angle_q_sample, q_sample x w, q_sample x w]
  refine congrArg₂ (fun a b : EReal => a - b) rfl (congrArg (fun a : EReal => a * _) (congrArg (lin x w (16384 + (4 * (i 0).val + (i 1).val))) ?_))
  show (64 * (i 2).val + (32 + (i 3).val)) = (64 * (i 2).val + (i 3).val) + 32
  omega

theorem high_q_sample (i : S128x4x16x32.Idx) : val_main_v182 (F := Ideal) x w i
    = lin x w (16384 + (4 * (i 0).val + (i 1).val)) (64 * (i 2).val + (i 3).val) * sinOf (BitVec.ofNat 32 (8192 + (i 1).val)) (i 3).val
      + lin x w (16384 + (4 * (i 0).val + (i 1).val)) ((64 * (i 2).val + (i 3).val) + 32) * cosOf (BitVec.ofNat 32 (8192 + (i 1).val)) (i 3).val := by
  rw [val_main_v182_apply, val_main_v178_apply, val_main_v181_apply, val_main_v167_apply, val_main_v168_apply, val_main_v177_apply, val_main_v176_apply, val_main_v166_apply, val_main_v165_apply,
    val_main_v180_apply, val_main_v179_apply, val_main_v164_apply, val_main_v163_apply, angle_q_sample, q_sample x w, q_sample x w]
  refine congrArg₂ (fun a b : EReal => a + b) rfl (congrArg (fun a : EReal => a * _) (congrArg (lin x w (16384 + (4 * (i 0).val + (i 1).val))) ?_))
  show (64 * (i 2).val + (32 + (i 3).val)) = (64 * (i 2).val + (i 3).val) + 32
  omega

theorem turned_q_sample (i : S128x4x16x64.Idx) :
    val_main_v183 (F := Ideal) x w i = turned x w (16384 + (4 * (i 0).val + (i 1).val)) (64 * (i 2).val + (i 3).val) := by
  have h0 : (i 0).val < 128 := (i 0).isLt
  have h1 : (i 1).val < 4 := (i 1).isLt
  have h2 : (i 2).val < 16 := (i 2).isLt
  have h3 : (i 3).val < 64 := (i 3).isLt
  have hp : pos (16384 + (4 * (i 0).val + (i 1).val)) = BitVec.ofNat 32 (8192 + (i 1).val) := by
    unfold pos
    rw [if_neg (by omega)]
    refine congrArg (BitVec.ofNat 32) ?_
    omega
  have hc : (64 * (i 2).val + (i 3).val) % 64 = (i 3).val := by omega
  unfold turned
  rw [hp, hc]
  by_cases hd : (i 3).val < 32
  · have hm : (64 * (i 2).val + (i 3).val) % 32 = (i 3).val := by omega
    rw [if_pos hd, hm]
    unfold val_main_v183
    exact (concatenate_apply_piece (3 : Fin 4) [⟨S128x4x16x32, val_main_v175 (F := Ideal) x w⟩, ⟨S128x4x16x32, val_main_v182 (F := Ideal) x w⟩] _ i
      0 (by exact (by decide : 0 < 2)) S128x4x16x32 (val_main_v175 (F := Ideal) x w) rfl rfl 0 rfl
      (ix4 (⟨(i 0).val, h0⟩ : Fin 128) (⟨(i 1).val, h1⟩ : Fin 4) (⟨(i 2).val, h2⟩ : Fin 16) (⟨(i 3).val, hd⟩ : Fin 32))
      (fun b hb => match b with | ⟨0, _⟩ => rfl | ⟨1, _⟩ => rfl | ⟨2, _⟩ => rfl | ⟨3, _⟩ => absurd rfl hb)
      (by show 0 + (i 3).val = (i 3).val; omega)).trans (low_q_sample x w _)
  · have hm : (64 * (i 2).val + (i 3).val) % 32 = (i 3).val - 32 := by omega
    have hl : (64 * (i 2).val + (i 3).val) - 32 = (64 * (i 2).val + ((i 3).val - 32)) := by omega
    have hh : (64 * (i 2).val + ((i 3).val - 32)) + 32 = (64 * (i 2).val + (i 3).val) := by omega
    rw [if_neg hd, hm, hl]
    unfold val_main_v183
    refine (concatenate_apply_piece (3 : Fin 4) [⟨S128x4x16x32, val_main_v175 (F := Ideal) x w⟩, ⟨S128x4x16x32, val_main_v182 (F := Ideal) x w⟩] _ i
      1 (by exact (by decide : 1 < 2)) S128x4x16x32 (val_main_v182 (F := Ideal) x w) rfl rfl 32 rfl
      (ix4 (⟨(i 0).val, h0⟩ : Fin 128) (⟨(i 1).val, h1⟩ : Fin 4) (⟨(i 2).val, h2⟩ : Fin 16) (⟨(i 3).val - 32, by omega⟩ : Fin 32))
      (fun b hb => match b with | ⟨0, _⟩ => rfl | ⟨1, _⟩ => rfl | ⟨2, _⟩ => rfl | ⟨3, _⟩ => absurd rfl hb)
      (by show 32 + ((i 3).val - 32) = (i 3).val; omega)).trans ((high_q_sample x w _).trans ?_)
    show lin x w (16384 + (4 * (i 0).val + (i 1).val)) ((64 * (i 2).val + ((i 3).val - 32))) * sinOf (BitVec.ofNat 32 (8192 + (i 1).val)) ((i 3).val - 32)
        + lin x w (16384 + (4 * (i 0).val + (i 1).val)) ((64 * (i 2).val + ((i 3).val - 32)) + 32) * cosOf (BitVec.ofNat 32 (8192 + (i 1).val)) ((i 3).val - 32) = _
    rw [hh]

theorem k_sample (i : S128x4x4x64.Idx) :
    val_main_v184 (F := Ideal) x w i = lin x w (16384 + (4 * (i 0).val + (i 1).val)) (1024 + (64 * (i 2).val + (i 3).val)) := by
  have h0 : (i 0).val < 128 := (i 0).isLt
  have h1 : (i 1).val < 4 := (i 1).isLt
  have h2 : (i 2).val < 4 := (i 2).isLt
  have h3 : (i 3).val < 64 := (i 3).isLt
  rw [val_main_v184_apply, val_main_v148_apply, lin_sample x w]
  refine congrArg₂ (lin x w) ?_ ?_
  · show 16384 + (4 * (((((i 0).val * 4 + (i 1).val) * 4 + (i 2).val) * 64 + (i 3).val) / 1024) + (((((i 0).val * 4 + (i 1).val) * 4 + (i 2).val) * 64 + (i 3).val) / 256 % 4)) = 16384 + (4 * (i 0).val + (i 1).val)
    omega
  · show 1024 + ((((i 0).val * 4 + (i 1).val) * 4 + (i 2).val) * 64 + (i 3).val) % 256 = (1024 + (64 * (i 2).val + (i 3).val))
    omega

theorem angle_k_sample (i : S4x32.Idx) : val_main_v194 (F := Ideal) i = angle (BitVec.ofNat 32 (8192 + (i 0).val)) (i 1).val := by
  rw [val_main_v194_apply, val_main_v192_apply, val_main_v193_apply, val_main_v190_apply, val_main_v191_apply, val_main_v189_apply, val_main_v188_apply, val_main_v187_apply, val_main_v186_apply, val_main_cst_4_apply, val_main_v145_apply, val_main_v144_apply, val_main_v143_apply, val_main_c_apply]
  rw [BitVec.ofNat_add]
  rfl

theorem low_k_sample (i : S128x4x4x32.Idx) : val_main_v207 (F := Ideal) x w i
    = lin x w (16384 + (4 * (i 0).val + (i 1).val)) (1024 + (64 * (i 2).val + (i 3).val)) * cosOf (BitVec.ofNat 32 (8192 + (i 1).val)) (i 3).val
      - lin x w (16384 + (4 * (i 0).val + (i 1).val)) ((1024 + (64 * (i 2).val + (i 3).val)) + 32) * sinOf (BitVec.ofNat 32 (8192 + (i 1).val)) (i 3).val := by
  rw [val_main_v207_apply, val_main_v203_apply, val_main_v206_apply, val_main_v199_apply, val_main_v200_apply, val_main_v202_apply, val_main_v201_apply, val_main_v196_apply, val_main_v195_apply,
    val_main_v205_apply, val_main_v204_apply, val_main_v198_apply, val_main_v197_apply, angle_k_sample, k_sample x w, k_sample x w]
  refine congrArg₂ (fun a b : EReal => a - b) rfl (congrArg (fun a : EReal => a * _) (congrArg (lin x w (16384 + (4 * (i 0).val + (i 1).val))) ?_))
  show 1024 + (64 * (i 2).val + (32 + (i 3).val)) = (1024 + (64 * (i 2).val + (i 3).val)) + 32
  omega

theorem high_k_sample (i : S128x4x4x32.Idx) : val_main_v214 (F := Ideal) x w i
    = lin x w (16384 + (4 * (i 0).val + (i 1).val)) (1024 + (64 * (i 2).val + (i 3).val)) * sinOf (BitVec.ofNat 32 (8192 + (i 1).val)) (i 3).val
      + lin x w (16384 + (4 * (i 0).val + (i 1).val)) ((1024 + (64 * (i 2).val + (i 3).val)) + 32) * cosOf (BitVec.ofNat 32 (8192 + (i 1).val)) (i 3).val := by
  rw [val_main_v214_apply, val_main_v210_apply, val_main_v213_apply, val_main_v199_apply, val_main_v200_apply, val_main_v209_apply, val_main_v208_apply, val_main_v198_apply, val_main_v197_apply,
    val_main_v212_apply, val_main_v211_apply, val_main_v196_apply, val_main_v195_apply, angle_k_sample, k_sample x w, k_sample x w]
  refine congrArg₂ (fun a b : EReal => a + b) rfl (congrArg (fun a : EReal => a * _) (congrArg (lin x w (16384 + (4 * (i 0).val + (i 1).val))) ?_))
  show 1024 + (64 * (i 2).val + (32 + (i 3).val)) = (1024 + (64 * (i 2).val + (i 3).val)) + 32
  omega

theorem turned_k_sample (i : S128x4x4x64.Idx) :
    val_main_v215 (F := Ideal) x w i = turned x w (16384 + (4 * (i 0).val + (i 1).val)) (1024 + (64 * (i 2).val + (i 3).val)) := by
  have h0 : (i 0).val < 128 := (i 0).isLt
  have h1 : (i 1).val < 4 := (i 1).isLt
  have h2 : (i 2).val < 4 := (i 2).isLt
  have h3 : (i 3).val < 64 := (i 3).isLt
  have hp : pos (16384 + (4 * (i 0).val + (i 1).val)) = BitVec.ofNat 32 (8192 + (i 1).val) := by
    unfold pos
    rw [if_neg (by omega)]
    refine congrArg (BitVec.ofNat 32) ?_
    omega
  have hc : (1024 + (64 * (i 2).val + (i 3).val)) % 64 = (i 3).val := by omega
  unfold turned
  rw [hp, hc]
  by_cases hd : (i 3).val < 32
  · have hm : (1024 + (64 * (i 2).val + (i 3).val)) % 32 = (i 3).val := by omega
    rw [if_pos hd, hm]
    unfold val_main_v215
    exact (concatenate_apply_piece (3 : Fin 4) [⟨S128x4x4x32, val_main_v207 (F := Ideal) x w⟩, ⟨S128x4x4x32, val_main_v214 (F := Ideal) x w⟩] _ i
      0 (by exact (by decide : 0 < 2)) S128x4x4x32 (val_main_v207 (F := Ideal) x w) rfl rfl 0 rfl
      (ix4 (⟨(i 0).val, h0⟩ : Fin 128) (⟨(i 1).val, h1⟩ : Fin 4) (⟨(i 2).val, h2⟩ : Fin 4) (⟨(i 3).val, hd⟩ : Fin 32))
      (fun b hb => match b with | ⟨0, _⟩ => rfl | ⟨1, _⟩ => rfl | ⟨2, _⟩ => rfl | ⟨3, _⟩ => absurd rfl hb)
      (by show 0 + (i 3).val = (i 3).val; omega)).trans (low_k_sample x w _)
  · have hm : (1024 + (64 * (i 2).val + (i 3).val)) % 32 = (i 3).val - 32 := by omega
    have hl : (1024 + (64 * (i 2).val + (i 3).val)) - 32 = 1024 + (64 * (i 2).val + ((i 3).val - 32)) := by omega
    have hh : 1024 + (64 * (i 2).val + ((i 3).val - 32)) + 32 = (1024 + (64 * (i 2).val + (i 3).val)) := by omega
    rw [if_neg hd, hm, hl]
    unfold val_main_v215
    refine (concatenate_apply_piece (3 : Fin 4) [⟨S128x4x4x32, val_main_v207 (F := Ideal) x w⟩, ⟨S128x4x4x32, val_main_v214 (F := Ideal) x w⟩] _ i
      1 (by exact (by decide : 1 < 2)) S128x4x4x32 (val_main_v214 (F := Ideal) x w) rfl rfl 32 rfl
      (ix4 (⟨(i 0).val, h0⟩ : Fin 128) (⟨(i 1).val, h1⟩ : Fin 4) (⟨(i 2).val, h2⟩ : Fin 4) (⟨(i 3).val - 32, by omega⟩ : Fin 32))
      (fun b hb => match b with | ⟨0, _⟩ => rfl | ⟨1, _⟩ => rfl | ⟨2, _⟩ => rfl | ⟨3, _⟩ => absurd rfl hb)
      (by show 32 + ((i 3).val - 32) = (i 3).val; omega)).trans ((high_k_sample x w _).trans ?_)
    show lin x w (16384 + (4 * (i 0).val + (i 1).val)) (1024 + (64 * (i 2).val + ((i 3).val - 32))) * sinOf (BitVec.ofNat 32 (8192 + (i 1).val)) ((i 3).val - 32)
        + lin x w (16384 + (4 * (i 0).val + (i 1).val)) (1024 + (64 * (i 2).val + ((i 3).val - 32)) + 32) * cosOf (BitVec.ofNat 32 (8192 + (i 1).val)) ((i 3).val - 32) = _
    rw [hh]

theorem v_sample (i : S128x4x4x64.Idx) :
    val_main_v216 (F := Ideal) x w i = lin x w (16384 + (4 * (i 0).val + (i 1).val)) (1280 + (64 * (i 2).val + (i 3).val)) := by
  have h0 : (i 0).val < 128 := (i 0).isLt
  have h1 : (i 1).val < 4 := (i 1).isLt
  have h2 : (i 2).val < 4 := (i 2).isLt
  have h3 : (i 3).val < 64 := (i 3).isLt
  rw [val_main_v216_apply, val_main_v149_apply, lin_sample x w]
  refine congrArg₂ (lin x w) ?_ ?_
  · show 16384 + (4 * (((((i 0).val * 4 + (i 1).val) * 4 + (i 2).val) * 64 + (i 3).val) / 1024) + (((((i 0).val * 4 + (i 1).val) * 4 + (i 2).val) * 64 + (i 3).val) / 256 % 4)) = 16384 + (4 * (i 0).val + (i 1).val)
    omega
  · show 1280 + ((((i 0).val * 4 + (i 1).val) * 4 + (i 2).val) * 64 + (i 3).val) % 256 = (1280 + (64 * (i 2).val + (i 3).val))
    omega

theorem qi_sample (i : S128x4x8x64.Idx) :
    val_main_v217 (F := Ideal) x w i = lin x w (16384 + (4 * (i 0).val + (i 1).val)) (1536 + (64 * (i 2).val + (i 3).val)) := by
  have h0 : (i 0).val < 128 := (i 0).isLt
  have h1 : (i 1).val < 4 := (i 1).isLt
  have h2 : (i 2).val < 8 := (i 2).isLt
  have h3 : (i 3).val < 64 := (i 3).isLt
  rw [val_main_v217_apply, val_main_v150_apply, lin_sample x w]
  refine congrArg₂ (lin x w) ?_ ?_
  · show 16384 + (4 * (((((i 0).val * 4 + (i 1).val) * 8 + (i 2).val) * 64 + (i 3).val) / 2048) + (((((i 0).val * 4 + (i 1).val) * 8 + (i 2).val) * 64 + (i 3).val) / 512 % 4)) = 16384 + (4 * (i 0).val + (i 1).val)
    omega
  · show 1536 + ((((i 0).val * 4 + (i 1).val) * 8 + (i 2).val) * 64 + (i 3).val) % 512 = (1536 + (64 * (i 2).val + (i 3).val))
    omega

theorem angle_qi_sample (i : S4x32.Idx) : val_main_v227 (F := Ideal) i = angle (BitVec.ofNat 32 (8192 + (i 0).val)) (i 1).val := by
  rw [val_main_v227_apply, val_main_v225_apply, val_main_v226_apply, val_main_v223_apply, val_main_v224_apply, val_main_v222_apply, val_main_v221_apply, val_main_v220_apply, val_main_v219_apply, val_main_cst_5_apply, val_main_v145_apply, val_main_v144_apply, val_main_v143_apply, val_main_c_apply]
  rw [BitVec.ofNat_add]
  rfl

theorem low_qi_sample (i : S128x4x8x32.Idx) : val_main_v240 (F := Ideal) x w i
    = lin x w (16384 + (4 * (i 0).val + (i 1).val)) (1536 + (64 * (i 2).val + (i 3).val)) * cosOf (BitVec.ofNat 32 (8192 + (i 1).val)) (i 3).val
      - lin x w (16384 + (4 * (i 0).val + (i 1).val)) ((1536 + (64 * (i 2).val + (i 3).val)) + 32) * sinOf (BitVec.ofNat 32 (8192 + (i 1).val)) (i 3).val := by
  rw [val_main_v240_apply, val_main_v236_apply, val_main_v239_apply, val_main_v232_apply, val_main_v233_apply, val_main_v235_apply, val_main_v234_apply, val_main_v229_apply, val_main_v228_apply,
    val_main_v238_apply, val_main_v237_apply, val_main_v231_apply, val_main_v230_apply, angle_qi_sample, qi_sample x w, qi_sample x w]
  refine congrArg₂ (fun a b : EReal => a - b) rfl (congrArg (fun a : EReal => a * _) (congrArg (lin x w (16384 + (4 * (i 0).val + (i 1).val))) ?_))
  show 1536 + (64 * (i 2).val + (32 + (i 3).val)) = (1536 + (64 * (i 2).val + (i 3).val)) + 32
  omega

theorem high_qi_sample (i : S128x4x8x32.Idx) : val_main_v247 (F := Ideal) x w i
    = lin x w (16384 + (4 * (i 0).val + (i 1).val)) (1536 + (64 * (i 2).val + (i 3).val)) * sinOf (BitVec.ofNat 32 (8192 + (i 1).val)) (i 3).val
      + lin x w (16384 + (4 * (i 0).val + (i 1).val)) ((1536 + (64 * (i 2).val + (i 3).val)) + 32) * cosOf (BitVec.ofNat 32 (8192 + (i 1).val)) (i 3).val := by
  rw [val_main_v247_apply, val_main_v243_apply, val_main_v246_apply, val_main_v232_apply, val_main_v233_apply, val_main_v242_apply, val_main_v241_apply, val_main_v231_apply, val_main_v230_apply,
    val_main_v245_apply, val_main_v244_apply, val_main_v229_apply, val_main_v228_apply, angle_qi_sample, qi_sample x w, qi_sample x w]
  refine congrArg₂ (fun a b : EReal => a + b) rfl (congrArg (fun a : EReal => a * _) (congrArg (lin x w (16384 + (4 * (i 0).val + (i 1).val))) ?_))
  show 1536 + (64 * (i 2).val + (32 + (i 3).val)) = (1536 + (64 * (i 2).val + (i 3).val)) + 32
  omega

theorem turned_qi_sample (i : S128x4x8x64.Idx) :
    val_main_v248 (F := Ideal) x w i = turned x w (16384 + (4 * (i 0).val + (i 1).val)) (1536 + (64 * (i 2).val + (i 3).val)) := by
  have h0 : (i 0).val < 128 := (i 0).isLt
  have h1 : (i 1).val < 4 := (i 1).isLt
  have h2 : (i 2).val < 8 := (i 2).isLt
  have h3 : (i 3).val < 64 := (i 3).isLt
  have hp : pos (16384 + (4 * (i 0).val + (i 1).val)) = BitVec.ofNat 32 (8192 + (i 1).val) := by
    unfold pos
    rw [if_neg (by omega)]
    refine congrArg (BitVec.ofNat 32) ?_
    omega
  have hc : (1536 + (64 * (i 2).val + (i 3).val)) % 64 = (i 3).val := by omega
  unfold turned
  rw [hp, hc]
  by_cases hd : (i 3).val < 32
  · have hm : (1536 + (64 * (i 2).val + (i 3).val)) % 32 = (i 3).val := by omega
    rw [if_pos hd, hm]
    unfold val_main_v248
    exact (concatenate_apply_piece (3 : Fin 4) [⟨S128x4x8x32, val_main_v240 (F := Ideal) x w⟩, ⟨S128x4x8x32, val_main_v247 (F := Ideal) x w⟩] _ i
      0 (by exact (by decide : 0 < 2)) S128x4x8x32 (val_main_v240 (F := Ideal) x w) rfl rfl 0 rfl
      (ix4 (⟨(i 0).val, h0⟩ : Fin 128) (⟨(i 1).val, h1⟩ : Fin 4) (⟨(i 2).val, h2⟩ : Fin 8) (⟨(i 3).val, hd⟩ : Fin 32))
      (fun b hb => match b with | ⟨0, _⟩ => rfl | ⟨1, _⟩ => rfl | ⟨2, _⟩ => rfl | ⟨3, _⟩ => absurd rfl hb)
      (by show 0 + (i 3).val = (i 3).val; omega)).trans (low_qi_sample x w _)
  · have hm : (1536 + (64 * (i 2).val + (i 3).val)) % 32 = (i 3).val - 32 := by omega
    have hl : (1536 + (64 * (i 2).val + (i 3).val)) - 32 = 1536 + (64 * (i 2).val + ((i 3).val - 32)) := by omega
    have hh : 1536 + (64 * (i 2).val + ((i 3).val - 32)) + 32 = (1536 + (64 * (i 2).val + (i 3).val)) := by omega
    rw [if_neg hd, hm, hl]
    unfold val_main_v248
    refine (concatenate_apply_piece (3 : Fin 4) [⟨S128x4x8x32, val_main_v240 (F := Ideal) x w⟩, ⟨S128x4x8x32, val_main_v247 (F := Ideal) x w⟩] _ i
      1 (by exact (by decide : 1 < 2)) S128x4x8x32 (val_main_v247 (F := Ideal) x w) rfl rfl 32 rfl
      (ix4 (⟨(i 0).val, h0⟩ : Fin 128) (⟨(i 1).val, h1⟩ : Fin 4) (⟨(i 2).val, h2⟩ : Fin 8) (⟨(i 3).val - 32, by omega⟩ : Fin 32))
      (fun b hb => match b with | ⟨0, _⟩ => rfl | ⟨1, _⟩ => rfl | ⟨2, _⟩ => rfl | ⟨3, _⟩ => absurd rfl hb)
      (by show 32 + ((i 3).val - 32) = (i 3).val; omega)).trans ((high_qi_sample x w _).trans ?_)
    show lin x w (16384 + (4 * (i 0).val + (i 1).val)) (1536 + (64 * (i 2).val + ((i 3).val - 32))) * sinOf (BitVec.ofNat 32 (8192 + (i 1).val)) ((i 3).val - 32)
        + lin x w (16384 + (4 * (i 0).val + (i 1).val)) (1536 + (64 * (i 2).val + ((i 3).val - 32)) + 32) * cosOf (BitVec.ofNat 32 (8192 + (i 1).val)) ((i 3).val - 32) = _
    rw [hh]

theorem ki_sample (i : S128x4x1x64.Idx) :
    val_main_v249 (F := Ideal) x w i = lin x w (16384 + (4 * (i 0).val + (i 1).val)) (2048 + (64 * (i 2).val + (i 3).val)) := by
  have h0 : (i 0).val < 128 := (i 0).isLt
  have h1 : (i 1).val < 4 := (i 1).isLt
  have h2 : (i 2).val < 1 := (i 2).isLt
  have h3 : (i 3).val < 64 := (i 3).isLt
  rw [val_main_v249_apply, val_main_v151_apply, lin_sample x w]
  refine congrArg₂ (lin x w) ?_ ?_
  · show 16384 + (4 * (((((i 0).val * 4 + (i 1).val) * 1 + (i 2).val) * 64 + (i 3).val) / 256) + (((((i 0).val * 4 + (i 1).val) * 1 + (i 2).val) * 64 + (i 3).val) / 64 % 4)) = 16384 + (4 * (i 0).val + (i 1).val)
    omega
  · show 2048 + ((((i 0).val * 4 + (i 1).val) * 1 + (i 2).val) * 64 + (i 3).val) % 64 = (2048 + (64 * (i 2).val + (i 3).val))
    omega

theorem angle_ki_sample (i : S4x32.Idx) : val_main_v259 (F := Ideal) i = angle (BitVec.ofNat 32 (8192 + (i 0).val)) (i 1).val := by
  rw [val_main_v259_apply, val_main_v257_apply, val_main_v258_apply, val_main_v255_apply, val_main_v256_apply, val_main_v254_apply, val_main_v253_apply, val_main_v252_apply, val_main_v251_apply, val_main_cst_6_apply, val_main_v145_apply, val_main_v144_apply, val_main_v143_apply, val_main_c_apply]
  rw [BitVec.ofNat_add]
  rfl

theorem low_ki_sample (i : S128x4x1x32.Idx) : val_main_v272 (F := Ideal) x w i
    = lin x w (16384 + (4 * (i 0).val + (i 1).val)) (2048 + (64 * (i 2).val + (i 3).val)) * cosOf (BitVec.ofNat 32 (8192 + (i 1).val)) (i 3).val
      - lin x w (16384 + (4 * (i 0).val + (i 1).val)) ((2048 + (64 * (i 2).val + (i 3).val)) + 32) * sinOf (BitVec.ofNat 32 (8192 + (i 1).val)) (i 3).val := by
  rw [val_main_v272_apply, val_main_v268_apply, val_main_v271_apply, val_main_v264_apply, val_main_v265_apply, val_main_v267_apply, val_main_v266_apply, val_main_v261_apply, val_main_v260_apply,
    val_main_v270_apply, val_main_v269_apply, val_main_v263_apply, val_main_v262_apply, angle_ki_sample, ki_sample x w, ki_sample x w]
  refine congrArg₂ (fun a b : EReal => a - b) rfl (congrArg (fun a : EReal => a * _) (congrArg (lin x w (16384 + (4 * (i 0).val + (i 1).val))) ?_))
  show 2048 + (64 * (i 2).val + (32 + (i 3).val)) = (2048 + (64 * (i 2).val + (i 3).val)) + 32
  omega

theorem high_ki_sample (i : S128x4x1x32.Idx) : val_main_v279 (F := Ideal) x w i
    = lin x w (16384 + (4 * (i 0).val + (i 1).val)) (2048 + (64 * (i 2).val + (i 3).val)) * sinOf (BitVec.ofNat 32 (8192 + (i 1).val)) (i 3).val
      + lin x w (16384 + (4 * (i 0).val + (i 1).val)) ((2048 + (64 * (i 2).val + (i 3).val)) + 32) * cosOf (BitVec.ofNat 32 (8192 + (i 1).val)) (i 3).val := by
  rw [val_main_v279_apply, val_main_v275_apply, val_main_v278_apply, val_main_v264_apply, val_main_v265_apply, val_main_v274_apply, val_main_v273_apply, val_main_v263_apply, val_main_v262_apply,
    val_main_v277_apply, val_main_v276_apply, val_main_v261_apply, val_main_v260_apply, angle_ki_sample, ki_sample x w, ki_sample x w]
  refine congrArg₂ (fun a b : EReal => a + b) rfl (congrArg (fun a : EReal => a * _) (congrArg (lin x w (16384 + (4 * (i 0).val + (i 1).val))) ?_))
  show 2048 + (64 * (i 2).val + (32 + (i 3).val)) = (2048 + (64 * (i 2).val + (i 3).val)) + 32
  omega

theorem turned_ki_sample (i : S128x4x1x64.Idx) :
    val_main_v280 (F := Ideal) x w i = turned x w (16384 + (4 * (i 0).val + (i 1).val)) (2048 + (64 * (i 2).val + (i 3).val)) := by
  have h0 : (i 0).val < 128 := (i 0).isLt
  have h1 : (i 1).val < 4 := (i 1).isLt
  have h2 : (i 2).val < 1 := (i 2).isLt
  have h3 : (i 3).val < 64 := (i 3).isLt
  have hp : pos (16384 + (4 * (i 0).val + (i 1).val)) = BitVec.ofNat 32 (8192 + (i 1).val) := by
    unfold pos
    rw [if_neg (by omega)]
    refine congrArg (BitVec.ofNat 32) ?_
    omega
  have hc : (2048 + (64 * (i 2).val + (i 3).val)) % 64 = (i 3).val := by omega
  unfold turned
  rw [hp, hc]
  by_cases hd : (i 3).val < 32
  · have hm : (2048 + (64 * (i 2).val + (i 3).val)) % 32 = (i 3).val := by omega
    rw [if_pos hd, hm]
    unfold val_main_v280
    exact (concatenate_apply_piece (3 : Fin 4) [⟨S128x4x1x32, val_main_v272 (F := Ideal) x w⟩, ⟨S128x4x1x32, val_main_v279 (F := Ideal) x w⟩] _ i
      0 (by exact (by decide : 0 < 2)) S128x4x1x32 (val_main_v272 (F := Ideal) x w) rfl rfl 0 rfl
      (ix4 (⟨(i 0).val, h0⟩ : Fin 128) (⟨(i 1).val, h1⟩ : Fin 4) (⟨(i 2).val, h2⟩ : Fin 1) (⟨(i 3).val, hd⟩ : Fin 32))
      (fun b hb => match b with | ⟨0, _⟩ => rfl | ⟨1, _⟩ => rfl | ⟨2, _⟩ => rfl | ⟨3, _⟩ => absurd rfl hb)
      (by show 0 + (i 3).val = (i 3).val; omega)).trans (low_ki_sample x w _)
  · have hm : (2048 + (64 * (i 2).val + (i 3).val)) % 32 = (i 3).val - 32 := by omega
    have hl : (2048 + (64 * (i 2).val + (i 3).val)) - 32 = 2048 + (64 * (i 2).val + ((i 3).val - 32)) := by omega
    have hh : 2048 + (64 * (i 2).val + ((i 3).val - 32)) + 32 = (2048 + (64 * (i 2).val + (i 3).val)) := by omega
    rw [if_neg hd, hm, hl]
    unfold val_main_v280
    refine (concatenate_apply_piece (3 : Fin 4) [⟨S128x4x1x32, val_main_v272 (F := Ideal) x w⟩, ⟨S128x4x1x32, val_main_v279 (F := Ideal) x w⟩] _ i
      1 (by exact (by decide : 1 < 2)) S128x4x1x32 (val_main_v279 (F := Ideal) x w) rfl rfl 32 rfl
      (ix4 (⟨(i 0).val, h0⟩ : Fin 128) (⟨(i 1).val, h1⟩ : Fin 4) (⟨(i 2).val, h2⟩ : Fin 1) (⟨(i 3).val - 32, by omega⟩ : Fin 32))
      (fun b hb => match b with | ⟨0, _⟩ => rfl | ⟨1, _⟩ => rfl | ⟨2, _⟩ => rfl | ⟨3, _⟩ => absurd rfl hb)
      (by show 32 + ((i 3).val - 32) = (i 3).val; omega)).trans ((high_ki_sample x w _).trans ?_)
    show lin x w (16384 + (4 * (i 0).val + (i 1).val)) (2048 + (64 * (i 2).val + ((i 3).val - 32))) * sinOf (BitVec.ofNat 32 (8192 + (i 1).val)) ((i 3).val - 32)
        + lin x w (16384 + (4 * (i 0).val + (i 1).val)) (2048 + (64 * (i 2).val + ((i 3).val - 32)) + 32) * cosOf (BitVec.ofNat 32 (8192 + (i 1).val)) ((i 3).val - 32) = _
    rw [hh]

theorem scaled_sample (i : S512x2x2x4x64.Idx) :
    val_main_v289 (F := Ideal) x w i = turned x w (16384 + (i 0).val) (64 * (8 * (i 1).val + 4 * (i 2).val + (i 3).val) + (i 4).val) * factor := by
  have h0 : (i 0).val < 512 := (i 0).isLt
  have h1 : (i 1).val < 2 := (i 1).isLt
  have h2 : (i 2).val < 2 := (i 2).isLt
  have h3 : (i 3).val < 4 := (i 3).isLt
  have h4 : (i 4).val < 64 := (i 4).isLt
  rw [val_main_v289_apply, val_main_v288_apply, val_main_v287_apply, val_main_cst_8_apply, turned_q_sample x w]
  refine congrArg (fun a : EReal => a * factor) (congrArg₂ (turned x w) ?_ ?_)
  · show 16384 + (4 * ((((((i 0).val * 2 + (i 1).val) * 2 + (i 2).val) * 4 + (i 3).val) * 64 + (i 4).val) / 4096) + ((((((i 0).val * 2 + (i 1).val) * 2 + (i 2).val) * 4 + (i 3).val) * 64 + (i 4).val) / 1024 % 4)) = (16384 + (i 0).val)
    omega
  · show 64 * ((((((i 0).val * 2 + (i 1).val) * 2 + (i 2).val) * 4 + (i 3).val) * 64 + (i 4).val) / 64 % 16) + (((((i 0).val * 2 + (i 1).val) * 2 + (i 2).val) * 4 + (i 3).val) * 64 + (i 4).val) % 64 = 64 * (8 * (i 1).val + 4 * (i 2).val + (i 3).val) + (i 4).val
    omega

theorem queries_sample (i : S512x1024.Idx) : val_main_v291 (F := Ideal) x w i = query x w (16384 + (i 0).val) (i 1).val := by
  have h0 : (i 0).val < 512 := (i 0).isLt
  have h1 : (i 1).val < 1024 := (i 1).isLt
  rw [val_main_v291_apply, val_main_v290_apply, scaled_sample x w]
  unfold query headCol
  refine congrArg (fun a : EReal => a * factor) (congrArg₂ (turned x w) ?_ ?_)
  · show 16384 + ((i 0).val * 1024 + (i 1).val) / 1024 = (16384 + (i 0).val)
    omega
  · show 64 * (8 * (((i 0).val * 1024 + (i 1).val) / 512 % 2) + 4 * (((i 0).val * 1024 + (i 1).val) / 64 % 2) + ((i 0).val * 1024 + (i 1).val) / 128 % 4) + ((i 0).val * 1024 + (i 1).val) % 64
      = 64 * (8 * ((i 1).val / 512) + 4 * ((i 1).val / 64 % 2) + (i 1).val / 128 % 4) + (i 1).val % 64
    omega

theorem keys_sample (i : S512x256.Idx) : val_main_v294 (F := Ideal) x w i = key x w (16384 + (i 0).val) (i 1).val := by
  have h0 : (i 0).val < 512 := (i 0).isLt
  have h1 : (i 1).val < 256 := (i 1).isLt
  rw [val_main_v294_apply, turned_k_sample x w]
  unfold key
  refine congrArg₂ (turned x w) ?_ ?_
  · show 16384 + (4 * (((i 0).val * 256 + (i 1).val) / 1024) + (((i 0).val * 256 + (i 1).val) / 256 % 4)) = (16384 + (i 0).val)
    omega
  · show 1024 + (64 * (((i 0).val * 256 + (i 1).val) / 64 % 4) + ((i 0).val * 256 + (i 1).val) % 64) = 1024 + (i 1).val
    omega

theorem vals_sample (i : S512x256.Idx) : val_main_v297 (F := Ideal) x w i = val x w (16384 + (i 0).val) (i 1).val := by
  have h0 : (i 0).val < 512 := (i 0).isLt
  have h1 : (i 1).val < 256 := (i 1).isLt
  rw [val_main_v297_apply, v_sample x w]
  unfold val
  refine congrArg₂ (lin x w) ?_ ?_
  · show 16384 + (4 * (((i 0).val * 256 + (i 1).val) / 1024) + (((i 0).val * 256 + (i 1).val) / 256 % 4)) = (16384 + (i 0).val)
    omega
  · show 1280 + (64 * (((i 0).val * 256 + (i 1).val) / 64 % 4) + ((i 0).val * 256 + (i 1).val) % 64) = 1280 + (i 1).val
    omega

theorem idxQueries_sample (i : S512x512.Idx) : val_main_v304 (F := Ideal) x w i = idxQuery x w (16384 + (i 0).val) (i 1).val := by
  have h0 : (i 0).val < 512 := (i 0).isLt
  have h1 : (i 1).val < 512 := (i 1).isLt
  rw [val_main_v304_apply, val_main_v303_apply, val_main_v302_apply, val_main_cst_10_apply, turned_qi_sample x w]
  unfold idxQuery
  refine congrArg (fun a : EReal => a * scale) (congrArg₂ (turned x w) ?_ ?_)
  · show 16384 + (4 * (((i 0).val * 512 + (i 1).val) / 2048) + (((i 0).val * 512 + (i 1).val) / 512 % 4)) = (16384 + (i 0).val)
    omega
  · show 1536 + (64 * (((i 0).val * 512 + (i 1).val) / 64 % 8) + ((i 0).val * 512 + (i 1).val) % 64) = 1536 + (i 1).val
    omega

theorem idxKeys_sample (i : S128x4x64.Idx) : val_main_v281 (F := Ideal) x w i = idxKey x w (16384 + (4 * (i 0).val + (i 1).val)) (i 2).val := by
  have h0 : (i 0).val < 128 := (i 0).isLt
  have h1 : (i 1).val < 4 := (i 1).isLt
  have h2 : (i 2).val < 64 := (i 2).isLt
  rw [val_main_v281_apply, turned_ki_sample x w]
  unfold idxKey
  refine congrArg₂ (turned x w) ?_ ?_
  · show 16384 + (4 * ((((i 0).val * 4 + (i 1).val) * 64 + (i 2).val) / 256) + ((((i 0).val * 4 + (i 1).val) * 64 + (i 2).val) / 64 % 4)) = 16384 + (4 * (i 0).val + (i 1).val)
    omega
  · show 2048 + (64 * 0 + (((i 0).val * 4 + (i 1).val) * 64 + (i 2).val) % 64) = 2048 + (i 2).val % 64
    omega

/-! ## The ten results -/

theorem queries_all : val_main_v306 (F := Ideal) x w = flat 1024 (query x w) := by
  funext i
  have h0 : (i 0).val < 16896 := (i 0).isLt
  have h1 : (i 1).val < 1024 := (i 1).isLt
  show val_main_v292 (F := Ideal) x w i = query x w (i 0).val (i 1).val
  unfold val_main_v292
  by_cases h : (i 0).val < 16384
  · exact (concatenate_apply_piece (0 : Fin 2) [⟨S16384x1024, val_main_v286 (F := Ideal) x w⟩, ⟨S512x1024, val_main_v291 (F := Ideal) x w⟩] _ i
      0 (by exact (by decide : 0 < 2)) S16384x1024 (val_main_v286 (F := Ideal) x w) rfl rfl 0 rfl
      (ix2 (⟨(i 0).val, h⟩ : Fin 16384) (⟨(i 1).val, h1⟩ : Fin 1024))
      (fun b hb => match b with | ⟨0, _⟩ => absurd rfl hb | ⟨1, _⟩ => rfl)
      (by show 0 + (i 0).val = (i 0).val; omega)).trans (queries_prompt x w _)
  · refine (concatenate_apply_piece (0 : Fin 2) [⟨S16384x1024, val_main_v286 (F := Ideal) x w⟩, ⟨S512x1024, val_main_v291 (F := Ideal) x w⟩] _ i
      1 (by exact (by decide : 1 < 2)) S512x1024 (val_main_v291 (F := Ideal) x w) rfl rfl 16384 rfl
      (ix2 (⟨(i 0).val - 16384, by omega⟩ : Fin 512) (⟨(i 1).val, h1⟩ : Fin 1024))
      (fun b hb => match b with | ⟨0, _⟩ => absurd rfl hb | ⟨1, _⟩ => rfl)
      (by show 16384 + ((i 0).val - 16384) = (i 0).val; omega)).trans ((queries_sample x w _).trans ?_)
    refine congrArg (fun R => query x w R (i 1).val) ?_
    show 16384 + ((i 0).val - 16384) = (i 0).val
    omega

theorem keys_all : val_main_v307 (F := Ideal) x w = flat 256 (key x w) := by
  funext i
  have h0 : (i 0).val < 16896 := (i 0).isLt
  have h1 : (i 1).val < 256 := (i 1).isLt
  show val_main_v295 (F := Ideal) x w i = key x w (i 0).val (i 1).val
  unfold val_main_v295
  by_cases h : (i 0).val < 16384
  · exact (concatenate_apply_piece (0 : Fin 2) [⟨S16384x256, val_main_v293 (F := Ideal) x w⟩, ⟨S512x256, val_main_v294 (F := Ideal) x w⟩] _ i
      0 (by exact (by decide : 0 < 2)) S16384x256 (val_main_v293 (F := Ideal) x w) rfl rfl 0 rfl
      (ix2 (⟨(i 0).val, h⟩ : Fin 16384) (⟨(i 1).val, h1⟩ : Fin 256))
      (fun b hb => match b with | ⟨0, _⟩ => absurd rfl hb | ⟨1, _⟩ => rfl)
      (by show 0 + (i 0).val = (i 0).val; omega)).trans (keys_prompt x w _)
  · refine (concatenate_apply_piece (0 : Fin 2) [⟨S16384x256, val_main_v293 (F := Ideal) x w⟩, ⟨S512x256, val_main_v294 (F := Ideal) x w⟩] _ i
      1 (by exact (by decide : 1 < 2)) S512x256 (val_main_v294 (F := Ideal) x w) rfl rfl 16384 rfl
      (ix2 (⟨(i 0).val - 16384, by omega⟩ : Fin 512) (⟨(i 1).val, h1⟩ : Fin 256))
      (fun b hb => match b with | ⟨0, _⟩ => absurd rfl hb | ⟨1, _⟩ => rfl)
      (by show 16384 + ((i 0).val - 16384) = (i 0).val; omega)).trans ((keys_sample x w _).trans ?_)
    refine congrArg (fun R => key x w R (i 1).val) ?_
    show 16384 + ((i 0).val - 16384) = (i 0).val
    omega

theorem vals_all : val_main_v308 (F := Ideal) x w = flat 256 (val x w) := by
  funext i
  have h0 : (i 0).val < 16896 := (i 0).isLt
  have h1 : (i 1).val < 256 := (i 1).isLt
  show val_main_v298 (F := Ideal) x w i = val x w (i 0).val (i 1).val
  unfold val_main_v298
  by_cases h : (i 0).val < 16384
  · exact (concatenate_apply_piece (0 : Fin 2) [⟨S16384x256, val_main_v296 (F := Ideal) x w⟩, ⟨S512x256, val_main_v297 (F := Ideal) x w⟩] _ i
      0 (by exact (by decide : 0 < 2)) S16384x256 (val_main_v296 (F := Ideal) x w) rfl rfl 0 rfl
      (ix2 (⟨(i 0).val, h⟩ : Fin 16384) (⟨(i 1).val, h1⟩ : Fin 256))
      (fun b hb => match b with | ⟨0, _⟩ => absurd rfl hb | ⟨1, _⟩ => rfl)
      (by show 0 + (i 0).val = (i 0).val; omega)).trans (vals_prompt x w _)
  · refine (concatenate_apply_piece (0 : Fin 2) [⟨S16384x256, val_main_v296 (F := Ideal) x w⟩, ⟨S512x256, val_main_v297 (F := Ideal) x w⟩] _ i
      1 (by exact (by decide : 1 < 2)) S512x256 (val_main_v297 (F := Ideal) x w) rfl rfl 16384 rfl
      (ix2 (⟨(i 0).val - 16384, by omega⟩ : Fin 512) (⟨(i 1).val, h1⟩ : Fin 256))
      (fun b hb => match b with | ⟨0, _⟩ => absurd rfl hb | ⟨1, _⟩ => rfl)
      (by show 16384 + ((i 0).val - 16384) = (i 0).val; omega)).trans ((vals_sample x w _).trans ?_)
    refine congrArg (fun R => val x w R (i 1).val) ?_
    show 16384 + ((i 0).val - 16384) = (i 0).val
    omega

theorem idxQueries_all : val_main_v309 (F := Ideal) x w = flat 512 (idxQuery x w) := by
  funext i
  have h0 : (i 0).val < 16896 := (i 0).isLt
  have h1 : (i 1).val < 512 := (i 1).isLt
  show val_main_v305 (F := Ideal) x w i = idxQuery x w (i 0).val (i 1).val
  unfold val_main_v305
  by_cases h : (i 0).val < 16384
  · exact (concatenate_apply_piece (0 : Fin 2) [⟨S16384x512, val_main_v301 (F := Ideal) x w⟩, ⟨S512x512, val_main_v304 (F := Ideal) x w⟩] _ i
      0 (by exact (by decide : 0 < 2)) S16384x512 (val_main_v301 (F := Ideal) x w) rfl rfl 0 rfl
      (ix2 (⟨(i 0).val, h⟩ : Fin 16384) (⟨(i 1).val, h1⟩ : Fin 512))
      (fun b hb => match b with | ⟨0, _⟩ => absurd rfl hb | ⟨1, _⟩ => rfl)
      (by show 0 + (i 0).val = (i 0).val; omega)).trans (idxQueries_prompt x w _)
  · refine (concatenate_apply_piece (0 : Fin 2) [⟨S16384x512, val_main_v301 (F := Ideal) x w⟩, ⟨S512x512, val_main_v304 (F := Ideal) x w⟩] _ i
      1 (by exact (by decide : 1 < 2)) S512x512 (val_main_v304 (F := Ideal) x w) rfl rfl 16384 rfl
      (ix2 (⟨(i 0).val - 16384, by omega⟩ : Fin 512) (⟨(i 1).val, h1⟩ : Fin 512))
      (fun b hb => match b with | ⟨0, _⟩ => absurd rfl hb | ⟨1, _⟩ => rfl)
      (by show 16384 + ((i 0).val - 16384) = (i 0).val; omega)).trans ((idxQueries_sample x w _).trans ?_)
    refine congrArg (fun R => idxQuery x w R (i 1).val) ?_
    show 16384 + ((i 0).val - 16384) = (i 0).val
    omega

theorem promptRows_key : val_main_v310 (F := Ideal) x w = promptRows (key x w) := by
  funext y
  rw [val_main_v310_apply, turned_k_prompt x w]
  rfl

theorem promptRows_val : val_main_v311 (F := Ideal) x w = promptRows (val x w) := by
  funext y
  rw [val_main_v311_apply, v_prompt x w]
  rfl

theorem promptIdx_idxKey : val_main_v312 (F := Ideal) x w = promptIdx (idxKey x w) := by
  funext y
  rw [val_main_v312_apply, idxKeys_prompt x w]
  rfl

theorem sampleRows_key : val_main_v313 (F := Ideal) x w = sampleRows (key x w) := by
  funext y
  rw [val_main_v313_apply, turned_k_sample x w]
  rfl

theorem sampleRows_val : val_main_v314 (F := Ideal) x w = sampleRows (val x w) := by
  funext y
  rw [val_main_v314_apply, v_sample x w]
  rfl

theorem sampleIdx_idxKey : val_main_v315 (F := Ideal) x w = sampleIdx (idxKey x w) := by
  funext y
  rw [val_main_v315_apply, idxKeys_sample x w]
  rfl

end Cert.Dsa.Ref

end
-- ==== Proof.DsaClaim.lean ====
/- The second layer's projection and its reference return the same ten arrays. -/
module

public import proofs.«01_k».proof.Defs
public import proofs.«01_k».proof.Proof.Gen.Kernel4.Frame
public import proofs.«01_k».proof.Proof.DsaRef

@[expose] public section

set_option maxRecDepth 16384

noncomputable section

namespace Cert.Dsa

open Cert.Kernel4Ideal Cert.Kernel4Ideal.Gen
open Idealize.ShloMosaic hiding ix1 ix2 ix3 ix4 ix5 eq_ix2
open Idealize.ShloMosaic.TcCoe Idealize.SL.Sem Idealize.ShloMosaic.ValueIdx

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2.2.2.2.2.2.2.2.2.2, sem_eq_zero_of_no_sems (by decide) r.2⟩)
    (Cert.Reference4Ideal.Value.run (F := Ideal) m ρ)

/-- What the launch and its host lines leave, of the arguments. -/
theorem left (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v36_0) = (flat 1024 (queryF m c) : Buf (Elt Ideal) ((c.tc : Thread nD τ).loc main_v36_0))
      ∧ r.2.mem ((c.tc : Thread nD τ).loc main_v36_2) = (flat 256 (keyF m c) : Buf (Elt Ideal) ((c.tc : Thread nD τ).loc main_v36_2))
      ∧ r.2.mem ((c.tc : Thread nD τ).loc main_v36_7) = (flat 256 (valF m c) : Buf (Elt Ideal) ((c.tc : Thread nD τ).loc main_v36_7))
      ∧ r.2.mem ((c.tc : Thread nD τ).loc main_v36_4) = (flat 512 (idxQueryF m c) : Buf (Elt Ideal) ((c.tc : Thread nD τ).loc main_v36_4))
      ∧ r.2.mem ((c.tc : Thread nD τ).loc main_v39) = (promptRows (keyF m c) : Buf (Elt Ideal) ((c.tc : Thread nD τ).loc main_v39))
      ∧ r.2.mem ((c.tc : Thread nD τ).loc main_v42) = (promptRows (valF m c) : Buf (Elt Ideal) ((c.tc : Thread nD τ).loc main_v42))
      ∧ r.2.mem ((c.tc : Thread nD τ).loc main_v45) = (promptIdx (idxKeyF m c) : Buf (Elt Ideal) ((c.tc : Thread nD τ).loc main_v45))
      ∧ r.2.mem ((c.tc : Thread nD τ).loc main_v48) = (sampleRows (keyF m c) : Buf (Elt Ideal) ((c.tc : Thread nD τ).loc main_v48))
      ∧ r.2.mem ((c.tc : Thread nD τ).loc main_v51) = (sampleRows (valF m c) : Buf (Elt Ideal) ((c.tc : Thread nD τ).loc main_v51))
      ∧ r.2.mem ((c.tc : Thread nD τ).loc main_v54) = (sampleIdx (idxKeyF m c) : Buf (Elt Ideal) ((c.tc : Thread nD τ).loc main_v54))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun r h c => ⟨((h c).1 6).trans (final_6 m c),
    ((h c).1 8).trans (final_8 m c),
    ((h c).1 13).trans (final_13 m c),
    ((h c).1 10).trans (final_10 m c),
    ((h c).2 main_v39 (by decide)).trans (tail_39 m c),
    ((h c).2 main_v42 (by decide)).trans (tail_42 m c),
    ((h c).2 main_v45 (by decide)).trans (tail_45 m c),
    ((h c).2 main_v48 (by decide)).trans (tail_48 m c),
    ((h c).2 main_v51 (by decide)).trans (tail_51 m c),
    ((h c).2 main_v54 (by decide)).trans (tail_54 m c),
    ((h c).1 1).trans (((dats m 0 c).arrAt_in 1 rfl _).trans ((A_eq m c 1).trans (V_main_arg0 m c))),
    ((h c).2 main_arg1 (by decide)).trans (W_main_arg1 m (dats m) c)⟩) (run_main m ρ)

theorem algebraic : Cert.algebraic_Kernel4Ideal_Reference4Ideal := by
  intro m ρ m' ρ' hpre hagree
  refine ⟨fun c => flat 1024 (queryF m c), fun c => flat 256 (keyF m c), fun c => flat 256 (valF m c), fun c => flat 512 (idxQueryF m c), fun c => promptRows (keyF m c), fun c => promptRows (valF m c), fun c => promptIdx (idxKeyF m c), fun c => sampleRows (keyF m c), fun c => sampleRows (valF m c), fun c => sampleIdx (idxKeyF m c), left m ρ, ?_⟩
  refine (θ_run _ _ _).mono (fun _ h c => ?_) (Cert.Reference4Ideal.Value.run (F := Ideal) m' ρ')
  obtain ⟨e0, e1⟩ := hagree c
  obtain ⟨r0, r1, r2, r3, r4, r5, r6, r7, r8, r9, rest⟩ := h c
  rw [Cert.Reference4Ideal.Read.val_main_v306_eq] at r0
  rw [Cert.Reference4Ideal.Read.val_main_v307_eq] at r1
  rw [Cert.Reference4Ideal.Read.val_main_v308_eq] at r2
  rw [Cert.Reference4Ideal.Read.val_main_v309_eq] at r3
  rw [Cert.Reference4Ideal.Read.val_main_v310_eq] at r4
  rw [Cert.Reference4Ideal.Read.val_main_v311_eq] at r5
  rw [Cert.Reference4Ideal.Read.val_main_v312_eq] at r6
  rw [Cert.Reference4Ideal.Read.val_main_v313_eq] at r7
  rw [Cert.Reference4Ideal.Read.val_main_v314_eq] at r8
  rw [Cert.Reference4Ideal.Read.val_main_v315_eq] at r9
  refine ⟨r0.trans ((congr (congrArg (Cert.Reference4Ideal.Read.val_main_v306 (F := Ideal)) e0) e1).trans (Ref.queries_all (xOf m c) (wOf m c))),
    r1.trans ((congr (congrArg (Cert.Reference4Ideal.Read.val_main_v307 (F := Ideal)) e0) e1).trans (Ref.keys_all (xOf m c) (wOf m c))),
    r2.trans ((congr (congrArg (Cert.Reference4Ideal.Read.val_main_v308 (F := Ideal)) e0) e1).trans (Ref.vals_all (xOf m c) (wOf m c))),
    r3.trans ((congr (congrArg (Cert.Reference4Ideal.Read.val_main_v309 (F := Ideal)) e0) e1).trans (Ref.idxQueries_all (xOf m c) (wOf m c))),
    r4.trans ((congr (congrArg (Cert.Reference4Ideal.Read.val_main_v310 (F := Ideal)) e0) e1).trans (Ref.promptRows_key (xOf m c) (wOf m c))),
    r5.trans ((congr (congrArg (Cert.Reference4Ideal.Read.val_main_v311 (F := Ideal)) e0) e1).trans (Ref.promptRows_val (xOf m c) (wOf m c))),
    r6.trans ((congr (congrArg (Cert.Reference4Ideal.Read.val_main_v312 (F := Ideal)) e0) e1).trans (Ref.promptIdx_idxKey (xOf m c) (wOf m c))),
    r7.trans ((congr (congrArg (Cert.Reference4Ideal.Read.val_main_v313 (F := Ideal)) e0) e1).trans (Ref.sampleRows_key (xOf m c) (wOf m c))),
    r8.trans ((congr (congrArg (Cert.Reference4Ideal.Read.val_main_v314 (F := Ideal)) e0) e1).trans (Ref.sampleRows_val (xOf m c) (wOf m c))),
    r9.trans ((congr (congrArg (Cert.Reference4Ideal.Read.val_main_v315 (F := Ideal)) e0) e1).trans (Ref.sampleIdx_idxKey (xOf m c) (wOf m c))), rest⟩

end Cert.Dsa

end
-- ==== Proof.OutSpec.lean ====
/- The first layer's rows after the attention: the output projection added to the row and the sum normalized. -/
module

public import proofs.«01_k».proof.Proof.ProjSpec

@[expose] public section

noncomputable section

namespace Cert.Out

open Cert.Proj (Arr)
open Idealize.ShloMosaic
open Idealize.ShloMosaic.TcCoe Idealize.SL.Sem Idealize.ShloMosaic.ValueIdx

/-- The factor of the row that comes in. -/
def factor : EReal := FloatOps.ofBits (F := Ideal) .f32 0x3FB504F3#32
/-- The number of columns. -/
def width : EReal := FloatOps.ofBits (F := Ideal) .f32 0x44800000#32
/-- The number added to the variance. -/
def small : EReal := FloatOps.ofBits (F := Ideal) .f32 0x3727C5AC#32

/-! ## A row normalized -/

def mean (y : Fin 1024 → EReal) : EReal := Ideal.div (∑ k, y k) width

def dev (y : Fin 1024 → EReal) (k : Fin 1024) : EReal := y k - mean y

def norm (y g b : Fin 1024 → EReal) (k : Fin 1024) : EReal :=
  dev y k * Ideal.rsqrt (mean (fun j => dev y j * dev y j) + small) * g k + b k

/-! ## The heads put back -/

/-- Where the attention's result holds column `C` of the heads in order. -/
def slot (C : Nat) : Nat := 128 * (C / 64 % 8) + 64 * (C / 512) + C % 64

/-- The column of the heads in order that the attention's result holds in column `C`. -/
def headOf (C : Nat) : Nat := 64 * (8 * (C / 64 % 2) + C / 128) + C % 64

theorem slot_lt (C : Nat) (h : C < 1024) : slot C < 1024 := by unfold slot; omega

theorem headOf_lt (C : Nat) (h : C < 1024) : headOf C < 1024 := by unfold headOf; omega

theorem slot_headOf : ∀ C : Fin 1024, slot (headOf C.val) = C.val := by decide +kernel

theorem headOf_slot : ∀ C : Fin 1024, headOf (slot C.val) = C.val := by decide +kernel

/-- The columns in the one order against the columns in the other. -/
def heads : Fin 1024 ≃ Fin 1024 where
  toFun C := ⟨headOf C.val, headOf_lt _ C.isLt⟩
  invFun C := ⟨slot C.val, slot_lt _ C.isLt⟩
  left_inv C := Fin.ext (slot_headOf C)
  right_inv C := Fin.ext (headOf_slot C)

section
variable (op : Arr ⟨2, ![16384, 1024]⟩) (os : Arr ⟨2, ![512, 1024]⟩) (xp : Arr ⟨3, ![8, 2048, 1024]⟩) (xs : Arr ⟨3, ![128, 4, 1024]⟩)
  (w : Arr ⟨3, ![1, 1024, 1024]⟩) (g b : Arr ⟨2, ![2, 1024]⟩)

/-- Row `R` of the attention's result: the prompt's rows, then the sample's. -/
def oRow (R : Nat) (k : Fin 1024) : EReal :=
  if R < 16384 then op (ix2 (⟨R % 16384, by omega⟩ : Fin 16384) k) else os (ix2 (⟨(R - 16384) % 512, by omega⟩ : Fin 512) k)

/-- Row `R` before it is normalized. -/
def pre (R : Nat) (C : Fin 1024) : EReal :=
  factor * Cert.Proj.row xp xs R C + ∑ k : Fin 1024, oRow op os R (heads.symm k) * w (ix3 (0 : Fin 1) k C)

theorem pre_eq (R : Nat) (C : Fin 1024) :
    factor * Cert.Proj.row xp xs R C + ∑ k : Fin 1024, oRow op os R k * w (ix3 (0 : Fin 1) (heads k) C) = pre op os xp xs w R C := by
  unfold pre
  refine congrArg (factor * Cert.Proj.row xp xs R C + ·) (Fintype.sum_equiv heads _ _ fun k => ?_)
  rw [Equiv.symm_apply_apply]

/-- Row `R` after the attention. -/
def out (R : Nat) (C : Fin 1024) : EReal :=
  norm (pre op os xp xs w R) (fun k => g (ix2 (0 : Fin 2) k)) (fun k => b (ix2 (0 : Fin 2) k)) C

def outRows : Arr ⟨2, ![16896, 1024]⟩ := fun i => out op os xp xs w g b (i 0).val ⟨(i 1).val % 1024, by omega⟩

end

end Cert.Out

end
-- ==== Proof.OutTile.lean ====
/- What the first layer's output projection leaves at a grid point, read at a row and a column. -/
module

public import proofs.«01_k».proof.Proof.OutSpec
public import proofs.«01_k».proof.Proof.Gen.Kernel5Ideal.Frame
public import Idealize.ShloMosaic.Lib.Pipeline.ValueKit

@[expose] public section

set_option maxRecDepth 16384

noncomputable section

namespace Cert.Out

open Cert.Kernel5Ideal Cert.Kernel5Ideal.Gen
open Cert.Proj (Arr)
open Idealize.ShloMosaic hiding ix1 ix2 ix4 eq_ix2
open Idealize.ShloMosaic.TcCoe Idealize.SL.Sem Idealize.ShloMosaic.ValueIdx

theorem lift_row (r : Fin 512) (k : Fin 1024) : (reduces_S512x1024_S512).lift (ix1 r) k = ix2 (n0 := 512) (n1 := 1024) r k := by
  funext a
  match a with
  | ⟨0, _⟩ => rfl
  | ⟨1, _⟩ => rfl

theorem wide_apply (x : FVec Ideal S512x1 .f32) (r : Fin 512) (l : Fin 1024) :
    broadcastTo S512x1024 x broadcasts_S512x1_S512x1024 (ix2 r l) = x (ix2 r (0 : Fin 1)) :=
  broadcastTo_apply x _ _ _ (fun a => match a with
    | ⟨0, _⟩ => by show r.val = if (512 : Nat) = 1 then 0 else r.val; rw [if_neg (by decide)]
    | ⟨1, _⟩ => by show 0 = if (1 : Nat) = 1 then 0 else _; rw [if_pos rfl])

theorem tall_apply (x : FVec Ideal S1x1024 .f32) (r : Fin 512) (l : Fin 1024) :
    broadcastTo S512x1024 x broadcasts_S1x1024_S512x1024 (ix2 r l) = x (ix2 (0 : Fin 1) l) :=
  broadcastTo_apply x _ _ _ (fun a => match a with
    | ⟨0, _⟩ => rfl
    | ⟨1, _⟩ => rfl)

/-- The mean of each row, as the kernel computes it. -/
def means (v : FVec Ideal S512x1024 .f32) : FVec Ideal S512x1 .f32 :=
  divf (shapeCast S512x1 (multiReduction .add [1] S512 v 0x00000000#32 reduces_S512x1024_S512 (.inl rfl) rfl) shapeCasts_S512_S512x1)
    (broadcast S512x1 (Scalar.ofBits (F := Ideal) .f32 0x44800000#32))

theorem means_apply (v : FVec Ideal S512x1024 .f32) (r : Fin 512) (u : Fin 1) : means v (ix2 r u) = mean (fun k => v (ix2 r k)) := by
  unfold means mean
  refine congrArg₂ Ideal.div ((shapeCast_a_a1_apply _ _ r u).trans ((Ideal.multiReduction_add_single _ _ _ _ _ _).trans ?_)) rfl
  exact Finset.sum_congr rfl fun k _ => congrArg v (lift_row r k)

section
variable (i : grid0.Coords) (x0 x1 : Arr S512x1024) (x2 x3 : Arr S512x1024) (x4 : Arr S1024x1024) (x5 x6 : Arr S1x1024)

/-- The block of rows of a point: the prompt's at the first 32 points, the sample's at the last. -/
def part (a b : Arr S512x1024) : Arr S512x1024 := if (i 0).val < 32 then a else b

theorem part_eq (a b : Arr S512x1024) :
    Scalar.select (Scalar.cmpi .slt (BitVec.ofNat 32 (i 0).val) 32#32) a b = part i a b := by
  have h : ∀ n : Fin 33, Scalar.cmpi .slt (BitVec.ofNat 32 n.val) 32#32 = if n.val < 32 then 1#1 else 0#1 := by decide +kernel
  have hi := h ⟨(i 0).val, (i 0).isLt⟩
  unfold part
  rw [hi]
  show Scalar.select (if (i 0).val < 32 then 1#1 else 0#1) a b = _
  by_cases hc : (i 0).val < 32
  · rw [if_pos hc, if_pos hc]; rfl
  · rw [if_neg hc, if_neg hc]; rfl

/-- A row of the block before it is normalized. -/
def preAt (r : Fin 512) (C : Fin 1024) : EReal :=
  factor * part i x2 x3 (ix2 r C) + ∑ k : Fin 1024, part i x0 x1 (ix2 r k) * x4 (ix2 k C)

theorem dot_1024 : dot_S512x1024_S1024x1024_S512x1024_1_0_0_1_n_n = DotDims.plain 512 1024 1024 := rfl

/-- The rows before they are normalized, as the kernel computes them. -/
def sums : FVec Ideal S512x1024 .f32 :=
  addf (F := Ideal) (φ := .f32) (mulf (F := Ideal) (φ := .f32) (broadcast S512x1024 (Scalar.ofBits (F := Ideal) .f32 0x3FB504F3#32)) (part i x2 x3))
    (matmul (F := Ideal) (φ₁ := .bf16) (φ₂ := .bf16) dot_S512x1024_S1024x1024_S512x1024_1_0_0_1_n_n none (part i x0 x1) x4 (constant S512x1024 .f32 0x00000000#32))

theorem sums_apply (r : Fin 512) (C : Fin 1024) : sums i x0 x1 x2 x3 x4 (ix2 r C) = preAt i x0 x1 x2 x3 x4 r C := by
  unfold sums preAt
  refine congrArg₂ (· + ·) rfl ?_
  rw [dot_1024]
  refine (Ideal.matmul_plain_apply (φ₁ := .bf16) (φ₂ := .bf16) none _ _ _ r C).trans ?_
  show Ideal.ofBits .f32 0#32 + _ = _
  rw [Ideal.ofBits_zero_f32, zero_add]

theorem pay4_eq : k0_pay4 (F := Ideal) i x0 x1 x2 x3 x4
    = subf (F := Ideal) (φ := .f32) (sums i x0 x1 x2 x3 x4) (broadcastTo S512x1024 (means (sums i x0 x1 x2 x3 x4)) broadcasts_S512x1_S512x1024) := by
  unfold k0_pay4
  rw [shapeCast_self (s := S512x1024), shapeCast_self (s := S512x1024), shapeCast_self (s := S1024x1024)]
  show subf (F := Ideal) (φ := .f32) (addf (F := Ideal) (φ := .f32) (mulf (F := Ideal) (φ := .f32) _ (Scalar.select (Scalar.cmpi .slt (BitVec.ofNat 32 (i 0).val) 32#32) x2 x3))
    (matmul (F := Ideal) (φ₁ := .bf16) (φ₂ := .bf16) _ none (Scalar.select (Scalar.cmpi .slt (BitVec.ofNat 32 (i 0).val) 32#32) x0 x1) x4 _)) _ = _
  rw [part_eq, part_eq]
  rfl

theorem pay4_apply (r : Fin 512) (k : Fin 1024) : k0_pay4 (F := Ideal) i x0 x1 x2 x3 x4 (ix2 r k) = dev (preAt i x0 x1 x2 x3 x4 r) k := by
  rw [pay4_eq]
  unfold dev
  refine congrArg₂ (fun a b : EReal => a - b) (sums_apply i x0 x1 x2 x3 x4 r k) ((wide_apply _ r k).trans ((means_apply _ r 0).trans ?_))
  exact congrArg mean (funext fun j => sums_apply i x0 x1 x2 x3 x4 r j)

theorem pay5_apply (r : Fin 512) (u : Fin 1) : k0_pay5 (F := Ideal) i x0 x1 x2 x3 x4 (ix2 r u)
    = mean (fun j => dev (preAt i x0 x1 x2 x3 x4 r) j * dev (preAt i x0 x1 x2 x3 x4 r) j) := by
  refine (means_apply (mulf (k0_pay4 (F := Ideal) i x0 x1 x2 x3 x4) (k0_pay4 (F := Ideal) i x0 x1 x2 x3 x4)) r u).trans ?_
  exact congrArg mean (funext fun j => congrArg₂ (fun a b : EReal => a * b) (pay4_apply i x0 x1 x2 x3 x4 r j) (pay4_apply i x0 x1 x2 x3 x4 r j))

/-- What a point leaves. -/
def tile : Arr S512x1024 := fun y => norm (preAt i x0 x1 x2 x3 x4 ⟨(y 0).val, (y 0).isLt⟩) (fun k => x5 (ix2 (0 : Fin 1) k)) (fun k => x6 (ix2 (0 : Fin 1) k)) ⟨(y 1).val, (y 1).isLt⟩

theorem pay6_eq : k0_pay6 (F := Ideal) (k0_pay2 (F := Ideal) x5) (k0_pay3 (F := Ideal) x6) (k0_pay4 (F := Ideal) i x0 x1 x2 x3 x4) (k0_pay5 (F := Ideal) i x0 x1 x2 x3 x4)
    = tile i x0 x1 x2 x3 x4 x5 x6 := by
  funext y
  obtain ⟨r, l, rfl⟩ : ∃ (r : Fin 512) (l : Fin 1024), y = ix2 r l := ⟨y 0, y 1, eq_ix2 y⟩
  show _ = norm (preAt i x0 x1 x2 x3 x4 r) (fun k => x5 (ix2 (0 : Fin 1) k)) (fun k => x6 (ix2 (0 : Fin 1) k)) l
  unfold k0_pay6 norm k0_pay2 k0_pay3
  rw [shapeCast_self (s := S1x1024), shapeCast_self (s := S1x1024)]
  refine congrArg₂ (fun a b : EReal => a + b) (congrArg₂ (fun a b : EReal => a * b) (congrArg₂ (fun a b : EReal => a * b) (pay4_apply i x0 x1 x2 x3 x4 r l)
    ((wide_apply _ r l).trans ?_)) (tall_apply _ r l)) (tall_apply _ r l)
  exact congrArg (fun a : EReal => Ideal.rsqrt (a + small)) (pay5_apply i x0 x1 x2 x3 x4 r 0)

theorem out_A (c : Dev nD) (arg1 : Memref sig .tc .vmem S512x1024 .bf16) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x1024 .f32) (harg12 : arg12.IsWhole) (arg13 : Memref sig .tc .vmem S512x128 .f32) (harg13 : arg13.IsWhole) (arg14 : Memref sig .tc .vmem S8x512 .f32) (harg14 : arg14.IsWhole) (arg15 : Memref sig .tc .vmem S1x128 .f32) (harg15 : arg15.IsWhole) (arg16 : Memref sig .tc .vmem S1x128 .f32) (harg16 : arg16.IsWhole) (hc0 : cond0_0 i)
    (x7 x8 : Vec Ideal S1024x128 .bf16) (x9 : Vec Ideal S1x128 .f32) (x10 : Vec Ideal S512x512 .bf16) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = tile i x0 x1 x2 x3 x4 x5 x6 := by
  rw [← pay6_eq]
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10)]
  frame_out

theorem out_B (c : Dev nD) (arg1 : Memref sig .tc .vmem S512x1024 .bf16) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x1024 .f32) (harg12 : arg12.IsWhole) (arg13 : Memref sig .tc .vmem S512x128 .f32) (harg13 : arg13.IsWhole) (arg14 : Memref sig .tc .vmem S8x512 .f32) (harg14 : arg14.IsWhole) (arg15 : Memref sig .tc .vmem S1x128 .f32) (harg15 : arg15.IsWhole) (arg16 : Memref sig .tc .vmem S1x128 .f32) (harg16 : arg16.IsWhole) (hc0 : ¬ cond0_0 i)
    (x7 x8 : Vec Ideal S1024x128 .bf16) (x9 : Vec Ideal S1x128 .f32) (x10 : Vec Ideal S512x512 .bf16) (xs0 : Vec Ideal S1x128 .f32) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 = tile i x0 x1 x2 x3 x4 x5 x6 := by
  rw [← pay6_eq]
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0)]
  frame_out

end

end Cert.Out

end
-- ==== Proof.OutHost.lean ====
/- The arrays that the first layer's output projection reads, entry by entry, in terms of the inputs. -/
module

public import proofs.«01_k».proof.Proof.OutTile
public import Idealize.ShloMosaic.Lib.StableHlo.Run
public import Idealize.ShloMosaic.Lib.Claim

@[expose] public section

set_option maxRecDepth 16384

noncomputable section

namespace Cert.Out

open Cert.Kernel5Ideal Cert.Kernel5Ideal.Gen
open Cert.Proj (Arr)
open Idealize.ShloMosaic hiding ix1 ix2 ix3 ix4 eq_ix2
open Idealize.ShloMosaic.TcCoe Idealize.SL.Sem Idealize.ShloMosaic.ValueIdx

/-- The rows taken of the weights. -/
def picks : IVec S1024x1 32 :=
  broadcastInDim S1024x1 ![0] bcast_S1024_S1024x1_0
    (select (constantI S1024 1 0#1) (addi (fun i => lit0 (S1024.rowMajor i)) (broadcastInDim S1024 ![] bcast_S_S1024 (constantI S_ 32 1024#32)))
      (fun i => lit0 (S1024.rowMajor i)))

section
variable {F : FTy → Type} [FloatOps F]
variable (m : (ℓ : Loc nD τ sig) → Buf (Elt F) ℓ)

theorem v0_term (c : Dev nD) : (V m c main_v0 : FVec F S16384x1024 .f32)
    = shapeCast S16384x1024 (m ((c : Thread nD τ).loc main_arg2) : FVec F S8x2048x1024 .f32) shapeCasts_S8x2048x1024_S16384x1024 := by
  show StableHlo.after (List.flatten [hostOps0, hostOps0_1]) _ (Proc.devRef .tc main_v0) = _
  simp only [hostOps0, hostOps0_1, List.flatten_cons, List.flatten_nil, List.append_nil, List.cons_append, List.nil_append]
  after_results
  rfl

theorem v1_term (c : Dev nD) : (V m c main_v1 : FVec F S512x1024 .f32)
    = shapeCast S512x1024 (m ((c : Thread nD τ).loc main_arg3) : FVec F S128x4x1024 .f32) shapeCasts_S128x4x1024_S512x1024 := by
  show StableHlo.after (List.flatten [hostOps0, hostOps0_1]) _ (Proc.devRef .tc main_v1) = _
  simp only [hostOps0, hostOps0_1, List.flatten_cons, List.flatten_nil, List.append_nil, List.cons_append, List.nil_append]
  after_results
  rfl

theorem v34_term (c : Dev nD) : (V m c main_v34 : FVec F S1024x1024 .bf16)
    = truncf .bf16 (Host.gather gather_S1024x1024_S1024x1_S1024x1024_1_0_n_n_0_1_11024 (shapeCast S1024x1024 (m ((c : Thread nD τ).loc main_arg4) : FVec F S1x1024x1024 .f32) shapeCasts_S1x1024x1024_S1024x1024) picks) bitsLt_bf16_f32 := by
  show StableHlo.after (List.flatten [hostOps0, hostOps0_1]) _ (Proc.devRef .tc main_v34) = _
  simp only [hostOps0, hostOps0_1, List.flatten_cons, List.flatten_nil, List.append_nil, List.cons_append, List.nil_append]
  after_results
  rfl

theorem v37_term (c : Dev nD) : (V m c main_v37 : FVec F S1x1024 .f32)
    = shapeCast S1x1024 (shapeCast S1024 (extractStridedSlice S1x1024 ![0, 0] (m ((c : Thread nD τ).loc main_arg5) : FVec F S2x1024 .f32) slices_S2x1024_S1x1024_0_0) shapeCasts_S1x1024_S1024) shapeCasts_S1024_S1x1024 := by
  show StableHlo.after (List.flatten [hostOps0, hostOps0_1]) _ (Proc.devRef .tc main_v37) = _
  simp only [hostOps0, hostOps0_1, List.flatten_cons, List.flatten_nil, List.append_nil, List.cons_append, List.nil_append]
  after_results
  rfl

theorem v40_term (c : Dev nD) : (V m c main_v40 : FVec F S1x1024 .f32)
    = shapeCast S1x1024 (shapeCast S1024 (extractStridedSlice S1x1024 ![0, 0] (m ((c : Thread nD τ).loc main_arg6) : FVec F S2x1024 .f32) slices_S2x1024_S1x1024_0_0) shapeCasts_S1x1024_S1024) shapeCasts_S1024_S1x1024 := by
  show StableHlo.after (List.flatten [hostOps0, hostOps0_1]) _ (Proc.devRef .tc main_v40) = _
  simp only [hostOps0, hostOps0_1, List.flatten_cons, List.flatten_nil, List.append_nil, List.cons_append, List.nil_append]
  after_results
  rfl

end

/-! ## The rows taken of the weights -/

theorem picks_apply (C : Fin 1024) : picks (ix2 C (0 : Fin 1)) = BitVec.ofNat 32 (headOf C.val) := by
  revert C
  decide +kernel

theorem picks_nat (C : Fin 1024) : (picks (ix2 C (0 : Fin 1))).toInt.toNat = headOf C.val := by
  rw [picks_apply]
  have h := headOf_lt C.val C.isLt
  generalize headOf C.val = n at h
  rw [BitVec.toInt_eq_toNat_of_lt (by rw [BitVec.toNat_ofNat]; omega), BitVec.toNat_ofNat]
  omega

theorem gather_apply (X : FVec Ideal S1024x1024 .f32) (k C : Fin 1024) :
    Host.gather gather_S1024x1024_S1024x1_S1024x1024_1_0_n_n_0_1_11024 X picks (ix2 k C) = X (ix2 (heads k) C) := by
  unfold Host.gather
  congr 1
  funext a
  refine Fin.ext ?_
  show gather_S1024x1024_S1024x1_S1024x1024_1_0_n_n_0_1_11024.start (ix2 k C) picks a
    + gather_S1024x1024_S1024x1_S1024x1024_1_0_n_n_0_1_11024.batchCoord (ix2 k C) a
    + gather_S1024x1024_S1024x1_S1024x1024_1_0_n_n_0_1_11024.offCoord (ix2 k C) a = _
  rw [GatherDims.batchCoord_eq_zero _ _ _ List.not_mem_nil]
  have h01 : a = (0 : Fin 2) ∨ a = (1 : Fin 2) := match a with
    | ⟨0, _⟩ => Or.inl rfl
    | ⟨1, _⟩ => Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S1024x1024_S1024x1_S1024x1024_1_0_n_n_0_1_11024.startIndexMap from List.mem_singleton.mpr rfl)]
    have hsi : gather_S1024x1024_S1024x1_S1024x1024_1_0_n_n_0_1_11024.siIdx (ix2 k C)
        ⟨List.idxOf (0 : Fin 2) gather_S1024x1024_S1024x1_S1024x1024_1_0_n_n_0_1_11024.startIndexMap,
          List.idxOf_lt_length_iff.2 (List.mem_singleton.mpr rfl)⟩ = ix2 k (0 : Fin 1) := by
      funext b
      refine Fin.ext ?_
      match b with
      | ⟨0, _⟩ => rfl
      | ⟨1, _⟩ => rfl
    show min (picks (gather_S1024x1024_S1024x1_S1024x1024_1_0_n_n_0_1_11024.siIdx (ix2 k C) _)).toInt.toNat 1023 + 0 + 0 = headOf k.val
    rw [hsi, picks_nat]
    have := headOf_lt k.val k.isLt
    omega
  · unfold GatherDims.start
    rw [dif_neg (by decide)]
    show 0 + 0 + C.val = C.val
    omega

/-! ## The arrays the kernel reads -/

variable (m : (ℓ : Loc nD τ sig) → Buf (Elt Ideal) ℓ)

/-- The inputs, as the launch finds them. -/
abbrev opOf (c : Dev nD) : Arr ⟨2, ![16384, 1024]⟩ := m ((c : Thread nD τ).loc main_arg0)
abbrev osOf (c : Dev nD) : Arr ⟨2, ![512, 1024]⟩ := m ((c : Thread nD τ).loc main_arg1)
abbrev xpOf (c : Dev nD) : Arr ⟨3, ![8, 2048, 1024]⟩ := m ((c : Thread nD τ).loc main_arg2)
abbrev xsOf (c : Dev nD) : Arr ⟨3, ![128, 4, 1024]⟩ := m ((c : Thread nD τ).loc main_arg3)
abbrev wOf (c : Dev nD) : Arr ⟨3, ![1, 1024, 1024]⟩ := m ((c : Thread nD τ).loc main_arg4)
abbrev gOf (c : Dev nD) : Arr ⟨2, ![2, 1024]⟩ := m ((c : Thread nD τ).loc main_arg5)
abbrev bOf (c : Dev nD) : Arr ⟨2, ![2, 1024]⟩ := m ((c : Thread nD τ).loc main_arg6)

theorem prompt_rows (x : FVec Ideal S8x2048x1024 .f32) (R : Fin 16384) (k : Fin 1024) :
    shapeCast S16384x1024 x shapeCasts_S8x2048x1024_S16384x1024 (ix2 R k)
      = x (ix3 (⟨R.val / 2048 % 8, by omega⟩ : Fin 8) (⟨R.val % 2048, by omega⟩ : Fin 2048) k) := by
  refine shapeCast_apply _ _ _ _ ?_
  rw [Shape.rowMajor_val_three, Shape.rowMajor_val_two]
  have := R.isLt
  show (R.val / 2048 % 8 * 2048 + R.val % 2048) * 1024 + k.val = R.val * 1024 + k.val
  omega

theorem sample_rows (x : FVec Ideal S128x4x1024 .f32) (r : Fin 512) (k : Fin 1024) :
    shapeCast S512x1024 x shapeCasts_S128x4x1024_S512x1024 (ix2 r k)
      = x (ix3 (⟨(16384 + r.val - 16384) / 4 % 128, by omega⟩ : Fin 128) (⟨(16384 + r.val - 16384) % 4, by omega⟩ : Fin 4) k) := by
  refine shapeCast_apply _ _ _ _ ?_
  rw [Shape.rowMajor_val_three, Shape.rowMajor_val_two]
  have := r.isLt
  show ((16384 + r.val - 16384) / 4 % 128 * 4 + (16384 + r.val - 16384) % 4) * 1024 + k.val = r.val * 1024 + k.val
  omega

theorem weight_rows (x : FVec Ideal S1x1024x1024 .f32) (k C : Fin 1024) :
    shapeCast S1024x1024 x shapeCasts_S1x1024x1024_S1024x1024 (ix2 k C) = x (ix3 (0 : Fin 1) k C) := by
  refine shapeCast_apply _ _ _ _ ?_
  rw [Shape.rowMajor_val_three, Shape.rowMajor_val_two]
  show (0 * 1024 + k.val) * 1024 + C.val = k.val * 1024 + C.val
  omega

theorem v0_apply (c : Dev nD) (R : Fin 16384) (k : Fin 1024) :
    (V m c main_v0 : FVec Ideal S16384x1024 .f32) (ix2 R k) = Cert.Proj.row (xpOf m c) (xsOf m c) R.val k := by
  rw [v0_term]
  unfold Cert.Proj.row
  rw [if_pos R.isLt]
  exact prompt_rows _ R k

theorem v1_apply (c : Dev nD) (r : Fin 512) (k : Fin 1024) :
    (V m c main_v1 : FVec Ideal S512x1024 .f32) (ix2 r k) = Cert.Proj.row (xpOf m c) (xsOf m c) (16384 + r.val) k := by
  rw [v1_term]
  unfold Cert.Proj.row
  rw [if_neg (by omega)]
  exact sample_rows _ r k

theorem v34_apply (c : Dev nD) (k C : Fin 1024) :
    (V m c main_v34 : FVec Ideal S1024x1024 .bf16) (ix2 k C) = wOf m c (ix3 (0 : Fin 1) (heads k) C) := by
  rw [v34_term]
  exact (gather_apply _ k C).trans (weight_rows _ (heads k) C)

theorem first_row (X : FVec Ideal S2x1024 .f32) (k : Fin 1024) :
    shapeCast S1x1024 (shapeCast S1024 (extractStridedSlice S1x1024 ![0, 0] X slices_S2x1024_S1x1024_0_0) shapeCasts_S1x1024_S1024) shapeCasts_S1024_S1x1024 (ix2 (0 : Fin 1) k)
      = X (ix2 (0 : Fin 2) k) := by
  refine (shapeCast_apply _ _ _ (ix1 k) ?_).trans ((shapeCast_apply _ _ _ (ix2 (0 : Fin 1) k) ?_).trans ?_)
  · rw [Shape.rowMajor_val_two, Shape.rowMajor_val_one]
    show k.val = 0 * 1024 + k.val
    omega
  · rw [Shape.rowMajor_val_two, Shape.rowMajor_val_one]
    show 0 * 1024 + k.val = k.val
    omega
  · exact extractStridedSlice_apply _ _ _ _ (ix2 (0 : Fin 2) k) (fun a => match a with
      | ⟨0, _⟩ => rfl
      | ⟨1, _⟩ => by show k.val = 0 + k.val; omega)

theorem v37_apply (c : Dev nD) (k : Fin 1024) : (V m c main_v37 : FVec Ideal S1x1024 .f32) (ix2 (0 : Fin 1) k) = gOf m c (ix2 (0 : Fin 2) k) := by
  rw [v37_term]
  exact first_row _ k

theorem v40_apply (c : Dev nD) (k : Fin 1024) : (V m c main_v40 : FVec Ideal S1x1024 .f32) (ix2 (0 : Fin 1) k) = bOf m c (ix2 (0 : Fin 2) k) := by
  rw [v40_term]
  exact first_row _ k

end Cert.Out

end
-- ==== Proof.OutFinal.lean ====
/- The rows after the first layer's attention, as a function of the inputs. -/
module

public import proofs.«01_k».proof.Proof.OutHost

@[expose] public section

set_option maxRecDepth 16384

noncomputable section

namespace Cert.Out

open Cert.Kernel5Ideal Cert.Kernel5Ideal.Gen
open Cert.Proj (Arr)
open Idealize.ShloMosaic hiding ix1 ix2 ix3 ix4 eq_ix2
open Idealize.ShloMosaic.TcCoe Idealize.SL.Sem Idealize.ShloMosaic.ValueIdx
open Idealize.ShloMosaic.Pipeline (Dat Cfg Window)

variable (m : (ℓ : Loc nD τ sig) → Buf (Elt Ideal) ℓ)

/-! ## The blocks a point reads -/

theorem idx_facts : ∀ t : Fin cfg0.N,
    (win0_0.index t 0 = min t.val 31 ∧ win0_0.index t 1 = 0 ∧ win0_1.index t 0 = 0 ∧ win0_1.index t 1 = 0
      ∧ win0_2.index t 0 = min t.val 31 ∧ win0_2.index t 1 = 0 ∧ win0_3.index t 0 = 0 ∧ win0_3.index t 1 = 0)
    ∧ (win0_4.index t 0 = 0 ∧ win0_4.index t 1 = 0 ∧ win0_5.index t 0 = 0 ∧ win0_5.index t 1 = 0
      ∧ win0_6.index t 0 = 0 ∧ win0_6.index t 1 = 0)
    ∧ (grid0.coords t 0).val = t.val :=
  (by decide +kernel : ∀ t : Fin grid0.N, _)

theorem lt_N (t : Fin cfg0.N) : t.val < 33 := t.isLt

theorem iblk0_apply (c : Dev nD) (t : Fin cfg0.N) (ht : t.val < 32) (r : Fin 512) (k : Fin 1024) :
    (iblk m c 0 t : Vec Ideal S512x1024 .bf16) (ix2 r k)
      = (V m c main_arg0 : FVec Ideal S16384x1024 .bf16) (ix2 (⟨512 * t.val + r.val, by omega⟩ : Fin 16384) k) := by
  have hi := idx_facts t
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [hi.1.1]; omega
  | ⟨1, _⟩ => show win0_0.index t 1 * 1024 + 1 * k.val = k.val; rw [hi.1.2.1]; omega

theorem iblk2_apply (c : Dev nD) (t : Fin cfg0.N) (ht : t.val < 32) (r : Fin 512) (k : Fin 1024) :
    (iblk m c 2 t : Vec Ideal S512x1024 .f32) (ix2 r k)
      = (V m c main_v0 : FVec Ideal S16384x1024 .f32) (ix2 (⟨512 * t.val + r.val, by omega⟩ : Fin 16384) k) := by
  have hi := idx_facts t
  unfold iblk
  rw [View.read_apply]
  show V m c main_v0 _ = V m c main_v0 _
  congr 1
  funext a
  apply Fin.ext
  match a with
  | ⟨0, _⟩ => show win0_2.index t 0 * 512 + 1 * r.val = 512 * t.val + r.val; rw [hi.1.2.2.2.2.1]; omega
  | ⟨1, _⟩ => show win0_2.index t 1 * 1024 + 1 * k.val = k.val; rw [hi.1.2.2.2.2.2.1]; omega

theorem iblk1_apply (c : Dev nD) (t : Fin cfg0.N) (r : Fin 512) (k : Fin 1024) :
    (iblk m c 1 t : Vec Ideal S512x1024 .bf16) (ix2 r k) = (V m c main_arg1 : FVec Ideal S512x1024 .bf16) (ix2 r k) := by
  have hi := idx_facts t
  unfold iblk
  rw [View.read_apply]
  show V m c main_arg1 _ = V m c main_arg1 _
  congr 1
  funext a
  apply Fin.ext
  match a with
  | ⟨0, _⟩ => show win0_1.index t 0 * 512 + 1 * r.val = r.val; rw [hi.1.2.2.1]; omega
  | ⟨1, _⟩ => show win0_1.index t 1 * 1024 + 1 * k.val = k.val; rw [hi.1.2.2.2.1]; omega

theorem iblk3_apply (c : Dev nD) (t : Fin cfg0.N) (r : Fin 512) (k : Fin 1024) :
    (iblk m c 3 t : Vec Ideal S512x1024 .f32) (ix2 r k) = (V m c main_v1 : FVec Ideal S512x1024 .f32) (ix2 r k) := by
  have hi := idx_facts t
  unfold iblk
  rw [View.read_apply]
  show V m c main_v1 _ = V m c main_v1 _
  congr 1
  funext a
  apply Fin.ext
  match a with
  | ⟨0, _⟩ => show win0_3.index t 0 * 512 + 1 * r.val = r.val; rw [hi.1.2.2.2.2.2.2.1]; omega
  | ⟨1, _⟩ => show win0_3.index t 1 * 1024 + 1 * k.val = k.val; rw [hi.1.2.2.2.2.2.2.2]; omega

theorem iblk4_apply (c : Dev nD) (t : Fin cfg0.N) (r : Fin 1024) (k : Fin 1024) :
    (iblk m c 4 t : Vec Ideal S1024x1024 .bf16) (ix2 r k) = (V m c main_v34 : FVec Ideal S1024x1024 .bf16) (ix2 r k) := by
  have hi := idx_facts t
  unfold iblk
  rw [View.read_apply]
  show V m c main_v34 _ = V m c main_v34 _
  congr 1
  funext a
  apply Fin.ext
  match a with
  | ⟨0, _⟩ => show win0_4.index t 0 * 1024 + 1 * r.val = r.val; rw [hi.2.1.1]; omega
  | ⟨1, _⟩ => show win0_4.index t 1 * 1024 + 1 * k.val = k.val; rw [hi.2.1.2.1]; omega

theorem iblk5_apply (c : Dev nD) (t : Fin cfg0.N) (k : Fin 1024) :
    (iblk m c 5 t : Vec Ideal S1x1024 .f32) (ix2 (0 : Fin 1) k) = (V m c main_v37 : FVec Ideal S1x1024 .f32) (ix2 (0 : Fin 1) k) := by
  have hi := idx_facts t
  unfold iblk
  rw [View.read_apply]
  show V m c main_v37 _ = V m c main_v37 _
  congr 1
  funext a
  apply Fin.ext
  match a with
  | ⟨0, _⟩ => show win0_5.index t 0 * 1 + 1 * 0 = 0; rw [hi.2.1.2.2.1]
  | ⟨1, _⟩ => show win0_5.index t 1 * 1024 + 1 * k.val = k.val; rw [hi.2.1.2.2.2.1]; omega

theorem iblk6_apply (c : Dev nD) (t : Fin cfg0.N) (k : Fin 1024) :
    (iblk m c 6 t : Vec Ideal S1x1024 .f32) (ix2 (0 : Fin 1) k) = (V m c main_v40 : FVec Ideal S1x1024 .f32) (ix2 (0 : Fin 1) k) := by
  have hi := idx_facts t
  unfold iblk
  rw [View.read_apply]
  show V m c main_v40 _ = V m c main_v40 _
  congr 1
  funext a
  apply Fin.ext
  match a with
  | ⟨0, _⟩ => show win0_6.index t 0 * 1 + 1 * 0 = 0; rw [hi.2.1.2.2.2.2.1]
  | ⟨1, _⟩ => show win0_6.index t 1 * 1024 + 1 * k.val = k.val; rw [hi.2.1.2.2.2.2.2]; omega

/-! ## A point's tile in terms of the inputs -/

theorem part_o (c : Dev nD) (t : Fin cfg0.N) (r : Fin 512) (k : Fin 1024) :
    part (grid0.coords t) (iblk m c 0 t) (iblk m c 1 t) (ix2 r k) = oRow (opOf m c) (osOf m c) (512 * t.val + r.val) k := by
  have hi := (idx_facts t).2.2
  have hN := lt_N t
  have hr := r.isLt
  unfold part oRow
  rw [hi]
  by_cases ht : t.val < 32
  · rw [if_pos ht, if_pos (by omega)]
    refine (iblk0_apply m c t ht r k).trans ?_
    rw [V_main_arg0]
    refine congrArg (opOf m c) (funext fun a => Fin.ext ?_)
    match a with
    | ⟨0, _⟩ => show 512 * t.val + r.val = (512 * t.val + r.val) % 16384; omega
    | ⟨1, _⟩ => rfl
  · rw [if_neg ht, if_neg (by omega)]
    refine (iblk1_apply m c t r k).trans ?_
    rw [V_main_arg1]
    refine congrArg (osOf m c) (funext fun a => Fin.ext ?_)
    match a with
    | ⟨0, _⟩ => show r.val = (512 * t.val + r.val - 16384) % 512; omega
    | ⟨1, _⟩ => rfl

theorem part_x (c : Dev nD) (t : Fin cfg0.N) (r : Fin 512) (k : Fin 1024) :
    part (grid0.coords t) (iblk m c 2 t) (iblk m c 3 t) (ix2 r k) = Cert.Proj.row (xpOf m c) (xsOf m c) (512 * t.val + r.val) k := by
  have hi := (idx_facts t).2.2
  have hN := lt_N t
  unfold part
  rw [hi]
  by_cases ht : t.val < 32
  · rw [if_pos ht]
    exact (iblk2_apply m c t ht r k).trans (v0_apply m c _ k)
  · rw [if_neg ht]
    refine (iblk3_apply m c t r k).trans ((v1_apply m c r k).trans ?_)
    exact congrArg (fun R => Cert.Proj.row (xpOf m c) (xsOf m c) R k) (by omega)

theorem preAt_eq (c : Dev nD) (t : Fin cfg0.N) (r : Fin 512) :
    preAt (grid0.coords t) (iblk m c 0 t) (iblk m c 1 t) (iblk m c 2 t) (iblk m c 3 t) (iblk m c 4 t) r
      = pre (opOf m c) (osOf m c) (xpOf m c) (xsOf m c) (wOf m c) (512 * t.val + r.val) := by
  funext C
  rw [← pre_eq]
  unfold preAt
  refine congrArg₂ (fun a b : EReal => a + b) (congrArg (factor * ·) (part_x m c t r C)) (Finset.sum_congr rfl fun k _ => ?_)
  exact congrArg₂ (fun a b : EReal => a * b) (part_o m c t r k) ((iblk4_apply m c t k C).trans (v34_apply m c k C))

/-- The rows the launch leaves. -/
def outF (c : Dev nD) : Arr ⟨2, ![16896, 1024]⟩ := outRows (opOf m c) (osOf m c) (xpOf m c) (xsOf m c) (wOf m c) (gOf m c) (bOf m c)

theorem tile_eq (c : Dev nD) (t : Fin cfg0.N) (r : Fin 512) (l : Fin 1024) :
    tile (grid0.coords t) (iblk m c 0 t) (iblk m c 1 t) (iblk m c 2 t) (iblk m c 3 t) (iblk m c 4 t) (iblk m c 5 t) (iblk m c 6 t) (ix2 r l)
      = out (opOf m c) (osOf m c) (xpOf m c) (xsOf m c) (wOf m c) (gOf m c) (bOf m c) (512 * t.val + r.val) l := by
  unfold out
  show norm (preAt (grid0.coords t) (iblk m c 0 t) (iblk m c 1 t) (iblk m c 2 t) (iblk m c 3 t) (iblk m c 4 t) r) _ _ l = _
  rw [preAt_eq]
  refine congrArg₂ (fun g b => norm _ g b l) (funext fun k => ?_) (funext fun k => ?_)
  · exact (iblk5_apply m c t k).trans (v37_apply m c k)
  · exact (iblk6_apply m c t k).trans (v40_apply m c k)

theorem after_A (c : Dev nD) (t : Fin cfg0.N) (h0 : t.val % 33 = 0) :
    (outsAt0 m c t.val t.isLt).1 = tile (grid0.coords t) (iblk m c 0 t) (iblk m c 1 t) (iblk m c 2 t) (iblk m c 3 t) (iblk m c 4 t) (iblk m c 5 t) (iblk m c 6 t) := by
  rw [outsAt0_A m c t h0]
  dsimp only
  exact out_A (grid0.coords t) (iblk m c 0 t) (iblk m c 1 t) (iblk m c 2 t) (iblk m c 3 t) (iblk m c 4 t) (iblk m c 5 t) (iblk m c 6 t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk m c 7 t) (iblk m c 8 t) (iblk m c 9 t) (iblk m c 10 t)

theorem after_B (c : Dev nD) (t : Fin cfg0.N) (h0 : ¬ t.val % 33 = 0) :
    (outsAt0 m c t.val t.isLt).1 = tile (grid0.coords t) (iblk m c 0 t) (iblk m c 1 t) (iblk m c 2 t) (iblk m c 3 t) (iblk m c 4 t) (iblk m c 5 t) (iblk m c 6 t) := by
  rw [outsAt0_B m c t h0]
  dsimp only
  exact out_B (grid0.coords t) (iblk m c 0 t) (iblk m c 1 t) (iblk m c 2 t) (iblk m c 3 t) (iblk m c 4 t) (iblk m c 5 t) (iblk m c 6 t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (iblk m c 7 t) (iblk m c 8 t) (iblk m c 9 t) (iblk m c 10 t) _

theorem after_eq (c : Dev nD) (t : Fin cfg0.N) : (dats m 0 c).after 11 t = tile (grid0.coords t) (iblk m c 0 t) (iblk m c 1 t) (iblk m c 2 t) (iblk m c 3 t) (iblk m c 4 t) (iblk m c 5 t) (iblk m c 6 t) := by
  rw [after0_11]
  by_cases h0 : t.val % 33 = 0
  · exact after_A m c t h0
  · exact after_B m c t h0

/-! ## The array -/

theorem out_facts : ∀ t : Fin cfg0.N, win0_11.index t 0 = t.val ∧ win0_11.index t 1 = 0 :=
  (by decide +kernel : ∀ t : Fin grid0.N, _)

theorem flush_all : ∀ t : Fin cfg0.N, (cfg0.win 11).flush t = true :=
  (by decide +kernel : ∀ t : Fin grid0.N, win0_11.flush t = true)

theorem xsize_11 : ∀ t : Fin cfg0.N, win0_11.xsize (grid0.coords t) 0 = 512 ∧ win0_11.xsize (grid0.coords t) 1 = 1024 :=
  (by decide +kernel : ∀ t : Fin grid0.N, _)

theorem flushed_11 (c : Dev nD) (t : Fin cfg0.N) (hf : (cfg0.win 11).flush t = true) :
    (dats m 0 c).flushed 11 t
      = ((cfg0.win 11).blk t).view.read (Elt Ideal) (outF m c : Buf (Elt Ideal) ((c : Thread nD τ).loc main_v43_0)) := by
  have hi := out_facts t
  have hN := lt_N t
  show (cfg0.win 11).cut (grid0.coords t) ((dats m 0 c).after 11 t) = _
  rw [after_eq]
  refine funext fun (y : S512x1024.Idx) => ?_
  refine Eq.trans ?_ (View.read_apply _ _).symm
  have hy0 : (y 0).val < 512 := (y 0).isLt
  have hy1 : (y 1).val < 1024 := (y 1).isLt
  refine Eq.trans (show _ = tile (grid0.coords t) (iblk m c 0 t) (iblk m c 1 t) (iblk m c 2 t) (iblk m c 3 t) (iblk m c 4 t) (iblk m c 5 t) (iblk m c 6 t)
    (ix2 (⟨(y 0).val, hy0⟩ : Fin 512) (⟨(y 1).val, hy1⟩ : Fin 1024)) from rfl) ?_
  refine (tile_eq m c t _ _).trans ?_
  show out (opOf m c) (osOf m c) (xpOf m c) (xsOf m c) (wOf m c) (gOf m c) (bOf m c) (512 * t.val + (y 0).val) ⟨(y 1).val, hy1⟩
    = out (opOf m c) (osOf m c) (xpOf m c) (xsOf m c) (wOf m c) (gOf m c) (bOf m c) (win0_11.index t 0 * 512 + 1 * (y 0).val)
      ⟨(win0_11.index t 1 * 1024 + 1 * (y 1).val) % 1024, _⟩
  refine congrArg₂ (out (opOf m c) (osOf m c) (xpOf m c) (xsOf m c) (wOf m c) (gOf m c) (bOf m c)) ?_ (Fin.ext ?_)
  · rw [hi.1]; omega
  · show (y 1).val = (win0_11.index t 1 * 1024 + 1 * (y 1).val) % 1024
    rw [hi.2]; omega

theorem covers_11 (t : Fin cfg0.N) (i : S16896x1024.Idx) (h : (i 0).val / 512 = t.val) : i ∈ ((cfg0.win 11).blk t).view.set := by
  have h0 := idx2_lt0 (n0 := 16896) (n1 := 1024) i
  have h1 := idx2_lt1 (n0 := 16896) (n1 := 1024) i
  show i ∈ ((View.whole main_v43_0).slice (win0_11.rect t)).set
  rw [View.set_slice_whole, Rect.mem_set_unit]
  have hi := out_facts t
  have hx := xsize_11 t
  intro a
  match a with
  | ⟨0, _⟩ =>
    show win0_11.index t 0 * 512 ≤ (i 0 : Nat) ∧ (i 0 : Nat) < win0_11.index t 0 * 512 + win0_11.xsize (grid0.coords t) 0
    rw [hi.1, hx.1]
    omega
  | ⟨1, _⟩ =>
    show win0_11.index t 1 * 1024 ≤ (i 1 : Nat) ∧ (i 1 : Nat) < win0_11.index t 1 * 1024 + win0_11.xsize (grid0.coords t) 1
    rw [hi.2, hx.2]
    omega

theorem final_11 (c : Dev nD) : (dats m 0 c).arrAt 11 cfg0.N = (outF m c : Buf (Elt Ideal) ((c : Thread nD τ).loc main_v43_0)) :=
  (dats m 0 c).arrAt_eq_of_cover 11 _ (flushed_11 m c) fun (i : S16896x1024.Idx) =>
    have h0 : (i 0 : Nat) < 16896 := (i 0).isLt
    have ht : (i 0 : Nat) / 512 < cfg0.N := by show _ < 33; omega
    ⟨⟨(i 0 : Nat) / 512, ht⟩, flush_all _, covers_11 _ i rfl⟩

end Cert.Out

end
-- ==== Proof.OutRef.lean ====
/- The reference of the first layer's output projection, read element by element. -/
module

public import proofs.«01_k».proof.Proof.OutFinal
public import proofs.«01_k».proof.Proof.Gen.Reference5Ideal.Run
public import proofs.«01_k».proof.Proof.Gen.Reference5Ideal.Read

@[expose] public section

set_option maxRecDepth 16384

noncomputable section

namespace Cert.Out.Ref

open Cert.Reference5Ideal Cert.Reference5Ideal.Read
open Cert.Proj (Arr)
open Idealize.ShloMosaic hiding ix1 ix2 ix3 ix4 ix5 eq_ix2
open Idealize.ShloMosaic.TcCoe Idealize.SL.Sem Idealize.ShloMosaic.ValueIdx

variable (x0 : FVec Ideal S16384x1024 .bf16) (x1 : FVec Ideal S512x1024 .bf16) (x2 : FVec Ideal S8x2048x1024 .f32)
  (x3 : FVec Ideal S128x4x1024 .f32) (x4 : FVec Ideal S1x1024x1024 .f32) (x5 x6 : FVec Ideal S2x1024 .f32)

/-- An index of the attention's columns, taken apart into half, head and place, is the column the heads' order gives. -/
theorem slot_parts (n : Fin 1024) (p q r : Nat) (hp : p = n.val / 512) (hq : q = n.val / 64 % 8) (hr : r = n.val % 64) :
    q * 128 + p * 64 + r = (heads.symm n).val := by
  subst hp hq hr
  show n.val / 64 % 8 * 128 + n.val / 512 * 64 + n.val % 64 = 128 * (n.val / 64 % 8) + 64 * (n.val / 512) + n.val % 64
  omega

/-! ## The prompt rows -/

theorem prompt_digits (a b c : Nat) (ha : a < 8) (hb : b < 2048) (hc : c < 1024) :
    ((a * 2048 + b) * 1024 + c) / 2097152 = a ∧ ((a * 2048 + b) * 1024 + c) / 1024 % 2048 = b
      ∧ ((a * 2048 + b) * 1024 + c) / 512 % 2 = c / 512 ∧ ((a * 2048 + b) * 1024 + c) / 64 % 8 = c / 64 % 8
      ∧ ((a * 2048 + b) * 1024 + c) % 64 = c % 64 := by
  refine ⟨?_, ?_, ?_, ?_, ?_⟩ <;> omega

theorem prompt_o (i : S8x2048x1024.Idx) : val_main_v3 (F := Ideal) x0 i = oRow x0 x1 (2048 * (i 0).val + (i 1).val) (heads.symm ⟨(i 2).val, (i 2).isLt⟩) := by
  have h0 : (i 0).val < 8 := (i 0).isLt
  have h1 : (i 1).val < 2048 := (i 1).isLt
  have h2 : (i 2).val < 1024 := (i 2).isLt
  have hs := slot_parts ⟨(i 2).val, h2⟩ ((i 2).val / 512) ((i 2).val / 64 % 8) ((i 2).val % 64) rfl rfl rfl
  obtain ⟨d0, d1, d2, d3, d4⟩ := prompt_digits (i 0).val (i 1).val (i 2).val h0 h1 h2
  rw [val_main_v3_apply, val_main_v2_apply, val_main_v1_apply, val_main_v0_apply]
  unfold oRow
  rw [if_pos (by omega)]
  show x0 _ = x0 _
  refine congrArg x0 (funext fun a => Fin.ext ?_)
  match a with
  | ⟨0, _⟩ =>
    show ((((((((((i 0).val * 2048 + (i 1).val) * 1024) + (i 2).val) / 2097152) * 2048 + (((((i 0).val * 2048 + (i 1).val) * 1024) + (i 2).val) / 1024 % 2048)) * 8 + (((((i 0).val * 2048 + (i 1).val) * 1024) + (i 2).val) / 64 % 8)) * 2 + (((((i 0).val * 2048 + (i 1).val) * 1024) + (i 2).val) / 512 % 2)) * 64) + (((((i 0).val * 2048 + (i 1).val) * 1024) + (i 2).val) % 64)) / 1024 = (2048 * (i 0).val + (i 1).val) % 16384
    rw [d0, d1, d2, d3, d4]
    omega
  | ⟨1, _⟩ =>
    show ((((((((((i 0).val * 2048 + (i 1).val) * 1024) + (i 2).val) / 2097152) * 2048 + (((((i 0).val * 2048 + (i 1).val) * 1024) + (i 2).val) / 1024 % 2048)) * 8 + (((((i 0).val * 2048 + (i 1).val) * 1024) + (i 2).val) / 64 % 8)) * 2 + (((((i 0).val * 2048 + (i 1).val) * 1024) + (i 2).val) / 512 % 2)) * 64) + (((((i 0).val * 2048 + (i 1).val) * 1024) + (i 2).val) % 64)) % 1024 = (heads.symm ⟨(i 2).val, h2⟩).val
    rw [d0, d1, d2, d3, d4]
    omega

theorem prompt_x (i : S8x2048x1024.Idx) : x2 i = Cert.Proj.row x2 x3 (2048 * (i 0).val + (i 1).val) ⟨(i 2).val, (i 2).isLt⟩ := by
  have h0 : (i 0).val < 8 := (i 0).isLt
  have h1 : (i 1).val < 2048 := (i 1).isLt
  unfold Cert.Proj.row
  rw [if_pos (by omega)]
  refine congrArg x2 (funext fun a => Fin.ext ?_)
  match a with
  | ⟨0, _⟩ =>
    show (i 0).val = (2048 * (i 0).val + (i 1).val) / 2048 % 8
    omega
  | ⟨1, _⟩ =>
    show (i 1).val = (2048 * (i 0).val + (i 1).val) % 2048
    omega
  | ⟨2, _⟩ => rfl

theorem prompt_pre (i : S8x2048x1024.Idx) : val_main_v8 (F := Ideal) x0 x2 x4 i = pre x0 x1 x2 x3 x4 (2048 * (i 0).val + (i 1).val) ⟨(i 2).val, (i 2).isLt⟩ := by
  have h2 : (i 2).val < 1024 := (i 2).isLt
  rw [val_main_v8_apply, val_main_v5_apply, val_main_v4_apply, val_main_cst_apply, val_main_v7_apply]
  unfold pre
  refine congrArg₂ (fun a b : EReal => a + b) (congrArg (factor * ·) (prompt_x x2 x3 i)) (Finset.sum_congr rfl fun k _ => ?_)
  rw [val_main_v6_apply]
  refine congrArg₂ (fun a b : EReal => a * b) (prompt_o x0 x1 (lidx_main_v7 i k)) (congrArg x4 (funext fun a => Fin.ext ?_))
  have hk := k.isLt
  match a with
  | ⟨0, _⟩ => rfl
  | ⟨1, _⟩ =>
    show (k.val * 1024 + (i 2).val) / 1024 % 1024 = k.val
    omega
  | ⟨2, _⟩ =>
    show (k.val * 1024 + (i 2).val) % 1024 = (i 2).val
    omega

theorem prompt_mean (i : S8x2048x1.Idx) : val_main_v16 (F := Ideal) x0 x2 x4 i = mean (pre x0 x1 x2 x3 x4 (2048 * (i 0).val + (i 1).val)) := by
  rw [val_main_v16_apply, val_main_v14_apply, val_main_v15_apply, val_main_cst_1_apply, val_main_v13_apply, val_main_cst_0_apply]
  refine congrArg₂ Ideal.div ?_ rfl
  show Ideal.ofBits .f32 0x00000000#32 + _ = _
  rw [Ideal.ofBits_zero_f32, zero_add]
  exact Finset.sum_congr rfl fun k _ => prompt_pre x0 x1 x2 x3 x4 (idx_main_v13 (idx_main_v14 i) k)

theorem prompt_dev (i : S8x2048x1024.Idx) : val_main_v18 (F := Ideal) x0 x2 x4 i = dev (pre x0 x1 x2 x3 x4 (2048 * (i 0).val + (i 1).val)) ⟨(i 2).val, (i 2).isLt⟩ := by
  rw [val_main_v18_apply, val_main_v17_apply]
  exact congrArg₂ (fun a b : EReal => a - b) (prompt_pre x0 x1 x2 x3 x4 i) (prompt_mean x0 x1 x2 x3 x4 (idx_main_v17 i))

theorem prompt_dev' (i : S8x2048x1024.Idx) : val_main_v25 (F := Ideal) x0 x2 x4 i = dev (pre x0 x1 x2 x3 x4 (2048 * (i 0).val + (i 1).val)) ⟨(i 2).val, (i 2).isLt⟩ := by
  rw [val_main_v25_apply, val_main_v24_apply]
  exact congrArg₂ (fun a b : EReal => a - b) (prompt_pre x0 x1 x2 x3 x4 i) (prompt_mean x0 x1 x2 x3 x4 (idx_main_v24 i))

theorem prompt_var (i : S8x2048x1.Idx) : val_main_v23 (F := Ideal) x0 x2 x4 i
    = mean (fun j => dev (pre x0 x1 x2 x3 x4 (2048 * (i 0).val + (i 1).val)) j * dev (pre x0 x1 x2 x3 x4 (2048 * (i 0).val + (i 1).val)) j) := by
  rw [val_main_v23_apply, val_main_v21_apply, val_main_v22_apply, val_main_cst_3_apply, val_main_v20_apply, val_main_cst_2_apply]
  refine congrArg₂ Ideal.div ?_ rfl
  show Ideal.ofBits .f32 0x00000000#32 + _ = _
  rw [Ideal.ofBits_zero_f32, zero_add]
  refine Finset.sum_congr rfl fun k _ => ?_
  rw [val_main_v19_apply]
  have h := prompt_dev x0 x1 x2 x3 x4 (idx_main_v20 (idx_main_v21 i) k)
  exact congrArg₂ (fun a b : EReal => a * b) h h

theorem prompt_gain (i : S8x2048x1024.Idx) : val_main_v32 (F := Ideal) x5 i = x5 (ix2 (0 : Fin 2) (⟨(i 2).val, (i 2).isLt⟩ : Fin 1024)) := by
  have h2 : (i 2).val < 1024 := (i 2).isLt
  rw [val_main_v32_apply, val_main_v31_apply, val_main_v10_apply, val_main_v9_apply]
  refine congrArg x5 (funext fun a => Fin.ext ?_)
  match a with
  | ⟨0, _⟩ => rfl
  | ⟨1, _⟩ =>
    show (i 2).val % 1024 = (i 2).val
    omega

theorem prompt_bias (i : S8x2048x1024.Idx) : val_main_v35 (F := Ideal) x6 i = x6 (ix2 (0 : Fin 2) (⟨(i 2).val, (i 2).isLt⟩ : Fin 1024)) := by
  have h2 : (i 2).val < 1024 := (i 2).isLt
  rw [val_main_v35_apply, val_main_v34_apply, val_main_v12_apply, val_main_v11_apply]
  refine congrArg x6 (funext fun a => Fin.ext ?_)
  match a with
  | ⟨0, _⟩ => rfl
  | ⟨1, _⟩ =>
    show (i 2).val % 1024 = (i 2).val
    omega

theorem prompt_out (i : S8x2048x1024.Idx) : val_main_v36 (F := Ideal) x0 x2 x4 x5 x6 i
    = out x0 x1 x2 x3 x4 x5 x6 (2048 * (i 0).val + (i 1).val) ⟨(i 2).val, (i 2).isLt⟩ := by
  rw [val_main_v36_apply, val_main_v33_apply, val_main_v30_apply, val_main_v29_apply, val_main_v28_apply, val_main_v27_apply, val_main_v26_apply, val_main_cst_4_apply, prompt_dev', prompt_gain, prompt_bias]
  unfold out norm
  refine congrArg₂ (fun a b : EReal => a + b) (congrArg₂ (fun a b : EReal => a * b) (congrArg₂ (fun a b : EReal => a * b) rfl ?_) rfl) rfl
  exact congrArg (fun a : EReal => Ideal.rsqrt (a + small)) (prompt_var x0 x1 x2 x3 x4 (idx_main_v29 i))

theorem prompt_flat (i : S16384x1024.Idx) : val_main_v37 (F := Ideal) x0 x2 x4 x5 x6 i
    = out x0 x1 x2 x3 x4 x5 x6 ((i 0).val) ⟨(i 1).val, (i 1).isLt⟩ := by
  have h0 : (i 0).val < 16384 := (i 0).isLt
  have h1 : (i 1).val < 1024 := (i 1).isLt
  rw [val_main_v37_apply, prompt_out]
  refine congrArg₂ (out x0 x1 x2 x3 x4 x5 x6) ?_ (Fin.ext ?_)
  · show 2048 * (((i 0).val * 1024 + (i 1).val) / 2097152) + (((i 0).val * 1024 + (i 1).val) / 1024 % 2048) = (i 0).val
    omega
  · show ((i 0).val * 1024 + (i 1).val) % 1024 = (i 1).val
    omega

/-! ## The sample rows -/

theorem sample_digits (a b c : Nat) (ha : a < 128) (hb : b < 4) (hc : c < 1024) :
    ((a * 4 + b) * 1024 + c) / 4096 = a ∧ ((a * 4 + b) * 1024 + c) / 1024 % 4 = b
      ∧ ((a * 4 + b) * 1024 + c) / 512 % 2 = c / 512 ∧ ((a * 4 + b) * 1024 + c) / 64 % 8 = c / 64 % 8
      ∧ ((a * 4 + b) * 1024 + c) % 64 = c % 64 := by
  refine ⟨?_, ?_, ?_, ?_, ?_⟩ <;> omega

theorem sample_o (i : S128x4x1024.Idx) : val_main_v41 (F := Ideal) x1 i = oRow x0 x1 (16384 + (4 * (i 0).val + (i 1).val)) (heads.symm ⟨(i 2).val, (i 2).isLt⟩) := by
  have h0 : (i 0).val < 128 := (i 0).isLt
  have h1 : (i 1).val < 4 := (i 1).isLt
  have h2 : (i 2).val < 1024 := (i 2).isLt
  have hs := slot_parts ⟨(i 2).val, h2⟩ ((i 2).val / 512) ((i 2).val / 64 % 8) ((i 2).val % 64) rfl rfl rfl
  obtain ⟨d0, d1, d2, d3, d4⟩ := sample_digits (i 0).val (i 1).val (i 2).val h0 h1 h2
  rw [val_main_v41_apply, val_main_v40_apply, val_main_v39_apply, val_main_v38_apply]
  unfold oRow
  rw [if_neg (by omega)]
  show x1 _ = x1 _
  refine congrArg x1 (funext fun a => Fin.ext ?_)
  match a with
  | ⟨0, _⟩ =>
    show ((((((((((i 0).val * 4 + (i 1).val) * 1024) + (i 2).val) / 4096) * 4 + (((((i 0).val * 4 + (i 1).val) * 1024) + (i 2).val) / 1024 % 4)) * 8 + (((((i 0).val * 4 + (i 1).val) * 1024) + (i 2).val) / 64 % 8)) * 2 + (((((i 0).val * 4 + (i 1).val) * 1024) + (i 2).val) / 512 % 2)) * 64) + (((((i 0).val * 4 + (i 1).val) * 1024) + (i 2).val) % 64)) / 1024 = (16384 + (4 * (i 0).val + (i 1).val) - 16384) % 512
    rw [d0, d1, d2, d3, d4]
    omega
  | ⟨1, _⟩ =>
    show ((((((((((i 0).val * 4 + (i 1).val) * 1024) + (i 2).val) / 4096) * 4 + (((((i 0).val * 4 + (i 1).val) * 1024) + (i 2).val) / 1024 % 4)) * 8 + (((((i 0).val * 4 + (i 1).val) * 1024) + (i 2).val) / 64 % 8)) * 2 + (((((i 0).val * 4 + (i 1).val) * 1024) + (i 2).val) / 512 % 2)) * 64) + (((((i 0).val * 4 + (i 1).val) * 1024) + (i 2).val) % 64)) % 1024 = (heads.symm ⟨(i 2).val, h2⟩).val
    rw [d0, d1, d2, d3, d4]
    omega

theorem sample_x (i : S128x4x1024.Idx) : x3 i = Cert.Proj.row x2 x3 (16384 + (4 * (i 0).val + (i 1).val)) ⟨(i 2).val, (i 2).isLt⟩ := by
  have h0 : (i 0).val < 128 := (i 0).isLt
  have h1 : (i 1).val < 4 := (i 1).isLt
  unfold Cert.Proj.row
  rw [if_neg (by omega)]
  refine congrArg x3 (funext fun a => Fin.ext ?_)
  match a with
  | ⟨0, _⟩ =>
    show (i 0).val = (16384 + (4 * (i 0).val + (i 1).val) - 16384) / 4 % 128
    omega
  | ⟨1, _⟩ =>
    show (i 1).val = (16384 + (4 * (i 0).val + (i 1).val) - 16384) % 4
    omega
  | ⟨2, _⟩ => rfl

theorem sample_pre (i : S128x4x1024.Idx) : val_main_v46 (F := Ideal) x1 x3 x4 i = pre x0 x1 x2 x3 x4 (16384 + (4 * (i 0).val + (i 1).val)) ⟨(i 2).val, (i 2).isLt⟩ := by
  have h2 : (i 2).val < 1024 := (i 2).isLt
  rw [val_main_v46_apply, val_main_v43_apply, val_main_v42_apply, val_main_cst_5_apply, val_main_v45_apply]
  unfold pre
  refine congrArg₂ (fun a b : EReal => a + b) (congrArg (factor * ·) (sample_x x2 x3 i)) (Finset.sum_congr rfl fun k _ => ?_)
  rw [val_main_v44_apply]
  refine congrArg₂ (fun a b : EReal => a * b) (sample_o x0 x1 (lidx_main_v45 i k)) (congrArg x4 (funext fun a => Fin.ext ?_))
  have hk := k.isLt
  match a with
  | ⟨0, _⟩ => rfl
  | ⟨1, _⟩ =>
    show (k.val * 1024 + (i 2).val) / 1024 % 1024 = k.val
    omega
  | ⟨2, _⟩ =>
    show (k.val * 1024 + (i 2).val) % 1024 = (i 2).val
    omega

theorem sample_mean (i : S128x4x1.Idx) : val_main_v54 (F := Ideal) x1 x3 x4 i = mean (pre x0 x1 x2 x3 x4 (16384 + (4 * (i 0).val + (i 1).val))) := by
  rw [val_main_v54_apply, val_main_v52_apply, val_main_v53_apply, val_main_cst_7_apply, val_main_v51_apply, val_main_cst_6_apply]
  refine congrArg₂ Ideal.div ?_ rfl
  show Ideal.ofBits .f32 0x00000000#32 + _ = _
  rw [Ideal.ofBits_zero_f32, zero_add]
  exact Finset.sum_congr rfl fun k _ => sample_pre x0 x1 x2 x3 x4 (idx_main_v51 (idx_main_v52 i) k)

theorem sample_dev (i : S128x4x1024.Idx) : val_main_v56 (F := Ideal) x1 x3 x4 i = dev (pre x0 x1 x2 x3 x4 (16384 + (4 * (i 0).val + (i 1).val))) ⟨(i 2).val, (i 2).isLt⟩ := by
  rw [val_main_v56_apply, val_main_v55_apply]
  exact congrArg₂ (fun a b : EReal => a - b) (sample_pre x0 x1 x2 x3 x4 i) (sample_mean x0 x1 x2 x3 x4 (idx_main_v55 i))

theorem sample_dev' (i : S128x4x1024.Idx) : val_main_v63 (F := Ideal) x1 x3 x4 i = dev (pre x0 x1 x2 x3 x4 (16384 + (4 * (i 0).val + (i 1).val))) ⟨(i 2).val, (i 2).isLt⟩ := by
  rw [val_main_v63_apply, val_main_v62_apply]
  exact congrArg₂ (fun a b : EReal => a - b) (sample_pre x0 x1 x2 x3 x4 i) (sample_mean x0 x1 x2 x3 x4 (idx_main_v62 i))

theorem sample_var (i : S128x4x1.Idx) : val_main_v61 (F := Ideal) x1 x3 x4 i
    = mean (fun j => dev (pre x0 x1 x2 x3 x4 (16384 + (4 * (i 0).val + (i 1).val))) j * dev (pre x0 x1 x2 x3 x4 (16384 + (4 * (i 0).val + (i 1).val))) j) := by
  rw [val_main_v61_apply, val_main_v59_apply, val_main_v60_apply, val_main_cst_9_apply, val_main_v58_apply, val_main_cst_8_apply]
  refine congrArg₂ Ideal.div ?_ rfl
  show Ideal.ofBits .f32 0x00000000#32 + _ = _
  rw [Ideal.ofBits_zero_f32, zero_add]
  refine Finset.sum_congr rfl fun k _ => ?_
  rw [val_main_v57_apply]
  have h := sample_dev x0 x1 x2 x3 x4 (idx_main_v58 (idx_main_v59 i) k)
  exact congrArg₂ (fun a b : EReal => a * b) h h

theorem sample_gain (i : S128x4x1024.Idx) : val_main_v70 (F := Ideal) x5 i = x5 (ix2 (0 : Fin 2) (⟨(i 2).val, (i 2).isLt⟩ : Fin 1024)) := by
  have h2 : (i 2).val < 1024 := (i 2).isLt
  rw [val_main_v70_apply, val_main_v69_apply, val_main_v48_apply, val_main_v47_apply]
  refine congrArg x5 (funext fun a => Fin.ext ?_)
  match a with
  | ⟨0, _⟩ => rfl
  | ⟨1, _⟩ =>
    show (i 2).val % 1024 = (i 2).val
    omega

theorem sample_bias (i : S128x4x1024.Idx) : val_main_v73 (F := Ideal) x6 i = x6 (ix2 (0 : Fin 2) (⟨(i 2).val, (i 2).isLt⟩ : Fin 1024)) := by
  have h2 : (i 2).val < 1024 := (i 2).isLt
  rw [val_main_v73_apply, val_main_v72_apply, val_main_v50_apply, val_main_v49_apply]
  refine congrArg x6 (funext fun a => Fin.ext ?_)
  match a with
  | ⟨0, _⟩ => rfl
  | ⟨1, _⟩ =>
    show (i 2).val % 1024 = (i 2).val
    omega

theorem sample_out (i : S128x4x1024.Idx) : val_main_v74 (F := Ideal) x1 x3 x4 x5 x6 i
    = out x0 x1 x2 x3 x4 x5 x6 (16384 + (4 * (i 0).val + (i 1).val)) ⟨(i 2).val, (i 2).isLt⟩ := by
  rw [val_main_v74_apply, val_main_v71_apply, val_main_v68_apply, val_main_v67_apply, val_main_v66_apply, val_main_v65_apply, val_main_v64_apply, val_main_cst_10_apply, sample_dev', sample_gain, sample_bias]
  unfold out norm
  refine congrArg₂ (fun a b : EReal => a + b) (congrArg₂ (fun a b : EReal => a * b) (congrArg₂ (fun a b : EReal => a * b) rfl ?_) rfl) rfl
  exact congrArg (fun a : EReal => Ideal.rsqrt (a + small)) (sample_var x0 x1 x2 x3 x4 (idx_main_v67 i))

theorem sample_flat (i : S512x1024.Idx) : val_main_v75 (F := Ideal) x1 x3 x4 x5 x6 i
    = out x0 x1 x2 x3 x4 x5 x6 (16384 + (i 0).val) ⟨(i 1).val, (i 1).isLt⟩ := by
  have h0 : (i 0).val < 512 := (i 0).isLt
  have h1 : (i 1).val < 1024 := (i 1).isLt
  rw [val_main_v75_apply, sample_out]
  refine congrArg₂ (out x0 x1 x2 x3 x4 x5 x6) ?_ (Fin.ext ?_)
  · show 16384 + (4 * (((i 0).val * 1024 + (i 1).val) / 4096) + (((i 0).val * 1024 + (i 1).val) / 1024 % 4)) = 16384 + (i 0).val
    omega
  · show ((i 0).val * 1024 + (i 1).val) % 1024 = (i 1).val
    omega

/-! ## The result -/

theorem rows_all : val_main_v76 (F := Ideal) x0 x1 x2 x3 x4 x5 x6 = outRows x0 x1 x2 x3 x4 x5 x6 := by
  funext i
  have h0 : (i 0).val < 16896 := (i 0).isLt
  have h1 : (i 1).val < 1024 := (i 1).isLt
  have hc : out x0 x1 x2 x3 x4 x5 x6 (i 0).val ⟨(i 1).val, h1⟩ = outRows x0 x1 x2 x3 x4 x5 x6 i :=
    congrArg (out x0 x1 x2 x3 x4 x5 x6 (i 0).val) (Fin.ext (by show (i 1).val = (i 1).val % 1024; omega))
  refine Eq.trans ?_ hc
  unfold val_main_v76
  by_cases h : (i 0).val < 16384
  · exact (concatenate_apply_piece (0 : Fin 2) [⟨S16384x1024, val_main_v37 (F := Ideal) x0 x2 x4 x5 x6⟩, ⟨S512x1024, val_main_v75 (F := Ideal) x1 x3 x4 x5 x6⟩] _ i
      0 (by exact (by decide : 0 < 2)) S16384x1024 (val_main_v37 (F := Ideal) x0 x2 x4 x5 x6) rfl rfl 0 rfl
      (ix2 (⟨(i 0).val, h⟩ : Fin 16384) (⟨(i 1).val, h1⟩ : Fin 1024))
      (fun b hb => match b with | ⟨0, _⟩ => absurd rfl hb | ⟨1, _⟩ => rfl)
      (by show 0 + (i 0).val = (i 0).val; omega)).trans (prompt_flat x0 x1 x2 x3 x4 x5 x6 _)
  · refine (concatenate_apply_piece (0 : Fin 2) [⟨S16384x1024, val_main_v37 (F := Ideal) x0 x2 x4 x5 x6⟩, ⟨S512x1024, val_main_v75 (F := Ideal) x1 x3 x4 x5 x6⟩] _ i
      1 (by exact (by decide : 1 < 2)) S512x1024 (val_main_v75 (F := Ideal) x1 x3 x4 x5 x6) rfl rfl 16384 rfl
      (ix2 (⟨(i 0).val - 16384, by omega⟩ : Fin 512) (⟨(i 1).val, h1⟩ : Fin 1024))
      (fun b hb => match b with | ⟨0, _⟩ => absurd rfl hb | ⟨1, _⟩ => rfl)
      (by show 16384 + ((i 0).val - 16384) = (i 0).val; omega)).trans ((sample_flat x0 x1 x2 x3 x4 x5 x6 _).trans ?_)
    refine congrArg (fun R => out x0 x1 x2 x3 x4 x5 x6 R ⟨(i 1).val, h1⟩) ?_
    show 16384 + ((i 0).val - 16384) = (i 0).val
    omega

end Cert.Out.Ref

end
-- ==== Proof.OutClaim.lean ====
/- The first layer's output projection and its reference return the same rows. -/
module

public import proofs.«01_k».proof.Defs
public import proofs.«01_k».proof.Proof.Gen.Kernel5.Frame
public import proofs.«01_k».proof.Proof.OutRef

@[expose] public section

set_option maxRecDepth 16384

noncomputable section

namespace Cert.Out

open Cert.Kernel5Ideal Cert.Kernel5Ideal.Gen
open Idealize.ShloMosaic hiding ix1 ix2 ix3 ix4 ix5 eq_ix2
open Idealize.ShloMosaic.TcCoe Idealize.SL.Sem Idealize.ShloMosaic.ValueIdx

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- What the launch leaves, of the arguments. -/
theorem left (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43_0) = (outF m c : Buf (Elt Ideal) ((c.tc : Thread nD τ).loc main_v43_0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun r h c => ⟨((h c).1 11).trans (final_11 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩) (run_main m ρ)

theorem algebraic : Cert.algebraic_Kernel5Ideal_Reference5Ideal := by
  intro m ρ m' ρ' hpre hagree
  refine ⟨fun c => outF m c, left m ρ, ?_⟩
  refine (θ_run _ _ _).mono (fun _ h c => ?_) (Cert.Reference5Ideal.Value.run (F := Ideal) m' ρ')
  obtain ⟨e0, e1, e2, e3, e4, e5, e6, erest⟩ := hagree c
  obtain ⟨r0, rest⟩ := h c
  rw [Cert.Reference5Ideal.Read.val_main_v76_eq] at r0
  exact ⟨r0.trans ((congr (congr (congr (congr (congr (congr (congrArg (Cert.Reference5Ideal.Read.val_main_v76 (F := Ideal)) e0) e1) e2) e3) e4) e5) e6).trans (Ref.rows_all (opOf m c) (osOf m c) (xpOf m c) (xsOf m c) (wOf m c) (gOf m c) (bOf m c))), rest⟩

end Cert.Out

end
-- ==== Proof.TwoRun.lean ====
/- One grid point of the experts' kernel: from the tile of rows and the expert's weights, the tile the body leaves. -/
module

public import proofs.«01_k».proof.Proof.Gen.Kernel6Ideal.Launch
public import proofs.«01_k».proof.Proof.Gen.Kernel6Ideal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Two

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of the experts and the number of tiles in use, as the body is handed them. -/
abbrev teM : Memref sig .tc .smem S98 .i32 := Memref.whole main_v6
abbrev nuM : Memref sig .tc .smem S1 .i32 := Memref.whole main_arg1
abbrev teW : teM.IsWhole := Memref.isWhole_whole _
abbrev nuW : nuM.IsWhole := Memref.isWhole_whole _

/-- Half of a table's buffer: what the body holds of it. -/
abbrev half (c : Dev nD) {S : Shape} {e : EltTy} (M : Memref sig .tc .smem S e) (f : Buf (Elt F) (M.view.loc (c : Thread nD τ))) : sProp 𝕄 :=
  M.view.loc (c : Thread nD τ) ↦{fullShare.right} f

/-- The number of tiles in use, the word the body reads. -/
def used (T : S1.Idx → BitVec 32) : BitVec 32 := T (Shape.Idx.first (s := S1) (by decide))

/-- The tile the body leaves: the expert's output while the point is below the number of tiles in use, else zeros. -/
def tileOut (i : grid0.Coords) (n : BitVec 32) (x : Vec F S512x1024 .f32) (wg : Vec F S1x1x1024x512 .f32) (wd : Vec F S1x1x256x1024 .f32) :
    Vec F S512x1024 .f32 :=
  if k0_cond1 i n = 1#1 then k0_pay1 x wg wd else k0_pay2

/-- The two conditions of the body are each other's negation. -/
theorem cond2_of_not (i : grid0.Coords) (n : BitVec 32) (h : ¬ k0_cond1 i n = 1#1) : k0_cond2 i n = 1#1 := by
  revert h
  unfold k0_cond1 k0_cond2
  simp only [Scalar.cmpi, Scalar.extui, IntOp.cmpi, BitVec.sle_eq_not_slt]
  generalize BitVec.slt (BitVec.ofNat 32 (i 0).val) n = b
  revert b; decide

theorem not_cond2_of (i : grid0.Coords) (n : BitVec 32) (h : k0_cond1 i n = 1#1) : ¬ k0_cond2 i n = 1#1 := by
  revert h
  unfold k0_cond1 k0_cond2
  simp only [Scalar.cmpi, Scalar.extui, IntOp.cmpi, BitVec.sle_eq_not_slt]
  generalize BitVec.slt (BitVec.ofNat 32 (i 0).val) n = b
  revert b; decide

/-- The word the body reads off the table is the number of tiles in use. -/
theorem used_read (T : S1.Idx → Elt F .i32) (inb : ∀ a, (![0] : Fin 1 → Nat) a + S1.size a ≤ S1.size a) (hn : 0 < (Rect.unit (s := S1) ![0] S1.size inb).toLoadRect.shape.numel) :
    View.readAt (Elt F) nuM.view (Rect.unit (s := S1) ![0] S1.size inb).toLoadRect T (Shape.Idx.first hn) = used T := by
  rw [View.readAt_full]
  rfl

section run

variable (c : Dev nD) (i : grid0.Coords) (a3 : Memref sig .tc .vmem S512x1024 .f32) (h3 : a3.IsWhole)
  (a4 : Memref sig .tc .vmem S1x1x1024x512 .f32) (h4 : a4.IsWhole) (a5 : Memref sig .tc .vmem S1x1x256x1024 .f32) (h5 : a5.IsWhole)
  (a6 : Memref sig .tc .vmem S512x1024 .f32) (h6 : a6.IsWhole) (T0 : S98.Idx → Elt F .i32) (T1 : S1.Idx → Elt F .i32)
  (x : Vec F S512x1024 .f32) (wg : Vec F S1x1x1024x512 .f32) (wd : Vec F S1x1x256x1024 .f32)

/-- What the body needs at a point, and what it leaves there. -/
def Before : sProp 𝕄 :=
  iprop(owns (c : Thread nD τ) a3 fullShare x ∗ owns (c : Thread nD τ) a4 fullShare wg ∗ owns (c : Thread nD τ) a5 fullShare wd
    ∗ (∃ d, owns (c : Thread nD τ) a6 fullShare d) ∗ half c teM T0 ∗ half c nuM T1)

def After : sProp 𝕄 :=
  iprop(owns (c : Thread nD τ) a3 fullShare x ∗ owns (c : Thread nD τ) a4 fullShare wg ∗ owns (c : Thread nD τ) a5 fullShare wd
    ∗ owns (c : Thread nD τ) a6 fullShare (tileOut i (used T1) x wg wd) ∗ half c teM T0 ∗ half c nuM T1)

set_option backward.proofsInPublic true in
set_option maxHeartbeats 4000000 in
/-- The body at any point: it runs, its operands kept, and leaves the tile. -/
theorem run_tile (K : PUnit → sProp 𝕄) :
    iprop(Before c a3 a4 a5 a6 T0 T1 x wg wd ∗ (After c i a3 a4 a5 a6 T0 T1 x wg wd -∗ K ⟨⟩))
      ⊢ wp frame (wpE (defs₀ (F := F)) Variants.none c none) Set.univ (cc0_moe_experts i teM teW nuM nuW a3 h3 a4 h4 a5 h5 a6 h6) K := by
  unfold Before After owns
  rw [cc0_moe_experts_eq_skeleton]; unfold cc0_moe_experts_skel
  iintro ⟨⟨⟨%f0, %hf0, H0⟩, ⟨%f1, %hf1, H1⟩, ⟨%f2, %hf2, H2⟩, ⟨%d3, %f3, -, H3⟩, HT0, HT1⟩, Hk⟩
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    unfold tileOut
    have hr : run_tile.sl.r T1 = used T1 := used_read T1 _ _
    rw [hr]
    split
    · rename_i hc2
      have h2 : k0_cond2 i (used T1) = 1#1 := hc2
      rw [View.read_writes_full, if_neg (fun h1 => not_cond2_of i _ h1 h2)]
    · rename_i hc2
      have h2 : ¬ k0_cond2 i (used T1) = 1#1 := hc2
      split
      · rename_i hc1
        have h1 : k0_cond1 i (used T1) = 1#1 := hc1
        rw [View.read_writes_full, View.readAt_full, View.readAt_full, View.readAt_full, hf0, hf1, hf2]
      · rename_i hc1
        exact absurd (cond2_of_not i _ hc1) h2
  isplitl [HT0]; · iexact HT0
  iexact HT1

end run

end Cert.Two

end
-- ==== Proof.TwoFrame.lean ====
/- The experts' call runs, for every table of experts whose blocks lie inside the weights; what its output holds at the end. -/
module

public import proofs.«01_k».proof.Proof.TwoRun
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.VecWindow
public import Idealize.ShloMosaic.Lib.Claim

@[expose] public section

set_option maxRecDepth 16384

noncomputable section

namespace Cert.Two

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the call begins: as launched, the host's lines run. -/
def at0 (c : Dev nD) (b : Ref sig .tc) : Buf (Elt F) ((c : Thread nD τ).loc b) := StableHlo.after hostOps0 (fun b => m (c, b)) b

/-- The host's lines leave the arguments alone. -/
theorem at0_arg0 (c : Dev nD) : at0 m c main_arg0 = m ((c : Thread nD τ).loc main_arg0) := by show StableHlo.after hostOps0 _ (Proc.devRef .tc _) = _; after_results
theorem at0_arg1 (c : Dev nD) : at0 m c main_arg1 = m ((c : Thread nD τ).loc main_arg1) := by show StableHlo.after hostOps0 _ (Proc.devRef .tc _) = _; after_results
theorem at0_arg2 (c : Dev nD) : at0 m c main_arg2 = m ((c : Thread nD τ).loc main_arg2) := by show StableHlo.after hostOps0 _ (Proc.devRef .tc _) = _; after_results
theorem at0_arg3 (c : Dev nD) : at0 m c main_arg3 = m ((c : Thread nD τ).loc main_arg3) := by show StableHlo.after hostOps0 _ (Proc.devRef .tc _) = _; after_results
theorem at0_arg4 (c : Dev nD) : at0 m c main_arg4 = m ((c : Thread nD τ).loc main_arg4) := by show StableHlo.after hostOps0 _ (Proc.devRef .tc _) = _; after_results

/-- The two tables as the call finds them. -/
def tables : pre0.Contents (Elt F) := fun j => at0 m (0 : Dev nD) (pre0.ref j)

theorem tables_on (c : Dev nD) (j : Fin 2) : at0 m c (pre0.ref j) = tables m j := by
  obtain rfl : c = 0 := Subsingleton.elim _ _; rfl

/-- Every block the tables name lies inside its array. -/
abbrev Inside : Prop := ok0 (F := F) (tables m)

abbrev adm (hO : Inside m) : (pcfg0 (F := F)).Adm := ⟨tables m, hO⟩
abbrev pipe (hO : Inside m) : Pipeline.Cfg sig Λ₀ := cfg0 (adm m hO)

/-- The main function is the host's lines and the one call. -/
theorem main_is_call (𝒱 : Variants) : Pipeline.HMainP (Ix := Unit) (Name := ℕ) (U := UR sig nD τ) (Lvl := ℕ) pcfgs 0 defs₀ 𝒱 m (main (F := F)) (at0 m) :=
  Pipeline.hmainP_prefix pcfgs 0 defs₀ 𝒱 m main hostOps0 hostOps0_sub ⟨rfl, rfl, rfl, rfl, rfl, rfl, rfl, rfl⟩ fun c => (main_chain c).trans rfl

-- from here on a buffer is only named: what the host wrote into it is not looked at
attribute [local irreducible] at0

theorem tables_held (c : Dev nD) : (Pipeline.ΦT pre0 (tables m) c : sProp 𝕄) = iprop(half c teM (tables m 0) ∗ half c nuM (tables m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, of its array as launched. -/
def blockAt (hO : Inside m) (c : Dev nD) (w : Fin (pipe m hO).W) (t : Fin (pipe m hO).N) :
    (((pipe m hO).win w).xblock ((pipe m hO).grid.coords t)).Idx → Elt F ((pipe m hO).win w).elt :=
  (((pipe m hO).win w).blk t).view.read (Elt F) (at0 m c (Pipeline.arrRef spec0 w))

/-- The tile of the output at point `t`. -/
def tileAt (hO : Inside m) (c : Dev nD) (t : Fin (pipe m hO).N) : Vec F S512x1024 .f32 :=
  tileOut (grid0.coords t) (used (tables m 1)) (blockAt m hO c 0 t) (blockAt m hO c 1 t) (blockAt m hO c 2 t)

/-- The account of the pipeline: arrays as launched, each input's buffer at its block and the output's at the tile after
    every point. -/
def acct (hO : Inside m) (_ : Fin 1) (c : Dev nD) : Dat τ (Elt F) Unit ℕ (UR sig nD τ) ℕ (pipe m hO) c where
  A w := at0 m c (Pipeline.arrRef spec0 w)
  after w t := match w with
    | ⟨0, _⟩ => blockAt m hO c 0 t
    | ⟨1, _⟩ => blockAt m hO c 1 t
    | ⟨2, _⟩ => blockAt m hO c 2 t
    | ⟨3, _⟩ => tileAt m hO c t
  Φ _ := iprop(Pipeline.ΦA spec0 c ∗ Pipeline.ΦT pre0 (tables m) c)
  q _ := fullShare
  owed _ := 0

variable (hO : Inside m) (c : Dev nD)

theorem acct_A (w : Fin (pipe m hO).W) : (acct m hO 0 c).A w = at0 m c (Pipeline.arrRef spec0 w) := by dsimp only [acct]
theorem acct_0 (t : Fin (pipe m hO).N) : (acct m hO 0 c).after 0 t = blockAt m hO c 0 t := by dsimp only [acct]; try rfl
theorem acct_1 (t : Fin (pipe m hO).N) : (acct m hO 0 c).after 1 t = blockAt m hO c 1 t := by dsimp only [acct]; try rfl
theorem acct_2 (t : Fin (pipe m hO).N) : (acct m hO 0 c).after 2 t = blockAt m hO c 2 t := by dsimp only [acct]; try rfl
theorem acct_3 (t : Fin (pipe m hO).N) : (acct m hO 0 c).after 3 t = tileAt m hO c t := by dsimp only [acct]; try rfl

/-- Before the body every input's buffer holds its block, fetched at that point or kept from the last. -/
theorem held_0 (t : Fin (pipe m hO).N) (d) : (acct m hO 0 c).before 0 t d = blockAt m hO c 0 t :=
  ((acct m hO 0 c).before_in_eq_fetched 0 rfl (fun _ => rfl) (fun _ _ _ => rfl)
      (fun t => by rw [acct_0]; unfold Dat.blockOf blockAt; rw [acct_A]; try rfl) t d).trans
    (by unfold Dat.fetched Dat.blockOf blockAt; rw [acct_A]; try rfl)
theorem held_1 (t : Fin (pipe m hO).N) (d) : (acct m hO 0 c).before 1 t d = blockAt m hO c 1 t :=
  ((acct m hO 0 c).before_in_eq_fetched 1 rfl (fun _ => rfl) (fun _ _ _ => rfl)
      (fun t => by rw [acct_1]; unfold Dat.blockOf blockAt; rw [acct_A]; try rfl) t d).trans
    (by unfold Dat.fetched Dat.blockOf blockAt; rw [acct_A]; try rfl)
theorem held_2 (t : Fin (pipe m hO).N) (d) : (acct m hO 0 c).before 2 t d = blockAt m hO c 2 t :=
  ((acct m hO 0 c).before_in_eq_fetched 2 rfl (fun _ => rfl) (fun _ _ _ => rfl)
      (fun t => by rw [acct_2]; unfold Dat.blockOf blockAt; rw [acct_A]; try rfl) t d).trans
    (by unfold Dat.fetched Dat.blockOf blockAt; rw [acct_A]; try rfl)

/-- The current buffers at point `t`. -/
abbrev b0 (t : Fin (pipe m hO).N) : Memref sig .tc .vmem S512x1024 .f32 := spec0_0.stage ((pipe m hO).slots t 0)
abbrev w0 (t : Fin (pipe m hO).N) : (b0 m hO t).IsWhole := hstage0_0 (((pipe m hO).slots t 0).cast nbuf0_0)
abbrev b1 (t : Fin (pipe m hO).N) : Memref sig .tc .vmem S1x1x1024x512 .f32 := spec0_1.stage ((pipe m hO).slots t 1)
abbrev w1 (t : Fin (pipe m hO).N) : (b1 m hO t).IsWhole := hstage0_1 (((pipe m hO).slots t 1).cast nbuf0_1)
abbrev b2 (t : Fin (pipe m hO).N) : Memref sig .tc .vmem S1x1x256x1024 .f32 := spec0_2.stage ((pipe m hO).slots t 2)
abbrev w2 (t : Fin (pipe m hO).N) : (b2 m hO t).IsWhole := hstage0_2 (((pipe m hO).slots t 2).cast nbuf0_2)
abbrev b3 (t : Fin (pipe m hO).N) : Memref sig .tc .vmem S512x1024 .f32 := spec0_3.stage ((pipe m hO).slots t 3)
abbrev w3 (t : Fin (pipe m hO).N) : (b3 m hO t).IsWhole := hstage0_3 (((pipe m hO).slots t 3).cast nbuf0_3)

/-- The body as the pipeline calls it at point `t`. -/
abbrev bodyOf (t : Fin (pipe m hO).N) : Prog (TpuEff nD τ sig (Elt F) Λ₀ .tc) PUnit :=
  cc0_moe_experts (grid0.coords t) teM teW nuM nuW (b0 m hO t) (w0 m hO t) (b1 m hO t) (w1 m hO t) (b2 m hO t) (w2 m hO t) (b3 m hO t) (w3 m hO t)

/-- What the body is called with at a point, and what it returns. -/
def given (t : Fin (pipe m hO).N) : sProp 𝕄 :=
  iprop((acct m hO 0 c).Φ t.castSucc ∗ (acct m hO 0 c).owesAt () t.castSucc
    ∗ (∃ d, owns (c : Thread nD τ) (b0 m hO t) fullShare ((acct m hO 0 c).before 0 t d))
    ∗ (∃ d, owns (c : Thread nD τ) (b1 m hO t) fullShare ((acct m hO 0 c).before 1 t d))
    ∗ (∃ d, owns (c : Thread nD τ) (b2 m hO t) fullShare ((acct m hO 0 c).before 2 t d))
    ∗ (∃ d, owns (c : Thread nD τ) (b3 m hO t) fullShare ((acct m hO 0 c).before 3 t d)))

def returned (t : Fin (pipe m hO).N) : sProp 𝕄 :=
  iprop((acct m hO 0 c).Φ t.succ ∗ (acct m hO 0 c).owesAt () t.succ
    ∗ owns (c : Thread nD τ) (b0 m hO t) fullShare ((acct m hO 0 c).after 0 t)
    ∗ owns (c : Thread nD τ) (b1 m hO t) fullShare ((acct m hO 0 c).after 1 t)
    ∗ owns (c : Thread nD τ) (b2 m hO t) fullShare ((acct m hO 0 c).after 2 t)
    ∗ owns (c : Thread nD τ) (b3 m hO t) fullShare ((acct m hO 0 c).after 3 t))

theorem body_at (t : Fin (pipe m hO).N) :
    given m hO c t ⊢ wp frame (wpE (defs₀ (F := F)) Variants.none c none) Set.univ (bodyOf m hO t) (fun _ => returned m hO c t) := by
  unfold given returned
  simp only [held_0, held_1, held_2]
  rw [show (acct m hO 0 c).Φ t.succ = (acct m hO 0 c).Φ t.castSucc from rfl,
    show (acct m hO 0 c).owesAt () t.succ = (acct m hO 0 c).owesAt () t.castSucc from rfl,
    acct_0, acct_1, acct_2, acct_3]
  rw [show (acct m hO 0 c).Φ t.castSucc = iprop(Pipeline.ΦA spec0 c ∗ Pipeline.ΦT pre0 (tables m) c) from rfl, tables_held]
  unfold tileAt
  iintro ⟨⟨HΦ, ⟨HT0, HT1⟩⟩, Ho, ⟨%d0, H0⟩, ⟨%d1, H1⟩, ⟨%d2, H2⟩, ⟨%d3, H3⟩⟩
  iapply (run_tile c (grid0.coords t) (b0 m hO t) (w0 m hO t) (b1 m hO t) (w1 m hO t) (b2 m hO t) (w2 m hO t) (b3 m hO t) (w3 m hO t)
    (tables m 0) (tables m 1) (blockAt m hO c 0 t) (blockAt m hO c 1 t) (blockAt m hO c 2 t) _)
  unfold Before After
  isplitl [H0 H1 H2 H3 HT0 HT1]
  · isplitl [H0]; · iexact H0
    isplitl [H1]; · iexact H1
    isplitl [H2]; · iexact H2
    isplitl [H3]; · iexists _; iexact H3
    isplitl [HT0]; · iexact HT0
    iexact HT1
  iintro ⟨H0, H1, H2, H3, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  iexact H3

theorem body_row (t : Fin (pipe m hO).N) :
    defs₀ (F := F) .tc (pipe m hO).body ((pipe m hO).bodyArgs t ((pipe m hO).slots t)) = bodyOf m hO t := by
  unfold defs₀; rw [Defs.onTc_tc]

/-- The output is written at every point. -/
theorem never_idle (i : grid0.Coords) : (pipe m hO).idle 3 i = false := by
  show (!(k0_cond1 i ((tables m).atD 1 ![0]) == 1#1) && !(k0_cond2 i ((tables m).atD 1 ![0]) == 1#1)) = false
  by_cases h : k0_cond1 i ((tables m).atD 1 ![0]) = 1#1
  · simp [h]
  · simp [cond2_of_not i _ h]

theorem at_live {P Q : sProp 𝕄} : ∀ b : Bool, b = false → (Q ⊢ (match b with | true => P | false => Q))
  | false, _ => .rfl

theorem obligation : BodyObligation (acct (F := F) m hO 0 c) (defs₀ (F := F)) Variants.none () Set.univ := fun t => by
  rw [bigSep_W0, bigSep_W0, body_row m hO]
  have hi := never_idle m hO ((pipe m hO).grid.coords t)
  refine triple_restated (body_at m hO c t) rfl .rfl fun _ => ?_
  unfold returned
  exact sep_mono .rfl (sep_mono .rfl (sep_mono .rfl (sep_mono .rfl (sep_mono .rfl (at_live _ hi)))))

set_option backward.isDefEq.respectTransparency.types false in
/-- The launch: every array at what the account says, everything else as launched, every counter at zero. -/
theorem launched : θ_run defs (onTc (τ := τ) (main (F := F))) (s₀ m ρ)
    (fun r => (Pipeline.FramePost (Pipeline.pin pcfgs fun _ => adm m hO) (acct m hO) 0 (at0 m)) r ∧ r.2.sem = fun _ => 0) :=
  Pipeline.θ_run_frameP (Q' := _) pcfgs (fun _ => adm m hO) (acct m hO) (0 : Fin 1) launch0 defs₀ Variants.none m ρ main
    (hbody := fun c => (obligation m hO c).loose) (hshare := fun c => (acct m hO 0 c).share_full fun _ => rfl)
    (howed := fun _ _ => rfl) (V := at0 m) (hmain := main_is_call m Variants.none) (hA := acct_A m hO) (hpf := tables_on m)
    (hΦ := fun _ _ => rfl)

/-- The output array at the end, as the account has it. -/
def written : Buf (Elt F) ((c : Thread nD τ).loc main_v7) := (acct m hO 0 c).arrAt 3 (pipe m hO).N

theorem ends : θ_run defs (onTc (τ := τ) (main (F := F))) ⟨m, fun _ => 0, ρ⟩ (fun r => (∀ c : Dev nD,
      r.2.mem ((c.tc : Thread nD τ).loc main_v7) = written m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
      ((h.1 c).2 main_arg0 (by decide : main_arg0 ∈ Pipeline.restRefs sig spec0)).trans (at0_arg0 m c),
      ((h.1 c).2 main_arg1 (by decide : main_arg1 ∈ Pipeline.restRefs sig spec0)).trans (at0_arg1 m c),
      ((h.1 c).1 0).trans (((acct m hO 0 c).arrAt_in 0 rfl _).trans ((acct_A m hO c 0).trans (at0_arg2 m c))),
      ((h.1 c).1 1).trans (((acct m hO 0 c).arrAt_in 1 rfl _).trans ((acct_A m hO c 1).trans (at0_arg3 m c))),
      ((h.1 c).1 2).trans (((acct m hO 0 c).arrAt_in 2 rfl _).trans ((acct_A m hO c 2).trans (at0_arg4 m c)))⟩, h.2⟩) (launched m ρ hO)

end Cert.Two

end
-- ==== Proof.TwoPre.lean ====
/- What the precondition of the experts' call says, and what it gives: the table the host hands the call, and that every block named lies inside its array. -/
module

public import proofs.«01_k».proof.Proof.TwoFrame
public import proofs.«01_k».proof.Proof.MoePre
public import proofs.«01_k».proof.Pre_tiles_routed
public import proofs.«01_k».proof.Proof.Finite
public import Idealize.ShloMosaic.Lib.ReduceAll
public import Idealize.ShloMosaic.Lib.WordArith
public import Idealize.ShloMosaic.Lib.Pipeline.Value
public import Idealize.ShloMosaic.Lib.StableHlo.Predicate

@[expose] public section

noncomputable section

namespace Cert.Two

open Cert.Moe (tileNo tileNo_le tileNo_used routed_of_pre)

open Idealize.ShloMosaic Idealize.ShloMosaic.TcCoe Idealize.SL.Sem

section tables
open Cert.Kernel6Ideal Cert.Kernel6Ideal.Gen

variable {F : FTy → Type} [FloatOps F] (m : (ℓ : Loc nD τ sig) → Buf (Elt F) ℓ)

/-- The arguments: the table of experts and the number of tiles in use. -/
abbrev argTe : IVec S98 32 := m (((0 : Dev nD) : Thread nD τ).loc main_arg0)
abbrev argN : IVec S1 32 := m (((0 : Dev nD) : Thread nD τ).loc main_arg1)

theorem v6_term : (at0 m 0 main_v6 : IVec S98 32)
    = Host.gather gather_S98_S98x1_S98_n_0_n_n_0_1_1 (argTe m)
        (broadcastInDim S98x1 ![0] bcast_S98_S98x1_0 (minsi (iotaInDim S98 32 0)
          (broadcastInDim S98 ![] bcast_S_S98 (subi (shapeCast S_ (argN m) shapeCasts_S1_S_) (constantI S_ 32 1#32))))) := by
  show StableHlo.after hostOps0 _ (Proc.devRef .tc main_v6) = _
  after_results
  rfl

theorem used_eq : used (tables m 1) = argN m (Shape.Idx.first (s := S1) (by decide)) := by
  unfold used tables
  exact congrFun (at0_arg1 m 0) _

theorem gather_at (x : IVec S98 32) (idx : IVec S98x1 32) (p : Fin 98) :
    Host.gather gather_S98_S98x1_S98_n_0_n_n_0_1_1 x idx (Shape.Idx.ofFin p)
      = x (Shape.Idx.ofFin ⟨min (idx (StableHlo.Predicate.ixP p)).toInt.toNat (98 - 1), by omega⟩) :=
  StableHlo.Predicate.gather_take _ rfl rfl rfl rfl x idx p (by decide)

theorem one_word (n : IVec S1 32) (i : S_.Idx) : shapeCast S_ n shapeCasts_S1_S_ i = n (Shape.Idx.first (s := S1) (by decide)) := by
  unfold shapeCast
  exact congrArg n (funext fun a => match a with | ⟨0, _⟩ => Subsingleton.elim (α := Fin 1) _ _)

theorem minsi_at (x y : IVec S98 32) (i : S98.Idx) : minsi x y i = IntOp.minsi (x i) (y i) := rfl

theorem spread (x : IVec S_ 32) (i : S98.Idx) : broadcastInDim S98 ![] bcast_S_S98 x i = x (fun a => a.elim0) :=
  broadcastInDim_apply _ bcast_S_S98 _ _ _ (fun a => a.elim0)

theorem tile_word (n : IVec S1 32) (p : Fin 98) :
    broadcastInDim S98x1 ![0] bcast_S98_S98x1_0 (minsi (iotaInDim S98 32 0)
          (broadcastInDim S98 ![] bcast_S_S98 (subi (shapeCast S_ n shapeCasts_S1_S_) (constantI S_ 32 1#32)))) (StableHlo.Predicate.ixP p)
      = tileNo (n (Shape.Idx.first (s := S1) (by decide))) p.val := by
  refine (broadcastInDim_apply _ bcast_S98_S98x1_0 _ _ (Shape.Idx.ofFin p) (fun a => ?_)).trans ?_
  · match a with
    | ⟨0, _⟩ => show p.val = if (98 : Nat) = 1 then 0 else p.val; rw [if_neg (by decide)]
  exact (minsi_at _ _ _).trans (congrArg₂ IntOp.minsi rfl ((spread _ _).trans (congrArg (· - 1#32) (one_word n _))))

/-- The entry of the table a point reads, which the host has looked up at the point's tile. -/
theorem table_at (p : Fin 98) : (tables m 0 : IVec S98 32) (Shape.Idx.ofFin p)
    = argTe m (Shape.Idx.ofFin ⟨min (tileNo (used (tables m 1)) p.val).toInt.toNat (98 - 1), by omega⟩) := by
  refine (congrFun (v6_term m) (Shape.Idx.ofFin p)).trans ((gather_at _ _ p).trans (congrArg (argTe m) ?_))
  refine congrArg Shape.Idx.ofFin (Fin.ext ?_)
  show min _ _ = min _ _
  rw [tile_word, used_eq]

theorem table_lt (hte : ∀ i, (argTe m i).toNat < 32) (p : S98.Idx) : ((tables m 0 : IVec S98 32) p).toNat < 32 := by
  have e : p = Shape.Idx.ofFin (⟨(p 0).val, (p 0).isLt⟩ : Fin 98) := funext fun a => match a with | ⟨0, _⟩ => rfl
  rw [e, table_at]
  exact hte _

theorem table_used (p : Fin 98) (h : (p.val : Int) < (used (tables m 1)).toInt) :
    (tables m 0 : IVec S98 32) (Shape.Idx.ofFin p) = argTe m (Shape.Idx.ofFin p) := by
  refine (table_at m p).trans (congrArg (argTe m) (congrArg Shape.Idx.ofFin (Fin.ext ?_)))
  show min _ _ = _
  have hp := p.isLt
  rw [tileNo_used _ _ hp h, StableHlo.Predicate.toInt_ofNat_small _ (by omega)]
  omega

/-- The word an index map reads off the table of experts. -/
theorem expert_word (i : grid0.Coords) : (tables m).at 0 (Rect.unit (s := S98) ![(Scalar.indexCast (BitVec.ofNat 32 (i 0).val) : Index).toNat] S1.size (k0_off1_inb i)) numel1_S1
    = (tables m 0 : IVec S98 32) (Shape.Idx.ofFin (⟨(i 0).val, (i 0).isLt⟩ : Fin 98)) := by
  show tables m 0 _ = _
  congr 1
  funext a
  apply Fin.ext
  match a with
  | ⟨0, _⟩ =>
    show (BitVec.ofNat 32 (i 0).val).toNat + _ = (i 0).val
    have h : (i 0).val < 98 := (i 0).isLt
    rw [BitVec.toNat_ofNat]
    show _ % _ + 1 * 0 = _
    omega

theorem number_word (i : grid0.Coords) : (tables m).at 1 (Rect.unit (s := S1) ![0] S1.size inb_S1_S1_0) numel1_S1 = used (tables m 1) := by
  show tables m 1 _ = tables m 1 _
  congr 1
  funext a
  match a with
  | ⟨0, _⟩ => exact Subsingleton.elim (α := Fin 1) _ _

theorem map_rows (i : grid0.Coords) : cc0_transform_0 inb_S1_S1_0 numel1_S1 (tables m) i = ![(tileNo (used (tables m 1)) (i 0).val).toNat, 0] := by
  rw [← number_word m i]; rfl

theorem map_gate (i : grid0.Coords) : cc0_transform_1 k0_off1_inb numel1_S1 (tables m) i
    = ![1, ((tables m 0 : IVec S98 32) (Shape.Idx.ofFin (⟨(i 0).val, (i 0).isLt⟩ : Fin 98))).toNat, 0, 0] := by
  rw [← expert_word m i]; rfl

theorem map_down (i : grid0.Coords) : cc0_transform_2 k0_off1_inb numel1_S1 (tables m) i
    = ![1, ((tables m 0 : IVec S98 32) (Shape.Idx.ofFin (⟨(i 0).val, (i 0).isLt⟩ : Fin 98))).toNat, 0, 0] := by
  rw [← expert_word m i]; rfl

/-- Every block lies inside its array. -/
theorem inside (hte : ∀ i, (argTe m i).toNat < 32) (hn : ∀ i, 1 ≤ (argN m i).toInt) : Inside m := by
  refine ⟨fun i => ⟨fun a => ?_, .inl rfl⟩, fun i => ⟨fun a => ?_, .inl rfl⟩, fun i => ⟨fun a => ?_, .inl rfl⟩⟩
  · rw [map_rows]
    have h := tileNo_le (used (tables m 1)) (by rw [used_eq]; exact hn _) (i 0).val (i 0).isLt
    have h2 : (i 0).val < 98 := (i 0).isLt
    match a with
    | ⟨0, _⟩ => show ((tileNo _ _).toNat + 1) * 512 ≤ 50176; omega
    | ⟨1, _⟩ => show (0 + 1) * 1024 ≤ 1024; omega
  · rw [map_gate]
    have h := table_lt m hte (Shape.Idx.ofFin (⟨(i 0).val, (i 0).isLt⟩ : Fin 98))
    match a with
    | ⟨0, _⟩ => show (1 + 1) * 1 ≤ 2; omega
    | ⟨1, _⟩ => show (BitVec.toNat _ + 1) * 1 ≤ 32; omega
    | ⟨2, _⟩ => show (0 + 1) * 1024 ≤ 1024; omega
    | ⟨3, _⟩ => show (0 + 1) * 512 ≤ 512; omega
  · rw [map_down]
    have h := table_lt m hte (Shape.Idx.ofFin (⟨(i 0).val, (i 0).isLt⟩ : Fin 98))
    match a with
    | ⟨0, _⟩ => show (1 + 1) * 1 ≤ 2; omega
    | ⟨1, _⟩ => show (BitVec.toNat _ + 1) * 1 ≤ 32; omega
    | ⟨2, _⟩ => show (0 + 1) * 256 ≤ 256; omega
    | ⟨3, _⟩ => show (0 + 1) * 1024 ≤ 1024; omega

end tables

end Cert.Two

end
-- ==== Proof.TwoSame.lean ====
/- The frames of the experts' call. The program read at the bits and the one read at the extended reals have one text, so one run serves both. -/
module

public import proofs.«01_k».proof.Defs
public import proofs.«01_k».proof.Proof.TwoPre
public import proofs.«01_k».proof.Proof.MoeSame
public import proofs.«01_k».proof.Proof.Gen.Kernel6

@[expose] public section

noncomputable section

namespace Cert.Two

open Cert.Moe (preFacts routed_of_pre carry)

open Idealize.ShloMosaic Idealize.ShloMosaic.TcCoe Idealize.SL.Sem

theorem same_body : @Cert.Kernel6.cc0_moe_experts Bits _ _ = @Cert.Kernel6Ideal.cc0_moe_experts Bits _ _ := rfl
theorem same_defs₀ : @Cert.Kernel6.defs₀ Bits _ _ = @Cert.Kernel6Ideal.defs₀ Bits _ _ := by
  unfold Cert.Kernel6.defs₀ Cert.Kernel6Ideal.defs₀
  exact congrArg (Defs.onTc (nD := Cert.Kernel6Ideal.nD) (τ := Cert.Kernel6Ideal.τ) (sig := Cert.Kernel6Ideal.sig) (Val := Elt Bits) (Λ := Cert.Kernel6Ideal.Λ₀)) (funext fun x => funext fun a => match x, a with
    | 0, (t, s) => rfl
    | ⟨_ + 1, h⟩, _ => absurd h (Nat.not_lt.2 (Nat.le_add_left _ _)))
theorem same_main : @Cert.Kernel6.main Bits _ _ = @Cert.Kernel6Ideal.main Bits _ _ := by
  unfold Cert.Kernel6.main Cert.Kernel6Ideal.main
  rfl
theorem same_defs : @Cert.Kernel6.defs Bits _ _ = @Cert.Kernel6Ideal.defs Bits _ _ := by
  unfold Cert.Kernel6.defs Cert.Kernel6Ideal.defs
  exact congrArg (Pipeline.defs Cert.Kernel6Ideal.pcfgs) same_defs₀

theorem frame_pi : Cert.quiescent_Kernel6Ideal := fun m ρ h =>
  have hr := routed_of_pre _ _ _ _ _ (h 0)
  (θ_run Cert.Kernel6Ideal.defs _ _).mono (fun r h => ⟨fun c => (h.1 c).2, h.2⟩) (ends m ρ (inside m hr.1 hr.2))

theorem frame_p : Cert.quiescent_Kernel6 := fun m ρ h =>
  have hr := routed_of_pre _ _ _ _ _ (h 0)
  carry same_defs same_main (ends (F := Bits) m ρ (inside (F := Bits) m hr.1 hr.2)) (fun r h => ⟨fun c => (h.1 c).2, h.2⟩)

end Cert.Two

end
-- ==== Proof.TwoMath.lean ====
/- What the call of the experts returns: a row of a tile in use goes through the gated multilayer perceptron of the tile's expert, a row of any other tile is zero. -/
module

public import proofs.«01_k».proof.Proof.MoeMath

@[expose] public section

noncomputable section

namespace Cert.Two

open Cert.Moe (Reals Words swish)

open Idealize.ShloMosaic
open Idealize.ShloMosaic.TcCoe Idealize.SL.Sem Idealize.ShloMosaic.ValueIdx

variable (xs : Reals ⟨2, ![50176, 1024]⟩) (gu : Reals ⟨4, ![2, 32, 1024, 512]⟩) (dn : Reals ⟨4, ![2, 32, 256, 1024]⟩)

/-- Row `R` times column `j` of the first product of expert `e` in the second layer. -/
def first (R : Fin 50176) (e : Fin 32) (j : Fin 512) : EReal := ∑ d : Fin 1024, xs (ix2 R d) * gu (ix4 (1 : Fin 2) e d j)

/-- The gated hidden vector of row `R` at expert `e`. -/
def hidden (R : Fin 50176) (e : Fin 32) (f : Fin 256) : EReal :=
  swish (first xs gu R e ⟨f.val, by omega⟩) * first xs gu R e ⟨256 + f.val, by omega⟩

/-- Expert `e`'s output for row `R` at column `C`. -/
def expertOut (R : Fin 50176) (e : Fin 32) (C : Fin 1024) : EReal :=
  ∑ f : Fin 256, hidden xs gu R e f * dn (ix4 (1 : Fin 2) e f C)

/-- The array the call returns, from the table of experts, the number of tiles in use, the sorted rows and the weights. -/
def routed (te : Words ⟨1, ![98]⟩) (n : BitVec 32) : Reals ⟨2, ![50176, 1024]⟩ := fun i =>
  if (((i 0).val / 512 : ℕ) : Int) < n.toInt then
    expertOut xs gu dn (i 0) ⟨(te (Shape.Idx.ofFin (⟨(i 0).val / 512, by have h : (i 0).val < 50176 := (i 0).isLt; omega⟩ : Fin 98))).toNat % 32, by omega⟩ (i 1)
  else 0

end Cert.Two

end
-- ==== Proof.TwoTile.lean ====
/- The tile the experts' kernel leaves at a grid point, read at a row and a column. -/
module

public import proofs.«01_k».proof.Proof.TwoRun
public import proofs.«01_k».proof.Proof.TwoMath

@[expose] public section

noncomputable section

namespace Cert.Two

open Cert.Moe (Reals Words swish)

open Cert.Kernel6Ideal Cert.Kernel6Ideal.Gen
open Idealize.ShloMosaic
open Idealize.ShloMosaic.TcCoe Idealize.SL.Sem Idealize.ShloMosaic.ValueIdx

theorem dot_first : dot_S512x1024_S1024x512_S512x512_1_0_0_1_n_n = DotDims.plain 512 1024 512 := rfl
theorem dot_second : dot_S512x256_S256x1024_S512x1024_1_0_0_1_n_n = DotDims.plain 512 256 1024 := rfl

/-- The weight blocks without their leading axes of size one. -/
theorem gate_block (w : Reals S1x1x1024x512) (d : Fin 1024) (j : Fin 512) :
    shapeCast S1024x512 w shapeCasts_S1x1x1024x512_S1024x512 (ix2 d j) = w (ix4 (0 : Fin 1) (0 : Fin 1) d j) :=
  shapeCast_apply _ _ _ (ix4 (0 : Fin 1) (0 : Fin 1) d j) (by
    rw [Shape.rowMajor_val_four, Shape.rowMajor_val_two]
    show ((0 * 1 + 0) * 1024 + d.val) * 512 + j.val = d.val * 512 + j.val
    omega)

theorem down_block (w : Reals S1x1x256x1024) (f : Fin 256) (C : Fin 1024) :
    shapeCast S256x1024 w shapeCasts_S1x1x256x1024_S256x1024 (ix2 f C) = w (ix4 (0 : Fin 1) (0 : Fin 1) f C) :=
  shapeCast_apply _ _ _ (ix4 (0 : Fin 1) (0 : Fin 1) f C) (by
    rw [Shape.rowMajor_val_four, Shape.rowMajor_val_two]
    show ((0 * 1 + 0) * 256 + f.val) * 1024 + C.val = f.val * 1024 + C.val
    omega)

/-- The first product over a tile. -/
def tileFirst (x : Reals S512x1024) (wg : Reals S1x1x1024x512) : Reals S512x512 :=
  matmul (F := Ideal) (φ₁ := .bf16) (φ₂ := .bf16) dot_S512x1024_S1024x512_S512x512_1_0_0_1_n_n none x
    (shapeCast S1024x512 wg shapeCasts_S1x1x1024x512_S1024x512) (constant (F := Ideal) S512x512 .f32 0x00000000#32)

theorem tileFirst_apply (x : Reals S512x1024) (wg : Reals S1x1x1024x512) (r : Fin 512) (j : Fin 512) :
    tileFirst x wg (ix2 r j) = ∑ d : Fin 1024, x (ix2 r d) * wg (ix4 (0 : Fin 1) (0 : Fin 1) d j) := by
  unfold tileFirst
  rw [dot_first]
  refine (Ideal.matmul_plain_apply (φ₁ := .bf16) (φ₂ := .bf16) none _ _ _ r j).trans ?_
  show Ideal.ofBits .f32 0#32 + _ = _
  rw [Ideal.ofBits_zero_f32, zero_add]
  exact Finset.sum_congr rfl fun d _ => congrArg (x (ix2 r d) * ·) (gate_block wg d j)

theorem half_low (y : Reals S512x512) (r : Fin 512) (f : Fin 256) :
    extractStridedSlice S512x256 ![0, 0] y slices_S512x512_o0_0_S512x256 (ix2 r f) = y (ix2 r (⟨f.val, by omega⟩ : Fin 512)) :=
  extractStridedSlice_apply _ _ _ _ (ix2 r (⟨f.val, by omega⟩ : Fin 512)) (fun a => match a with
    | ⟨0, _⟩ => (Nat.zero_add _).symm
    | ⟨1, _⟩ => (Nat.zero_add _).symm)

theorem half_high (y : Reals S512x512) (r : Fin 512) (f : Fin 256) :
    extractStridedSlice S512x256 ![0, 256] y slices_S512x512_o0_256_S512x256 (ix2 r f) = y (ix2 r (⟨256 + f.val, by omega⟩ : Fin 512)) :=
  extractStridedSlice_apply _ _ _ _ (ix2 r (⟨256 + f.val, by omega⟩ : Fin 512)) (fun a => match a with
    | ⟨0, _⟩ => (Nat.zero_add _).symm
    | ⟨1, _⟩ => rfl)

/-- The gated hidden vectors of a tile. -/
def tileHidden (y : Reals S512x512) : Reals S512x256 :=
  mulf (F := Ideal) (φ := .f32) (divf (F := Ideal) (φ := .f32) (extractStridedSlice S512x256 ![0, 0] y slices_S512x512_o0_0_S512x256)
      (addf (F := Ideal) (φ := .f32) (broadcast S512x256 (Scalar.ofBits (F := Ideal) .f32 0x3F800000#32))
        (exp (F := Ideal) (φ := .f32) (subf (F := Ideal) (φ := .f32) (broadcast S512x256 (Scalar.ofBits (F := Ideal) .f32 0x00000000#32))
          (extractStridedSlice S512x256 ![0, 0] y slices_S512x512_o0_0_S512x256)))))
    (extractStridedSlice S512x256 ![0, 256] y slices_S512x512_o0_256_S512x256)

theorem tileHidden_apply (y : Reals S512x512) (r : Fin 512) (f : Fin 256) :
    tileHidden y (ix2 r f) = swish (y (ix2 r (⟨f.val, by omega⟩ : Fin 512))) * y (ix2 r (⟨256 + f.val, by omega⟩ : Fin 512)) := by
  unfold tileHidden swish
  rw [← half_low y r f, ← half_high y r f]
  generalize extractStridedSlice S512x256 ![0, 0] y slices_S512x512_o0_0_S512x256 = a
  generalize extractStridedSlice S512x256 ![0, 256] y slices_S512x512_o0_256_S512x256 = b
  show Ideal.div (a (ix2 r f)) (Ideal.ofBits .f32 0x3F800000#32 + Ideal.exp (Ideal.ofBits .f32 0#32 - a (ix2 r f))) * b (ix2 r f) = _
  rw [Ideal.ofBits_one_f32, Ideal.ofBits_zero_f32, zero_sub]

theorem pay1_eq (x : Reals S512x1024) (wg : Reals S1x1x1024x512) (wd : Reals S1x1x256x1024) :
    k0_pay1 (F := Ideal) x wg wd = matmul (F := Ideal) (φ₁ := .bf16) (φ₂ := .bf16) dot_S512x256_S256x1024_S512x1024_1_0_0_1_n_n none
      (tileHidden (tileFirst x wg)) (shapeCast S256x1024 wd shapeCasts_S1x1x256x1024_S256x1024) (constant (F := Ideal) S512x1024 .f32 0x00000000#32) := rfl

/-- The tile of a point in use. -/
theorem pay1_apply (x : Reals S512x1024) (wg : Reals S1x1x1024x512) (wd : Reals S1x1x256x1024) (r : Fin 512) (C : Fin 1024) :
    k0_pay1 (F := Ideal) x wg wd (ix2 r C) = ∑ f : Fin 256,
      (swish (∑ d : Fin 1024, x (ix2 r d) * wg (ix4 (0 : Fin 1) (0 : Fin 1) d (⟨f.val, by omega⟩ : Fin 512)))
        * ∑ d : Fin 1024, x (ix2 r d) * wg (ix4 (0 : Fin 1) (0 : Fin 1) d (⟨256 + f.val, by omega⟩ : Fin 512)))
      * wd (ix4 (0 : Fin 1) (0 : Fin 1) f C) := by
  rw [pay1_eq, dot_second]
  refine (Ideal.matmul_plain_apply (φ₁ := .bf16) (φ₂ := .bf16) none _ _ _ r C).trans ?_
  show Ideal.ofBits .f32 0#32 + _ = _
  rw [Ideal.ofBits_zero_f32, zero_add]
  refine Finset.sum_congr rfl fun f _ => congrArg₂ (· * ·) ?_ (down_block wd f C)
  rw [tileHidden_apply, tileFirst_apply, tileFirst_apply]

/-- The tile of any other point. -/
theorem pay2_apply (i : S512x1024.Idx) : k0_pay2 (F := Ideal) i = (0 : EReal) := Ideal.ofBits_zero_f32

/-- Which points are in use. -/
theorem cond1_iff (i : grid0.Coords) (n : BitVec 32) : k0_cond1 i n = 1#1 ↔ ((i 0).val : Int) < n.toInt := by
  have hi : (i 0).val < 98 := (i 0).isLt
  have e : (BitVec.ofNat 32 (i 0).val).toInt = (i 0).val := by rw [BitVec.toInt_ofNat']; simp [Int.bmod]; omega
  rw [← e, ← BitVec.slt_iff_toInt_lt]
  unfold k0_cond1
  simp only [Scalar.cmpi, Scalar.extui, IntOp.cmpi]
  generalize BitVec.slt (BitVec.ofNat 32 (i 0).val) n = b
  revert b; decide

end Cert.Two

end
-- ==== Proof.TwoValue.lean ====
/- The array the call of the experts leaves, over the extended reals. -/
module

public import proofs.«01_k».proof.Proof.TwoPre
public import proofs.«01_k».proof.Proof.TwoTile

@[expose] public section

set_option maxRecDepth 16384

noncomputable section

namespace Cert.Two

open Cert.Moe (Reals Words swish tileNo tileNo_le tileNo_used)

open Cert.Kernel6Ideal Cert.Kernel6Ideal.Gen
open Idealize.ShloMosaic
open Idealize.ShloMosaic.TcCoe Idealize.SL.Sem Idealize.ShloMosaic.ValueIdx
open Idealize.ShloMosaic.Pipeline (Dat Cfg Window)

attribute [local irreducible] at0

variable (m : (ℓ : Loc nD τ sig) → Buf (Elt Ideal) ℓ) (hO : Inside m) (c : Dev nD)

theorem points (t : Fin grid0.N) : (grid0.coords t 0).val = t.val :=
  (by decide +kernel : ∀ t : Fin grid0.N, (grid0.coords t 0).val = t.val) t

theorem lt_points (t : Fin grid0.N) : t.val < 98 := t.isLt

/-- The number of tiles in use, and the expert of the tile of a point, as the call finds them. -/
abbrev count : BitVec 32 := used (tables m 1)
abbrev expertOf (t : Fin grid0.N) : Nat := ((tables m 0 : IVec S98 32) (Shape.Idx.ofFin (⟨t.val, lt_points t⟩ : Fin 98))).toNat

theorem map_rows_at (t : Fin grid0.N) :
    cc0_transform_0 inb_S1_S1_0 numel1_S1 (tables m) (grid0.coords t) = ![(tileNo (count m) t.val).toNat, 0] := by
  rw [map_rows, points]

theorem point_index (t : Fin grid0.N) : (⟨(grid0.coords t 0).val, (grid0.coords t 0).isLt⟩ : Fin 98) = ⟨t.val, lt_points t⟩ :=
  Fin.ext (points t)

theorem map_gate_at (t : Fin grid0.N) :
    cc0_transform_1 k0_off1_inb numel1_S1 (tables m) (grid0.coords t) = ![1, expertOf m t, 0, 0] := by
  rw [map_gate, point_index]

theorem map_down_at (t : Fin grid0.N) :
    cc0_transform_2 k0_off1_inb numel1_S1 (tables m) (grid0.coords t) = ![1, expertOf m t, 0, 0] := by
  rw [map_down, point_index]

/-- A row of a tile in use. -/
theorem rows_block (t : Fin grid0.N) (h : (t.val : Int) < (count m).toInt) (r : Fin 512) (d : Fin 1024) (R : Fin 50176)
    (hR : R.val = 512 * t.val + r.val) :
    (blockAt m hO c 0 t : Reals S512x1024) (ix2 r d) = (at0 m c main_arg2 : Reals S50176x1024) (ix2 R d) := by
  have ht := lt_points t
  unfold blockAt
  refine (View.read_apply _ _).trans ?_
  show (at0 m c main_arg2 : Reals S50176x1024) _ = _
  congr 1
  funext a
  apply Fin.ext
  have e := map_rows_at m t
  rw [tileNo_used _ _ ht h] at e
  match a with
  | ⟨0, _⟩ =>
    show cc0_transform_0 inb_S1_S1_0 numel1_S1 (tables m) (grid0.coords t) 0 * 512 + 1 * r.val = R.val
    rw [e]
    show (BitVec.ofNat 32 t.val).toNat * 512 + 1 * r.val = R.val
    rw [BitVec.toNat_ofNat]
    omega
  | ⟨1, _⟩ =>
    show cc0_transform_0 inb_S1_S1_0 numel1_S1 (tables m) (grid0.coords t) 1 * 1024 + 1 * d.val = d.val
    rw [e]
    show 0 * 1024 + 1 * d.val = d.val
    omega

/-- The weights of the tile's expert, in the second layer. -/
theorem gate_at (t : Fin grid0.N) (e : Fin 32) (he : e.val = expertOf m t) (d : Fin 1024) (j : Fin 512) :
    (blockAt m hO c 1 t : Reals S1x1x1024x512) (ix4 (0 : Fin 1) (0 : Fin 1) d j)
      = (at0 m c main_arg3 : Reals S2x32x1024x512) (ix4 (1 : Fin 2) e d j) := by
  unfold blockAt
  refine (View.read_apply _ _).trans ?_
  show (at0 m c main_arg3 : Reals S2x32x1024x512) _ = _
  congr 1
  funext a
  apply Fin.ext
  have E := map_gate_at m t
  match a with
  | ⟨0, _⟩ =>
    show cc0_transform_1 k0_off1_inb numel1_S1 (tables m) (grid0.coords t) 0 * 1 + 1 * 0 = 1
    rw [E]; rfl
  | ⟨1, _⟩ =>
    show cc0_transform_1 k0_off1_inb numel1_S1 (tables m) (grid0.coords t) 1 * 1 + 1 * 0 = e.val
    rw [E, he]; show expertOf m t * 1 + 1 * 0 = _; omega
  | ⟨2, _⟩ =>
    show cc0_transform_1 k0_off1_inb numel1_S1 (tables m) (grid0.coords t) 2 * 1024 + 1 * d.val = d.val
    rw [E]; show 0 * 1024 + 1 * d.val = d.val; omega
  | ⟨3, _⟩ =>
    show cc0_transform_1 k0_off1_inb numel1_S1 (tables m) (grid0.coords t) 3 * 512 + 1 * j.val = j.val
    rw [E]; show 0 * 512 + 1 * j.val = j.val; omega

theorem down_at (t : Fin grid0.N) (e : Fin 32) (he : e.val = expertOf m t) (f : Fin 256) (C : Fin 1024) :
    (blockAt m hO c 2 t : Reals S1x1x256x1024) (ix4 (0 : Fin 1) (0 : Fin 1) f C)
      = (at0 m c main_arg4 : Reals S2x32x256x1024) (ix4 (1 : Fin 2) e f C) := by
  unfold blockAt
  refine (View.read_apply _ _).trans ?_
  show (at0 m c main_arg4 : Reals S2x32x256x1024) _ = _
  congr 1
  funext a
  apply Fin.ext
  have E := map_down_at m t
  match a with
  | ⟨0, _⟩ =>
    show cc0_transform_2 k0_off1_inb numel1_S1 (tables m) (grid0.coords t) 0 * 1 + 1 * 0 = 1
    rw [E]; rfl
  | ⟨1, _⟩ =>
    show cc0_transform_2 k0_off1_inb numel1_S1 (tables m) (grid0.coords t) 1 * 1 + 1 * 0 = e.val
    rw [E, he]; show expertOf m t * 1 + 1 * 0 = _; omega
  | ⟨2, _⟩ =>
    show cc0_transform_2 k0_off1_inb numel1_S1 (tables m) (grid0.coords t) 2 * 256 + 1 * f.val = f.val
    rw [E]; show 0 * 256 + 1 * f.val = f.val; omega
  | ⟨3, _⟩ =>
    show cc0_transform_2 k0_off1_inb numel1_S1 (tables m) (grid0.coords t) 3 * 1024 + 1 * C.val = C.val
    rw [E]; show 0 * 1024 + 1 * C.val = C.val; omega

/-- What the call returns, of the buffers as it finds them. -/
abbrev outcome : Reals S50176x1024 :=
  routed (at0 m c main_arg2 : Reals S50176x1024) (at0 m c main_arg3 : Reals S2x32x1024x512) (at0 m c main_arg4 : Reals S2x32x256x1024)
    (argTe m) (count m)

/-- The tile of a point is the tile of the array returned. -/
theorem tile_apply (hte : ∀ i, (argTe m i).toNat < 32) (t : Fin grid0.N) (r : Fin 512) (C : Fin 1024) (R : Fin 50176)
    (hR : R.val = 512 * t.val + r.val) :
    (tileAt m hO c t : Reals S512x1024) (ix2 r C) = outcome m c (ix2 R C) := by
  have ht := lt_points t
  have hdiv : R.val / 512 = t.val := by omega
  unfold tileAt tileOut outcome routed
  by_cases h : (t.val : Int) < (count m).toInt
  · have hp : ((((ix2 R C : S50176x1024.Idx) 0).val / 512 : ℕ) : Int) < (count m).toInt := by
      show ((R.val / 512 : ℕ) : Int) < _
      rw [hdiv]; exact h
    rw [if_pos ((cond1_iff _ _).2 (by rw [points]; exact h)), if_pos hp]
    refine (pay1_apply _ _ _ r C).trans ?_
    have hE : expertOf m t = (argTe m (Shape.Idx.ofFin (⟨t.val, ht⟩ : Fin 98))).toNat := by
      exact congrArg BitVec.toNat (table_used m ⟨t.val, ht⟩ h)
    have key : ∀ (p : Fin 98) (hpt : p = ⟨t.val, ht⟩), ((argTe m (Shape.Idx.ofFin p)).toNat % 32) = expertOf m t := by
      rintro p rfl
      rw [hE, Nat.mod_eq_of_lt (hte _)]
    unfold expertOut hidden first
    have he : (⟨(argTe m (Shape.Idx.ofFin (⟨R.val / 512, by omega⟩ : Fin 98))).toNat % 32, by omega⟩ : Fin 32).val = expertOf m t :=
      key _ (Fin.ext hdiv)
    refine Finset.sum_congr rfl fun f _ => ?_
    refine congrArg₂ (· * ·) (congrArg₂ (· * ·) (congrArg swish ?_) ?_) (down_at m hO c t _ he f C)
    · exact Finset.sum_congr rfl fun d _ => congrArg₂ (· * ·) (rows_block m hO c t h r d R hR) (gate_at m hO c t _ he d _)
    · exact Finset.sum_congr rfl fun d _ => congrArg₂ (· * ·) (rows_block m hO c t h r d R hR) (gate_at m hO c t _ he d _)
  · have hn : ¬ ((((ix2 R C : S50176x1024.Idx) 0).val / 512 : ℕ) : Int) < (count m).toInt := by
      show ¬ ((R.val / 512 : ℕ) : Int) < _
      rw [hdiv]; exact h
    rw [if_neg (fun hc => h (by have := (cond1_iff _ _).1 hc; rw [points] at this; exact this)), if_neg hn]
    exact pay2_apply _

theorem out_index (t : Fin grid0.N) : cc0_transform_3 (grid0.coords t) = ![t.val, 0] := by
  rw [← points t]
  have h : (grid0.coords t 0).val < 98 := (grid0.coords t 0).isLt
  unfold cc0_transform_3
  funext a
  match a with
  | ⟨0, _⟩ => show (BitVec.ofNat 32 (grid0.coords t 0).val).toNat = (grid0.coords t 0).val; rw [BitVec.toNat_ofNat]; omega
  | ⟨1, _⟩ => rfl

end Cert.Two

end
-- ==== Proof.TwoRef.lean ====
/- The reference's mixture read at a row and a column: the row's own expert is the only one with a weight. -/
module

public import proofs.«01_k».proof.Proof.Gen.Reference6Ideal.Run
public import proofs.«01_k».proof.Proof.Gen.Reference6Ideal.Read
public import proofs.«01_k».proof.Proof.TwoMath
public import proofs.«01_k».proof.Proof.MoeRef

@[expose] public section

set_option maxRecDepth 16384

noncomputable section

namespace Cert.Two.Ref

open Cert.Moe (Reals Words swish swish_eq)
open Cert.Moe.Ref (sum_side)

open Cert.Reference6Ideal Cert.Reference6Ideal.Read
open Idealize.ShloMosaic
open Idealize.ShloMosaic.TcCoe Idealize.SL.Sem Idealize.ShloMosaic.ValueIdx

variable (te : Words S98) (n : Words S1) (xs : Reals S50176x1024) (gu : Reals S2x32x1024x512) (dn : Reals S2x32x256x1024)

theorem one_word (h : S1.ShapeCasts S_) (i : S_.Idx) : shapeCast S_ n h i = n (Shape.Idx.first (s := S1) (by decide)) := by
  unfold shapeCast
  exact congrArg n (funext fun a => match a with | ⟨0, _⟩ => Subsingleton.elim (α := Fin 1) _ _)

/-- The first product. -/
theorem first_apply (R : Fin 50176) (e : Fin 32) (j : Fin 512) :
    (val_main_v20 (F := Ideal) xs gu : Reals S50176x32x512) (ix3 R e j) = first xs gu R e j := by
  rw [val_main_v20_apply]
  unfold first
  refine Finset.sum_congr rfl fun d _ => congrArg₂ (· * ·) (congrArg xs ?_) ?_
  · exact funext fun a => match a with | ⟨0, _⟩ => rfl | ⟨1, _⟩ => rfl
  · rw [val_main_v19_apply, val_main_v18_apply]
    refine congrArg gu (funext fun a => Fin.ext ?_)
    have he := e.isLt
    have hd := d.isLt
    have hj := j.isLt
    match a with
    | ⟨0, _⟩ => rfl
    | ⟨1, _⟩ => show ((e.val * 1024 + d.val) * 512 + j.val) / 524288 % 32 = e.val; omega
    | ⟨2, _⟩ => show ((e.val * 1024 + d.val) * 512 + j.val) / 512 % 1024 = d.val; omega
    | ⟨3, _⟩ => show ((e.val * 1024 + d.val) * 512 + j.val) % 512 = j.val; omega

/-- The gated hidden vectors, of every expert. -/
theorem hidden_apply (R : Fin 50176) (e : Fin 32) (f : Fin 256) :
    (val_main_v24 (F := Ideal) xs gu : Reals S50176x32x256) (ix3 R e f) = hidden xs gu R e f := by
  have e1 : idx_main_v21 (ix3 R e f) = ix3 R e (⟨f.val, by omega⟩ : Fin 512) :=
    funext fun a => match a with | ⟨0, _⟩ => rfl | ⟨1, _⟩ => rfl | ⟨2, _⟩ => rfl
  have e2 : idx_main_v22 (ix3 R e f) = ix3 R e (⟨256 + f.val, by omega⟩ : Fin 512) :=
    funext fun a => match a with | ⟨0, _⟩ => rfl | ⟨1, _⟩ => rfl | ⟨2, _⟩ => rfl
  have h1 := (val_main_v21_apply (F := Ideal) xs gu (ix3 R e f)).trans ((congrArg _ e1).trans (first_apply xs gu R e _))
  have h2 := (val_main_v22_apply (F := Ideal) xs gu (ix3 R e f)).trans ((congrArg _ e2).trans (first_apply xs gu R e _))
  rw [val_main_v24_apply, val_main_v23_apply, val_main_call0_v5_apply, val_main_call0_v4_apply, val_main_call0_cst_0_apply,
    val_main_call0_v3_apply, val_main_call0_v2_apply, val_main_call0_cst_apply, val_main_call0_v1_apply, val_main_call0_v0_apply, h1, h2]
  unfold hidden
  generalize first xs gu R e ⟨f.val, by omega⟩ = g
  generalize first xs gu R e ⟨256 + f.val, by omega⟩ = u
  rw [← swish_eq g]
  show (g * Ideal.div (Ideal.ofBits .f32 0x3F800000#32) (Ideal.ofBits .f32 0x3F800000#32 + Ideal.exp (-g))) * u = _
  rw [Ideal.ofBits_one_f32]

/-- The combine weight of a row at an expert. -/
theorem weight_apply (R : Fin 50176) (e : Fin 32) :
    (val_main_v17 (F := Ideal) te n : Reals S50176x32) (ix2 R e)
      = if (te (Shape.Idx.ofFin (⟨R.val / 512, by omega⟩ : Fin 98)) = BitVec.ofNat 32 e.val)
          ∧ ((R.val / 512 : ℕ) : Int) < (n (Shape.Idx.first (s := S1) (by decide))).toInt then 1 else 0 := by
  have hR := R.isLt
  have a8 : (val_main_v8 (F := Ideal) te : Words S50176x32) (ix2 R e) = te (Shape.Idx.ofFin (⟨R.val / 512, by omega⟩ : Fin 98)) := by
    rw [val_main_v8_apply, val_main_v5_apply, val_main_v4_apply, val_main_v3_apply]
    exact congrArg te (funext fun a => match a with | ⟨0, _⟩ => rfl)
  have a9 : (val_main_v9 (F := Ideal) : Words S50176x32) (ix2 R e) = BitVec.ofNat 32 e.val := by
    rw [val_main_v9_apply, val_main_v7_apply, val_main_v6_apply]
  have a2 : (val_main_v2 (F := Ideal) : Words S50176) (Shape.Idx.ofFin R) = BitVec.ofNat 32 (R.val / 512) := by
    rw [val_main_v2_apply, val_main_v1_apply, val_main_v0_apply]
    rfl
  have a12 : (val_main_v12 (F := Ideal) n : Words S50176) (Shape.Idx.ofFin R) = n (Shape.Idx.first (s := S1) (by decide)) := by
    rw [val_main_v12_apply]
    exact one_word n _ _
  have a15 : (val_main_v15 (F := Ideal) n : S50176x32.Idx → BitVec 1) (ix2 R e)
      = IntOp.cmpi .slt (BitVec.ofNat 32 (R.val / 512)) (n (Shape.Idx.first (s := S1) (by decide))) := by
    rw [val_main_v15_apply, val_main_v14_apply,
      show idx_main_v14 (idx_main_v15 (ix2 R e)) = Shape.Idx.ofFin R from funext fun a => match a with | ⟨0, _⟩ => rfl,
      val_main_v13_apply, a2, a12]
  rw [val_main_v17_apply, val_main_v16_apply, val_main_v10_apply, a8, a9, a15]
  generalize te (Shape.Idx.ofFin (⟨R.val / 512, by omega⟩ : Fin 98)) = x
  generalize n (Shape.Idx.first (s := S1) (by decide)) = y
  have ey : (BitVec.ofNat 32 (R.val / 512)).toInt = ((R.val / 512 : ℕ) : Int) := StableHlo.Predicate.toInt_ofNat_small _ (by omega)
  have hiff : ((R.val / 512 : ℕ) : Int) < y.toInt ↔ BitVec.slt (BitVec.ofNat 32 (R.val / 512)) y = true := by
    rw [← ey, BitVec.slt_iff_toInt_lt]
  simp only [hiff]
  show (((IntOp.andi (IntOp.cmpi .eq x (BitVec.ofNat 32 e.val)) (IntOp.cmpi .slt (BitVec.ofNat 32 (R.val / 512)) y)).toNat : ℝ) : EReal) = _
  generalize BitVec.ofNat 32 (R.val / 512) = z
  generalize BitVec.ofNat 32 e.val = w
  simp only [IntOp.andi, IntOp.cmpi]
  by_cases h1 : x = w
  · by_cases h2 : BitVec.slt z y = true <;> simp [h1, h2]
  · have h1' : (x == w) = false := beq_eq_false_iff_ne.2 h1
    by_cases h2 : BitVec.slt z y = true <;> simp [h1, h1', h2]

/-- A weighted hidden vector, of every expert. -/
theorem weighted_apply (R : Fin 50176) (e : Fin 32) (f : Fin 256) :
    (val_main_v27 (F := Ideal) te n xs gu : Reals S50176x32x256) (ix3 R e f)
      = hidden xs gu R e f * (val_main_v17 (F := Ideal) te n : Reals S50176x32) (ix2 R e) := by
  rw [val_main_v27_apply, val_main_v26_apply, val_main_v25_apply, hidden_apply]
  exact congrArg (hidden xs gu R e f * ·) (congrArg (val_main_v17 (F := Ideal) te n) (funext fun a => match a with | ⟨0, _⟩ => rfl | ⟨1, _⟩ => rfl))

/-- The output weights, the experts side by side. -/
theorem down_apply (k : Fin 8192) (e : Fin 32) (f : Fin 256) (hk : k.val = f.val + 256 * e.val) (C : Fin 1024) :
    (val_main_v31 (F := Ideal) dn : Reals S8192x1024) (ix2 k C) = dn (ix4 (1 : Fin 2) e f C) := by
  rw [val_main_v31_apply, val_main_v30_apply, val_main_v29_apply]
  refine congrArg dn (funext fun a => Fin.ext ?_)
  have he := e.isLt
  have hf := f.isLt
  have hC := C.isLt
  have q0 : (k.val * 1024 + C.val) / 262144 = e.val := by omega
  have q1 : (k.val * 1024 + C.val) / 1024 % 256 = f.val := by omega
  have q2 : (k.val * 1024 + C.val) % 1024 = C.val := by omega
  match a with
  | ⟨0, _⟩ => rfl
  | ⟨1, _⟩ =>
    show (((k.val * 1024 + C.val) / 262144 * 256 + (k.val * 1024 + C.val) / 1024 % 256) * 1024 + (k.val * 1024 + C.val) % 1024) / 262144 % 32 = e.val
    rw [q0, q1, q2]; omega
  | ⟨2, _⟩ =>
    show (((k.val * 1024 + C.val) / 262144 * 256 + (k.val * 1024 + C.val) / 1024 % 256) * 1024 + (k.val * 1024 + C.val) % 1024) / 1024 % 256 = f.val
    rw [q0, q1, q2]; omega
  | ⟨3, _⟩ =>
    show (((k.val * 1024 + C.val) / 262144 * 256 + (k.val * 1024 + C.val) / 1024 % 256) * 1024 + (k.val * 1024 + C.val) % 1024) % 1024 = C.val
    rw [q0, q1, q2]; omega

/-- The weighted hidden vectors, the experts side by side. -/
theorem side_apply (R : Fin 50176) (k : Fin 8192) (e : Fin 32) (f : Fin 256) (hk : k.val = f.val + 256 * e.val) :
    (val_main_v28 (F := Ideal) te n xs gu : Reals S50176x8192) (ix2 R k)
      = hidden xs gu R e f * (val_main_v17 (F := Ideal) te n : Reals S50176x32) (ix2 R e) := by
  rw [val_main_v28_apply, ← weighted_apply]
  refine congrArg (val_main_v27 (F := Ideal) te n xs gu) (funext fun a => Fin.ext ?_)
  have he := e.isLt
  have hf := f.isLt
  match a with
  | ⟨0, _⟩ => show (R.val * 8192 + k.val) / 8192 = R.val; omega
  | ⟨1, _⟩ => show (R.val * 8192 + k.val) / 256 % 32 = e.val; omega
  | ⟨2, _⟩ => show (R.val * 8192 + k.val) % 256 = f.val; omega

/-- The reference's result, at a row and a column. -/
theorem ref_apply (hte : ∀ i, (te i).toNat < 32) (R : Fin 50176) (C : Fin 1024) :
    (val_main_v32 (F := Ideal) te n xs gu dn : Reals S50176x1024) (ix2 R C)
      = routed xs gu dn te (n (Shape.Idx.first (s := S1) (by decide))) (ix2 R C) := by
  have hR := R.isLt
  rw [val_main_v32_apply]
  rw [show (∑ k : Fin 8192, (val_main_v28 (F := Ideal) te n xs gu) (lidx_main_v32 (ix2 R C) k) * (val_main_v31 (F := Ideal) dn) (ridx_main_v32 (ix2 R C) k))
      = ∑ k : Fin 8192, (val_main_v28 (F := Ideal) te n xs gu : Reals S50176x8192) (ix2 R k) * (val_main_v31 (F := Ideal) dn : Reals S8192x1024) (ix2 k C) from
    Finset.sum_congr rfl fun k _ => congrArg₂ (· * ·)
      (congrArg (val_main_v28 (F := Ideal) te n xs gu) (funext fun a => match a with | ⟨0, _⟩ => rfl | ⟨1, _⟩ => rfl))
      (congrArg (val_main_v31 (F := Ideal) dn) (funext fun a => match a with | ⟨0, _⟩ => rfl | ⟨1, _⟩ => rfl))]
  rw [sum_side _ (fun e f => (hidden xs gu R e f * (val_main_v17 (F := Ideal) te n : Reals S50176x32) (ix2 R e)) * dn (ix4 (1 : Fin 2) e f C))
    (fun k e f hk => congrArg₂ (· * ·) (side_apply te n xs gu R k e f hk) (down_apply dn k e f hk C))]
  show _ = if ((R.val / 512 : ℕ) : Int) < (n (Shape.Idx.first (s := S1) (by decide))).toInt then
      expertOut xs gu dn R ⟨(te (Shape.Idx.ofFin (⟨R.val / 512, by omega⟩ : Fin 98))).toNat % 32, by omega⟩ C else 0
  have hx := hte (Shape.Idx.ofFin (⟨R.val / 512, by omega⟩ : Fin 98))
  have hw := fun e => weight_apply te n R e
  by_cases h : ((R.val / 512 : ℕ) : Int) < (n (Shape.Idx.first (s := S1) (by decide))).toInt
  · rw [if_pos h, Finset.sum_eq_single (⟨(te (Shape.Idx.ofFin (⟨R.val / 512, by omega⟩ : Fin 98))).toNat % 32, by omega⟩ : Fin 32)]
    · unfold expertOut
      refine Finset.sum_congr rfl fun f _ => ?_
      rw [hw, if_pos ⟨BitVec.eq_of_toNat_eq (by rw [BitVec.toNat_ofNat]; dsimp only; omega), h⟩, mul_one]
    · intro e _ hne
      refine Finset.sum_eq_zero fun f _ => ?_
      rw [hw, if_neg, mul_zero, zero_mul]
      rintro ⟨e1, -⟩
      refine hne (Fin.ext ?_)
      have he := e.isLt
      have e2 := congrArg BitVec.toNat e1
      rw [BitVec.toNat_ofNat] at e2
      dsimp only
      omega
    · exact fun hn => absurd (Finset.mem_univ _) hn
  · rw [if_neg h]
    refine Finset.sum_eq_zero fun e _ => Finset.sum_eq_zero fun f _ => ?_
    rw [hw, if_neg (fun hh => h hh.2), mul_zero, zero_mul]

theorem ref_read (hte : ∀ i, (te i).toNat < 32) :
    (val_main_v32 (F := Ideal) te n xs gu dn : Reals S50176x1024)
      = routed xs gu dn te (n (Shape.Idx.first (s := S1) (by decide))) := by
  funext i
  have e := eq_ix2 (n0 := 50176) (n1 := 1024) i
  exact (congrArg (val_main_v32 (F := Ideal) te n xs gu dn) e).trans ((ref_apply te n xs gu dn hte _ _).trans (congrArg (routed xs gu dn te _) e.symm))

end Cert.Two.Ref

end
-- ==== Proof.TwoClaim.lean ====
/- The claims about the call of the experts. -/
module

public import proofs.«01_k».proof.Defs
public import proofs.«01_k».proof.Proof.TwoValue
public import proofs.«01_k».proof.Proof.TwoRef

@[expose] public section

set_option maxRecDepth 16384

noncomputable section

namespace Cert.Two

open Cert.Moe (Reals Words preFacts routed_of_pre)

open Cert.Kernel6Ideal Cert.Kernel6Ideal.Gen
open Idealize.ShloMosaic
open Idealize.ShloMosaic.TcCoe Idealize.SL.Sem Idealize.ShloMosaic.ValueIdx
open Idealize.ShloMosaic.Pipeline (Dat Cfg Window)

attribute [local irreducible] at0

variable (m : (ℓ : Loc nD τ sig) → Buf (Elt Ideal) ℓ) (hO : Inside m) (c : Dev nD)

/-- Every point writes a tile back. -/
theorem writes_back (t : Fin (pipe m hO).N) : ((pipe m hO).win 3).flush t = true := by
  rw [Window.flush_eq_flushOf]
  show Window.flushOf grid0 true cc0_transform_3 t = true
  unfold Window.flushOf
  rw [Bool.true_and, Bool.or_eq_true, decide_eq_true_iff, decide_eq_true_iff]
  by_cases h : t.val + 1 = grid0.N
  · exact .inl h
  · have ht : t.val < grid0.N := t.isLt
    refine .inr ⟨by omega, fun e => ?_⟩
    have e0 := congrFun ((out_index _).symm.trans (e.trans (out_index t))) 0
    have e1 : t.val + 1 = t.val := e0
    omega

/-- What a point writes back is its tile of the array returned. -/
theorem writes_tile (hte : ∀ i, (argTe m i).toNat < 32) (t : Fin (pipe m hO).N) :
    (acct m hO 0 c).flushed 3 t = (((pipe m hO).win 3).blk t).view.read (Elt Ideal) (outcome m c : Buf (Elt Ideal) ((c : Thread nD τ).loc main_v7)) := by
  have ht := lt_points t
  show ((pipe m hO).win 3).cut ((pipe m hO).grid.coords t) ((acct m hO 0 c).after 3 t) = _
  rw [acct_3]
  refine funext fun (y : S512x1024.Idx) => ?_
  refine Eq.trans ?_ (View.read_apply _ _).symm
  have hy0 : (y 0).val < 512 := (y 0).isLt
  refine Eq.trans (congrArg (tileAt m hO c t : Reals S512x1024) (eq_ix2 (n0 := 512) (n1 := 1024) y))
    ((tile_apply m hO c hte t (y 0) (y 1) ⟨512 * t.val + (y 0).val, by omega⟩ rfl).trans ?_)
  show outcome m c _ = outcome m c _
  congr 1
  funext a
  apply Fin.ext
  have e := out_index t
  match a with
  | ⟨0, _⟩ =>
    show 512 * t.val + (y 0).val = cc0_transform_3 (grid0.coords t) 0 * 512 + 1 * (y 0).val
    rw [e]; show _ = t.val * 512 + 1 * (y 0).val; omega
  | ⟨1, _⟩ =>
    show (y 1).val = cc0_transform_3 (grid0.coords t) 1 * 1024 + 1 * (y 1).val
    rw [e]; show _ = 0 * 1024 + 1 * (y 1).val; omega

theorem tile_inside (t : Fin grid0.N) (a : Fin 2) : cc0_transform_3 (grid0.coords t) a * S512x1024.size a + S512x1024.size a ≤ S50176x1024.size a := by
  have ht := lt_points t
  rw [out_index t]
  match a with
  | ⟨0, _⟩ => show t.val * 512 + 512 ≤ 50176; omega
  | ⟨1, _⟩ => show 0 * 1024 + 1024 ≤ 1024; omega

theorem tile_mem (off size : Fin 2 → Nat) (inb : ∀ a, off a + size a ≤ S50176x1024.size a) (i : S50176x1024.Idx)
    (h : ∀ a, off a ≤ (i a : Nat) ∧ (i a : Nat) < off a + size a) :
    i ∈ ((View.whole main_v7).slice (Rect.unit (s := S50176x1024) off size inb)).set := by
  rw [show ((View.whole main_v7).slice (Rect.unit (s := S50176x1024) off size inb)).set = (Rect.unit (s := S50176x1024) off size inb).set from
    View.set_slice_whole main_v7 _]
  exact Rect.mem_set_unit.2 h

/-- Every row lies in the tile some point writes. -/
theorem covered (t : Fin (pipe m hO).N) (i : S50176x1024.Idx) (h : (i 0).val / 512 = t.val) :
    i ∈ (((pipe m hO).win 3).blk t).view.set := by
  have h0 : (i 0).val < 50176 := (i 0).isLt
  have h1 : (i 1).val < 1024 := (i 1).isLt
  refine tile_mem (fun a => cc0_transform_3 (grid0.coords t) a * S512x1024.size a) S512x1024.size (tile_inside t) i ?_
  have e := out_index t
  intro a
  match a with
  | ⟨0, _⟩ =>
    show cc0_transform_3 (grid0.coords t) 0 * 512 ≤ (i 0 : Nat) ∧ (i 0 : Nat) < cc0_transform_3 (grid0.coords t) 0 * 512 + 512
    rw [e]; show t.val * 512 ≤ (i 0 : Nat) ∧ (i 0 : Nat) < t.val * 512 + 512; omega
  | ⟨1, _⟩ =>
    show cc0_transform_3 (grid0.coords t) 1 * 1024 ≤ (i 1 : Nat) ∧ (i 1 : Nat) < cc0_transform_3 (grid0.coords t) 1 * 1024 + 1024
    rw [e]; show 0 * 1024 ≤ (i 1 : Nat) ∧ (i 1 : Nat) < 0 * 1024 + 1024; omega

theorem written_eq (hte : ∀ i, (argTe m i).toNat < 32) : written m hO c = outcome m c := by
  unfold written
  exact (acct m hO 0 c).arrAt_eq_of_cover 3 (outcome m c) (fun t _ => writes_tile m hO c hte t) (fun (i : S50176x1024.Idx) =>
    ⟨⟨(i 0 : Nat) / 512, by have h0 : (i 0).val < 50176 := (i 0).isLt; show _ < 98; omega⟩, writes_back m hO _, covered m hO _ i rfl⟩)

/-- What the call returns, of the arguments. -/
theorem outcome_eq : outcome m 0 = routed (m (((0 : Dev nD) : Thread nD τ).loc main_arg2) : Reals S50176x1024)
    (m (((0 : Dev nD) : Thread nD τ).loc main_arg3) : Reals S2x32x1024x512) (m (((0 : Dev nD) : Thread nD τ).loc main_arg4) : Reals S2x32x256x1024)
    (argTe m) (argN m (Shape.Idx.first (s := S1) (by decide))) :=
  (congr (congr (congr (congr (congrArg routed (at0_arg2 m 0)) (at0_arg3 m 0)) (at0_arg4 m 0)) rfl) (used_eq m) :)

theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_ri_pre : Cert.quiescent_Reference6Ideal_pre_tiles_routed := fun m ρ _ => frame_ri m ρ trivial

theorem algebraic : Cert.algebraic_Kernel6Ideal_Reference6Ideal := by
  intro m ρ m' ρ' hpre hagree
  obtain ⟨hte, hn⟩ := routed_of_pre _ _ _ _ _ (hpre 0)
  have hO : Inside m := inside m hte hn
  refine ⟨fun c => outcome m c, (θ_run _ _ _).mono (fun _ h c => ⟨(h.1 c).1.trans (written_eq m hO c hte), (h.1 c).2⟩) (ends m ρ hO), ?_⟩
  refine (θ_run _ _ _).mono (fun _ h c => ⟨(h c).1.trans ?_, (h c).2⟩) (Cert.Reference6Ideal.Value.run (F := Ideal) m' ρ')
  obtain rfl : c = 0 := Subsingleton.elim _ _
  obtain ⟨e0, e1, e2, e3, e4⟩ := hagree 0
  rw [Cert.Reference6Ideal.Read.val_main_v32_eq]
  refine (congr (congr (congr (congr (congrArg (Cert.Reference6Ideal.Read.val_main_v32 (F := Ideal)) e0) e1) e2) e3) e4).trans ?_
  exact (Ref.ref_read _ _ _ _ _ hte).trans (outcome_eq m).symm

end Cert.Two

end
-- ==== Proof.lean ====
module

public import proofs.«01_k».proof.Defs
public import proofs.«01_k».proof.Proof.SwaClaim
public import proofs.«01_k».proof.Proof.MoeSame
public import proofs.«01_k».proof.Proof.MoeClaim
public import proofs.«01_k».proof.Proof.ProjClaim
public import proofs.«01_k».proof.Proof.DsaClaim
public import proofs.«01_k».proof.Proof.OutClaim
public import proofs.«01_k».proof.Proof.TwoSame
public import proofs.«01_k».proof.Proof.TwoClaim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Swa.preFacts, Cert.Moe.preFacts,
    Cert.Swa.frame_p, Cert.Swa.frame_pi, Cert.Swa.frame_pi_pre, Cert.Swa.frame_ri, Cert.Swa.frame_ri_pre,
    Cert.Moe.frame_p, Cert.Moe.frame_pi, Cert.Moe.frame_ri, Cert.Moe.frame_ri_pre,
    Cert.Proj.frame_p, Cert.Proj.frame_pi, Cert.Proj.frame_ri,
    Cert.Dsa.frame_p, Cert.Dsa.frame_pi, Cert.Dsa.frame_ri,
    Cert.Out.frame_p, Cert.Out.frame_pi, Cert.Out.frame_ri,
    Cert.Two.frame_p, Cert.Two.frame_pi, Cert.Two.frame_ri, Cert.Two.frame_ri_pre,
    trivial, Cert.Swa.algebraic, trivial, Cert.Moe.algebraic, trivial, Cert.Proj.algebraic, trivial, Cert.Dsa.algebraic, trivial, Cert.Out.algebraic, trivial, Cert.Two.algebraic⟩

end Cert.Proof

end
